-- ==== Defs.lean ====
def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_finite_scores [hPre_finite_scores : Cert.Pre_finite_scores.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_finite_scores.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_scores [hPre_finite_scores : Cert.Pre_finite_scores.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))) = (fun _ => 1#1)

def Pre_FfnInDx (m : (ℓ : Loc Cert.FfnInDx.nD Cert.FfnInDx.τ Cert.FfnInDx.sig) → Buf (Elt Bits) ℓ) : Prop :=
  True

def Pre_FfnInDxIdeal (m : (ℓ : Loc Cert.FfnInDxIdeal.nD Cert.FfnInDxIdeal.τ Cert.FfnInDxIdeal.sig) → Buf (Elt Ideal) ℓ) : Prop :=
  True

def Pre_FfnInDxRefIdeal (m : (ℓ : Loc Cert.FfnInDxRefIdeal.nD Cert.FfnInDxRefIdeal.τ Cert.FfnInDxRefIdeal.sig) → Buf (Elt Ideal) ℓ) : Prop :=
  True

def Pre_FfnInDw (m : (ℓ : Loc Cert.FfnInDw.nD Cert.FfnInDw.τ Cert.FfnInDw.sig) → Buf (Elt Bits) ℓ) : Prop :=
  True

def Pre_FfnInDwIdeal (m : (ℓ : Loc Cert.FfnInDwIdeal.nD Cert.FfnInDwIdeal.τ Cert.FfnInDwIdeal.sig) → Buf (Elt Ideal) ℓ) : Prop :=
  True

def Pre_FfnInDwRefIdeal (m : (ℓ : Loc Cert.FfnInDwRefIdeal.nD Cert.FfnInDwRefIdeal.τ Cert.FfnInDwRefIdeal.sig) → Buf (Elt Ideal) ℓ) : Prop :=
  True

def Pre_FfnOutDx (m : (ℓ : Loc Cert.FfnOutDx.nD Cert.FfnOutDx.τ Cert.FfnOutDx.sig) → Buf (Elt Bits) ℓ) : Prop :=
  True

def Pre_FfnOutDxIdeal (m : (ℓ : Loc Cert.FfnOutDxIdeal.nD Cert.FfnOutDxIdeal.τ Cert.FfnOutDxIdeal.sig) → Buf (Elt Ideal) ℓ) : Prop :=
  True

def Pre_FfnOutDxIdeal_finite_dact [hPre_finite_dact : Cert.Pre_finite_dact.Facts] (m : (ℓ : Loc Cert.FfnOutDxIdeal.nD Cert.FfnOutDxIdeal.τ Cert.FfnOutDxIdeal.sig) → Buf (Elt Ideal) ℓ) : Prop :=
  ∀ c : Dev Cert.FfnOutDxIdeal.nD,
    (Cert.Pre_finite_dact.fn (F := Ideal) (m ((c.tc : Thread Cert.FfnOutDxIdeal.nD Cert.FfnOutDxIdeal.τ).loc Cert.FfnOutDxIdeal.main_arg0)) (m ((c.tc : Thread Cert.FfnOutDxIdeal.nD Cert.FfnOutDxIdeal.τ).loc Cert.FfnOutDxIdeal.main_arg1)) (m ((c.tc : Thread Cert.FfnOutDxIdeal.nD Cert.FfnOutDxIdeal.τ).loc Cert.FfnOutDxIdeal.main_arg2))) = (fun _ => 1#1)

def Pre_FfnOutDxRefIdeal (m : (ℓ : Loc Cert.FfnOutDxRefIdeal.nD Cert.FfnOutDxRefIdeal.τ Cert.FfnOutDxRefIdeal.sig) → Buf (Elt Ideal) ℓ) : Prop :=
  True

def Pre_FfnOutDxRefIdeal_finite_dact [hPre_finite_dact : Cert.Pre_finite_dact.Facts] (m : (ℓ : Loc Cert.FfnOutDxRefIdeal.nD Cert.FfnOutDxRefIdeal.τ Cert.FfnOutDxRefIdeal.sig) → Buf (Elt Ideal) ℓ) : Prop :=
  ∀ c : Dev Cert.FfnOutDxRefIdeal.nD,
    (Cert.Pre_finite_dact.fn (F := Ideal) (m ((c.tc : Thread Cert.FfnOutDxRefIdeal.nD Cert.FfnOutDxRefIdeal.τ).loc Cert.FfnOutDxRefIdeal.main_arg0)) (m ((c.tc : Thread Cert.FfnOutDxRefIdeal.nD Cert.FfnOutDxRefIdeal.τ).loc Cert.FfnOutDxRefIdeal.main_arg1)) (m ((c.tc : Thread Cert.FfnOutDxRefIdeal.nD Cert.FfnOutDxRefIdeal.τ).loc Cert.FfnOutDxRefIdeal.main_arg2))) = (fun _ => 1#1)

def Pre_FfnOutDw (m : (ℓ : Loc Cert.FfnOutDw.nD Cert.FfnOutDw.τ Cert.FfnOutDw.sig) → Buf (Elt Bits) ℓ) : Prop :=
  True

def Pre_FfnOutDwIdeal (m : (ℓ : Loc Cert.FfnOutDwIdeal.nD Cert.FfnOutDwIdeal.τ Cert.FfnOutDwIdeal.sig) → Buf (Elt Ideal) ℓ) : Prop :=
  True

def Pre_FfnOutDwRefIdeal (m : (ℓ : Loc Cert.FfnOutDwRefIdeal.nD Cert.FfnOutDwRefIdeal.τ Cert.FfnOutDwRefIdeal.sig) → Buf (Elt Ideal) ℓ) : Prop :=
  True

def Pre_MixInDx (m : (ℓ : Loc Cert.MixInDx.nD Cert.MixInDx.τ Cert.MixInDx.sig) → Buf (Elt Bits) ℓ) : Prop :=
  True

def Pre_MixInDxIdeal (m : (ℓ : Loc Cert.MixInDxIdeal.nD Cert.MixInDxIdeal.τ Cert.MixInDxIdeal.sig) → Buf (Elt Ideal) ℓ) : Prop :=
  True

def Pre_MixInDxRefIdeal (m : (ℓ : Loc Cert.MixInDxRefIdeal.nD Cert.MixInDxRefIdeal.τ Cert.MixInDxRefIdeal.sig) → Buf (Elt Ideal) ℓ) : Prop :=
  True

def Pre_MixInDw (m : (ℓ : Loc Cert.MixInDw.nD Cert.MixInDw.τ Cert.MixInDw.sig) → Buf (Elt Bits) ℓ) : Prop :=
  True

def Pre_MixInDwIdeal (m : (ℓ : Loc Cert.MixInDwIdeal.nD Cert.MixInDwIdeal.τ Cert.MixInDwIdeal.sig) → Buf (Elt Ideal) ℓ) : Prop :=
  True

def Pre_MixInDwRefIdeal (m : (ℓ : Loc Cert.MixInDwRefIdeal.nD Cert.MixInDwRefIdeal.τ Cert.MixInDwRefIdeal.sig) → Buf (Elt Ideal) ℓ) : Prop :=
  True

def Pre_MixOutDx (m : (ℓ : Loc Cert.MixOutDx.nD Cert.MixOutDx.τ Cert.MixOutDx.sig) → Buf (Elt Bits) ℓ) : Prop :=
  True

def Pre_MixOutDxIdeal (m : (ℓ : Loc Cert.MixOutDxIdeal.nD Cert.MixOutDxIdeal.τ Cert.MixOutDxIdeal.sig) → Buf (Elt Ideal) ℓ) : Prop :=
  True

def Pre_MixOutDxRefIdeal (m : (ℓ : Loc Cert.MixOutDxRefIdeal.nD Cert.MixOutDxRefIdeal.τ Cert.MixOutDxRefIdeal.sig) → Buf (Elt Ideal) ℓ) : Prop :=
  True

def Pre_MixOutDw (m : (ℓ : Loc Cert.MixOutDw.nD Cert.MixOutDw.τ Cert.MixOutDw.sig) → Buf (Elt Bits) ℓ) : Prop :=
  True

def Pre_MixOutDwIdeal (m : (ℓ : Loc Cert.MixOutDwIdeal.nD Cert.MixOutDwIdeal.τ Cert.MixOutDwIdeal.sig) → Buf (Elt Ideal) ℓ) : Prop :=
  True

def Pre_MixOutDwRefIdeal (m : (ℓ : Loc Cert.MixOutDwRefIdeal.nD Cert.MixOutDwRefIdeal.τ Cert.MixOutDwRefIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInRefIdeal (m : (ℓ : Loc Cert.MixInRefIdeal.nD Cert.MixInRefIdeal.τ Cert.MixInRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_CtxFfnInDx (m : (ℓ : Loc Cert.CtxFfnInDx.nD Cert.CtxFfnInDx.τ Cert.CtxFfnInDx.sig) → Buf (Elt Bits) ℓ) : Prop :=
  True

def Pre_CtxFfnInDxIdeal (m : (ℓ : Loc Cert.CtxFfnInDxIdeal.nD Cert.CtxFfnInDxIdeal.τ Cert.CtxFfnInDxIdeal.sig) → Buf (Elt Ideal) ℓ) : Prop :=
  True

def Pre_CtxFfnInDxRefIdeal (m : (ℓ : Loc Cert.CtxFfnInDxRefIdeal.nD Cert.CtxFfnInDxRefIdeal.τ Cert.CtxFfnInDxRefIdeal.sig) → Buf (Elt Ideal) ℓ) : Prop :=
  True

def Pre_CtxFfnInDw (m : (ℓ : Loc Cert.CtxFfnInDw.nD Cert.CtxFfnInDw.τ Cert.CtxFfnInDw.sig) → Buf (Elt Bits) ℓ) : Prop :=
  True

def Pre_CtxFfnInDwIdeal (m : (ℓ : Loc Cert.CtxFfnInDwIdeal.nD Cert.CtxFfnInDwIdeal.τ Cert.CtxFfnInDwIdeal.sig) → Buf (Elt Ideal) ℓ) : Prop :=
  True

def Pre_CtxFfnInDwRefIdeal (m : (ℓ : Loc Cert.CtxFfnInDwRefIdeal.nD Cert.CtxFfnInDwRefIdeal.τ Cert.CtxFfnInDwRefIdeal.sig) → Buf (Elt Ideal) ℓ) : Prop :=
  True

def Pre_CtxFfnOutDx (m : (ℓ : Loc Cert.CtxFfnOutDx.nD Cert.CtxFfnOutDx.τ Cert.CtxFfnOutDx.sig) → Buf (Elt Bits) ℓ) : Prop :=
  True

def Pre_CtxFfnOutDxIdeal (m : (ℓ : Loc Cert.CtxFfnOutDxIdeal.nD Cert.CtxFfnOutDxIdeal.τ Cert.CtxFfnOutDxIdeal.sig) → Buf (Elt Ideal) ℓ) : Prop :=
  True

def Pre_CtxFfnOutDxIdeal_finite_dact_ctx [hPre_finite_dact_ctx : Cert.Pre_finite_dact_ctx.Facts] (m : (ℓ : Loc Cert.CtxFfnOutDxIdeal.nD Cert.CtxFfnOutDxIdeal.τ Cert.CtxFfnOutDxIdeal.sig) → Buf (Elt Ideal) ℓ) : Prop :=
  ∀ c : Dev Cert.CtxFfnOutDxIdeal.nD,
    (Cert.Pre_finite_dact_ctx.fn (F := Ideal) (m ((c.tc : Thread Cert.CtxFfnOutDxIdeal.nD Cert.CtxFfnOutDxIdeal.τ).loc Cert.CtxFfnOutDxIdeal.main_arg0)) (m ((c.tc : Thread Cert.CtxFfnOutDxIdeal.nD Cert.CtxFfnOutDxIdeal.τ).loc Cert.CtxFfnOutDxIdeal.main_arg1)) (m ((c.tc : Thread Cert.CtxFfnOutDxIdeal.nD Cert.CtxFfnOutDxIdeal.τ).loc Cert.CtxFfnOutDxIdeal.main_arg2))) = (fun _ => 1#1)

def Pre_CtxFfnOutDxRefIdeal (m : (ℓ : Loc Cert.CtxFfnOutDxRefIdeal.nD Cert.CtxFfnOutDxRefIdeal.τ Cert.CtxFfnOutDxRefIdeal.sig) → Buf (Elt Ideal) ℓ) : Prop :=
  True

def Pre_CtxFfnOutDxRefIdeal_finite_dact_ctx [hPre_finite_dact_ctx : Cert.Pre_finite_dact_ctx.Facts] (m : (ℓ : Loc Cert.CtxFfnOutDxRefIdeal.nD Cert.CtxFfnOutDxRefIdeal.τ Cert.CtxFfnOutDxRefIdeal.sig) → Buf (Elt Ideal) ℓ) : Prop :=
  ∀ c : Dev Cert.CtxFfnOutDxRefIdeal.nD,
    (Cert.Pre_finite_dact_ctx.fn (F := Ideal) (m ((c.tc : Thread Cert.CtxFfnOutDxRefIdeal.nD Cert.CtxFfnOutDxRefIdeal.τ).loc Cert.CtxFfnOutDxRefIdeal.main_arg0)) (m ((c.tc : Thread Cert.CtxFfnOutDxRefIdeal.nD Cert.CtxFfnOutDxRefIdeal.τ).loc Cert.CtxFfnOutDxRefIdeal.main_arg1)) (m ((c.tc : Thread Cert.CtxFfnOutDxRefIdeal.nD Cert.CtxFfnOutDxRefIdeal.τ).loc Cert.CtxFfnOutDxRefIdeal.main_arg2))) = (fun _ => 1#1)

def Pre_CtxFfnOutDw (m : (ℓ : Loc Cert.CtxFfnOutDw.nD Cert.CtxFfnOutDw.τ Cert.CtxFfnOutDw.sig) → Buf (Elt Bits) ℓ) : Prop :=
  True

def Pre_CtxFfnOutDwIdeal (m : (ℓ : Loc Cert.CtxFfnOutDwIdeal.nD Cert.CtxFfnOutDwIdeal.τ Cert.CtxFfnOutDwIdeal.sig) → Buf (Elt Ideal) ℓ) : Prop :=
  True

def Pre_CtxFfnOutDwRefIdeal (m : (ℓ : Loc Cert.CtxFfnOutDwRefIdeal.nD Cert.CtxFfnOutDwRefIdeal.τ Cert.CtxFfnOutDwRefIdeal.sig) → Buf (Elt Ideal) ℓ) : Prop :=
  True

def Pre_CtxMixInDx (m : (ℓ : Loc Cert.CtxMixInDx.nD Cert.CtxMixInDx.τ Cert.CtxMixInDx.sig) → Buf (Elt Bits) ℓ) : Prop :=
  True

def Pre_CtxMixInDxIdeal (m : (ℓ : Loc Cert.CtxMixInDxIdeal.nD Cert.CtxMixInDxIdeal.τ Cert.CtxMixInDxIdeal.sig) → Buf (Elt Ideal) ℓ) : Prop :=
  True

def Pre_CtxMixInDxRefIdeal (m : (ℓ : Loc Cert.CtxMixInDxRefIdeal.nD Cert.CtxMixInDxRefIdeal.τ Cert.CtxMixInDxRefIdeal.sig) → Buf (Elt Ideal) ℓ) : Prop :=
  True

def Pre_CtxMixInDw (m : (ℓ : Loc Cert.CtxMixInDw.nD Cert.CtxMixInDw.τ Cert.CtxMixInDw.sig) → Buf (Elt Bits) ℓ) : Prop :=
  True

def Pre_CtxMixInDwIdeal (m : (ℓ : Loc Cert.CtxMixInDwIdeal.nD Cert.CtxMixInDwIdeal.τ Cert.CtxMixInDwIdeal.sig) → Buf (Elt Ideal) ℓ) : Prop :=
  True

def Pre_CtxMixInDwRefIdeal (m : (ℓ : Loc Cert.CtxMixInDwRefIdeal.nD Cert.CtxMixInDwRefIdeal.τ Cert.CtxMixInDwRefIdeal.sig) → Buf (Elt Ideal) ℓ) : Prop :=
  True

def Pre_CtxMixOutDx (m : (ℓ : Loc Cert.CtxMixOutDx.nD Cert.CtxMixOutDx.τ Cert.CtxMixOutDx.sig) → Buf (Elt Bits) ℓ) : Prop :=
  True

def Pre_CtxMixOutDxIdeal (m : (ℓ : Loc Cert.CtxMixOutDxIdeal.nD Cert.CtxMixOutDxIdeal.τ Cert.CtxMixOutDxIdeal.sig) → Buf (Elt Ideal) ℓ) : Prop :=
  True

def Pre_CtxMixOutDxRefIdeal (m : (ℓ : Loc Cert.CtxMixOutDxRefIdeal.nD Cert.CtxMixOutDxRefIdeal.τ Cert.CtxMixOutDxRefIdeal.sig) → Buf (Elt Ideal) ℓ) : Prop :=
  True

def Pre_CtxMixOutDw (m : (ℓ : Loc Cert.CtxMixOutDw.nD Cert.CtxMixOutDw.τ Cert.CtxMixOutDw.sig) → Buf (Elt Bits) ℓ) : Prop :=
  True

def Pre_CtxMixOutDwIdeal (m : (ℓ : Loc Cert.CtxMixOutDwIdeal.nD Cert.CtxMixOutDwIdeal.τ Cert.CtxMixOutDwIdeal.sig) → Buf (Elt Ideal) ℓ) : Prop :=
  True

def Pre_CtxMixOutDwRefIdeal (m : (ℓ : Loc Cert.CtxMixOutDwRefIdeal.nD Cert.CtxMixOutDwRefIdeal.τ Cert.CtxMixOutDwRefIdeal.sig) → Buf (Elt Ideal) ℓ) : Prop :=
  True

def Pre_CtxKvDx (m : (ℓ : Loc Cert.CtxKvDx.nD Cert.CtxKvDx.τ Cert.CtxKvDx.sig) → Buf (Elt Bits) ℓ) : Prop :=
  True

def Pre_CtxKvDxIdeal (m : (ℓ : Loc Cert.CtxKvDxIdeal.nD Cert.CtxKvDxIdeal.τ Cert.CtxKvDxIdeal.sig) → Buf (Elt Ideal) ℓ) : Prop :=
  True

def Pre_CtxKvDxRefIdeal (m : (ℓ : Loc Cert.CtxKvDxRefIdeal.nD Cert.CtxKvDxRefIdeal.τ Cert.CtxKvDxRefIdeal.sig) → Buf (Elt Ideal) ℓ) : Prop :=
  True

def Pre_CtxKvDw (m : (ℓ : Loc Cert.CtxKvDw.nD Cert.CtxKvDw.τ Cert.CtxKvDw.sig) → Buf (Elt Bits) ℓ) : Prop :=
  True

def Pre_CtxKvDwIdeal (m : (ℓ : Loc Cert.CtxKvDwIdeal.nD Cert.CtxKvDwIdeal.τ Cert.CtxKvDwIdeal.sig) → Buf (Elt Ideal) ℓ) : Prop :=
  True

def Pre_CtxKvDwRefIdeal (m : (ℓ : Loc Cert.CtxKvDwRefIdeal.nD Cert.CtxKvDwRefIdeal.τ Cert.CtxKvDwRefIdeal.sig) → Buf (Elt Ideal) ℓ) : Prop :=
  True

def Pre_CtxFfnIn (m : (ℓ : Loc Cert.CtxFfnIn.nD Cert.CtxFfnIn.τ Cert.CtxFfnIn.sig) → Buf (Elt Bits) ℓ) : Prop :=
  True

def Pre_CtxFfnInIdeal (m : (ℓ : Loc Cert.CtxFfnInIdeal.nD Cert.CtxFfnInIdeal.τ Cert.CtxFfnInIdeal.sig) → Buf (Elt Ideal) ℓ) : Prop :=
  True

def Pre_CtxFfnInRefIdeal (m : (ℓ : Loc Cert.CtxFfnInRefIdeal.nD Cert.CtxFfnInRefIdeal.τ Cert.CtxFfnInRefIdeal.sig) → Buf (Elt Ideal) ℓ) : Prop :=
  True

def Pre_CtxFfnOut (m : (ℓ : Loc Cert.CtxFfnOut.nD Cert.CtxFfnOut.τ Cert.CtxFfnOut.sig) → Buf (Elt Bits) ℓ) : Prop :=
  True

def Pre_CtxFfnOutIdeal (m : (ℓ : Loc Cert.CtxFfnOutIdeal.nD Cert.CtxFfnOutIdeal.τ Cert.CtxFfnOutIdeal.sig) → Buf (Elt Ideal) ℓ) : Prop :=
  True

def Pre_CtxFfnOutRefIdeal (m : (ℓ : Loc Cert.CtxFfnOutRefIdeal.nD Cert.CtxFfnOutRefIdeal.τ Cert.CtxFfnOutRefIdeal.sig) → Buf (Elt Ideal) ℓ) : Prop :=
  True

def Pre_CtxMixIn (m : (ℓ : Loc Cert.CtxMixIn.nD Cert.CtxMixIn.τ Cert.CtxMixIn.sig) → Buf (Elt Bits) ℓ) : Prop :=
  True

def Pre_CtxMixInIdeal (m : (ℓ : Loc Cert.CtxMixInIdeal.nD Cert.CtxMixInIdeal.τ Cert.CtxMixInIdeal.sig) → Buf (Elt Ideal) ℓ) : Prop :=
  True

def Pre_CtxMixInRefIdeal (m : (ℓ : Loc Cert.CtxMixInRefIdeal.nD Cert.CtxMixInRefIdeal.τ Cert.CtxMixInRefIdeal.sig) → Buf (Elt Ideal) ℓ) : Prop :=
  True

def Pre_CtxMixOut (m : (ℓ : Loc Cert.CtxMixOut.nD Cert.CtxMixOut.τ Cert.CtxMixOut.sig) → Buf (Elt Bits) ℓ) : Prop :=
  True

def Pre_CtxMixOutIdeal (m : (ℓ : Loc Cert.CtxMixOutIdeal.nD Cert.CtxMixOutIdeal.τ Cert.CtxMixOutIdeal.sig) → Buf (Elt Ideal) ℓ) : Prop :=
  True

def Pre_CtxMixOutRefIdeal (m : (ℓ : Loc Cert.CtxMixOutRefIdeal.nD Cert.CtxMixOutRefIdeal.τ Cert.CtxMixOutRefIdeal.sig) → Buf (Elt Ideal) ℓ) : Prop :=
  True

def Pre_CtxKv (m : (ℓ : Loc Cert.CtxKv.nD Cert.CtxKv.τ Cert.CtxKv.sig) → Buf (Elt Bits) ℓ) : Prop :=
  True

def Pre_CtxKvIdeal (m : (ℓ : Loc Cert.CtxKvIdeal.nD Cert.CtxKvIdeal.τ Cert.CtxKvIdeal.sig) → Buf (Elt Ideal) ℓ) : Prop :=
  True

def Pre_CtxKvRefIdeal (m : (ℓ : Loc Cert.CtxKvRefIdeal.nD Cert.CtxKvRefIdeal.τ Cert.CtxKvRefIdeal.sig) → Buf (Elt Ideal) ℓ) : Prop :=
  True

def Pre_Interleave (m : (ℓ : Loc Cert.Interleave.nD Cert.Interleave.τ Cert.Interleave.sig) → Buf (Elt Bits) ℓ) : Prop :=
  True

def Pre_InterleaveIdeal (m : (ℓ : Loc Cert.InterleaveIdeal.nD Cert.InterleaveIdeal.τ Cert.InterleaveIdeal.sig) → Buf (Elt Ideal) ℓ) : Prop :=
  True

def Pre_InterleaveRefIdeal (m : (ℓ : Loc Cert.InterleaveRefIdeal.nD Cert.InterleaveRefIdeal.τ Cert.InterleaveRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_CtxNormBwd (m : (ℓ : Loc Cert.CtxNormBwd.nD Cert.CtxNormBwd.τ Cert.CtxNormBwd.sig) → Buf (Elt Bits) ℓ) : Prop :=
  True

def Pre_CtxNormBwdIdeal (m : (ℓ : Loc Cert.CtxNormBwdIdeal.nD Cert.CtxNormBwdIdeal.τ Cert.CtxNormBwdIdeal.sig) → Buf (Elt Ideal) ℓ) : Prop :=
  True

def Pre_CtxNormBwdRefIdeal (m : (ℓ : Loc Cert.CtxNormBwdRefIdeal.nD Cert.CtxNormBwdRefIdeal.τ Cert.CtxNormBwdRefIdeal.sig) → Buf (Elt Ideal) ℓ) : Prop :=
  True

def Pre_NormFirstBwd (m : (ℓ : Loc Cert.NormFirstBwd.nD Cert.NormFirstBwd.τ Cert.NormFirstBwd.sig) → Buf (Elt Bits) ℓ) : Prop :=
  True

def Pre_NormFirstBwdIdeal (m : (ℓ : Loc Cert.NormFirstBwdIdeal.nD Cert.NormFirstBwdIdeal.τ Cert.NormFirstBwdIdeal.sig) → Buf (Elt Ideal) ℓ) : Prop :=
  True

def Pre_NormFirstBwdRefIdeal (m : (ℓ : Loc Cert.NormFirstBwdRefIdeal.nD Cert.NormFirstBwdRefIdeal.τ Cert.NormFirstBwdRefIdeal.sig) → Buf (Elt Ideal) ℓ) : Prop :=
  True

def Pre_CtxNormFirstBwd (m : (ℓ : Loc Cert.CtxNormFirstBwd.nD Cert.CtxNormFirstBwd.τ Cert.CtxNormFirstBwd.sig) → Buf (Elt Bits) ℓ) : Prop :=
  True

def Pre_CtxNormFirstBwdIdeal (m : (ℓ : Loc Cert.CtxNormFirstBwdIdeal.nD Cert.CtxNormFirstBwdIdeal.τ Cert.CtxNormFirstBwdIdeal.sig) → Buf (Elt Ideal) ℓ) : Prop :=
  True

def Pre_CtxNormFirstBwdRefIdeal (m : (ℓ : Loc Cert.CtxNormFirstBwdRefIdeal.nD Cert.CtxNormFirstBwdRefIdeal.τ Cert.CtxNormFirstBwdRefIdeal.sig) → Buf (Elt Ideal) ℓ) : Prop :=
  True

def Pre_ModBwd (m : (ℓ : Loc Cert.ModBwd.nD Cert.ModBwd.τ Cert.ModBwd.sig) → Buf (Elt Bits) ℓ) : Prop :=
  True

def Pre_ModBwdIdeal (m : (ℓ : Loc Cert.ModBwdIdeal.nD Cert.ModBwdIdeal.τ Cert.ModBwdIdeal.sig) → Buf (Elt Ideal) ℓ) : Prop :=
  True

def Pre_ModBwdRefIdeal (m : (ℓ : Loc Cert.ModBwdRefIdeal.nD Cert.ModBwdRefIdeal.τ Cert.ModBwdRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_CtxNorm (m : (ℓ : Loc Cert.CtxNorm.nD Cert.CtxNorm.τ Cert.CtxNorm.sig) → Buf (Elt Bits) ℓ) : Prop :=
  True

def Pre_CtxNormIdeal (m : (ℓ : Loc Cert.CtxNormIdeal.nD Cert.CtxNormIdeal.τ Cert.CtxNormIdeal.sig) → Buf (Elt Ideal) ℓ) : Prop :=
  True

def Pre_CtxNormRefIdeal (m : (ℓ : Loc Cert.CtxNormRefIdeal.nD Cert.CtxNormRefIdeal.τ Cert.CtxNormRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_AdamMod (m : (ℓ : Loc Cert.AdamMod.nD Cert.AdamMod.τ Cert.AdamMod.sig) → Buf (Elt Bits) ℓ) : Prop :=
  True

def Pre_AdamModIdeal (m : (ℓ : Loc Cert.AdamModIdeal.nD Cert.AdamModIdeal.τ Cert.AdamModIdeal.sig) → Buf (Elt Ideal) ℓ) : Prop :=
  True

def Pre_AdamModRefIdeal (m : (ℓ : Loc Cert.AdamModRefIdeal.nD Cert.AdamModRefIdeal.τ Cert.AdamModRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamFfnOut (m : (ℓ : Loc Cert.AdamFfnOut.nD Cert.AdamFfnOut.τ Cert.AdamFfnOut.sig) → Buf (Elt Bits) ℓ) : Prop :=
  True

def Pre_AdamFfnOutIdeal (m : (ℓ : Loc Cert.AdamFfnOutIdeal.nD Cert.AdamFfnOutIdeal.τ Cert.AdamFfnOutIdeal.sig) → Buf (Elt Ideal) ℓ) : Prop :=
  True

def Pre_AdamFfnOutRefIdeal (m : (ℓ : Loc Cert.AdamFfnOutRefIdeal.nD Cert.AdamFfnOutRefIdeal.τ Cert.AdamFfnOutRefIdeal.sig) → Buf (Elt Ideal) ℓ) : Prop :=
  True

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2))
      ∧ r.2.sem = fun _ => 0)

def quiescent_AttnBwdIdeal_pre_finite_scores [hAttnBwdIdeal : Cert.AttnBwdIdeal.Facts] [hPre_finite_scores : Cert.Pre_finite_scores.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_finite_scores m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite_scores [hAttnRefIdeal : Cert.AttnRefIdeal.Facts] [hPre_finite_scores : Cert.Pre_finite_scores.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_scores m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_FfnInDx [hFfnInDx : Cert.FfnInDx.Facts] : Prop :=
  ∀ (m : (ℓ : Loc Cert.FfnInDx.nD Cert.FfnInDx.τ Cert.FfnInDx.sig) → Buf (Elt Bits) ℓ) (g : Dev Cert.FfnInDx.nD → PrngReg), Pre_FfnInDx m →
    θ_run (Cert.FfnInDx.defs (F := Bits)) (onTc (τ := Cert.FfnInDx.τ) (Cert.FfnInDx.main (F := Bits))) ⟨m, fun _ => 0, g⟩ (fun r => (∀ c : Dev Cert.FfnInDx.nD,
      r.2.mem ((c.tc : Thread Cert.FfnInDx.nD Cert.FfnInDx.τ).loc Cert.FfnInDx.main_arg0) = m ((c.tc : Thread Cert.FfnInDx.nD Cert.FfnInDx.τ).loc Cert.FfnInDx.main_arg0)
      ∧ r.2.mem ((c.tc : Thread Cert.FfnInDx.nD Cert.FfnInDx.τ).loc Cert.FfnInDx.main_arg1) = m ((c.tc : Thread Cert.FfnInDx.nD Cert.FfnInDx.τ).loc Cert.FfnInDx.main_arg1))
      ∧ r.2.sem = fun _ => 0)

def quiescent_FfnInDxIdeal [hFfnInDxIdeal : Cert.FfnInDxIdeal.Facts] : Prop :=
  ∀ (m : (ℓ : Loc Cert.FfnInDxIdeal.nD Cert.FfnInDxIdeal.τ Cert.FfnInDxIdeal.sig) → Buf (Elt Ideal) ℓ) (g : Dev Cert.FfnInDxIdeal.nD → PrngReg), Pre_FfnInDxIdeal m →
    θ_run (Cert.FfnInDxIdeal.defs (F := Ideal)) (onTc (τ := Cert.FfnInDxIdeal.τ) (Cert.FfnInDxIdeal.main (F := Ideal))) ⟨m, fun _ => 0, g⟩ (fun r => (∀ c : Dev Cert.FfnInDxIdeal.nD,
      r.2.mem ((c.tc : Thread Cert.FfnInDxIdeal.nD Cert.FfnInDxIdeal.τ).loc Cert.FfnInDxIdeal.main_arg0) = m ((c.tc : Thread Cert.FfnInDxIdeal.nD Cert.FfnInDxIdeal.τ).loc Cert.FfnInDxIdeal.main_arg0)
      ∧ r.2.mem ((c.tc : Thread Cert.FfnInDxIdeal.nD Cert.FfnInDxIdeal.τ).loc Cert.FfnInDxIdeal.main_arg1) = m ((c.tc : Thread Cert.FfnInDxIdeal.nD Cert.FfnInDxIdeal.τ).loc Cert.FfnInDxIdeal.main_arg1))
      ∧ r.2.sem = fun _ => 0)

def quiescent_FfnInDxRefIdeal [hFfnInDxRefIdeal : Cert.FfnInDxRefIdeal.Facts] : Prop :=
  ∀ (m : (ℓ : Loc Cert.FfnInDxRefIdeal.nD Cert.FfnInDxRefIdeal.τ Cert.FfnInDxRefIdeal.sig) → Buf (Elt Ideal) ℓ) (g : Dev Cert.FfnInDxRefIdeal.nD → PrngReg), Pre_FfnInDxRefIdeal m →
    θ_run (Cert.FfnInDxRefIdeal.defs (F := Ideal)) (onTc (τ := Cert.FfnInDxRefIdeal.τ) (Cert.FfnInDxRefIdeal.main (F := Ideal))) ⟨m, fun _ => 0, g⟩ (fun r => (∀ c : Dev Cert.FfnInDxRefIdeal.nD,
      r.2.mem ((c.tc : Thread Cert.FfnInDxRefIdeal.nD Cert.FfnInDxRefIdeal.τ).loc Cert.FfnInDxRefIdeal.main_arg0) = m ((c.tc : Thread Cert.FfnInDxRefIdeal.nD Cert.FfnInDxRefIdeal.τ).loc Cert.FfnInDxRefIdeal.main_arg0)
      ∧ r.2.mem ((c.tc : Thread Cert.FfnInDxRefIdeal.nD Cert.FfnInDxRefIdeal.τ).loc Cert.FfnInDxRefIdeal.main_arg1) = m ((c.tc : Thread Cert.FfnInDxRefIdeal.nD Cert.FfnInDxRefIdeal.τ).loc Cert.FfnInDxRefIdeal.main_arg1))
      ∧ r.2.sem = fun _ => 0)

def quiescent_FfnInDw [hFfnInDw : Cert.FfnInDw.Facts] : Prop :=
  ∀ (m : (ℓ : Loc Cert.FfnInDw.nD Cert.FfnInDw.τ Cert.FfnInDw.sig) → Buf (Elt Bits) ℓ) (g : Dev Cert.FfnInDw.nD → PrngReg), Pre_FfnInDw m →
    θ_run (Cert.FfnInDw.defs (F := Bits)) (onTc (τ := Cert.FfnInDw.τ) (Cert.FfnInDw.main (F := Bits))) ⟨m, fun _ => 0, g⟩ (fun r => (∀ c : Dev Cert.FfnInDw.nD,
      r.2.mem ((c.tc : Thread Cert.FfnInDw.nD Cert.FfnInDw.τ).loc Cert.FfnInDw.main_arg0) = m ((c.tc : Thread Cert.FfnInDw.nD Cert.FfnInDw.τ).loc Cert.FfnInDw.main_arg0)
      ∧ r.2.mem ((c.tc : Thread Cert.FfnInDw.nD Cert.FfnInDw.τ).loc Cert.FfnInDw.main_arg1) = m ((c.tc : Thread Cert.FfnInDw.nD Cert.FfnInDw.τ).loc Cert.FfnInDw.main_arg1))
      ∧ r.2.sem = fun _ => 0)

def quiescent_FfnInDwIdeal [hFfnInDwIdeal : Cert.FfnInDwIdeal.Facts] : Prop :=
  ∀ (m : (ℓ : Loc Cert.FfnInDwIdeal.nD Cert.FfnInDwIdeal.τ Cert.FfnInDwIdeal.sig) → Buf (Elt Ideal) ℓ) (g : Dev Cert.FfnInDwIdeal.nD → PrngReg), Pre_FfnInDwIdeal m →
    θ_run (Cert.FfnInDwIdeal.defs (F := Ideal)) (onTc (τ := Cert.FfnInDwIdeal.τ) (Cert.FfnInDwIdeal.main (F := Ideal))) ⟨m, fun _ => 0, g⟩ (fun r => (∀ c : Dev Cert.FfnInDwIdeal.nD,
      r.2.mem ((c.tc : Thread Cert.FfnInDwIdeal.nD Cert.FfnInDwIdeal.τ).loc Cert.FfnInDwIdeal.main_arg0) = m ((c.tc : Thread Cert.FfnInDwIdeal.nD Cert.FfnInDwIdeal.τ).loc Cert.FfnInDwIdeal.main_arg0)
      ∧ r.2.mem ((c.tc : Thread Cert.FfnInDwIdeal.nD Cert.FfnInDwIdeal.τ).loc Cert.FfnInDwIdeal.main_arg1) = m ((c.tc : Thread Cert.FfnInDwIdeal.nD Cert.FfnInDwIdeal.τ).loc Cert.FfnInDwIdeal.main_arg1))
      ∧ r.2.sem = fun _ => 0)

def quiescent_FfnInDwRefIdeal [hFfnInDwRefIdeal : Cert.FfnInDwRefIdeal.Facts] : Prop :=
  ∀ (m : (ℓ : Loc Cert.FfnInDwRefIdeal.nD Cert.FfnInDwRefIdeal.τ Cert.FfnInDwRefIdeal.sig) → Buf (Elt Ideal) ℓ) (g : Dev Cert.FfnInDwRefIdeal.nD → PrngReg), Pre_FfnInDwRefIdeal m →
    θ_run (Cert.FfnInDwRefIdeal.defs (F := Ideal)) (onTc (τ := Cert.FfnInDwRefIdeal.τ) (Cert.FfnInDwRefIdeal.main (F := Ideal))) ⟨m, fun _ => 0, g⟩ (fun r => (∀ c : Dev Cert.FfnInDwRefIdeal.nD,
      r.2.mem ((c.tc : Thread Cert.FfnInDwRefIdeal.nD Cert.FfnInDwRefIdeal.τ).loc Cert.FfnInDwRefIdeal.main_arg0) = m ((c.tc : Thread Cert.FfnInDwRefIdeal.nD Cert.FfnInDwRefIdeal.τ).loc Cert.FfnInDwRefIdeal.main_arg0)
      ∧ r.2.mem ((c.tc : Thread Cert.FfnInDwRefIdeal.nD Cert.FfnInDwRefIdeal.τ).loc Cert.FfnInDwRefIdeal.main_arg1) = m ((c.tc : Thread Cert.FfnInDwRefIdeal.nD Cert.FfnInDwRefIdeal.τ).loc Cert.FfnInDwRefIdeal.main_arg1))
      ∧ r.2.sem = fun _ => 0)

def quiescent_FfnOutDx [hFfnOutDx : Cert.FfnOutDx.Facts] : Prop :=
  ∀ (m : (ℓ : Loc Cert.FfnOutDx.nD Cert.FfnOutDx.τ Cert.FfnOutDx.sig) → Buf (Elt Bits) ℓ) (g : Dev Cert.FfnOutDx.nD → PrngReg), Pre_FfnOutDx m →
    θ_run (Cert.FfnOutDx.defs (F := Bits)) (onTc (τ := Cert.FfnOutDx.τ) (Cert.FfnOutDx.main (F := Bits))) ⟨m, fun _ => 0, g⟩ (fun r => (∀ c : Dev Cert.FfnOutDx.nD,
      r.2.mem ((c.tc : Thread Cert.FfnOutDx.nD Cert.FfnOutDx.τ).loc Cert.FfnOutDx.main_arg0) = m ((c.tc : Thread Cert.FfnOutDx.nD Cert.FfnOutDx.τ).loc Cert.FfnOutDx.main_arg0)
      ∧ r.2.mem ((c.tc : Thread Cert.FfnOutDx.nD Cert.FfnOutDx.τ).loc Cert.FfnOutDx.main_arg1) = m ((c.tc : Thread Cert.FfnOutDx.nD Cert.FfnOutDx.τ).loc Cert.FfnOutDx.main_arg1)
      ∧ r.2.mem ((c.tc : Thread Cert.FfnOutDx.nD Cert.FfnOutDx.τ).loc Cert.FfnOutDx.main_arg2) = m ((c.tc : Thread Cert.FfnOutDx.nD Cert.FfnOutDx.τ).loc Cert.FfnOutDx.main_arg2))
      ∧ r.2.sem = fun _ => 0)

def quiescent_FfnOutDxIdeal [hFfnOutDxIdeal : Cert.FfnOutDxIdeal.Facts] : Prop :=
  ∀ (m : (ℓ : Loc Cert.FfnOutDxIdeal.nD Cert.FfnOutDxIdeal.τ Cert.FfnOutDxIdeal.sig) → Buf (Elt Ideal) ℓ) (g : Dev Cert.FfnOutDxIdeal.nD → PrngReg), Pre_FfnOutDxIdeal m →
    θ_run (Cert.FfnOutDxIdeal.defs (F := Ideal)) (onTc (τ := Cert.FfnOutDxIdeal.τ) (Cert.FfnOutDxIdeal.main (F := Ideal))) ⟨m, fun _ => 0, g⟩ (fun r => (∀ c : Dev Cert.FfnOutDxIdeal.nD,
      r.2.mem ((c.tc : Thread Cert.FfnOutDxIdeal.nD Cert.FfnOutDxIdeal.τ).loc Cert.FfnOutDxIdeal.main_arg0) = m ((c.tc : Thread Cert.FfnOutDxIdeal.nD Cert.FfnOutDxIdeal.τ).loc Cert.FfnOutDxIdeal.main_arg0)
      ∧ r.2.mem ((c.tc : Thread Cert.FfnOutDxIdeal.nD Cert.FfnOutDxIdeal.τ).loc Cert.FfnOutDxIdeal.main_arg1) = m ((c.tc : Thread Cert.FfnOutDxIdeal.nD Cert.FfnOutDxIdeal.τ).loc Cert.FfnOutDxIdeal.main_arg1)
      ∧ r.2.mem ((c.tc : Thread Cert.FfnOutDxIdeal.nD Cert.FfnOutDxIdeal.τ).loc Cert.FfnOutDxIdeal.main_arg2) = m ((c.tc : Thread Cert.FfnOutDxIdeal.nD Cert.FfnOutDxIdeal.τ).loc Cert.FfnOutDxIdeal.main_arg2))
      ∧ r.2.sem = fun _ => 0)

def quiescent_FfnOutDxIdeal_pre_finite_dact [hFfnOutDxIdeal : Cert.FfnOutDxIdeal.Facts] [hPre_finite_dact : Cert.Pre_finite_dact.Facts] : Prop :=
  ∀ (m : (ℓ : Loc Cert.FfnOutDxIdeal.nD Cert.FfnOutDxIdeal.τ Cert.FfnOutDxIdeal.sig) → Buf (Elt Ideal) ℓ) (g : Dev Cert.FfnOutDxIdeal.nD → PrngReg), Pre_FfnOutDxIdeal_finite_dact m →
    θ_run (Cert.FfnOutDxIdeal.defs (F := Ideal)) (onTc (τ := Cert.FfnOutDxIdeal.τ) (Cert.FfnOutDxIdeal.main (F := Ideal))) ⟨m, fun _ => 0, g⟩ (fun r => (∀ c : Dev Cert.FfnOutDxIdeal.nD,
      r.2.mem ((c.tc : Thread Cert.FfnOutDxIdeal.nD Cert.FfnOutDxIdeal.τ).loc Cert.FfnOutDxIdeal.main_arg0) = m ((c.tc : Thread Cert.FfnOutDxIdeal.nD Cert.FfnOutDxIdeal.τ).loc Cert.FfnOutDxIdeal.main_arg0)
      ∧ r.2.mem ((c.tc : Thread Cert.FfnOutDxIdeal.nD Cert.FfnOutDxIdeal.τ).loc Cert.FfnOutDxIdeal.main_arg1) = m ((c.tc : Thread Cert.FfnOutDxIdeal.nD Cert.FfnOutDxIdeal.τ).loc Cert.FfnOutDxIdeal.main_arg1)
      ∧ r.2.mem ((c.tc : Thread Cert.FfnOutDxIdeal.nD Cert.FfnOutDxIdeal.τ).loc Cert.FfnOutDxIdeal.main_arg2) = m ((c.tc : Thread Cert.FfnOutDxIdeal.nD Cert.FfnOutDxIdeal.τ).loc Cert.FfnOutDxIdeal.main_arg2))
      ∧ r.2.sem = fun _ => 0)

def quiescent_FfnOutDxRefIdeal [hFfnOutDxRefIdeal : Cert.FfnOutDxRefIdeal.Facts] : Prop :=
  ∀ (m : (ℓ : Loc Cert.FfnOutDxRefIdeal.nD Cert.FfnOutDxRefIdeal.τ Cert.FfnOutDxRefIdeal.sig) → Buf (Elt Ideal) ℓ) (g : Dev Cert.FfnOutDxRefIdeal.nD → PrngReg), Pre_FfnOutDxRefIdeal m →
    θ_run (Cert.FfnOutDxRefIdeal.defs (F := Ideal)) (onTc (τ := Cert.FfnOutDxRefIdeal.τ) (Cert.FfnOutDxRefIdeal.main (F := Ideal))) ⟨m, fun _ => 0, g⟩ (fun r => (∀ c : Dev Cert.FfnOutDxRefIdeal.nD,
      r.2.mem ((c.tc : Thread Cert.FfnOutDxRefIdeal.nD Cert.FfnOutDxRefIdeal.τ).loc Cert.FfnOutDxRefIdeal.main_arg0) = m ((c.tc : Thread Cert.FfnOutDxRefIdeal.nD Cert.FfnOutDxRefIdeal.τ).loc Cert.FfnOutDxRefIdeal.main_arg0)
      ∧ r.2.mem ((c.tc : Thread Cert.FfnOutDxRefIdeal.nD Cert.FfnOutDxRefIdeal.τ).loc Cert.FfnOutDxRefIdeal.main_arg1) = m ((c.tc : Thread Cert.FfnOutDxRefIdeal.nD Cert.FfnOutDxRefIdeal.τ).loc Cert.FfnOutDxRefIdeal.main_arg1)
      ∧ r.2.mem ((c.tc : Thread Cert.FfnOutDxRefIdeal.nD Cert.FfnOutDxRefIdeal.τ).loc Cert.FfnOutDxRefIdeal.main_arg2) = m ((c.tc : Thread Cert.FfnOutDxRefIdeal.nD Cert.FfnOutDxRefIdeal.τ).loc Cert.FfnOutDxRefIdeal.main_arg2))
      ∧ r.2.sem = fun _ => 0)

def quiescent_FfnOutDxRefIdeal_pre_finite_dact [hFfnOutDxRefIdeal : Cert.FfnOutDxRefIdeal.Facts] [hPre_finite_dact : Cert.Pre_finite_dact.Facts] : Prop :=
  ∀ (m : (ℓ : Loc Cert.FfnOutDxRefIdeal.nD Cert.FfnOutDxRefIdeal.τ Cert.FfnOutDxRefIdeal.sig) → Buf (Elt Ideal) ℓ) (g : Dev Cert.FfnOutDxRefIdeal.nD → PrngReg), Pre_FfnOutDxRefIdeal_finite_dact m →
    θ_run (Cert.FfnOutDxRefIdeal.defs (F := Ideal)) (onTc (τ := Cert.FfnOutDxRefIdeal.τ) (Cert.FfnOutDxRefIdeal.main (F := Ideal))) ⟨m, fun _ => 0, g⟩ (fun r => (∀ c : Dev Cert.FfnOutDxRefIdeal.nD,
      r.2.mem ((c.tc : Thread Cert.FfnOutDxRefIdeal.nD Cert.FfnOutDxRefIdeal.τ).loc Cert.FfnOutDxRefIdeal.main_arg0) = m ((c.tc : Thread Cert.FfnOutDxRefIdeal.nD Cert.FfnOutDxRefIdeal.τ).loc Cert.FfnOutDxRefIdeal.main_arg0)
      ∧ r.2.mem ((c.tc : Thread Cert.FfnOutDxRefIdeal.nD Cert.FfnOutDxRefIdeal.τ).loc Cert.FfnOutDxRefIdeal.main_arg1) = m ((c.tc : Thread Cert.FfnOutDxRefIdeal.nD Cert.FfnOutDxRefIdeal.τ).loc Cert.FfnOutDxRefIdeal.main_arg1)
      ∧ r.2.mem ((c.tc : Thread Cert.FfnOutDxRefIdeal.nD Cert.FfnOutDxRefIdeal.τ).loc Cert.FfnOutDxRefIdeal.main_arg2) = m ((c.tc : Thread Cert.FfnOutDxRefIdeal.nD Cert.FfnOutDxRefIdeal.τ).loc Cert.FfnOutDxRefIdeal.main_arg2))
      ∧ r.2.sem = fun _ => 0)

def quiescent_FfnOutDw [hFfnOutDw : Cert.FfnOutDw.Facts] : Prop :=
  ∀ (m : (ℓ : Loc Cert.FfnOutDw.nD Cert.FfnOutDw.τ Cert.FfnOutDw.sig) → Buf (Elt Bits) ℓ) (g : Dev Cert.FfnOutDw.nD → PrngReg), Pre_FfnOutDw m →
    θ_run (Cert.FfnOutDw.defs (F := Bits)) (onTc (τ := Cert.FfnOutDw.τ) (Cert.FfnOutDw.main (F := Bits))) ⟨m, fun _ => 0, g⟩ (fun r => (∀ c : Dev Cert.FfnOutDw.nD,
      r.2.mem ((c.tc : Thread Cert.FfnOutDw.nD Cert.FfnOutDw.τ).loc Cert.FfnOutDw.main_arg0) = m ((c.tc : Thread Cert.FfnOutDw.nD Cert.FfnOutDw.τ).loc Cert.FfnOutDw.main_arg0)
      ∧ r.2.mem ((c.tc : Thread Cert.FfnOutDw.nD Cert.FfnOutDw.τ).loc Cert.FfnOutDw.main_arg1) = m ((c.tc : Thread Cert.FfnOutDw.nD Cert.FfnOutDw.τ).loc Cert.FfnOutDw.main_arg1))
      ∧ r.2.sem = fun _ => 0)

def quiescent_FfnOutDwIdeal [hFfnOutDwIdeal : Cert.FfnOutDwIdeal.Facts] : Prop :=
  ∀ (m : (ℓ : Loc Cert.FfnOutDwIdeal.nD Cert.FfnOutDwIdeal.τ Cert.FfnOutDwIdeal.sig) → Buf (Elt Ideal) ℓ) (g : Dev Cert.FfnOutDwIdeal.nD → PrngReg), Pre_FfnOutDwIdeal m →
    θ_run (Cert.FfnOutDwIdeal.defs (F := Ideal)) (onTc (τ := Cert.FfnOutDwIdeal.τ) (Cert.FfnOutDwIdeal.main (F := Ideal))) ⟨m, fun _ => 0, g⟩ (fun r => (∀ c : Dev Cert.FfnOutDwIdeal.nD,
      r.2.mem ((c.tc : Thread Cert.FfnOutDwIdeal.nD Cert.FfnOutDwIdeal.τ).loc Cert.FfnOutDwIdeal.main_arg0) = m ((c.tc : Thread Cert.FfnOutDwIdeal.nD Cert.FfnOutDwIdeal.τ).loc Cert.FfnOutDwIdeal.main_arg0)
      ∧ r.2.mem ((c.tc : Thread Cert.FfnOutDwIdeal.nD Cert.FfnOutDwIdeal.τ).loc Cert.FfnOutDwIdeal.main_arg1) = m ((c.tc : Thread Cert.FfnOutDwIdeal.nD Cert.FfnOutDwIdeal.τ).loc Cert.FfnOutDwIdeal.main_arg1))
      ∧ r.2.sem = fun _ => 0)

def quiescent_FfnOutDwRefIdeal [hFfnOutDwRefIdeal : Cert.FfnOutDwRefIdeal.Facts] : Prop :=
  ∀ (m : (ℓ : Loc Cert.FfnOutDwRefIdeal.nD Cert.FfnOutDwRefIdeal.τ Cert.FfnOutDwRefIdeal.sig) → Buf (Elt Ideal) ℓ) (g : Dev Cert.FfnOutDwRefIdeal.nD → PrngReg), Pre_FfnOutDwRefIdeal m →
    θ_run (Cert.FfnOutDwRefIdeal.defs (F := Ideal)) (onTc (τ := Cert.FfnOutDwRefIdeal.τ) (Cert.FfnOutDwRefIdeal.main (F := Ideal))) ⟨m, fun _ => 0, g⟩ (fun r => (∀ c : Dev Cert.FfnOutDwRefIdeal.nD,
      r.2.mem ((c.tc : Thread Cert.FfnOutDwRefIdeal.nD Cert.FfnOutDwRefIdeal.τ).loc Cert.FfnOutDwRefIdeal.main_arg0) = m ((c.tc : Thread Cert.FfnOutDwRefIdeal.nD Cert.FfnOutDwRefIdeal.τ).loc Cert.FfnOutDwRefIdeal.main_arg0)
      ∧ r.2.mem ((c.tc : Thread Cert.FfnOutDwRefIdeal.nD Cert.FfnOutDwRefIdeal.τ).loc Cert.FfnOutDwRefIdeal.main_arg1) = m ((c.tc : Thread Cert.FfnOutDwRefIdeal.nD Cert.FfnOutDwRefIdeal.τ).loc Cert.FfnOutDwRefIdeal.main_arg1))
      ∧ r.2.sem = fun _ => 0)

def quiescent_MixInDx [hMixInDx : Cert.MixInDx.Facts] : Prop :=
  ∀ (m : (ℓ : Loc Cert.MixInDx.nD Cert.MixInDx.τ Cert.MixInDx.sig) → Buf (Elt Bits) ℓ) (g : Dev Cert.MixInDx.nD → PrngReg), Pre_MixInDx m →
    θ_run (Cert.MixInDx.defs (F := Bits)) (onTc (τ := Cert.MixInDx.τ) (Cert.MixInDx.main (F := Bits))) ⟨m, fun _ => 0, g⟩ (fun r => (∀ c : Dev Cert.MixInDx.nD,
      r.2.mem ((c.tc : Thread Cert.MixInDx.nD Cert.MixInDx.τ).loc Cert.MixInDx.main_arg0) = m ((c.tc : Thread Cert.MixInDx.nD Cert.MixInDx.τ).loc Cert.MixInDx.main_arg0)
      ∧ r.2.mem ((c.tc : Thread Cert.MixInDx.nD Cert.MixInDx.τ).loc Cert.MixInDx.main_arg1) = m ((c.tc : Thread Cert.MixInDx.nD Cert.MixInDx.τ).loc Cert.MixInDx.main_arg1))
      ∧ r.2.sem = fun _ => 0)

def quiescent_MixInDxIdeal [hMixInDxIdeal : Cert.MixInDxIdeal.Facts] : Prop :=
  ∀ (m : (ℓ : Loc Cert.MixInDxIdeal.nD Cert.MixInDxIdeal.τ Cert.MixInDxIdeal.sig) → Buf (Elt Ideal) ℓ) (g : Dev Cert.MixInDxIdeal.nD → PrngReg), Pre_MixInDxIdeal m →
    θ_run (Cert.MixInDxIdeal.defs (F := Ideal)) (onTc (τ := Cert.MixInDxIdeal.τ) (Cert.MixInDxIdeal.main (F := Ideal))) ⟨m, fun _ => 0, g⟩ (fun r => (∀ c : Dev Cert.MixInDxIdeal.nD,
      r.2.mem ((c.tc : Thread Cert.MixInDxIdeal.nD Cert.MixInDxIdeal.τ).loc Cert.MixInDxIdeal.main_arg0) = m ((c.tc : Thread Cert.MixInDxIdeal.nD Cert.MixInDxIdeal.τ).loc Cert.MixInDxIdeal.main_arg0)
      ∧ r.2.mem ((c.tc : Thread Cert.MixInDxIdeal.nD Cert.MixInDxIdeal.τ).loc Cert.MixInDxIdeal.main_arg1) = m ((c.tc : Thread Cert.MixInDxIdeal.nD Cert.MixInDxIdeal.τ).loc Cert.MixInDxIdeal.main_arg1))
      ∧ r.2.sem = fun _ => 0)

def quiescent_MixInDxRefIdeal [hMixInDxRefIdeal : Cert.MixInDxRefIdeal.Facts] : Prop :=
  ∀ (m : (ℓ : Loc Cert.MixInDxRefIdeal.nD Cert.MixInDxRefIdeal.τ Cert.MixInDxRefIdeal.sig) → Buf (Elt Ideal) ℓ) (g : Dev Cert.MixInDxRefIdeal.nD → PrngReg), Pre_MixInDxRefIdeal m →
    θ_run (Cert.MixInDxRefIdeal.defs (F := Ideal)) (onTc (τ := Cert.MixInDxRefIdeal.τ) (Cert.MixInDxRefIdeal.main (F := Ideal))) ⟨m, fun _ => 0, g⟩ (fun r => (∀ c : Dev Cert.MixInDxRefIdeal.nD,
      r.2.mem ((c.tc : Thread Cert.MixInDxRefIdeal.nD Cert.MixInDxRefIdeal.τ).loc Cert.MixInDxRefIdeal.main_arg0) = m ((c.tc : Thread Cert.MixInDxRefIdeal.nD Cert.MixInDxRefIdeal.τ).loc Cert.MixInDxRefIdeal.main_arg0)
      ∧ r.2.mem ((c.tc : Thread Cert.MixInDxRefIdeal.nD Cert.MixInDxRefIdeal.τ).loc Cert.MixInDxRefIdeal.main_arg1) = m ((c.tc : Thread Cert.MixInDxRefIdeal.nD Cert.MixInDxRefIdeal.τ).loc Cert.MixInDxRefIdeal.main_arg1))
      ∧ r.2.sem = fun _ => 0)

def quiescent_MixInDw [hMixInDw : Cert.MixInDw.Facts] : Prop :=
  ∀ (m : (ℓ : Loc Cert.MixInDw.nD Cert.MixInDw.τ Cert.MixInDw.sig) → Buf (Elt Bits) ℓ) (g : Dev Cert.MixInDw.nD → PrngReg), Pre_MixInDw m →
    θ_run (Cert.MixInDw.defs (F := Bits)) (onTc (τ := Cert.MixInDw.τ) (Cert.MixInDw.main (F := Bits))) ⟨m, fun _ => 0, g⟩ (fun r => (∀ c : Dev Cert.MixInDw.nD,
      r.2.mem ((c.tc : Thread Cert.MixInDw.nD Cert.MixInDw.τ).loc Cert.MixInDw.main_arg0) = m ((c.tc : Thread Cert.MixInDw.nD Cert.MixInDw.τ).loc Cert.MixInDw.main_arg0)
      ∧ r.2.mem ((c.tc : Thread Cert.MixInDw.nD Cert.MixInDw.τ).loc Cert.MixInDw.main_arg1) = m ((c.tc : Thread Cert.MixInDw.nD Cert.MixInDw.τ).loc Cert.MixInDw.main_arg1))
      ∧ r.2.sem = fun _ => 0)

def quiescent_MixInDwIdeal [hMixInDwIdeal : Cert.MixInDwIdeal.Facts] : Prop :=
  ∀ (m : (ℓ : Loc Cert.MixInDwIdeal.nD Cert.MixInDwIdeal.τ Cert.MixInDwIdeal.sig) → Buf (Elt Ideal) ℓ) (g : Dev Cert.MixInDwIdeal.nD → PrngReg), Pre_MixInDwIdeal m →
    θ_run (Cert.MixInDwIdeal.defs (F := Ideal)) (onTc (τ := Cert.MixInDwIdeal.τ) (Cert.MixInDwIdeal.main (F := Ideal))) ⟨m, fun _ => 0, g⟩ (fun r => (∀ c : Dev Cert.MixInDwIdeal.nD,
      r.2.mem ((c.tc : Thread Cert.MixInDwIdeal.nD Cert.MixInDwIdeal.τ).loc Cert.MixInDwIdeal.main_arg0) = m ((c.tc : Thread Cert.MixInDwIdeal.nD Cert.MixInDwIdeal.τ).loc Cert.MixInDwIdeal.main_arg0)
      ∧ r.2.mem ((c.tc : Thread Cert.MixInDwIdeal.nD Cert.MixInDwIdeal.τ).loc Cert.MixInDwIdeal.main_arg1) = m ((c.tc : Thread Cert.MixInDwIdeal.nD Cert.MixInDwIdeal.τ).loc Cert.MixInDwIdeal.main_arg1))
      ∧ r.2.sem = fun _ => 0)

def quiescent_MixInDwRefIdeal [hMixInDwRefIdeal : Cert.MixInDwRefIdeal.Facts] : Prop :=
  ∀ (m : (ℓ : Loc Cert.MixInDwRefIdeal.nD Cert.MixInDwRefIdeal.τ Cert.MixInDwRefIdeal.sig) → Buf (Elt Ideal) ℓ) (g : Dev Cert.MixInDwRefIdeal.nD → PrngReg), Pre_MixInDwRefIdeal m →
    θ_run (Cert.MixInDwRefIdeal.defs (F := Ideal)) (onTc (τ := Cert.MixInDwRefIdeal.τ) (Cert.MixInDwRefIdeal.main (F := Ideal))) ⟨m, fun _ => 0, g⟩ (fun r => (∀ c : Dev Cert.MixInDwRefIdeal.nD,
      r.2.mem ((c.tc : Thread Cert.MixInDwRefIdeal.nD Cert.MixInDwRefIdeal.τ).loc Cert.MixInDwRefIdeal.main_arg0) = m ((c.tc : Thread Cert.MixInDwRefIdeal.nD Cert.MixInDwRefIdeal.τ).loc Cert.MixInDwRefIdeal.main_arg0)
      ∧ r.2.mem ((c.tc : Thread Cert.MixInDwRefIdeal.nD Cert.MixInDwRefIdeal.τ).loc Cert.MixInDwRefIdeal.main_arg1) = m ((c.tc : Thread Cert.MixInDwRefIdeal.nD Cert.MixInDwRefIdeal.τ).loc Cert.MixInDwRefIdeal.main_arg1))
      ∧ r.2.sem = fun _ => 0)

def quiescent_MixOutDx [hMixOutDx : Cert.MixOutDx.Facts] : Prop :=
  ∀ (m : (ℓ : Loc Cert.MixOutDx.nD Cert.MixOutDx.τ Cert.MixOutDx.sig) → Buf (Elt Bits) ℓ) (g : Dev Cert.MixOutDx.nD → PrngReg), Pre_MixOutDx m →
    θ_run (Cert.MixOutDx.defs (F := Bits)) (onTc (τ := Cert.MixOutDx.τ) (Cert.MixOutDx.main (F := Bits))) ⟨m, fun _ => 0, g⟩ (fun r => (∀ c : Dev Cert.MixOutDx.nD,
      r.2.mem ((c.tc : Thread Cert.MixOutDx.nD Cert.MixOutDx.τ).loc Cert.MixOutDx.main_arg0) = m ((c.tc : Thread Cert.MixOutDx.nD Cert.MixOutDx.τ).loc Cert.MixOutDx.main_arg0)
      ∧ r.2.mem ((c.tc : Thread Cert.MixOutDx.nD Cert.MixOutDx.τ).loc Cert.MixOutDx.main_arg1) = m ((c.tc : Thread Cert.MixOutDx.nD Cert.MixOutDx.τ).loc Cert.MixOutDx.main_arg1))
      ∧ r.2.sem = fun _ => 0)

def quiescent_MixOutDxIdeal [hMixOutDxIdeal : Cert.MixOutDxIdeal.Facts] : Prop :=
  ∀ (m : (ℓ : Loc Cert.MixOutDxIdeal.nD Cert.MixOutDxIdeal.τ Cert.MixOutDxIdeal.sig) → Buf (Elt Ideal) ℓ) (g : Dev Cert.MixOutDxIdeal.nD → PrngReg), Pre_MixOutDxIdeal m →
    θ_run (Cert.MixOutDxIdeal.defs (F := Ideal)) (onTc (τ := Cert.MixOutDxIdeal.τ) (Cert.MixOutDxIdeal.main (F := Ideal))) ⟨m, fun _ => 0, g⟩ (fun r => (∀ c : Dev Cert.MixOutDxIdeal.nD,
      r.2.mem ((c.tc : Thread Cert.MixOutDxIdeal.nD Cert.MixOutDxIdeal.τ).loc Cert.MixOutDxIdeal.main_arg0) = m ((c.tc : Thread Cert.MixOutDxIdeal.nD Cert.MixOutDxIdeal.τ).loc Cert.MixOutDxIdeal.main_arg0)
      ∧ r.2.mem ((c.tc : Thread Cert.MixOutDxIdeal.nD Cert.MixOutDxIdeal.τ).loc Cert.MixOutDxIdeal.main_arg1) = m ((c.tc : Thread Cert.MixOutDxIdeal.nD Cert.MixOutDxIdeal.τ).loc Cert.MixOutDxIdeal.main_arg1))
      ∧ r.2.sem = fun _ => 0)

def quiescent_MixOutDxRefIdeal [hMixOutDxRefIdeal : Cert.MixOutDxRefIdeal.Facts] : Prop :=
  ∀ (m : (ℓ : Loc Cert.MixOutDxRefIdeal.nD Cert.MixOutDxRefIdeal.τ Cert.MixOutDxRefIdeal.sig) → Buf (Elt Ideal) ℓ) (g : Dev Cert.MixOutDxRefIdeal.nD → PrngReg), Pre_MixOutDxRefIdeal m →
    θ_run (Cert.MixOutDxRefIdeal.defs (F := Ideal)) (onTc (τ := Cert.MixOutDxRefIdeal.τ) (Cert.MixOutDxRefIdeal.main (F := Ideal))) ⟨m, fun _ => 0, g⟩ (fun r => (∀ c : Dev Cert.MixOutDxRefIdeal.nD,
      r.2.mem ((c.tc : Thread Cert.MixOutDxRefIdeal.nD Cert.MixOutDxRefIdeal.τ).loc Cert.MixOutDxRefIdeal.main_arg0) = m ((c.tc : Thread Cert.MixOutDxRefIdeal.nD Cert.MixOutDxRefIdeal.τ).loc Cert.MixOutDxRefIdeal.main_arg0)
      ∧ r.2.mem ((c.tc : Thread Cert.MixOutDxRefIdeal.nD Cert.MixOutDxRefIdeal.τ).loc Cert.MixOutDxRefIdeal.main_arg1) = m ((c.tc : Thread Cert.MixOutDxRefIdeal.nD Cert.MixOutDxRefIdeal.τ).loc Cert.MixOutDxRefIdeal.main_arg1))
      ∧ r.2.sem = fun _ => 0)

def quiescent_MixOutDw [hMixOutDw : Cert.MixOutDw.Facts] : Prop :=
  ∀ (m : (ℓ : Loc Cert.MixOutDw.nD Cert.MixOutDw.τ Cert.MixOutDw.sig) → Buf (Elt Bits) ℓ) (g : Dev Cert.MixOutDw.nD → PrngReg), Pre_MixOutDw m →
    θ_run (Cert.MixOutDw.defs (F := Bits)) (onTc (τ := Cert.MixOutDw.τ) (Cert.MixOutDw.main (F := Bits))) ⟨m, fun _ => 0, g⟩ (fun r => (∀ c : Dev Cert.MixOutDw.nD,
      r.2.mem ((c.tc : Thread Cert.MixOutDw.nD Cert.MixOutDw.τ).loc Cert.MixOutDw.main_arg0) = m ((c.tc : Thread Cert.MixOutDw.nD Cert.MixOutDw.τ).loc Cert.MixOutDw.main_arg0)
      ∧ r.2.mem ((c.tc : Thread Cert.MixOutDw.nD Cert.MixOutDw.τ).loc Cert.MixOutDw.main_arg1) = m ((c.tc : Thread Cert.MixOutDw.nD Cert.MixOutDw.τ).loc Cert.MixOutDw.main_arg1))
      ∧ r.2.sem = fun _ => 0)

def quiescent_MixOutDwIdeal [hMixOutDwIdeal : Cert.MixOutDwIdeal.Facts] : Prop :=
  ∀ (m : (ℓ : Loc Cert.MixOutDwIdeal.nD Cert.MixOutDwIdeal.τ Cert.MixOutDwIdeal.sig) → Buf (Elt Ideal) ℓ) (g : Dev Cert.MixOutDwIdeal.nD → PrngReg), Pre_MixOutDwIdeal m →
    θ_run (Cert.MixOutDwIdeal.defs (F := Ideal)) (onTc (τ := Cert.MixOutDwIdeal.τ) (Cert.MixOutDwIdeal.main (F := Ideal))) ⟨m, fun _ => 0, g⟩ (fun r => (∀ c : Dev Cert.MixOutDwIdeal.nD,
      r.2.mem ((c.tc : Thread Cert.MixOutDwIdeal.nD Cert.MixOutDwIdeal.τ).loc Cert.MixOutDwIdeal.main_arg0) = m ((c.tc : Thread Cert.MixOutDwIdeal.nD Cert.MixOutDwIdeal.τ).loc Cert.MixOutDwIdeal.main_arg0)
      ∧ r.2.mem ((c.tc : Thread Cert.MixOutDwIdeal.nD Cert.MixOutDwIdeal.τ).loc Cert.MixOutDwIdeal.main_arg1) = m ((c.tc : Thread Cert.MixOutDwIdeal.nD Cert.MixOutDwIdeal.τ).loc Cert.MixOutDwIdeal.main_arg1))
      ∧ r.2.sem = fun _ => 0)

def quiescent_MixOutDwRefIdeal [hMixOutDwRefIdeal : Cert.MixOutDwRefIdeal.Facts] : Prop :=
  ∀ (m : (ℓ : Loc Cert.MixOutDwRefIdeal.nD Cert.MixOutDwRefIdeal.τ Cert.MixOutDwRefIdeal.sig) → Buf (Elt Ideal) ℓ) (g : Dev Cert.MixOutDwRefIdeal.nD → PrngReg), Pre_MixOutDwRefIdeal m →
    θ_run (Cert.MixOutDwRefIdeal.defs (F := Ideal)) (onTc (τ := Cert.MixOutDwRefIdeal.τ) (Cert.MixOutDwRefIdeal.main (F := Ideal))) ⟨m, fun _ => 0, g⟩ (fun r => (∀ c : Dev Cert.MixOutDwRefIdeal.nD,
      r.2.mem ((c.tc : Thread Cert.MixOutDwRefIdeal.nD Cert.MixOutDwRefIdeal.τ).loc Cert.MixOutDwRefIdeal.main_arg0) = m ((c.tc : Thread Cert.MixOutDwRefIdeal.nD Cert.MixOutDwRefIdeal.τ).loc Cert.MixOutDwRefIdeal.main_arg0)
      ∧ r.2.mem ((c.tc : Thread Cert.MixOutDwRefIdeal.nD Cert.MixOutDwRefIdeal.τ).loc Cert.MixOutDwRefIdeal.main_arg1) = m ((c.tc : Thread Cert.MixOutDwRefIdeal.nD Cert.MixOutDwRefIdeal.τ).loc Cert.MixOutDwRefIdeal.main_arg1))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1))
      ∧ r.2.sem = fun _ => 0)

def quiescent_CtxFfnInDx [hCtxFfnInDx : Cert.CtxFfnInDx.Facts] : Prop :=
  ∀ (m : (ℓ : Loc Cert.CtxFfnInDx.nD Cert.CtxFfnInDx.τ Cert.CtxFfnInDx.sig) → Buf (Elt Bits) ℓ) (g : Dev Cert.CtxFfnInDx.nD → PrngReg), Pre_CtxFfnInDx m →
    θ_run (Cert.CtxFfnInDx.defs (F := Bits)) (onTc (τ := Cert.CtxFfnInDx.τ) (Cert.CtxFfnInDx.main (F := Bits))) ⟨m, fun _ => 0, g⟩ (fun r => (∀ c : Dev Cert.CtxFfnInDx.nD,
      r.2.mem ((c.tc : Thread Cert.CtxFfnInDx.nD Cert.CtxFfnInDx.τ).loc Cert.CtxFfnInDx.main_arg0) = m ((c.tc : Thread Cert.CtxFfnInDx.nD Cert.CtxFfnInDx.τ).loc Cert.CtxFfnInDx.main_arg0)
      ∧ r.2.mem ((c.tc : Thread Cert.CtxFfnInDx.nD Cert.CtxFfnInDx.τ).loc Cert.CtxFfnInDx.main_arg1) = m ((c.tc : Thread Cert.CtxFfnInDx.nD Cert.CtxFfnInDx.τ).loc Cert.CtxFfnInDx.main_arg1))
      ∧ r.2.sem = fun _ => 0)

def quiescent_CtxFfnInDxIdeal [hCtxFfnInDxIdeal : Cert.CtxFfnInDxIdeal.Facts] : Prop :=
  ∀ (m : (ℓ : Loc Cert.CtxFfnInDxIdeal.nD Cert.CtxFfnInDxIdeal.τ Cert.CtxFfnInDxIdeal.sig) → Buf (Elt Ideal) ℓ) (g : Dev Cert.CtxFfnInDxIdeal.nD → PrngReg), Pre_CtxFfnInDxIdeal m →
    θ_run (Cert.CtxFfnInDxIdeal.defs (F := Ideal)) (onTc (τ := Cert.CtxFfnInDxIdeal.τ) (Cert.CtxFfnInDxIdeal.main (F := Ideal))) ⟨m, fun _ => 0, g⟩ (fun r => (∀ c : Dev Cert.CtxFfnInDxIdeal.nD,
      r.2.mem ((c.tc : Thread Cert.CtxFfnInDxIdeal.nD Cert.CtxFfnInDxIdeal.τ).loc Cert.CtxFfnInDxIdeal.main_arg0) = m ((c.tc : Thread Cert.CtxFfnInDxIdeal.nD Cert.CtxFfnInDxIdeal.τ).loc Cert.CtxFfnInDxIdeal.main_arg0)
      ∧ r.2.mem ((c.tc : Thread Cert.CtxFfnInDxIdeal.nD Cert.CtxFfnInDxIdeal.τ).loc Cert.CtxFfnInDxIdeal.main_arg1) = m ((c.tc : Thread Cert.CtxFfnInDxIdeal.nD Cert.CtxFfnInDxIdeal.τ).loc Cert.CtxFfnInDxIdeal.main_arg1))
      ∧ r.2.sem = fun _ => 0)

def quiescent_CtxFfnInDxRefIdeal [hCtxFfnInDxRefIdeal : Cert.CtxFfnInDxRefIdeal.Facts] : Prop :=
  ∀ (m : (ℓ : Loc Cert.CtxFfnInDxRefIdeal.nD Cert.CtxFfnInDxRefIdeal.τ Cert.CtxFfnInDxRefIdeal.sig) → Buf (Elt Ideal) ℓ) (g : Dev Cert.CtxFfnInDxRefIdeal.nD → PrngReg), Pre_CtxFfnInDxRefIdeal m →
    θ_run (Cert.CtxFfnInDxRefIdeal.defs (F := Ideal)) (onTc (τ := Cert.CtxFfnInDxRefIdeal.τ) (Cert.CtxFfnInDxRefIdeal.main (F := Ideal))) ⟨m, fun _ => 0, g⟩ (fun r => (∀ c : Dev Cert.CtxFfnInDxRefIdeal.nD,
      r.2.mem ((c.tc : Thread Cert.CtxFfnInDxRefIdeal.nD Cert.CtxFfnInDxRefIdeal.τ).loc Cert.CtxFfnInDxRefIdeal.main_arg0) = m ((c.tc : Thread Cert.CtxFfnInDxRefIdeal.nD Cert.CtxFfnInDxRefIdeal.τ).loc Cert.CtxFfnInDxRefIdeal.main_arg0)
      ∧ r.2.mem ((c.tc : Thread Cert.CtxFfnInDxRefIdeal.nD Cert.CtxFfnInDxRefIdeal.τ).loc Cert.CtxFfnInDxRefIdeal.main_arg1) = m ((c.tc : Thread Cert.CtxFfnInDxRefIdeal.nD Cert.CtxFfnInDxRefIdeal.τ).loc Cert.CtxFfnInDxRefIdeal.main_arg1))
      ∧ r.2.sem = fun _ => 0)

def quiescent_CtxFfnInDw [hCtxFfnInDw : Cert.CtxFfnInDw.Facts] : Prop :=
  ∀ (m : (ℓ : Loc Cert.CtxFfnInDw.nD Cert.CtxFfnInDw.τ Cert.CtxFfnInDw.sig) → Buf (Elt Bits) ℓ) (g : Dev Cert.CtxFfnInDw.nD → PrngReg), Pre_CtxFfnInDw m →
    θ_run (Cert.CtxFfnInDw.defs (F := Bits)) (onTc (τ := Cert.CtxFfnInDw.τ) (Cert.CtxFfnInDw.main (F := Bits))) ⟨m, fun _ => 0, g⟩ (fun r => (∀ c : Dev Cert.CtxFfnInDw.nD,
      r.2.mem ((c.tc : Thread Cert.CtxFfnInDw.nD Cert.CtxFfnInDw.τ).loc Cert.CtxFfnInDw.main_arg0) = m ((c.tc : Thread Cert.CtxFfnInDw.nD Cert.CtxFfnInDw.τ).loc Cert.CtxFfnInDw.main_arg0)
      ∧ r.2.mem ((c.tc : Thread Cert.CtxFfnInDw.nD Cert.CtxFfnInDw.τ).loc Cert.CtxFfnInDw.main_arg1) = m ((c.tc : Thread Cert.CtxFfnInDw.nD Cert.CtxFfnInDw.τ).loc Cert.CtxFfnInDw.main_arg1)
      ∧ r.2.mem ((c.tc : Thread Cert.CtxFfnInDw.nD Cert.CtxFfnInDw.τ).loc Cert.CtxFfnInDw.main_arg2) = m ((c.tc : Thread Cert.CtxFfnInDw.nD Cert.CtxFfnInDw.τ).loc Cert.CtxFfnInDw.main_arg2))
      ∧ r.2.sem = fun _ => 0)

def quiescent_CtxFfnInDwIdeal [hCtxFfnInDwIdeal : Cert.CtxFfnInDwIdeal.Facts] : Prop :=
  ∀ (m : (ℓ : Loc Cert.CtxFfnInDwIdeal.nD Cert.CtxFfnInDwIdeal.τ Cert.CtxFfnInDwIdeal.sig) → Buf (Elt Ideal) ℓ) (g : Dev Cert.CtxFfnInDwIdeal.nD → PrngReg), Pre_CtxFfnInDwIdeal m →
    θ_run (Cert.CtxFfnInDwIdeal.defs (F := Ideal)) (onTc (τ := Cert.CtxFfnInDwIdeal.τ) (Cert.CtxFfnInDwIdeal.main (F := Ideal))) ⟨m, fun _ => 0, g⟩ (fun r => (∀ c : Dev Cert.CtxFfnInDwIdeal.nD,
      r.2.mem ((c.tc : Thread Cert.CtxFfnInDwIdeal.nD Cert.CtxFfnInDwIdeal.τ).loc Cert.CtxFfnInDwIdeal.main_arg0) = m ((c.tc : Thread Cert.CtxFfnInDwIdeal.nD Cert.CtxFfnInDwIdeal.τ).loc Cert.CtxFfnInDwIdeal.main_arg0)
      ∧ r.2.mem ((c.tc : Thread Cert.CtxFfnInDwIdeal.nD Cert.CtxFfnInDwIdeal.τ).loc Cert.CtxFfnInDwIdeal.main_arg1) = m ((c.tc : Thread Cert.CtxFfnInDwIdeal.nD Cert.CtxFfnInDwIdeal.τ).loc Cert.CtxFfnInDwIdeal.main_arg1)
      ∧ r.2.mem ((c.tc : Thread Cert.CtxFfnInDwIdeal.nD Cert.CtxFfnInDwIdeal.τ).loc Cert.CtxFfnInDwIdeal.main_arg2) = m ((c.tc : Thread Cert.CtxFfnInDwIdeal.nD Cert.CtxFfnInDwIdeal.τ).loc Cert.CtxFfnInDwIdeal.main_arg2))
      ∧ r.2.sem = fun _ => 0)

def quiescent_CtxFfnInDwRefIdeal [hCtxFfnInDwRefIdeal : Cert.CtxFfnInDwRefIdeal.Facts] : Prop :=
  ∀ (m : (ℓ : Loc Cert.CtxFfnInDwRefIdeal.nD Cert.CtxFfnInDwRefIdeal.τ Cert.CtxFfnInDwRefIdeal.sig) → Buf (Elt Ideal) ℓ) (g : Dev Cert.CtxFfnInDwRefIdeal.nD → PrngReg), Pre_CtxFfnInDwRefIdeal m →
    θ_run (Cert.CtxFfnInDwRefIdeal.defs (F := Ideal)) (onTc (τ := Cert.CtxFfnInDwRefIdeal.τ) (Cert.CtxFfnInDwRefIdeal.main (F := Ideal))) ⟨m, fun _ => 0, g⟩ (fun r => (∀ c : Dev Cert.CtxFfnInDwRefIdeal.nD,
      r.2.mem ((c.tc : Thread Cert.CtxFfnInDwRefIdeal.nD Cert.CtxFfnInDwRefIdeal.τ).loc Cert.CtxFfnInDwRefIdeal.main_arg0) = m ((c.tc : Thread Cert.CtxFfnInDwRefIdeal.nD Cert.CtxFfnInDwRefIdeal.τ).loc Cert.CtxFfnInDwRefIdeal.main_arg0)
      ∧ r.2.mem ((c.tc : Thread Cert.CtxFfnInDwRefIdeal.nD Cert.CtxFfnInDwRefIdeal.τ).loc Cert.CtxFfnInDwRefIdeal.main_arg1) = m ((c.tc : Thread Cert.CtxFfnInDwRefIdeal.nD Cert.CtxFfnInDwRefIdeal.τ).loc Cert.CtxFfnInDwRefIdeal.main_arg1)
      ∧ r.2.mem ((c.tc : Thread Cert.CtxFfnInDwRefIdeal.nD Cert.CtxFfnInDwRefIdeal.τ).loc Cert.CtxFfnInDwRefIdeal.main_arg2) = m ((c.tc : Thread Cert.CtxFfnInDwRefIdeal.nD Cert.CtxFfnInDwRefIdeal.τ).loc Cert.CtxFfnInDwRefIdeal.main_arg2))
      ∧ r.2.sem = fun _ => 0)

def quiescent_CtxFfnOutDx [hCtxFfnOutDx : Cert.CtxFfnOutDx.Facts] : Prop :=
  ∀ (m : (ℓ : Loc Cert.CtxFfnOutDx.nD Cert.CtxFfnOutDx.τ Cert.CtxFfnOutDx.sig) → Buf (Elt Bits) ℓ) (g : Dev Cert.CtxFfnOutDx.nD → PrngReg), Pre_CtxFfnOutDx m →
    θ_run (Cert.CtxFfnOutDx.defs (F := Bits)) (onTc (τ := Cert.CtxFfnOutDx.τ) (Cert.CtxFfnOutDx.main (F := Bits))) ⟨m, fun _ => 0, g⟩ (fun r => (∀ c : Dev Cert.CtxFfnOutDx.nD,
      r.2.mem ((c.tc : Thread Cert.CtxFfnOutDx.nD Cert.CtxFfnOutDx.τ).loc Cert.CtxFfnOutDx.main_arg0) = m ((c.tc : Thread Cert.CtxFfnOutDx.nD Cert.CtxFfnOutDx.τ).loc Cert.CtxFfnOutDx.main_arg0)
      ∧ r.2.mem ((c.tc : Thread Cert.CtxFfnOutDx.nD Cert.CtxFfnOutDx.τ).loc Cert.CtxFfnOutDx.main_arg1) = m ((c.tc : Thread Cert.CtxFfnOutDx.nD Cert.CtxFfnOutDx.τ).loc Cert.CtxFfnOutDx.main_arg1)
      ∧ r.2.mem ((c.tc : Thread Cert.CtxFfnOutDx.nD Cert.CtxFfnOutDx.τ).loc Cert.CtxFfnOutDx.main_arg2) = m ((c.tc : Thread Cert.CtxFfnOutDx.nD Cert.CtxFfnOutDx.τ).loc Cert.CtxFfnOutDx.main_arg2))
      ∧ r.2.sem = fun _ => 0)

def quiescent_CtxFfnOutDxIdeal [hCtxFfnOutDxIdeal : Cert.CtxFfnOutDxIdeal.Facts] : Prop :=
  ∀ (m : (ℓ : Loc Cert.CtxFfnOutDxIdeal.nD Cert.CtxFfnOutDxIdeal.τ Cert.CtxFfnOutDxIdeal.sig) → Buf (Elt Ideal) ℓ) (g : Dev Cert.CtxFfnOutDxIdeal.nD → PrngReg), Pre_CtxFfnOutDxIdeal m →
    θ_run (Cert.CtxFfnOutDxIdeal.defs (F := Ideal)) (onTc (τ := Cert.CtxFfnOutDxIdeal.τ) (Cert.CtxFfnOutDxIdeal.main (F := Ideal))) ⟨m, fun _ => 0, g⟩ (fun r => (∀ c : Dev Cert.CtxFfnOutDxIdeal.nD,
      r.2.mem ((c.tc : Thread Cert.CtxFfnOutDxIdeal.nD Cert.CtxFfnOutDxIdeal.τ).loc Cert.CtxFfnOutDxIdeal.main_arg0) = m ((c.tc : Thread Cert.CtxFfnOutDxIdeal.nD Cert.CtxFfnOutDxIdeal.τ).loc Cert.CtxFfnOutDxIdeal.main_arg0)
      ∧ r.2.mem ((c.tc : Thread Cert.CtxFfnOutDxIdeal.nD Cert.CtxFfnOutDxIdeal.τ).loc Cert.CtxFfnOutDxIdeal.main_arg1) = m ((c.tc : Thread Cert.CtxFfnOutDxIdeal.nD Cert.CtxFfnOutDxIdeal.τ).loc Cert.CtxFfnOutDxIdeal.main_arg1)
      ∧ r.2.mem ((c.tc : Thread Cert.CtxFfnOutDxIdeal.nD Cert.CtxFfnOutDxIdeal.τ).loc Cert.CtxFfnOutDxIdeal.main_arg2) = m ((c.tc : Thread Cert.CtxFfnOutDxIdeal.nD Cert.CtxFfnOutDxIdeal.τ).loc Cert.CtxFfnOutDxIdeal.main_arg2))
      ∧ r.2.sem = fun _ => 0)

def quiescent_CtxFfnOutDxIdeal_pre_finite_dact_ctx [hCtxFfnOutDxIdeal : Cert.CtxFfnOutDxIdeal.Facts] [hPre_finite_dact_ctx : Cert.Pre_finite_dact_ctx.Facts] : Prop :=
  ∀ (m : (ℓ : Loc Cert.CtxFfnOutDxIdeal.nD Cert.CtxFfnOutDxIdeal.τ Cert.CtxFfnOutDxIdeal.sig) → Buf (Elt Ideal) ℓ) (g : Dev Cert.CtxFfnOutDxIdeal.nD → PrngReg), Pre_CtxFfnOutDxIdeal_finite_dact_ctx m →
    θ_run (Cert.CtxFfnOutDxIdeal.defs (F := Ideal)) (onTc (τ := Cert.CtxFfnOutDxIdeal.τ) (Cert.CtxFfnOutDxIdeal.main (F := Ideal))) ⟨m, fun _ => 0, g⟩ (fun r => (∀ c : Dev Cert.CtxFfnOutDxIdeal.nD,
      r.2.mem ((c.tc : Thread Cert.CtxFfnOutDxIdeal.nD Cert.CtxFfnOutDxIdeal.τ).loc Cert.CtxFfnOutDxIdeal.main_arg0) = m ((c.tc : Thread Cert.CtxFfnOutDxIdeal.nD Cert.CtxFfnOutDxIdeal.τ).loc Cert.CtxFfnOutDxIdeal.main_arg0)
      ∧ r.2.mem ((c.tc : Thread Cert.CtxFfnOutDxIdeal.nD Cert.CtxFfnOutDxIdeal.τ).loc Cert.CtxFfnOutDxIdeal.main_arg1) = m ((c.tc : Thread Cert.CtxFfnOutDxIdeal.nD Cert.CtxFfnOutDxIdeal.τ).loc Cert.CtxFfnOutDxIdeal.main_arg1)
      ∧ r.2.mem ((c.tc : Thread Cert.CtxFfnOutDxIdeal.nD Cert.CtxFfnOutDxIdeal.τ).loc Cert.CtxFfnOutDxIdeal.main_arg2) = m ((c.tc : Thread Cert.CtxFfnOutDxIdeal.nD Cert.CtxFfnOutDxIdeal.τ).loc Cert.CtxFfnOutDxIdeal.main_arg2))
      ∧ r.2.sem = fun _ => 0)

def quiescent_CtxFfnOutDxRefIdeal [hCtxFfnOutDxRefIdeal : Cert.CtxFfnOutDxRefIdeal.Facts] : Prop :=
  ∀ (m : (ℓ : Loc Cert.CtxFfnOutDxRefIdeal.nD Cert.CtxFfnOutDxRefIdeal.τ Cert.CtxFfnOutDxRefIdeal.sig) → Buf (Elt Ideal) ℓ) (g : Dev Cert.CtxFfnOutDxRefIdeal.nD → PrngReg), Pre_CtxFfnOutDxRefIdeal m →
    θ_run (Cert.CtxFfnOutDxRefIdeal.defs (F := Ideal)) (onTc (τ := Cert.CtxFfnOutDxRefIdeal.τ) (Cert.CtxFfnOutDxRefIdeal.main (F := Ideal))) ⟨m, fun _ => 0, g⟩ (fun r => (∀ c : Dev Cert.CtxFfnOutDxRefIdeal.nD,
      r.2.mem ((c.tc : Thread Cert.CtxFfnOutDxRefIdeal.nD Cert.CtxFfnOutDxRefIdeal.τ).loc Cert.CtxFfnOutDxRefIdeal.main_arg0) = m ((c.tc : Thread Cert.CtxFfnOutDxRefIdeal.nD Cert.CtxFfnOutDxRefIdeal.τ).loc Cert.CtxFfnOutDxRefIdeal.main_arg0)
      ∧ r.2.mem ((c.tc : Thread Cert.CtxFfnOutDxRefIdeal.nD Cert.CtxFfnOutDxRefIdeal.τ).loc Cert.CtxFfnOutDxRefIdeal.main_arg1) = m ((c.tc : Thread Cert.CtxFfnOutDxRefIdeal.nD Cert.CtxFfnOutDxRefIdeal.τ).loc Cert.CtxFfnOutDxRefIdeal.main_arg1)
      ∧ r.2.mem ((c.tc : Thread Cert.CtxFfnOutDxRefIdeal.nD Cert.CtxFfnOutDxRefIdeal.τ).loc Cert.CtxFfnOutDxRefIdeal.main_arg2) = m ((c.tc : Thread Cert.CtxFfnOutDxRefIdeal.nD Cert.CtxFfnOutDxRefIdeal.τ).loc Cert.CtxFfnOutDxRefIdeal.main_arg2))
      ∧ r.2.sem = fun _ => 0)

def quiescent_CtxFfnOutDxRefIdeal_pre_finite_dact_ctx [hCtxFfnOutDxRefIdeal : Cert.CtxFfnOutDxRefIdeal.Facts] [hPre_finite_dact_ctx : Cert.Pre_finite_dact_ctx.Facts] : Prop :=
  ∀ (m : (ℓ : Loc Cert.CtxFfnOutDxRefIdeal.nD Cert.CtxFfnOutDxRefIdeal.τ Cert.CtxFfnOutDxRefIdeal.sig) → Buf (Elt Ideal) ℓ) (g : Dev Cert.CtxFfnOutDxRefIdeal.nD → PrngReg), Pre_CtxFfnOutDxRefIdeal_finite_dact_ctx m →
    θ_run (Cert.CtxFfnOutDxRefIdeal.defs (F := Ideal)) (onTc (τ := Cert.CtxFfnOutDxRefIdeal.τ) (Cert.CtxFfnOutDxRefIdeal.main (F := Ideal))) ⟨m, fun _ => 0, g⟩ (fun r => (∀ c : Dev Cert.CtxFfnOutDxRefIdeal.nD,
      r.2.mem ((c.tc : Thread Cert.CtxFfnOutDxRefIdeal.nD Cert.CtxFfnOutDxRefIdeal.τ).loc Cert.CtxFfnOutDxRefIdeal.main_arg0) = m ((c.tc : Thread Cert.CtxFfnOutDxRefIdeal.nD Cert.CtxFfnOutDxRefIdeal.τ).loc Cert.CtxFfnOutDxRefIdeal.main_arg0)
      ∧ r.2.mem ((c.tc : Thread Cert.CtxFfnOutDxRefIdeal.nD Cert.CtxFfnOutDxRefIdeal.τ).loc Cert.CtxFfnOutDxRefIdeal.main_arg1) = m ((c.tc : Thread Cert.CtxFfnOutDxRefIdeal.nD Cert.CtxFfnOutDxRefIdeal.τ).loc Cert.CtxFfnOutDxRefIdeal.main_arg1)
      ∧ r.2.mem ((c.tc : Thread Cert.CtxFfnOutDxRefIdeal.nD Cert.CtxFfnOutDxRefIdeal.τ).loc Cert.CtxFfnOutDxRefIdeal.main_arg2) = m ((c.tc : Thread Cert.CtxFfnOutDxRefIdeal.nD Cert.CtxFfnOutDxRefIdeal.τ).loc Cert.CtxFfnOutDxRefIdeal.main_arg2))
      ∧ r.2.sem = fun _ => 0)

def quiescent_CtxFfnOutDw [hCtxFfnOutDw : Cert.CtxFfnOutDw.Facts] : Prop :=
  ∀ (m : (ℓ : Loc Cert.CtxFfnOutDw.nD Cert.CtxFfnOutDw.τ Cert.CtxFfnOutDw.sig) → Buf (Elt Bits) ℓ) (g : Dev Cert.CtxFfnOutDw.nD → PrngReg), Pre_CtxFfnOutDw m →
    θ_run (Cert.CtxFfnOutDw.defs (F := Bits)) (onTc (τ := Cert.CtxFfnOutDw.τ) (Cert.CtxFfnOutDw.main (F := Bits))) ⟨m, fun _ => 0, g⟩ (fun r => (∀ c : Dev Cert.CtxFfnOutDw.nD,
      r.2.mem ((c.tc : Thread Cert.CtxFfnOutDw.nD Cert.CtxFfnOutDw.τ).loc Cert.CtxFfnOutDw.main_arg0) = m ((c.tc : Thread Cert.CtxFfnOutDw.nD Cert.CtxFfnOutDw.τ).loc Cert.CtxFfnOutDw.main_arg0)
      ∧ r.2.mem ((c.tc : Thread Cert.CtxFfnOutDw.nD Cert.CtxFfnOutDw.τ).loc Cert.CtxFfnOutDw.main_arg1) = m ((c.tc : Thread Cert.CtxFfnOutDw.nD Cert.CtxFfnOutDw.τ).loc Cert.CtxFfnOutDw.main_arg1)
      ∧ r.2.mem ((c.tc : Thread Cert.CtxFfnOutDw.nD Cert.CtxFfnOutDw.τ).loc Cert.CtxFfnOutDw.main_arg2) = m ((c.tc : Thread Cert.CtxFfnOutDw.nD Cert.CtxFfnOutDw.τ).loc Cert.CtxFfnOutDw.main_arg2))
      ∧ r.2.sem = fun _ => 0)

def quiescent_CtxFfnOutDwIdeal [hCtxFfnOutDwIdeal : Cert.CtxFfnOutDwIdeal.Facts] : Prop :=
  ∀ (m : (ℓ : Loc Cert.CtxFfnOutDwIdeal.nD Cert.CtxFfnOutDwIdeal.τ Cert.CtxFfnOutDwIdeal.sig) → Buf (Elt Ideal) ℓ) (g : Dev Cert.CtxFfnOutDwIdeal.nD → PrngReg), Pre_CtxFfnOutDwIdeal m →
    θ_run (Cert.CtxFfnOutDwIdeal.defs (F := Ideal)) (onTc (τ := Cert.CtxFfnOutDwIdeal.τ) (Cert.CtxFfnOutDwIdeal.main (F := Ideal))) ⟨m, fun _ => 0, g⟩ (fun r => (∀ c : Dev Cert.CtxFfnOutDwIdeal.nD,
      r.2.mem ((c.tc : Thread Cert.CtxFfnOutDwIdeal.nD Cert.CtxFfnOutDwIdeal.τ).loc Cert.CtxFfnOutDwIdeal.main_arg0) = m ((c.tc : Thread Cert.CtxFfnOutDwIdeal.nD Cert.CtxFfnOutDwIdeal.τ).loc Cert.CtxFfnOutDwIdeal.main_arg0)
      ∧ r.2.mem ((c.tc : Thread Cert.CtxFfnOutDwIdeal.nD Cert.CtxFfnOutDwIdeal.τ).loc Cert.CtxFfnOutDwIdeal.main_arg1) = m ((c.tc : Thread Cert.CtxFfnOutDwIdeal.nD Cert.CtxFfnOutDwIdeal.τ).loc Cert.CtxFfnOutDwIdeal.main_arg1)
      ∧ r.2.mem ((c.tc : Thread Cert.CtxFfnOutDwIdeal.nD Cert.CtxFfnOutDwIdeal.τ).loc Cert.CtxFfnOutDwIdeal.main_arg2) = m ((c.tc : Thread Cert.CtxFfnOutDwIdeal.nD Cert.CtxFfnOutDwIdeal.τ).loc Cert.CtxFfnOutDwIdeal.main_arg2))
      ∧ r.2.sem = fun _ => 0)

def quiescent_CtxFfnOutDwRefIdeal [hCtxFfnOutDwRefIdeal : Cert.CtxFfnOutDwRefIdeal.Facts] : Prop :=
  ∀ (m : (ℓ : Loc Cert.CtxFfnOutDwRefIdeal.nD Cert.CtxFfnOutDwRefIdeal.τ Cert.CtxFfnOutDwRefIdeal.sig) → Buf (Elt Ideal) ℓ) (g : Dev Cert.CtxFfnOutDwRefIdeal.nD → PrngReg), Pre_CtxFfnOutDwRefIdeal m →
    θ_run (Cert.CtxFfnOutDwRefIdeal.defs (F := Ideal)) (onTc (τ := Cert.CtxFfnOutDwRefIdeal.τ) (Cert.CtxFfnOutDwRefIdeal.main (F := Ideal))) ⟨m, fun _ => 0, g⟩ (fun r => (∀ c : Dev Cert.CtxFfnOutDwRefIdeal.nD,
      r.2.mem ((c.tc : Thread Cert.CtxFfnOutDwRefIdeal.nD Cert.CtxFfnOutDwRefIdeal.τ).loc Cert.CtxFfnOutDwRefIdeal.main_arg0) = m ((c.tc : Thread Cert.CtxFfnOutDwRefIdeal.nD Cert.CtxFfnOutDwRefIdeal.τ).loc Cert.CtxFfnOutDwRefIdeal.main_arg0)
      ∧ r.2.mem ((c.tc : Thread Cert.CtxFfnOutDwRefIdeal.nD Cert.CtxFfnOutDwRefIdeal.τ).loc Cert.CtxFfnOutDwRefIdeal.main_arg1) = m ((c.tc : Thread Cert.CtxFfnOutDwRefIdeal.nD Cert.CtxFfnOutDwRefIdeal.τ).loc Cert.CtxFfnOutDwRefIdeal.main_arg1)
      ∧ r.2.mem ((c.tc : Thread Cert.CtxFfnOutDwRefIdeal.nD Cert.CtxFfnOutDwRefIdeal.τ).loc Cert.CtxFfnOutDwRefIdeal.main_arg2) = m ((c.tc : Thread Cert.CtxFfnOutDwRefIdeal.nD Cert.CtxFfnOutDwRefIdeal.τ).loc Cert.CtxFfnOutDwRefIdeal.main_arg2))
      ∧ r.2.sem = fun _ => 0)

def quiescent_CtxMixInDx [hCtxMixInDx : Cert.CtxMixInDx.Facts] : Prop :=
  ∀ (m : (ℓ : Loc Cert.CtxMixInDx.nD Cert.CtxMixInDx.τ Cert.CtxMixInDx.sig) → Buf (Elt Bits) ℓ) (g : Dev Cert.CtxMixInDx.nD → PrngReg), Pre_CtxMixInDx m →
    θ_run (Cert.CtxMixInDx.defs (F := Bits)) (onTc (τ := Cert.CtxMixInDx.τ) (Cert.CtxMixInDx.main (F := Bits))) ⟨m, fun _ => 0, g⟩ (fun r => (∀ c : Dev Cert.CtxMixInDx.nD,
      r.2.mem ((c.tc : Thread Cert.CtxMixInDx.nD Cert.CtxMixInDx.τ).loc Cert.CtxMixInDx.main_arg0) = m ((c.tc : Thread Cert.CtxMixInDx.nD Cert.CtxMixInDx.τ).loc Cert.CtxMixInDx.main_arg0)
      ∧ r.2.mem ((c.tc : Thread Cert.CtxMixInDx.nD Cert.CtxMixInDx.τ).loc Cert.CtxMixInDx.main_arg1) = m ((c.tc : Thread Cert.CtxMixInDx.nD Cert.CtxMixInDx.τ).loc Cert.CtxMixInDx.main_arg1))
      ∧ r.2.sem = fun _ => 0)

def quiescent_CtxMixInDxIdeal [hCtxMixInDxIdeal : Cert.CtxMixInDxIdeal.Facts] : Prop :=
  ∀ (m : (ℓ : Loc Cert.CtxMixInDxIdeal.nD Cert.CtxMixInDxIdeal.τ Cert.CtxMixInDxIdeal.sig) → Buf (Elt Ideal) ℓ) (g : Dev Cert.CtxMixInDxIdeal.nD → PrngReg), Pre_CtxMixInDxIdeal m →
    θ_run (Cert.CtxMixInDxIdeal.defs (F := Ideal)) (onTc (τ := Cert.CtxMixInDxIdeal.τ) (Cert.CtxMixInDxIdeal.main (F := Ideal))) ⟨m, fun _ => 0, g⟩ (fun r => (∀ c : Dev Cert.CtxMixInDxIdeal.nD,
      r.2.mem ((c.tc : Thread Cert.CtxMixInDxIdeal.nD Cert.CtxMixInDxIdeal.τ).loc Cert.CtxMixInDxIdeal.main_arg0) = m ((c.tc : Thread Cert.CtxMixInDxIdeal.nD Cert.CtxMixInDxIdeal.τ).loc Cert.CtxMixInDxIdeal.main_arg0)
      ∧ r.2.mem ((c.tc : Thread Cert.CtxMixInDxIdeal.nD Cert.CtxMixInDxIdeal.τ).loc Cert.CtxMixInDxIdeal.main_arg1) = m ((c.tc : Thread Cert.CtxMixInDxIdeal.nD Cert.CtxMixInDxIdeal.τ).loc Cert.CtxMixInDxIdeal.main_arg1))
      ∧ r.2.sem = fun _ => 0)

def quiescent_CtxMixInDxRefIdeal [hCtxMixInDxRefIdeal : Cert.CtxMixInDxRefIdeal.Facts] : Prop :=
  ∀ (m : (ℓ : Loc Cert.CtxMixInDxRefIdeal.nD Cert.CtxMixInDxRefIdeal.τ Cert.CtxMixInDxRefIdeal.sig) → Buf (Elt Ideal) ℓ) (g : Dev Cert.CtxMixInDxRefIdeal.nD → PrngReg), Pre_CtxMixInDxRefIdeal m →
    θ_run (Cert.CtxMixInDxRefIdeal.defs (F := Ideal)) (onTc (τ := Cert.CtxMixInDxRefIdeal.τ) (Cert.CtxMixInDxRefIdeal.main (F := Ideal))) ⟨m, fun _ => 0, g⟩ (fun r => (∀ c : Dev Cert.CtxMixInDxRefIdeal.nD,
      r.2.mem ((c.tc : Thread Cert.CtxMixInDxRefIdeal.nD Cert.CtxMixInDxRefIdeal.τ).loc Cert.CtxMixInDxRefIdeal.main_arg0) = m ((c.tc : Thread Cert.CtxMixInDxRefIdeal.nD Cert.CtxMixInDxRefIdeal.τ).loc Cert.CtxMixInDxRefIdeal.main_arg0)
      ∧ r.2.mem ((c.tc : Thread Cert.CtxMixInDxRefIdeal.nD Cert.CtxMixInDxRefIdeal.τ).loc Cert.CtxMixInDxRefIdeal.main_arg1) = m ((c.tc : Thread Cert.CtxMixInDxRefIdeal.nD Cert.CtxMixInDxRefIdeal.τ).loc Cert.CtxMixInDxRefIdeal.main_arg1))
      ∧ r.2.sem = fun _ => 0)

def quiescent_CtxMixInDw [hCtxMixInDw : Cert.CtxMixInDw.Facts] : Prop :=
  ∀ (m : (ℓ : Loc Cert.CtxMixInDw.nD Cert.CtxMixInDw.τ Cert.CtxMixInDw.sig) → Buf (Elt Bits) ℓ) (g : Dev Cert.CtxMixInDw.nD → PrngReg), Pre_CtxMixInDw m →
    θ_run (Cert.CtxMixInDw.defs (F := Bits)) (onTc (τ := Cert.CtxMixInDw.τ) (Cert.CtxMixInDw.main (F := Bits))) ⟨m, fun _ => 0, g⟩ (fun r => (∀ c : Dev Cert.CtxMixInDw.nD,
      r.2.mem ((c.tc : Thread Cert.CtxMixInDw.nD Cert.CtxMixInDw.τ).loc Cert.CtxMixInDw.main_arg0) = m ((c.tc : Thread Cert.CtxMixInDw.nD Cert.CtxMixInDw.τ).loc Cert.CtxMixInDw.main_arg0)
      ∧ r.2.mem ((c.tc : Thread Cert.CtxMixInDw.nD Cert.CtxMixInDw.τ).loc Cert.CtxMixInDw.main_arg1) = m ((c.tc : Thread Cert.CtxMixInDw.nD Cert.CtxMixInDw.τ).loc Cert.CtxMixInDw.main_arg1)
      ∧ r.2.mem ((c.tc : Thread Cert.CtxMixInDw.nD Cert.CtxMixInDw.τ).loc Cert.CtxMixInDw.main_arg2) = m ((c.tc : Thread Cert.CtxMixInDw.nD Cert.CtxMixInDw.τ).loc Cert.CtxMixInDw.main_arg2))
      ∧ r.2.sem = fun _ => 0)

def quiescent_CtxMixInDwIdeal [hCtxMixInDwIdeal : Cert.CtxMixInDwIdeal.Facts] : Prop :=
  ∀ (m : (ℓ : Loc Cert.CtxMixInDwIdeal.nD Cert.CtxMixInDwIdeal.τ Cert.CtxMixInDwIdeal.sig) → Buf (Elt Ideal) ℓ) (g : Dev Cert.CtxMixInDwIdeal.nD → PrngReg), Pre_CtxMixInDwIdeal m →
    θ_run (Cert.CtxMixInDwIdeal.defs (F := Ideal)) (onTc (τ := Cert.CtxMixInDwIdeal.τ) (Cert.CtxMixInDwIdeal.main (F := Ideal))) ⟨m, fun _ => 0, g⟩ (fun r => (∀ c : Dev Cert.CtxMixInDwIdeal.nD,
      r.2.mem ((c.tc : Thread Cert.CtxMixInDwIdeal.nD Cert.CtxMixInDwIdeal.τ).loc Cert.CtxMixInDwIdeal.main_arg0) = m ((c.tc : Thread Cert.CtxMixInDwIdeal.nD Cert.CtxMixInDwIdeal.τ).loc Cert.CtxMixInDwIdeal.main_arg0)
      ∧ r.2.mem ((c.tc : Thread Cert.CtxMixInDwIdeal.nD Cert.CtxMixInDwIdeal.τ).loc Cert.CtxMixInDwIdeal.main_arg1) = m ((c.tc : Thread Cert.CtxMixInDwIdeal.nD Cert.CtxMixInDwIdeal.τ).loc Cert.CtxMixInDwIdeal.main_arg1)
      ∧ r.2.mem ((c.tc : Thread Cert.CtxMixInDwIdeal.nD Cert.CtxMixInDwIdeal.τ).loc Cert.CtxMixInDwIdeal.main_arg2) = m ((c.tc : Thread Cert.CtxMixInDwIdeal.nD Cert.CtxMixInDwIdeal.τ).loc Cert.CtxMixInDwIdeal.main_arg2))
      ∧ r.2.sem = fun _ => 0)

def quiescent_CtxMixInDwRefIdeal [hCtxMixInDwRefIdeal : Cert.CtxMixInDwRefIdeal.Facts] : Prop :=
  ∀ (m : (ℓ : Loc Cert.CtxMixInDwRefIdeal.nD Cert.CtxMixInDwRefIdeal.τ Cert.CtxMixInDwRefIdeal.sig) → Buf (Elt Ideal) ℓ) (g : Dev Cert.CtxMixInDwRefIdeal.nD → PrngReg), Pre_CtxMixInDwRefIdeal m →
    θ_run (Cert.CtxMixInDwRefIdeal.defs (F := Ideal)) (onTc (τ := Cert.CtxMixInDwRefIdeal.τ) (Cert.CtxMixInDwRefIdeal.main (F := Ideal))) ⟨m, fun _ => 0, g⟩ (fun r => (∀ c : Dev Cert.CtxMixInDwRefIdeal.nD,
      r.2.mem ((c.tc : Thread Cert.CtxMixInDwRefIdeal.nD Cert.CtxMixInDwRefIdeal.τ).loc Cert.CtxMixInDwRefIdeal.main_arg0) = m ((c.tc : Thread Cert.CtxMixInDwRefIdeal.nD Cert.CtxMixInDwRefIdeal.τ).loc Cert.CtxMixInDwRefIdeal.main_arg0)
      ∧ r.2.mem ((c.tc : Thread Cert.CtxMixInDwRefIdeal.nD Cert.CtxMixInDwRefIdeal.τ).loc Cert.CtxMixInDwRefIdeal.main_arg1) = m ((c.tc : Thread Cert.CtxMixInDwRefIdeal.nD Cert.CtxMixInDwRefIdeal.τ).loc Cert.CtxMixInDwRefIdeal.main_arg1)
      ∧ r.2.mem ((c.tc : Thread Cert.CtxMixInDwRefIdeal.nD Cert.CtxMixInDwRefIdeal.τ).loc Cert.CtxMixInDwRefIdeal.main_arg2) = m ((c.tc : Thread Cert.CtxMixInDwRefIdeal.nD Cert.CtxMixInDwRefIdeal.τ).loc Cert.CtxMixInDwRefIdeal.main_arg2))
      ∧ r.2.sem = fun _ => 0)

def quiescent_CtxMixOutDx [hCtxMixOutDx : Cert.CtxMixOutDx.Facts] : Prop :=
  ∀ (m : (ℓ : Loc Cert.CtxMixOutDx.nD Cert.CtxMixOutDx.τ Cert.CtxMixOutDx.sig) → Buf (Elt Bits) ℓ) (g : Dev Cert.CtxMixOutDx.nD → PrngReg), Pre_CtxMixOutDx m →
    θ_run (Cert.CtxMixOutDx.defs (F := Bits)) (onTc (τ := Cert.CtxMixOutDx.τ) (Cert.CtxMixOutDx.main (F := Bits))) ⟨m, fun _ => 0, g⟩ (fun r => (∀ c : Dev Cert.CtxMixOutDx.nD,
      r.2.mem ((c.tc : Thread Cert.CtxMixOutDx.nD Cert.CtxMixOutDx.τ).loc Cert.CtxMixOutDx.main_arg0) = m ((c.tc : Thread Cert.CtxMixOutDx.nD Cert.CtxMixOutDx.τ).loc Cert.CtxMixOutDx.main_arg0)
      ∧ r.2.mem ((c.tc : Thread Cert.CtxMixOutDx.nD Cert.CtxMixOutDx.τ).loc Cert.CtxMixOutDx.main_arg1) = m ((c.tc : Thread Cert.CtxMixOutDx.nD Cert.CtxMixOutDx.τ).loc Cert.CtxMixOutDx.main_arg1))
      ∧ r.2.sem = fun _ => 0)

def quiescent_CtxMixOutDxIdeal [hCtxMixOutDxIdeal : Cert.CtxMixOutDxIdeal.Facts] : Prop :=
  ∀ (m : (ℓ : Loc Cert.CtxMixOutDxIdeal.nD Cert.CtxMixOutDxIdeal.τ Cert.CtxMixOutDxIdeal.sig) → Buf (Elt Ideal) ℓ) (g : Dev Cert.CtxMixOutDxIdeal.nD → PrngReg), Pre_CtxMixOutDxIdeal m →
    θ_run (Cert.CtxMixOutDxIdeal.defs (F := Ideal)) (onTc (τ := Cert.CtxMixOutDxIdeal.τ) (Cert.CtxMixOutDxIdeal.main (F := Ideal))) ⟨m, fun _ => 0, g⟩ (fun r => (∀ c : Dev Cert.CtxMixOutDxIdeal.nD,
      r.2.mem ((c.tc : Thread Cert.CtxMixOutDxIdeal.nD Cert.CtxMixOutDxIdeal.τ).loc Cert.CtxMixOutDxIdeal.main_arg0) = m ((c.tc : Thread Cert.CtxMixOutDxIdeal.nD Cert.CtxMixOutDxIdeal.τ).loc Cert.CtxMixOutDxIdeal.main_arg0)
      ∧ r.2.mem ((c.tc : Thread Cert.CtxMixOutDxIdeal.nD Cert.CtxMixOutDxIdeal.τ).loc Cert.CtxMixOutDxIdeal.main_arg1) = m ((c.tc : Thread Cert.CtxMixOutDxIdeal.nD Cert.CtxMixOutDxIdeal.τ).loc Cert.CtxMixOutDxIdeal.main_arg1))
      ∧ r.2.sem = fun _ => 0)

def quiescent_CtxMixOutDxRefIdeal [hCtxMixOutDxRefIdeal : Cert.CtxMixOutDxRefIdeal.Facts] : Prop :=
  ∀ (m : (ℓ : Loc Cert.CtxMixOutDxRefIdeal.nD Cert.CtxMixOutDxRefIdeal.τ Cert.CtxMixOutDxRefIdeal.sig) → Buf (Elt Ideal) ℓ) (g : Dev Cert.CtxMixOutDxRefIdeal.nD → PrngReg), Pre_CtxMixOutDxRefIdeal m →
    θ_run (Cert.CtxMixOutDxRefIdeal.defs (F := Ideal)) (onTc (τ := Cert.CtxMixOutDxRefIdeal.τ) (Cert.CtxMixOutDxRefIdeal.main (F := Ideal))) ⟨m, fun _ => 0, g⟩ (fun r => (∀ c : Dev Cert.CtxMixOutDxRefIdeal.nD,
      r.2.mem ((c.tc : Thread Cert.CtxMixOutDxRefIdeal.nD Cert.CtxMixOutDxRefIdeal.τ).loc Cert.CtxMixOutDxRefIdeal.main_arg0) = m ((c.tc : Thread Cert.CtxMixOutDxRefIdeal.nD Cert.CtxMixOutDxRefIdeal.τ).loc Cert.CtxMixOutDxRefIdeal.main_arg0)
      ∧ r.2.mem ((c.tc : Thread Cert.CtxMixOutDxRefIdeal.nD Cert.CtxMixOutDxRefIdeal.τ).loc Cert.CtxMixOutDxRefIdeal.main_arg1) = m ((c.tc : Thread Cert.CtxMixOutDxRefIdeal.nD Cert.CtxMixOutDxRefIdeal.τ).loc Cert.CtxMixOutDxRefIdeal.main_arg1))
      ∧ r.2.sem = fun _ => 0)

def quiescent_CtxMixOutDw [hCtxMixOutDw : Cert.CtxMixOutDw.Facts] : Prop :=
  ∀ (m : (ℓ : Loc Cert.CtxMixOutDw.nD Cert.CtxMixOutDw.τ Cert.CtxMixOutDw.sig) → Buf (Elt Bits) ℓ) (g : Dev Cert.CtxMixOutDw.nD → PrngReg), Pre_CtxMixOutDw m →
    θ_run (Cert.CtxMixOutDw.defs (F := Bits)) (onTc (τ := Cert.CtxMixOutDw.τ) (Cert.CtxMixOutDw.main (F := Bits))) ⟨m, fun _ => 0, g⟩ (fun r => (∀ c : Dev Cert.CtxMixOutDw.nD,
      r.2.mem ((c.tc : Thread Cert.CtxMixOutDw.nD Cert.CtxMixOutDw.τ).loc Cert.CtxMixOutDw.main_arg0) = m ((c.tc : Thread Cert.CtxMixOutDw.nD Cert.CtxMixOutDw.τ).loc Cert.CtxMixOutDw.main_arg0)
      ∧ r.2.mem ((c.tc : Thread Cert.CtxMixOutDw.nD Cert.CtxMixOutDw.τ).loc Cert.CtxMixOutDw.main_arg1) = m ((c.tc : Thread Cert.CtxMixOutDw.nD Cert.CtxMixOutDw.τ).loc Cert.CtxMixOutDw.main_arg1)
      ∧ r.2.mem ((c.tc : Thread Cert.CtxMixOutDw.nD Cert.CtxMixOutDw.τ).loc Cert.CtxMixOutDw.main_arg2) = m ((c.tc : Thread Cert.CtxMixOutDw.nD Cert.CtxMixOutDw.τ).loc Cert.CtxMixOutDw.main_arg2))
      ∧ r.2.sem = fun _ => 0)

def quiescent_CtxMixOutDwIdeal [hCtxMixOutDwIdeal : Cert.CtxMixOutDwIdeal.Facts] : Prop :=
  ∀ (m : (ℓ : Loc Cert.CtxMixOutDwIdeal.nD Cert.CtxMixOutDwIdeal.τ Cert.CtxMixOutDwIdeal.sig) → Buf (Elt Ideal) ℓ) (g : Dev Cert.CtxMixOutDwIdeal.nD → PrngReg), Pre_CtxMixOutDwIdeal m →
    θ_run (Cert.CtxMixOutDwIdeal.defs (F := Ideal)) (onTc (τ := Cert.CtxMixOutDwIdeal.τ) (Cert.CtxMixOutDwIdeal.main (F := Ideal))) ⟨m, fun _ => 0, g⟩ (fun r => (∀ c : Dev Cert.CtxMixOutDwIdeal.nD,
      r.2.mem ((c.tc : Thread Cert.CtxMixOutDwIdeal.nD Cert.CtxMixOutDwIdeal.τ).loc Cert.CtxMixOutDwIdeal.main_arg0) = m ((c.tc : Thread Cert.CtxMixOutDwIdeal.nD Cert.CtxMixOutDwIdeal.τ).loc Cert.CtxMixOutDwIdeal.main_arg0)
      ∧ r.2.mem ((c.tc : Thread Cert.CtxMixOutDwIdeal.nD Cert.CtxMixOutDwIdeal.τ).loc Cert.CtxMixOutDwIdeal.main_arg1) = m ((c.tc : Thread Cert.CtxMixOutDwIdeal.nD Cert.CtxMixOutDwIdeal.τ).loc Cert.CtxMixOutDwIdeal.main_arg1)
      ∧ r.2.mem ((c.tc : Thread Cert.CtxMixOutDwIdeal.nD Cert.CtxMixOutDwIdeal.τ).loc Cert.CtxMixOutDwIdeal.main_arg2) = m ((c.tc : Thread Cert.CtxMixOutDwIdeal.nD Cert.CtxMixOutDwIdeal.τ).loc Cert.CtxMixOutDwIdeal.main_arg2))
      ∧ r.2.sem = fun _ => 0)

def quiescent_CtxMixOutDwRefIdeal [hCtxMixOutDwRefIdeal : Cert.CtxMixOutDwRefIdeal.Facts] : Prop :=
  ∀ (m : (ℓ : Loc Cert.CtxMixOutDwRefIdeal.nD Cert.CtxMixOutDwRefIdeal.τ Cert.CtxMixOutDwRefIdeal.sig) → Buf (Elt Ideal) ℓ) (g : Dev Cert.CtxMixOutDwRefIdeal.nD → PrngReg), Pre_CtxMixOutDwRefIdeal m →
    θ_run (Cert.CtxMixOutDwRefIdeal.defs (F := Ideal)) (onTc (τ := Cert.CtxMixOutDwRefIdeal.τ) (Cert.CtxMixOutDwRefIdeal.main (F := Ideal))) ⟨m, fun _ => 0, g⟩ (fun r => (∀ c : Dev Cert.CtxMixOutDwRefIdeal.nD,
      r.2.mem ((c.tc : Thread Cert.CtxMixOutDwRefIdeal.nD Cert.CtxMixOutDwRefIdeal.τ).loc Cert.CtxMixOutDwRefIdeal.main_arg0) = m ((c.tc : Thread Cert.CtxMixOutDwRefIdeal.nD Cert.CtxMixOutDwRefIdeal.τ).loc Cert.CtxMixOutDwRefIdeal.main_arg0)
      ∧ r.2.mem ((c.tc : Thread Cert.CtxMixOutDwRefIdeal.nD Cert.CtxMixOutDwRefIdeal.τ).loc Cert.CtxMixOutDwRefIdeal.main_arg1) = m ((c.tc : Thread Cert.CtxMixOutDwRefIdeal.nD Cert.CtxMixOutDwRefIdeal.τ).loc Cert.CtxMixOutDwRefIdeal.main_arg1)
      ∧ r.2.mem ((c.tc : Thread Cert.CtxMixOutDwRefIdeal.nD Cert.CtxMixOutDwRefIdeal.τ).loc Cert.CtxMixOutDwRefIdeal.main_arg2) = m ((c.tc : Thread Cert.CtxMixOutDwRefIdeal.nD Cert.CtxMixOutDwRefIdeal.τ).loc Cert.CtxMixOutDwRefIdeal.main_arg2))
      ∧ r.2.sem = fun _ => 0)

def quiescent_CtxKvDx [hCtxKvDx : Cert.CtxKvDx.Facts] : Prop :=
  ∀ (m : (ℓ : Loc Cert.CtxKvDx.nD Cert.CtxKvDx.τ Cert.CtxKvDx.sig) → Buf (Elt Bits) ℓ) (g : Dev Cert.CtxKvDx.nD → PrngReg), Pre_CtxKvDx m →
    θ_run (Cert.CtxKvDx.defs (F := Bits)) (onTc (τ := Cert.CtxKvDx.τ) (Cert.CtxKvDx.main (F := Bits))) ⟨m, fun _ => 0, g⟩ (fun r => (∀ c : Dev Cert.CtxKvDx.nD,
      r.2.mem ((c.tc : Thread Cert.CtxKvDx.nD Cert.CtxKvDx.τ).loc Cert.CtxKvDx.main_arg0) = m ((c.tc : Thread Cert.CtxKvDx.nD Cert.CtxKvDx.τ).loc Cert.CtxKvDx.main_arg0)
      ∧ r.2.mem ((c.tc : Thread Cert.CtxKvDx.nD Cert.CtxKvDx.τ).loc Cert.CtxKvDx.main_arg1) = m ((c.tc : Thread Cert.CtxKvDx.nD Cert.CtxKvDx.τ).loc Cert.CtxKvDx.main_arg1))
      ∧ r.2.sem = fun _ => 0)

def quiescent_CtxKvDxIdeal [hCtxKvDxIdeal : Cert.CtxKvDxIdeal.Facts] : Prop :=
  ∀ (m : (ℓ : Loc Cert.CtxKvDxIdeal.nD Cert.CtxKvDxIdeal.τ Cert.CtxKvDxIdeal.sig) → Buf (Elt Ideal) ℓ) (g : Dev Cert.CtxKvDxIdeal.nD → PrngReg), Pre_CtxKvDxIdeal m →
    θ_run (Cert.CtxKvDxIdeal.defs (F := Ideal)) (onTc (τ := Cert.CtxKvDxIdeal.τ) (Cert.CtxKvDxIdeal.main (F := Ideal))) ⟨m, fun _ => 0, g⟩ (fun r => (∀ c : Dev Cert.CtxKvDxIdeal.nD,
      r.2.mem ((c.tc : Thread Cert.CtxKvDxIdeal.nD Cert.CtxKvDxIdeal.τ).loc Cert.CtxKvDxIdeal.main_arg0) = m ((c.tc : Thread Cert.CtxKvDxIdeal.nD Cert.CtxKvDxIdeal.τ).loc Cert.CtxKvDxIdeal.main_arg0)
      ∧ r.2.mem ((c.tc : Thread Cert.CtxKvDxIdeal.nD Cert.CtxKvDxIdeal.τ).loc Cert.CtxKvDxIdeal.main_arg1) = m ((c.tc : Thread Cert.CtxKvDxIdeal.nD Cert.CtxKvDxIdeal.τ).loc Cert.CtxKvDxIdeal.main_arg1))
      ∧ r.2.sem = fun _ => 0)

def quiescent_CtxKvDxRefIdeal [hCtxKvDxRefIdeal : Cert.CtxKvDxRefIdeal.Facts] : Prop :=
  ∀ (m : (ℓ : Loc Cert.CtxKvDxRefIdeal.nD Cert.CtxKvDxRefIdeal.τ Cert.CtxKvDxRefIdeal.sig) → Buf (Elt Ideal) ℓ) (g : Dev Cert.CtxKvDxRefIdeal.nD → PrngReg), Pre_CtxKvDxRefIdeal m →
    θ_run (Cert.CtxKvDxRefIdeal.defs (F := Ideal)) (onTc (τ := Cert.CtxKvDxRefIdeal.τ) (Cert.CtxKvDxRefIdeal.main (F := Ideal))) ⟨m, fun _ => 0, g⟩ (fun r => (∀ c : Dev Cert.CtxKvDxRefIdeal.nD,
      r.2.mem ((c.tc : Thread Cert.CtxKvDxRefIdeal.nD Cert.CtxKvDxRefIdeal.τ).loc Cert.CtxKvDxRefIdeal.main_arg0) = m ((c.tc : Thread Cert.CtxKvDxRefIdeal.nD Cert.CtxKvDxRefIdeal.τ).loc Cert.CtxKvDxRefIdeal.main_arg0)
      ∧ r.2.mem ((c.tc : Thread Cert.CtxKvDxRefIdeal.nD Cert.CtxKvDxRefIdeal.τ).loc Cert.CtxKvDxRefIdeal.main_arg1) = m ((c.tc : Thread Cert.CtxKvDxRefIdeal.nD Cert.CtxKvDxRefIdeal.τ).loc Cert.CtxKvDxRefIdeal.main_arg1))
      ∧ r.2.sem = fun _ => 0)

def quiescent_CtxKvDw [hCtxKvDw : Cert.CtxKvDw.Facts] : Prop :=
  ∀ (m : (ℓ : Loc Cert.CtxKvDw.nD Cert.CtxKvDw.τ Cert.CtxKvDw.sig) → Buf (Elt Bits) ℓ) (g : Dev Cert.CtxKvDw.nD → PrngReg), Pre_CtxKvDw m →
    θ_run (Cert.CtxKvDw.defs (F := Bits)) (onTc (τ := Cert.CtxKvDw.τ) (Cert.CtxKvDw.main (F := Bits))) ⟨m, fun _ => 0, g⟩ (fun r => (∀ c : Dev Cert.CtxKvDw.nD,
      r.2.mem ((c.tc : Thread Cert.CtxKvDw.nD Cert.CtxKvDw.τ).loc Cert.CtxKvDw.main_arg0) = m ((c.tc : Thread Cert.CtxKvDw.nD Cert.CtxKvDw.τ).loc Cert.CtxKvDw.main_arg0)
      ∧ r.2.mem ((c.tc : Thread Cert.CtxKvDw.nD Cert.CtxKvDw.τ).loc Cert.CtxKvDw.main_arg1) = m ((c.tc : Thread Cert.CtxKvDw.nD Cert.CtxKvDw.τ).loc Cert.CtxKvDw.main_arg1))
      ∧ r.2.sem = fun _ => 0)

def quiescent_CtxKvDwIdeal [hCtxKvDwIdeal : Cert.CtxKvDwIdeal.Facts] : Prop :=
  ∀ (m : (ℓ : Loc Cert.CtxKvDwIdeal.nD Cert.CtxKvDwIdeal.τ Cert.CtxKvDwIdeal.sig) → Buf (Elt Ideal) ℓ) (g : Dev Cert.CtxKvDwIdeal.nD → PrngReg), Pre_CtxKvDwIdeal m →
    θ_run (Cert.CtxKvDwIdeal.defs (F := Ideal)) (onTc (τ := Cert.CtxKvDwIdeal.τ) (Cert.CtxKvDwIdeal.main (F := Ideal))) ⟨m, fun _ => 0, g⟩ (fun r => (∀ c : Dev Cert.CtxKvDwIdeal.nD,
      r.2.mem ((c.tc : Thread Cert.CtxKvDwIdeal.nD Cert.CtxKvDwIdeal.τ).loc Cert.CtxKvDwIdeal.main_arg0) = m ((c.tc : Thread Cert.CtxKvDwIdeal.nD Cert.CtxKvDwIdeal.τ).loc Cert.CtxKvDwIdeal.main_arg0)
      ∧ r.2.mem ((c.tc : Thread Cert.CtxKvDwIdeal.nD Cert.CtxKvDwIdeal.τ).loc Cert.CtxKvDwIdeal.main_arg1) = m ((c.tc : Thread Cert.CtxKvDwIdeal.nD Cert.CtxKvDwIdeal.τ).loc Cert.CtxKvDwIdeal.main_arg1))
      ∧ r.2.sem = fun _ => 0)

def quiescent_CtxKvDwRefIdeal [hCtxKvDwRefIdeal : Cert.CtxKvDwRefIdeal.Facts] : Prop :=
  ∀ (m : (ℓ : Loc Cert.CtxKvDwRefIdeal.nD Cert.CtxKvDwRefIdeal.τ Cert.CtxKvDwRefIdeal.sig) → Buf (Elt Ideal) ℓ) (g : Dev Cert.CtxKvDwRefIdeal.nD → PrngReg), Pre_CtxKvDwRefIdeal m →
    θ_run (Cert.CtxKvDwRefIdeal.defs (F := Ideal)) (onTc (τ := Cert.CtxKvDwRefIdeal.τ) (Cert.CtxKvDwRefIdeal.main (F := Ideal))) ⟨m, fun _ => 0, g⟩ (fun r => (∀ c : Dev Cert.CtxKvDwRefIdeal.nD,
      r.2.mem ((c.tc : Thread Cert.CtxKvDwRefIdeal.nD Cert.CtxKvDwRefIdeal.τ).loc Cert.CtxKvDwRefIdeal.main_arg0) = m ((c.tc : Thread Cert.CtxKvDwRefIdeal.nD Cert.CtxKvDwRefIdeal.τ).loc Cert.CtxKvDwRefIdeal.main_arg0)
      ∧ r.2.mem ((c.tc : Thread Cert.CtxKvDwRefIdeal.nD Cert.CtxKvDwRefIdeal.τ).loc Cert.CtxKvDwRefIdeal.main_arg1) = m ((c.tc : Thread Cert.CtxKvDwRefIdeal.nD Cert.CtxKvDwRefIdeal.τ).loc Cert.CtxKvDwRefIdeal.main_arg1))
      ∧ r.2.sem = fun _ => 0)

def quiescent_CtxFfnIn [hCtxFfnIn : Cert.CtxFfnIn.Facts] : Prop :=
  ∀ (m : (ℓ : Loc Cert.CtxFfnIn.nD Cert.CtxFfnIn.τ Cert.CtxFfnIn.sig) → Buf (Elt Bits) ℓ) (g : Dev Cert.CtxFfnIn.nD → PrngReg), Pre_CtxFfnIn m →
    θ_run (Cert.CtxFfnIn.defs (F := Bits)) (onTc (τ := Cert.CtxFfnIn.τ) (Cert.CtxFfnIn.main (F := Bits))) ⟨m, fun _ => 0, g⟩ (fun r => (∀ c : Dev Cert.CtxFfnIn.nD,
      r.2.mem ((c.tc : Thread Cert.CtxFfnIn.nD Cert.CtxFfnIn.τ).loc Cert.CtxFfnIn.main_arg0) = m ((c.tc : Thread Cert.CtxFfnIn.nD Cert.CtxFfnIn.τ).loc Cert.CtxFfnIn.main_arg0)
      ∧ r.2.mem ((c.tc : Thread Cert.CtxFfnIn.nD Cert.CtxFfnIn.τ).loc Cert.CtxFfnIn.main_arg1) = m ((c.tc : Thread Cert.CtxFfnIn.nD Cert.CtxFfnIn.τ).loc Cert.CtxFfnIn.main_arg1))
      ∧ r.2.sem = fun _ => 0)

def quiescent_CtxFfnInIdeal [hCtxFfnInIdeal : Cert.CtxFfnInIdeal.Facts] : Prop :=
  ∀ (m : (ℓ : Loc Cert.CtxFfnInIdeal.nD Cert.CtxFfnInIdeal.τ Cert.CtxFfnInIdeal.sig) → Buf (Elt Ideal) ℓ) (g : Dev Cert.CtxFfnInIdeal.nD → PrngReg), Pre_CtxFfnInIdeal m →
    θ_run (Cert.CtxFfnInIdeal.defs (F := Ideal)) (onTc (τ := Cert.CtxFfnInIdeal.τ) (Cert.CtxFfnInIdeal.main (F := Ideal))) ⟨m, fun _ => 0, g⟩ (fun r => (∀ c : Dev Cert.CtxFfnInIdeal.nD,
      r.2.mem ((c.tc : Thread Cert.CtxFfnInIdeal.nD Cert.CtxFfnInIdeal.τ).loc Cert.CtxFfnInIdeal.main_arg0) = m ((c.tc : Thread Cert.CtxFfnInIdeal.nD Cert.CtxFfnInIdeal.τ).loc Cert.CtxFfnInIdeal.main_arg0)
      ∧ r.2.mem ((c.tc : Thread Cert.CtxFfnInIdeal.nD Cert.CtxFfnInIdeal.τ).loc Cert.CtxFfnInIdeal.main_arg1) = m ((c.tc : Thread Cert.CtxFfnInIdeal.nD Cert.CtxFfnInIdeal.τ).loc Cert.CtxFfnInIdeal.main_arg1))
      ∧ r.2.sem = fun _ => 0)

def quiescent_CtxFfnInRefIdeal [hCtxFfnInRefIdeal : Cert.CtxFfnInRefIdeal.Facts] : Prop :=
  ∀ (m : (ℓ : Loc Cert.CtxFfnInRefIdeal.nD Cert.CtxFfnInRefIdeal.τ Cert.CtxFfnInRefIdeal.sig) → Buf (Elt Ideal) ℓ) (g : Dev Cert.CtxFfnInRefIdeal.nD → PrngReg), Pre_CtxFfnInRefIdeal m →
    θ_run (Cert.CtxFfnInRefIdeal.defs (F := Ideal)) (onTc (τ := Cert.CtxFfnInRefIdeal.τ) (Cert.CtxFfnInRefIdeal.main (F := Ideal))) ⟨m, fun _ => 0, g⟩ (fun r => (∀ c : Dev Cert.CtxFfnInRefIdeal.nD,
      r.2.mem ((c.tc : Thread Cert.CtxFfnInRefIdeal.nD Cert.CtxFfnInRefIdeal.τ).loc Cert.CtxFfnInRefIdeal.main_arg0) = m ((c.tc : Thread Cert.CtxFfnInRefIdeal.nD Cert.CtxFfnInRefIdeal.τ).loc Cert.CtxFfnInRefIdeal.main_arg0)
      ∧ r.2.mem ((c.tc : Thread Cert.CtxFfnInRefIdeal.nD Cert.CtxFfnInRefIdeal.τ).loc Cert.CtxFfnInRefIdeal.main_arg1) = m ((c.tc : Thread Cert.CtxFfnInRefIdeal.nD Cert.CtxFfnInRefIdeal.τ).loc Cert.CtxFfnInRefIdeal.main_arg1))
      ∧ r.2.sem = fun _ => 0)

def quiescent_CtxFfnOut [hCtxFfnOut : Cert.CtxFfnOut.Facts] : Prop :=
  ∀ (m : (ℓ : Loc Cert.CtxFfnOut.nD Cert.CtxFfnOut.τ Cert.CtxFfnOut.sig) → Buf (Elt Bits) ℓ) (g : Dev Cert.CtxFfnOut.nD → PrngReg), Pre_CtxFfnOut m →
    θ_run (Cert.CtxFfnOut.defs (F := Bits)) (onTc (τ := Cert.CtxFfnOut.τ) (Cert.CtxFfnOut.main (F := Bits))) ⟨m, fun _ => 0, g⟩ (fun r => (∀ c : Dev Cert.CtxFfnOut.nD,
      r.2.mem ((c.tc : Thread Cert.CtxFfnOut.nD Cert.CtxFfnOut.τ).loc Cert.CtxFfnOut.main_arg0) = m ((c.tc : Thread Cert.CtxFfnOut.nD Cert.CtxFfnOut.τ).loc Cert.CtxFfnOut.main_arg0)
      ∧ r.2.mem ((c.tc : Thread Cert.CtxFfnOut.nD Cert.CtxFfnOut.τ).loc Cert.CtxFfnOut.main_arg1) = m ((c.tc : Thread Cert.CtxFfnOut.nD Cert.CtxFfnOut.τ).loc Cert.CtxFfnOut.main_arg1))
      ∧ r.2.sem = fun _ => 0)

def quiescent_CtxFfnOutIdeal [hCtxFfnOutIdeal : Cert.CtxFfnOutIdeal.Facts] : Prop :=
  ∀ (m : (ℓ : Loc Cert.CtxFfnOutIdeal.nD Cert.CtxFfnOutIdeal.τ Cert.CtxFfnOutIdeal.sig) → Buf (Elt Ideal) ℓ) (g : Dev Cert.CtxFfnOutIdeal.nD → PrngReg), Pre_CtxFfnOutIdeal m →
    θ_run (Cert.CtxFfnOutIdeal.defs (F := Ideal)) (onTc (τ := Cert.CtxFfnOutIdeal.τ) (Cert.CtxFfnOutIdeal.main (F := Ideal))) ⟨m, fun _ => 0, g⟩ (fun r => (∀ c : Dev Cert.CtxFfnOutIdeal.nD,
      r.2.mem ((c.tc : Thread Cert.CtxFfnOutIdeal.nD Cert.CtxFfnOutIdeal.τ).loc Cert.CtxFfnOutIdeal.main_arg0) = m ((c.tc : Thread Cert.CtxFfnOutIdeal.nD Cert.CtxFfnOutIdeal.τ).loc Cert.CtxFfnOutIdeal.main_arg0)
      ∧ r.2.mem ((c.tc : Thread Cert.CtxFfnOutIdeal.nD Cert.CtxFfnOutIdeal.τ).loc Cert.CtxFfnOutIdeal.main_arg1) = m ((c.tc : Thread Cert.CtxFfnOutIdeal.nD Cert.CtxFfnOutIdeal.τ).loc Cert.CtxFfnOutIdeal.main_arg1))
      ∧ r.2.sem = fun _ => 0)

def quiescent_CtxFfnOutRefIdeal [hCtxFfnOutRefIdeal : Cert.CtxFfnOutRefIdeal.Facts] : Prop :=
  ∀ (m : (ℓ : Loc Cert.CtxFfnOutRefIdeal.nD Cert.CtxFfnOutRefIdeal.τ Cert.CtxFfnOutRefIdeal.sig) → Buf (Elt Ideal) ℓ) (g : Dev Cert.CtxFfnOutRefIdeal.nD → PrngReg), Pre_CtxFfnOutRefIdeal m →
    θ_run (Cert.CtxFfnOutRefIdeal.defs (F := Ideal)) (onTc (τ := Cert.CtxFfnOutRefIdeal.τ) (Cert.CtxFfnOutRefIdeal.main (F := Ideal))) ⟨m, fun _ => 0, g⟩ (fun r => (∀ c : Dev Cert.CtxFfnOutRefIdeal.nD,
      r.2.mem ((c.tc : Thread Cert.CtxFfnOutRefIdeal.nD Cert.CtxFfnOutRefIdeal.τ).loc Cert.CtxFfnOutRefIdeal.main_arg0) = m ((c.tc : Thread Cert.CtxFfnOutRefIdeal.nD Cert.CtxFfnOutRefIdeal.τ).loc Cert.CtxFfnOutRefIdeal.main_arg0)
      ∧ r.2.mem ((c.tc : Thread Cert.CtxFfnOutRefIdeal.nD Cert.CtxFfnOutRefIdeal.τ).loc Cert.CtxFfnOutRefIdeal.main_arg1) = m ((c.tc : Thread Cert.CtxFfnOutRefIdeal.nD Cert.CtxFfnOutRefIdeal.τ).loc Cert.CtxFfnOutRefIdeal.main_arg1))
      ∧ r.2.sem = fun _ => 0)

def quiescent_CtxMixIn [hCtxMixIn : Cert.CtxMixIn.Facts] : Prop :=
  ∀ (m : (ℓ : Loc Cert.CtxMixIn.nD Cert.CtxMixIn.τ Cert.CtxMixIn.sig) → Buf (Elt Bits) ℓ) (g : Dev Cert.CtxMixIn.nD → PrngReg), Pre_CtxMixIn m →
    θ_run (Cert.CtxMixIn.defs (F := Bits)) (onTc (τ := Cert.CtxMixIn.τ) (Cert.CtxMixIn.main (F := Bits))) ⟨m, fun _ => 0, g⟩ (fun r => (∀ c : Dev Cert.CtxMixIn.nD,
      r.2.mem ((c.tc : Thread Cert.CtxMixIn.nD Cert.CtxMixIn.τ).loc Cert.CtxMixIn.main_arg0) = m ((c.tc : Thread Cert.CtxMixIn.nD Cert.CtxMixIn.τ).loc Cert.CtxMixIn.main_arg0)
      ∧ r.2.mem ((c.tc : Thread Cert.CtxMixIn.nD Cert.CtxMixIn.τ).loc Cert.CtxMixIn.main_arg1) = m ((c.tc : Thread Cert.CtxMixIn.nD Cert.CtxMixIn.τ).loc Cert.CtxMixIn.main_arg1))
      ∧ r.2.sem = fun _ => 0)

def quiescent_CtxMixInIdeal [hCtxMixInIdeal : Cert.CtxMixInIdeal.Facts] : Prop :=
  ∀ (m : (ℓ : Loc Cert.CtxMixInIdeal.nD Cert.CtxMixInIdeal.τ Cert.CtxMixInIdeal.sig) → Buf (Elt Ideal) ℓ) (g : Dev Cert.CtxMixInIdeal.nD → PrngReg), Pre_CtxMixInIdeal m →
    θ_run (Cert.CtxMixInIdeal.defs (F := Ideal)) (onTc (τ := Cert.CtxMixInIdeal.τ) (Cert.CtxMixInIdeal.main (F := Ideal))) ⟨m, fun _ => 0, g⟩ (fun r => (∀ c : Dev Cert.CtxMixInIdeal.nD,
      r.2.mem ((c.tc : Thread Cert.CtxMixInIdeal.nD Cert.CtxMixInIdeal.τ).loc Cert.CtxMixInIdeal.main_arg0) = m ((c.tc : Thread Cert.CtxMixInIdeal.nD Cert.CtxMixInIdeal.τ).loc Cert.CtxMixInIdeal.main_arg0)
      ∧ r.2.mem ((c.tc : Thread Cert.CtxMixInIdeal.nD Cert.CtxMixInIdeal.τ).loc Cert.CtxMixInIdeal.main_arg1) = m ((c.tc : Thread Cert.CtxMixInIdeal.nD Cert.CtxMixInIdeal.τ).loc Cert.CtxMixInIdeal.main_arg1))
      ∧ r.2.sem = fun _ => 0)

def quiescent_CtxMixInRefIdeal [hCtxMixInRefIdeal : Cert.CtxMixInRefIdeal.Facts] : Prop :=
  ∀ (m : (ℓ : Loc Cert.CtxMixInRefIdeal.nD Cert.CtxMixInRefIdeal.τ Cert.CtxMixInRefIdeal.sig) → Buf (Elt Ideal) ℓ) (g : Dev Cert.CtxMixInRefIdeal.nD → PrngReg), Pre_CtxMixInRefIdeal m →
    θ_run (Cert.CtxMixInRefIdeal.defs (F := Ideal)) (onTc (τ := Cert.CtxMixInRefIdeal.τ) (Cert.CtxMixInRefIdeal.main (F := Ideal))) ⟨m, fun _ => 0, g⟩ (fun r => (∀ c : Dev Cert.CtxMixInRefIdeal.nD,
      r.2.mem ((c.tc : Thread Cert.CtxMixInRefIdeal.nD Cert.CtxMixInRefIdeal.τ).loc Cert.CtxMixInRefIdeal.main_arg0) = m ((c.tc : Thread Cert.CtxMixInRefIdeal.nD Cert.CtxMixInRefIdeal.τ).loc Cert.CtxMixInRefIdeal.main_arg0)
      ∧ r.2.mem ((c.tc : Thread Cert.CtxMixInRefIdeal.nD Cert.CtxMixInRefIdeal.τ).loc Cert.CtxMixInRefIdeal.main_arg1) = m ((c.tc : Thread Cert.CtxMixInRefIdeal.nD Cert.CtxMixInRefIdeal.τ).loc Cert.CtxMixInRefIdeal.main_arg1))
      ∧ r.2.sem = fun _ => 0)

def quiescent_CtxMixOut [hCtxMixOut : Cert.CtxMixOut.Facts] : Prop :=
  ∀ (m : (ℓ : Loc Cert.CtxMixOut.nD Cert.CtxMixOut.τ Cert.CtxMixOut.sig) → Buf (Elt Bits) ℓ) (g : Dev Cert.CtxMixOut.nD → PrngReg), Pre_CtxMixOut m →
    θ_run (Cert.CtxMixOut.defs (F := Bits)) (onTc (τ := Cert.CtxMixOut.τ) (Cert.CtxMixOut.main (F := Bits))) ⟨m, fun _ => 0, g⟩ (fun r => (∀ c : Dev Cert.CtxMixOut.nD,
      r.2.mem ((c.tc : Thread Cert.CtxMixOut.nD Cert.CtxMixOut.τ).loc Cert.CtxMixOut.main_arg0) = m ((c.tc : Thread Cert.CtxMixOut.nD Cert.CtxMixOut.τ).loc Cert.CtxMixOut.main_arg0)
      ∧ r.2.mem ((c.tc : Thread Cert.CtxMixOut.nD Cert.CtxMixOut.τ).loc Cert.CtxMixOut.main_arg1) = m ((c.tc : Thread Cert.CtxMixOut.nD Cert.CtxMixOut.τ).loc Cert.CtxMixOut.main_arg1))
      ∧ r.2.sem = fun _ => 0)

def quiescent_CtxMixOutIdeal [hCtxMixOutIdeal : Cert.CtxMixOutIdeal.Facts] : Prop :=
  ∀ (m : (ℓ : Loc Cert.CtxMixOutIdeal.nD Cert.CtxMixOutIdeal.τ Cert.CtxMixOutIdeal.sig) → Buf (Elt Ideal) ℓ) (g : Dev Cert.CtxMixOutIdeal.nD → PrngReg), Pre_CtxMixOutIdeal m →
    θ_run (Cert.CtxMixOutIdeal.defs (F := Ideal)) (onTc (τ := Cert.CtxMixOutIdeal.τ) (Cert.CtxMixOutIdeal.main (F := Ideal))) ⟨m, fun _ => 0, g⟩ (fun r => (∀ c : Dev Cert.CtxMixOutIdeal.nD,
      r.2.mem ((c.tc : Thread Cert.CtxMixOutIdeal.nD Cert.CtxMixOutIdeal.τ).loc Cert.CtxMixOutIdeal.main_arg0) = m ((c.tc : Thread Cert.CtxMixOutIdeal.nD Cert.CtxMixOutIdeal.τ).loc Cert.CtxMixOutIdeal.main_arg0)
      ∧ r.2.mem ((c.tc : Thread Cert.CtxMixOutIdeal.nD Cert.CtxMixOutIdeal.τ).loc Cert.CtxMixOutIdeal.main_arg1) = m ((c.tc : Thread Cert.CtxMixOutIdeal.nD Cert.CtxMixOutIdeal.τ).loc Cert.CtxMixOutIdeal.main_arg1))
      ∧ r.2.sem = fun _ => 0)

def quiescent_CtxMixOutRefIdeal [hCtxMixOutRefIdeal : Cert.CtxMixOutRefIdeal.Facts] : Prop :=
  ∀ (m : (ℓ : Loc Cert.CtxMixOutRefIdeal.nD Cert.CtxMixOutRefIdeal.τ Cert.CtxMixOutRefIdeal.sig) → Buf (Elt Ideal) ℓ) (g : Dev Cert.CtxMixOutRefIdeal.nD → PrngReg), Pre_CtxMixOutRefIdeal m →
    θ_run (Cert.CtxMixOutRefIdeal.defs (F := Ideal)) (onTc (τ := Cert.CtxMixOutRefIdeal.τ) (Cert.CtxMixOutRefIdeal.main (F := Ideal))) ⟨m, fun _ => 0, g⟩ (fun r => (∀ c : Dev Cert.CtxMixOutRefIdeal.nD,
      r.2.mem ((c.tc : Thread Cert.CtxMixOutRefIdeal.nD Cert.CtxMixOutRefIdeal.τ).loc Cert.CtxMixOutRefIdeal.main_arg0) = m ((c.tc : Thread Cert.CtxMixOutRefIdeal.nD Cert.CtxMixOutRefIdeal.τ).loc Cert.CtxMixOutRefIdeal.main_arg0)
      ∧ r.2.mem ((c.tc : Thread Cert.CtxMixOutRefIdeal.nD Cert.CtxMixOutRefIdeal.τ).loc Cert.CtxMixOutRefIdeal.main_arg1) = m ((c.tc : Thread Cert.CtxMixOutRefIdeal.nD Cert.CtxMixOutRefIdeal.τ).loc Cert.CtxMixOutRefIdeal.main_arg1))
      ∧ r.2.sem = fun _ => 0)

def quiescent_CtxKv [hCtxKv : Cert.CtxKv.Facts] : Prop :=
  ∀ (m : (ℓ : Loc Cert.CtxKv.nD Cert.CtxKv.τ Cert.CtxKv.sig) → Buf (Elt Bits) ℓ) (g : Dev Cert.CtxKv.nD → PrngReg), Pre_CtxKv m →
    θ_run (Cert.CtxKv.defs (F := Bits)) (onTc (τ := Cert.CtxKv.τ) (Cert.CtxKv.main (F := Bits))) ⟨m, fun _ => 0, g⟩ (fun r => (∀ c : Dev Cert.CtxKv.nD,
      r.2.mem ((c.tc : Thread Cert.CtxKv.nD Cert.CtxKv.τ).loc Cert.CtxKv.main_arg0) = m ((c.tc : Thread Cert.CtxKv.nD Cert.CtxKv.τ).loc Cert.CtxKv.main_arg0)
      ∧ r.2.mem ((c.tc : Thread Cert.CtxKv.nD Cert.CtxKv.τ).loc Cert.CtxKv.main_arg1) = m ((c.tc : Thread Cert.CtxKv.nD Cert.CtxKv.τ).loc Cert.CtxKv.main_arg1))
      ∧ r.2.sem = fun _ => 0)

def quiescent_CtxKvIdeal [hCtxKvIdeal : Cert.CtxKvIdeal.Facts] : Prop :=
  ∀ (m : (ℓ : Loc Cert.CtxKvIdeal.nD Cert.CtxKvIdeal.τ Cert.CtxKvIdeal.sig) → Buf (Elt Ideal) ℓ) (g : Dev Cert.CtxKvIdeal.nD → PrngReg), Pre_CtxKvIdeal m →
    θ_run (Cert.CtxKvIdeal.defs (F := Ideal)) (onTc (τ := Cert.CtxKvIdeal.τ) (Cert.CtxKvIdeal.main (F := Ideal))) ⟨m, fun _ => 0, g⟩ (fun r => (∀ c : Dev Cert.CtxKvIdeal.nD,
      r.2.mem ((c.tc : Thread Cert.CtxKvIdeal.nD Cert.CtxKvIdeal.τ).loc Cert.CtxKvIdeal.main_arg0) = m ((c.tc : Thread Cert.CtxKvIdeal.nD Cert.CtxKvIdeal.τ).loc Cert.CtxKvIdeal.main_arg0)
      ∧ r.2.mem ((c.tc : Thread Cert.CtxKvIdeal.nD Cert.CtxKvIdeal.τ).loc Cert.CtxKvIdeal.main_arg1) = m ((c.tc : Thread Cert.CtxKvIdeal.nD Cert.CtxKvIdeal.τ).loc Cert.CtxKvIdeal.main_arg1))
      ∧ r.2.sem = fun _ => 0)

def quiescent_CtxKvRefIdeal [hCtxKvRefIdeal : Cert.CtxKvRefIdeal.Facts] : Prop :=
  ∀ (m : (ℓ : Loc Cert.CtxKvRefIdeal.nD Cert.CtxKvRefIdeal.τ Cert.CtxKvRefIdeal.sig) → Buf (Elt Ideal) ℓ) (g : Dev Cert.CtxKvRefIdeal.nD → PrngReg), Pre_CtxKvRefIdeal m →
    θ_run (Cert.CtxKvRefIdeal.defs (F := Ideal)) (onTc (τ := Cert.CtxKvRefIdeal.τ) (Cert.CtxKvRefIdeal.main (F := Ideal))) ⟨m, fun _ => 0, g⟩ (fun r => (∀ c : Dev Cert.CtxKvRefIdeal.nD,
      r.2.mem ((c.tc : Thread Cert.CtxKvRefIdeal.nD Cert.CtxKvRefIdeal.τ).loc Cert.CtxKvRefIdeal.main_arg0) = m ((c.tc : Thread Cert.CtxKvRefIdeal.nD Cert.CtxKvRefIdeal.τ).loc Cert.CtxKvRefIdeal.main_arg0)
      ∧ r.2.mem ((c.tc : Thread Cert.CtxKvRefIdeal.nD Cert.CtxKvRefIdeal.τ).loc Cert.CtxKvRefIdeal.main_arg1) = m ((c.tc : Thread Cert.CtxKvRefIdeal.nD Cert.CtxKvRefIdeal.τ).loc Cert.CtxKvRefIdeal.main_arg1))
      ∧ r.2.sem = fun _ => 0)

def quiescent_Interleave [hInterleave : Cert.Interleave.Facts] : Prop :=
  ∀ (m : (ℓ : Loc Cert.Interleave.nD Cert.Interleave.τ Cert.Interleave.sig) → Buf (Elt Bits) ℓ) (g : Dev Cert.Interleave.nD → PrngReg), Pre_Interleave m →
    θ_run (Cert.Interleave.defs (F := Bits)) (onTc (τ := Cert.Interleave.τ) (Cert.Interleave.main (F := Bits))) ⟨m, fun _ => 0, g⟩ (fun r => (∀ c : Dev Cert.Interleave.nD,
      r.2.mem ((c.tc : Thread Cert.Interleave.nD Cert.Interleave.τ).loc Cert.Interleave.main_arg0) = m ((c.tc : Thread Cert.Interleave.nD Cert.Interleave.τ).loc Cert.Interleave.main_arg0))
      ∧ r.2.sem = fun _ => 0)

def quiescent_InterleaveIdeal [hInterleaveIdeal : Cert.InterleaveIdeal.Facts] : Prop :=
  ∀ (m : (ℓ : Loc Cert.InterleaveIdeal.nD Cert.InterleaveIdeal.τ Cert.InterleaveIdeal.sig) → Buf (Elt Ideal) ℓ) (g : Dev Cert.InterleaveIdeal.nD → PrngReg), Pre_InterleaveIdeal m →
    θ_run (Cert.InterleaveIdeal.defs (F := Ideal)) (onTc (τ := Cert.InterleaveIdeal.τ) (Cert.InterleaveIdeal.main (F := Ideal))) ⟨m, fun _ => 0, g⟩ (fun r => (∀ c : Dev Cert.InterleaveIdeal.nD,
      r.2.mem ((c.tc : Thread Cert.InterleaveIdeal.nD Cert.InterleaveIdeal.τ).loc Cert.InterleaveIdeal.main_arg0) = m ((c.tc : Thread Cert.InterleaveIdeal.nD Cert.InterleaveIdeal.τ).loc Cert.InterleaveIdeal.main_arg0))
      ∧ r.2.sem = fun _ => 0)

def quiescent_InterleaveRefIdeal [hInterleaveRefIdeal : Cert.InterleaveRefIdeal.Facts] : Prop :=
  ∀ (m : (ℓ : Loc Cert.InterleaveRefIdeal.nD Cert.InterleaveRefIdeal.τ Cert.InterleaveRefIdeal.sig) → Buf (Elt Ideal) ℓ) (g : Dev Cert.InterleaveRefIdeal.nD → PrngReg), Pre_InterleaveRefIdeal m →
    θ_run (Cert.InterleaveRefIdeal.defs (F := Ideal)) (onTc (τ := Cert.InterleaveRefIdeal.τ) (Cert.InterleaveRefIdeal.main (F := Ideal))) ⟨m, fun _ => 0, g⟩ (fun r => (∀ c : Dev Cert.InterleaveRefIdeal.nD,
      r.2.mem ((c.tc : Thread Cert.InterleaveRefIdeal.nD Cert.InterleaveRefIdeal.τ).loc Cert.InterleaveRefIdeal.main_arg0) = m ((c.tc : Thread Cert.InterleaveRefIdeal.nD Cert.InterleaveRefIdeal.τ).loc Cert.InterleaveRefIdeal.main_arg0))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3)
      ∧ r.2.mem ((c.tc : Thread Cert.NormBwd.nD Cert.NormBwd.τ).loc Cert.NormBwd.main_arg4) = m ((c.tc : Thread Cert.NormBwd.nD Cert.NormBwd.τ).loc Cert.NormBwd.main_arg4)
      ∧ r.2.mem ((c.tc : Thread Cert.NormBwd.nD Cert.NormBwd.τ).loc Cert.NormBwd.main_arg5) = m ((c.tc : Thread Cert.NormBwd.nD Cert.NormBwd.τ).loc Cert.NormBwd.main_arg5)
      ∧ r.2.mem ((c.tc : Thread Cert.NormBwd.nD Cert.NormBwd.τ).loc Cert.NormBwd.main_arg6) = m ((c.tc : Thread Cert.NormBwd.nD Cert.NormBwd.τ).loc Cert.NormBwd.main_arg6)
      ∧ r.2.mem ((c.tc : Thread Cert.NormBwd.nD Cert.NormBwd.τ).loc Cert.NormBwd.main_arg7) = m ((c.tc : Thread Cert.NormBwd.nD Cert.NormBwd.τ).loc Cert.NormBwd.main_arg7))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
      ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5)
      ∧ r.2.mem ((c.tc : Thread Cert.NormBwdIdeal.nD Cert.NormBwdIdeal.τ).loc Cert.NormBwdIdeal.main_arg6) = m ((c.tc : Thread Cert.NormBwdIdeal.nD Cert.NormBwdIdeal.τ).loc Cert.NormBwdIdeal.main_arg6)
      ∧ r.2.mem ((c.tc : Thread Cert.NormBwdIdeal.nD Cert.NormBwdIdeal.τ).loc Cert.NormBwdIdeal.main_arg7) = m ((c.tc : Thread Cert.NormBwdIdeal.nD Cert.NormBwdIdeal.τ).loc Cert.NormBwdIdeal.main_arg7))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3)
      ∧ r.2.mem ((c.tc : Thread Cert.NormBwdRefIdeal.nD Cert.NormBwdRefIdeal.τ).loc Cert.NormBwdRefIdeal.main_arg4) = m ((c.tc : Thread Cert.NormBwdRefIdeal.nD Cert.NormBwdRefIdeal.τ).loc Cert.NormBwdRefIdeal.main_arg4)
      ∧ r.2.mem ((c.tc : Thread Cert.NormBwdRefIdeal.nD Cert.NormBwdRefIdeal.τ).loc Cert.NormBwdRefIdeal.main_arg5) = m ((c.tc : Thread Cert.NormBwdRefIdeal.nD Cert.NormBwdRefIdeal.τ).loc Cert.NormBwdRefIdeal.main_arg5)
      ∧ r.2.mem ((c.tc : Thread Cert.NormBwdRefIdeal.nD Cert.NormBwdRefIdeal.τ).loc Cert.NormBwdRefIdeal.main_arg6) = m ((c.tc : Thread Cert.NormBwdRefIdeal.nD Cert.NormBwdRefIdeal.τ).loc Cert.NormBwdRefIdeal.main_arg6)
      ∧ r.2.mem ((c.tc : Thread Cert.NormBwdRefIdeal.nD Cert.NormBwdRefIdeal.τ).loc Cert.NormBwdRefIdeal.main_arg7) = m ((c.tc : Thread Cert.NormBwdRefIdeal.nD Cert.NormBwdRefIdeal.τ).loc Cert.NormBwdRefIdeal.main_arg7))
      ∧ r.2.sem = fun _ => 0)

def quiescent_CtxNormBwd [hCtxNormBwd : Cert.CtxNormBwd.Facts] : Prop :=
  ∀ (m : (ℓ : Loc Cert.CtxNormBwd.nD Cert.CtxNormBwd.τ Cert.CtxNormBwd.sig) → Buf (Elt Bits) ℓ) (g : Dev Cert.CtxNormBwd.nD → PrngReg), Pre_CtxNormBwd m →
    θ_run (Cert.CtxNormBwd.defs (F := Bits)) (onTc (τ := Cert.CtxNormBwd.τ) (Cert.CtxNormBwd.main (F := Bits))) ⟨m, fun _ => 0, g⟩ (fun r => (∀ c : Dev Cert.CtxNormBwd.nD,
      r.2.mem ((c.tc : Thread Cert.CtxNormBwd.nD Cert.CtxNormBwd.τ).loc Cert.CtxNormBwd.main_arg0) = m ((c.tc : Thread Cert.CtxNormBwd.nD Cert.CtxNormBwd.τ).loc Cert.CtxNormBwd.main_arg0)
      ∧ r.2.mem ((c.tc : Thread Cert.CtxNormBwd.nD Cert.CtxNormBwd.τ).loc Cert.CtxNormBwd.main_arg1) = m ((c.tc : Thread Cert.CtxNormBwd.nD Cert.CtxNormBwd.τ).loc Cert.CtxNormBwd.main_arg1)
      ∧ r.2.mem ((c.tc : Thread Cert.CtxNormBwd.nD Cert.CtxNormBwd.τ).loc Cert.CtxNormBwd.main_arg2) = m ((c.tc : Thread Cert.CtxNormBwd.nD Cert.CtxNormBwd.τ).loc Cert.CtxNormBwd.main_arg2)
      ∧ r.2.mem ((c.tc : Thread Cert.CtxNormBwd.nD Cert.CtxNormBwd.τ).loc Cert.CtxNormBwd.main_arg3) = m ((c.tc : Thread Cert.CtxNormBwd.nD Cert.CtxNormBwd.τ).loc Cert.CtxNormBwd.main_arg3)
      ∧ r.2.mem ((c.tc : Thread Cert.CtxNormBwd.nD Cert.CtxNormBwd.τ).loc Cert.CtxNormBwd.main_arg4) = m ((c.tc : Thread Cert.CtxNormBwd.nD Cert.CtxNormBwd.τ).loc Cert.CtxNormBwd.main_arg4)
      ∧ r.2.mem ((c.tc : Thread Cert.CtxNormBwd.nD Cert.CtxNormBwd.τ).loc Cert.CtxNormBwd.main_arg5) = m ((c.tc : Thread Cert.CtxNormBwd.nD Cert.CtxNormBwd.τ).loc Cert.CtxNormBwd.main_arg5)
      ∧ r.2.mem ((c.tc : Thread Cert.CtxNormBwd.nD Cert.CtxNormBwd.τ).loc Cert.CtxNormBwd.main_arg6) = m ((c.tc : Thread Cert.CtxNormBwd.nD Cert.CtxNormBwd.τ).loc Cert.CtxNormBwd.main_arg6)
      ∧ r.2.mem ((c.tc : Thread Cert.CtxNormBwd.nD Cert.CtxNormBwd.τ).loc Cert.CtxNormBwd.main_arg7) = m ((c.tc : Thread Cert.CtxNormBwd.nD Cert.CtxNormBwd.τ).loc Cert.CtxNormBwd.main_arg7))
      ∧ r.2.sem = fun _ => 0)

def quiescent_CtxNormBwdIdeal [hCtxNormBwdIdeal : Cert.CtxNormBwdIdeal.Facts] : Prop :=
  ∀ (m : (ℓ : Loc Cert.CtxNormBwdIdeal.nD Cert.CtxNormBwdIdeal.τ Cert.CtxNormBwdIdeal.sig) → Buf (Elt Ideal) ℓ) (g : Dev Cert.CtxNormBwdIdeal.nD → PrngReg), Pre_CtxNormBwdIdeal m →
    θ_run (Cert.CtxNormBwdIdeal.defs (F := Ideal)) (onTc (τ := Cert.CtxNormBwdIdeal.τ) (Cert.CtxNormBwdIdeal.main (F := Ideal))) ⟨m, fun _ => 0, g⟩ (fun r => (∀ c : Dev Cert.CtxNormBwdIdeal.nD,
      r.2.mem ((c.tc : Thread Cert.CtxNormBwdIdeal.nD Cert.CtxNormBwdIdeal.τ).loc Cert.CtxNormBwdIdeal.main_arg0) = m ((c.tc : Thread Cert.CtxNormBwdIdeal.nD Cert.CtxNormBwdIdeal.τ).loc Cert.CtxNormBwdIdeal.main_arg0)
      ∧ r.2.mem ((c.tc : Thread Cert.CtxNormBwdIdeal.nD Cert.CtxNormBwdIdeal.τ).loc Cert.CtxNormBwdIdeal.main_arg1) = m ((c.tc : Thread Cert.CtxNormBwdIdeal.nD Cert.CtxNormBwdIdeal.τ).loc Cert.CtxNormBwdIdeal.main_arg1)
      ∧ r.2.mem ((c.tc : Thread Cert.CtxNormBwdIdeal.nD Cert.CtxNormBwdIdeal.τ).loc Cert.CtxNormBwdIdeal.main_arg2) = m ((c.tc : Thread Cert.CtxNormBwdIdeal.nD Cert.CtxNormBwdIdeal.τ).loc Cert.CtxNormBwdIdeal.main_arg2)
      ∧ r.2.mem ((c.tc : Thread Cert.CtxNormBwdIdeal.nD Cert.CtxNormBwdIdeal.τ).loc Cert.CtxNormBwdIdeal.main_arg3) = m ((c.tc : Thread Cert.CtxNormBwdIdeal.nD Cert.CtxNormBwdIdeal.τ).loc Cert.CtxNormBwdIdeal.main_arg3)
      ∧ r.2.mem ((c.tc : Thread Cert.CtxNormBwdIdeal.nD Cert.CtxNormBwdIdeal.τ).loc Cert.CtxNormBwdIdeal.main_arg4) = m ((c.tc : Thread Cert.CtxNormBwdIdeal.nD Cert.CtxNormBwdIdeal.τ).loc Cert.CtxNormBwdIdeal.main_arg4)
      ∧ r.2.mem ((c.tc : Thread Cert.CtxNormBwdIdeal.nD Cert.CtxNormBwdIdeal.τ).loc Cert.CtxNormBwdIdeal.main_arg5) = m ((c.tc : Thread Cert.CtxNormBwdIdeal.nD Cert.CtxNormBwdIdeal.τ).loc Cert.CtxNormBwdIdeal.main_arg5)
      ∧ r.2.mem ((c.tc : Thread Cert.CtxNormBwdIdeal.nD Cert.CtxNormBwdIdeal.τ).loc Cert.CtxNormBwdIdeal.main_arg6) = m ((c.tc : Thread Cert.CtxNormBwdIdeal.nD Cert.CtxNormBwdIdeal.τ).loc Cert.CtxNormBwdIdeal.main_arg6)
      ∧ r.2.mem ((c.tc : Thread Cert.CtxNormBwdIdeal.nD Cert.CtxNormBwdIdeal.τ).loc Cert.CtxNormBwdIdeal.main_arg7) = m ((c.tc : Thread Cert.CtxNormBwdIdeal.nD Cert.CtxNormBwdIdeal.τ).loc Cert.CtxNormBwdIdeal.main_arg7))
      ∧ r.2.sem = fun _ => 0)

def quiescent_CtxNormBwdRefIdeal [hCtxNormBwdRefIdeal : Cert.CtxNormBwdRefIdeal.Facts] : Prop :=
  ∀ (m : (ℓ : Loc Cert.CtxNormBwdRefIdeal.nD Cert.CtxNormBwdRefIdeal.τ Cert.CtxNormBwdRefIdeal.sig) → Buf (Elt Ideal) ℓ) (g : Dev Cert.CtxNormBwdRefIdeal.nD → PrngReg), Pre_CtxNormBwdRefIdeal m →
    θ_run (Cert.CtxNormBwdRefIdeal.defs (F := Ideal)) (onTc (τ := Cert.CtxNormBwdRefIdeal.τ) (Cert.CtxNormBwdRefIdeal.main (F := Ideal))) ⟨m, fun _ => 0, g⟩ (fun r => (∀ c : Dev Cert.CtxNormBwdRefIdeal.nD,
      r.2.mem ((c.tc : Thread Cert.CtxNormBwdRefIdeal.nD Cert.CtxNormBwdRefIdeal.τ).loc Cert.CtxNormBwdRefIdeal.main_arg0) = m ((c.tc : Thread Cert.CtxNormBwdRefIdeal.nD Cert.CtxNormBwdRefIdeal.τ).loc Cert.CtxNormBwdRefIdeal.main_arg0)
      ∧ r.2.mem ((c.tc : Thread Cert.CtxNormBwdRefIdeal.nD Cert.CtxNormBwdRefIdeal.τ).loc Cert.CtxNormBwdRefIdeal.main_arg1) = m ((c.tc : Thread Cert.CtxNormBwdRefIdeal.nD Cert.CtxNormBwdRefIdeal.τ).loc Cert.CtxNormBwdRefIdeal.main_arg1)
      ∧ r.2.mem ((c.tc : Thread Cert.CtxNormBwdRefIdeal.nD Cert.CtxNormBwdRefIdeal.τ).loc Cert.CtxNormBwdRefIdeal.main_arg2) = m ((c.tc : Thread Cert.CtxNormBwdRefIdeal.nD Cert.CtxNormBwdRefIdeal.τ).loc Cert.CtxNormBwdRefIdeal.main_arg2)
      ∧ r.2.mem ((c.tc : Thread Cert.CtxNormBwdRefIdeal.nD Cert.CtxNormBwdRefIdeal.τ).loc Cert.CtxNormBwdRefIdeal.main_arg3) = m ((c.tc : Thread Cert.CtxNormBwdRefIdeal.nD Cert.CtxNormBwdRefIdeal.τ).loc Cert.CtxNormBwdRefIdeal.main_arg3)
      ∧ r.2.mem ((c.tc : Thread Cert.CtxNormBwdRefIdeal.nD Cert.CtxNormBwdRefIdeal.τ).loc Cert.CtxNormBwdRefIdeal.main_arg4) = m ((c.tc : Thread Cert.CtxNormBwdRefIdeal.nD Cert.CtxNormBwdRefIdeal.τ).loc Cert.CtxNormBwdRefIdeal.main_arg4)
      ∧ r.2.mem ((c.tc : Thread Cert.CtxNormBwdRefIdeal.nD Cert.CtxNormBwdRefIdeal.τ).loc Cert.CtxNormBwdRefIdeal.main_arg5) = m ((c.tc : Thread Cert.CtxNormBwdRefIdeal.nD Cert.CtxNormBwdRefIdeal.τ).loc Cert.CtxNormBwdRefIdeal.main_arg5)
      ∧ r.2.mem ((c.tc : Thread Cert.CtxNormBwdRefIdeal.nD Cert.CtxNormBwdRefIdeal.τ).loc Cert.CtxNormBwdRefIdeal.main_arg6) = m ((c.tc : Thread Cert.CtxNormBwdRefIdeal.nD Cert.CtxNormBwdRefIdeal.τ).loc Cert.CtxNormBwdRefIdeal.main_arg6)
      ∧ r.2.mem ((c.tc : Thread Cert.CtxNormBwdRefIdeal.nD Cert.CtxNormBwdRefIdeal.τ).loc Cert.CtxNormBwdRefIdeal.main_arg7) = m ((c.tc : Thread Cert.CtxNormBwdRefIdeal.nD Cert.CtxNormBwdRefIdeal.τ).loc Cert.CtxNormBwdRefIdeal.main_arg7))
      ∧ r.2.sem = fun _ => 0)

def quiescent_NormFirstBwd [hNormFirstBwd : Cert.NormFirstBwd.Facts] : Prop :=
  ∀ (m : (ℓ : Loc Cert.NormFirstBwd.nD Cert.NormFirstBwd.τ Cert.NormFirstBwd.sig) → Buf (Elt Bits) ℓ) (g : Dev Cert.NormFirstBwd.nD → PrngReg), Pre_NormFirstBwd m →
    θ_run (Cert.NormFirstBwd.defs (F := Bits)) (onTc (τ := Cert.NormFirstBwd.τ) (Cert.NormFirstBwd.main (F := Bits))) ⟨m, fun _ => 0, g⟩ (fun r => (∀ c : Dev Cert.NormFirstBwd.nD,
      r.2.mem ((c.tc : Thread Cert.NormFirstBwd.nD Cert.NormFirstBwd.τ).loc Cert.NormFirstBwd.main_arg0) = m ((c.tc : Thread Cert.NormFirstBwd.nD Cert.NormFirstBwd.τ).loc Cert.NormFirstBwd.main_arg0)
      ∧ r.2.mem ((c.tc : Thread Cert.NormFirstBwd.nD Cert.NormFirstBwd.τ).loc Cert.NormFirstBwd.main_arg1) = m ((c.tc : Thread Cert.NormFirstBwd.nD Cert.NormFirstBwd.τ).loc Cert.NormFirstBwd.main_arg1)
      ∧ r.2.mem ((c.tc : Thread Cert.NormFirstBwd.nD Cert.NormFirstBwd.τ).loc Cert.NormFirstBwd.main_arg2) = m ((c.tc : Thread Cert.NormFirstBwd.nD Cert.NormFirstBwd.τ).loc Cert.NormFirstBwd.main_arg2)
      ∧ r.2.mem ((c.tc : Thread Cert.NormFirstBwd.nD Cert.NormFirstBwd.τ).loc Cert.NormFirstBwd.main_arg3) = m ((c.tc : Thread Cert.NormFirstBwd.nD Cert.NormFirstBwd.τ).loc Cert.NormFirstBwd.main_arg3)
      ∧ r.2.mem ((c.tc : Thread Cert.NormFirstBwd.nD Cert.NormFirstBwd.τ).loc Cert.NormFirstBwd.main_arg4) = m ((c.tc : Thread Cert.NormFirstBwd.nD Cert.NormFirstBwd.τ).loc Cert.NormFirstBwd.main_arg4)
      ∧ r.2.mem ((c.tc : Thread Cert.NormFirstBwd.nD Cert.NormFirstBwd.τ).loc Cert.NormFirstBwd.main_arg5) = m ((c.tc : Thread Cert.NormFirstBwd.nD Cert.NormFirstBwd.τ).loc Cert.NormFirstBwd.main_arg5))
      ∧ r.2.sem = fun _ => 0)

def quiescent_NormFirstBwdIdeal [hNormFirstBwdIdeal : Cert.NormFirstBwdIdeal.Facts] : Prop :=
  ∀ (m : (ℓ : Loc Cert.NormFirstBwdIdeal.nD Cert.NormFirstBwdIdeal.τ Cert.NormFirstBwdIdeal.sig) → Buf (Elt Ideal) ℓ) (g : Dev Cert.NormFirstBwdIdeal.nD → PrngReg), Pre_NormFirstBwdIdeal m →
    θ_run (Cert.NormFirstBwdIdeal.defs (F := Ideal)) (onTc (τ := Cert.NormFirstBwdIdeal.τ) (Cert.NormFirstBwdIdeal.main (F := Ideal))) ⟨m, fun _ => 0, g⟩ (fun r => (∀ c : Dev Cert.NormFirstBwdIdeal.nD,
      r.2.mem ((c.tc : Thread Cert.NormFirstBwdIdeal.nD Cert.NormFirstBwdIdeal.τ).loc Cert.NormFirstBwdIdeal.main_arg0) = m ((c.tc : Thread Cert.NormFirstBwdIdeal.nD Cert.NormFirstBwdIdeal.τ).loc Cert.NormFirstBwdIdeal.main_arg0)
      ∧ r.2.mem ((c.tc : Thread Cert.NormFirstBwdIdeal.nD Cert.NormFirstBwdIdeal.τ).loc Cert.NormFirstBwdIdeal.main_arg1) = m ((c.tc : Thread Cert.NormFirstBwdIdeal.nD Cert.NormFirstBwdIdeal.τ).loc Cert.NormFirstBwdIdeal.main_arg1)
      ∧ r.2.mem ((c.tc : Thread Cert.NormFirstBwdIdeal.nD Cert.NormFirstBwdIdeal.τ).loc Cert.NormFirstBwdIdeal.main_arg2) = m ((c.tc : Thread Cert.NormFirstBwdIdeal.nD Cert.NormFirstBwdIdeal.τ).loc Cert.NormFirstBwdIdeal.main_arg2)
      ∧ r.2.mem ((c.tc : Thread Cert.NormFirstBwdIdeal.nD Cert.NormFirstBwdIdeal.τ).loc Cert.NormFirstBwdIdeal.main_arg3) = m ((c.tc : Thread Cert.NormFirstBwdIdeal.nD Cert.NormFirstBwdIdeal.τ).loc Cert.NormFirstBwdIdeal.main_arg3)
      ∧ r.2.mem ((c.tc : Thread Cert.NormFirstBwdIdeal.nD Cert.NormFirstBwdIdeal.τ).loc Cert.NormFirstBwdIdeal.main_arg4) = m ((c.tc : Thread Cert.NormFirstBwdIdeal.nD Cert.NormFirstBwdIdeal.τ).loc Cert.NormFirstBwdIdeal.main_arg4)
      ∧ r.2.mem ((c.tc : Thread Cert.NormFirstBwdIdeal.nD Cert.NormFirstBwdIdeal.τ).loc Cert.NormFirstBwdIdeal.main_arg5) = m ((c.tc : Thread Cert.NormFirstBwdIdeal.nD Cert.NormFirstBwdIdeal.τ).loc Cert.NormFirstBwdIdeal.main_arg5))
      ∧ r.2.sem = fun _ => 0)

def quiescent_NormFirstBwdRefIdeal [hNormFirstBwdRefIdeal : Cert.NormFirstBwdRefIdeal.Facts] : Prop :=
  ∀ (m : (ℓ : Loc Cert.NormFirstBwdRefIdeal.nD Cert.NormFirstBwdRefIdeal.τ Cert.NormFirstBwdRefIdeal.sig) → Buf (Elt Ideal) ℓ) (g : Dev Cert.NormFirstBwdRefIdeal.nD → PrngReg), Pre_NormFirstBwdRefIdeal m →
    θ_run (Cert.NormFirstBwdRefIdeal.defs (F := Ideal)) (onTc (τ := Cert.NormFirstBwdRefIdeal.τ) (Cert.NormFirstBwdRefIdeal.main (F := Ideal))) ⟨m, fun _ => 0, g⟩ (fun r => (∀ c : Dev Cert.NormFirstBwdRefIdeal.nD,
      r.2.mem ((c.tc : Thread Cert.NormFirstBwdRefIdeal.nD Cert.NormFirstBwdRefIdeal.τ).loc Cert.NormFirstBwdRefIdeal.main_arg0) = m ((c.tc : Thread Cert.NormFirstBwdRefIdeal.nD Cert.NormFirstBwdRefIdeal.τ).loc Cert.NormFirstBwdRefIdeal.main_arg0)
      ∧ r.2.mem ((c.tc : Thread Cert.NormFirstBwdRefIdeal.nD Cert.NormFirstBwdRefIdeal.τ).loc Cert.NormFirstBwdRefIdeal.main_arg1) = m ((c.tc : Thread Cert.NormFirstBwdRefIdeal.nD Cert.NormFirstBwdRefIdeal.τ).loc Cert.NormFirstBwdRefIdeal.main_arg1)
      ∧ r.2.mem ((c.tc : Thread Cert.NormFirstBwdRefIdeal.nD Cert.NormFirstBwdRefIdeal.τ).loc Cert.NormFirstBwdRefIdeal.main_arg2) = m ((c.tc : Thread Cert.NormFirstBwdRefIdeal.nD Cert.NormFirstBwdRefIdeal.τ).loc Cert.NormFirstBwdRefIdeal.main_arg2)
      ∧ r.2.mem ((c.tc : Thread Cert.NormFirstBwdRefIdeal.nD Cert.NormFirstBwdRefIdeal.τ).loc Cert.NormFirstBwdRefIdeal.main_arg3) = m ((c.tc : Thread Cert.NormFirstBwdRefIdeal.nD Cert.NormFirstBwdRefIdeal.τ).loc Cert.NormFirstBwdRefIdeal.main_arg3)
      ∧ r.2.mem ((c.tc : Thread Cert.NormFirstBwdRefIdeal.nD Cert.NormFirstBwdRefIdeal.τ).loc Cert.NormFirstBwdRefIdeal.main_arg4) = m ((c.tc : Thread Cert.NormFirstBwdRefIdeal.nD Cert.NormFirstBwdRefIdeal.τ).loc Cert.NormFirstBwdRefIdeal.main_arg4)
      ∧ r.2.mem ((c.tc : Thread Cert.NormFirstBwdRefIdeal.nD Cert.NormFirstBwdRefIdeal.τ).loc Cert.NormFirstBwdRefIdeal.main_arg5) = m ((c.tc : Thread Cert.NormFirstBwdRefIdeal.nD Cert.NormFirstBwdRefIdeal.τ).loc Cert.NormFirstBwdRefIdeal.main_arg5))
      ∧ r.2.sem = fun _ => 0)

def quiescent_CtxNormFirstBwd [hCtxNormFirstBwd : Cert.CtxNormFirstBwd.Facts] : Prop :=
  ∀ (m : (ℓ : Loc Cert.CtxNormFirstBwd.nD Cert.CtxNormFirstBwd.τ Cert.CtxNormFirstBwd.sig) → Buf (Elt Bits) ℓ) (g : Dev Cert.CtxNormFirstBwd.nD → PrngReg), Pre_CtxNormFirstBwd m →
    θ_run (Cert.CtxNormFirstBwd.defs (F := Bits)) (onTc (τ := Cert.CtxNormFirstBwd.τ) (Cert.CtxNormFirstBwd.main (F := Bits))) ⟨m, fun _ => 0, g⟩ (fun r => (∀ c : Dev Cert.CtxNormFirstBwd.nD,
      r.2.mem ((c.tc : Thread Cert.CtxNormFirstBwd.nD Cert.CtxNormFirstBwd.τ).loc Cert.CtxNormFirstBwd.main_arg0) = m ((c.tc : Thread Cert.CtxNormFirstBwd.nD Cert.CtxNormFirstBwd.τ).loc Cert.CtxNormFirstBwd.main_arg0)
      ∧ r.2.mem ((c.tc : Thread Cert.CtxNormFirstBwd.nD Cert.CtxNormFirstBwd.τ).loc Cert.CtxNormFirstBwd.main_arg1) = m ((c.tc : Thread Cert.CtxNormFirstBwd.nD Cert.CtxNormFirstBwd.τ).loc Cert.CtxNormFirstBwd.main_arg1)
      ∧ r.2.mem ((c.tc : Thread Cert.CtxNormFirstBwd.nD Cert.CtxNormFirstBwd.τ).loc Cert.CtxNormFirstBwd.main_arg2) = m ((c.tc : Thread Cert.CtxNormFirstBwd.nD Cert.CtxNormFirstBwd.τ).loc Cert.CtxNormFirstBwd.main_arg2)
      ∧ r.2.mem ((c.tc : Thread Cert.CtxNormFirstBwd.nD Cert.CtxNormFirstBwd.τ).loc Cert.CtxNormFirstBwd.main_arg3) = m ((c.tc : Thread Cert.CtxNormFirstBwd.nD Cert.CtxNormFirstBwd.τ).loc Cert.CtxNormFirstBwd.main_arg3)
      ∧ r.2.mem ((c.tc : Thread Cert.CtxNormFirstBwd.nD Cert.CtxNormFirstBwd.τ).loc Cert.CtxNormFirstBwd.main_arg4) = m ((c.tc : Thread Cert.CtxNormFirstBwd.nD Cert.CtxNormFirstBwd.τ).loc Cert.CtxNormFirstBwd.main_arg4)
      ∧ r.2.mem ((c.tc : Thread Cert.CtxNormFirstBwd.nD Cert.CtxNormFirstBwd.τ).loc Cert.CtxNormFirstBwd.main_arg5) = m ((c.tc : Thread Cert.CtxNormFirstBwd.nD Cert.CtxNormFirstBwd.τ).loc Cert.CtxNormFirstBwd.main_arg5))
      ∧ r.2.sem = fun _ => 0)

def quiescent_CtxNormFirstBwdIdeal [hCtxNormFirstBwdIdeal : Cert.CtxNormFirstBwdIdeal.Facts] : Prop :=
  ∀ (m : (ℓ : Loc Cert.CtxNormFirstBwdIdeal.nD Cert.CtxNormFirstBwdIdeal.τ Cert.CtxNormFirstBwdIdeal.sig) → Buf (Elt Ideal) ℓ) (g : Dev Cert.CtxNormFirstBwdIdeal.nD → PrngReg), Pre_CtxNormFirstBwdIdeal m →
    θ_run (Cert.CtxNormFirstBwdIdeal.defs (F := Ideal)) (onTc (τ := Cert.CtxNormFirstBwdIdeal.τ) (Cert.CtxNormFirstBwdIdeal.main (F := Ideal))) ⟨m, fun _ => 0, g⟩ (fun r => (∀ c : Dev Cert.CtxNormFirstBwdIdeal.nD,
      r.2.mem ((c.tc : Thread Cert.CtxNormFirstBwdIdeal.nD Cert.CtxNormFirstBwdIdeal.τ).loc Cert.CtxNormFirstBwdIdeal.main_arg0) = m ((c.tc : Thread Cert.CtxNormFirstBwdIdeal.nD Cert.CtxNormFirstBwdIdeal.τ).loc Cert.CtxNormFirstBwdIdeal.main_arg0)
      ∧ r.2.mem ((c.tc : Thread Cert.CtxNormFirstBwdIdeal.nD Cert.CtxNormFirstBwdIdeal.τ).loc Cert.CtxNormFirstBwdIdeal.main_arg1) = m ((c.tc : Thread Cert.CtxNormFirstBwdIdeal.nD Cert.CtxNormFirstBwdIdeal.τ).loc Cert.CtxNormFirstBwdIdeal.main_arg1)
      ∧ r.2.mem ((c.tc : Thread Cert.CtxNormFirstBwdIdeal.nD Cert.CtxNormFirstBwdIdeal.τ).loc Cert.CtxNormFirstBwdIdeal.main_arg2) = m ((c.tc : Thread Cert.CtxNormFirstBwdIdeal.nD Cert.CtxNormFirstBwdIdeal.τ).loc Cert.CtxNormFirstBwdIdeal.main_arg2)
      ∧ r.2.mem ((c.tc : Thread Cert.CtxNormFirstBwdIdeal.nD Cert.CtxNormFirstBwdIdeal.τ).loc Cert.CtxNormFirstBwdIdeal.main_arg3) = m ((c.tc : Thread Cert.CtxNormFirstBwdIdeal.nD Cert.CtxNormFirstBwdIdeal.τ).loc Cert.CtxNormFirstBwdIdeal.main_arg3)
      ∧ r.2.mem ((c.tc : Thread Cert.CtxNormFirstBwdIdeal.nD Cert.CtxNormFirstBwdIdeal.τ).loc Cert.CtxNormFirstBwdIdeal.main_arg4) = m ((c.tc : Thread Cert.CtxNormFirstBwdIdeal.nD Cert.CtxNormFirstBwdIdeal.τ).loc Cert.CtxNormFirstBwdIdeal.main_arg4)
      ∧ r.2.mem ((c.tc : Thread Cert.CtxNormFirstBwdIdeal.nD Cert.CtxNormFirstBwdIdeal.τ).loc Cert.CtxNormFirstBwdIdeal.main_arg5) = m ((c.tc : Thread Cert.CtxNormFirstBwdIdeal.nD Cert.CtxNormFirstBwdIdeal.τ).loc Cert.CtxNormFirstBwdIdeal.main_arg5))
      ∧ r.2.sem = fun _ => 0)

def quiescent_CtxNormFirstBwdRefIdeal [hCtxNormFirstBwdRefIdeal : Cert.CtxNormFirstBwdRefIdeal.Facts] : Prop :=
  ∀ (m : (ℓ : Loc Cert.CtxNormFirstBwdRefIdeal.nD Cert.CtxNormFirstBwdRefIdeal.τ Cert.CtxNormFirstBwdRefIdeal.sig) → Buf (Elt Ideal) ℓ) (g : Dev Cert.CtxNormFirstBwdRefIdeal.nD → PrngReg), Pre_CtxNormFirstBwdRefIdeal m →
    θ_run (Cert.CtxNormFirstBwdRefIdeal.defs (F := Ideal)) (onTc (τ := Cert.CtxNormFirstBwdRefIdeal.τ) (Cert.CtxNormFirstBwdRefIdeal.main (F := Ideal))) ⟨m, fun _ => 0, g⟩ (fun r => (∀ c : Dev Cert.CtxNormFirstBwdRefIdeal.nD,
      r.2.mem ((c.tc : Thread Cert.CtxNormFirstBwdRefIdeal.nD Cert.CtxNormFirstBwdRefIdeal.τ).loc Cert.CtxNormFirstBwdRefIdeal.main_arg0) = m ((c.tc : Thread Cert.CtxNormFirstBwdRefIdeal.nD Cert.CtxNormFirstBwdRefIdeal.τ).loc Cert.CtxNormFirstBwdRefIdeal.main_arg0)
      ∧ r.2.mem ((c.tc : Thread Cert.CtxNormFirstBwdRefIdeal.nD Cert.CtxNormFirstBwdRefIdeal.τ).loc Cert.CtxNormFirstBwdRefIdeal.main_arg1) = m ((c.tc : Thread Cert.CtxNormFirstBwdRefIdeal.nD Cert.CtxNormFirstBwdRefIdeal.τ).loc Cert.CtxNormFirstBwdRefIdeal.main_arg1)
      ∧ r.2.mem ((c.tc : Thread Cert.CtxNormFirstBwdRefIdeal.nD Cert.CtxNormFirstBwdRefIdeal.τ).loc Cert.CtxNormFirstBwdRefIdeal.main_arg2) = m ((c.tc : Thread Cert.CtxNormFirstBwdRefIdeal.nD Cert.CtxNormFirstBwdRefIdeal.τ).loc Cert.CtxNormFirstBwdRefIdeal.main_arg2)
      ∧ r.2.mem ((c.tc : Thread Cert.CtxNormFirstBwdRefIdeal.nD Cert.CtxNormFirstBwdRefIdeal.τ).loc Cert.CtxNormFirstBwdRefIdeal.main_arg3) = m ((c.tc : Thread Cert.CtxNormFirstBwdRefIdeal.nD Cert.CtxNormFirstBwdRefIdeal.τ).loc Cert.CtxNormFirstBwdRefIdeal.main_arg3)
      ∧ r.2.mem ((c.tc : Thread Cert.CtxNormFirstBwdRefIdeal.nD Cert.CtxNormFirstBwdRefIdeal.τ).loc Cert.CtxNormFirstBwdRefIdeal.main_arg4) = m ((c.tc : Thread Cert.CtxNormFirstBwdRefIdeal.nD Cert.CtxNormFirstBwdRefIdeal.τ).loc Cert.CtxNormFirstBwdRefIdeal.main_arg4)
      ∧ r.2.mem ((c.tc : Thread Cert.CtxNormFirstBwdRefIdeal.nD Cert.CtxNormFirstBwdRefIdeal.τ).loc Cert.CtxNormFirstBwdRefIdeal.main_arg5) = m ((c.tc : Thread Cert.CtxNormFirstBwdRefIdeal.nD Cert.CtxNormFirstBwdRefIdeal.τ).loc Cert.CtxNormFirstBwdRefIdeal.main_arg5))
      ∧ r.2.sem = fun _ => 0)

def quiescent_ModBwd [hModBwd : Cert.ModBwd.Facts] : Prop :=
  ∀ (m : (ℓ : Loc Cert.ModBwd.nD Cert.ModBwd.τ Cert.ModBwd.sig) → Buf (Elt Bits) ℓ) (g : Dev Cert.ModBwd.nD → PrngReg), Pre_ModBwd m →
    θ_run (Cert.ModBwd.defs (F := Bits)) (onTc (τ := Cert.ModBwd.τ) (Cert.ModBwd.main (F := Bits))) ⟨m, fun _ => 0, g⟩ (fun r => (∀ c : Dev Cert.ModBwd.nD,
      r.2.mem ((c.tc : Thread Cert.ModBwd.nD Cert.ModBwd.τ).loc Cert.ModBwd.main_arg0) = m ((c.tc : Thread Cert.ModBwd.nD Cert.ModBwd.τ).loc Cert.ModBwd.main_arg0)
      ∧ r.2.mem ((c.tc : Thread Cert.ModBwd.nD Cert.ModBwd.τ).loc Cert.ModBwd.main_arg1) = m ((c.tc : Thread Cert.ModBwd.nD Cert.ModBwd.τ).loc Cert.ModBwd.main_arg1)
      ∧ r.2.mem ((c.tc : Thread Cert.ModBwd.nD Cert.ModBwd.τ).loc Cert.ModBwd.main_arg2) = m ((c.tc : Thread Cert.ModBwd.nD Cert.ModBwd.τ).loc Cert.ModBwd.main_arg2)
      ∧ r.2.mem ((c.tc : Thread Cert.ModBwd.nD Cert.ModBwd.τ).loc Cert.ModBwd.main_arg3) = m ((c.tc : Thread Cert.ModBwd.nD Cert.ModBwd.τ).loc Cert.ModBwd.main_arg3))
      ∧ r.2.sem = fun _ => 0)

def quiescent_ModBwdIdeal [hModBwdIdeal : Cert.ModBwdIdeal.Facts] : Prop :=
  ∀ (m : (ℓ : Loc Cert.ModBwdIdeal.nD Cert.ModBwdIdeal.τ Cert.ModBwdIdeal.sig) → Buf (Elt Ideal) ℓ) (g : Dev Cert.ModBwdIdeal.nD → PrngReg), Pre_ModBwdIdeal m →
    θ_run (Cert.ModBwdIdeal.defs (F := Ideal)) (onTc (τ := Cert.ModBwdIdeal.τ) (Cert.ModBwdIdeal.main (F := Ideal))) ⟨m, fun _ => 0, g⟩ (fun r => (∀ c : Dev Cert.ModBwdIdeal.nD,
      r.2.mem ((c.tc : Thread Cert.ModBwdIdeal.nD Cert.ModBwdIdeal.τ).loc Cert.ModBwdIdeal.main_arg0) = m ((c.tc : Thread Cert.ModBwdIdeal.nD Cert.ModBwdIdeal.τ).loc Cert.ModBwdIdeal.main_arg0)
      ∧ r.2.mem ((c.tc : Thread Cert.ModBwdIdeal.nD Cert.ModBwdIdeal.τ).loc Cert.ModBwdIdeal.main_arg1) = m ((c.tc : Thread Cert.ModBwdIdeal.nD Cert.ModBwdIdeal.τ).loc Cert.ModBwdIdeal.main_arg1)
      ∧ r.2.mem ((c.tc : Thread Cert.ModBwdIdeal.nD Cert.ModBwdIdeal.τ).loc Cert.ModBwdIdeal.main_arg2) = m ((c.tc : Thread Cert.ModBwdIdeal.nD Cert.ModBwdIdeal.τ).loc Cert.ModBwdIdeal.main_arg2)
      ∧ r.2.mem ((c.tc : Thread Cert.ModBwdIdeal.nD Cert.ModBwdIdeal.τ).loc Cert.ModBwdIdeal.main_arg3) = m ((c.tc : Thread Cert.ModBwdIdeal.nD Cert.ModBwdIdeal.τ).loc Cert.ModBwdIdeal.main_arg3))
      ∧ r.2.sem = fun _ => 0)

def quiescent_ModBwdRefIdeal [hModBwdRefIdeal : Cert.ModBwdRefIdeal.Facts] : Prop :=
  ∀ (m : (ℓ : Loc Cert.ModBwdRefIdeal.nD Cert.ModBwdRefIdeal.τ Cert.ModBwdRefIdeal.sig) → Buf (Elt Ideal) ℓ) (g : Dev Cert.ModBwdRefIdeal.nD → PrngReg), Pre_ModBwdRefIdeal m →
    θ_run (Cert.ModBwdRefIdeal.defs (F := Ideal)) (onTc (τ := Cert.ModBwdRefIdeal.τ) (Cert.ModBwdRefIdeal.main (F := Ideal))) ⟨m, fun _ => 0, g⟩ (fun r => (∀ c : Dev Cert.ModBwdRefIdeal.nD,
      r.2.mem ((c.tc : Thread Cert.ModBwdRefIdeal.nD Cert.ModBwdRefIdeal.τ).loc Cert.ModBwdRefIdeal.main_arg0) = m ((c.tc : Thread Cert.ModBwdRefIdeal.nD Cert.ModBwdRefIdeal.τ).loc Cert.ModBwdRefIdeal.main_arg0)
      ∧ r.2.mem ((c.tc : Thread Cert.ModBwdRefIdeal.nD Cert.ModBwdRefIdeal.τ).loc Cert.ModBwdRefIdeal.main_arg1) = m ((c.tc : Thread Cert.ModBwdRefIdeal.nD Cert.ModBwdRefIdeal.τ).loc Cert.ModBwdRefIdeal.main_arg1)
      ∧ r.2.mem ((c.tc : Thread Cert.ModBwdRefIdeal.nD Cert.ModBwdRefIdeal.τ).loc Cert.ModBwdRefIdeal.main_arg2) = m ((c.tc : Thread Cert.ModBwdRefIdeal.nD Cert.ModBwdRefIdeal.τ).loc Cert.ModBwdRefIdeal.main_arg2)
      ∧ r.2.mem ((c.tc : Thread Cert.ModBwdRefIdeal.nD Cert.ModBwdRefIdeal.τ).loc Cert.ModBwdRefIdeal.main_arg3) = m ((c.tc : Thread Cert.ModBwdRefIdeal.nD Cert.ModBwdRefIdeal.τ).loc Cert.ModBwdRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4)
      ∧ r.2.mem ((c.tc : Thread Cert.Norm.nD Cert.Norm.τ).loc Cert.Norm.main_arg5) = m ((c.tc : Thread Cert.Norm.nD Cert.Norm.τ).loc Cert.Norm.main_arg5))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5))
      ∧ r.2.sem = fun _ => 0)

def quiescent_CtxNorm [hCtxNorm : Cert.CtxNorm.Facts] : Prop :=
  ∀ (m : (ℓ : Loc Cert.CtxNorm.nD Cert.CtxNorm.τ Cert.CtxNorm.sig) → Buf (Elt Bits) ℓ) (g : Dev Cert.CtxNorm.nD → PrngReg), Pre_CtxNorm m →
    θ_run (Cert.CtxNorm.defs (F := Bits)) (onTc (τ := Cert.CtxNorm.τ) (Cert.CtxNorm.main (F := Bits))) ⟨m, fun _ => 0, g⟩ (fun r => (∀ c : Dev Cert.CtxNorm.nD,
      r.2.mem ((c.tc : Thread Cert.CtxNorm.nD Cert.CtxNorm.τ).loc Cert.CtxNorm.main_arg0) = m ((c.tc : Thread Cert.CtxNorm.nD Cert.CtxNorm.τ).loc Cert.CtxNorm.main_arg0)
      ∧ r.2.mem ((c.tc : Thread Cert.CtxNorm.nD Cert.CtxNorm.τ).loc Cert.CtxNorm.main_arg1) = m ((c.tc : Thread Cert.CtxNorm.nD Cert.CtxNorm.τ).loc Cert.CtxNorm.main_arg1)
      ∧ r.2.mem ((c.tc : Thread Cert.CtxNorm.nD Cert.CtxNorm.τ).loc Cert.CtxNorm.main_arg2) = m ((c.tc : Thread Cert.CtxNorm.nD Cert.CtxNorm.τ).loc Cert.CtxNorm.main_arg2)
      ∧ r.2.mem ((c.tc : Thread Cert.CtxNorm.nD Cert.CtxNorm.τ).loc Cert.CtxNorm.main_arg3) = m ((c.tc : Thread Cert.CtxNorm.nD Cert.CtxNorm.τ).loc Cert.CtxNorm.main_arg3)
      ∧ r.2.mem ((c.tc : Thread Cert.CtxNorm.nD Cert.CtxNorm.τ).loc Cert.CtxNorm.main_arg4) = m ((c.tc : Thread Cert.CtxNorm.nD Cert.CtxNorm.τ).loc Cert.CtxNorm.main_arg4)
      ∧ r.2.mem ((c.tc : Thread Cert.CtxNorm.nD Cert.CtxNorm.τ).loc Cert.CtxNorm.main_arg5) = m ((c.tc : Thread Cert.CtxNorm.nD Cert.CtxNorm.τ).loc Cert.CtxNorm.main_arg5))
      ∧ r.2.sem = fun _ => 0)

def quiescent_CtxNormIdeal [hCtxNormIdeal : Cert.CtxNormIdeal.Facts] : Prop :=
  ∀ (m : (ℓ : Loc Cert.CtxNormIdeal.nD Cert.CtxNormIdeal.τ Cert.CtxNormIdeal.sig) → Buf (Elt Ideal) ℓ) (g : Dev Cert.CtxNormIdeal.nD → PrngReg), Pre_CtxNormIdeal m →
    θ_run (Cert.CtxNormIdeal.defs (F := Ideal)) (onTc (τ := Cert.CtxNormIdeal.τ) (Cert.CtxNormIdeal.main (F := Ideal))) ⟨m, fun _ => 0, g⟩ (fun r => (∀ c : Dev Cert.CtxNormIdeal.nD,
      r.2.mem ((c.tc : Thread Cert.CtxNormIdeal.nD Cert.CtxNormIdeal.τ).loc Cert.CtxNormIdeal.main_arg0) = m ((c.tc : Thread Cert.CtxNormIdeal.nD Cert.CtxNormIdeal.τ).loc Cert.CtxNormIdeal.main_arg0)
      ∧ r.2.mem ((c.tc : Thread Cert.CtxNormIdeal.nD Cert.CtxNormIdeal.τ).loc Cert.CtxNormIdeal.main_arg1) = m ((c.tc : Thread Cert.CtxNormIdeal.nD Cert.CtxNormIdeal.τ).loc Cert.CtxNormIdeal.main_arg1)
      ∧ r.2.mem ((c.tc : Thread Cert.CtxNormIdeal.nD Cert.CtxNormIdeal.τ).loc Cert.CtxNormIdeal.main_arg2) = m ((c.tc : Thread Cert.CtxNormIdeal.nD Cert.CtxNormIdeal.τ).loc Cert.CtxNormIdeal.main_arg2)
      ∧ r.2.mem ((c.tc : Thread Cert.CtxNormIdeal.nD Cert.CtxNormIdeal.τ).loc Cert.CtxNormIdeal.main_arg3) = m ((c.tc : Thread Cert.CtxNormIdeal.nD Cert.CtxNormIdeal.τ).loc Cert.CtxNormIdeal.main_arg3)
      ∧ r.2.mem ((c.tc : Thread Cert.CtxNormIdeal.nD Cert.CtxNormIdeal.τ).loc Cert.CtxNormIdeal.main_arg4) = m ((c.tc : Thread Cert.CtxNormIdeal.nD Cert.CtxNormIdeal.τ).loc Cert.CtxNormIdeal.main_arg4)
      ∧ r.2.mem ((c.tc : Thread Cert.CtxNormIdeal.nD Cert.CtxNormIdeal.τ).loc Cert.CtxNormIdeal.main_arg5) = m ((c.tc : Thread Cert.CtxNormIdeal.nD Cert.CtxNormIdeal.τ).loc Cert.CtxNormIdeal.main_arg5))
      ∧ r.2.sem = fun _ => 0)

def quiescent_CtxNormRefIdeal [hCtxNormRefIdeal : Cert.CtxNormRefIdeal.Facts] : Prop :=
  ∀ (m : (ℓ : Loc Cert.CtxNormRefIdeal.nD Cert.CtxNormRefIdeal.τ Cert.CtxNormRefIdeal.sig) → Buf (Elt Ideal) ℓ) (g : Dev Cert.CtxNormRefIdeal.nD → PrngReg), Pre_CtxNormRefIdeal m →
    θ_run (Cert.CtxNormRefIdeal.defs (F := Ideal)) (onTc (τ := Cert.CtxNormRefIdeal.τ) (Cert.CtxNormRefIdeal.main (F := Ideal))) ⟨m, fun _ => 0, g⟩ (fun r => (∀ c : Dev Cert.CtxNormRefIdeal.nD,
      r.2.mem ((c.tc : Thread Cert.CtxNormRefIdeal.nD Cert.CtxNormRefIdeal.τ).loc Cert.CtxNormRefIdeal.main_arg0) = m ((c.tc : Thread Cert.CtxNormRefIdeal.nD Cert.CtxNormRefIdeal.τ).loc Cert.CtxNormRefIdeal.main_arg0)
      ∧ r.2.mem ((c.tc : Thread Cert.CtxNormRefIdeal.nD Cert.CtxNormRefIdeal.τ).loc Cert.CtxNormRefIdeal.main_arg1) = m ((c.tc : Thread Cert.CtxNormRefIdeal.nD Cert.CtxNormRefIdeal.τ).loc Cert.CtxNormRefIdeal.main_arg1)
      ∧ r.2.mem ((c.tc : Thread Cert.CtxNormRefIdeal.nD Cert.CtxNormRefIdeal.τ).loc Cert.CtxNormRefIdeal.main_arg2) = m ((c.tc : Thread Cert.CtxNormRefIdeal.nD Cert.CtxNormRefIdeal.τ).loc Cert.CtxNormRefIdeal.main_arg2)
      ∧ r.2.mem ((c.tc : Thread Cert.CtxNormRefIdeal.nD Cert.CtxNormRefIdeal.τ).loc Cert.CtxNormRefIdeal.main_arg3) = m ((c.tc : Thread Cert.CtxNormRefIdeal.nD Cert.CtxNormRefIdeal.τ).loc Cert.CtxNormRefIdeal.main_arg3)
      ∧ r.2.mem ((c.tc : Thread Cert.CtxNormRefIdeal.nD Cert.CtxNormRefIdeal.τ).loc Cert.CtxNormRefIdeal.main_arg4) = m ((c.tc : Thread Cert.CtxNormRefIdeal.nD Cert.CtxNormRefIdeal.τ).loc Cert.CtxNormRefIdeal.main_arg4)
      ∧ r.2.mem ((c.tc : Thread Cert.CtxNormRefIdeal.nD Cert.CtxNormRefIdeal.τ).loc Cert.CtxNormRefIdeal.main_arg5) = m ((c.tc : Thread Cert.CtxNormRefIdeal.nD Cert.CtxNormRefIdeal.τ).loc Cert.CtxNormRefIdeal.main_arg5))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2))
      ∧ r.2.sem = fun _ => 0)

def quiescent_AdamMod [hAdamMod : Cert.AdamMod.Facts] : Prop :=
  ∀ (m : (ℓ : Loc Cert.AdamMod.nD Cert.AdamMod.τ Cert.AdamMod.sig) → Buf (Elt Bits) ℓ) (g : Dev Cert.AdamMod.nD → PrngReg), Pre_AdamMod m →
    θ_run (Cert.AdamMod.defs (F := Bits)) (onTc (τ := Cert.AdamMod.τ) (Cert.AdamMod.main (F := Bits))) ⟨m, fun _ => 0, g⟩ (fun r => (∀ c : Dev Cert.AdamMod.nD,
      r.2.mem ((c.tc : Thread Cert.AdamMod.nD Cert.AdamMod.τ).loc Cert.AdamMod.main_arg0) = m ((c.tc : Thread Cert.AdamMod.nD Cert.AdamMod.τ).loc Cert.AdamMod.main_arg0)
      ∧ r.2.mem ((c.tc : Thread Cert.AdamMod.nD Cert.AdamMod.τ).loc Cert.AdamMod.main_arg1) = m ((c.tc : Thread Cert.AdamMod.nD Cert.AdamMod.τ).loc Cert.AdamMod.main_arg1)
      ∧ r.2.mem ((c.tc : Thread Cert.AdamMod.nD Cert.AdamMod.τ).loc Cert.AdamMod.main_arg2) = m ((c.tc : Thread Cert.AdamMod.nD Cert.AdamMod.τ).loc Cert.AdamMod.main_arg2)
      ∧ r.2.mem ((c.tc : Thread Cert.AdamMod.nD Cert.AdamMod.τ).loc Cert.AdamMod.main_arg3) = m ((c.tc : Thread Cert.AdamMod.nD Cert.AdamMod.τ).loc Cert.AdamMod.main_arg3))
      ∧ r.2.sem = fun _ => 0)

def quiescent_AdamModIdeal [hAdamModIdeal : Cert.AdamModIdeal.Facts] : Prop :=
  ∀ (m : (ℓ : Loc Cert.AdamModIdeal.nD Cert.AdamModIdeal.τ Cert.AdamModIdeal.sig) → Buf (Elt Ideal) ℓ) (g : Dev Cert.AdamModIdeal.nD → PrngReg), Pre_AdamModIdeal m →
    θ_run (Cert.AdamModIdeal.defs (F := Ideal)) (onTc (τ := Cert.AdamModIdeal.τ) (Cert.AdamModIdeal.main (F := Ideal))) ⟨m, fun _ => 0, g⟩ (fun r => (∀ c : Dev Cert.AdamModIdeal.nD,
      r.2.mem ((c.tc : Thread Cert.AdamModIdeal.nD Cert.AdamModIdeal.τ).loc Cert.AdamModIdeal.main_arg0) = m ((c.tc : Thread Cert.AdamModIdeal.nD Cert.AdamModIdeal.τ).loc Cert.AdamModIdeal.main_arg0)
      ∧ r.2.mem ((c.tc : Thread Cert.AdamModIdeal.nD Cert.AdamModIdeal.τ).loc Cert.AdamModIdeal.main_arg1) = m ((c.tc : Thread Cert.AdamModIdeal.nD Cert.AdamModIdeal.τ).loc Cert.AdamModIdeal.main_arg1)
      ∧ r.2.mem ((c.tc : Thread Cert.AdamModIdeal.nD Cert.AdamModIdeal.τ).loc Cert.AdamModIdeal.main_arg2) = m ((c.tc : Thread Cert.AdamModIdeal.nD Cert.AdamModIdeal.τ).loc Cert.AdamModIdeal.main_arg2)
      ∧ r.2.mem ((c.tc : Thread Cert.AdamModIdeal.nD Cert.AdamModIdeal.τ).loc Cert.AdamModIdeal.main_arg3) = m ((c.tc : Thread Cert.AdamModIdeal.nD Cert.AdamModIdeal.τ).loc Cert.AdamModIdeal.main_arg3))
      ∧ r.2.sem = fun _ => 0)

def quiescent_AdamModRefIdeal [hAdamModRefIdeal : Cert.AdamModRefIdeal.Facts] : Prop :=
  ∀ (m : (ℓ : Loc Cert.AdamModRefIdeal.nD Cert.AdamModRefIdeal.τ Cert.AdamModRefIdeal.sig) → Buf (Elt Ideal) ℓ) (g : Dev Cert.AdamModRefIdeal.nD → PrngReg), Pre_AdamModRefIdeal m →
    θ_run (Cert.AdamModRefIdeal.defs (F := Ideal)) (onTc (τ := Cert.AdamModRefIdeal.τ) (Cert.AdamModRefIdeal.main (F := Ideal))) ⟨m, fun _ => 0, g⟩ (fun r => (∀ c : Dev Cert.AdamModRefIdeal.nD,
      r.2.mem ((c.tc : Thread Cert.AdamModRefIdeal.nD Cert.AdamModRefIdeal.τ).loc Cert.AdamModRefIdeal.main_arg0) = m ((c.tc : Thread Cert.AdamModRefIdeal.nD Cert.AdamModRefIdeal.τ).loc Cert.AdamModRefIdeal.main_arg0)
      ∧ r.2.mem ((c.tc : Thread Cert.AdamModRefIdeal.nD Cert.AdamModRefIdeal.τ).loc Cert.AdamModRefIdeal.main_arg1) = m ((c.tc : Thread Cert.AdamModRefIdeal.nD Cert.AdamModRefIdeal.τ).loc Cert.AdamModRefIdeal.main_arg1)
      ∧ r.2.mem ((c.tc : Thread Cert.AdamModRefIdeal.nD Cert.AdamModRefIdeal.τ).loc Cert.AdamModRefIdeal.main_arg2) = m ((c.tc : Thread Cert.AdamModRefIdeal.nD Cert.AdamModRefIdeal.τ).loc Cert.AdamModRefIdeal.main_arg2)
      ∧ r.2.mem ((c.tc : Thread Cert.AdamModRefIdeal.nD Cert.AdamModRefIdeal.τ).loc Cert.AdamModRefIdeal.main_arg3) = m ((c.tc : Thread Cert.AdamModRefIdeal.nD Cert.AdamModRefIdeal.τ).loc Cert.AdamModRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4))
      ∧ r.2.sem = fun _ => 0)

def quiescent_AdamFfnOut [hAdamFfnOut : Cert.AdamFfnOut.Facts] : Prop :=
  ∀ (m : (ℓ : Loc Cert.AdamFfnOut.nD Cert.AdamFfnOut.τ Cert.AdamFfnOut.sig) → Buf (Elt Bits) ℓ) (g : Dev Cert.AdamFfnOut.nD → PrngReg), Pre_AdamFfnOut m →
    θ_run (Cert.AdamFfnOut.defs (F := Bits)) (onTc (τ := Cert.AdamFfnOut.τ) (Cert.AdamFfnOut.main (F := Bits))) ⟨m, fun _ => 0, g⟩ (fun r => (∀ c : Dev Cert.AdamFfnOut.nD,
      r.2.mem ((c.tc : Thread Cert.AdamFfnOut.nD Cert.AdamFfnOut.τ).loc Cert.AdamFfnOut.main_arg0) = m ((c.tc : Thread Cert.AdamFfnOut.nD Cert.AdamFfnOut.τ).loc Cert.AdamFfnOut.main_arg0)
      ∧ r.2.mem ((c.tc : Thread Cert.AdamFfnOut.nD Cert.AdamFfnOut.τ).loc Cert.AdamFfnOut.main_arg1) = m ((c.tc : Thread Cert.AdamFfnOut.nD Cert.AdamFfnOut.τ).loc Cert.AdamFfnOut.main_arg1)
      ∧ r.2.mem ((c.tc : Thread Cert.AdamFfnOut.nD Cert.AdamFfnOut.τ).loc Cert.AdamFfnOut.main_arg2) = m ((c.tc : Thread Cert.AdamFfnOut.nD Cert.AdamFfnOut.τ).loc Cert.AdamFfnOut.main_arg2)
      ∧ r.2.mem ((c.tc : Thread Cert.AdamFfnOut.nD Cert.AdamFfnOut.τ).loc Cert.AdamFfnOut.main_arg3) = m ((c.tc : Thread Cert.AdamFfnOut.nD Cert.AdamFfnOut.τ).loc Cert.AdamFfnOut.main_arg3)
      ∧ r.2.mem ((c.tc : Thread Cert.AdamFfnOut.nD Cert.AdamFfnOut.τ).loc Cert.AdamFfnOut.main_arg4) = m ((c.tc : Thread Cert.AdamFfnOut.nD Cert.AdamFfnOut.τ).loc Cert.AdamFfnOut.main_arg4))
      ∧ r.2.sem = fun _ => 0)

def quiescent_AdamFfnOutIdeal [hAdamFfnOutIdeal : Cert.AdamFfnOutIdeal.Facts] : Prop :=
  ∀ (m : (ℓ : Loc Cert.AdamFfnOutIdeal.nD Cert.AdamFfnOutIdeal.τ Cert.AdamFfnOutIdeal.sig) → Buf (Elt Ideal) ℓ) (g : Dev Cert.AdamFfnOutIdeal.nD → PrngReg), Pre_AdamFfnOutIdeal m →
    θ_run (Cert.AdamFfnOutIdeal.defs (F := Ideal)) (onTc (τ := Cert.AdamFfnOutIdeal.τ) (Cert.AdamFfnOutIdeal.main (F := Ideal))) ⟨m, fun _ => 0, g⟩ (fun r => (∀ c : Dev Cert.AdamFfnOutIdeal.nD,
      r.2.mem ((c.tc : Thread Cert.AdamFfnOutIdeal.nD Cert.AdamFfnOutIdeal.τ).loc Cert.AdamFfnOutIdeal.main_arg0) = m ((c.tc : Thread Cert.AdamFfnOutIdeal.nD Cert.AdamFfnOutIdeal.τ).loc Cert.AdamFfnOutIdeal.main_arg0)
      ∧ r.2.mem ((c.tc : Thread Cert.AdamFfnOutIdeal.nD Cert.AdamFfnOutIdeal.τ).loc Cert.AdamFfnOutIdeal.main_arg1) = m ((c.tc : Thread Cert.AdamFfnOutIdeal.nD Cert.AdamFfnOutIdeal.τ).loc Cert.AdamFfnOutIdeal.main_arg1)
      ∧ r.2.mem ((c.tc : Thread Cert.AdamFfnOutIdeal.nD Cert.AdamFfnOutIdeal.τ).loc Cert.AdamFfnOutIdeal.main_arg2) = m ((c.tc : Thread Cert.AdamFfnOutIdeal.nD Cert.AdamFfnOutIdeal.τ).loc Cert.AdamFfnOutIdeal.main_arg2)
      ∧ r.2.mem ((c.tc : Thread Cert.AdamFfnOutIdeal.nD Cert.AdamFfnOutIdeal.τ).loc Cert.AdamFfnOutIdeal.main_arg3) = m ((c.tc : Thread Cert.AdamFfnOutIdeal.nD Cert.AdamFfnOutIdeal.τ).loc Cert.AdamFfnOutIdeal.main_arg3)
      ∧ r.2.mem ((c.tc : Thread Cert.AdamFfnOutIdeal.nD Cert.AdamFfnOutIdeal.τ).loc Cert.AdamFfnOutIdeal.main_arg4) = m ((c.tc : Thread Cert.AdamFfnOutIdeal.nD Cert.AdamFfnOutIdeal.τ).loc Cert.AdamFfnOutIdeal.main_arg4))
      ∧ r.2.sem = fun _ => 0)

def quiescent_AdamFfnOutRefIdeal [hAdamFfnOutRefIdeal : Cert.AdamFfnOutRefIdeal.Facts] : Prop :=
  ∀ (m : (ℓ : Loc Cert.AdamFfnOutRefIdeal.nD Cert.AdamFfnOutRefIdeal.τ Cert.AdamFfnOutRefIdeal.sig) → Buf (Elt Ideal) ℓ) (g : Dev Cert.AdamFfnOutRefIdeal.nD → PrngReg), Pre_AdamFfnOutRefIdeal m →
    θ_run (Cert.AdamFfnOutRefIdeal.defs (F := Ideal)) (onTc (τ := Cert.AdamFfnOutRefIdeal.τ) (Cert.AdamFfnOutRefIdeal.main (F := Ideal))) ⟨m, fun _ => 0, g⟩ (fun r => (∀ c : Dev Cert.AdamFfnOutRefIdeal.nD,
      r.2.mem ((c.tc : Thread Cert.AdamFfnOutRefIdeal.nD Cert.AdamFfnOutRefIdeal.τ).loc Cert.AdamFfnOutRefIdeal.main_arg0) = m ((c.tc : Thread Cert.AdamFfnOutRefIdeal.nD Cert.AdamFfnOutRefIdeal.τ).loc Cert.AdamFfnOutRefIdeal.main_arg0)
      ∧ r.2.mem ((c.tc : Thread Cert.AdamFfnOutRefIdeal.nD Cert.AdamFfnOutRefIdeal.τ).loc Cert.AdamFfnOutRefIdeal.main_arg1) = m ((c.tc : Thread Cert.AdamFfnOutRefIdeal.nD Cert.AdamFfnOutRefIdeal.τ).loc Cert.AdamFfnOutRefIdeal.main_arg1)
      ∧ r.2.mem ((c.tc : Thread Cert.AdamFfnOutRefIdeal.nD Cert.AdamFfnOutRefIdeal.τ).loc Cert.AdamFfnOutRefIdeal.main_arg2) = m ((c.tc : Thread Cert.AdamFfnOutRefIdeal.nD Cert.AdamFfnOutRefIdeal.τ).loc Cert.AdamFfnOutRefIdeal.main_arg2)
      ∧ r.2.mem ((c.tc : Thread Cert.AdamFfnOutRefIdeal.nD Cert.AdamFfnOutRefIdeal.τ).loc Cert.AdamFfnOutRefIdeal.main_arg3) = m ((c.tc : Thread Cert.AdamFfnOutRefIdeal.nD Cert.AdamFfnOutRefIdeal.τ).loc Cert.AdamFfnOutRefIdeal.main_arg3)
      ∧ r.2.mem ((c.tc : Thread Cert.AdamFfnOutRefIdeal.nD Cert.AdamFfnOutRefIdeal.τ).loc Cert.AdamFfnOutRefIdeal.main_arg4) = m ((c.tc : Thread Cert.AdamFfnOutRefIdeal.nD Cert.AdamFfnOutRefIdeal.τ).loc Cert.AdamFfnOutRefIdeal.main_arg4))
      ∧ r.2.sem = fun _ => 0)

def preserves_AttnBwd_AttnBwdIdeal : Prop :=
  True

def algebraic_AttnBwdIdeal_AttnRefIdeal_pre_finite_scores [hAttnBwdIdeal : Cert.AttnBwdIdeal.Facts] [hAttnRefIdeal : Cert.AttnRefIdeal.Facts] [hPre_finite_scores : Cert.Pre_finite_scores.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnBwdIdeal_finite_scores m →
    (∀ c : Dev Cert.AttnBwdIdeal.nD,
      m' ((c.tc : Thread Cert.AttnRefIdeal.nD Cert.AttnRefIdeal.τ).loc Cert.AttnRefIdeal.main_arg0) = m ((c.tc : Thread Cert.AttnBwdIdeal.nD Cert.AttnBwdIdeal.τ).loc Cert.AttnBwdIdeal.main_arg0)
      ∧ m' ((c.tc : Thread Cert.AttnRefIdeal.nD Cert.AttnRefIdeal.τ).loc Cert.AttnRefIdeal.main_arg1) = m ((c.tc : Thread Cert.AttnBwdIdeal.nD Cert.AttnBwdIdeal.τ).loc Cert.AttnBwdIdeal.main_arg1)
      ∧ m' ((c.tc : Thread Cert.AttnRefIdeal.nD Cert.AttnRefIdeal.τ).loc Cert.AttnRefIdeal.main_arg2) = m ((c.tc : Thread Cert.AttnBwdIdeal.nD Cert.AttnBwdIdeal.τ).loc Cert.AttnBwdIdeal.main_arg2)) →
    ∃ (v0 : (c : Dev Cert.AttnBwdIdeal.nD) → Buf (Elt Ideal) ((c.tc : Thread Cert.AttnBwdIdeal.nD Cert.AttnBwdIdeal.τ).loc Cert.AttnBwdIdeal.main_v46_0)) (v1 : (c : Dev Cert.AttnBwdIdeal.nD) → Buf (Elt Ideal) ((c.tc : Thread Cert.AttnBwdIdeal.nD Cert.AttnBwdIdeal.τ).loc Cert.AttnBwdIdeal.main_v46_3)) (v2 : (c : Dev Cert.AttnBwdIdeal.nD) → Buf (Elt Ideal) ((c.tc : Thread Cert.AttnBwdIdeal.nD Cert.AttnBwdIdeal.τ).loc Cert.AttnBwdIdeal.main_v46_4)) (v3 : (c : Dev Cert.AttnBwdIdeal.nD) → Buf (Elt Ideal) ((c.tc : Thread Cert.AttnBwdIdeal.nD Cert.AttnBwdIdeal.τ).loc Cert.AttnBwdIdeal.main_v46_5)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v46_0) = v0 c
          ∧ r.2.mem ((c.tc : Thread Cert.AttnBwdIdeal.nD Cert.AttnBwdIdeal.τ).loc Cert.AttnBwdIdeal.main_v46_3) = v1 c
          ∧ r.2.mem ((c.tc : Thread Cert.AttnBwdIdeal.nD Cert.AttnBwdIdeal.τ).loc Cert.AttnBwdIdeal.main_v46_4) = v2 c
          ∧ r.2.mem ((c.tc : Thread Cert.AttnBwdIdeal.nD Cert.AttnBwdIdeal.τ).loc Cert.AttnBwdIdeal.main_v46_5) = v3 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v78) = v0 c
          ∧ r.2.mem ((c.tc : Thread Cert.AttnRefIdeal.nD Cert.AttnRefIdeal.τ).loc Cert.AttnRefIdeal.main_v79) = v1 c
          ∧ r.2.mem ((c.tc : Thread Cert.AttnRefIdeal.nD Cert.AttnRefIdeal.τ).loc Cert.AttnRefIdeal.main_v80) = v2 c
          ∧ r.2.mem ((c.tc : Thread Cert.AttnRefIdeal.nD Cert.AttnRefIdeal.τ).loc Cert.AttnRefIdeal.main_v81) = v3 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_FfnInDx_FfnInDxIdeal : Prop :=
  True

def algebraic_FfnInDxIdeal_FfnInDxRefIdeal [hFfnInDxIdeal : Cert.FfnInDxIdeal.Facts] [hFfnInDxRefIdeal : Cert.FfnInDxRefIdeal.Facts] : Prop :=
  ∀ (m : (ℓ : Loc Cert.FfnInDxIdeal.nD Cert.FfnInDxIdeal.τ Cert.FfnInDxIdeal.sig) → Buf (Elt Ideal) ℓ) (g : Dev Cert.FfnInDxIdeal.nD → PrngReg)
    (m' : (ℓ : Loc Cert.FfnInDxRefIdeal.nD Cert.FfnInDxRefIdeal.τ Cert.FfnInDxRefIdeal.sig) → Buf (Elt Ideal) ℓ) (g' : Dev Cert.FfnInDxRefIdeal.nD → PrngReg), Pre_FfnInDxIdeal m →
    (∀ c : Dev Cert.FfnInDxIdeal.nD,
      m' ((c.tc : Thread Cert.FfnInDxRefIdeal.nD Cert.FfnInDxRefIdeal.τ).loc Cert.FfnInDxRefIdeal.main_arg0) = m ((c.tc : Thread Cert.FfnInDxIdeal.nD Cert.FfnInDxIdeal.τ).loc Cert.FfnInDxIdeal.main_arg0)
      ∧ m' ((c.tc : Thread Cert.FfnInDxRefIdeal.nD Cert.FfnInDxRefIdeal.τ).loc Cert.FfnInDxRefIdeal.main_arg1) = m ((c.tc : Thread Cert.FfnInDxIdeal.nD Cert.FfnInDxIdeal.τ).loc Cert.FfnInDxIdeal.main_arg1)) →
    ∃ (v0 : (c : Dev Cert.FfnInDxIdeal.nD) → Buf (Elt Ideal) ((c.tc : Thread Cert.FfnInDxIdeal.nD Cert.FfnInDxIdeal.τ).loc Cert.FfnInDxIdeal.main_v0)),
      θ_run (Cert.FfnInDxIdeal.defs (F := Ideal)) (onTc (τ := Cert.FfnInDxIdeal.τ) (Cert.FfnInDxIdeal.main (F := Ideal))) ⟨m, fun _ => 0, g⟩ (fun r => ∀ c : Dev Cert.FfnInDxIdeal.nD,
          r.2.mem ((c.tc : Thread Cert.FfnInDxIdeal.nD Cert.FfnInDxIdeal.τ).loc Cert.FfnInDxIdeal.main_v0) = v0 c
          ∧ r.2.mem ((c.tc : Thread Cert.FfnInDxIdeal.nD Cert.FfnInDxIdeal.τ).loc Cert.FfnInDxIdeal.main_arg0) = m ((c.tc : Thread Cert.FfnInDxIdeal.nD Cert.FfnInDxIdeal.τ).loc Cert.FfnInDxIdeal.main_arg0)
          ∧ r.2.mem ((c.tc : Thread Cert.FfnInDxIdeal.nD Cert.FfnInDxIdeal.τ).loc Cert.FfnInDxIdeal.main_arg1) = m ((c.tc : Thread Cert.FfnInDxIdeal.nD Cert.FfnInDxIdeal.τ).loc Cert.FfnInDxIdeal.main_arg1))
      ∧ θ_run (Cert.FfnInDxRefIdeal.defs (F := Ideal)) (onTc (τ := Cert.FfnInDxRefIdeal.τ) (Cert.FfnInDxRefIdeal.main (F := Ideal))) ⟨m', fun _ => 0, g'⟩ (fun r => ∀ c : Dev Cert.FfnInDxRefIdeal.nD,
          r.2.mem ((c.tc : Thread Cert.FfnInDxRefIdeal.nD Cert.FfnInDxRefIdeal.τ).loc Cert.FfnInDxRefIdeal.main_v10) = v0 c
          ∧ r.2.mem ((c.tc : Thread Cert.FfnInDxRefIdeal.nD Cert.FfnInDxRefIdeal.τ).loc Cert.FfnInDxRefIdeal.main_arg0) = m' ((c.tc : Thread Cert.FfnInDxRefIdeal.nD Cert.FfnInDxRefIdeal.τ).loc Cert.FfnInDxRefIdeal.main_arg0)
          ∧ r.2.mem ((c.tc : Thread Cert.FfnInDxRefIdeal.nD Cert.FfnInDxRefIdeal.τ).loc Cert.FfnInDxRefIdeal.main_arg1) = m' ((c.tc : Thread Cert.FfnInDxRefIdeal.nD Cert.FfnInDxRefIdeal.τ).loc Cert.FfnInDxRefIdeal.main_arg1))

def preserves_FfnInDw_FfnInDwIdeal : Prop :=
  True

def algebraic_FfnInDwIdeal_FfnInDwRefIdeal [hFfnInDwIdeal : Cert.FfnInDwIdeal.Facts] [hFfnInDwRefIdeal : Cert.FfnInDwRefIdeal.Facts] : Prop :=
  ∀ (m : (ℓ : Loc Cert.FfnInDwIdeal.nD Cert.FfnInDwIdeal.τ Cert.FfnInDwIdeal.sig) → Buf (Elt Ideal) ℓ) (g : Dev Cert.FfnInDwIdeal.nD → PrngReg)
    (m' : (ℓ : Loc Cert.FfnInDwRefIdeal.nD Cert.FfnInDwRefIdeal.τ Cert.FfnInDwRefIdeal.sig) → Buf (Elt Ideal) ℓ) (g' : Dev Cert.FfnInDwRefIdeal.nD → PrngReg), Pre_FfnInDwIdeal m →
    (∀ c : Dev Cert.FfnInDwIdeal.nD,
      m' ((c.tc : Thread Cert.FfnInDwRefIdeal.nD Cert.FfnInDwRefIdeal.τ).loc Cert.FfnInDwRefIdeal.main_arg0) = m ((c.tc : Thread Cert.FfnInDwIdeal.nD Cert.FfnInDwIdeal.τ).loc Cert.FfnInDwIdeal.main_arg0)
      ∧ m' ((c.tc : Thread Cert.FfnInDwRefIdeal.nD Cert.FfnInDwRefIdeal.τ).loc Cert.FfnInDwRefIdeal.main_arg1) = m ((c.tc : Thread Cert.FfnInDwIdeal.nD Cert.FfnInDwIdeal.τ).loc Cert.FfnInDwIdeal.main_arg1)) →
    ∃ (v0 : (c : Dev Cert.FfnInDwIdeal.nD) → Buf (Elt Ideal) ((c.tc : Thread Cert.FfnInDwIdeal.nD Cert.FfnInDwIdeal.τ).loc Cert.FfnInDwIdeal.main_v0)),
      θ_run (Cert.FfnInDwIdeal.defs (F := Ideal)) (onTc (τ := Cert.FfnInDwIdeal.τ) (Cert.FfnInDwIdeal.main (F := Ideal))) ⟨m, fun _ => 0, g⟩ (fun r => ∀ c : Dev Cert.FfnInDwIdeal.nD,
          r.2.mem ((c.tc : Thread Cert.FfnInDwIdeal.nD Cert.FfnInDwIdeal.τ).loc Cert.FfnInDwIdeal.main_v0) = v0 c
          ∧ r.2.mem ((c.tc : Thread Cert.FfnInDwIdeal.nD Cert.FfnInDwIdeal.τ).loc Cert.FfnInDwIdeal.main_arg0) = m ((c.tc : Thread Cert.FfnInDwIdeal.nD Cert.FfnInDwIdeal.τ).loc Cert.FfnInDwIdeal.main_arg0)
          ∧ r.2.mem ((c.tc : Thread Cert.FfnInDwIdeal.nD Cert.FfnInDwIdeal.τ).loc Cert.FfnInDwIdeal.main_arg1) = m ((c.tc : Thread Cert.FfnInDwIdeal.nD Cert.FfnInDwIdeal.τ).loc Cert.FfnInDwIdeal.main_arg1))
      ∧ θ_run (Cert.FfnInDwRefIdeal.defs (F := Ideal)) (onTc (τ := Cert.FfnInDwRefIdeal.τ) (Cert.FfnInDwRefIdeal.main (F := Ideal))) ⟨m', fun _ => 0, g'⟩ (fun r => ∀ c : Dev Cert.FfnInDwRefIdeal.nD,
          r.2.mem ((c.tc : Thread Cert.FfnInDwRefIdeal.nD Cert.FfnInDwRefIdeal.τ).loc Cert.FfnInDwRefIdeal.main_v10) = v0 c
          ∧ r.2.mem ((c.tc : Thread Cert.FfnInDwRefIdeal.nD Cert.FfnInDwRefIdeal.τ).loc Cert.FfnInDwRefIdeal.main_arg0) = m' ((c.tc : Thread Cert.FfnInDwRefIdeal.nD Cert.FfnInDwRefIdeal.τ).loc Cert.FfnInDwRefIdeal.main_arg0)
          ∧ r.2.mem ((c.tc : Thread Cert.FfnInDwRefIdeal.nD Cert.FfnInDwRefIdeal.τ).loc Cert.FfnInDwRefIdeal.main_arg1) = m' ((c.tc : Thread Cert.FfnInDwRefIdeal.nD Cert.FfnInDwRefIdeal.τ).loc Cert.FfnInDwRefIdeal.main_arg1))

def preserves_FfnOutDx_FfnOutDxIdeal : Prop :=
  True

def algebraic_FfnOutDxIdeal_FfnOutDxRefIdeal_pre_finite_dact [hFfnOutDxIdeal : Cert.FfnOutDxIdeal.Facts] [hFfnOutDxRefIdeal : Cert.FfnOutDxRefIdeal.Facts] [hPre_finite_dact : Cert.Pre_finite_dact.Facts] : Prop :=
  ∀ (m : (ℓ : Loc Cert.FfnOutDxIdeal.nD Cert.FfnOutDxIdeal.τ Cert.FfnOutDxIdeal.sig) → Buf (Elt Ideal) ℓ) (g : Dev Cert.FfnOutDxIdeal.nD → PrngReg)
    (m' : (ℓ : Loc Cert.FfnOutDxRefIdeal.nD Cert.FfnOutDxRefIdeal.τ Cert.FfnOutDxRefIdeal.sig) → Buf (Elt Ideal) ℓ) (g' : Dev Cert.FfnOutDxRefIdeal.nD → PrngReg), Pre_FfnOutDxIdeal_finite_dact m →
    (∀ c : Dev Cert.FfnOutDxIdeal.nD,
      m' ((c.tc : Thread Cert.FfnOutDxRefIdeal.nD Cert.FfnOutDxRefIdeal.τ).loc Cert.FfnOutDxRefIdeal.main_arg0) = m ((c.tc : Thread Cert.FfnOutDxIdeal.nD Cert.FfnOutDxIdeal.τ).loc Cert.FfnOutDxIdeal.main_arg0)
      ∧ m' ((c.tc : Thread Cert.FfnOutDxRefIdeal.nD Cert.FfnOutDxRefIdeal.τ).loc Cert.FfnOutDxRefIdeal.main_arg1) = m ((c.tc : Thread Cert.FfnOutDxIdeal.nD Cert.FfnOutDxIdeal.τ).loc Cert.FfnOutDxIdeal.main_arg1)
      ∧ m' ((c.tc : Thread Cert.FfnOutDxRefIdeal.nD Cert.FfnOutDxRefIdeal.τ).loc Cert.FfnOutDxRefIdeal.main_arg2) = m ((c.tc : Thread Cert.FfnOutDxIdeal.nD Cert.FfnOutDxIdeal.τ).loc Cert.FfnOutDxIdeal.main_arg2)) →
    ∃ (v0 : (c : Dev Cert.FfnOutDxIdeal.nD) → Buf (Elt Ideal) ((c.tc : Thread Cert.FfnOutDxIdeal.nD Cert.FfnOutDxIdeal.τ).loc Cert.FfnOutDxIdeal.main_v0)),
      θ_run (Cert.FfnOutDxIdeal.defs (F := Ideal)) (onTc (τ := Cert.FfnOutDxIdeal.τ) (Cert.FfnOutDxIdeal.main (F := Ideal))) ⟨m, fun _ => 0, g⟩ (fun r => ∀ c : Dev Cert.FfnOutDxIdeal.nD,
          r.2.mem ((c.tc : Thread Cert.FfnOutDxIdeal.nD Cert.FfnOutDxIdeal.τ).loc Cert.FfnOutDxIdeal.main_v0) = v0 c
          ∧ r.2.mem ((c.tc : Thread Cert.FfnOutDxIdeal.nD Cert.FfnOutDxIdeal.τ).loc Cert.FfnOutDxIdeal.main_arg0) = m ((c.tc : Thread Cert.FfnOutDxIdeal.nD Cert.FfnOutDxIdeal.τ).loc Cert.FfnOutDxIdeal.main_arg0)
          ∧ r.2.mem ((c.tc : Thread Cert.FfnOutDxIdeal.nD Cert.FfnOutDxIdeal.τ).loc Cert.FfnOutDxIdeal.main_arg1) = m ((c.tc : Thread Cert.FfnOutDxIdeal.nD Cert.FfnOutDxIdeal.τ).loc Cert.FfnOutDxIdeal.main_arg1)
          ∧ r.2.mem ((c.tc : Thread Cert.FfnOutDxIdeal.nD Cert.FfnOutDxIdeal.τ).loc Cert.FfnOutDxIdeal.main_arg2) = m ((c.tc : Thread Cert.FfnOutDxIdeal.nD Cert.FfnOutDxIdeal.τ).loc Cert.FfnOutDxIdeal.main_arg2))
      ∧ θ_run (Cert.FfnOutDxRefIdeal.defs (F := Ideal)) (onTc (τ := Cert.FfnOutDxRefIdeal.τ) (Cert.FfnOutDxRefIdeal.main (F := Ideal))) ⟨m', fun _ => 0, g'⟩ (fun r => ∀ c : Dev Cert.FfnOutDxRefIdeal.nD,
          r.2.mem ((c.tc : Thread Cert.FfnOutDxRefIdeal.nD Cert.FfnOutDxRefIdeal.τ).loc Cert.FfnOutDxRefIdeal.main_v19) = v0 c
          ∧ r.2.mem ((c.tc : Thread Cert.FfnOutDxRefIdeal.nD Cert.FfnOutDxRefIdeal.τ).loc Cert.FfnOutDxRefIdeal.main_arg0) = m' ((c.tc : Thread Cert.FfnOutDxRefIdeal.nD Cert.FfnOutDxRefIdeal.τ).loc Cert.FfnOutDxRefIdeal.main_arg0)
          ∧ r.2.mem ((c.tc : Thread Cert.FfnOutDxRefIdeal.nD Cert.FfnOutDxRefIdeal.τ).loc Cert.FfnOutDxRefIdeal.main_arg1) = m' ((c.tc : Thread Cert.FfnOutDxRefIdeal.nD Cert.FfnOutDxRefIdeal.τ).loc Cert.FfnOutDxRefIdeal.main_arg1)
          ∧ r.2.mem ((c.tc : Thread Cert.FfnOutDxRefIdeal.nD Cert.FfnOutDxRefIdeal.τ).loc Cert.FfnOutDxRefIdeal.main_arg2) = m' ((c.tc : Thread Cert.FfnOutDxRefIdeal.nD Cert.FfnOutDxRefIdeal.τ).loc Cert.FfnOutDxRefIdeal.main_arg2))

def preserves_FfnOutDw_FfnOutDwIdeal : Prop :=
  True

def algebraic_FfnOutDwIdeal_FfnOutDwRefIdeal [hFfnOutDwIdeal : Cert.FfnOutDwIdeal.Facts] [hFfnOutDwRefIdeal : Cert.FfnOutDwRefIdeal.Facts] : Prop :=
  ∀ (m : (ℓ : Loc Cert.FfnOutDwIdeal.nD Cert.FfnOutDwIdeal.τ Cert.FfnOutDwIdeal.sig) → Buf (Elt Ideal) ℓ) (g : Dev Cert.FfnOutDwIdeal.nD → PrngReg)
    (m' : (ℓ : Loc Cert.FfnOutDwRefIdeal.nD Cert.FfnOutDwRefIdeal.τ Cert.FfnOutDwRefIdeal.sig) → Buf (Elt Ideal) ℓ) (g' : Dev Cert.FfnOutDwRefIdeal.nD → PrngReg), Pre_FfnOutDwIdeal m →
    (∀ c : Dev Cert.FfnOutDwIdeal.nD,
      m' ((c.tc : Thread Cert.FfnOutDwRefIdeal.nD Cert.FfnOutDwRefIdeal.τ).loc Cert.FfnOutDwRefIdeal.main_arg0) = m ((c.tc : Thread Cert.FfnOutDwIdeal.nD Cert.FfnOutDwIdeal.τ).loc Cert.FfnOutDwIdeal.main_arg0)
      ∧ m' ((c.tc : Thread Cert.FfnOutDwRefIdeal.nD Cert.FfnOutDwRefIdeal.τ).loc Cert.FfnOutDwRefIdeal.main_arg1) = m ((c.tc : Thread Cert.FfnOutDwIdeal.nD Cert.FfnOutDwIdeal.τ).loc Cert.FfnOutDwIdeal.main_arg1)) →
    ∃ (v0 : (c : Dev Cert.FfnOutDwIdeal.nD) → Buf (Elt Ideal) ((c.tc : Thread Cert.FfnOutDwIdeal.nD Cert.FfnOutDwIdeal.τ).loc Cert.FfnOutDwIdeal.main_v0)),
      θ_run (Cert.FfnOutDwIdeal.defs (F := Ideal)) (onTc (τ := Cert.FfnOutDwIdeal.τ) (Cert.FfnOutDwIdeal.main (F := Ideal))) ⟨m, fun _ => 0, g⟩ (fun r => ∀ c : Dev Cert.FfnOutDwIdeal.nD,
          r.2.mem ((c.tc : Thread Cert.FfnOutDwIdeal.nD Cert.FfnOutDwIdeal.τ).loc Cert.FfnOutDwIdeal.main_v0) = v0 c
          ∧ r.2.mem ((c.tc : Thread Cert.FfnOutDwIdeal.nD Cert.FfnOutDwIdeal.τ).loc Cert.FfnOutDwIdeal.main_arg0) = m ((c.tc : Thread Cert.FfnOutDwIdeal.nD Cert.FfnOutDwIdeal.τ).loc Cert.FfnOutDwIdeal.main_arg0)
          ∧ r.2.mem ((c.tc : Thread Cert.FfnOutDwIdeal.nD Cert.FfnOutDwIdeal.τ).loc Cert.FfnOutDwIdeal.main_arg1) = m ((c.tc : Thread Cert.FfnOutDwIdeal.nD Cert.FfnOutDwIdeal.τ).loc Cert.FfnOutDwIdeal.main_arg1))
      ∧ θ_run (Cert.FfnOutDwRefIdeal.defs (F := Ideal)) (onTc (τ := Cert.FfnOutDwRefIdeal.τ) (Cert.FfnOutDwRefIdeal.main (F := Ideal))) ⟨m', fun _ => 0, g'⟩ (fun r => ∀ c : Dev Cert.FfnOutDwRefIdeal.nD,
          r.2.mem ((c.tc : Thread Cert.FfnOutDwRefIdeal.nD Cert.FfnOutDwRefIdeal.τ).loc Cert.FfnOutDwRefIdeal.main_v7) = v0 c
          ∧ r.2.mem ((c.tc : Thread Cert.FfnOutDwRefIdeal.nD Cert.FfnOutDwRefIdeal.τ).loc Cert.FfnOutDwRefIdeal.main_arg0) = m' ((c.tc : Thread Cert.FfnOutDwRefIdeal.nD Cert.FfnOutDwRefIdeal.τ).loc Cert.FfnOutDwRefIdeal.main_arg0)
          ∧ r.2.mem ((c.tc : Thread Cert.FfnOutDwRefIdeal.nD Cert.FfnOutDwRefIdeal.τ).loc Cert.FfnOutDwRefIdeal.main_arg1) = m' ((c.tc : Thread Cert.FfnOutDwRefIdeal.nD Cert.FfnOutDwRefIdeal.τ).loc Cert.FfnOutDwRefIdeal.main_arg1))

def preserves_MixInDx_MixInDxIdeal : Prop :=
  True

def algebraic_MixInDxIdeal_MixInDxRefIdeal [hMixInDxIdeal : Cert.MixInDxIdeal.Facts] [hMixInDxRefIdeal : Cert.MixInDxRefIdeal.Facts] : Prop :=
  ∀ (m : (ℓ : Loc Cert.MixInDxIdeal.nD Cert.MixInDxIdeal.τ Cert.MixInDxIdeal.sig) → Buf (Elt Ideal) ℓ) (g : Dev Cert.MixInDxIdeal.nD → PrngReg)
    (m' : (ℓ : Loc Cert.MixInDxRefIdeal.nD Cert.MixInDxRefIdeal.τ Cert.MixInDxRefIdeal.sig) → Buf (Elt Ideal) ℓ) (g' : Dev Cert.MixInDxRefIdeal.nD → PrngReg), Pre_MixInDxIdeal m →
    (∀ c : Dev Cert.MixInDxIdeal.nD,
      m' ((c.tc : Thread Cert.MixInDxRefIdeal.nD Cert.MixInDxRefIdeal.τ).loc Cert.MixInDxRefIdeal.main_arg0) = m ((c.tc : Thread Cert.MixInDxIdeal.nD Cert.MixInDxIdeal.τ).loc Cert.MixInDxIdeal.main_arg0)
      ∧ m' ((c.tc : Thread Cert.MixInDxRefIdeal.nD Cert.MixInDxRefIdeal.τ).loc Cert.MixInDxRefIdeal.main_arg1) = m ((c.tc : Thread Cert.MixInDxIdeal.nD Cert.MixInDxIdeal.τ).loc Cert.MixInDxIdeal.main_arg1)) →
    ∃ (v0 : (c : Dev Cert.MixInDxIdeal.nD) → Buf (Elt Ideal) ((c.tc : Thread Cert.MixInDxIdeal.nD Cert.MixInDxIdeal.τ).loc Cert.MixInDxIdeal.main_v0)),
      θ_run (Cert.MixInDxIdeal.defs (F := Ideal)) (onTc (τ := Cert.MixInDxIdeal.τ) (Cert.MixInDxIdeal.main (F := Ideal))) ⟨m, fun _ => 0, g⟩ (fun r => ∀ c : Dev Cert.MixInDxIdeal.nD,
          r.2.mem ((c.tc : Thread Cert.MixInDxIdeal.nD Cert.MixInDxIdeal.τ).loc Cert.MixInDxIdeal.main_v0) = v0 c
          ∧ r.2.mem ((c.tc : Thread Cert.MixInDxIdeal.nD Cert.MixInDxIdeal.τ).loc Cert.MixInDxIdeal.main_arg0) = m ((c.tc : Thread Cert.MixInDxIdeal.nD Cert.MixInDxIdeal.τ).loc Cert.MixInDxIdeal.main_arg0)
          ∧ r.2.mem ((c.tc : Thread Cert.MixInDxIdeal.nD Cert.MixInDxIdeal.τ).loc Cert.MixInDxIdeal.main_arg1) = m ((c.tc : Thread Cert.MixInDxIdeal.nD Cert.MixInDxIdeal.τ).loc Cert.MixInDxIdeal.main_arg1))
      ∧ θ_run (Cert.MixInDxRefIdeal.defs (F := Ideal)) (onTc (τ := Cert.MixInDxRefIdeal.τ) (Cert.MixInDxRefIdeal.main (F := Ideal))) ⟨m', fun _ => 0, g'⟩ (fun r => ∀ c : Dev Cert.MixInDxRefIdeal.nD,
          r.2.mem ((c.tc : Thread Cert.MixInDxRefIdeal.nD Cert.MixInDxRefIdeal.τ).loc Cert.MixInDxRefIdeal.main_v4) = v0 c
          ∧ r.2.mem ((c.tc : Thread Cert.MixInDxRefIdeal.nD Cert.MixInDxRefIdeal.τ).loc Cert.MixInDxRefIdeal.main_arg0) = m' ((c.tc : Thread Cert.MixInDxRefIdeal.nD Cert.MixInDxRefIdeal.τ).loc Cert.MixInDxRefIdeal.main_arg0)
          ∧ r.2.mem ((c.tc : Thread Cert.MixInDxRefIdeal.nD Cert.MixInDxRefIdeal.τ).loc Cert.MixInDxRefIdeal.main_arg1) = m' ((c.tc : Thread Cert.MixInDxRefIdeal.nD Cert.MixInDxRefIdeal.τ).loc Cert.MixInDxRefIdeal.main_arg1))

def preserves_MixInDw_MixInDwIdeal : Prop :=
  True

def algebraic_MixInDwIdeal_MixInDwRefIdeal [hMixInDwIdeal : Cert.MixInDwIdeal.Facts] [hMixInDwRefIdeal : Cert.MixInDwRefIdeal.Facts] : Prop :=
  ∀ (m : (ℓ : Loc Cert.MixInDwIdeal.nD Cert.MixInDwIdeal.τ Cert.MixInDwIdeal.sig) → Buf (Elt Ideal) ℓ) (g : Dev Cert.MixInDwIdeal.nD → PrngReg)
    (m' : (ℓ : Loc Cert.MixInDwRefIdeal.nD Cert.MixInDwRefIdeal.τ Cert.MixInDwRefIdeal.sig) → Buf (Elt Ideal) ℓ) (g' : Dev Cert.MixInDwRefIdeal.nD → PrngReg), Pre_MixInDwIdeal m →
    (∀ c : Dev Cert.MixInDwIdeal.nD,
      m' ((c.tc : Thread Cert.MixInDwRefIdeal.nD Cert.MixInDwRefIdeal.τ).loc Cert.MixInDwRefIdeal.main_arg0) = m ((c.tc : Thread Cert.MixInDwIdeal.nD Cert.MixInDwIdeal.τ).loc Cert.MixInDwIdeal.main_arg0)
      ∧ m' ((c.tc : Thread Cert.MixInDwRefIdeal.nD Cert.MixInDwRefIdeal.τ).loc Cert.MixInDwRefIdeal.main_arg1) = m ((c.tc : Thread Cert.MixInDwIdeal.nD Cert.MixInDwIdeal.τ).loc Cert.MixInDwIdeal.main_arg1)) →
    ∃ (v0 : (c : Dev Cert.MixInDwIdeal.nD) → Buf (Elt Ideal) ((c.tc : Thread Cert.MixInDwIdeal.nD Cert.MixInDwIdeal.τ).loc Cert.MixInDwIdeal.main_v0)),
      θ_run (Cert.MixInDwIdeal.defs (F := Ideal)) (onTc (τ := Cert.MixInDwIdeal.τ) (Cert.MixInDwIdeal.main (F := Ideal))) ⟨m, fun _ => 0, g⟩ (fun r => ∀ c : Dev Cert.MixInDwIdeal.nD,
          r.2.mem ((c.tc : Thread Cert.MixInDwIdeal.nD Cert.MixInDwIdeal.τ).loc Cert.MixInDwIdeal.main_v0) = v0 c
          ∧ r.2.mem ((c.tc : Thread Cert.MixInDwIdeal.nD Cert.MixInDwIdeal.τ).loc Cert.MixInDwIdeal.main_arg0) = m ((c.tc : Thread Cert.MixInDwIdeal.nD Cert.MixInDwIdeal.τ).loc Cert.MixInDwIdeal.main_arg0)
          ∧ r.2.mem ((c.tc : Thread Cert.MixInDwIdeal.nD Cert.MixInDwIdeal.τ).loc Cert.MixInDwIdeal.main_arg1) = m ((c.tc : Thread Cert.MixInDwIdeal.nD Cert.MixInDwIdeal.τ).loc Cert.MixInDwIdeal.main_arg1))
      ∧ θ_run (Cert.MixInDwRefIdeal.defs (F := Ideal)) (onTc (τ := Cert.MixInDwRefIdeal.τ) (Cert.MixInDwRefIdeal.main (F := Ideal))) ⟨m', fun _ => 0, g'⟩ (fun r => ∀ c : Dev Cert.MixInDwRefIdeal.nD,
          r.2.mem ((c.tc : Thread Cert.MixInDwRefIdeal.nD Cert.MixInDwRefIdeal.τ).loc Cert.MixInDwRefIdeal.main_v7) = v0 c
          ∧ r.2.mem ((c.tc : Thread Cert.MixInDwRefIdeal.nD Cert.MixInDwRefIdeal.τ).loc Cert.MixInDwRefIdeal.main_arg0) = m' ((c.tc : Thread Cert.MixInDwRefIdeal.nD Cert.MixInDwRefIdeal.τ).loc Cert.MixInDwRefIdeal.main_arg0)
          ∧ r.2.mem ((c.tc : Thread Cert.MixInDwRefIdeal.nD Cert.MixInDwRefIdeal.τ).loc Cert.MixInDwRefIdeal.main_arg1) = m' ((c.tc : Thread Cert.MixInDwRefIdeal.nD Cert.MixInDwRefIdeal.τ).loc Cert.MixInDwRefIdeal.main_arg1))

def preserves_MixOutDx_MixOutDxIdeal : Prop :=
  True

def algebraic_MixOutDxIdeal_MixOutDxRefIdeal [hMixOutDxIdeal : Cert.MixOutDxIdeal.Facts] [hMixOutDxRefIdeal : Cert.MixOutDxRefIdeal.Facts] : Prop :=
  ∀ (m : (ℓ : Loc Cert.MixOutDxIdeal.nD Cert.MixOutDxIdeal.τ Cert.MixOutDxIdeal.sig) → Buf (Elt Ideal) ℓ) (g : Dev Cert.MixOutDxIdeal.nD → PrngReg)
    (m' : (ℓ : Loc Cert.MixOutDxRefIdeal.nD Cert.MixOutDxRefIdeal.τ Cert.MixOutDxRefIdeal.sig) → Buf (Elt Ideal) ℓ) (g' : Dev Cert.MixOutDxRefIdeal.nD → PrngReg), Pre_MixOutDxIdeal m →
    (∀ c : Dev Cert.MixOutDxIdeal.nD,
      m' ((c.tc : Thread Cert.MixOutDxRefIdeal.nD Cert.MixOutDxRefIdeal.τ).loc Cert.MixOutDxRefIdeal.main_arg0) = m ((c.tc : Thread Cert.MixOutDxIdeal.nD Cert.MixOutDxIdeal.τ).loc Cert.MixOutDxIdeal.main_arg0)
      ∧ m' ((c.tc : Thread Cert.MixOutDxRefIdeal.nD Cert.MixOutDxRefIdeal.τ).loc Cert.MixOutDxRefIdeal.main_arg1) = m ((c.tc : Thread Cert.MixOutDxIdeal.nD Cert.MixOutDxIdeal.τ).loc Cert.MixOutDxIdeal.main_arg1)) →
    ∃ (v0 : (c : Dev Cert.MixOutDxIdeal.nD) → Buf (Elt Ideal) ((c.tc : Thread Cert.MixOutDxIdeal.nD Cert.MixOutDxIdeal.τ).loc Cert.MixOutDxIdeal.main_v0)),
      θ_run (Cert.MixOutDxIdeal.defs (F := Ideal)) (onTc (τ := Cert.MixOutDxIdeal.τ) (Cert.MixOutDxIdeal.main (F := Ideal))) ⟨m, fun _ => 0, g⟩ (fun r => ∀ c : Dev Cert.MixOutDxIdeal.nD,
          r.2.mem ((c.tc : Thread Cert.MixOutDxIdeal.nD Cert.MixOutDxIdeal.τ).loc Cert.MixOutDxIdeal.main_v0) = v0 c
          ∧ r.2.mem ((c.tc : Thread Cert.MixOutDxIdeal.nD Cert.MixOutDxIdeal.τ).loc Cert.MixOutDxIdeal.main_arg0) = m ((c.tc : Thread Cert.MixOutDxIdeal.nD Cert.MixOutDxIdeal.τ).loc Cert.MixOutDxIdeal.main_arg0)
          ∧ r.2.mem ((c.tc : Thread Cert.MixOutDxIdeal.nD Cert.MixOutDxIdeal.τ).loc Cert.MixOutDxIdeal.main_arg1) = m ((c.tc : Thread Cert.MixOutDxIdeal.nD Cert.MixOutDxIdeal.τ).loc Cert.MixOutDxIdeal.main_arg1))
      ∧ θ_run (Cert.MixOutDxRefIdeal.defs (F := Ideal)) (onTc (τ := Cert.MixOutDxRefIdeal.τ) (Cert.MixOutDxRefIdeal.main (F := Ideal))) ⟨m', fun _ => 0, g'⟩ (fun r => ∀ c : Dev Cert.MixOutDxRefIdeal.nD,
          r.2.mem ((c.tc : Thread Cert.MixOutDxRefIdeal.nD Cert.MixOutDxRefIdeal.τ).loc Cert.MixOutDxRefIdeal.main_v4) = v0 c
          ∧ r.2.mem ((c.tc : Thread Cert.MixOutDxRefIdeal.nD Cert.MixOutDxRefIdeal.τ).loc Cert.MixOutDxRefIdeal.main_arg0) = m' ((c.tc : Thread Cert.MixOutDxRefIdeal.nD Cert.MixOutDxRefIdeal.τ).loc Cert.MixOutDxRefIdeal.main_arg0)
          ∧ r.2.mem ((c.tc : Thread Cert.MixOutDxRefIdeal.nD Cert.MixOutDxRefIdeal.τ).loc Cert.MixOutDxRefIdeal.main_arg1) = m' ((c.tc : Thread Cert.MixOutDxRefIdeal.nD Cert.MixOutDxRefIdeal.τ).loc Cert.MixOutDxRefIdeal.main_arg1))

def preserves_MixOutDw_MixOutDwIdeal : Prop :=
  True

def algebraic_MixOutDwIdeal_MixOutDwRefIdeal [hMixOutDwIdeal : Cert.MixOutDwIdeal.Facts] [hMixOutDwRefIdeal : Cert.MixOutDwRefIdeal.Facts] : Prop :=
  ∀ (m : (ℓ : Loc Cert.MixOutDwIdeal.nD Cert.MixOutDwIdeal.τ Cert.MixOutDwIdeal.sig) → Buf (Elt Ideal) ℓ) (g : Dev Cert.MixOutDwIdeal.nD → PrngReg)
    (m' : (ℓ : Loc Cert.MixOutDwRefIdeal.nD Cert.MixOutDwRefIdeal.τ Cert.MixOutDwRefIdeal.sig) → Buf (Elt Ideal) ℓ) (g' : Dev Cert.MixOutDwRefIdeal.nD → PrngReg), Pre_MixOutDwIdeal m →
    (∀ c : Dev Cert.MixOutDwIdeal.nD,
      m' ((c.tc : Thread Cert.MixOutDwRefIdeal.nD Cert.MixOutDwRefIdeal.τ).loc Cert.MixOutDwRefIdeal.main_arg0) = m ((c.tc : Thread Cert.MixOutDwIdeal.nD Cert.MixOutDwIdeal.τ).loc Cert.MixOutDwIdeal.main_arg0)
      ∧ m' ((c.tc : Thread Cert.MixOutDwRefIdeal.nD Cert.MixOutDwRefIdeal.τ).loc Cert.MixOutDwRefIdeal.main_arg1) = m ((c.tc : Thread Cert.MixOutDwIdeal.nD Cert.MixOutDwIdeal.τ).loc Cert.MixOutDwIdeal.main_arg1)) →
    ∃ (v0 : (c : Dev Cert.MixOutDwIdeal.nD) → Buf (Elt Ideal) ((c.tc : Thread Cert.MixOutDwIdeal.nD Cert.MixOutDwIdeal.τ).loc Cert.MixOutDwIdeal.main_v1)),
      θ_run (Cert.MixOutDwIdeal.defs (F := Ideal)) (onTc (τ := Cert.MixOutDwIdeal.τ) (Cert.MixOutDwIdeal.main (F := Ideal))) ⟨m, fun _ => 0, g⟩ (fun r => ∀ c : Dev Cert.MixOutDwIdeal.nD,
          r.2.mem ((c.tc : Thread Cert.MixOutDwIdeal.nD Cert.MixOutDwIdeal.τ).loc Cert.MixOutDwIdeal.main_v1) = v0 c
          ∧ r.2.mem ((c.tc : Thread Cert.MixOutDwIdeal.nD Cert.MixOutDwIdeal.τ).loc Cert.MixOutDwIdeal.main_arg0) = m ((c.tc : Thread Cert.MixOutDwIdeal.nD Cert.MixOutDwIdeal.τ).loc Cert.MixOutDwIdeal.main_arg0)
          ∧ r.2.mem ((c.tc : Thread Cert.MixOutDwIdeal.nD Cert.MixOutDwIdeal.τ).loc Cert.MixOutDwIdeal.main_arg1) = m ((c.tc : Thread Cert.MixOutDwIdeal.nD Cert.MixOutDwIdeal.τ).loc Cert.MixOutDwIdeal.main_arg1))
      ∧ θ_run (Cert.MixOutDwRefIdeal.defs (F := Ideal)) (onTc (τ := Cert.MixOutDwRefIdeal.τ) (Cert.MixOutDwRefIdeal.main (F := Ideal))) ⟨m', fun _ => 0, g'⟩ (fun r => ∀ c : Dev Cert.MixOutDwRefIdeal.nD,
          r.2.mem ((c.tc : Thread Cert.MixOutDwRefIdeal.nD Cert.MixOutDwRefIdeal.τ).loc Cert.MixOutDwRefIdeal.main_v6) = v0 c
          ∧ r.2.mem ((c.tc : Thread Cert.MixOutDwRefIdeal.nD Cert.MixOutDwRefIdeal.τ).loc Cert.MixOutDwRefIdeal.main_arg0) = m' ((c.tc : Thread Cert.MixOutDwRefIdeal.nD Cert.MixOutDwRefIdeal.τ).loc Cert.MixOutDwRefIdeal.main_arg0)
          ∧ r.2.mem ((c.tc : Thread Cert.MixOutDwRefIdeal.nD Cert.MixOutDwRefIdeal.τ).loc Cert.MixOutDwRefIdeal.main_arg1) = m' ((c.tc : Thread Cert.MixOutDwRefIdeal.nD Cert.MixOutDwRefIdeal.τ).loc Cert.MixOutDwRefIdeal.main_arg1))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)) →
    ∃ (v0 : (c : Dev Cert.FfnInIdeal.nD) → Buf (Elt Ideal) ((c.tc : Thread Cert.FfnInIdeal.nD Cert.FfnInIdeal.τ).loc Cert.FfnInIdeal.main_v0_0)) (v1 : (c : Dev Cert.FfnInIdeal.nD) → Buf (Elt Ideal) ((c.tc : Thread Cert.FfnInIdeal.nD Cert.FfnInIdeal.τ).loc Cert.FfnInIdeal.main_v0_1)) (v2 : (c : Dev Cert.FfnInIdeal.nD) → Buf (Elt Ideal) ((c.tc : Thread Cert.FfnInIdeal.nD Cert.FfnInIdeal.τ).loc Cert.FfnInIdeal.main_v0_2)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v0_0) = v0 c
          ∧ r.2.mem ((c.tc : Thread Cert.FfnInIdeal.nD Cert.FfnInIdeal.τ).loc Cert.FfnInIdeal.main_v0_1) = v1 c
          ∧ r.2.mem ((c.tc : Thread Cert.FfnInIdeal.nD Cert.FfnInIdeal.τ).loc Cert.FfnInIdeal.main_v0_2) = v2 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v10) = v0 c
          ∧ r.2.mem ((c.tc : Thread Cert.FfnInRefIdeal.nD Cert.FfnInRefIdeal.τ).loc Cert.FfnInRefIdeal.main_v11) = v1 c
          ∧ r.2.mem ((c.tc : Thread Cert.FfnInRefIdeal.nD Cert.FfnInRefIdeal.τ).loc Cert.FfnInRefIdeal.main_v13) = v2 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)) →
    ∃ (v0 : (c : Dev Cert.FfnOutIdeal.nD) → Buf (Elt Ideal) ((c.tc : Thread Cert.FfnOutIdeal.nD Cert.FfnOutIdeal.τ).loc Cert.FfnOutIdeal.main_v0)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v0) = v0 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v2) = v0 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1))

def preserves_MixIn_MixInIdeal : Prop :=
  True

def algebraic_MixInIdeal_MixInRefIdeal [hMixInIdeal : Cert.MixInIdeal.Facts] [hMixInRefIdeal : Cert.MixInRefIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)) →
    ∃ (v0 : (c : Dev Cert.MixInIdeal.nD) → Buf (Elt Ideal) ((c.tc : Thread Cert.MixInIdeal.nD Cert.MixInIdeal.τ).loc Cert.MixInIdeal.main_v0)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v0) = v0 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v2) = v0 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)) →
    ∃ (v0 : (c : Dev Cert.MixOutIdeal.nD) → Buf (Elt Ideal) ((c.tc : Thread Cert.MixOutIdeal.nD Cert.MixOutIdeal.τ).loc Cert.MixOutIdeal.main_v0)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v2) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1))

def preserves_CtxFfnInDx_CtxFfnInDxIdeal : Prop :=
  True

def algebraic_CtxFfnInDxIdeal_CtxFfnInDxRefIdeal [hCtxFfnInDxIdeal : Cert.CtxFfnInDxIdeal.Facts] [hCtxFfnInDxRefIdeal : Cert.CtxFfnInDxRefIdeal.Facts] : Prop :=
  ∀ (m : (ℓ : Loc Cert.CtxFfnInDxIdeal.nD Cert.CtxFfnInDxIdeal.τ Cert.CtxFfnInDxIdeal.sig) → Buf (Elt Ideal) ℓ) (g : Dev Cert.CtxFfnInDxIdeal.nD → PrngReg)
    (m' : (ℓ : Loc Cert.CtxFfnInDxRefIdeal.nD Cert.CtxFfnInDxRefIdeal.τ Cert.CtxFfnInDxRefIdeal.sig) → Buf (Elt Ideal) ℓ) (g' : Dev Cert.CtxFfnInDxRefIdeal.nD → PrngReg), Pre_CtxFfnInDxIdeal m →
    (∀ c : Dev Cert.CtxFfnInDxIdeal.nD,
      m' ((c.tc : Thread Cert.CtxFfnInDxRefIdeal.nD Cert.CtxFfnInDxRefIdeal.τ).loc Cert.CtxFfnInDxRefIdeal.main_arg0) = m ((c.tc : Thread Cert.CtxFfnInDxIdeal.nD Cert.CtxFfnInDxIdeal.τ).loc Cert.CtxFfnInDxIdeal.main_arg0)
      ∧ m' ((c.tc : Thread Cert.CtxFfnInDxRefIdeal.nD Cert.CtxFfnInDxRefIdeal.τ).loc Cert.CtxFfnInDxRefIdeal.main_arg1) = m ((c.tc : Thread Cert.CtxFfnInDxIdeal.nD Cert.CtxFfnInDxIdeal.τ).loc Cert.CtxFfnInDxIdeal.main_arg1)) →
    ∃ (v0 : (c : Dev Cert.CtxFfnInDxIdeal.nD) → Buf (Elt Ideal) ((c.tc : Thread Cert.CtxFfnInDxIdeal.nD Cert.CtxFfnInDxIdeal.τ).loc Cert.CtxFfnInDxIdeal.main_v0)),
      θ_run (Cert.CtxFfnInDxIdeal.defs (F := Ideal)) (onTc (τ := Cert.CtxFfnInDxIdeal.τ) (Cert.CtxFfnInDxIdeal.main (F := Ideal))) ⟨m, fun _ => 0, g⟩ (fun r => ∀ c : Dev Cert.CtxFfnInDxIdeal.nD,
          r.2.mem ((c.tc : Thread Cert.CtxFfnInDxIdeal.nD Cert.CtxFfnInDxIdeal.τ).loc Cert.CtxFfnInDxIdeal.main_v0) = v0 c
          ∧ r.2.mem ((c.tc : Thread Cert.CtxFfnInDxIdeal.nD Cert.CtxFfnInDxIdeal.τ).loc Cert.CtxFfnInDxIdeal.main_arg0) = m ((c.tc : Thread Cert.CtxFfnInDxIdeal.nD Cert.CtxFfnInDxIdeal.τ).loc Cert.CtxFfnInDxIdeal.main_arg0)
          ∧ r.2.mem ((c.tc : Thread Cert.CtxFfnInDxIdeal.nD Cert.CtxFfnInDxIdeal.τ).loc Cert.CtxFfnInDxIdeal.main_arg1) = m ((c.tc : Thread Cert.CtxFfnInDxIdeal.nD Cert.CtxFfnInDxIdeal.τ).loc Cert.CtxFfnInDxIdeal.main_arg1))
      ∧ θ_run (Cert.CtxFfnInDxRefIdeal.defs (F := Ideal)) (onTc (τ := Cert.CtxFfnInDxRefIdeal.τ) (Cert.CtxFfnInDxRefIdeal.main (F := Ideal))) ⟨m', fun _ => 0, g'⟩ (fun r => ∀ c : Dev Cert.CtxFfnInDxRefIdeal.nD,
          r.2.mem ((c.tc : Thread Cert.CtxFfnInDxRefIdeal.nD Cert.CtxFfnInDxRefIdeal.τ).loc Cert.CtxFfnInDxRefIdeal.main_v10) = v0 c
          ∧ r.2.mem ((c.tc : Thread Cert.CtxFfnInDxRefIdeal.nD Cert.CtxFfnInDxRefIdeal.τ).loc Cert.CtxFfnInDxRefIdeal.main_arg0) = m' ((c.tc : Thread Cert.CtxFfnInDxRefIdeal.nD Cert.CtxFfnInDxRefIdeal.τ).loc Cert.CtxFfnInDxRefIdeal.main_arg0)
          ∧ r.2.mem ((c.tc : Thread Cert.CtxFfnInDxRefIdeal.nD Cert.CtxFfnInDxRefIdeal.τ).loc Cert.CtxFfnInDxRefIdeal.main_arg1) = m' ((c.tc : Thread Cert.CtxFfnInDxRefIdeal.nD Cert.CtxFfnInDxRefIdeal.τ).loc Cert.CtxFfnInDxRefIdeal.main_arg1))

def preserves_CtxFfnInDw_CtxFfnInDwIdeal : Prop :=
  True

def algebraic_CtxFfnInDwIdeal_CtxFfnInDwRefIdeal [hCtxFfnInDwIdeal : Cert.CtxFfnInDwIdeal.Facts] [hCtxFfnInDwRefIdeal : Cert.CtxFfnInDwRefIdeal.Facts] : Prop :=
  ∀ (m : (ℓ : Loc Cert.CtxFfnInDwIdeal.nD Cert.CtxFfnInDwIdeal.τ Cert.CtxFfnInDwIdeal.sig) → Buf (Elt Ideal) ℓ) (g : Dev Cert.CtxFfnInDwIdeal.nD → PrngReg)
    (m' : (ℓ : Loc Cert.CtxFfnInDwRefIdeal.nD Cert.CtxFfnInDwRefIdeal.τ Cert.CtxFfnInDwRefIdeal.sig) → Buf (Elt Ideal) ℓ) (g' : Dev Cert.CtxFfnInDwRefIdeal.nD → PrngReg), Pre_CtxFfnInDwIdeal m →
    (∀ c : Dev Cert.CtxFfnInDwIdeal.nD,
      m' ((c.tc : Thread Cert.CtxFfnInDwRefIdeal.nD Cert.CtxFfnInDwRefIdeal.τ).loc Cert.CtxFfnInDwRefIdeal.main_arg0) = m ((c.tc : Thread Cert.CtxFfnInDwIdeal.nD Cert.CtxFfnInDwIdeal.τ).loc Cert.CtxFfnInDwIdeal.main_arg0)
      ∧ m' ((c.tc : Thread Cert.CtxFfnInDwRefIdeal.nD Cert.CtxFfnInDwRefIdeal.τ).loc Cert.CtxFfnInDwRefIdeal.main_arg1) = m ((c.tc : Thread Cert.CtxFfnInDwIdeal.nD Cert.CtxFfnInDwIdeal.τ).loc Cert.CtxFfnInDwIdeal.main_arg1)
      ∧ m' ((c.tc : Thread Cert.CtxFfnInDwRefIdeal.nD Cert.CtxFfnInDwRefIdeal.τ).loc Cert.CtxFfnInDwRefIdeal.main_arg2) = m ((c.tc : Thread Cert.CtxFfnInDwIdeal.nD Cert.CtxFfnInDwIdeal.τ).loc Cert.CtxFfnInDwIdeal.main_arg2)) →
    ∃ (v0 : (c : Dev Cert.CtxFfnInDwIdeal.nD) → Buf (Elt Ideal) ((c.tc : Thread Cert.CtxFfnInDwIdeal.nD Cert.CtxFfnInDwIdeal.τ).loc Cert.CtxFfnInDwIdeal.main_v0)),
      θ_run (Cert.CtxFfnInDwIdeal.defs (F := Ideal)) (onTc (τ := Cert.CtxFfnInDwIdeal.τ) (Cert.CtxFfnInDwIdeal.main (F := Ideal))) ⟨m, fun _ => 0, g⟩ (fun r => ∀ c : Dev Cert.CtxFfnInDwIdeal.nD,
          r.2.mem ((c.tc : Thread Cert.CtxFfnInDwIdeal.nD Cert.CtxFfnInDwIdeal.τ).loc Cert.CtxFfnInDwIdeal.main_v0) = v0 c
          ∧ r.2.mem ((c.tc : Thread Cert.CtxFfnInDwIdeal.nD Cert.CtxFfnInDwIdeal.τ).loc Cert.CtxFfnInDwIdeal.main_arg0) = m ((c.tc : Thread Cert.CtxFfnInDwIdeal.nD Cert.CtxFfnInDwIdeal.τ).loc Cert.CtxFfnInDwIdeal.main_arg0)
          ∧ r.2.mem ((c.tc : Thread Cert.CtxFfnInDwIdeal.nD Cert.CtxFfnInDwIdeal.τ).loc Cert.CtxFfnInDwIdeal.main_arg1) = m ((c.tc : Thread Cert.CtxFfnInDwIdeal.nD Cert.CtxFfnInDwIdeal.τ).loc Cert.CtxFfnInDwIdeal.main_arg1)
          ∧ r.2.mem ((c.tc : Thread Cert.CtxFfnInDwIdeal.nD Cert.CtxFfnInDwIdeal.τ).loc Cert.CtxFfnInDwIdeal.main_arg2) = m ((c.tc : Thread Cert.CtxFfnInDwIdeal.nD Cert.CtxFfnInDwIdeal.τ).loc Cert.CtxFfnInDwIdeal.main_arg2))
      ∧ θ_run (Cert.CtxFfnInDwRefIdeal.defs (F := Ideal)) (onTc (τ := Cert.CtxFfnInDwRefIdeal.τ) (Cert.CtxFfnInDwRefIdeal.main (F := Ideal))) ⟨m', fun _ => 0, g'⟩ (fun r => ∀ c : Dev Cert.CtxFfnInDwRefIdeal.nD,
          r.2.mem ((c.tc : Thread Cert.CtxFfnInDwRefIdeal.nD Cert.CtxFfnInDwRefIdeal.τ).loc Cert.CtxFfnInDwRefIdeal.main_v12) = v0 c
          ∧ r.2.mem ((c.tc : Thread Cert.CtxFfnInDwRefIdeal.nD Cert.CtxFfnInDwRefIdeal.τ).loc Cert.CtxFfnInDwRefIdeal.main_arg0) = m' ((c.tc : Thread Cert.CtxFfnInDwRefIdeal.nD Cert.CtxFfnInDwRefIdeal.τ).loc Cert.CtxFfnInDwRefIdeal.main_arg0)
          ∧ r.2.mem ((c.tc : Thread Cert.CtxFfnInDwRefIdeal.nD Cert.CtxFfnInDwRefIdeal.τ).loc Cert.CtxFfnInDwRefIdeal.main_arg1) = m' ((c.tc : Thread Cert.CtxFfnInDwRefIdeal.nD Cert.CtxFfnInDwRefIdeal.τ).loc Cert.CtxFfnInDwRefIdeal.main_arg1)
          ∧ r.2.mem ((c.tc : Thread Cert.CtxFfnInDwRefIdeal.nD Cert.CtxFfnInDwRefIdeal.τ).loc Cert.CtxFfnInDwRefIdeal.main_arg2) = m' ((c.tc : Thread Cert.CtxFfnInDwRefIdeal.nD Cert.CtxFfnInDwRefIdeal.τ).loc Cert.CtxFfnInDwRefIdeal.main_arg2))

def preserves_CtxFfnOutDx_CtxFfnOutDxIdeal : Prop :=
  True

def algebraic_CtxFfnOutDxIdeal_CtxFfnOutDxRefIdeal_pre_finite_dact_ctx [hCtxFfnOutDxIdeal : Cert.CtxFfnOutDxIdeal.Facts] [hCtxFfnOutDxRefIdeal : Cert.CtxFfnOutDxRefIdeal.Facts] [hPre_finite_dact_ctx : Cert.Pre_finite_dact_ctx.Facts] : Prop :=
  ∀ (m : (ℓ : Loc Cert.CtxFfnOutDxIdeal.nD Cert.CtxFfnOutDxIdeal.τ Cert.CtxFfnOutDxIdeal.sig) → Buf (Elt Ideal) ℓ) (g : Dev Cert.CtxFfnOutDxIdeal.nD → PrngReg)
    (m' : (ℓ : Loc Cert.CtxFfnOutDxRefIdeal.nD Cert.CtxFfnOutDxRefIdeal.τ Cert.CtxFfnOutDxRefIdeal.sig) → Buf (Elt Ideal) ℓ) (g' : Dev Cert.CtxFfnOutDxRefIdeal.nD → PrngReg), Pre_CtxFfnOutDxIdeal_finite_dact_ctx m →
    (∀ c : Dev Cert.CtxFfnOutDxIdeal.nD,
      m' ((c.tc : Thread Cert.CtxFfnOutDxRefIdeal.nD Cert.CtxFfnOutDxRefIdeal.τ).loc Cert.CtxFfnOutDxRefIdeal.main_arg0) = m ((c.tc : Thread Cert.CtxFfnOutDxIdeal.nD Cert.CtxFfnOutDxIdeal.τ).loc Cert.CtxFfnOutDxIdeal.main_arg0)
      ∧ m' ((c.tc : Thread Cert.CtxFfnOutDxRefIdeal.nD Cert.CtxFfnOutDxRefIdeal.τ).loc Cert.CtxFfnOutDxRefIdeal.main_arg1) = m ((c.tc : Thread Cert.CtxFfnOutDxIdeal.nD Cert.CtxFfnOutDxIdeal.τ).loc Cert.CtxFfnOutDxIdeal.main_arg1)
      ∧ m' ((c.tc : Thread Cert.CtxFfnOutDxRefIdeal.nD Cert.CtxFfnOutDxRefIdeal.τ).loc Cert.CtxFfnOutDxRefIdeal.main_arg2) = m ((c.tc : Thread Cert.CtxFfnOutDxIdeal.nD Cert.CtxFfnOutDxIdeal.τ).loc Cert.CtxFfnOutDxIdeal.main_arg2)) →
    ∃ (v0 : (c : Dev Cert.CtxFfnOutDxIdeal.nD) → Buf (Elt Ideal) ((c.tc : Thread Cert.CtxFfnOutDxIdeal.nD Cert.CtxFfnOutDxIdeal.τ).loc Cert.CtxFfnOutDxIdeal.main_v0)),
      θ_run (Cert.CtxFfnOutDxIdeal.defs (F := Ideal)) (onTc (τ := Cert.CtxFfnOutDxIdeal.τ) (Cert.CtxFfnOutDxIdeal.main (F := Ideal))) ⟨m, fun _ => 0, g⟩ (fun r => ∀ c : Dev Cert.CtxFfnOutDxIdeal.nD,
          r.2.mem ((c.tc : Thread Cert.CtxFfnOutDxIdeal.nD Cert.CtxFfnOutDxIdeal.τ).loc Cert.CtxFfnOutDxIdeal.main_v0) = v0 c
          ∧ r.2.mem ((c.tc : Thread Cert.CtxFfnOutDxIdeal.nD Cert.CtxFfnOutDxIdeal.τ).loc Cert.CtxFfnOutDxIdeal.main_arg0) = m ((c.tc : Thread Cert.CtxFfnOutDxIdeal.nD Cert.CtxFfnOutDxIdeal.τ).loc Cert.CtxFfnOutDxIdeal.main_arg0)
          ∧ r.2.mem ((c.tc : Thread Cert.CtxFfnOutDxIdeal.nD Cert.CtxFfnOutDxIdeal.τ).loc Cert.CtxFfnOutDxIdeal.main_arg1) = m ((c.tc : Thread Cert.CtxFfnOutDxIdeal.nD Cert.CtxFfnOutDxIdeal.τ).loc Cert.CtxFfnOutDxIdeal.main_arg1)
          ∧ r.2.mem ((c.tc : Thread Cert.CtxFfnOutDxIdeal.nD Cert.CtxFfnOutDxIdeal.τ).loc Cert.CtxFfnOutDxIdeal.main_arg2) = m ((c.tc : Thread Cert.CtxFfnOutDxIdeal.nD Cert.CtxFfnOutDxIdeal.τ).loc Cert.CtxFfnOutDxIdeal.main_arg2))
      ∧ θ_run (Cert.CtxFfnOutDxRefIdeal.defs (F := Ideal)) (onTc (τ := Cert.CtxFfnOutDxRefIdeal.τ) (Cert.CtxFfnOutDxRefIdeal.main (F := Ideal))) ⟨m', fun _ => 0, g'⟩ (fun r => ∀ c : Dev Cert.CtxFfnOutDxRefIdeal.nD,
          r.2.mem ((c.tc : Thread Cert.CtxFfnOutDxRefIdeal.nD Cert.CtxFfnOutDxRefIdeal.τ).loc Cert.CtxFfnOutDxRefIdeal.main_v19) = v0 c
          ∧ r.2.mem ((c.tc : Thread Cert.CtxFfnOutDxRefIdeal.nD Cert.CtxFfnOutDxRefIdeal.τ).loc Cert.CtxFfnOutDxRefIdeal.main_arg0) = m' ((c.tc : Thread Cert.CtxFfnOutDxRefIdeal.nD Cert.CtxFfnOutDxRefIdeal.τ).loc Cert.CtxFfnOutDxRefIdeal.main_arg0)
          ∧ r.2.mem ((c.tc : Thread Cert.CtxFfnOutDxRefIdeal.nD Cert.CtxFfnOutDxRefIdeal.τ).loc Cert.CtxFfnOutDxRefIdeal.main_arg1) = m' ((c.tc : Thread Cert.CtxFfnOutDxRefIdeal.nD Cert.CtxFfnOutDxRefIdeal.τ).loc Cert.CtxFfnOutDxRefIdeal.main_arg1)
          ∧ r.2.mem ((c.tc : Thread Cert.CtxFfnOutDxRefIdeal.nD Cert.CtxFfnOutDxRefIdeal.τ).loc Cert.CtxFfnOutDxRefIdeal.main_arg2) = m' ((c.tc : Thread Cert.CtxFfnOutDxRefIdeal.nD Cert.CtxFfnOutDxRefIdeal.τ).loc Cert.CtxFfnOutDxRefIdeal.main_arg2))

def preserves_CtxFfnOutDw_CtxFfnOutDwIdeal : Prop :=
  True

def algebraic_CtxFfnOutDwIdeal_CtxFfnOutDwRefIdeal [hCtxFfnOutDwIdeal : Cert.CtxFfnOutDwIdeal.Facts] [hCtxFfnOutDwRefIdeal : Cert.CtxFfnOutDwRefIdeal.Facts] : Prop :=
  ∀ (m : (ℓ : Loc Cert.CtxFfnOutDwIdeal.nD Cert.CtxFfnOutDwIdeal.τ Cert.CtxFfnOutDwIdeal.sig) → Buf (Elt Ideal) ℓ) (g : Dev Cert.CtxFfnOutDwIdeal.nD → PrngReg)
    (m' : (ℓ : Loc Cert.CtxFfnOutDwRefIdeal.nD Cert.CtxFfnOutDwRefIdeal.τ Cert.CtxFfnOutDwRefIdeal.sig) → Buf (Elt Ideal) ℓ) (g' : Dev Cert.CtxFfnOutDwRefIdeal.nD → PrngReg), Pre_CtxFfnOutDwIdeal m →
    (∀ c : Dev Cert.CtxFfnOutDwIdeal.nD,
      m' ((c.tc : Thread Cert.CtxFfnOutDwRefIdeal.nD Cert.CtxFfnOutDwRefIdeal.τ).loc Cert.CtxFfnOutDwRefIdeal.main_arg0) = m ((c.tc : Thread Cert.CtxFfnOutDwIdeal.nD Cert.CtxFfnOutDwIdeal.τ).loc Cert.CtxFfnOutDwIdeal.main_arg0)
      ∧ m' ((c.tc : Thread Cert.CtxFfnOutDwRefIdeal.nD Cert.CtxFfnOutDwRefIdeal.τ).loc Cert.CtxFfnOutDwRefIdeal.main_arg1) = m ((c.tc : Thread Cert.CtxFfnOutDwIdeal.nD Cert.CtxFfnOutDwIdeal.τ).loc Cert.CtxFfnOutDwIdeal.main_arg1)
      ∧ m' ((c.tc : Thread Cert.CtxFfnOutDwRefIdeal.nD Cert.CtxFfnOutDwRefIdeal.τ).loc Cert.CtxFfnOutDwRefIdeal.main_arg2) = m ((c.tc : Thread Cert.CtxFfnOutDwIdeal.nD Cert.CtxFfnOutDwIdeal.τ).loc Cert.CtxFfnOutDwIdeal.main_arg2)) →
    ∃ (v0 : (c : Dev Cert.CtxFfnOutDwIdeal.nD) → Buf (Elt Ideal) ((c.tc : Thread Cert.CtxFfnOutDwIdeal.nD Cert.CtxFfnOutDwIdeal.τ).loc Cert.CtxFfnOutDwIdeal.main_v0)),
      θ_run (Cert.CtxFfnOutDwIdeal.defs (F := Ideal)) (onTc (τ := Cert.CtxFfnOutDwIdeal.τ) (Cert.CtxFfnOutDwIdeal.main (F := Ideal))) ⟨m, fun _ => 0, g⟩ (fun r => ∀ c : Dev Cert.CtxFfnOutDwIdeal.nD,
          r.2.mem ((c.tc : Thread Cert.CtxFfnOutDwIdeal.nD Cert.CtxFfnOutDwIdeal.τ).loc Cert.CtxFfnOutDwIdeal.main_v0) = v0 c
          ∧ r.2.mem ((c.tc : Thread Cert.CtxFfnOutDwIdeal.nD Cert.CtxFfnOutDwIdeal.τ).loc Cert.CtxFfnOutDwIdeal.main_arg0) = m ((c.tc : Thread Cert.CtxFfnOutDwIdeal.nD Cert.CtxFfnOutDwIdeal.τ).loc Cert.CtxFfnOutDwIdeal.main_arg0)
          ∧ r.2.mem ((c.tc : Thread Cert.CtxFfnOutDwIdeal.nD Cert.CtxFfnOutDwIdeal.τ).loc Cert.CtxFfnOutDwIdeal.main_arg1) = m ((c.tc : Thread Cert.CtxFfnOutDwIdeal.nD Cert.CtxFfnOutDwIdeal.τ).loc Cert.CtxFfnOutDwIdeal.main_arg1)
          ∧ r.2.mem ((c.tc : Thread Cert.CtxFfnOutDwIdeal.nD Cert.CtxFfnOutDwIdeal.τ).loc Cert.CtxFfnOutDwIdeal.main_arg2) = m ((c.tc : Thread Cert.CtxFfnOutDwIdeal.nD Cert.CtxFfnOutDwIdeal.τ).loc Cert.CtxFfnOutDwIdeal.main_arg2))
      ∧ θ_run (Cert.CtxFfnOutDwRefIdeal.defs (F := Ideal)) (onTc (τ := Cert.CtxFfnOutDwRefIdeal.τ) (Cert.CtxFfnOutDwRefIdeal.main (F := Ideal))) ⟨m', fun _ => 0, g'⟩ (fun r => ∀ c : Dev Cert.CtxFfnOutDwRefIdeal.nD,
          r.2.mem ((c.tc : Thread Cert.CtxFfnOutDwRefIdeal.nD Cert.CtxFfnOutDwRefIdeal.τ).loc Cert.CtxFfnOutDwRefIdeal.main_v9) = v0 c
          ∧ r.2.mem ((c.tc : Thread Cert.CtxFfnOutDwRefIdeal.nD Cert.CtxFfnOutDwRefIdeal.τ).loc Cert.CtxFfnOutDwRefIdeal.main_arg0) = m' ((c.tc : Thread Cert.CtxFfnOutDwRefIdeal.nD Cert.CtxFfnOutDwRefIdeal.τ).loc Cert.CtxFfnOutDwRefIdeal.main_arg0)
          ∧ r.2.mem ((c.tc : Thread Cert.CtxFfnOutDwRefIdeal.nD Cert.CtxFfnOutDwRefIdeal.τ).loc Cert.CtxFfnOutDwRefIdeal.main_arg1) = m' ((c.tc : Thread Cert.CtxFfnOutDwRefIdeal.nD Cert.CtxFfnOutDwRefIdeal.τ).loc Cert.CtxFfnOutDwRefIdeal.main_arg1)
          ∧ r.2.mem ((c.tc : Thread Cert.CtxFfnOutDwRefIdeal.nD Cert.CtxFfnOutDwRefIdeal.τ).loc Cert.CtxFfnOutDwRefIdeal.main_arg2) = m' ((c.tc : Thread Cert.CtxFfnOutDwRefIdeal.nD Cert.CtxFfnOutDwRefIdeal.τ).loc Cert.CtxFfnOutDwRefIdeal.main_arg2))

def preserves_CtxMixInDx_CtxMixInDxIdeal : Prop :=
  True

def algebraic_CtxMixInDxIdeal_CtxMixInDxRefIdeal [hCtxMixInDxIdeal : Cert.CtxMixInDxIdeal.Facts] [hCtxMixInDxRefIdeal : Cert.CtxMixInDxRefIdeal.Facts] : Prop :=
  ∀ (m : (ℓ : Loc Cert.CtxMixInDxIdeal.nD Cert.CtxMixInDxIdeal.τ Cert.CtxMixInDxIdeal.sig) → Buf (Elt Ideal) ℓ) (g : Dev Cert.CtxMixInDxIdeal.nD → PrngReg)
    (m' : (ℓ : Loc Cert.CtxMixInDxRefIdeal.nD Cert.CtxMixInDxRefIdeal.τ Cert.CtxMixInDxRefIdeal.sig) → Buf (Elt Ideal) ℓ) (g' : Dev Cert.CtxMixInDxRefIdeal.nD → PrngReg), Pre_CtxMixInDxIdeal m →
    (∀ c : Dev Cert.CtxMixInDxIdeal.nD,
      m' ((c.tc : Thread Cert.CtxMixInDxRefIdeal.nD Cert.CtxMixInDxRefIdeal.τ).loc Cert.CtxMixInDxRefIdeal.main_arg0) = m ((c.tc : Thread Cert.CtxMixInDxIdeal.nD Cert.CtxMixInDxIdeal.τ).loc Cert.CtxMixInDxIdeal.main_arg0)
      ∧ m' ((c.tc : Thread Cert.CtxMixInDxRefIdeal.nD Cert.CtxMixInDxRefIdeal.τ).loc Cert.CtxMixInDxRefIdeal.main_arg1) = m ((c.tc : Thread Cert.CtxMixInDxIdeal.nD Cert.CtxMixInDxIdeal.τ).loc Cert.CtxMixInDxIdeal.main_arg1)) →
    ∃ (v0 : (c : Dev Cert.CtxMixInDxIdeal.nD) → Buf (Elt Ideal) ((c.tc : Thread Cert.CtxMixInDxIdeal.nD Cert.CtxMixInDxIdeal.τ).loc Cert.CtxMixInDxIdeal.main_v0)),
      θ_run (Cert.CtxMixInDxIdeal.defs (F := Ideal)) (onTc (τ := Cert.CtxMixInDxIdeal.τ) (Cert.CtxMixInDxIdeal.main (F := Ideal))) ⟨m, fun _ => 0, g⟩ (fun r => ∀ c : Dev Cert.CtxMixInDxIdeal.nD,
          r.2.mem ((c.tc : Thread Cert.CtxMixInDxIdeal.nD Cert.CtxMixInDxIdeal.τ).loc Cert.CtxMixInDxIdeal.main_v0) = v0 c
          ∧ r.2.mem ((c.tc : Thread Cert.CtxMixInDxIdeal.nD Cert.CtxMixInDxIdeal.τ).loc Cert.CtxMixInDxIdeal.main_arg0) = m ((c.tc : Thread Cert.CtxMixInDxIdeal.nD Cert.CtxMixInDxIdeal.τ).loc Cert.CtxMixInDxIdeal.main_arg0)
          ∧ r.2.mem ((c.tc : Thread Cert.CtxMixInDxIdeal.nD Cert.CtxMixInDxIdeal.τ).loc Cert.CtxMixInDxIdeal.main_arg1) = m ((c.tc : Thread Cert.CtxMixInDxIdeal.nD Cert.CtxMixInDxIdeal.τ).loc Cert.CtxMixInDxIdeal.main_arg1))
      ∧ θ_run (Cert.CtxMixInDxRefIdeal.defs (F := Ideal)) (onTc (τ := Cert.CtxMixInDxRefIdeal.τ) (Cert.CtxMixInDxRefIdeal.main (F := Ideal))) ⟨m', fun _ => 0, g'⟩ (fun r => ∀ c : Dev Cert.CtxMixInDxRefIdeal.nD,
          r.2.mem ((c.tc : Thread Cert.CtxMixInDxRefIdeal.nD Cert.CtxMixInDxRefIdeal.τ).loc Cert.CtxMixInDxRefIdeal.main_v4) = v0 c
          ∧ r.2.mem ((c.tc : Thread Cert.CtxMixInDxRefIdeal.nD Cert.CtxMixInDxRefIdeal.τ).loc Cert.CtxMixInDxRefIdeal.main_arg0) = m' ((c.tc : Thread Cert.CtxMixInDxRefIdeal.nD Cert.CtxMixInDxRefIdeal.τ).loc Cert.CtxMixInDxRefIdeal.main_arg0)
          ∧ r.2.mem ((c.tc : Thread Cert.CtxMixInDxRefIdeal.nD Cert.CtxMixInDxRefIdeal.τ).loc Cert.CtxMixInDxRefIdeal.main_arg1) = m' ((c.tc : Thread Cert.CtxMixInDxRefIdeal.nD Cert.CtxMixInDxRefIdeal.τ).loc Cert.CtxMixInDxRefIdeal.main_arg1))

def preserves_CtxMixInDw_CtxMixInDwIdeal : Prop :=
  True

def algebraic_CtxMixInDwIdeal_CtxMixInDwRefIdeal [hCtxMixInDwIdeal : Cert.CtxMixInDwIdeal.Facts] [hCtxMixInDwRefIdeal : Cert.CtxMixInDwRefIdeal.Facts] : Prop :=
  ∀ (m : (ℓ : Loc Cert.CtxMixInDwIdeal.nD Cert.CtxMixInDwIdeal.τ Cert.CtxMixInDwIdeal.sig) → Buf (Elt Ideal) ℓ) (g : Dev Cert.CtxMixInDwIdeal.nD → PrngReg)
    (m' : (ℓ : Loc Cert.CtxMixInDwRefIdeal.nD Cert.CtxMixInDwRefIdeal.τ Cert.CtxMixInDwRefIdeal.sig) → Buf (Elt Ideal) ℓ) (g' : Dev Cert.CtxMixInDwRefIdeal.nD → PrngReg), Pre_CtxMixInDwIdeal m →
    (∀ c : Dev Cert.CtxMixInDwIdeal.nD,
      m' ((c.tc : Thread Cert.CtxMixInDwRefIdeal.nD Cert.CtxMixInDwRefIdeal.τ).loc Cert.CtxMixInDwRefIdeal.main_arg0) = m ((c.tc : Thread Cert.CtxMixInDwIdeal.nD Cert.CtxMixInDwIdeal.τ).loc Cert.CtxMixInDwIdeal.main_arg0)
      ∧ m' ((c.tc : Thread Cert.CtxMixInDwRefIdeal.nD Cert.CtxMixInDwRefIdeal.τ).loc Cert.CtxMixInDwRefIdeal.main_arg1) = m ((c.tc : Thread Cert.CtxMixInDwIdeal.nD Cert.CtxMixInDwIdeal.τ).loc Cert.CtxMixInDwIdeal.main_arg1)
      ∧ m' ((c.tc : Thread Cert.CtxMixInDwRefIdeal.nD Cert.CtxMixInDwRefIdeal.τ).loc Cert.CtxMixInDwRefIdeal.main_arg2) = m ((c.tc : Thread Cert.CtxMixInDwIdeal.nD Cert.CtxMixInDwIdeal.τ).loc Cert.CtxMixInDwIdeal.main_arg2)) →
    ∃ (v0 : (c : Dev Cert.CtxMixInDwIdeal.nD) → Buf (Elt Ideal) ((c.tc : Thread Cert.CtxMixInDwIdeal.nD Cert.CtxMixInDwIdeal.τ).loc Cert.CtxMixInDwIdeal.main_v0)),
      θ_run (Cert.CtxMixInDwIdeal.defs (F := Ideal)) (onTc (τ := Cert.CtxMixInDwIdeal.τ) (Cert.CtxMixInDwIdeal.main (F := Ideal))) ⟨m, fun _ => 0, g⟩ (fun r => ∀ c : Dev Cert.CtxMixInDwIdeal.nD,
          r.2.mem ((c.tc : Thread Cert.CtxMixInDwIdeal.nD Cert.CtxMixInDwIdeal.τ).loc Cert.CtxMixInDwIdeal.main_v0) = v0 c
          ∧ r.2.mem ((c.tc : Thread Cert.CtxMixInDwIdeal.nD Cert.CtxMixInDwIdeal.τ).loc Cert.CtxMixInDwIdeal.main_arg0) = m ((c.tc : Thread Cert.CtxMixInDwIdeal.nD Cert.CtxMixInDwIdeal.τ).loc Cert.CtxMixInDwIdeal.main_arg0)
          ∧ r.2.mem ((c.tc : Thread Cert.CtxMixInDwIdeal.nD Cert.CtxMixInDwIdeal.τ).loc Cert.CtxMixInDwIdeal.main_arg1) = m ((c.tc : Thread Cert.CtxMixInDwIdeal.nD Cert.CtxMixInDwIdeal.τ).loc Cert.CtxMixInDwIdeal.main_arg1)
          ∧ r.2.mem ((c.tc : Thread Cert.CtxMixInDwIdeal.nD Cert.CtxMixInDwIdeal.τ).loc Cert.CtxMixInDwIdeal.main_arg2) = m ((c.tc : Thread Cert.CtxMixInDwIdeal.nD Cert.CtxMixInDwIdeal.τ).loc Cert.CtxMixInDwIdeal.main_arg2))
      ∧ θ_run (Cert.CtxMixInDwRefIdeal.defs (F := Ideal)) (onTc (τ := Cert.CtxMixInDwRefIdeal.τ) (Cert.CtxMixInDwRefIdeal.main (F := Ideal))) ⟨m', fun _ => 0, g'⟩ (fun r => ∀ c : Dev Cert.CtxMixInDwRefIdeal.nD,
          r.2.mem ((c.tc : Thread Cert.CtxMixInDwRefIdeal.nD Cert.CtxMixInDwRefIdeal.τ).loc Cert.CtxMixInDwRefIdeal.main_v9) = v0 c
          ∧ r.2.mem ((c.tc : Thread Cert.CtxMixInDwRefIdeal.nD Cert.CtxMixInDwRefIdeal.τ).loc Cert.CtxMixInDwRefIdeal.main_arg0) = m' ((c.tc : Thread Cert.CtxMixInDwRefIdeal.nD Cert.CtxMixInDwRefIdeal.τ).loc Cert.CtxMixInDwRefIdeal.main_arg0)
          ∧ r.2.mem ((c.tc : Thread Cert.CtxMixInDwRefIdeal.nD Cert.CtxMixInDwRefIdeal.τ).loc Cert.CtxMixInDwRefIdeal.main_arg1) = m' ((c.tc : Thread Cert.CtxMixInDwRefIdeal.nD Cert.CtxMixInDwRefIdeal.τ).loc Cert.CtxMixInDwRefIdeal.main_arg1)
          ∧ r.2.mem ((c.tc : Thread Cert.CtxMixInDwRefIdeal.nD Cert.CtxMixInDwRefIdeal.τ).loc Cert.CtxMixInDwRefIdeal.main_arg2) = m' ((c.tc : Thread Cert.CtxMixInDwRefIdeal.nD Cert.CtxMixInDwRefIdeal.τ).loc Cert.CtxMixInDwRefIdeal.main_arg2))

def preserves_CtxMixOutDx_CtxMixOutDxIdeal : Prop :=
  True

def algebraic_CtxMixOutDxIdeal_CtxMixOutDxRefIdeal [hCtxMixOutDxIdeal : Cert.CtxMixOutDxIdeal.Facts] [hCtxMixOutDxRefIdeal : Cert.CtxMixOutDxRefIdeal.Facts] : Prop :=
  ∀ (m : (ℓ : Loc Cert.CtxMixOutDxIdeal.nD Cert.CtxMixOutDxIdeal.τ Cert.CtxMixOutDxIdeal.sig) → Buf (Elt Ideal) ℓ) (g : Dev Cert.CtxMixOutDxIdeal.nD → PrngReg)
    (m' : (ℓ : Loc Cert.CtxMixOutDxRefIdeal.nD Cert.CtxMixOutDxRefIdeal.τ Cert.CtxMixOutDxRefIdeal.sig) → Buf (Elt Ideal) ℓ) (g' : Dev Cert.CtxMixOutDxRefIdeal.nD → PrngReg), Pre_CtxMixOutDxIdeal m →
    (∀ c : Dev Cert.CtxMixOutDxIdeal.nD,
      m' ((c.tc : Thread Cert.CtxMixOutDxRefIdeal.nD Cert.CtxMixOutDxRefIdeal.τ).loc Cert.CtxMixOutDxRefIdeal.main_arg0) = m ((c.tc : Thread Cert.CtxMixOutDxIdeal.nD Cert.CtxMixOutDxIdeal.τ).loc Cert.CtxMixOutDxIdeal.main_arg0)
      ∧ m' ((c.tc : Thread Cert.CtxMixOutDxRefIdeal.nD Cert.CtxMixOutDxRefIdeal.τ).loc Cert.CtxMixOutDxRefIdeal.main_arg1) = m ((c.tc : Thread Cert.CtxMixOutDxIdeal.nD Cert.CtxMixOutDxIdeal.τ).loc Cert.CtxMixOutDxIdeal.main_arg1)) →
    ∃ (v0 : (c : Dev Cert.CtxMixOutDxIdeal.nD) → Buf (Elt Ideal) ((c.tc : Thread Cert.CtxMixOutDxIdeal.nD Cert.CtxMixOutDxIdeal.τ).loc Cert.CtxMixOutDxIdeal.main_v0)),
      θ_run (Cert.CtxMixOutDxIdeal.defs (F := Ideal)) (onTc (τ := Cert.CtxMixOutDxIdeal.τ) (Cert.CtxMixOutDxIdeal.main (F := Ideal))) ⟨m, fun _ => 0, g⟩ (fun r => ∀ c : Dev Cert.CtxMixOutDxIdeal.nD,
          r.2.mem ((c.tc : Thread Cert.CtxMixOutDxIdeal.nD Cert.CtxMixOutDxIdeal.τ).loc Cert.CtxMixOutDxIdeal.main_v0) = v0 c
          ∧ r.2.mem ((c.tc : Thread Cert.CtxMixOutDxIdeal.nD Cert.CtxMixOutDxIdeal.τ).loc Cert.CtxMixOutDxIdeal.main_arg0) = m ((c.tc : Thread Cert.CtxMixOutDxIdeal.nD Cert.CtxMixOutDxIdeal.τ).loc Cert.CtxMixOutDxIdeal.main_arg0)
          ∧ r.2.mem ((c.tc : Thread Cert.CtxMixOutDxIdeal.nD Cert.CtxMixOutDxIdeal.τ).loc Cert.CtxMixOutDxIdeal.main_arg1) = m ((c.tc : Thread Cert.CtxMixOutDxIdeal.nD Cert.CtxMixOutDxIdeal.τ).loc Cert.CtxMixOutDxIdeal.main_arg1))
      ∧ θ_run (Cert.CtxMixOutDxRefIdeal.defs (F := Ideal)) (onTc (τ := Cert.CtxMixOutDxRefIdeal.τ) (Cert.CtxMixOutDxRefIdeal.main (F := Ideal))) ⟨m', fun _ => 0, g'⟩ (fun r => ∀ c : Dev Cert.CtxMixOutDxRefIdeal.nD,
          r.2.mem ((c.tc : Thread Cert.CtxMixOutDxRefIdeal.nD Cert.CtxMixOutDxRefIdeal.τ).loc Cert.CtxMixOutDxRefIdeal.main_v4) = v0 c
          ∧ r.2.mem ((c.tc : Thread Cert.CtxMixOutDxRefIdeal.nD Cert.CtxMixOutDxRefIdeal.τ).loc Cert.CtxMixOutDxRefIdeal.main_arg0) = m' ((c.tc : Thread Cert.CtxMixOutDxRefIdeal.nD Cert.CtxMixOutDxRefIdeal.τ).loc Cert.CtxMixOutDxRefIdeal.main_arg0)
          ∧ r.2.mem ((c.tc : Thread Cert.CtxMixOutDxRefIdeal.nD Cert.CtxMixOutDxRefIdeal.τ).loc Cert.CtxMixOutDxRefIdeal.main_arg1) = m' ((c.tc : Thread Cert.CtxMixOutDxRefIdeal.nD Cert.CtxMixOutDxRefIdeal.τ).loc Cert.CtxMixOutDxRefIdeal.main_arg1))

def preserves_CtxMixOutDw_CtxMixOutDwIdeal : Prop :=
  True

def algebraic_CtxMixOutDwIdeal_CtxMixOutDwRefIdeal [hCtxMixOutDwIdeal : Cert.CtxMixOutDwIdeal.Facts] [hCtxMixOutDwRefIdeal : Cert.CtxMixOutDwRefIdeal.Facts] : Prop :=
  ∀ (m : (ℓ : Loc Cert.CtxMixOutDwIdeal.nD Cert.CtxMixOutDwIdeal.τ Cert.CtxMixOutDwIdeal.sig) → Buf (Elt Ideal) ℓ) (g : Dev Cert.CtxMixOutDwIdeal.nD → PrngReg)
    (m' : (ℓ : Loc Cert.CtxMixOutDwRefIdeal.nD Cert.CtxMixOutDwRefIdeal.τ Cert.CtxMixOutDwRefIdeal.sig) → Buf (Elt Ideal) ℓ) (g' : Dev Cert.CtxMixOutDwRefIdeal.nD → PrngReg), Pre_CtxMixOutDwIdeal m →
    (∀ c : Dev Cert.CtxMixOutDwIdeal.nD,
      m' ((c.tc : Thread Cert.CtxMixOutDwRefIdeal.nD Cert.CtxMixOutDwRefIdeal.τ).loc Cert.CtxMixOutDwRefIdeal.main_arg0) = m ((c.tc : Thread Cert.CtxMixOutDwIdeal.nD Cert.CtxMixOutDwIdeal.τ).loc Cert.CtxMixOutDwIdeal.main_arg0)
      ∧ m' ((c.tc : Thread Cert.CtxMixOutDwRefIdeal.nD Cert.CtxMixOutDwRefIdeal.τ).loc Cert.CtxMixOutDwRefIdeal.main_arg1) = m ((c.tc : Thread Cert.CtxMixOutDwIdeal.nD Cert.CtxMixOutDwIdeal.τ).loc Cert.CtxMixOutDwIdeal.main_arg1)
      ∧ m' ((c.tc : Thread Cert.CtxMixOutDwRefIdeal.nD Cert.CtxMixOutDwRefIdeal.τ).loc Cert.CtxMixOutDwRefIdeal.main_arg2) = m ((c.tc : Thread Cert.CtxMixOutDwIdeal.nD Cert.CtxMixOutDwIdeal.τ).loc Cert.CtxMixOutDwIdeal.main_arg2)) →
    ∃ (v0 : (c : Dev Cert.CtxMixOutDwIdeal.nD) → Buf (Elt Ideal) ((c.tc : Thread Cert.CtxMixOutDwIdeal.nD Cert.CtxMixOutDwIdeal.τ).loc Cert.CtxMixOutDwIdeal.main_v1)),
      θ_run (Cert.CtxMixOutDwIdeal.defs (F := Ideal)) (onTc (τ := Cert.CtxMixOutDwIdeal.τ) (Cert.CtxMixOutDwIdeal.main (F := Ideal))) ⟨m, fun _ => 0, g⟩ (fun r => ∀ c : Dev Cert.CtxMixOutDwIdeal.nD,
          r.2.mem ((c.tc : Thread Cert.CtxMixOutDwIdeal.nD Cert.CtxMixOutDwIdeal.τ).loc Cert.CtxMixOutDwIdeal.main_v1) = v0 c
          ∧ r.2.mem ((c.tc : Thread Cert.CtxMixOutDwIdeal.nD Cert.CtxMixOutDwIdeal.τ).loc Cert.CtxMixOutDwIdeal.main_arg0) = m ((c.tc : Thread Cert.CtxMixOutDwIdeal.nD Cert.CtxMixOutDwIdeal.τ).loc Cert.CtxMixOutDwIdeal.main_arg0)
          ∧ r.2.mem ((c.tc : Thread Cert.CtxMixOutDwIdeal.nD Cert.CtxMixOutDwIdeal.τ).loc Cert.CtxMixOutDwIdeal.main_arg1) = m ((c.tc : Thread Cert.CtxMixOutDwIdeal.nD Cert.CtxMixOutDwIdeal.τ).loc Cert.CtxMixOutDwIdeal.main_arg1)
          ∧ r.2.mem ((c.tc : Thread Cert.CtxMixOutDwIdeal.nD Cert.CtxMixOutDwIdeal.τ).loc Cert.CtxMixOutDwIdeal.main_arg2) = m ((c.tc : Thread Cert.CtxMixOutDwIdeal.nD Cert.CtxMixOutDwIdeal.τ).loc Cert.CtxMixOutDwIdeal.main_arg2))
      ∧ θ_run (Cert.CtxMixOutDwRefIdeal.defs (F := Ideal)) (onTc (τ := Cert.CtxMixOutDwRefIdeal.τ) (Cert.CtxMixOutDwRefIdeal.main (F := Ideal))) ⟨m', fun _ => 0, g'⟩ (fun r => ∀ c : Dev Cert.CtxMixOutDwRefIdeal.nD,
          r.2.mem ((c.tc : Thread Cert.CtxMixOutDwRefIdeal.nD Cert.CtxMixOutDwRefIdeal.τ).loc Cert.CtxMixOutDwRefIdeal.main_v8) = v0 c
          ∧ r.2.mem ((c.tc : Thread Cert.CtxMixOutDwRefIdeal.nD Cert.CtxMixOutDwRefIdeal.τ).loc Cert.CtxMixOutDwRefIdeal.main_arg0) = m' ((c.tc : Thread Cert.CtxMixOutDwRefIdeal.nD Cert.CtxMixOutDwRefIdeal.τ).loc Cert.CtxMixOutDwRefIdeal.main_arg0)
          ∧ r.2.mem ((c.tc : Thread Cert.CtxMixOutDwRefIdeal.nD Cert.CtxMixOutDwRefIdeal.τ).loc Cert.CtxMixOutDwRefIdeal.main_arg1) = m' ((c.tc : Thread Cert.CtxMixOutDwRefIdeal.nD Cert.CtxMixOutDwRefIdeal.τ).loc Cert.CtxMixOutDwRefIdeal.main_arg1)
          ∧ r.2.mem ((c.tc : Thread Cert.CtxMixOutDwRefIdeal.nD Cert.CtxMixOutDwRefIdeal.τ).loc Cert.CtxMixOutDwRefIdeal.main_arg2) = m' ((c.tc : Thread Cert.CtxMixOutDwRefIdeal.nD Cert.CtxMixOutDwRefIdeal.τ).loc Cert.CtxMixOutDwRefIdeal.main_arg2))

def preserves_CtxKvDx_CtxKvDxIdeal : Prop :=
  True

def algebraic_CtxKvDxIdeal_CtxKvDxRefIdeal [hCtxKvDxIdeal : Cert.CtxKvDxIdeal.Facts] [hCtxKvDxRefIdeal : Cert.CtxKvDxRefIdeal.Facts] : Prop :=
  ∀ (m : (ℓ : Loc Cert.CtxKvDxIdeal.nD Cert.CtxKvDxIdeal.τ Cert.CtxKvDxIdeal.sig) → Buf (Elt Ideal) ℓ) (g : Dev Cert.CtxKvDxIdeal.nD → PrngReg)
    (m' : (ℓ : Loc Cert.CtxKvDxRefIdeal.nD Cert.CtxKvDxRefIdeal.τ Cert.CtxKvDxRefIdeal.sig) → Buf (Elt Ideal) ℓ) (g' : Dev Cert.CtxKvDxRefIdeal.nD → PrngReg), Pre_CtxKvDxIdeal m →
    (∀ c : Dev Cert.CtxKvDxIdeal.nD,
      m' ((c.tc : Thread Cert.CtxKvDxRefIdeal.nD Cert.CtxKvDxRefIdeal.τ).loc Cert.CtxKvDxRefIdeal.main_arg0) = m ((c.tc : Thread Cert.CtxKvDxIdeal.nD Cert.CtxKvDxIdeal.τ).loc Cert.CtxKvDxIdeal.main_arg0)
      ∧ m' ((c.tc : Thread Cert.CtxKvDxRefIdeal.nD Cert.CtxKvDxRefIdeal.τ).loc Cert.CtxKvDxRefIdeal.main_arg1) = m ((c.tc : Thread Cert.CtxKvDxIdeal.nD Cert.CtxKvDxIdeal.τ).loc Cert.CtxKvDxIdeal.main_arg1)) →
    ∃ (v0 : (c : Dev Cert.CtxKvDxIdeal.nD) → Buf (Elt Ideal) ((c.tc : Thread Cert.CtxKvDxIdeal.nD Cert.CtxKvDxIdeal.τ).loc Cert.CtxKvDxIdeal.main_v1)),
      θ_run (Cert.CtxKvDxIdeal.defs (F := Ideal)) (onTc (τ := Cert.CtxKvDxIdeal.τ) (Cert.CtxKvDxIdeal.main (F := Ideal))) ⟨m, fun _ => 0, g⟩ (fun r => ∀ c : Dev Cert.CtxKvDxIdeal.nD,
          r.2.mem ((c.tc : Thread Cert.CtxKvDxIdeal.nD Cert.CtxKvDxIdeal.τ).loc Cert.CtxKvDxIdeal.main_v1) = v0 c
          ∧ r.2.mem ((c.tc : Thread Cert.CtxKvDxIdeal.nD Cert.CtxKvDxIdeal.τ).loc Cert.CtxKvDxIdeal.main_arg0) = m ((c.tc : Thread Cert.CtxKvDxIdeal.nD Cert.CtxKvDxIdeal.τ).loc Cert.CtxKvDxIdeal.main_arg0)
          ∧ r.2.mem ((c.tc : Thread Cert.CtxKvDxIdeal.nD Cert.CtxKvDxIdeal.τ).loc Cert.CtxKvDxIdeal.main_arg1) = m ((c.tc : Thread Cert.CtxKvDxIdeal.nD Cert.CtxKvDxIdeal.τ).loc Cert.CtxKvDxIdeal.main_arg1))
      ∧ θ_run (Cert.CtxKvDxRefIdeal.defs (F := Ideal)) (onTc (τ := Cert.CtxKvDxRefIdeal.τ) (Cert.CtxKvDxRefIdeal.main (F := Ideal))) ⟨m', fun _ => 0, g'⟩ (fun r => ∀ c : Dev Cert.CtxKvDxRefIdeal.nD,
          r.2.mem ((c.tc : Thread Cert.CtxKvDxRefIdeal.nD Cert.CtxKvDxRefIdeal.τ).loc Cert.CtxKvDxRefIdeal.main_v5) = v0 c
          ∧ r.2.mem ((c.tc : Thread Cert.CtxKvDxRefIdeal.nD Cert.CtxKvDxRefIdeal.τ).loc Cert.CtxKvDxRefIdeal.main_arg0) = m' ((c.tc : Thread Cert.CtxKvDxRefIdeal.nD Cert.CtxKvDxRefIdeal.τ).loc Cert.CtxKvDxRefIdeal.main_arg0)
          ∧ r.2.mem ((c.tc : Thread Cert.CtxKvDxRefIdeal.nD Cert.CtxKvDxRefIdeal.τ).loc Cert.CtxKvDxRefIdeal.main_arg1) = m' ((c.tc : Thread Cert.CtxKvDxRefIdeal.nD Cert.CtxKvDxRefIdeal.τ).loc Cert.CtxKvDxRefIdeal.main_arg1))

def preserves_CtxKvDw_CtxKvDwIdeal : Prop :=
  True

def algebraic_CtxKvDwIdeal_CtxKvDwRefIdeal [hCtxKvDwIdeal : Cert.CtxKvDwIdeal.Facts] [hCtxKvDwRefIdeal : Cert.CtxKvDwRefIdeal.Facts] : Prop :=
  ∀ (m : (ℓ : Loc Cert.CtxKvDwIdeal.nD Cert.CtxKvDwIdeal.τ Cert.CtxKvDwIdeal.sig) → Buf (Elt Ideal) ℓ) (g : Dev Cert.CtxKvDwIdeal.nD → PrngReg)
    (m' : (ℓ : Loc Cert.CtxKvDwRefIdeal.nD Cert.CtxKvDwRefIdeal.τ Cert.CtxKvDwRefIdeal.sig) → Buf (Elt Ideal) ℓ) (g' : Dev Cert.CtxKvDwRefIdeal.nD → PrngReg), Pre_CtxKvDwIdeal m →
    (∀ c : Dev Cert.CtxKvDwIdeal.nD,
      m' ((c.tc : Thread Cert.CtxKvDwRefIdeal.nD Cert.CtxKvDwRefIdeal.τ).loc Cert.CtxKvDwRefIdeal.main_arg0) = m ((c.tc : Thread Cert.CtxKvDwIdeal.nD Cert.CtxKvDwIdeal.τ).loc Cert.CtxKvDwIdeal.main_arg0)
      ∧ m' ((c.tc : Thread Cert.CtxKvDwRefIdeal.nD Cert.CtxKvDwRefIdeal.τ).loc Cert.CtxKvDwRefIdeal.main_arg1) = m ((c.tc : Thread Cert.CtxKvDwIdeal.nD Cert.CtxKvDwIdeal.τ).loc Cert.CtxKvDwIdeal.main_arg1)) →
    ∃ (v0 : (c : Dev Cert.CtxKvDwIdeal.nD) → Buf (Elt Ideal) ((c.tc : Thread Cert.CtxKvDwIdeal.nD Cert.CtxKvDwIdeal.τ).loc Cert.CtxKvDwIdeal.main_v0)),
      θ_run (Cert.CtxKvDwIdeal.defs (F := Ideal)) (onTc (τ := Cert.CtxKvDwIdeal.τ) (Cert.CtxKvDwIdeal.main (F := Ideal))) ⟨m, fun _ => 0, g⟩ (fun r => ∀ c : Dev Cert.CtxKvDwIdeal.nD,
          r.2.mem ((c.tc : Thread Cert.CtxKvDwIdeal.nD Cert.CtxKvDwIdeal.τ).loc Cert.CtxKvDwIdeal.main_v0) = v0 c
          ∧ r.2.mem ((c.tc : Thread Cert.CtxKvDwIdeal.nD Cert.CtxKvDwIdeal.τ).loc Cert.CtxKvDwIdeal.main_arg0) = m ((c.tc : Thread Cert.CtxKvDwIdeal.nD Cert.CtxKvDwIdeal.τ).loc Cert.CtxKvDwIdeal.main_arg0)
          ∧ r.2.mem ((c.tc : Thread Cert.CtxKvDwIdeal.nD Cert.CtxKvDwIdeal.τ).loc Cert.CtxKvDwIdeal.main_arg1) = m ((c.tc : Thread Cert.CtxKvDwIdeal.nD Cert.CtxKvDwIdeal.τ).loc Cert.CtxKvDwIdeal.main_arg1))
      ∧ θ_run (Cert.CtxKvDwRefIdeal.defs (F := Ideal)) (onTc (τ := Cert.CtxKvDwRefIdeal.τ) (Cert.CtxKvDwRefIdeal.main (F := Ideal))) ⟨m', fun _ => 0, g'⟩ (fun r => ∀ c : Dev Cert.CtxKvDwRefIdeal.nD,
          r.2.mem ((c.tc : Thread Cert.CtxKvDwRefIdeal.nD Cert.CtxKvDwRefIdeal.τ).loc Cert.CtxKvDwRefIdeal.main_v7) = v0 c
          ∧ r.2.mem ((c.tc : Thread Cert.CtxKvDwRefIdeal.nD Cert.CtxKvDwRefIdeal.τ).loc Cert.CtxKvDwRefIdeal.main_arg0) = m' ((c.tc : Thread Cert.CtxKvDwRefIdeal.nD Cert.CtxKvDwRefIdeal.τ).loc Cert.CtxKvDwRefIdeal.main_arg0)
          ∧ r.2.mem ((c.tc : Thread Cert.CtxKvDwRefIdeal.nD Cert.CtxKvDwRefIdeal.τ).loc Cert.CtxKvDwRefIdeal.main_arg1) = m' ((c.tc : Thread Cert.CtxKvDwRefIdeal.nD Cert.CtxKvDwRefIdeal.τ).loc Cert.CtxKvDwRefIdeal.main_arg1))

def preserves_CtxFfnIn_CtxFfnInIdeal : Prop :=
  True

def algebraic_CtxFfnInIdeal_CtxFfnInRefIdeal [hCtxFfnInIdeal : Cert.CtxFfnInIdeal.Facts] [hCtxFfnInRefIdeal : Cert.CtxFfnInRefIdeal.Facts] : Prop :=
  ∀ (m : (ℓ : Loc Cert.CtxFfnInIdeal.nD Cert.CtxFfnInIdeal.τ Cert.CtxFfnInIdeal.sig) → Buf (Elt Ideal) ℓ) (g : Dev Cert.CtxFfnInIdeal.nD → PrngReg)
    (m' : (ℓ : Loc Cert.CtxFfnInRefIdeal.nD Cert.CtxFfnInRefIdeal.τ Cert.CtxFfnInRefIdeal.sig) → Buf (Elt Ideal) ℓ) (g' : Dev Cert.CtxFfnInRefIdeal.nD → PrngReg), Pre_CtxFfnInIdeal m →
    (∀ c : Dev Cert.CtxFfnInIdeal.nD,
      m' ((c.tc : Thread Cert.CtxFfnInRefIdeal.nD Cert.CtxFfnInRefIdeal.τ).loc Cert.CtxFfnInRefIdeal.main_arg0) = m ((c.tc : Thread Cert.CtxFfnInIdeal.nD Cert.CtxFfnInIdeal.τ).loc Cert.CtxFfnInIdeal.main_arg0)
      ∧ m' ((c.tc : Thread Cert.CtxFfnInRefIdeal.nD Cert.CtxFfnInRefIdeal.τ).loc Cert.CtxFfnInRefIdeal.main_arg1) = m ((c.tc : Thread Cert.CtxFfnInIdeal.nD Cert.CtxFfnInIdeal.τ).loc Cert.CtxFfnInIdeal.main_arg1)) →
    ∃ (v0 : (c : Dev Cert.CtxFfnInIdeal.nD) → Buf (Elt Ideal) ((c.tc : Thread Cert.CtxFfnInIdeal.nD Cert.CtxFfnInIdeal.τ).loc Cert.CtxFfnInIdeal.main_v0_0)) (v1 : (c : Dev Cert.CtxFfnInIdeal.nD) → Buf (Elt Ideal) ((c.tc : Thread Cert.CtxFfnInIdeal.nD Cert.CtxFfnInIdeal.τ).loc Cert.CtxFfnInIdeal.main_v0_1)) (v2 : (c : Dev Cert.CtxFfnInIdeal.nD) → Buf (Elt Ideal) ((c.tc : Thread Cert.CtxFfnInIdeal.nD Cert.CtxFfnInIdeal.τ).loc Cert.CtxFfnInIdeal.main_v0_2)),
      θ_run (Cert.CtxFfnInIdeal.defs (F := Ideal)) (onTc (τ := Cert.CtxFfnInIdeal.τ) (Cert.CtxFfnInIdeal.main (F := Ideal))) ⟨m, fun _ => 0, g⟩ (fun r => ∀ c : Dev Cert.CtxFfnInIdeal.nD,
          r.2.mem ((c.tc : Thread Cert.CtxFfnInIdeal.nD Cert.CtxFfnInIdeal.τ).loc Cert.CtxFfnInIdeal.main_v0_0) = v0 c
          ∧ r.2.mem ((c.tc : Thread Cert.CtxFfnInIdeal.nD Cert.CtxFfnInIdeal.τ).loc Cert.CtxFfnInIdeal.main_v0_1) = v1 c
          ∧ r.2.mem ((c.tc : Thread Cert.CtxFfnInIdeal.nD Cert.CtxFfnInIdeal.τ).loc Cert.CtxFfnInIdeal.main_v0_2) = v2 c
          ∧ r.2.mem ((c.tc : Thread Cert.CtxFfnInIdeal.nD Cert.CtxFfnInIdeal.τ).loc Cert.CtxFfnInIdeal.main_arg0) = m ((c.tc : Thread Cert.CtxFfnInIdeal.nD Cert.CtxFfnInIdeal.τ).loc Cert.CtxFfnInIdeal.main_arg0)
          ∧ r.2.mem ((c.tc : Thread Cert.CtxFfnInIdeal.nD Cert.CtxFfnInIdeal.τ).loc Cert.CtxFfnInIdeal.main_arg1) = m ((c.tc : Thread Cert.CtxFfnInIdeal.nD Cert.CtxFfnInIdeal.τ).loc Cert.CtxFfnInIdeal.main_arg1))
      ∧ θ_run (Cert.CtxFfnInRefIdeal.defs (F := Ideal)) (onTc (τ := Cert.CtxFfnInRefIdeal.τ) (Cert.CtxFfnInRefIdeal.main (F := Ideal))) ⟨m', fun _ => 0, g'⟩ (fun r => ∀ c : Dev Cert.CtxFfnInRefIdeal.nD,
          r.2.mem ((c.tc : Thread Cert.CtxFfnInRefIdeal.nD Cert.CtxFfnInRefIdeal.τ).loc Cert.CtxFfnInRefIdeal.main_v10) = v0 c
          ∧ r.2.mem ((c.tc : Thread Cert.CtxFfnInRefIdeal.nD Cert.CtxFfnInRefIdeal.τ).loc Cert.CtxFfnInRefIdeal.main_v11) = v1 c
          ∧ r.2.mem ((c.tc : Thread Cert.CtxFfnInRefIdeal.nD Cert.CtxFfnInRefIdeal.τ).loc Cert.CtxFfnInRefIdeal.main_v13) = v2 c
          ∧ r.2.mem ((c.tc : Thread Cert.CtxFfnInRefIdeal.nD Cert.CtxFfnInRefIdeal.τ).loc Cert.CtxFfnInRefIdeal.main_arg0) = m' ((c.tc : Thread Cert.CtxFfnInRefIdeal.nD Cert.CtxFfnInRefIdeal.τ).loc Cert.CtxFfnInRefIdeal.main_arg0)
          ∧ r.2.mem ((c.tc : Thread Cert.CtxFfnInRefIdeal.nD Cert.CtxFfnInRefIdeal.τ).loc Cert.CtxFfnInRefIdeal.main_arg1) = m' ((c.tc : Thread Cert.CtxFfnInRefIdeal.nD Cert.CtxFfnInRefIdeal.τ).loc Cert.CtxFfnInRefIdeal.main_arg1))

def preserves_CtxFfnOut_CtxFfnOutIdeal : Prop :=
  True

def algebraic_CtxFfnOutIdeal_CtxFfnOutRefIdeal [hCtxFfnOutIdeal : Cert.CtxFfnOutIdeal.Facts] [hCtxFfnOutRefIdeal : Cert.CtxFfnOutRefIdeal.Facts] : Prop :=
  ∀ (m : (ℓ : Loc Cert.CtxFfnOutIdeal.nD Cert.CtxFfnOutIdeal.τ Cert.CtxFfnOutIdeal.sig) → Buf (Elt Ideal) ℓ) (g : Dev Cert.CtxFfnOutIdeal.nD → PrngReg)
    (m' : (ℓ : Loc Cert.CtxFfnOutRefIdeal.nD Cert.CtxFfnOutRefIdeal.τ Cert.CtxFfnOutRefIdeal.sig) → Buf (Elt Ideal) ℓ) (g' : Dev Cert.CtxFfnOutRefIdeal.nD → PrngReg), Pre_CtxFfnOutIdeal m →
    (∀ c : Dev Cert.CtxFfnOutIdeal.nD,
      m' ((c.tc : Thread Cert.CtxFfnOutRefIdeal.nD Cert.CtxFfnOutRefIdeal.τ).loc Cert.CtxFfnOutRefIdeal.main_arg0) = m ((c.tc : Thread Cert.CtxFfnOutIdeal.nD Cert.CtxFfnOutIdeal.τ).loc Cert.CtxFfnOutIdeal.main_arg0)
      ∧ m' ((c.tc : Thread Cert.CtxFfnOutRefIdeal.nD Cert.CtxFfnOutRefIdeal.τ).loc Cert.CtxFfnOutRefIdeal.main_arg1) = m ((c.tc : Thread Cert.CtxFfnOutIdeal.nD Cert.CtxFfnOutIdeal.τ).loc Cert.CtxFfnOutIdeal.main_arg1)) →
    ∃ (v0 : (c : Dev Cert.CtxFfnOutIdeal.nD) → Buf (Elt Ideal) ((c.tc : Thread Cert.CtxFfnOutIdeal.nD Cert.CtxFfnOutIdeal.τ).loc Cert.CtxFfnOutIdeal.main_v0)),
      θ_run (Cert.CtxFfnOutIdeal.defs (F := Ideal)) (onTc (τ := Cert.CtxFfnOutIdeal.τ) (Cert.CtxFfnOutIdeal.main (F := Ideal))) ⟨m, fun _ => 0, g⟩ (fun r => ∀ c : Dev Cert.CtxFfnOutIdeal.nD,
          r.2.mem ((c.tc : Thread Cert.CtxFfnOutIdeal.nD Cert.CtxFfnOutIdeal.τ).loc Cert.CtxFfnOutIdeal.main_v0) = v0 c
          ∧ r.2.mem ((c.tc : Thread Cert.CtxFfnOutIdeal.nD Cert.CtxFfnOutIdeal.τ).loc Cert.CtxFfnOutIdeal.main_arg0) = m ((c.tc : Thread Cert.CtxFfnOutIdeal.nD Cert.CtxFfnOutIdeal.τ).loc Cert.CtxFfnOutIdeal.main_arg0)
          ∧ r.2.mem ((c.tc : Thread Cert.CtxFfnOutIdeal.nD Cert.CtxFfnOutIdeal.τ).loc Cert.CtxFfnOutIdeal.main_arg1) = m ((c.tc : Thread Cert.CtxFfnOutIdeal.nD Cert.CtxFfnOutIdeal.τ).loc Cert.CtxFfnOutIdeal.main_arg1))
      ∧ θ_run (Cert.CtxFfnOutRefIdeal.defs (F := Ideal)) (onTc (τ := Cert.CtxFfnOutRefIdeal.τ) (Cert.CtxFfnOutRefIdeal.main (F := Ideal))) ⟨m', fun _ => 0, g'⟩ (fun r => ∀ c : Dev Cert.CtxFfnOutRefIdeal.nD,
          r.2.mem ((c.tc : Thread Cert.CtxFfnOutRefIdeal.nD Cert.CtxFfnOutRefIdeal.τ).loc Cert.CtxFfnOutRefIdeal.main_v2) = v0 c
          ∧ r.2.mem ((c.tc : Thread Cert.CtxFfnOutRefIdeal.nD Cert.CtxFfnOutRefIdeal.τ).loc Cert.CtxFfnOutRefIdeal.main_arg0) = m' ((c.tc : Thread Cert.CtxFfnOutRefIdeal.nD Cert.CtxFfnOutRefIdeal.τ).loc Cert.CtxFfnOutRefIdeal.main_arg0)
          ∧ r.2.mem ((c.tc : Thread Cert.CtxFfnOutRefIdeal.nD Cert.CtxFfnOutRefIdeal.τ).loc Cert.CtxFfnOutRefIdeal.main_arg1) = m' ((c.tc : Thread Cert.CtxFfnOutRefIdeal.nD Cert.CtxFfnOutRefIdeal.τ).loc Cert.CtxFfnOutRefIdeal.main_arg1))

def preserves_CtxMixIn_CtxMixInIdeal : Prop :=
  True

def algebraic_CtxMixInIdeal_CtxMixInRefIdeal [hCtxMixInIdeal : Cert.CtxMixInIdeal.Facts] [hCtxMixInRefIdeal : Cert.CtxMixInRefIdeal.Facts] : Prop :=
  ∀ (m : (ℓ : Loc Cert.CtxMixInIdeal.nD Cert.CtxMixInIdeal.τ Cert.CtxMixInIdeal.sig) → Buf (Elt Ideal) ℓ) (g : Dev Cert.CtxMixInIdeal.nD → PrngReg)
    (m' : (ℓ : Loc Cert.CtxMixInRefIdeal.nD Cert.CtxMixInRefIdeal.τ Cert.CtxMixInRefIdeal.sig) → Buf (Elt Ideal) ℓ) (g' : Dev Cert.CtxMixInRefIdeal.nD → PrngReg), Pre_CtxMixInIdeal m →
    (∀ c : Dev Cert.CtxMixInIdeal.nD,
      m' ((c.tc : Thread Cert.CtxMixInRefIdeal.nD Cert.CtxMixInRefIdeal.τ).loc Cert.CtxMixInRefIdeal.main_arg0) = m ((c.tc : Thread Cert.CtxMixInIdeal.nD Cert.CtxMixInIdeal.τ).loc Cert.CtxMixInIdeal.main_arg0)
      ∧ m' ((c.tc : Thread Cert.CtxMixInRefIdeal.nD Cert.CtxMixInRefIdeal.τ).loc Cert.CtxMixInRefIdeal.main_arg1) = m ((c.tc : Thread Cert.CtxMixInIdeal.nD Cert.CtxMixInIdeal.τ).loc Cert.CtxMixInIdeal.main_arg1)) →
    ∃ (v0 : (c : Dev Cert.CtxMixInIdeal.nD) → Buf (Elt Ideal) ((c.tc : Thread Cert.CtxMixInIdeal.nD Cert.CtxMixInIdeal.τ).loc Cert.CtxMixInIdeal.main_v0)),
      θ_run (Cert.CtxMixInIdeal.defs (F := Ideal)) (onTc (τ := Cert.CtxMixInIdeal.τ) (Cert.CtxMixInIdeal.main (F := Ideal))) ⟨m, fun _ => 0, g⟩ (fun r => ∀ c : Dev Cert.CtxMixInIdeal.nD,
          r.2.mem ((c.tc : Thread Cert.CtxMixInIdeal.nD Cert.CtxMixInIdeal.τ).loc Cert.CtxMixInIdeal.main_v0) = v0 c
          ∧ r.2.mem ((c.tc : Thread Cert.CtxMixInIdeal.nD Cert.CtxMixInIdeal.τ).loc Cert.CtxMixInIdeal.main_arg0) = m ((c.tc : Thread Cert.CtxMixInIdeal.nD Cert.CtxMixInIdeal.τ).loc Cert.CtxMixInIdeal.main_arg0)
          ∧ r.2.mem ((c.tc : Thread Cert.CtxMixInIdeal.nD Cert.CtxMixInIdeal.τ).loc Cert.CtxMixInIdeal.main_arg1) = m ((c.tc : Thread Cert.CtxMixInIdeal.nD Cert.CtxMixInIdeal.τ).loc Cert.CtxMixInIdeal.main_arg1))
      ∧ θ_run (Cert.CtxMixInRefIdeal.defs (F := Ideal)) (onTc (τ := Cert.CtxMixInRefIdeal.τ) (Cert.CtxMixInRefIdeal.main (F := Ideal))) ⟨m', fun _ => 0, g'⟩ (fun r => ∀ c : Dev Cert.CtxMixInRefIdeal.nD,
          r.2.mem ((c.tc : Thread Cert.CtxMixInRefIdeal.nD Cert.CtxMixInRefIdeal.τ).loc Cert.CtxMixInRefIdeal.main_v2) = v0 c
          ∧ r.2.mem ((c.tc : Thread Cert.CtxMixInRefIdeal.nD Cert.CtxMixInRefIdeal.τ).loc Cert.CtxMixInRefIdeal.main_arg0) = m' ((c.tc : Thread Cert.CtxMixInRefIdeal.nD Cert.CtxMixInRefIdeal.τ).loc Cert.CtxMixInRefIdeal.main_arg0)
          ∧ r.2.mem ((c.tc : Thread Cert.CtxMixInRefIdeal.nD Cert.CtxMixInRefIdeal.τ).loc Cert.CtxMixInRefIdeal.main_arg1) = m' ((c.tc : Thread Cert.CtxMixInRefIdeal.nD Cert.CtxMixInRefIdeal.τ).loc Cert.CtxMixInRefIdeal.main_arg1))

def preserves_CtxMixOut_CtxMixOutIdeal : Prop :=
  True

def algebraic_CtxMixOutIdeal_CtxMixOutRefIdeal [hCtxMixOutIdeal : Cert.CtxMixOutIdeal.Facts] [hCtxMixOutRefIdeal : Cert.CtxMixOutRefIdeal.Facts] : Prop :=
  ∀ (m : (ℓ : Loc Cert.CtxMixOutIdeal.nD Cert.CtxMixOutIdeal.τ Cert.CtxMixOutIdeal.sig) → Buf (Elt Ideal) ℓ) (g : Dev Cert.CtxMixOutIdeal.nD → PrngReg)
    (m' : (ℓ : Loc Cert.CtxMixOutRefIdeal.nD Cert.CtxMixOutRefIdeal.τ Cert.CtxMixOutRefIdeal.sig) → Buf (Elt Ideal) ℓ) (g' : Dev Cert.CtxMixOutRefIdeal.nD → PrngReg), Pre_CtxMixOutIdeal m →
    (∀ c : Dev Cert.CtxMixOutIdeal.nD,
      m' ((c.tc : Thread Cert.CtxMixOutRefIdeal.nD Cert.CtxMixOutRefIdeal.τ).loc Cert.CtxMixOutRefIdeal.main_arg0) = m ((c.tc : Thread Cert.CtxMixOutIdeal.nD Cert.CtxMixOutIdeal.τ).loc Cert.CtxMixOutIdeal.main_arg0)
      ∧ m' ((c.tc : Thread Cert.CtxMixOutRefIdeal.nD Cert.CtxMixOutRefIdeal.τ).loc Cert.CtxMixOutRefIdeal.main_arg1) = m ((c.tc : Thread Cert.CtxMixOutIdeal.nD Cert.CtxMixOutIdeal.τ).loc Cert.CtxMixOutIdeal.main_arg1)) →
    ∃ (v0 : (c : Dev Cert.CtxMixOutIdeal.nD) → Buf (Elt Ideal) ((c.tc : Thread Cert.CtxMixOutIdeal.nD Cert.CtxMixOutIdeal.τ).loc Cert.CtxMixOutIdeal.main_v0)),
      θ_run (Cert.CtxMixOutIdeal.defs (F := Ideal)) (onTc (τ := Cert.CtxMixOutIdeal.τ) (Cert.CtxMixOutIdeal.main (F := Ideal))) ⟨m, fun _ => 0, g⟩ (fun r => ∀ c : Dev Cert.CtxMixOutIdeal.nD,
          r.2.mem ((c.tc : Thread Cert.CtxMixOutIdeal.nD Cert.CtxMixOutIdeal.τ).loc Cert.CtxMixOutIdeal.main_v0) = v0 c
          ∧ r.2.mem ((c.tc : Thread Cert.CtxMixOutIdeal.nD Cert.CtxMixOutIdeal.τ).loc Cert.CtxMixOutIdeal.main_arg0) = m ((c.tc : Thread Cert.CtxMixOutIdeal.nD Cert.CtxMixOutIdeal.τ).loc Cert.CtxMixOutIdeal.main_arg0)
          ∧ r.2.mem ((c.tc : Thread Cert.CtxMixOutIdeal.nD Cert.CtxMixOutIdeal.τ).loc Cert.CtxMixOutIdeal.main_arg1) = m ((c.tc : Thread Cert.CtxMixOutIdeal.nD Cert.CtxMixOutIdeal.τ).loc Cert.CtxMixOutIdeal.main_arg1))
      ∧ θ_run (Cert.CtxMixOutRefIdeal.defs (F := Ideal)) (onTc (τ := Cert.CtxMixOutRefIdeal.τ) (Cert.CtxMixOutRefIdeal.main (F := Ideal))) ⟨m', fun _ => 0, g'⟩ (fun r => ∀ c : Dev Cert.CtxMixOutRefIdeal.nD,
          r.2.mem ((c.tc : Thread Cert.CtxMixOutRefIdeal.nD Cert.CtxMixOutRefIdeal.τ).loc Cert.CtxMixOutRefIdeal.main_v2) = v0 c
          ∧ r.2.mem ((c.tc : Thread Cert.CtxMixOutRefIdeal.nD Cert.CtxMixOutRefIdeal.τ).loc Cert.CtxMixOutRefIdeal.main_arg0) = m' ((c.tc : Thread Cert.CtxMixOutRefIdeal.nD Cert.CtxMixOutRefIdeal.τ).loc Cert.CtxMixOutRefIdeal.main_arg0)
          ∧ r.2.mem ((c.tc : Thread Cert.CtxMixOutRefIdeal.nD Cert.CtxMixOutRefIdeal.τ).loc Cert.CtxMixOutRefIdeal.main_arg1) = m' ((c.tc : Thread Cert.CtxMixOutRefIdeal.nD Cert.CtxMixOutRefIdeal.τ).loc Cert.CtxMixOutRefIdeal.main_arg1))

def preserves_CtxKv_CtxKvIdeal : Prop :=
  True

def algebraic_CtxKvIdeal_CtxKvRefIdeal [hCtxKvIdeal : Cert.CtxKvIdeal.Facts] [hCtxKvRefIdeal : Cert.CtxKvRefIdeal.Facts] : Prop :=
  ∀ (m : (ℓ : Loc Cert.CtxKvIdeal.nD Cert.CtxKvIdeal.τ Cert.CtxKvIdeal.sig) → Buf (Elt Ideal) ℓ) (g : Dev Cert.CtxKvIdeal.nD → PrngReg)
    (m' : (ℓ : Loc Cert.CtxKvRefIdeal.nD Cert.CtxKvRefIdeal.τ Cert.CtxKvRefIdeal.sig) → Buf (Elt Ideal) ℓ) (g' : Dev Cert.CtxKvRefIdeal.nD → PrngReg), Pre_CtxKvIdeal m →
    (∀ c : Dev Cert.CtxKvIdeal.nD,
      m' ((c.tc : Thread Cert.CtxKvRefIdeal.nD Cert.CtxKvRefIdeal.τ).loc Cert.CtxKvRefIdeal.main_arg0) = m ((c.tc : Thread Cert.CtxKvIdeal.nD Cert.CtxKvIdeal.τ).loc Cert.CtxKvIdeal.main_arg0)
      ∧ m' ((c.tc : Thread Cert.CtxKvRefIdeal.nD Cert.CtxKvRefIdeal.τ).loc Cert.CtxKvRefIdeal.main_arg1) = m ((c.tc : Thread Cert.CtxKvIdeal.nD Cert.CtxKvIdeal.τ).loc Cert.CtxKvIdeal.main_arg1)) →
    ∃ (v0 : (c : Dev Cert.CtxKvIdeal.nD) → Buf (Elt Ideal) ((c.tc : Thread Cert.CtxKvIdeal.nD Cert.CtxKvIdeal.τ).loc Cert.CtxKvIdeal.main_v1)),
      θ_run (Cert.CtxKvIdeal.defs (F := Ideal)) (onTc (τ := Cert.CtxKvIdeal.τ) (Cert.CtxKvIdeal.main (F := Ideal))) ⟨m, fun _ => 0, g⟩ (fun r => ∀ c : Dev Cert.CtxKvIdeal.nD,
          r.2.mem ((c.tc : Thread Cert.CtxKvIdeal.nD Cert.CtxKvIdeal.τ).loc Cert.CtxKvIdeal.main_v1) = v0 c
          ∧ r.2.mem ((c.tc : Thread Cert.CtxKvIdeal.nD Cert.CtxKvIdeal.τ).loc Cert.CtxKvIdeal.main_arg0) = m ((c.tc : Thread Cert.CtxKvIdeal.nD Cert.CtxKvIdeal.τ).loc Cert.CtxKvIdeal.main_arg0)
          ∧ r.2.mem ((c.tc : Thread Cert.CtxKvIdeal.nD Cert.CtxKvIdeal.τ).loc Cert.CtxKvIdeal.main_arg1) = m ((c.tc : Thread Cert.CtxKvIdeal.nD Cert.CtxKvIdeal.τ).loc Cert.CtxKvIdeal.main_arg1))
      ∧ θ_run (Cert.CtxKvRefIdeal.defs (F := Ideal)) (onTc (τ := Cert.CtxKvRefIdeal.τ) (Cert.CtxKvRefIdeal.main (F := Ideal))) ⟨m', fun _ => 0, g'⟩ (fun r => ∀ c : Dev Cert.CtxKvRefIdeal.nD,
          r.2.mem ((c.tc : Thread Cert.CtxKvRefIdeal.nD Cert.CtxKvRefIdeal.τ).loc Cert.CtxKvRefIdeal.main_v3) = v0 c
          ∧ r.2.mem ((c.tc : Thread Cert.CtxKvRefIdeal.nD Cert.CtxKvRefIdeal.τ).loc Cert.CtxKvRefIdeal.main_arg0) = m' ((c.tc : Thread Cert.CtxKvRefIdeal.nD Cert.CtxKvRefIdeal.τ).loc Cert.CtxKvRefIdeal.main_arg0)
          ∧ r.2.mem ((c.tc : Thread Cert.CtxKvRefIdeal.nD Cert.CtxKvRefIdeal.τ).loc Cert.CtxKvRefIdeal.main_arg1) = m' ((c.tc : Thread Cert.CtxKvRefIdeal.nD Cert.CtxKvRefIdeal.τ).loc Cert.CtxKvRefIdeal.main_arg1))

def preserves_Interleave_InterleaveIdeal : Prop :=
  True

def algebraic_InterleaveIdeal_InterleaveRefIdeal [hInterleaveIdeal : Cert.InterleaveIdeal.Facts] [hInterleaveRefIdeal : Cert.InterleaveRefIdeal.Facts] : Prop :=
  ∀ (m : (ℓ : Loc Cert.InterleaveIdeal.nD Cert.InterleaveIdeal.τ Cert.InterleaveIdeal.sig) → Buf (Elt Ideal) ℓ) (g : Dev Cert.InterleaveIdeal.nD → PrngReg)
    (m' : (ℓ : Loc Cert.InterleaveRefIdeal.nD Cert.InterleaveRefIdeal.τ Cert.InterleaveRefIdeal.sig) → Buf (Elt Ideal) ℓ) (g' : Dev Cert.InterleaveRefIdeal.nD → PrngReg), Pre_InterleaveIdeal m →
    (∀ c : Dev Cert.InterleaveIdeal.nD,
      m' ((c.tc : Thread Cert.InterleaveRefIdeal.nD Cert.InterleaveRefIdeal.τ).loc Cert.InterleaveRefIdeal.main_arg0) = m ((c.tc : Thread Cert.InterleaveIdeal.nD Cert.InterleaveIdeal.τ).loc Cert.InterleaveIdeal.main_arg0)) →
    ∃ (v0 : (c : Dev Cert.InterleaveIdeal.nD) → Buf (Elt Ideal) ((c.tc : Thread Cert.InterleaveIdeal.nD Cert.InterleaveIdeal.τ).loc Cert.InterleaveIdeal.main_v0)),
      θ_run (Cert.InterleaveIdeal.defs (F := Ideal)) (onTc (τ := Cert.InterleaveIdeal.τ) (Cert.InterleaveIdeal.main (F := Ideal))) ⟨m, fun _ => 0, g⟩ (fun r => ∀ c : Dev Cert.InterleaveIdeal.nD,
          r.2.mem ((c.tc : Thread Cert.InterleaveIdeal.nD Cert.InterleaveIdeal.τ).loc Cert.InterleaveIdeal.main_v0) = v0 c
          ∧ r.2.mem ((c.tc : Thread Cert.InterleaveIdeal.nD Cert.InterleaveIdeal.τ).loc Cert.InterleaveIdeal.main_arg0) = m ((c.tc : Thread Cert.InterleaveIdeal.nD Cert.InterleaveIdeal.τ).loc Cert.InterleaveIdeal.main_arg0))
      ∧ θ_run (Cert.InterleaveRefIdeal.defs (F := Ideal)) (onTc (τ := Cert.InterleaveRefIdeal.τ) (Cert.InterleaveRefIdeal.main (F := Ideal))) ⟨m', fun _ => 0, g'⟩ (fun r => ∀ c : Dev Cert.InterleaveRefIdeal.nD,
          r.2.mem ((c.tc : Thread Cert.InterleaveRefIdeal.nD Cert.InterleaveRefIdeal.τ).loc Cert.InterleaveRefIdeal.main_v2) = v0 c
          ∧ r.2.mem ((c.tc : Thread Cert.InterleaveRefIdeal.nD Cert.InterleaveRefIdeal.τ).loc Cert.InterleaveRefIdeal.main_arg0) = m' ((c.tc : Thread Cert.InterleaveRefIdeal.nD Cert.InterleaveRefIdeal.τ).loc Cert.InterleaveRefIdeal.main_arg0))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)
      ∧ m' ((c.tc : Thread Cert.NormBwdRefIdeal.nD Cert.NormBwdRefIdeal.τ).loc Cert.NormBwdRefIdeal.main_arg4) = m ((c.tc : Thread Cert.NormBwdIdeal.nD Cert.NormBwdIdeal.τ).loc Cert.NormBwdIdeal.main_arg4)
      ∧ m' ((c.tc : Thread Cert.NormBwdRefIdeal.nD Cert.NormBwdRefIdeal.τ).loc Cert.NormBwdRefIdeal.main_arg5) = m ((c.tc : Thread Cert.NormBwdIdeal.nD Cert.NormBwdIdeal.τ).loc Cert.NormBwdIdeal.main_arg5)
      ∧ m' ((c.tc : Thread Cert.NormBwdRefIdeal.nD Cert.NormBwdRefIdeal.τ).loc Cert.NormBwdRefIdeal.main_arg6) = m ((c.tc : Thread Cert.NormBwdIdeal.nD Cert.NormBwdIdeal.τ).loc Cert.NormBwdIdeal.main_arg6)
      ∧ m' ((c.tc : Thread Cert.NormBwdRefIdeal.nD Cert.NormBwdRefIdeal.τ).loc Cert.NormBwdRefIdeal.main_arg7) = m ((c.tc : Thread Cert.NormBwdIdeal.nD Cert.NormBwdIdeal.τ).loc Cert.NormBwdIdeal.main_arg7)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)) (v2 : (c : Dev Cert.NormBwdIdeal.nD) → Buf (Elt Ideal) ((c.tc : Thread Cert.NormBwdIdeal.nD Cert.NormBwdIdeal.τ).loc Cert.NormBwdIdeal.main_v0_2)) (v3 : (c : Dev Cert.NormBwdIdeal.nD) → Buf (Elt Ideal) ((c.tc : Thread Cert.NormBwdIdeal.nD Cert.NormBwdIdeal.τ).loc Cert.NormBwdIdeal.main_v0_3)) (v4 : (c : Dev Cert.NormBwdIdeal.nD) → Buf (Elt Ideal) ((c.tc : Thread Cert.NormBwdIdeal.nD Cert.NormBwdIdeal.τ).loc Cert.NormBwdIdeal.main_v0_4)) (v5 : (c : Dev Cert.NormBwdIdeal.nD) → Buf (Elt Ideal) ((c.tc : Thread Cert.NormBwdIdeal.nD Cert.NormBwdIdeal.τ).loc Cert.NormBwdIdeal.main_v0_5)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_v0_2) = v2 c
          ∧ r.2.mem ((c.tc : Thread Cert.NormBwdIdeal.nD Cert.NormBwdIdeal.τ).loc Cert.NormBwdIdeal.main_v0_3) = v3 c
          ∧ r.2.mem ((c.tc : Thread Cert.NormBwdIdeal.nD Cert.NormBwdIdeal.τ).loc Cert.NormBwdIdeal.main_v0_4) = v4 c
          ∧ r.2.mem ((c.tc : Thread Cert.NormBwdIdeal.nD Cert.NormBwdIdeal.τ).loc Cert.NormBwdIdeal.main_v0_5) = v5 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
          ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
          ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5)
          ∧ r.2.mem ((c.tc : Thread Cert.NormBwdIdeal.nD Cert.NormBwdIdeal.τ).loc Cert.NormBwdIdeal.main_arg6) = m ((c.tc : Thread Cert.NormBwdIdeal.nD Cert.NormBwdIdeal.τ).loc Cert.NormBwdIdeal.main_arg6)
          ∧ r.2.mem ((c.tc : Thread Cert.NormBwdIdeal.nD Cert.NormBwdIdeal.τ).loc Cert.NormBwdIdeal.main_arg7) = m ((c.tc : Thread Cert.NormBwdIdeal.nD Cert.NormBwdIdeal.τ).loc Cert.NormBwdIdeal.main_arg7))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v54) = v0 c
          ∧ r.2.mem ((c.tc : Thread Cert.NormBwdRefIdeal.nD Cert.NormBwdRefIdeal.τ).loc Cert.NormBwdRefIdeal.main_v61) = v1 c
          ∧ r.2.mem ((c.tc : Thread Cert.NormBwdRefIdeal.nD Cert.NormBwdRefIdeal.τ).loc Cert.NormBwdRefIdeal.main_v60) = v2 c
          ∧ r.2.mem ((c.tc : Thread Cert.NormBwdRefIdeal.nD Cert.NormBwdRefIdeal.τ).loc Cert.NormBwdRefIdeal.main_v39) = v3 c
          ∧ r.2.mem ((c.tc : Thread Cert.NormBwdRefIdeal.nD Cert.NormBwdRefIdeal.τ).loc Cert.NormBwdRefIdeal.main_v30) = v4 c
          ∧ r.2.mem ((c.tc : Thread Cert.NormBwdRefIdeal.nD Cert.NormBwdRefIdeal.τ).loc Cert.NormBwdRefIdeal.main_v27) = v5 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3)
          ∧ r.2.mem ((c.tc : Thread Cert.NormBwdRefIdeal.nD Cert.NormBwdRefIdeal.τ).loc Cert.NormBwdRefIdeal.main_arg4) = m' ((c.tc : Thread Cert.NormBwdRefIdeal.nD Cert.NormBwdRefIdeal.τ).loc Cert.NormBwdRefIdeal.main_arg4)
          ∧ r.2.mem ((c.tc : Thread Cert.NormBwdRefIdeal.nD Cert.NormBwdRefIdeal.τ).loc Cert.NormBwdRefIdeal.main_arg5) = m' ((c.tc : Thread Cert.NormBwdRefIdeal.nD Cert.NormBwdRefIdeal.τ).loc Cert.NormBwdRefIdeal.main_arg5)
          ∧ r.2.mem ((c.tc : Thread Cert.NormBwdRefIdeal.nD Cert.NormBwdRefIdeal.τ).loc Cert.NormBwdRefIdeal.main_arg6) = m' ((c.tc : Thread Cert.NormBwdRefIdeal.nD Cert.NormBwdRefIdeal.τ).loc Cert.NormBwdRefIdeal.main_arg6)
          ∧ r.2.mem ((c.tc : Thread Cert.NormBwdRefIdeal.nD Cert.NormBwdRefIdeal.τ).loc Cert.NormBwdRefIdeal.main_arg7) = m' ((c.tc : Thread Cert.NormBwdRefIdeal.nD Cert.NormBwdRefIdeal.τ).loc Cert.NormBwdRefIdeal.main_arg7))

def preserves_CtxNormBwd_CtxNormBwdIdeal : Prop :=
  True

def algebraic_CtxNormBwdIdeal_CtxNormBwdRefIdeal [hCtxNormBwdIdeal : Cert.CtxNormBwdIdeal.Facts] [hCtxNormBwdRefIdeal : Cert.CtxNormBwdRefIdeal.Facts] : Prop :=
  ∀ (m : (ℓ : Loc Cert.CtxNormBwdIdeal.nD Cert.CtxNormBwdIdeal.τ Cert.CtxNormBwdIdeal.sig) → Buf (Elt Ideal) ℓ) (g : Dev Cert.CtxNormBwdIdeal.nD → PrngReg)
    (m' : (ℓ : Loc Cert.CtxNormBwdRefIdeal.nD Cert.CtxNormBwdRefIdeal.τ Cert.CtxNormBwdRefIdeal.sig) → Buf (Elt Ideal) ℓ) (g' : Dev Cert.CtxNormBwdRefIdeal.nD → PrngReg), Pre_CtxNormBwdIdeal m →
    (∀ c : Dev Cert.CtxNormBwdIdeal.nD,
      m' ((c.tc : Thread Cert.CtxNormBwdRefIdeal.nD Cert.CtxNormBwdRefIdeal.τ).loc Cert.CtxNormBwdRefIdeal.main_arg0) = m ((c.tc : Thread Cert.CtxNormBwdIdeal.nD Cert.CtxNormBwdIdeal.τ).loc Cert.CtxNormBwdIdeal.main_arg0)
      ∧ m' ((c.tc : Thread Cert.CtxNormBwdRefIdeal.nD Cert.CtxNormBwdRefIdeal.τ).loc Cert.CtxNormBwdRefIdeal.main_arg1) = m ((c.tc : Thread Cert.CtxNormBwdIdeal.nD Cert.CtxNormBwdIdeal.τ).loc Cert.CtxNormBwdIdeal.main_arg1)
      ∧ m' ((c.tc : Thread Cert.CtxNormBwdRefIdeal.nD Cert.CtxNormBwdRefIdeal.τ).loc Cert.CtxNormBwdRefIdeal.main_arg2) = m ((c.tc : Thread Cert.CtxNormBwdIdeal.nD Cert.CtxNormBwdIdeal.τ).loc Cert.CtxNormBwdIdeal.main_arg2)
      ∧ m' ((c.tc : Thread Cert.CtxNormBwdRefIdeal.nD Cert.CtxNormBwdRefIdeal.τ).loc Cert.CtxNormBwdRefIdeal.main_arg3) = m ((c.tc : Thread Cert.CtxNormBwdIdeal.nD Cert.CtxNormBwdIdeal.τ).loc Cert.CtxNormBwdIdeal.main_arg3)
      ∧ m' ((c.tc : Thread Cert.CtxNormBwdRefIdeal.nD Cert.CtxNormBwdRefIdeal.τ).loc Cert.CtxNormBwdRefIdeal.main_arg4) = m ((c.tc : Thread Cert.CtxNormBwdIdeal.nD Cert.CtxNormBwdIdeal.τ).loc Cert.CtxNormBwdIdeal.main_arg4)
      ∧ m' ((c.tc : Thread Cert.CtxNormBwdRefIdeal.nD Cert.CtxNormBwdRefIdeal.τ).loc Cert.CtxNormBwdRefIdeal.main_arg5) = m ((c.tc : Thread Cert.CtxNormBwdIdeal.nD Cert.CtxNormBwdIdeal.τ).loc Cert.CtxNormBwdIdeal.main_arg5)
      ∧ m' ((c.tc : Thread Cert.CtxNormBwdRefIdeal.nD Cert.CtxNormBwdRefIdeal.τ).loc Cert.CtxNormBwdRefIdeal.main_arg6) = m ((c.tc : Thread Cert.CtxNormBwdIdeal.nD Cert.CtxNormBwdIdeal.τ).loc Cert.CtxNormBwdIdeal.main_arg6)
      ∧ m' ((c.tc : Thread Cert.CtxNormBwdRefIdeal.nD Cert.CtxNormBwdRefIdeal.τ).loc Cert.CtxNormBwdRefIdeal.main_arg7) = m ((c.tc : Thread Cert.CtxNormBwdIdeal.nD Cert.CtxNormBwdIdeal.τ).loc Cert.CtxNormBwdIdeal.main_arg7)) →
    ∃ (v0 : (c : Dev Cert.CtxNormBwdIdeal.nD) → Buf (Elt Ideal) ((c.tc : Thread Cert.CtxNormBwdIdeal.nD Cert.CtxNormBwdIdeal.τ).loc Cert.CtxNormBwdIdeal.main_v0_0)) (v1 : (c : Dev Cert.CtxNormBwdIdeal.nD) → Buf (Elt Ideal) ((c.tc : Thread Cert.CtxNormBwdIdeal.nD Cert.CtxNormBwdIdeal.τ).loc Cert.CtxNormBwdIdeal.main_v0_1)) (v2 : (c : Dev Cert.CtxNormBwdIdeal.nD) → Buf (Elt Ideal) ((c.tc : Thread Cert.CtxNormBwdIdeal.nD Cert.CtxNormBwdIdeal.τ).loc Cert.CtxNormBwdIdeal.main_v0_2)) (v3 : (c : Dev Cert.CtxNormBwdIdeal.nD) → Buf (Elt Ideal) ((c.tc : Thread Cert.CtxNormBwdIdeal.nD Cert.CtxNormBwdIdeal.τ).loc Cert.CtxNormBwdIdeal.main_v0_3)) (v4 : (c : Dev Cert.CtxNormBwdIdeal.nD) → Buf (Elt Ideal) ((c.tc : Thread Cert.CtxNormBwdIdeal.nD Cert.CtxNormBwdIdeal.τ).loc Cert.CtxNormBwdIdeal.main_v0_4)) (v5 : (c : Dev Cert.CtxNormBwdIdeal.nD) → Buf (Elt Ideal) ((c.tc : Thread Cert.CtxNormBwdIdeal.nD Cert.CtxNormBwdIdeal.τ).loc Cert.CtxNormBwdIdeal.main_v0_5)),
      θ_run (Cert.CtxNormBwdIdeal.defs (F := Ideal)) (onTc (τ := Cert.CtxNormBwdIdeal.τ) (Cert.CtxNormBwdIdeal.main (F := Ideal))) ⟨m, fun _ => 0, g⟩ (fun r => ∀ c : Dev Cert.CtxNormBwdIdeal.nD,
          r.2.mem ((c.tc : Thread Cert.CtxNormBwdIdeal.nD Cert.CtxNormBwdIdeal.τ).loc Cert.CtxNormBwdIdeal.main_v0_0) = v0 c
          ∧ r.2.mem ((c.tc : Thread Cert.CtxNormBwdIdeal.nD Cert.CtxNormBwdIdeal.τ).loc Cert.CtxNormBwdIdeal.main_v0_1) = v1 c
          ∧ r.2.mem ((c.tc : Thread Cert.CtxNormBwdIdeal.nD Cert.CtxNormBwdIdeal.τ).loc Cert.CtxNormBwdIdeal.main_v0_2) = v2 c
          ∧ r.2.mem ((c.tc : Thread Cert.CtxNormBwdIdeal.nD Cert.CtxNormBwdIdeal.τ).loc Cert.CtxNormBwdIdeal.main_v0_3) = v3 c
          ∧ r.2.mem ((c.tc : Thread Cert.CtxNormBwdIdeal.nD Cert.CtxNormBwdIdeal.τ).loc Cert.CtxNormBwdIdeal.main_v0_4) = v4 c
          ∧ r.2.mem ((c.tc : Thread Cert.CtxNormBwdIdeal.nD Cert.CtxNormBwdIdeal.τ).loc Cert.CtxNormBwdIdeal.main_v0_5) = v5 c
          ∧ r.2.mem ((c.tc : Thread Cert.CtxNormBwdIdeal.nD Cert.CtxNormBwdIdeal.τ).loc Cert.CtxNormBwdIdeal.main_arg0) = m ((c.tc : Thread Cert.CtxNormBwdIdeal.nD Cert.CtxNormBwdIdeal.τ).loc Cert.CtxNormBwdIdeal.main_arg0)
          ∧ r.2.mem ((c.tc : Thread Cert.CtxNormBwdIdeal.nD Cert.CtxNormBwdIdeal.τ).loc Cert.CtxNormBwdIdeal.main_arg1) = m ((c.tc : Thread Cert.CtxNormBwdIdeal.nD Cert.CtxNormBwdIdeal.τ).loc Cert.CtxNormBwdIdeal.main_arg1)
          ∧ r.2.mem ((c.tc : Thread Cert.CtxNormBwdIdeal.nD Cert.CtxNormBwdIdeal.τ).loc Cert.CtxNormBwdIdeal.main_arg2) = m ((c.tc : Thread Cert.CtxNormBwdIdeal.nD Cert.CtxNormBwdIdeal.τ).loc Cert.CtxNormBwdIdeal.main_arg2)
          ∧ r.2.mem ((c.tc : Thread Cert.CtxNormBwdIdeal.nD Cert.CtxNormBwdIdeal.τ).loc Cert.CtxNormBwdIdeal.main_arg3) = m ((c.tc : Thread Cert.CtxNormBwdIdeal.nD Cert.CtxNormBwdIdeal.τ).loc Cert.CtxNormBwdIdeal.main_arg3)
          ∧ r.2.mem ((c.tc : Thread Cert.CtxNormBwdIdeal.nD Cert.CtxNormBwdIdeal.τ).loc Cert.CtxNormBwdIdeal.main_arg4) = m ((c.tc : Thread Cert.CtxNormBwdIdeal.nD Cert.CtxNormBwdIdeal.τ).loc Cert.CtxNormBwdIdeal.main_arg4)
          ∧ r.2.mem ((c.tc : Thread Cert.CtxNormBwdIdeal.nD Cert.CtxNormBwdIdeal.τ).loc Cert.CtxNormBwdIdeal.main_arg5) = m ((c.tc : Thread Cert.CtxNormBwdIdeal.nD Cert.CtxNormBwdIdeal.τ).loc Cert.CtxNormBwdIdeal.main_arg5)
          ∧ r.2.mem ((c.tc : Thread Cert.CtxNormBwdIdeal.nD Cert.CtxNormBwdIdeal.τ).loc Cert.CtxNormBwdIdeal.main_arg6) = m ((c.tc : Thread Cert.CtxNormBwdIdeal.nD Cert.CtxNormBwdIdeal.τ).loc Cert.CtxNormBwdIdeal.main_arg6)
          ∧ r.2.mem ((c.tc : Thread Cert.CtxNormBwdIdeal.nD Cert.CtxNormBwdIdeal.τ).loc Cert.CtxNormBwdIdeal.main_arg7) = m ((c.tc : Thread Cert.CtxNormBwdIdeal.nD Cert.CtxNormBwdIdeal.τ).loc Cert.CtxNormBwdIdeal.main_arg7))
      ∧ θ_run (Cert.CtxNormBwdRefIdeal.defs (F := Ideal)) (onTc (τ := Cert.CtxNormBwdRefIdeal.τ) (Cert.CtxNormBwdRefIdeal.main (F := Ideal))) ⟨m', fun _ => 0, g'⟩ (fun r => ∀ c : Dev Cert.CtxNormBwdRefIdeal.nD,
          r.2.mem ((c.tc : Thread Cert.CtxNormBwdRefIdeal.nD Cert.CtxNormBwdRefIdeal.τ).loc Cert.CtxNormBwdRefIdeal.main_v54) = v0 c
          ∧ r.2.mem ((c.tc : Thread Cert.CtxNormBwdRefIdeal.nD Cert.CtxNormBwdRefIdeal.τ).loc Cert.CtxNormBwdRefIdeal.main_v61) = v1 c
          ∧ r.2.mem ((c.tc : Thread Cert.CtxNormBwdRefIdeal.nD Cert.CtxNormBwdRefIdeal.τ).loc Cert.CtxNormBwdRefIdeal.main_v60) = v2 c
          ∧ r.2.mem ((c.tc : Thread Cert.CtxNormBwdRefIdeal.nD Cert.CtxNormBwdRefIdeal.τ).loc Cert.CtxNormBwdRefIdeal.main_v39) = v3 c
          ∧ r.2.mem ((c.tc : Thread Cert.CtxNormBwdRefIdeal.nD Cert.CtxNormBwdRefIdeal.τ).loc Cert.CtxNormBwdRefIdeal.main_v30) = v4 c
          ∧ r.2.mem ((c.tc : Thread Cert.CtxNormBwdRefIdeal.nD Cert.CtxNormBwdRefIdeal.τ).loc Cert.CtxNormBwdRefIdeal.main_v27) = v5 c
          ∧ r.2.mem ((c.tc : Thread Cert.CtxNormBwdRefIdeal.nD Cert.CtxNormBwdRefIdeal.τ).loc Cert.CtxNormBwdRefIdeal.main_arg0) = m' ((c.tc : Thread Cert.CtxNormBwdRefIdeal.nD Cert.CtxNormBwdRefIdeal.τ).loc Cert.CtxNormBwdRefIdeal.main_arg0)
          ∧ r.2.mem ((c.tc : Thread Cert.CtxNormBwdRefIdeal.nD Cert.CtxNormBwdRefIdeal.τ).loc Cert.CtxNormBwdRefIdeal.main_arg1) = m' ((c.tc : Thread Cert.CtxNormBwdRefIdeal.nD Cert.CtxNormBwdRefIdeal.τ).loc Cert.CtxNormBwdRefIdeal.main_arg1)
          ∧ r.2.mem ((c.tc : Thread Cert.CtxNormBwdRefIdeal.nD Cert.CtxNormBwdRefIdeal.τ).loc Cert.CtxNormBwdRefIdeal.main_arg2) = m' ((c.tc : Thread Cert.CtxNormBwdRefIdeal.nD Cert.CtxNormBwdRefIdeal.τ).loc Cert.CtxNormBwdRefIdeal.main_arg2)
          ∧ r.2.mem ((c.tc : Thread Cert.CtxNormBwdRefIdeal.nD Cert.CtxNormBwdRefIdeal.τ).loc Cert.CtxNormBwdRefIdeal.main_arg3) = m' ((c.tc : Thread Cert.CtxNormBwdRefIdeal.nD Cert.CtxNormBwdRefIdeal.τ).loc Cert.CtxNormBwdRefIdeal.main_arg3)
          ∧ r.2.mem ((c.tc : Thread Cert.CtxNormBwdRefIdeal.nD Cert.CtxNormBwdRefIdeal.τ).loc Cert.CtxNormBwdRefIdeal.main_arg4) = m' ((c.tc : Thread Cert.CtxNormBwdRefIdeal.nD Cert.CtxNormBwdRefIdeal.τ).loc Cert.CtxNormBwdRefIdeal.main_arg4)
          ∧ r.2.mem ((c.tc : Thread Cert.CtxNormBwdRefIdeal.nD Cert.CtxNormBwdRefIdeal.τ).loc Cert.CtxNormBwdRefIdeal.main_arg5) = m' ((c.tc : Thread Cert.CtxNormBwdRefIdeal.nD Cert.CtxNormBwdRefIdeal.τ).loc Cert.CtxNormBwdRefIdeal.main_arg5)
          ∧ r.2.mem ((c.tc : Thread Cert.CtxNormBwdRefIdeal.nD Cert.CtxNormBwdRefIdeal.τ).loc Cert.CtxNormBwdRefIdeal.main_arg6) = m' ((c.tc : Thread Cert.CtxNormBwdRefIdeal.nD Cert.CtxNormBwdRefIdeal.τ).loc Cert.CtxNormBwdRefIdeal.main_arg6)
          ∧ r.2.mem ((c.tc : Thread Cert.CtxNormBwdRefIdeal.nD Cert.CtxNormBwdRefIdeal.τ).loc Cert.CtxNormBwdRefIdeal.main_arg7) = m' ((c.tc : Thread Cert.CtxNormBwdRefIdeal.nD Cert.CtxNormBwdRefIdeal.τ).loc Cert.CtxNormBwdRefIdeal.main_arg7))

def preserves_NormFirstBwd_NormFirstBwdIdeal : Prop :=
  True

def algebraic_NormFirstBwdIdeal_NormFirstBwdRefIdeal [hNormFirstBwdIdeal : Cert.NormFirstBwdIdeal.Facts] [hNormFirstBwdRefIdeal : Cert.NormFirstBwdRefIdeal.Facts] : Prop :=
  ∀ (m : (ℓ : Loc Cert.NormFirstBwdIdeal.nD Cert.NormFirstBwdIdeal.τ Cert.NormFirstBwdIdeal.sig) → Buf (Elt Ideal) ℓ) (g : Dev Cert.NormFirstBwdIdeal.nD → PrngReg)
    (m' : (ℓ : Loc Cert.NormFirstBwdRefIdeal.nD Cert.NormFirstBwdRefIdeal.τ Cert.NormFirstBwdRefIdeal.sig) → Buf (Elt Ideal) ℓ) (g' : Dev Cert.NormFirstBwdRefIdeal.nD → PrngReg), Pre_NormFirstBwdIdeal m →
    (∀ c : Dev Cert.NormFirstBwdIdeal.nD,
      m' ((c.tc : Thread Cert.NormFirstBwdRefIdeal.nD Cert.NormFirstBwdRefIdeal.τ).loc Cert.NormFirstBwdRefIdeal.main_arg0) = m ((c.tc : Thread Cert.NormFirstBwdIdeal.nD Cert.NormFirstBwdIdeal.τ).loc Cert.NormFirstBwdIdeal.main_arg0)
      ∧ m' ((c.tc : Thread Cert.NormFirstBwdRefIdeal.nD Cert.NormFirstBwdRefIdeal.τ).loc Cert.NormFirstBwdRefIdeal.main_arg1) = m ((c.tc : Thread Cert.NormFirstBwdIdeal.nD Cert.NormFirstBwdIdeal.τ).loc Cert.NormFirstBwdIdeal.main_arg1)
      ∧ m' ((c.tc : Thread Cert.NormFirstBwdRefIdeal.nD Cert.NormFirstBwdRefIdeal.τ).loc Cert.NormFirstBwdRefIdeal.main_arg2) = m ((c.tc : Thread Cert.NormFirstBwdIdeal.nD Cert.NormFirstBwdIdeal.τ).loc Cert.NormFirstBwdIdeal.main_arg2)
      ∧ m' ((c.tc : Thread Cert.NormFirstBwdRefIdeal.nD Cert.NormFirstBwdRefIdeal.τ).loc Cert.NormFirstBwdRefIdeal.main_arg3) = m ((c.tc : Thread Cert.NormFirstBwdIdeal.nD Cert.NormFirstBwdIdeal.τ).loc Cert.NormFirstBwdIdeal.main_arg3)
      ∧ m' ((c.tc : Thread Cert.NormFirstBwdRefIdeal.nD Cert.NormFirstBwdRefIdeal.τ).loc Cert.NormFirstBwdRefIdeal.main_arg4) = m ((c.tc : Thread Cert.NormFirstBwdIdeal.nD Cert.NormFirstBwdIdeal.τ).loc Cert.NormFirstBwdIdeal.main_arg4)
      ∧ m' ((c.tc : Thread Cert.NormFirstBwdRefIdeal.nD Cert.NormFirstBwdRefIdeal.τ).loc Cert.NormFirstBwdRefIdeal.main_arg5) = m ((c.tc : Thread Cert.NormFirstBwdIdeal.nD Cert.NormFirstBwdIdeal.τ).loc Cert.NormFirstBwdIdeal.main_arg5)) →
    ∃ (v0 : (c : Dev Cert.NormFirstBwdIdeal.nD) → Buf (Elt Ideal) ((c.tc : Thread Cert.NormFirstBwdIdeal.nD Cert.NormFirstBwdIdeal.τ).loc Cert.NormFirstBwdIdeal.main_v0_0)) (v1 : (c : Dev Cert.NormFirstBwdIdeal.nD) → Buf (Elt Ideal) ((c.tc : Thread Cert.NormFirstBwdIdeal.nD Cert.NormFirstBwdIdeal.τ).loc Cert.NormFirstBwdIdeal.main_v0_1)) (v2 : (c : Dev Cert.NormFirstBwdIdeal.nD) → Buf (Elt Ideal) ((c.tc : Thread Cert.NormFirstBwdIdeal.nD Cert.NormFirstBwdIdeal.τ).loc Cert.NormFirstBwdIdeal.main_v0_2)) (v3 : (c : Dev Cert.NormFirstBwdIdeal.nD) → Buf (Elt Ideal) ((c.tc : Thread Cert.NormFirstBwdIdeal.nD Cert.NormFirstBwdIdeal.τ).loc Cert.NormFirstBwdIdeal.main_v0_3)),
      θ_run (Cert.NormFirstBwdIdeal.defs (F := Ideal)) (onTc (τ := Cert.NormFirstBwdIdeal.τ) (Cert.NormFirstBwdIdeal.main (F := Ideal))) ⟨m, fun _ => 0, g⟩ (fun r => ∀ c : Dev Cert.NormFirstBwdIdeal.nD,
          r.2.mem ((c.tc : Thread Cert.NormFirstBwdIdeal.nD Cert.NormFirstBwdIdeal.τ).loc Cert.NormFirstBwdIdeal.main_v0_0) = v0 c
          ∧ r.2.mem ((c.tc : Thread Cert.NormFirstBwdIdeal.nD Cert.NormFirstBwdIdeal.τ).loc Cert.NormFirstBwdIdeal.main_v0_1) = v1 c
          ∧ r.2.mem ((c.tc : Thread Cert.NormFirstBwdIdeal.nD Cert.NormFirstBwdIdeal.τ).loc Cert.NormFirstBwdIdeal.main_v0_2) = v2 c
          ∧ r.2.mem ((c.tc : Thread Cert.NormFirstBwdIdeal.nD Cert.NormFirstBwdIdeal.τ).loc Cert.NormFirstBwdIdeal.main_v0_3) = v3 c
          ∧ r.2.mem ((c.tc : Thread Cert.NormFirstBwdIdeal.nD Cert.NormFirstBwdIdeal.τ).loc Cert.NormFirstBwdIdeal.main_arg0) = m ((c.tc : Thread Cert.NormFirstBwdIdeal.nD Cert.NormFirstBwdIdeal.τ).loc Cert.NormFirstBwdIdeal.main_arg0)
          ∧ r.2.mem ((c.tc : Thread Cert.NormFirstBwdIdeal.nD Cert.NormFirstBwdIdeal.τ).loc Cert.NormFirstBwdIdeal.main_arg1) = m ((c.tc : Thread Cert.NormFirstBwdIdeal.nD Cert.NormFirstBwdIdeal.τ).loc Cert.NormFirstBwdIdeal.main_arg1)
          ∧ r.2.mem ((c.tc : Thread Cert.NormFirstBwdIdeal.nD Cert.NormFirstBwdIdeal.τ).loc Cert.NormFirstBwdIdeal.main_arg2) = m ((c.tc : Thread Cert.NormFirstBwdIdeal.nD Cert.NormFirstBwdIdeal.τ).loc Cert.NormFirstBwdIdeal.main_arg2)
          ∧ r.2.mem ((c.tc : Thread Cert.NormFirstBwdIdeal.nD Cert.NormFirstBwdIdeal.τ).loc Cert.NormFirstBwdIdeal.main_arg3) = m ((c.tc : Thread Cert.NormFirstBwdIdeal.nD Cert.NormFirstBwdIdeal.τ).loc Cert.NormFirstBwdIdeal.main_arg3)
          ∧ r.2.mem ((c.tc : Thread Cert.NormFirstBwdIdeal.nD Cert.NormFirstBwdIdeal.τ).loc Cert.NormFirstBwdIdeal.main_arg4) = m ((c.tc : Thread Cert.NormFirstBwdIdeal.nD Cert.NormFirstBwdIdeal.τ).loc Cert.NormFirstBwdIdeal.main_arg4)
          ∧ r.2.mem ((c.tc : Thread Cert.NormFirstBwdIdeal.nD Cert.NormFirstBwdIdeal.τ).loc Cert.NormFirstBwdIdeal.main_arg5) = m ((c.tc : Thread Cert.NormFirstBwdIdeal.nD Cert.NormFirstBwdIdeal.τ).loc Cert.NormFirstBwdIdeal.main_arg5))
      ∧ θ_run (Cert.NormFirstBwdRefIdeal.defs (F := Ideal)) (onTc (τ := Cert.NormFirstBwdRefIdeal.τ) (Cert.NormFirstBwdRefIdeal.main (F := Ideal))) ⟨m', fun _ => 0, g'⟩ (fun r => ∀ c : Dev Cert.NormFirstBwdRefIdeal.nD,
          r.2.mem ((c.tc : Thread Cert.NormFirstBwdRefIdeal.nD Cert.NormFirstBwdRefIdeal.τ).loc Cert.NormFirstBwdRefIdeal.main_v51) = v0 c
          ∧ r.2.mem ((c.tc : Thread Cert.NormFirstBwdRefIdeal.nD Cert.NormFirstBwdRefIdeal.τ).loc Cert.NormFirstBwdRefIdeal.main_v36) = v1 c
          ∧ r.2.mem ((c.tc : Thread Cert.NormFirstBwdRefIdeal.nD Cert.NormFirstBwdRefIdeal.τ).loc Cert.NormFirstBwdRefIdeal.main_v27) = v2 c
          ∧ r.2.mem ((c.tc : Thread Cert.NormFirstBwdRefIdeal.nD Cert.NormFirstBwdRefIdeal.τ).loc Cert.NormFirstBwdRefIdeal.main_v24) = v3 c
          ∧ r.2.mem ((c.tc : Thread Cert.NormFirstBwdRefIdeal.nD Cert.NormFirstBwdRefIdeal.τ).loc Cert.NormFirstBwdRefIdeal.main_arg0) = m' ((c.tc : Thread Cert.NormFirstBwdRefIdeal.nD Cert.NormFirstBwdRefIdeal.τ).loc Cert.NormFirstBwdRefIdeal.main_arg0)
          ∧ r.2.mem ((c.tc : Thread Cert.NormFirstBwdRefIdeal.nD Cert.NormFirstBwdRefIdeal.τ).loc Cert.NormFirstBwdRefIdeal.main_arg1) = m' ((c.tc : Thread Cert.NormFirstBwdRefIdeal.nD Cert.NormFirstBwdRefIdeal.τ).loc Cert.NormFirstBwdRefIdeal.main_arg1)
          ∧ r.2.mem ((c.tc : Thread Cert.NormFirstBwdRefIdeal.nD Cert.NormFirstBwdRefIdeal.τ).loc Cert.NormFirstBwdRefIdeal.main_arg2) = m' ((c.tc : Thread Cert.NormFirstBwdRefIdeal.nD Cert.NormFirstBwdRefIdeal.τ).loc Cert.NormFirstBwdRefIdeal.main_arg2)
          ∧ r.2.mem ((c.tc : Thread Cert.NormFirstBwdRefIdeal.nD Cert.NormFirstBwdRefIdeal.τ).loc Cert.NormFirstBwdRefIdeal.main_arg3) = m' ((c.tc : Thread Cert.NormFirstBwdRefIdeal.nD Cert.NormFirstBwdRefIdeal.τ).loc Cert.NormFirstBwdRefIdeal.main_arg3)
          ∧ r.2.mem ((c.tc : Thread Cert.NormFirstBwdRefIdeal.nD Cert.NormFirstBwdRefIdeal.τ).loc Cert.NormFirstBwdRefIdeal.main_arg4) = m' ((c.tc : Thread Cert.NormFirstBwdRefIdeal.nD Cert.NormFirstBwdRefIdeal.τ).loc Cert.NormFirstBwdRefIdeal.main_arg4)
          ∧ r.2.mem ((c.tc : Thread Cert.NormFirstBwdRefIdeal.nD Cert.NormFirstBwdRefIdeal.τ).loc Cert.NormFirstBwdRefIdeal.main_arg5) = m' ((c.tc : Thread Cert.NormFirstBwdRefIdeal.nD Cert.NormFirstBwdRefIdeal.τ).loc Cert.NormFirstBwdRefIdeal.main_arg5))

def preserves_CtxNormFirstBwd_CtxNormFirstBwdIdeal : Prop :=
  True

def algebraic_CtxNormFirstBwdIdeal_CtxNormFirstBwdRefIdeal [hCtxNormFirstBwdIdeal : Cert.CtxNormFirstBwdIdeal.Facts] [hCtxNormFirstBwdRefIdeal : Cert.CtxNormFirstBwdRefIdeal.Facts] : Prop :=
  ∀ (m : (ℓ : Loc Cert.CtxNormFirstBwdIdeal.nD Cert.CtxNormFirstBwdIdeal.τ Cert.CtxNormFirstBwdIdeal.sig) → Buf (Elt Ideal) ℓ) (g : Dev Cert.CtxNormFirstBwdIdeal.nD → PrngReg)
    (m' : (ℓ : Loc Cert.CtxNormFirstBwdRefIdeal.nD Cert.CtxNormFirstBwdRefIdeal.τ Cert.CtxNormFirstBwdRefIdeal.sig) → Buf (Elt Ideal) ℓ) (g' : Dev Cert.CtxNormFirstBwdRefIdeal.nD → PrngReg), Pre_CtxNormFirstBwdIdeal m →
    (∀ c : Dev Cert.CtxNormFirstBwdIdeal.nD,
      m' ((c.tc : Thread Cert.CtxNormFirstBwdRefIdeal.nD Cert.CtxNormFirstBwdRefIdeal.τ).loc Cert.CtxNormFirstBwdRefIdeal.main_arg0) = m ((c.tc : Thread Cert.CtxNormFirstBwdIdeal.nD Cert.CtxNormFirstBwdIdeal.τ).loc Cert.CtxNormFirstBwdIdeal.main_arg0)
      ∧ m' ((c.tc : Thread Cert.CtxNormFirstBwdRefIdeal.nD Cert.CtxNormFirstBwdRefIdeal.τ).loc Cert.CtxNormFirstBwdRefIdeal.main_arg1) = m ((c.tc : Thread Cert.CtxNormFirstBwdIdeal.nD Cert.CtxNormFirstBwdIdeal.τ).loc Cert.CtxNormFirstBwdIdeal.main_arg1)
      ∧ m' ((c.tc : Thread Cert.CtxNormFirstBwdRefIdeal.nD Cert.CtxNormFirstBwdRefIdeal.τ).loc Cert.CtxNormFirstBwdRefIdeal.main_arg2) = m ((c.tc : Thread Cert.CtxNormFirstBwdIdeal.nD Cert.CtxNormFirstBwdIdeal.τ).loc Cert.CtxNormFirstBwdIdeal.main_arg2)
      ∧ m' ((c.tc : Thread Cert.CtxNormFirstBwdRefIdeal.nD Cert.CtxNormFirstBwdRefIdeal.τ).loc Cert.CtxNormFirstBwdRefIdeal.main_arg3) = m ((c.tc : Thread Cert.CtxNormFirstBwdIdeal.nD Cert.CtxNormFirstBwdIdeal.τ).loc Cert.CtxNormFirstBwdIdeal.main_arg3)
      ∧ m' ((c.tc : Thread Cert.CtxNormFirstBwdRefIdeal.nD Cert.CtxNormFirstBwdRefIdeal.τ).loc Cert.CtxNormFirstBwdRefIdeal.main_arg4) = m ((c.tc : Thread Cert.CtxNormFirstBwdIdeal.nD Cert.CtxNormFirstBwdIdeal.τ).loc Cert.CtxNormFirstBwdIdeal.main_arg4)
      ∧ m' ((c.tc : Thread Cert.CtxNormFirstBwdRefIdeal.nD Cert.CtxNormFirstBwdRefIdeal.τ).loc Cert.CtxNormFirstBwdRefIdeal.main_arg5) = m ((c.tc : Thread Cert.CtxNormFirstBwdIdeal.nD Cert.CtxNormFirstBwdIdeal.τ).loc Cert.CtxNormFirstBwdIdeal.main_arg5)) →
    ∃ (v0 : (c : Dev Cert.CtxNormFirstBwdIdeal.nD) → Buf (Elt Ideal) ((c.tc : Thread Cert.CtxNormFirstBwdIdeal.nD Cert.CtxNormFirstBwdIdeal.τ).loc Cert.CtxNormFirstBwdIdeal.main_v0_0)) (v1 : (c : Dev Cert.CtxNormFirstBwdIdeal.nD) → Buf (Elt Ideal) ((c.tc : Thread Cert.CtxNormFirstBwdIdeal.nD Cert.CtxNormFirstBwdIdeal.τ).loc Cert.CtxNormFirstBwdIdeal.main_v0_1)) (v2 : (c : Dev Cert.CtxNormFirstBwdIdeal.nD) → Buf (Elt Ideal) ((c.tc : Thread Cert.CtxNormFirstBwdIdeal.nD Cert.CtxNormFirstBwdIdeal.τ).loc Cert.CtxNormFirstBwdIdeal.main_v0_2)) (v3 : (c : Dev Cert.CtxNormFirstBwdIdeal.nD) → Buf (Elt Ideal) ((c.tc : Thread Cert.CtxNormFirstBwdIdeal.nD Cert.CtxNormFirstBwdIdeal.τ).loc Cert.CtxNormFirstBwdIdeal.main_v0_3)),
      θ_run (Cert.CtxNormFirstBwdIdeal.defs (F := Ideal)) (onTc (τ := Cert.CtxNormFirstBwdIdeal.τ) (Cert.CtxNormFirstBwdIdeal.main (F := Ideal))) ⟨m, fun _ => 0, g⟩ (fun r => ∀ c : Dev Cert.CtxNormFirstBwdIdeal.nD,
          r.2.mem ((c.tc : Thread Cert.CtxNormFirstBwdIdeal.nD Cert.CtxNormFirstBwdIdeal.τ).loc Cert.CtxNormFirstBwdIdeal.main_v0_0) = v0 c
          ∧ r.2.mem ((c.tc : Thread Cert.CtxNormFirstBwdIdeal.nD Cert.CtxNormFirstBwdIdeal.τ).loc Cert.CtxNormFirstBwdIdeal.main_v0_1) = v1 c
          ∧ r.2.mem ((c.tc : Thread Cert.CtxNormFirstBwdIdeal.nD Cert.CtxNormFirstBwdIdeal.τ).loc Cert.CtxNormFirstBwdIdeal.main_v0_2) = v2 c
          ∧ r.2.mem ((c.tc : Thread Cert.CtxNormFirstBwdIdeal.nD Cert.CtxNormFirstBwdIdeal.τ).loc Cert.CtxNormFirstBwdIdeal.main_v0_3) = v3 c
          ∧ r.2.mem ((c.tc : Thread Cert.CtxNormFirstBwdIdeal.nD Cert.CtxNormFirstBwdIdeal.τ).loc Cert.CtxNormFirstBwdIdeal.main_arg0) = m ((c.tc : Thread Cert.CtxNormFirstBwdIdeal.nD Cert.CtxNormFirstBwdIdeal.τ).loc Cert.CtxNormFirstBwdIdeal.main_arg0)
          ∧ r.2.mem ((c.tc : Thread Cert.CtxNormFirstBwdIdeal.nD Cert.CtxNormFirstBwdIdeal.τ).loc Cert.CtxNormFirstBwdIdeal.main_arg1) = m ((c.tc : Thread Cert.CtxNormFirstBwdIdeal.nD Cert.CtxNormFirstBwdIdeal.τ).loc Cert.CtxNormFirstBwdIdeal.main_arg1)
          ∧ r.2.mem ((c.tc : Thread Cert.CtxNormFirstBwdIdeal.nD Cert.CtxNormFirstBwdIdeal.τ).loc Cert.CtxNormFirstBwdIdeal.main_arg2) = m ((c.tc : Thread Cert.CtxNormFirstBwdIdeal.nD Cert.CtxNormFirstBwdIdeal.τ).loc Cert.CtxNormFirstBwdIdeal.main_arg2)
          ∧ r.2.mem ((c.tc : Thread Cert.CtxNormFirstBwdIdeal.nD Cert.CtxNormFirstBwdIdeal.τ).loc Cert.CtxNormFirstBwdIdeal.main_arg3) = m ((c.tc : Thread Cert.CtxNormFirstBwdIdeal.nD Cert.CtxNormFirstBwdIdeal.τ).loc Cert.CtxNormFirstBwdIdeal.main_arg3)
          ∧ r.2.mem ((c.tc : Thread Cert.CtxNormFirstBwdIdeal.nD Cert.CtxNormFirstBwdIdeal.τ).loc Cert.CtxNormFirstBwdIdeal.main_arg4) = m ((c.tc : Thread Cert.CtxNormFirstBwdIdeal.nD Cert.CtxNormFirstBwdIdeal.τ).loc Cert.CtxNormFirstBwdIdeal.main_arg4)
          ∧ r.2.mem ((c.tc : Thread Cert.CtxNormFirstBwdIdeal.nD Cert.CtxNormFirstBwdIdeal.τ).loc Cert.CtxNormFirstBwdIdeal.main_arg5) = m ((c.tc : Thread Cert.CtxNormFirstBwdIdeal.nD Cert.CtxNormFirstBwdIdeal.τ).loc Cert.CtxNormFirstBwdIdeal.main_arg5))
      ∧ θ_run (Cert.CtxNormFirstBwdRefIdeal.defs (F := Ideal)) (onTc (τ := Cert.CtxNormFirstBwdRefIdeal.τ) (Cert.CtxNormFirstBwdRefIdeal.main (F := Ideal))) ⟨m', fun _ => 0, g'⟩ (fun r => ∀ c : Dev Cert.CtxNormFirstBwdRefIdeal.nD,
          r.2.mem ((c.tc : Thread Cert.CtxNormFirstBwdRefIdeal.nD Cert.CtxNormFirstBwdRefIdeal.τ).loc Cert.CtxNormFirstBwdRefIdeal.main_v51) = v0 c
          ∧ r.2.mem ((c.tc : Thread Cert.CtxNormFirstBwdRefIdeal.nD Cert.CtxNormFirstBwdRefIdeal.τ).loc Cert.CtxNormFirstBwdRefIdeal.main_v36) = v1 c
          ∧ r.2.mem ((c.tc : Thread Cert.CtxNormFirstBwdRefIdeal.nD Cert.CtxNormFirstBwdRefIdeal.τ).loc Cert.CtxNormFirstBwdRefIdeal.main_v27) = v2 c
          ∧ r.2.mem ((c.tc : Thread Cert.CtxNormFirstBwdRefIdeal.nD Cert.CtxNormFirstBwdRefIdeal.τ).loc Cert.CtxNormFirstBwdRefIdeal.main_v24) = v3 c
          ∧ r.2.mem ((c.tc : Thread Cert.CtxNormFirstBwdRefIdeal.nD Cert.CtxNormFirstBwdRefIdeal.τ).loc Cert.CtxNormFirstBwdRefIdeal.main_arg0) = m' ((c.tc : Thread Cert.CtxNormFirstBwdRefIdeal.nD Cert.CtxNormFirstBwdRefIdeal.τ).loc Cert.CtxNormFirstBwdRefIdeal.main_arg0)
          ∧ r.2.mem ((c.tc : Thread Cert.CtxNormFirstBwdRefIdeal.nD Cert.CtxNormFirstBwdRefIdeal.τ).loc Cert.CtxNormFirstBwdRefIdeal.main_arg1) = m' ((c.tc : Thread Cert.CtxNormFirstBwdRefIdeal.nD Cert.CtxNormFirstBwdRefIdeal.τ).loc Cert.CtxNormFirstBwdRefIdeal.main_arg1)
          ∧ r.2.mem ((c.tc : Thread Cert.CtxNormFirstBwdRefIdeal.nD Cert.CtxNormFirstBwdRefIdeal.τ).loc Cert.CtxNormFirstBwdRefIdeal.main_arg2) = m' ((c.tc : Thread Cert.CtxNormFirstBwdRefIdeal.nD Cert.CtxNormFirstBwdRefIdeal.τ).loc Cert.CtxNormFirstBwdRefIdeal.main_arg2)
          ∧ r.2.mem ((c.tc : Thread Cert.CtxNormFirstBwdRefIdeal.nD Cert.CtxNormFirstBwdRefIdeal.τ).loc Cert.CtxNormFirstBwdRefIdeal.main_arg3) = m' ((c.tc : Thread Cert.CtxNormFirstBwdRefIdeal.nD Cert.CtxNormFirstBwdRefIdeal.τ).loc Cert.CtxNormFirstBwdRefIdeal.main_arg3)
          ∧ r.2.mem ((c.tc : Thread Cert.CtxNormFirstBwdRefIdeal.nD Cert.CtxNormFirstBwdRefIdeal.τ).loc Cert.CtxNormFirstBwdRefIdeal.main_arg4) = m' ((c.tc : Thread Cert.CtxNormFirstBwdRefIdeal.nD Cert.CtxNormFirstBwdRefIdeal.τ).loc Cert.CtxNormFirstBwdRefIdeal.main_arg4)
          ∧ r.2.mem ((c.tc : Thread Cert.CtxNormFirstBwdRefIdeal.nD Cert.CtxNormFirstBwdRefIdeal.τ).loc Cert.CtxNormFirstBwdRefIdeal.main_arg5) = m' ((c.tc : Thread Cert.CtxNormFirstBwdRefIdeal.nD Cert.CtxNormFirstBwdRefIdeal.τ).loc Cert.CtxNormFirstBwdRefIdeal.main_arg5))

def preserves_ModBwd_ModBwdIdeal : Prop :=
  True

def algebraic_ModBwdIdeal_ModBwdRefIdeal [hModBwdIdeal : Cert.ModBwdIdeal.Facts] [hModBwdRefIdeal : Cert.ModBwdRefIdeal.Facts] : Prop :=
  ∀ (m : (ℓ : Loc Cert.ModBwdIdeal.nD Cert.ModBwdIdeal.τ Cert.ModBwdIdeal.sig) → Buf (Elt Ideal) ℓ) (g : Dev Cert.ModBwdIdeal.nD → PrngReg)
    (m' : (ℓ : Loc Cert.ModBwdRefIdeal.nD Cert.ModBwdRefIdeal.τ Cert.ModBwdRefIdeal.sig) → Buf (Elt Ideal) ℓ) (g' : Dev Cert.ModBwdRefIdeal.nD → PrngReg), Pre_ModBwdIdeal m →
    (∀ c : Dev Cert.ModBwdIdeal.nD,
      m' ((c.tc : Thread Cert.ModBwdRefIdeal.nD Cert.ModBwdRefIdeal.τ).loc Cert.ModBwdRefIdeal.main_arg0) = m ((c.tc : Thread Cert.ModBwdIdeal.nD Cert.ModBwdIdeal.τ).loc Cert.ModBwdIdeal.main_arg0)
      ∧ m' ((c.tc : Thread Cert.ModBwdRefIdeal.nD Cert.ModBwdRefIdeal.τ).loc Cert.ModBwdRefIdeal.main_arg1) = m ((c.tc : Thread Cert.ModBwdIdeal.nD Cert.ModBwdIdeal.τ).loc Cert.ModBwdIdeal.main_arg1)
      ∧ m' ((c.tc : Thread Cert.ModBwdRefIdeal.nD Cert.ModBwdRefIdeal.τ).loc Cert.ModBwdRefIdeal.main_arg2) = m ((c.tc : Thread Cert.ModBwdIdeal.nD Cert.ModBwdIdeal.τ).loc Cert.ModBwdIdeal.main_arg2)
      ∧ m' ((c.tc : Thread Cert.ModBwdRefIdeal.nD Cert.ModBwdRefIdeal.τ).loc Cert.ModBwdRefIdeal.main_arg3) = m ((c.tc : Thread Cert.ModBwdIdeal.nD Cert.ModBwdIdeal.τ).loc Cert.ModBwdIdeal.main_arg3)) →
    ∃ (v0 : (c : Dev Cert.ModBwdIdeal.nD) → Buf (Elt Ideal) ((c.tc : Thread Cert.ModBwdIdeal.nD Cert.ModBwdIdeal.τ).loc Cert.ModBwdIdeal.main_v0_0)) (v1 : (c : Dev Cert.ModBwdIdeal.nD) → Buf (Elt Ideal) ((c.tc : Thread Cert.ModBwdIdeal.nD Cert.ModBwdIdeal.τ).loc Cert.ModBwdIdeal.main_v0_1)),
      θ_run (Cert.ModBwdIdeal.defs (F := Ideal)) (onTc (τ := Cert.ModBwdIdeal.τ) (Cert.ModBwdIdeal.main (F := Ideal))) ⟨m, fun _ => 0, g⟩ (fun r => ∀ c : Dev Cert.ModBwdIdeal.nD,
          r.2.mem ((c.tc : Thread Cert.ModBwdIdeal.nD Cert.ModBwdIdeal.τ).loc Cert.ModBwdIdeal.main_v0_0) = v0 c
          ∧ r.2.mem ((c.tc : Thread Cert.ModBwdIdeal.nD Cert.ModBwdIdeal.τ).loc Cert.ModBwdIdeal.main_v0_1) = v1 c
          ∧ r.2.mem ((c.tc : Thread Cert.ModBwdIdeal.nD Cert.ModBwdIdeal.τ).loc Cert.ModBwdIdeal.main_arg0) = m ((c.tc : Thread Cert.ModBwdIdeal.nD Cert.ModBwdIdeal.τ).loc Cert.ModBwdIdeal.main_arg0)
          ∧ r.2.mem ((c.tc : Thread Cert.ModBwdIdeal.nD Cert.ModBwdIdeal.τ).loc Cert.ModBwdIdeal.main_arg1) = m ((c.tc : Thread Cert.ModBwdIdeal.nD Cert.ModBwdIdeal.τ).loc Cert.ModBwdIdeal.main_arg1)
          ∧ r.2.mem ((c.tc : Thread Cert.ModBwdIdeal.nD Cert.ModBwdIdeal.τ).loc Cert.ModBwdIdeal.main_arg2) = m ((c.tc : Thread Cert.ModBwdIdeal.nD Cert.ModBwdIdeal.τ).loc Cert.ModBwdIdeal.main_arg2)
          ∧ r.2.mem ((c.tc : Thread Cert.ModBwdIdeal.nD Cert.ModBwdIdeal.τ).loc Cert.ModBwdIdeal.main_arg3) = m ((c.tc : Thread Cert.ModBwdIdeal.nD Cert.ModBwdIdeal.τ).loc Cert.ModBwdIdeal.main_arg3))
      ∧ θ_run (Cert.ModBwdRefIdeal.defs (F := Ideal)) (onTc (τ := Cert.ModBwdRefIdeal.τ) (Cert.ModBwdRefIdeal.main (F := Ideal))) ⟨m', fun _ => 0, g'⟩ (fun r => ∀ c : Dev Cert.ModBwdRefIdeal.nD,
          r.2.mem ((c.tc : Thread Cert.ModBwdRefIdeal.nD Cert.ModBwdRefIdeal.τ).loc Cert.ModBwdRefIdeal.main_v36) = v0 c
          ∧ r.2.mem ((c.tc : Thread Cert.ModBwdRefIdeal.nD Cert.ModBwdRefIdeal.τ).loc Cert.ModBwdRefIdeal.main_v34) = v1 c
          ∧ r.2.mem ((c.tc : Thread Cert.ModBwdRefIdeal.nD Cert.ModBwdRefIdeal.τ).loc Cert.ModBwdRefIdeal.main_arg0) = m' ((c.tc : Thread Cert.ModBwdRefIdeal.nD Cert.ModBwdRefIdeal.τ).loc Cert.ModBwdRefIdeal.main_arg0)
          ∧ r.2.mem ((c.tc : Thread Cert.ModBwdRefIdeal.nD Cert.ModBwdRefIdeal.τ).loc Cert.ModBwdRefIdeal.main_arg1) = m' ((c.tc : Thread Cert.ModBwdRefIdeal.nD Cert.ModBwdRefIdeal.τ).loc Cert.ModBwdRefIdeal.main_arg1)
          ∧ r.2.mem ((c.tc : Thread Cert.ModBwdRefIdeal.nD Cert.ModBwdRefIdeal.τ).loc Cert.ModBwdRefIdeal.main_arg2) = m' ((c.tc : Thread Cert.ModBwdRefIdeal.nD Cert.ModBwdRefIdeal.τ).loc Cert.ModBwdRefIdeal.main_arg2)
          ∧ r.2.mem ((c.tc : Thread Cert.ModBwdRefIdeal.nD Cert.ModBwdRefIdeal.τ).loc Cert.ModBwdRefIdeal.main_arg3) = m' ((c.tc : Thread Cert.ModBwdRefIdeal.nD Cert.ModBwdRefIdeal.τ).loc Cert.ModBwdRefIdeal.main_arg3))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)
      ∧ m' ((c.tc : Thread Cert.NormRefIdeal.nD Cert.NormRefIdeal.τ).loc Cert.NormRefIdeal.main_arg5) = m ((c.tc : Thread Cert.NormIdeal.nD Cert.NormIdeal.τ).loc Cert.NormIdeal.main_arg5)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v0_1)) (v2 : (c : Dev Cert.NormIdeal.nD) → Buf (Elt Ideal) ((c.tc : Thread Cert.NormIdeal.nD Cert.NormIdeal.τ).loc Cert.NormIdeal.main_v0_2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v0_1) = v1 c
          ∧ r.2.mem ((c.tc : Thread Cert.NormIdeal.nD Cert.NormIdeal.τ).loc Cert.NormIdeal.main_v0_2) = v2 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
          ∧ r.2.mem ((c.tc : Thread Cert.NormIdeal.nD Cert.NormIdeal.τ).loc Cert.NormIdeal.main_arg5) = m ((c.tc : Thread Cert.NormIdeal.nD Cert.NormIdeal.τ).loc Cert.NormIdeal.main_arg5))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v2) = v0 c
          ∧ r.2.mem ((c.tc : Thread Cert.NormRefIdeal.nD Cert.NormRefIdeal.τ).loc Cert.NormRefIdeal.main_v22) = v1 c
          ∧ r.2.mem ((c.tc : Thread Cert.NormRefIdeal.nD Cert.NormRefIdeal.τ).loc Cert.NormRefIdeal.main_v25) = v2 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4)
          ∧ r.2.mem ((c.tc : Thread Cert.NormRefIdeal.nD Cert.NormRefIdeal.τ).loc Cert.NormRefIdeal.main_arg5) = m' ((c.tc : Thread Cert.NormRefIdeal.nD Cert.NormRefIdeal.τ).loc Cert.NormRefIdeal.main_arg5))

def preserves_CtxNorm_CtxNormIdeal : Prop :=
  True

def algebraic_CtxNormIdeal_CtxNormRefIdeal [hCtxNormIdeal : Cert.CtxNormIdeal.Facts] [hCtxNormRefIdeal : Cert.CtxNormRefIdeal.Facts] : Prop :=
  ∀ (m : (ℓ : Loc Cert.CtxNormIdeal.nD Cert.CtxNormIdeal.τ Cert.CtxNormIdeal.sig) → Buf (Elt Ideal) ℓ) (g : Dev Cert.CtxNormIdeal.nD → PrngReg)
    (m' : (ℓ : Loc Cert.CtxNormRefIdeal.nD Cert.CtxNormRefIdeal.τ Cert.CtxNormRefIdeal.sig) → Buf (Elt Ideal) ℓ) (g' : Dev Cert.CtxNormRefIdeal.nD → PrngReg), Pre_CtxNormIdeal m →
    (∀ c : Dev Cert.CtxNormIdeal.nD,
      m' ((c.tc : Thread Cert.CtxNormRefIdeal.nD Cert.CtxNormRefIdeal.τ).loc Cert.CtxNormRefIdeal.main_arg0) = m ((c.tc : Thread Cert.CtxNormIdeal.nD Cert.CtxNormIdeal.τ).loc Cert.CtxNormIdeal.main_arg0)
      ∧ m' ((c.tc : Thread Cert.CtxNormRefIdeal.nD Cert.CtxNormRefIdeal.τ).loc Cert.CtxNormRefIdeal.main_arg1) = m ((c.tc : Thread Cert.CtxNormIdeal.nD Cert.CtxNormIdeal.τ).loc Cert.CtxNormIdeal.main_arg1)
      ∧ m' ((c.tc : Thread Cert.CtxNormRefIdeal.nD Cert.CtxNormRefIdeal.τ).loc Cert.CtxNormRefIdeal.main_arg2) = m ((c.tc : Thread Cert.CtxNormIdeal.nD Cert.CtxNormIdeal.τ).loc Cert.CtxNormIdeal.main_arg2)
      ∧ m' ((c.tc : Thread Cert.CtxNormRefIdeal.nD Cert.CtxNormRefIdeal.τ).loc Cert.CtxNormRefIdeal.main_arg3) = m ((c.tc : Thread Cert.CtxNormIdeal.nD Cert.CtxNormIdeal.τ).loc Cert.CtxNormIdeal.main_arg3)
      ∧ m' ((c.tc : Thread Cert.CtxNormRefIdeal.nD Cert.CtxNormRefIdeal.τ).loc Cert.CtxNormRefIdeal.main_arg4) = m ((c.tc : Thread Cert.CtxNormIdeal.nD Cert.CtxNormIdeal.τ).loc Cert.CtxNormIdeal.main_arg4)
      ∧ m' ((c.tc : Thread Cert.CtxNormRefIdeal.nD Cert.CtxNormRefIdeal.τ).loc Cert.CtxNormRefIdeal.main_arg5) = m ((c.tc : Thread Cert.CtxNormIdeal.nD Cert.CtxNormIdeal.τ).loc Cert.CtxNormIdeal.main_arg5)) →
    ∃ (v0 : (c : Dev Cert.CtxNormIdeal.nD) → Buf (Elt Ideal) ((c.tc : Thread Cert.CtxNormIdeal.nD Cert.CtxNormIdeal.τ).loc Cert.CtxNormIdeal.main_v0_0)) (v1 : (c : Dev Cert.CtxNormIdeal.nD) → Buf (Elt Ideal) ((c.tc : Thread Cert.CtxNormIdeal.nD Cert.CtxNormIdeal.τ).loc Cert.CtxNormIdeal.main_v0_1)) (v2 : (c : Dev Cert.CtxNormIdeal.nD) → Buf (Elt Ideal) ((c.tc : Thread Cert.CtxNormIdeal.nD Cert.CtxNormIdeal.τ).loc Cert.CtxNormIdeal.main_v0_2)),
      θ_run (Cert.CtxNormIdeal.defs (F := Ideal)) (onTc (τ := Cert.CtxNormIdeal.τ) (Cert.CtxNormIdeal.main (F := Ideal))) ⟨m, fun _ => 0, g⟩ (fun r => ∀ c : Dev Cert.CtxNormIdeal.nD,
          r.2.mem ((c.tc : Thread Cert.CtxNormIdeal.nD Cert.CtxNormIdeal.τ).loc Cert.CtxNormIdeal.main_v0_0) = v0 c
          ∧ r.2.mem ((c.tc : Thread Cert.CtxNormIdeal.nD Cert.CtxNormIdeal.τ).loc Cert.CtxNormIdeal.main_v0_1) = v1 c
          ∧ r.2.mem ((c.tc : Thread Cert.CtxNormIdeal.nD Cert.CtxNormIdeal.τ).loc Cert.CtxNormIdeal.main_v0_2) = v2 c
          ∧ r.2.mem ((c.tc : Thread Cert.CtxNormIdeal.nD Cert.CtxNormIdeal.τ).loc Cert.CtxNormIdeal.main_arg0) = m ((c.tc : Thread Cert.CtxNormIdeal.nD Cert.CtxNormIdeal.τ).loc Cert.CtxNormIdeal.main_arg0)
          ∧ r.2.mem ((c.tc : Thread Cert.CtxNormIdeal.nD Cert.CtxNormIdeal.τ).loc Cert.CtxNormIdeal.main_arg1) = m ((c.tc : Thread Cert.CtxNormIdeal.nD Cert.CtxNormIdeal.τ).loc Cert.CtxNormIdeal.main_arg1)
          ∧ r.2.mem ((c.tc : Thread Cert.CtxNormIdeal.nD Cert.CtxNormIdeal.τ).loc Cert.CtxNormIdeal.main_arg2) = m ((c.tc : Thread Cert.CtxNormIdeal.nD Cert.CtxNormIdeal.τ).loc Cert.CtxNormIdeal.main_arg2)
          ∧ r.2.mem ((c.tc : Thread Cert.CtxNormIdeal.nD Cert.CtxNormIdeal.τ).loc Cert.CtxNormIdeal.main_arg3) = m ((c.tc : Thread Cert.CtxNormIdeal.nD Cert.CtxNormIdeal.τ).loc Cert.CtxNormIdeal.main_arg3)
          ∧ r.2.mem ((c.tc : Thread Cert.CtxNormIdeal.nD Cert.CtxNormIdeal.τ).loc Cert.CtxNormIdeal.main_arg4) = m ((c.tc : Thread Cert.CtxNormIdeal.nD Cert.CtxNormIdeal.τ).loc Cert.CtxNormIdeal.main_arg4)
          ∧ r.2.mem ((c.tc : Thread Cert.CtxNormIdeal.nD Cert.CtxNormIdeal.τ).loc Cert.CtxNormIdeal.main_arg5) = m ((c.tc : Thread Cert.CtxNormIdeal.nD Cert.CtxNormIdeal.τ).loc Cert.CtxNormIdeal.main_arg5))
      ∧ θ_run (Cert.CtxNormRefIdeal.defs (F := Ideal)) (onTc (τ := Cert.CtxNormRefIdeal.τ) (Cert.CtxNormRefIdeal.main (F := Ideal))) ⟨m', fun _ => 0, g'⟩ (fun r => ∀ c : Dev Cert.CtxNormRefIdeal.nD,
          r.2.mem ((c.tc : Thread Cert.CtxNormRefIdeal.nD Cert.CtxNormRefIdeal.τ).loc Cert.CtxNormRefIdeal.main_v2) = v0 c
          ∧ r.2.mem ((c.tc : Thread Cert.CtxNormRefIdeal.nD Cert.CtxNormRefIdeal.τ).loc Cert.CtxNormRefIdeal.main_v22) = v1 c
          ∧ r.2.mem ((c.tc : Thread Cert.CtxNormRefIdeal.nD Cert.CtxNormRefIdeal.τ).loc Cert.CtxNormRefIdeal.main_v25) = v2 c
          ∧ r.2.mem ((c.tc : Thread Cert.CtxNormRefIdeal.nD Cert.CtxNormRefIdeal.τ).loc Cert.CtxNormRefIdeal.main_arg0) = m' ((c.tc : Thread Cert.CtxNormRefIdeal.nD Cert.CtxNormRefIdeal.τ).loc Cert.CtxNormRefIdeal.main_arg0)
          ∧ r.2.mem ((c.tc : Thread Cert.CtxNormRefIdeal.nD Cert.CtxNormRefIdeal.τ).loc Cert.CtxNormRefIdeal.main_arg1) = m' ((c.tc : Thread Cert.CtxNormRefIdeal.nD Cert.CtxNormRefIdeal.τ).loc Cert.CtxNormRefIdeal.main_arg1)
          ∧ r.2.mem ((c.tc : Thread Cert.CtxNormRefIdeal.nD Cert.CtxNormRefIdeal.τ).loc Cert.CtxNormRefIdeal.main_arg2) = m' ((c.tc : Thread Cert.CtxNormRefIdeal.nD Cert.CtxNormRefIdeal.τ).loc Cert.CtxNormRefIdeal.main_arg2)
          ∧ r.2.mem ((c.tc : Thread Cert.CtxNormRefIdeal.nD Cert.CtxNormRefIdeal.τ).loc Cert.CtxNormRefIdeal.main_arg3) = m' ((c.tc : Thread Cert.CtxNormRefIdeal.nD Cert.CtxNormRefIdeal.τ).loc Cert.CtxNormRefIdeal.main_arg3)
          ∧ r.2.mem ((c.tc : Thread Cert.CtxNormRefIdeal.nD Cert.CtxNormRefIdeal.τ).loc Cert.CtxNormRefIdeal.main_arg4) = m' ((c.tc : Thread Cert.CtxNormRefIdeal.nD Cert.CtxNormRefIdeal.τ).loc Cert.CtxNormRefIdeal.main_arg4)
          ∧ r.2.mem ((c.tc : Thread Cert.CtxNormRefIdeal.nD Cert.CtxNormRefIdeal.τ).loc Cert.CtxNormRefIdeal.main_arg5) = m' ((c.tc : Thread Cert.CtxNormRefIdeal.nD Cert.CtxNormRefIdeal.τ).loc Cert.CtxNormRefIdeal.main_arg5))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)) →
    ∃ (v0 : (c : Dev Cert.ModIdeal.nD) → Buf (Elt Ideal) ((c.tc : Thread Cert.ModIdeal.nD Cert.ModIdeal.τ).loc Cert.ModIdeal.main_v0)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v0) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v18) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2))

def preserves_AdamMod_AdamModIdeal : Prop :=
  True

def algebraic_AdamModIdeal_AdamModRefIdeal [hAdamModIdeal : Cert.AdamModIdeal.Facts] [hAdamModRefIdeal : Cert.AdamModRefIdeal.Facts] : Prop :=
  ∀ (m : (ℓ : Loc Cert.AdamModIdeal.nD Cert.AdamModIdeal.τ Cert.AdamModIdeal.sig) → Buf (Elt Ideal) ℓ) (g : Dev Cert.AdamModIdeal.nD → PrngReg)
    (m' : (ℓ : Loc Cert.AdamModRefIdeal.nD Cert.AdamModRefIdeal.τ Cert.AdamModRefIdeal.sig) → Buf (Elt Ideal) ℓ) (g' : Dev Cert.AdamModRefIdeal.nD → PrngReg), Pre_AdamModIdeal m →
    (∀ c : Dev Cert.AdamModIdeal.nD,
      m' ((c.tc : Thread Cert.AdamModRefIdeal.nD Cert.AdamModRefIdeal.τ).loc Cert.AdamModRefIdeal.main_arg0) = m ((c.tc : Thread Cert.AdamModIdeal.nD Cert.AdamModIdeal.τ).loc Cert.AdamModIdeal.main_arg0)
      ∧ m' ((c.tc : Thread Cert.AdamModRefIdeal.nD Cert.AdamModRefIdeal.τ).loc Cert.AdamModRefIdeal.main_arg1) = m ((c.tc : Thread Cert.AdamModIdeal.nD Cert.AdamModIdeal.τ).loc Cert.AdamModIdeal.main_arg1)
      ∧ m' ((c.tc : Thread Cert.AdamModRefIdeal.nD Cert.AdamModRefIdeal.τ).loc Cert.AdamModRefIdeal.main_arg2) = m ((c.tc : Thread Cert.AdamModIdeal.nD Cert.AdamModIdeal.τ).loc Cert.AdamModIdeal.main_arg2)
      ∧ m' ((c.tc : Thread Cert.AdamModRefIdeal.nD Cert.AdamModRefIdeal.τ).loc Cert.AdamModRefIdeal.main_arg3) = m ((c.tc : Thread Cert.AdamModIdeal.nD Cert.AdamModIdeal.τ).loc Cert.AdamModIdeal.main_arg3)) →
    ∃ (v0 : (c : Dev Cert.AdamModIdeal.nD) → Buf (Elt Ideal) ((c.tc : Thread Cert.AdamModIdeal.nD Cert.AdamModIdeal.τ).loc Cert.AdamModIdeal.main_v0_0)) (v1 : (c : Dev Cert.AdamModIdeal.nD) → Buf (Elt Ideal) ((c.tc : Thread Cert.AdamModIdeal.nD Cert.AdamModIdeal.τ).loc Cert.AdamModIdeal.main_v0_1)) (v2 : (c : Dev Cert.AdamModIdeal.nD) → Buf (Elt Ideal) ((c.tc : Thread Cert.AdamModIdeal.nD Cert.AdamModIdeal.τ).loc Cert.AdamModIdeal.main_v0_2)) (v3 : (c : Dev Cert.AdamModIdeal.nD) → Buf (Elt Ideal) ((c.tc : Thread Cert.AdamModIdeal.nD Cert.AdamModIdeal.τ).loc Cert.AdamModIdeal.main_v0_3)),
      θ_run (Cert.AdamModIdeal.defs (F := Ideal)) (onTc (τ := Cert.AdamModIdeal.τ) (Cert.AdamModIdeal.main (F := Ideal))) ⟨m, fun _ => 0, g⟩ (fun r => ∀ c : Dev Cert.AdamModIdeal.nD,
          r.2.mem ((c.tc : Thread Cert.AdamModIdeal.nD Cert.AdamModIdeal.τ).loc Cert.AdamModIdeal.main_v0_0) = v0 c
          ∧ r.2.mem ((c.tc : Thread Cert.AdamModIdeal.nD Cert.AdamModIdeal.τ).loc Cert.AdamModIdeal.main_v0_1) = v1 c
          ∧ r.2.mem ((c.tc : Thread Cert.AdamModIdeal.nD Cert.AdamModIdeal.τ).loc Cert.AdamModIdeal.main_v0_2) = v2 c
          ∧ r.2.mem ((c.tc : Thread Cert.AdamModIdeal.nD Cert.AdamModIdeal.τ).loc Cert.AdamModIdeal.main_v0_3) = v3 c
          ∧ r.2.mem ((c.tc : Thread Cert.AdamModIdeal.nD Cert.AdamModIdeal.τ).loc Cert.AdamModIdeal.main_arg0) = m ((c.tc : Thread Cert.AdamModIdeal.nD Cert.AdamModIdeal.τ).loc Cert.AdamModIdeal.main_arg0)
          ∧ r.2.mem ((c.tc : Thread Cert.AdamModIdeal.nD Cert.AdamModIdeal.τ).loc Cert.AdamModIdeal.main_arg1) = m ((c.tc : Thread Cert.AdamModIdeal.nD Cert.AdamModIdeal.τ).loc Cert.AdamModIdeal.main_arg1)
          ∧ r.2.mem ((c.tc : Thread Cert.AdamModIdeal.nD Cert.AdamModIdeal.τ).loc Cert.AdamModIdeal.main_arg2) = m ((c.tc : Thread Cert.AdamModIdeal.nD Cert.AdamModIdeal.τ).loc Cert.AdamModIdeal.main_arg2)
          ∧ r.2.mem ((c.tc : Thread Cert.AdamModIdeal.nD Cert.AdamModIdeal.τ).loc Cert.AdamModIdeal.main_arg3) = m ((c.tc : Thread Cert.AdamModIdeal.nD Cert.AdamModIdeal.τ).loc Cert.AdamModIdeal.main_arg3))
      ∧ θ_run (Cert.AdamModRefIdeal.defs (F := Ideal)) (onTc (τ := Cert.AdamModRefIdeal.τ) (Cert.AdamModRefIdeal.main (F := Ideal))) ⟨m', fun _ => 0, g'⟩ (fun r => ∀ c : Dev Cert.AdamModRefIdeal.nD,
          r.2.mem ((c.tc : Thread Cert.AdamModRefIdeal.nD Cert.AdamModRefIdeal.τ).loc Cert.AdamModRefIdeal.main_arg0) = v0 c
          ∧ r.2.mem ((c.tc : Thread Cert.AdamModRefIdeal.nD Cert.AdamModRefIdeal.τ).loc Cert.AdamModRefIdeal.main_v23) = v1 c
          ∧ r.2.mem ((c.tc : Thread Cert.AdamModRefIdeal.nD Cert.AdamModRefIdeal.τ).loc Cert.AdamModRefIdeal.main_v4) = v2 c
          ∧ r.2.mem ((c.tc : Thread Cert.AdamModRefIdeal.nD Cert.AdamModRefIdeal.τ).loc Cert.AdamModRefIdeal.main_v10) = v3 c
          ∧ r.2.mem ((c.tc : Thread Cert.AdamModRefIdeal.nD Cert.AdamModRefIdeal.τ).loc Cert.AdamModRefIdeal.main_arg0) = m' ((c.tc : Thread Cert.AdamModRefIdeal.nD Cert.AdamModRefIdeal.τ).loc Cert.AdamModRefIdeal.main_arg0)
          ∧ r.2.mem ((c.tc : Thread Cert.AdamModRefIdeal.nD Cert.AdamModRefIdeal.τ).loc Cert.AdamModRefIdeal.main_arg1) = m' ((c.tc : Thread Cert.AdamModRefIdeal.nD Cert.AdamModRefIdeal.τ).loc Cert.AdamModRefIdeal.main_arg1)
          ∧ r.2.mem ((c.tc : Thread Cert.AdamModRefIdeal.nD Cert.AdamModRefIdeal.τ).loc Cert.AdamModRefIdeal.main_arg2) = m' ((c.tc : Thread Cert.AdamModRefIdeal.nD Cert.AdamModRefIdeal.τ).loc Cert.AdamModRefIdeal.main_arg2)
          ∧ r.2.mem ((c.tc : Thread Cert.AdamModRefIdeal.nD Cert.AdamModRefIdeal.τ).loc Cert.AdamModRefIdeal.main_arg3) = m' ((c.tc : Thread Cert.AdamModRefIdeal.nD Cert.AdamModRefIdeal.τ).loc Cert.AdamModRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v6) = v0 c
          ∧ r.2.mem ((c.tc : Thread Cert.AdamInRefIdeal.nD Cert.AdamInRefIdeal.τ).loc Cert.AdamInRefIdeal.main_v30) = v1 c
          ∧ r.2.mem ((c.tc : Thread Cert.AdamInRefIdeal.nD Cert.AdamInRefIdeal.τ).loc Cert.AdamInRefIdeal.main_v11) = v2 c
          ∧ r.2.mem ((c.tc : Thread Cert.AdamInRefIdeal.nD Cert.AdamInRefIdeal.τ).loc Cert.AdamInRefIdeal.main_v17) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v6) = v0 c
          ∧ r.2.mem ((c.tc : Thread Cert.AdamOutRefIdeal.nD Cert.AdamOutRefIdeal.τ).loc Cert.AdamOutRefIdeal.main_v30) = v1 c
          ∧ r.2.mem ((c.tc : Thread Cert.AdamOutRefIdeal.nD Cert.AdamOutRefIdeal.τ).loc Cert.AdamOutRefIdeal.main_v11) = v2 c
          ∧ r.2.mem ((c.tc : Thread Cert.AdamOutRefIdeal.nD Cert.AdamOutRefIdeal.τ).loc Cert.AdamOutRefIdeal.main_v17) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4))

def preserves_AdamFfnOut_AdamFfnOutIdeal : Prop :=
  True

def algebraic_AdamFfnOutIdeal_AdamFfnOutRefIdeal [hAdamFfnOutIdeal : Cert.AdamFfnOutIdeal.Facts] [hAdamFfnOutRefIdeal : Cert.AdamFfnOutRefIdeal.Facts] : Prop :=
  ∀ (m : (ℓ : Loc Cert.AdamFfnOutIdeal.nD Cert.AdamFfnOutIdeal.τ Cert.AdamFfnOutIdeal.sig) → Buf (Elt Ideal) ℓ) (g : Dev Cert.AdamFfnOutIdeal.nD → PrngReg)
    (m' : (ℓ : Loc Cert.AdamFfnOutRefIdeal.nD Cert.AdamFfnOutRefIdeal.τ Cert.AdamFfnOutRefIdeal.sig) → Buf (Elt Ideal) ℓ) (g' : Dev Cert.AdamFfnOutRefIdeal.nD → PrngReg), Pre_AdamFfnOutIdeal m →
    (∀ c : Dev Cert.AdamFfnOutIdeal.nD,
      m' ((c.tc : Thread Cert.AdamFfnOutRefIdeal.nD Cert.AdamFfnOutRefIdeal.τ).loc Cert.AdamFfnOutRefIdeal.main_arg0) = m ((c.tc : Thread Cert.AdamFfnOutIdeal.nD Cert.AdamFfnOutIdeal.τ).loc Cert.AdamFfnOutIdeal.main_arg0)
      ∧ m' ((c.tc : Thread Cert.AdamFfnOutRefIdeal.nD Cert.AdamFfnOutRefIdeal.τ).loc Cert.AdamFfnOutRefIdeal.main_arg1) = m ((c.tc : Thread Cert.AdamFfnOutIdeal.nD Cert.AdamFfnOutIdeal.τ).loc Cert.AdamFfnOutIdeal.main_arg1)
      ∧ m' ((c.tc : Thread Cert.AdamFfnOutRefIdeal.nD Cert.AdamFfnOutRefIdeal.τ).loc Cert.AdamFfnOutRefIdeal.main_arg2) = m ((c.tc : Thread Cert.AdamFfnOutIdeal.nD Cert.AdamFfnOutIdeal.τ).loc Cert.AdamFfnOutIdeal.main_arg2)
      ∧ m' ((c.tc : Thread Cert.AdamFfnOutRefIdeal.nD Cert.AdamFfnOutRefIdeal.τ).loc Cert.AdamFfnOutRefIdeal.main_arg3) = m ((c.tc : Thread Cert.AdamFfnOutIdeal.nD Cert.AdamFfnOutIdeal.τ).loc Cert.AdamFfnOutIdeal.main_arg3)
      ∧ m' ((c.tc : Thread Cert.AdamFfnOutRefIdeal.nD Cert.AdamFfnOutRefIdeal.τ).loc Cert.AdamFfnOutRefIdeal.main_arg4) = m ((c.tc : Thread Cert.AdamFfnOutIdeal.nD Cert.AdamFfnOutIdeal.τ).loc Cert.AdamFfnOutIdeal.main_arg4)) →
    ∃ (v0 : (c : Dev Cert.AdamFfnOutIdeal.nD) → Buf (Elt Ideal) ((c.tc : Thread Cert.AdamFfnOutIdeal.nD Cert.AdamFfnOutIdeal.τ).loc Cert.AdamFfnOutIdeal.main_v0_0)) (v1 : (c : Dev Cert.AdamFfnOutIdeal.nD) → Buf (Elt Ideal) ((c.tc : Thread Cert.AdamFfnOutIdeal.nD Cert.AdamFfnOutIdeal.τ).loc Cert.AdamFfnOutIdeal.main_v0_1)) (v2 : (c : Dev Cert.AdamFfnOutIdeal.nD) → Buf (Elt Ideal) ((c.tc : Thread Cert.AdamFfnOutIdeal.nD Cert.AdamFfnOutIdeal.τ).loc Cert.AdamFfnOutIdeal.main_v0_2)) (v3 : (c : Dev Cert.AdamFfnOutIdeal.nD) → Buf (Elt Ideal) ((c.tc : Thread Cert.AdamFfnOutIdeal.nD Cert.AdamFfnOutIdeal.τ).loc Cert.AdamFfnOutIdeal.main_v0_3)),
      θ_run (Cert.AdamFfnOutIdeal.defs (F := Ideal)) (onTc (τ := Cert.AdamFfnOutIdeal.τ) (Cert.AdamFfnOutIdeal.main (F := Ideal))) ⟨m, fun _ => 0, g⟩ (fun r => ∀ c : Dev Cert.AdamFfnOutIdeal.nD,
          r.2.mem ((c.tc : Thread Cert.AdamFfnOutIdeal.nD Cert.AdamFfnOutIdeal.τ).loc Cert.AdamFfnOutIdeal.main_v0_0) = v0 c
          ∧ r.2.mem ((c.tc : Thread Cert.AdamFfnOutIdeal.nD Cert.AdamFfnOutIdeal.τ).loc Cert.AdamFfnOutIdeal.main_v0_1) = v1 c
          ∧ r.2.mem ((c.tc : Thread Cert.AdamFfnOutIdeal.nD Cert.AdamFfnOutIdeal.τ).loc Cert.AdamFfnOutIdeal.main_v0_2) = v2 c
          ∧ r.2.mem ((c.tc : Thread Cert.AdamFfnOutIdeal.nD Cert.AdamFfnOutIdeal.τ).loc Cert.AdamFfnOutIdeal.main_v0_3) = v3 c
          ∧ r.2.mem ((c.tc : Thread Cert.AdamFfnOutIdeal.nD Cert.AdamFfnOutIdeal.τ).loc Cert.AdamFfnOutIdeal.main_arg0) = m ((c.tc : Thread Cert.AdamFfnOutIdeal.nD Cert.AdamFfnOutIdeal.τ).loc Cert.AdamFfnOutIdeal.main_arg0)
          ∧ r.2.mem ((c.tc : Thread Cert.AdamFfnOutIdeal.nD Cert.AdamFfnOutIdeal.τ).loc Cert.AdamFfnOutIdeal.main_arg1) = m ((c.tc : Thread Cert.AdamFfnOutIdeal.nD Cert.AdamFfnOutIdeal.τ).loc Cert.AdamFfnOutIdeal.main_arg1)
          ∧ r.2.mem ((c.tc : Thread Cert.AdamFfnOutIdeal.nD Cert.AdamFfnOutIdeal.τ).loc Cert.AdamFfnOutIdeal.main_arg2) = m ((c.tc : Thread Cert.AdamFfnOutIdeal.nD Cert.AdamFfnOutIdeal.τ).loc Cert.AdamFfnOutIdeal.main_arg2)
          ∧ r.2.mem ((c.tc : Thread Cert.AdamFfnOutIdeal.nD Cert.AdamFfnOutIdeal.τ).loc Cert.AdamFfnOutIdeal.main_arg3) = m ((c.tc : Thread Cert.AdamFfnOutIdeal.nD Cert.AdamFfnOutIdeal.τ).loc Cert.AdamFfnOutIdeal.main_arg3)
          ∧ r.2.mem ((c.tc : Thread Cert.AdamFfnOutIdeal.nD Cert.AdamFfnOutIdeal.τ).loc Cert.AdamFfnOutIdeal.main_arg4) = m ((c.tc : Thread Cert.AdamFfnOutIdeal.nD Cert.AdamFfnOutIdeal.τ).loc Cert.AdamFfnOutIdeal.main_arg4))
      ∧ θ_run (Cert.AdamFfnOutRefIdeal.defs (F := Ideal)) (onTc (τ := Cert.AdamFfnOutRefIdeal.τ) (Cert.AdamFfnOutRefIdeal.main (F := Ideal))) ⟨m', fun _ => 0, g'⟩ (fun r => ∀ c : Dev Cert.AdamFfnOutRefIdeal.nD,
          r.2.mem ((c.tc : Thread Cert.AdamFfnOutRefIdeal.nD Cert.AdamFfnOutRefIdeal.τ).loc Cert.AdamFfnOutRefIdeal.main_v6) = v0 c
          ∧ r.2.mem ((c.tc : Thread Cert.AdamFfnOutRefIdeal.nD Cert.AdamFfnOutRefIdeal.τ).loc Cert.AdamFfnOutRefIdeal.main_v30) = v1 c
          ∧ r.2.mem ((c.tc : Thread Cert.AdamFfnOutRefIdeal.nD Cert.AdamFfnOutRefIdeal.τ).loc Cert.AdamFfnOutRefIdeal.main_v11) = v2 c
          ∧ r.2.mem ((c.tc : Thread Cert.AdamFfnOutRefIdeal.nD Cert.AdamFfnOutRefIdeal.τ).loc Cert.AdamFfnOutRefIdeal.main_v17) = v3 c
          ∧ r.2.mem ((c.tc : Thread Cert.AdamFfnOutRefIdeal.nD Cert.AdamFfnOutRefIdeal.τ).loc Cert.AdamFfnOutRefIdeal.main_arg0) = m' ((c.tc : Thread Cert.AdamFfnOutRefIdeal.nD Cert.AdamFfnOutRefIdeal.τ).loc Cert.AdamFfnOutRefIdeal.main_arg0)
          ∧ r.2.mem ((c.tc : Thread Cert.AdamFfnOutRefIdeal.nD Cert.AdamFfnOutRefIdeal.τ).loc Cert.AdamFfnOutRefIdeal.main_arg1) = m' ((c.tc : Thread Cert.AdamFfnOutRefIdeal.nD Cert.AdamFfnOutRefIdeal.τ).loc Cert.AdamFfnOutRefIdeal.main_arg1)
          ∧ r.2.mem ((c.tc : Thread Cert.AdamFfnOutRefIdeal.nD Cert.AdamFfnOutRefIdeal.τ).loc Cert.AdamFfnOutRefIdeal.main_arg2) = m' ((c.tc : Thread Cert.AdamFfnOutRefIdeal.nD Cert.AdamFfnOutRefIdeal.τ).loc Cert.AdamFfnOutRefIdeal.main_arg2)
          ∧ r.2.mem ((c.tc : Thread Cert.AdamFfnOutRefIdeal.nD Cert.AdamFfnOutRefIdeal.τ).loc Cert.AdamFfnOutRefIdeal.main_arg3) = m' ((c.tc : Thread Cert.AdamFfnOutRefIdeal.nD Cert.AdamFfnOutRefIdeal.τ).loc Cert.AdamFfnOutRefIdeal.main_arg3)
          ∧ r.2.mem ((c.tc : Thread Cert.AdamFfnOutRefIdeal.nD Cert.AdamFfnOutRefIdeal.τ).loc Cert.AdamFfnOutRefIdeal.main_arg4) = m' ((c.tc : Thread Cert.AdamFfnOutRefIdeal.nD Cert.AdamFfnOutRefIdeal.τ).loc Cert.AdamFfnOutRefIdeal.main_arg4))

def Claim : Prop :=
  ∃ (hAttnBwd : Cert.AttnBwd.Facts) (hAttnBwdIdeal : Cert.AttnBwdIdeal.Facts) (hAttnRefIdeal : Cert.AttnRefIdeal.Facts) (hFfnInDx : Cert.FfnInDx.Facts) (hFfnInDxIdeal : Cert.FfnInDxIdeal.Facts) (hFfnInDxRefIdeal : Cert.FfnInDxRefIdeal.Facts) (hFfnInDw : Cert.FfnInDw.Facts) (hFfnInDwIdeal : Cert.FfnInDwIdeal.Facts) (hFfnInDwRefIdeal : Cert.FfnInDwRefIdeal.Facts) (hFfnOutDx : Cert.FfnOutDx.Facts) (hFfnOutDxIdeal : Cert.FfnOutDxIdeal.Facts) (hFfnOutDxRefIdeal : Cert.FfnOutDxRefIdeal.Facts) (hFfnOutDw : Cert.FfnOutDw.Facts) (hFfnOutDwIdeal : Cert.FfnOutDwIdeal.Facts) (hFfnOutDwRefIdeal : Cert.FfnOutDwRefIdeal.Facts) (hMixInDx : Cert.MixInDx.Facts) (hMixInDxIdeal : Cert.MixInDxIdeal.Facts) (hMixInDxRefIdeal : Cert.MixInDxRefIdeal.Facts) (hMixInDw : Cert.MixInDw.Facts) (hMixInDwIdeal : Cert.MixInDwIdeal.Facts) (hMixInDwRefIdeal : Cert.MixInDwRefIdeal.Facts) (hMixOutDx : Cert.MixOutDx.Facts) (hMixOutDxIdeal : Cert.MixOutDxIdeal.Facts) (hMixOutDxRefIdeal : Cert.MixOutDxRefIdeal.Facts) (hMixOutDw : Cert.MixOutDw.Facts) (hMixOutDwIdeal : Cert.MixOutDwIdeal.Facts) (hMixOutDwRefIdeal : Cert.MixOutDwRefIdeal.Facts) (hFfnIn : Cert.FfnIn.Facts) (hFfnInIdeal : Cert.FfnInIdeal.Facts) (hFfnInRefIdeal : Cert.FfnInRefIdeal.Facts) (hFfnOut : Cert.FfnOut.Facts) (hFfnOutIdeal : Cert.FfnOutIdeal.Facts) (hFfnOutRefIdeal : Cert.FfnOutRefIdeal.Facts) (hMixIn : Cert.MixIn.Facts) (hMixInIdeal : Cert.MixInIdeal.Facts) (hMixInRefIdeal : Cert.MixInRefIdeal.Facts) (hMixOut : Cert.MixOut.Facts) (hMixOutIdeal : Cert.MixOutIdeal.Facts) (hMixOutRefIdeal : Cert.MixOutRefIdeal.Facts) (hCtxFfnInDx : Cert.CtxFfnInDx.Facts) (hCtxFfnInDxIdeal : Cert.CtxFfnInDxIdeal.Facts) (hCtxFfnInDxRefIdeal : Cert.CtxFfnInDxRefIdeal.Facts) (hCtxFfnInDw : Cert.CtxFfnInDw.Facts) (hCtxFfnInDwIdeal : Cert.CtxFfnInDwIdeal.Facts) (hCtxFfnInDwRefIdeal : Cert.CtxFfnInDwRefIdeal.Facts) (hCtxFfnOutDx : Cert.CtxFfnOutDx.Facts) (hCtxFfnOutDxIdeal : Cert.CtxFfnOutDxIdeal.Facts) (hCtxFfnOutDxRefIdeal : Cert.CtxFfnOutDxRefIdeal.Facts) (hCtxFfnOutDw : Cert.CtxFfnOutDw.Facts) (hCtxFfnOutDwIdeal : Cert.CtxFfnOutDwIdeal.Facts) (hCtxFfnOutDwRefIdeal : Cert.CtxFfnOutDwRefIdeal.Facts) (hCtxMixInDx : Cert.CtxMixInDx.Facts) (hCtxMixInDxIdeal : Cert.CtxMixInDxIdeal.Facts) (hCtxMixInDxRefIdeal : Cert.CtxMixInDxRefIdeal.Facts) (hCtxMixInDw : Cert.CtxMixInDw.Facts) (hCtxMixInDwIdeal : Cert.CtxMixInDwIdeal.Facts) (hCtxMixInDwRefIdeal : Cert.CtxMixInDwRefIdeal.Facts) (hCtxMixOutDx : Cert.CtxMixOutDx.Facts) (hCtxMixOutDxIdeal : Cert.CtxMixOutDxIdeal.Facts) (hCtxMixOutDxRefIdeal : Cert.CtxMixOutDxRefIdeal.Facts) (hCtxMixOutDw : Cert.CtxMixOutDw.Facts) (hCtxMixOutDwIdeal : Cert.CtxMixOutDwIdeal.Facts) (hCtxMixOutDwRefIdeal : Cert.CtxMixOutDwRefIdeal.Facts) (hCtxKvDx : Cert.CtxKvDx.Facts) (hCtxKvDxIdeal : Cert.CtxKvDxIdeal.Facts) (hCtxKvDxRefIdeal : Cert.CtxKvDxRefIdeal.Facts) (hCtxKvDw : Cert.CtxKvDw.Facts) (hCtxKvDwIdeal : Cert.CtxKvDwIdeal.Facts) (hCtxKvDwRefIdeal : Cert.CtxKvDwRefIdeal.Facts) (hCtxFfnIn : Cert.CtxFfnIn.Facts) (hCtxFfnInIdeal : Cert.CtxFfnInIdeal.Facts) (hCtxFfnInRefIdeal : Cert.CtxFfnInRefIdeal.Facts) (hCtxFfnOut : Cert.CtxFfnOut.Facts) (hCtxFfnOutIdeal : Cert.CtxFfnOutIdeal.Facts) (hCtxFfnOutRefIdeal : Cert.CtxFfnOutRefIdeal.Facts) (hCtxMixIn : Cert.CtxMixIn.Facts) (hCtxMixInIdeal : Cert.CtxMixInIdeal.Facts) (hCtxMixInRefIdeal : Cert.CtxMixInRefIdeal.Facts) (hCtxMixOut : Cert.CtxMixOut.Facts) (hCtxMixOutIdeal : Cert.CtxMixOutIdeal.Facts) (hCtxMixOutRefIdeal : Cert.CtxMixOutRefIdeal.Facts) (hCtxKv : Cert.CtxKv.Facts) (hCtxKvIdeal : Cert.CtxKvIdeal.Facts) (hCtxKvRefIdeal : Cert.CtxKvRefIdeal.Facts) (hInterleave : Cert.Interleave.Facts) (hInterleaveIdeal : Cert.InterleaveIdeal.Facts) (hInterleaveRefIdeal : Cert.InterleaveRefIdeal.Facts) (hNormBwd : Cert.NormBwd.Facts) (hNormBwdIdeal : Cert.NormBwdIdeal.Facts) (hNormBwdRefIdeal : Cert.NormBwdRefIdeal.Facts) (hCtxNormBwd : Cert.CtxNormBwd.Facts) (hCtxNormBwdIdeal : Cert.CtxNormBwdIdeal.Facts) (hCtxNormBwdRefIdeal : Cert.CtxNormBwdRefIdeal.Facts) (hNormFirstBwd : Cert.NormFirstBwd.Facts) (hNormFirstBwdIdeal : Cert.NormFirstBwdIdeal.Facts) (hNormFirstBwdRefIdeal : Cert.NormFirstBwdRefIdeal.Facts) (hCtxNormFirstBwd : Cert.CtxNormFirstBwd.Facts) (hCtxNormFirstBwdIdeal : Cert.CtxNormFirstBwdIdeal.Facts) (hCtxNormFirstBwdRefIdeal : Cert.CtxNormFirstBwdRefIdeal.Facts) (hModBwd : Cert.ModBwd.Facts) (hModBwdIdeal : Cert.ModBwdIdeal.Facts) (hModBwdRefIdeal : Cert.ModBwdRefIdeal.Facts) (hNorm : Cert.Norm.Facts) (hNormIdeal : Cert.NormIdeal.Facts) (hNormRefIdeal : Cert.NormRefIdeal.Facts) (hCtxNorm : Cert.CtxNorm.Facts) (hCtxNormIdeal : Cert.CtxNormIdeal.Facts) (hCtxNormRefIdeal : Cert.CtxNormRefIdeal.Facts) (hMod : Cert.Mod.Facts) (hModIdeal : Cert.ModIdeal.Facts) (hModRefIdeal : Cert.ModRefIdeal.Facts) (hAdamMod : Cert.AdamMod.Facts) (hAdamModIdeal : Cert.AdamModIdeal.Facts) (hAdamModRefIdeal : Cert.AdamModRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamFfnOut : Cert.AdamFfnOut.Facts) (hAdamFfnOutIdeal : Cert.AdamFfnOutIdeal.Facts) (hAdamFfnOutRefIdeal : Cert.AdamFfnOutRefIdeal.Facts) (hPre_finite_scores : Cert.Pre_finite_scores.Facts) (hPre_finite_dact : Cert.Pre_finite_dact.Facts) (hPre_finite_dact_ctx : Cert.Pre_finite_dact_ctx.Facts),
    quiescent_AttnBwd (hAttnBwd := hAttnBwd)
    ∧ quiescent_AttnBwdIdeal (hAttnBwdIdeal := hAttnBwdIdeal)
    ∧ quiescent_AttnBwdIdeal_pre_finite_scores (hAttnBwdIdeal := hAttnBwdIdeal) (hPre_finite_scores := hPre_finite_scores)
    ∧ quiescent_AttnRefIdeal (hAttnRefIdeal := hAttnRefIdeal)
    ∧ quiescent_AttnRefIdeal_pre_finite_scores (hAttnRefIdeal := hAttnRefIdeal) (hPre_finite_scores := hPre_finite_scores)
    ∧ quiescent_FfnInDx (hFfnInDx := hFfnInDx)
    ∧ quiescent_FfnInDxIdeal (hFfnInDxIdeal := hFfnInDxIdeal)
    ∧ quiescent_FfnInDxRefIdeal (hFfnInDxRefIdeal := hFfnInDxRefIdeal)
    ∧ quiescent_FfnInDw (hFfnInDw := hFfnInDw)
    ∧ quiescent_FfnInDwIdeal (hFfnInDwIdeal := hFfnInDwIdeal)
    ∧ quiescent_FfnInDwRefIdeal (hFfnInDwRefIdeal := hFfnInDwRefIdeal)
    ∧ quiescent_FfnOutDx (hFfnOutDx := hFfnOutDx)
    ∧ quiescent_FfnOutDxIdeal (hFfnOutDxIdeal := hFfnOutDxIdeal)
    ∧ quiescent_FfnOutDxIdeal_pre_finite_dact (hFfnOutDxIdeal := hFfnOutDxIdeal) (hPre_finite_dact := hPre_finite_dact)
    ∧ quiescent_FfnOutDxRefIdeal (hFfnOutDxRefIdeal := hFfnOutDxRefIdeal)
    ∧ quiescent_FfnOutDxRefIdeal_pre_finite_dact (hFfnOutDxRefIdeal := hFfnOutDxRefIdeal) (hPre_finite_dact := hPre_finite_dact)
    ∧ quiescent_FfnOutDw (hFfnOutDw := hFfnOutDw)
    ∧ quiescent_FfnOutDwIdeal (hFfnOutDwIdeal := hFfnOutDwIdeal)
    ∧ quiescent_FfnOutDwRefIdeal (hFfnOutDwRefIdeal := hFfnOutDwRefIdeal)
    ∧ quiescent_MixInDx (hMixInDx := hMixInDx)
    ∧ quiescent_MixInDxIdeal (hMixInDxIdeal := hMixInDxIdeal)
    ∧ quiescent_MixInDxRefIdeal (hMixInDxRefIdeal := hMixInDxRefIdeal)
    ∧ quiescent_MixInDw (hMixInDw := hMixInDw)
    ∧ quiescent_MixInDwIdeal (hMixInDwIdeal := hMixInDwIdeal)
    ∧ quiescent_MixInDwRefIdeal (hMixInDwRefIdeal := hMixInDwRefIdeal)
    ∧ quiescent_MixOutDx (hMixOutDx := hMixOutDx)
    ∧ quiescent_MixOutDxIdeal (hMixOutDxIdeal := hMixOutDxIdeal)
    ∧ quiescent_MixOutDxRefIdeal (hMixOutDxRefIdeal := hMixOutDxRefIdeal)
    ∧ quiescent_MixOutDw (hMixOutDw := hMixOutDw)
    ∧ quiescent_MixOutDwIdeal (hMixOutDwIdeal := hMixOutDwIdeal)
    ∧ quiescent_MixOutDwRefIdeal (hMixOutDwRefIdeal := hMixOutDwRefIdeal)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_MixIn (hMixIn := hMixIn)
    ∧ quiescent_MixInIdeal (hMixInIdeal := hMixInIdeal)
    ∧ quiescent_MixInRefIdeal (hMixInRefIdeal := hMixInRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_CtxFfnInDx (hCtxFfnInDx := hCtxFfnInDx)
    ∧ quiescent_CtxFfnInDxIdeal (hCtxFfnInDxIdeal := hCtxFfnInDxIdeal)
    ∧ quiescent_CtxFfnInDxRefIdeal (hCtxFfnInDxRefIdeal := hCtxFfnInDxRefIdeal)
    ∧ quiescent_CtxFfnInDw (hCtxFfnInDw := hCtxFfnInDw)
    ∧ quiescent_CtxFfnInDwIdeal (hCtxFfnInDwIdeal := hCtxFfnInDwIdeal)
    ∧ quiescent_CtxFfnInDwRefIdeal (hCtxFfnInDwRefIdeal := hCtxFfnInDwRefIdeal)
    ∧ quiescent_CtxFfnOutDx (hCtxFfnOutDx := hCtxFfnOutDx)
    ∧ quiescent_CtxFfnOutDxIdeal (hCtxFfnOutDxIdeal := hCtxFfnOutDxIdeal)
    ∧ quiescent_CtxFfnOutDxIdeal_pre_finite_dact_ctx (hCtxFfnOutDxIdeal := hCtxFfnOutDxIdeal) (hPre_finite_dact_ctx := hPre_finite_dact_ctx)
    ∧ quiescent_CtxFfnOutDxRefIdeal (hCtxFfnOutDxRefIdeal := hCtxFfnOutDxRefIdeal)
    ∧ quiescent_CtxFfnOutDxRefIdeal_pre_finite_dact_ctx (hCtxFfnOutDxRefIdeal := hCtxFfnOutDxRefIdeal) (hPre_finite_dact_ctx := hPre_finite_dact_ctx)
    ∧ quiescent_CtxFfnOutDw (hCtxFfnOutDw := hCtxFfnOutDw)
    ∧ quiescent_CtxFfnOutDwIdeal (hCtxFfnOutDwIdeal := hCtxFfnOutDwIdeal)
    ∧ quiescent_CtxFfnOutDwRefIdeal (hCtxFfnOutDwRefIdeal := hCtxFfnOutDwRefIdeal)
    ∧ quiescent_CtxMixInDx (hCtxMixInDx := hCtxMixInDx)
    ∧ quiescent_CtxMixInDxIdeal (hCtxMixInDxIdeal := hCtxMixInDxIdeal)
    ∧ quiescent_CtxMixInDxRefIdeal (hCtxMixInDxRefIdeal := hCtxMixInDxRefIdeal)
    ∧ quiescent_CtxMixInDw (hCtxMixInDw := hCtxMixInDw)
    ∧ quiescent_CtxMixInDwIdeal (hCtxMixInDwIdeal := hCtxMixInDwIdeal)
    ∧ quiescent_CtxMixInDwRefIdeal (hCtxMixInDwRefIdeal := hCtxMixInDwRefIdeal)
    ∧ quiescent_CtxMixOutDx (hCtxMixOutDx := hCtxMixOutDx)
    ∧ quiescent_CtxMixOutDxIdeal (hCtxMixOutDxIdeal := hCtxMixOutDxIdeal)
    ∧ quiescent_CtxMixOutDxRefIdeal (hCtxMixOutDxRefIdeal := hCtxMixOutDxRefIdeal)
    ∧ quiescent_CtxMixOutDw (hCtxMixOutDw := hCtxMixOutDw)
    ∧ quiescent_CtxMixOutDwIdeal (hCtxMixOutDwIdeal := hCtxMixOutDwIdeal)
    ∧ quiescent_CtxMixOutDwRefIdeal (hCtxMixOutDwRefIdeal := hCtxMixOutDwRefIdeal)
    ∧ quiescent_CtxKvDx (hCtxKvDx := hCtxKvDx)
    ∧ quiescent_CtxKvDxIdeal (hCtxKvDxIdeal := hCtxKvDxIdeal)
    ∧ quiescent_CtxKvDxRefIdeal (hCtxKvDxRefIdeal := hCtxKvDxRefIdeal)
    ∧ quiescent_CtxKvDw (hCtxKvDw := hCtxKvDw)
    ∧ quiescent_CtxKvDwIdeal (hCtxKvDwIdeal := hCtxKvDwIdeal)
    ∧ quiescent_CtxKvDwRefIdeal (hCtxKvDwRefIdeal := hCtxKvDwRefIdeal)
    ∧ quiescent_CtxFfnIn (hCtxFfnIn := hCtxFfnIn)
    ∧ quiescent_CtxFfnInIdeal (hCtxFfnInIdeal := hCtxFfnInIdeal)
    ∧ quiescent_CtxFfnInRefIdeal (hCtxFfnInRefIdeal := hCtxFfnInRefIdeal)
    ∧ quiescent_CtxFfnOut (hCtxFfnOut := hCtxFfnOut)
    ∧ quiescent_CtxFfnOutIdeal (hCtxFfnOutIdeal := hCtxFfnOutIdeal)
    ∧ quiescent_CtxFfnOutRefIdeal (hCtxFfnOutRefIdeal := hCtxFfnOutRefIdeal)
    ∧ quiescent_CtxMixIn (hCtxMixIn := hCtxMixIn)
    ∧ quiescent_CtxMixInIdeal (hCtxMixInIdeal := hCtxMixInIdeal)
    ∧ quiescent_CtxMixInRefIdeal (hCtxMixInRefIdeal := hCtxMixInRefIdeal)
    ∧ quiescent_CtxMixOut (hCtxMixOut := hCtxMixOut)
    ∧ quiescent_CtxMixOutIdeal (hCtxMixOutIdeal := hCtxMixOutIdeal)
    ∧ quiescent_CtxMixOutRefIdeal (hCtxMixOutRefIdeal := hCtxMixOutRefIdeal)
    ∧ quiescent_CtxKv (hCtxKv := hCtxKv)
    ∧ quiescent_CtxKvIdeal (hCtxKvIdeal := hCtxKvIdeal)
    ∧ quiescent_CtxKvRefIdeal (hCtxKvRefIdeal := hCtxKvRefIdeal)
    ∧ quiescent_Interleave (hInterleave := hInterleave)
    ∧ quiescent_InterleaveIdeal (hInterleaveIdeal := hInterleaveIdeal)
    ∧ quiescent_InterleaveRefIdeal (hInterleaveRefIdeal := hInterleaveRefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_CtxNormBwd (hCtxNormBwd := hCtxNormBwd)
    ∧ quiescent_CtxNormBwdIdeal (hCtxNormBwdIdeal := hCtxNormBwdIdeal)
    ∧ quiescent_CtxNormBwdRefIdeal (hCtxNormBwdRefIdeal := hCtxNormBwdRefIdeal)
    ∧ quiescent_NormFirstBwd (hNormFirstBwd := hNormFirstBwd)
    ∧ quiescent_NormFirstBwdIdeal (hNormFirstBwdIdeal := hNormFirstBwdIdeal)
    ∧ quiescent_NormFirstBwdRefIdeal (hNormFirstBwdRefIdeal := hNormFirstBwdRefIdeal)
    ∧ quiescent_CtxNormFirstBwd (hCtxNormFirstBwd := hCtxNormFirstBwd)
    ∧ quiescent_CtxNormFirstBwdIdeal (hCtxNormFirstBwdIdeal := hCtxNormFirstBwdIdeal)
    ∧ quiescent_CtxNormFirstBwdRefIdeal (hCtxNormFirstBwdRefIdeal := hCtxNormFirstBwdRefIdeal)
    ∧ quiescent_ModBwd (hModBwd := hModBwd)
    ∧ quiescent_ModBwdIdeal (hModBwdIdeal := hModBwdIdeal)
    ∧ quiescent_ModBwdRefIdeal (hModBwdRefIdeal := hModBwdRefIdeal)
    ∧ quiescent_Norm (hNorm := hNorm)
    ∧ quiescent_NormIdeal (hNormIdeal := hNormIdeal)
    ∧ quiescent_NormRefIdeal (hNormRefIdeal := hNormRefIdeal)
    ∧ quiescent_CtxNorm (hCtxNorm := hCtxNorm)
    ∧ quiescent_CtxNormIdeal (hCtxNormIdeal := hCtxNormIdeal)
    ∧ quiescent_CtxNormRefIdeal (hCtxNormRefIdeal := hCtxNormRefIdeal)
    ∧ quiescent_Mod (hMod := hMod)
    ∧ quiescent_ModIdeal (hModIdeal := hModIdeal)
    ∧ quiescent_ModRefIdeal (hModRefIdeal := hModRefIdeal)
    ∧ quiescent_AdamMod (hAdamMod := hAdamMod)
    ∧ quiescent_AdamModIdeal (hAdamModIdeal := hAdamModIdeal)
    ∧ quiescent_AdamModRefIdeal (hAdamModRefIdeal := hAdamModRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamFfnOut (hAdamFfnOut := hAdamFfnOut)
    ∧ quiescent_AdamFfnOutIdeal (hAdamFfnOutIdeal := hAdamFfnOutIdeal)
    ∧ quiescent_AdamFfnOutRefIdeal (hAdamFfnOutRefIdeal := hAdamFfnOutRefIdeal)
    ∧ preserves_AttnBwd_AttnBwdIdeal
    ∧ algebraic_AttnBwdIdeal_AttnRefIdeal_pre_finite_scores (hAttnBwdIdeal := hAttnBwdIdeal) (hAttnRefIdeal := hAttnRefIdeal) (hPre_finite_scores := hPre_finite_scores)
    ∧ preserves_FfnInDx_FfnInDxIdeal
    ∧ algebraic_FfnInDxIdeal_FfnInDxRefIdeal (hFfnInDxIdeal := hFfnInDxIdeal) (hFfnInDxRefIdeal := hFfnInDxRefIdeal)
    ∧ preserves_FfnInDw_FfnInDwIdeal
    ∧ algebraic_FfnInDwIdeal_FfnInDwRefIdeal (hFfnInDwIdeal := hFfnInDwIdeal) (hFfnInDwRefIdeal := hFfnInDwRefIdeal)
    ∧ preserves_FfnOutDx_FfnOutDxIdeal
    ∧ algebraic_FfnOutDxIdeal_FfnOutDxRefIdeal_pre_finite_dact (hFfnOutDxIdeal := hFfnOutDxIdeal) (hFfnOutDxRefIdeal := hFfnOutDxRefIdeal) (hPre_finite_dact := hPre_finite_dact)
    ∧ preserves_FfnOutDw_FfnOutDwIdeal
    ∧ algebraic_FfnOutDwIdeal_FfnOutDwRefIdeal (hFfnOutDwIdeal := hFfnOutDwIdeal) (hFfnOutDwRefIdeal := hFfnOutDwRefIdeal)
    ∧ preserves_MixInDx_MixInDxIdeal
    ∧ algebraic_MixInDxIdeal_MixInDxRefIdeal (hMixInDxIdeal := hMixInDxIdeal) (hMixInDxRefIdeal := hMixInDxRefIdeal)
    ∧ preserves_MixInDw_MixInDwIdeal
    ∧ algebraic_MixInDwIdeal_MixInDwRefIdeal (hMixInDwIdeal := hMixInDwIdeal) (hMixInDwRefIdeal := hMixInDwRefIdeal)
    ∧ preserves_MixOutDx_MixOutDxIdeal
    ∧ algebraic_MixOutDxIdeal_MixOutDxRefIdeal (hMixOutDxIdeal := hMixOutDxIdeal) (hMixOutDxRefIdeal := hMixOutDxRefIdeal)
    ∧ preserves_MixOutDw_MixOutDwIdeal
    ∧ algebraic_MixOutDwIdeal_MixOutDwRefIdeal (hMixOutDwIdeal := hMixOutDwIdeal) (hMixOutDwRefIdeal := hMixOutDwRefIdeal)
    ∧ preserves_FfnIn_FfnInIdeal
    ∧ algebraic_FfnInIdeal_FfnInRefIdeal (hFfnInIdeal := hFfnInIdeal) (hFfnInRefIdeal := hFfnInRefIdeal)
    ∧ preserves_FfnOut_FfnOutIdeal
    ∧ algebraic_FfnOutIdeal_FfnOutRefIdeal (hFfnOutIdeal := hFfnOutIdeal) (hFfnOutRefIdeal := hFfnOutRefIdeal)
    ∧ preserves_MixIn_MixInIdeal
    ∧ algebraic_MixInIdeal_MixInRefIdeal (hMixInIdeal := hMixInIdeal) (hMixInRefIdeal := hMixInRefIdeal)
    ∧ preserves_MixOut_MixOutIdeal
    ∧ algebraic_MixOutIdeal_MixOutRefIdeal (hMixOutIdeal := hMixOutIdeal) (hMixOutRefIdeal := hMixOutRefIdeal)
    ∧ preserves_CtxFfnInDx_CtxFfnInDxIdeal
    ∧ algebraic_CtxFfnInDxIdeal_CtxFfnInDxRefIdeal (hCtxFfnInDxIdeal := hCtxFfnInDxIdeal) (hCtxFfnInDxRefIdeal := hCtxFfnInDxRefIdeal)
    ∧ preserves_CtxFfnInDw_CtxFfnInDwIdeal
    ∧ algebraic_CtxFfnInDwIdeal_CtxFfnInDwRefIdeal (hCtxFfnInDwIdeal := hCtxFfnInDwIdeal) (hCtxFfnInDwRefIdeal := hCtxFfnInDwRefIdeal)
    ∧ preserves_CtxFfnOutDx_CtxFfnOutDxIdeal
    ∧ algebraic_CtxFfnOutDxIdeal_CtxFfnOutDxRefIdeal_pre_finite_dact_ctx (hCtxFfnOutDxIdeal := hCtxFfnOutDxIdeal) (hCtxFfnOutDxRefIdeal := hCtxFfnOutDxRefIdeal) (hPre_finite_dact_ctx := hPre_finite_dact_ctx)
    ∧ preserves_CtxFfnOutDw_CtxFfnOutDwIdeal
    ∧ algebraic_CtxFfnOutDwIdeal_CtxFfnOutDwRefIdeal (hCtxFfnOutDwIdeal := hCtxFfnOutDwIdeal) (hCtxFfnOutDwRefIdeal := hCtxFfnOutDwRefIdeal)
    ∧ preserves_CtxMixInDx_CtxMixInDxIdeal
    ∧ algebraic_CtxMixInDxIdeal_CtxMixInDxRefIdeal (hCtxMixInDxIdeal := hCtxMixInDxIdeal) (hCtxMixInDxRefIdeal := hCtxMixInDxRefIdeal)
    ∧ preserves_CtxMixInDw_CtxMixInDwIdeal
    ∧ algebraic_CtxMixInDwIdeal_CtxMixInDwRefIdeal (hCtxMixInDwIdeal := hCtxMixInDwIdeal) (hCtxMixInDwRefIdeal := hCtxMixInDwRefIdeal)
    ∧ preserves_CtxMixOutDx_CtxMixOutDxIdeal
    ∧ algebraic_CtxMixOutDxIdeal_CtxMixOutDxRefIdeal (hCtxMixOutDxIdeal := hCtxMixOutDxIdeal) (hCtxMixOutDxRefIdeal := hCtxMixOutDxRefIdeal)
    ∧ preserves_CtxMixOutDw_CtxMixOutDwIdeal
    ∧ algebraic_CtxMixOutDwIdeal_CtxMixOutDwRefIdeal (hCtxMixOutDwIdeal := hCtxMixOutDwIdeal) (hCtxMixOutDwRefIdeal := hCtxMixOutDwRefIdeal)
    ∧ preserves_CtxKvDx_CtxKvDxIdeal
    ∧ algebraic_CtxKvDxIdeal_CtxKvDxRefIdeal (hCtxKvDxIdeal := hCtxKvDxIdeal) (hCtxKvDxRefIdeal := hCtxKvDxRefIdeal)
    ∧ preserves_CtxKvDw_CtxKvDwIdeal
    ∧ algebraic_CtxKvDwIdeal_CtxKvDwRefIdeal (hCtxKvDwIdeal := hCtxKvDwIdeal) (hCtxKvDwRefIdeal := hCtxKvDwRefIdeal)
    ∧ preserves_CtxFfnIn_CtxFfnInIdeal
    ∧ algebraic_CtxFfnInIdeal_CtxFfnInRefIdeal (hCtxFfnInIdeal := hCtxFfnInIdeal) (hCtxFfnInRefIdeal := hCtxFfnInRefIdeal)
    ∧ preserves_CtxFfnOut_CtxFfnOutIdeal
    ∧ algebraic_CtxFfnOutIdeal_CtxFfnOutRefIdeal (hCtxFfnOutIdeal := hCtxFfnOutIdeal) (hCtxFfnOutRefIdeal := hCtxFfnOutRefIdeal)
    ∧ preserves_CtxMixIn_CtxMixInIdeal
    ∧ algebraic_CtxMixInIdeal_CtxMixInRefIdeal (hCtxMixInIdeal := hCtxMixInIdeal) (hCtxMixInRefIdeal := hCtxMixInRefIdeal)
    ∧ preserves_CtxMixOut_CtxMixOutIdeal
    ∧ algebraic_CtxMixOutIdeal_CtxMixOutRefIdeal (hCtxMixOutIdeal := hCtxMixOutIdeal) (hCtxMixOutRefIdeal := hCtxMixOutRefIdeal)
    ∧ preserves_CtxKv_CtxKvIdeal
    ∧ algebraic_CtxKvIdeal_CtxKvRefIdeal (hCtxKvIdeal := hCtxKvIdeal) (hCtxKvRefIdeal := hCtxKvRefIdeal)
    ∧ preserves_Interleave_InterleaveIdeal
    ∧ algebraic_InterleaveIdeal_InterleaveRefIdeal (hInterleaveIdeal := hInterleaveIdeal) (hInterleaveRefIdeal := hInterleaveRefIdeal)
    ∧ preserves_NormBwd_NormBwdIdeal
    ∧ algebraic_NormBwdIdeal_NormBwdRefIdeal (hNormBwdIdeal := hNormBwdIdeal) (hNormBwdRefIdeal := hNormBwdRefIdeal)
    ∧ preserves_CtxNormBwd_CtxNormBwdIdeal
    ∧ algebraic_CtxNormBwdIdeal_CtxNormBwdRefIdeal (hCtxNormBwdIdeal := hCtxNormBwdIdeal) (hCtxNormBwdRefIdeal := hCtxNormBwdRefIdeal)
    ∧ preserves_NormFirstBwd_NormFirstBwdIdeal
    ∧ algebraic_NormFirstBwdIdeal_NormFirstBwdRefIdeal (hNormFirstBwdIdeal := hNormFirstBwdIdeal) (hNormFirstBwdRefIdeal := hNormFirstBwdRefIdeal)
    ∧ preserves_CtxNormFirstBwd_CtxNormFirstBwdIdeal
    ∧ algebraic_CtxNormFirstBwdIdeal_CtxNormFirstBwdRefIdeal (hCtxNormFirstBwdIdeal := hCtxNormFirstBwdIdeal) (hCtxNormFirstBwdRefIdeal := hCtxNormFirstBwdRefIdeal)
    ∧ preserves_ModBwd_ModBwdIdeal
    ∧ algebraic_ModBwdIdeal_ModBwdRefIdeal (hModBwdIdeal := hModBwdIdeal) (hModBwdRefIdeal := hModBwdRefIdeal)
    ∧ preserves_Norm_NormIdeal
    ∧ algebraic_NormIdeal_NormRefIdeal (hNormIdeal := hNormIdeal) (hNormRefIdeal := hNormRefIdeal)
    ∧ preserves_CtxNorm_CtxNormIdeal
    ∧ algebraic_CtxNormIdeal_CtxNormRefIdeal (hCtxNormIdeal := hCtxNormIdeal) (hCtxNormRefIdeal := hCtxNormRefIdeal)
    ∧ preserves_Mod_ModIdeal
    ∧ algebraic_ModIdeal_ModRefIdeal (hModIdeal := hModIdeal) (hModRefIdeal := hModRefIdeal)
    ∧ preserves_AdamMod_AdamModIdeal
    ∧ algebraic_AdamModIdeal_AdamModRefIdeal (hAdamModIdeal := hAdamModIdeal) (hAdamModRefIdeal := hAdamModRefIdeal)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamFfnOut_AdamFfnOutIdeal
    ∧ algebraic_AdamFfnOutIdeal_AdamFfnOutRefIdeal (hAdamFfnOutIdeal := hAdamFfnOutIdeal) (hAdamFfnOutRefIdeal := hAdamFfnOutRefIdeal)
-- ==== Pre_finite_dact.lean ====
abbrev S8192x1024 : Shape := ⟨2, ![8192, 1024]⟩
abbrev S2816x1024 : Shape := ⟨2, ![2816, 1024]⟩
abbrev S8192x5632 : Shape := ⟨2, ![8192, 5632]⟩
abbrev S8192x11x2x256 : Shape := ⟨4, ![8192, 11, 2, 256]⟩
abbrev S8192x2x11x256 : Shape := ⟨4, ![8192, 2, 11, 256]⟩
abbrev S8192x2816 : Shape := ⟨2, ![8192, 2816]⟩
abbrev S_ : Shape := ⟨0, ![]⟩

class Facts : Prop where
  shapeCasts_S8192x5632_S8192x11x2x256 : S8192x5632.ShapeCasts S8192x11x2x256
  transposes_S8192x11x2x256_S8192x2x11x256_0_2_1_3 : S8192x11x2x256.Transposes [0, 2, 1, 3] S8192x2x11x256
  shapeCasts_S8192x2x11x256_S8192x5632 : S8192x2x11x256.ShapeCasts S8192x5632
  slices_S8192x5632_S8192x2816_0_0 : S8192x5632.Slices ![0, 0] S8192x2816
  slices_S8192x5632_S8192x2816_0_2816 : S8192x5632.Slices ![0, 2816] S8192x2816
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S8192x2816 : S_.BroadcastsInDim S8192x2816 (![] : Fin 0 → Fin S8192x2816.rank)
  reducesTo_S8192x2816_S_d0_1 : S8192x2816.ReducesTo [0, 1] S_

variable [Facts]

def fn_part1 {F : FTy → Type} [FloatOps F] (main_v13 : IVec S_ 1) (main_v17 : IVec S_ 1) : IVec S_ 1 :=
  let main_v18 : IVec S_ 1 := andi main_v13 main_v17
  main_v18

def fn {F : FTy → Type} [FloatOps F] (main_arg0 : FVec F S8192x1024 .bf16) (main_arg1 : FVec F S2816x1024 .bf16) (main_arg2 : FVec F S8192x5632 .bf16) : IVec S_ 1 :=
  let main_v0 : FVec F S8192x11x2x256 .bf16 := shapeCast S8192x11x2x256 main_arg2 shapeCasts_S8192x5632_S8192x11x2x256
  let main_v1 : FVec F S8192x2x11x256 .bf16 := (transpose S8192x2x11x256 [0, 2, 1, 3] · transposes_S8192x11x2x256_S8192x2x11x256_0_2_1_3) main_v0
  let main_v2 : FVec F S8192x5632 .bf16 := shapeCast S8192x5632 main_v1 shapeCasts_S8192x2x11x256_S8192x5632
  let main_v3 : FVec F S8192x2816 .bf16 := (extractStridedSlice S8192x2816 ![0, 0] · slices_S8192x5632_S8192x2816_0_0) main_v2
  let main_v4 : FVec F S8192x2816 .bf16 := (extractStridedSlice S8192x2816 ![0, 2816] · slices_S8192x5632_S8192x2816_0_2816) main_v2
  let main_v5 : FVec F S8192x1024 .bf16 := Host.absf main_arg0
  let main_cst : FVec F S_ .bf16 := constant S_ .bf16 0x7F80#16
  let main_v6 : FVec F S8192x1024 .bf16 := broadcastInDim S8192x1024 ![] bcast_S_S8192x1024 main_cst
  let main_v7 : IVec S8192x1024 1 := cmpf .olt main_v5 main_v6
  let main_c : IVec S_ 1 := constantI S_ 1 1#1
  let main_v8 : IVec S_ 1 := (fun x v => Host.reduce IntOp.andi x v reducesTo_S8192x1024_S_d0_1 h_S_) main_v7 main_c
  let main_v9 : FVec F S2816x1024 .bf16 := Host.absf main_arg1
  let main_cst_0 : FVec F S_ .bf16 := constant S_ .bf16 0x7F80#16
  let main_v10 : FVec F S2816x1024 .bf16 := broadcastInDim S2816x1024 ![] bcast_S_S2816x1024 main_cst_0
  let main_v11 : IVec S2816x1024 1 := cmpf .olt main_v9 main_v10
  let main_c_1 : IVec S_ 1 := constantI S_ 1 1#1
  let main_v12 : IVec S_ 1 := (fun x v => Host.reduce IntOp.andi x v reducesTo_S2816x1024_S_d0_1 h_S_) main_v11 main_c_1
  let main_v13 : IVec S_ 1 := andi main_v8 main_v12
  let main_v14 : FVec F S8192x2816 .bf16 := Host.absf main_v4
  let main_cst_2 : FVec F S_ .bf16 := constant S_ .bf16 0x7F80#16
  let main_v15 : FVec F S8192x2816 .bf16 := broadcastInDim S8192x2816 ![] bcast_S_S8192x2816 main_cst_2
  let main_v16 : IVec S8192x2816 1 := cmpf .olt main_v14 main_v15
  let main_c_3 : IVec S_ 1 := constantI S_ 1 1#1
  let main_v17 : IVec S_ 1 := (fun x v => Host.reduce IntOp.andi x v reducesTo_S8192x2816_S_d0_1 h_S_) main_v16 main_c_3
  fn_part1 (F := F) main_v13 main_v17
-- ==== Pre_finite_dact_ctx.lean ====
abbrev S1024x1024 : Shape := ⟨2, ![1024, 1024]⟩
abbrev S2816x1024 : Shape := ⟨2, ![2816, 1024]⟩
abbrev S1024x5632 : Shape := ⟨2, ![1024, 5632]⟩
abbrev S1024x11x2x256 : Shape := ⟨4, ![1024, 11, 2, 256]⟩
abbrev S1024x2x11x256 : Shape := ⟨4, ![1024, 2, 11, 256]⟩
abbrev S1024x2816 : Shape := ⟨2, ![1024, 2816]⟩
abbrev S_ : Shape := ⟨0, ![]⟩

class Facts : Prop where
  shapeCasts_S1024x5632_S1024x11x2x256 : S1024x5632.ShapeCasts S1024x11x2x256
  transposes_S1024x11x2x256_S1024x2x11x256_0_2_1_3 : S1024x11x2x256.Transposes [0, 2, 1, 3] S1024x2x11x256
  shapeCasts_S1024x2x11x256_S1024x5632 : S1024x2x11x256.ShapeCasts S1024x5632
  slices_S1024x5632_S1024x2816_0_0 : S1024x5632.Slices ![0, 0] S1024x2816
  slices_S1024x5632_S1024x2816_0_2816 : S1024x5632.Slices ![0, 2816] S1024x2816
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S1024x2816 : S_.BroadcastsInDim S1024x2816 (![] : Fin 0 → Fin S1024x2816.rank)
  reducesTo_S1024x2816_S_d0_1 : S1024x2816.ReducesTo [0, 1] S_

variable [Facts]

def fn_part1 {F : FTy → Type} [FloatOps F] (main_v13 : IVec S_ 1) (main_v17 : IVec S_ 1) : IVec S_ 1 :=
  let main_v18 : IVec S_ 1 := andi main_v13 main_v17
  main_v18

def fn {F : FTy → Type} [FloatOps F] (main_arg0 : FVec F S1024x1024 .bf16) (main_arg1 : FVec F S2816x1024 .bf16) (main_arg2 : FVec F S1024x5632 .bf16) : IVec S_ 1 :=
  let main_v0 : FVec F S1024x11x2x256 .bf16 := shapeCast S1024x11x2x256 main_arg2 shapeCasts_S1024x5632_S1024x11x2x256
  let main_v1 : FVec F S1024x2x11x256 .bf16 := (transpose S1024x2x11x256 [0, 2, 1, 3] · transposes_S1024x11x2x256_S1024x2x11x256_0_2_1_3) main_v0
  let main_v2 : FVec F S1024x5632 .bf16 := shapeCast S1024x5632 main_v1 shapeCasts_S1024x2x11x256_S1024x5632
  let main_v3 : FVec F S1024x2816 .bf16 := (extractStridedSlice S1024x2816 ![0, 0] · slices_S1024x5632_S1024x2816_0_0) main_v2
  let main_v4 : FVec F S1024x2816 .bf16 := (extractStridedSlice S1024x2816 ![0, 2816] · slices_S1024x5632_S1024x2816_0_2816) main_v2
  let main_v5 : FVec F S1024x1024 .bf16 := Host.absf main_arg0
  let main_cst : FVec F S_ .bf16 := constant S_ .bf16 0x7F80#16
  let main_v6 : FVec F S1024x1024 .bf16 := broadcastInDim S1024x1024 ![] bcast_S_S1024x1024 main_cst
  let main_v7 : IVec S1024x1024 1 := cmpf .olt main_v5 main_v6
  let main_c : IVec S_ 1 := constantI S_ 1 1#1
  let main_v8 : IVec S_ 1 := (fun x v => Host.reduce IntOp.andi x v reducesTo_S1024x1024_S_d0_1 h_S_) main_v7 main_c
  let main_v9 : FVec F S2816x1024 .bf16 := Host.absf main_arg1
  let main_cst_0 : FVec F S_ .bf16 := constant S_ .bf16 0x7F80#16
  let main_v10 : FVec F S2816x1024 .bf16 := broadcastInDim S2816x1024 ![] bcast_S_S2816x1024 main_cst_0
  let main_v11 : IVec S2816x1024 1 := cmpf .olt main_v9 main_v10
  let main_c_1 : IVec S_ 1 := constantI S_ 1 1#1
  let main_v12 : IVec S_ 1 := (fun x v => Host.reduce IntOp.andi x v reducesTo_S2816x1024_S_d0_1 h_S_) main_v11 main_c_1
  let main_v13 : IVec S_ 1 := andi main_v8 main_v12
  let main_v14 : FVec F S1024x2816 .bf16 := Host.absf main_v4
  let main_cst_2 : FVec F S_ .bf16 := constant S_ .bf16 0x7F80#16
  let main_v15 : FVec F S1024x2816 .bf16 := broadcastInDim S1024x2816 ![] bcast_S_S1024x2816 main_cst_2
  let main_v16 : IVec S1024x2816 1 := cmpf .olt main_v14 main_v15
  let main_c_3 : IVec S_ 1 := constantI S_ 1 1#1
  let main_v17 : IVec S_ 1 := (fun x v => Host.reduce IntOp.andi x v reducesTo_S1024x2816_S_d0_1 h_S_) main_v16 main_c_3
  fn_part1 (F := F) main_v13 main_v17
-- ==== Pre_finite_scores.lean ====
abbrev S4x256x1536 : Shape := ⟨3, ![4, 256, 1536]⟩
abbrev S8 : Shape := ⟨1, ![8]⟩
abbrev S4x256x1024 : Shape := ⟨3, ![4, 256, 1024]⟩
abbrev S4x256x640 : Shape := ⟨3, ![4, 256, 640]⟩
abbrev S_ : Shape := ⟨0, ![]⟩

class Facts : Prop where
  slices_S4x256x1536_S4x256x640_0_0_0 : S4x256x1536.Slices ![0, 0, 0] S4x256x640
  bcast_S_S4x256x640 : S_.BroadcastsInDim S4x256x640 (![] : Fin 0 → Fin S4x256x640.rank)
  reducesTo_S4x256x640_S_d0_1_2 : S4x256x640.ReducesTo [0, 1, 2] S_
  h_S_ : 0 < S_.numel
  bcast_S_S8 : S_.BroadcastsInDim S8 (![] : Fin 0 → Fin S8.rank)
  reducesTo_S8_S_d0 : S8.ReducesTo [0] S_

variable [Facts]

def fn {F : FTy → Type} [FloatOps F] (main_arg0 : FVec F S4x256x1536 .f32) (main_arg1 : FVec F S8 .f32) (main_arg2 : FVec F S4x256x1024 .f32) : IVec S_ 1 :=
  let main_v0 : FVec F S4x256x640 .f32 := (extractStridedSlice S4x256x640 ![0, 0, 0] · slices_S4x256x1536_S4x256x640_0_0_0) main_arg0
  let main_v1 : FVec F S4x256x640 .f32 := Host.absf main_v0
  let main_cst : FVec F S_ .f32 := constant S_ .f32 0x7F800000#32
  let main_v2 : FVec F S4x256x640 .f32 := broadcastInDim S4x256x640 ![] bcast_S_S4x256x640 main_cst
  let main_v3 : IVec S4x256x640 1 := cmpf .olt main_v1 main_v2
  let main_c : IVec S_ 1 := constantI S_ 1 1#1
  let main_v4 : IVec S_ 1 := (fun x v => Host.reduce IntOp.andi x v reducesTo_S4x256x640_S_d0_1_2 h_S_) main_v3 main_c
  let main_v5 : FVec F S8 .f32 := Host.absf main_arg1
  let main_cst_0 : FVec F S_ .f32 := constant S_ .f32 0x7F800000#32
  let main_v6 : FVec F S8 .f32 := broadcastInDim S8 ![] bcast_S_S8 main_cst_0
  let main_v7 : IVec S8 1 := cmpf .olt main_v5 main_v6
  let main_c_1 : IVec S_ 1 := constantI S_ 1 1#1
  let main_v8 : IVec S_ 1 := (fun x v => Host.reduce IntOp.andi x v reducesTo_S8_S_d0 h_S_) main_v7 main_c_1
  let main_v9 : IVec S_ 1 := andi main_v4 main_v8
  main_v9
-- ==== AttnBwd.lean ====
abbrev S4x256x1536 : Shape := ⟨3, ![4, 256, 1536]⟩
abbrev S8 : Shape := ⟨1, ![8]⟩
abbrev S4x256x1024 : Shape := ⟨3, ![4, 256, 1024]⟩
abbrev S4x256x256 : Shape := ⟨3, ![4, 256, 256]⟩
abbrev S1x8 : Shape := ⟨2, ![1, 8]⟩
abbrev S4 : Shape := ⟨1, ![4]⟩
abbrev S4x64 : Shape := ⟨2, ![4, 64]⟩
abbrev S256 : Shape := ⟨1, ![256]⟩
abbrev S64 : Shape := ⟨1, ![64]⟩
abbrev S1x64 : Shape := ⟨2, ![1, 64]⟩
abbrev S16 : Shape := ⟨1, ![16]⟩
abbrev S_ : Shape := ⟨0, ![]⟩
abbrev S256x1 : Shape := ⟨2, ![256, 1]⟩
abbrev S1x16 : Shape := ⟨2, ![1, 16]⟩
abbrev S256x16 : Shape := ⟨2, ![256, 16]⟩
abbrev S256x64 : Shape := ⟨2, ![256, 64]⟩
abbrev S1x256x1x64 : Shape := ⟨4, ![1, 256, 1, 64]⟩
abbrev S1x256x8x64 : Shape := ⟨4, ![1, 256, 8, 64]⟩
abbrev S256x512 : Shape := ⟨2, ![256, 512]⟩
abbrev S1x256x2x64 : Shape := ⟨4, ![1, 256, 2, 64]⟩
abbrev S256x128 : Shape := ⟨2, ![256, 128]⟩
abbrev S4x256x512 : Shape := ⟨3, ![4, 256, 512]⟩
abbrev S4x256x128 : Shape := ⟨3, ![4, 256, 128]⟩
abbrev S1x128x512 : Shape := ⟨3, ![1, 128, 512]⟩
abbrev S1x256x128 : Shape := ⟨3, ![1, 256, 128]⟩
abbrev S128x512 : Shape := ⟨2, ![128, 512]⟩
abbrev S128x64 : Shape := ⟨2, ![128, 64]⟩
abbrev S512x64 : Shape := ⟨2, ![512, 64]⟩
abbrev S512x256 : Shape := ⟨2, ![512, 256]⟩
abbrev S1x1 : Shape := ⟨2, ![1, 1]⟩
abbrev S128x1 : Shape := ⟨2, ![128, 1]⟩
abbrev S512x1 : Shape := ⟨2, ![512, 1]⟩
abbrev S512 : Shape := ⟨1, ![512]⟩
abbrev S1x128x1 : Shape := ⟨3, ![1, 128, 1]⟩
abbrev S1 : Shape := ⟨1, ![1]⟩
abbrev S1x1x1 : Shape := ⟨3, ![1, 1, 1]⟩
abbrev S1x128x64 : Shape := ⟨3, ![1, 128, 64]⟩

abbrev nBuf : Space → Nat
  | .hbm => 59
  | .vmem => 30
  | .smem => 0
  | _ => 0

abbrev bufTy : (tb : Table) → Fin (tcTables nBuf tb) → BufTy
  | .hbm, ⟨0, _⟩ => ⟨S4x256x1536, .f32⟩
  | .hbm, ⟨1, _⟩ => ⟨S8, .f32⟩
  | .hbm, ⟨2, _⟩ => ⟨S4x256x1024, .f32⟩
  | .hbm, ⟨3, _⟩ => ⟨S4x256x256, .f32⟩
  | .hbm, ⟨4, _⟩ => ⟨S1x8, .f32⟩
  | .hbm, ⟨5, _⟩ => ⟨S4, .i32⟩
  | .hbm, ⟨6, _⟩ => ⟨S4x64, .i32⟩
  | .hbm, ⟨7, _⟩ => ⟨S256, .i32⟩
  | .hbm, ⟨8, _⟩ => ⟨S256, .f32⟩
  | .hbm, ⟨9, _⟩ => ⟨S64, .i32⟩
  | .hbm, ⟨10, _⟩ => ⟨S1x64, .i32⟩
  | .hbm, ⟨11, _⟩ => ⟨S4x64, .i32⟩
  | .hbm, ⟨12, _⟩ => ⟨S256, .i32⟩
  | .hbm, ⟨13, _⟩ => ⟨S256, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S_, .f32⟩
  | .hbm, ⟨26, _⟩ => ⟨S16, .f32⟩
  | .hbm, ⟨27, _⟩ => ⟨S16, .f32⟩
  | .hbm, ⟨28, _⟩ => ⟨S256x1, .f32⟩
  | .hbm, ⟨29, _⟩ => ⟨S1x16, .f32⟩
  | .hbm, ⟨30, _⟩ => ⟨S256x16, .f32⟩
  | .hbm, ⟨31, _⟩ => ⟨S256x16, .f32⟩
  | .hbm, ⟨32, _⟩ => ⟨S256x16, .f32⟩
  | .hbm, ⟨33, _⟩ => ⟨S256x1, .f32⟩
  | .hbm, ⟨34, _⟩ => ⟨S1x16, .f32⟩
  | .hbm, ⟨35, _⟩ => ⟨S256x16, .f32⟩
  | .hbm, ⟨36, _⟩ => ⟨S256x16, .f32⟩
  | .hbm, ⟨37, _⟩ => ⟨S256x16, .f32⟩
  | .hbm, ⟨38, _⟩ => ⟨S256x64, .f32⟩
  | .hbm, ⟨39, _⟩ => ⟨S256x64, .f32⟩
  | .hbm, ⟨40, _⟩ => ⟨S256x64, .f32⟩
  | .hbm, ⟨41, _⟩ => ⟨S1x256x1x64, .f32⟩
  | .hbm, ⟨42, _⟩ => ⟨S1x256x8x64, .f32⟩
  | .hbm, ⟨43, _⟩ => ⟨S256x512, .f32⟩
  | .hbm, ⟨44, _⟩ => ⟨S1x256x1x64, .f32⟩
  | .hbm, ⟨45, _⟩ => ⟨S1x256x8x64, .f32⟩
  | .hbm, ⟨46, _⟩ => ⟨S256x512, .f32⟩
  | .hbm, ⟨47, _⟩ => ⟨S1x256x1x64, .f32⟩
  | .hbm, ⟨48, _⟩ => ⟨S1x256x2x64, .f32⟩
  | .hbm, ⟨49, _⟩ => ⟨S256x128, .f32⟩
  | .hbm, ⟨50, _⟩ => ⟨S1x256x1x64, .f32⟩
  | .hbm, ⟨51, _⟩ => ⟨S1x256x2x64, .f32⟩
  | .hbm, ⟨52, _⟩ => ⟨S256x128, .f32⟩
  | .hbm, ⟨53, _⟩ => ⟨S4x256x512, .f32⟩
  | .hbm, ⟨54, _⟩ => ⟨S4x256x128, .f32⟩
  | .hbm, ⟨55, _⟩ => ⟨S4x256x128, .f32⟩
  | .hbm, ⟨56, _⟩ => ⟨S4x256x128, .f32⟩
  | .hbm, ⟨57, _⟩ => ⟨S4x256x128, .f32⟩
  | .hbm, ⟨58, _⟩ => ⟨S1x8, .f32⟩
  | .local _ .vmem, ⟨0, _⟩ => ⟨S1x128x512, .f32⟩
  | .local _ .vmem, ⟨1, _⟩ => ⟨S1x128x512, .f32⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | .local _ .vmem, ⟨10, _⟩ => ⟨S1x8, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S256x128, .f32⟩
  | .local _ .vmem, ⟨16, _⟩ => ⟨S256x128, .f32⟩
  | .local _ .vmem, ⟨17, _⟩ => ⟨S1x128x512, .f32⟩
  | .local _ .vmem, ⟨18, _⟩ => ⟨S1x128x512, .f32⟩
  | .local _ .vmem, ⟨19, _⟩ => ⟨S1x128x512, .f32⟩
  | .local _ .vmem, ⟨20, _⟩ => ⟨S1x128x512, .f32⟩
  | .local _ .vmem, ⟨21, _⟩ => ⟨S1x256x128, .f32⟩
  | .local _ .vmem, ⟨22, _⟩ => ⟨S1x256x128, .f32⟩
  | .local _ .vmem, ⟨23, _⟩ => ⟨S1x256x128, .f32⟩
  | .local _ .vmem, ⟨24, _⟩ => ⟨S1x256x128, .f32⟩
  | .local _ .vmem, ⟨25, _⟩ => ⟨S1x256x128, .f32⟩
  | .local _ .vmem, ⟨26, _⟩ => ⟨S1x256x128, .f32⟩
  | .local _ .vmem, ⟨27, _⟩ => ⟨S1x256x128, .f32⟩
  | .local _ .vmem, ⟨28, _⟩ => ⟨S1x256x128, .f32⟩
  | .local _ .vmem, ⟨29, _⟩ => ⟨S1x8, .f32⟩
  | _, _ => ⟨S4x256x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46_0 : Ref sig .tc := ⟨.hbm, 53, rfl⟩
abbrev main_v46_1 : Ref sig .tc := ⟨.hbm, 54, rfl⟩
abbrev main_v46_2 : Ref sig .tc := ⟨.hbm, 55, rfl⟩
abbrev main_v46_3 : Ref sig .tc := ⟨.hbm, 56, rfl⟩
abbrev main_v46_4 : Ref sig .tc := ⟨.hbm, 57, rfl⟩
abbrev main_v46_5 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![arg0.toNat, c0_i32.toNat, c5_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 1 → Memref sig .tc .vmem S1x8 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]
-- ==== AttnRefIdeal.lean ====
abbrev S4x256x1536 : Shape := ⟨3, ![4, 256, 1536]⟩
abbrev S8 : Shape := ⟨1, ![8]⟩
abbrev S4x256x1024 : Shape := ⟨3, ![4, 256, 1024]⟩
abbrev S4x256x512 : Shape := ⟨3, ![4, 256, 512]⟩
abbrev S4x256x8x64 : Shape := ⟨4, ![4, 256, 8, 64]⟩
abbrev S4x256x128 : Shape := ⟨3, ![4, 256, 128]⟩
abbrev S4x256x2x64 : Shape := ⟨4, ![4, 256, 2, 64]⟩
abbrev S4x256x2x4x64 : Shape := ⟨5, ![4, 256, 2, 4, 64]⟩
abbrev S4x2x256x256x4 : Shape := ⟨5, ![4, 2, 256, 256, 4]⟩
abbrev S4x2x4x256x256 : Shape := ⟨5, ![4, 2, 4, 256, 256]⟩
abbrev S_ : Shape := ⟨0, ![]⟩
abbrev S1x2x4x1x1 : Shape := ⟨5, ![1, 2, 4, 1, 1]⟩
abbrev S4x2x4x256x1 : Shape := ⟨5, ![4, 2, 4, 256, 1]⟩
abbrev S4x2x4x256x257 : Shape := ⟨5, ![4, 2, 4, 256, 257]⟩
abbrev S4x2x4x256 : Shape := ⟨4, ![4, 2, 4, 256]⟩
abbrev S4x2x64x4x256 : Shape := ⟨5, ![4, 2, 64, 4, 256]⟩
abbrev S4x2x64x256 : Shape := ⟨4, ![4, 2, 64, 256]⟩
abbrev S2x4 : Shape := ⟨2, ![2, 4]⟩
abbrev S4x2x256x4x64 : Shape := ⟨5, ![4, 2, 256, 4, 64]⟩
abbrev S4x2x256x64 : Shape := ⟨4, ![4, 2, 256, 64]⟩
abbrev S1x8 : Shape := ⟨2, ![1, 8]⟩

abbrev nBuf : Space → Nat
  | .hbm => 101
  | .vmem => 0
  | .smem => 0
  | _ => 0

abbrev bufTy : (tb : Table) → Fin (tcTables nBuf tb) → BufTy
  | .hbm, ⟨0, _⟩ => ⟨S4x256x1536, .f32⟩
  | .hbm, ⟨1, _⟩ => ⟨S8, .f32⟩
  | .hbm, ⟨2, _⟩ => ⟨S4x256x1024, .f32⟩
  | .hbm, ⟨3, _⟩ => ⟨S4x256x512, .f32⟩
  | .hbm, ⟨4, _⟩ => ⟨S4x256x8x64, .f32⟩
  | .hbm, ⟨5, _⟩ => ⟨S4x256x128, .f32⟩
  | .hbm, ⟨6, _⟩ => ⟨S4x256x2x64, .f32⟩
  | .hbm, ⟨7, _⟩ => ⟨S4x256x128, .f32⟩
  | .hbm, ⟨8, _⟩ => ⟨S4x256x2x64, .f32⟩
  | .hbm, ⟨9, _⟩ => ⟨S4x256x2x4x64, .f32⟩
  | .hbm, ⟨10, _⟩ => ⟨S4x2x256x256x4, .f32⟩
  | .hbm, ⟨11, _⟩ => ⟨S4x2x4x256x256, .f32⟩
  | .hbm, ⟨12, _⟩ => ⟨S_, .f32⟩
  | .hbm, ⟨13, _⟩ => ⟨S4x2x4x256x256, .f32⟩
  | .hbm, ⟨14, _⟩ => ⟨S4x2x4x256x256, .f32⟩
  | .hbm, ⟨15, _⟩ => ⟨S1x2x4x1x1, .f32⟩
  | .hbm, ⟨16, _⟩ => ⟨S4x2x4x256x1, .f32⟩
  | .hbm, ⟨17, _⟩ => ⟨S4x2x4x256x257, .f32⟩
  | .hbm, ⟨18, _⟩ => ⟨S_, .f32⟩
  | .hbm, ⟨19, _⟩ => ⟨S4x2x4x256, .f32⟩
  | .hbm, ⟨20, _⟩ => ⟨S4x2x4x256x1, .f32⟩
  | .hbm, ⟨21, _⟩ => ⟨S4x2x4x256x257, .f32⟩
  | .hbm, ⟨22, _⟩ => ⟨S4x2x4x256x257, .i1⟩
  | .hbm, ⟨23, _⟩ => ⟨S4x2x4x256x257, .f32⟩
  | .hbm, ⟨24, _⟩ => ⟨S_, .f32⟩
  | .hbm, ⟨25, _⟩ => ⟨S4x2x4x256, .f32⟩
  | .hbm, ⟨26, _⟩ => ⟨S_, .f32⟩
  | .hbm, ⟨27, _⟩ => ⟨S4x2x4x256, .f32⟩
  | .hbm, ⟨28, _⟩ => ⟨S4x2x4x256, .f32⟩
  | .hbm, ⟨29, _⟩ => ⟨S_, .f32⟩
  | .hbm, ⟨30, _⟩ => ⟨S4x2x4x256, .f32⟩
  | .hbm, ⟨31, _⟩ => ⟨S4x2x4x256, .i1⟩
  | .hbm, ⟨32, _⟩ => ⟨S_, .f32⟩
  | .hbm, ⟨33, _⟩ => ⟨S4x2x4x256, .f32⟩
  | .hbm, ⟨34, _⟩ => ⟨S4x2x4x256, .i1⟩
  | .hbm, ⟨35, _⟩ => ⟨S_, .f32⟩
  | .hbm, ⟨36, _⟩ => ⟨S4x2x4x256, .f32⟩
  | .hbm, ⟨37, _⟩ => ⟨S_, .f32⟩
  | .hbm, ⟨38, _⟩ => ⟨S4x2x4x256, .f32⟩
  | .hbm, ⟨39, _⟩ => ⟨S_, .f32⟩
  | .hbm, ⟨40, _⟩ => ⟨S4x2x4x256, .f32⟩
  | .hbm, ⟨41, _⟩ => ⟨S4x2x4x256, .f32⟩
  | .hbm, ⟨42, _⟩ => ⟨S4x2x4x256, .f32⟩
  | .hbm, ⟨43, _⟩ => ⟨S4x2x4x256x1, .f32⟩
  | .hbm, ⟨44, _⟩ => ⟨S4x2x4x256x257, .f32⟩
  | .hbm, ⟨45, _⟩ => ⟨S4x2x4x256x257, .f32⟩
  | .hbm, ⟨46, _⟩ => ⟨S4x2x4x256x257, .f32⟩
  | .hbm, ⟨47, _⟩ => ⟨S_, .f32⟩
  | .hbm, ⟨48, _⟩ => ⟨S4x2x4x256, .f32⟩
  | .hbm, ⟨49, _⟩ => ⟨S4x2x4x256x1, .f32⟩
  | .hbm, ⟨50, _⟩ => ⟨S4x2x4x256x257, .f32⟩
  | .hbm, ⟨51, _⟩ => ⟨S4x2x4x256x257, .f32⟩
  | .hbm, ⟨52, _⟩ => ⟨S4x2x4x256x1, .f32⟩
  | .hbm, ⟨53, _⟩ => ⟨S_, .f32⟩
  | .hbm, ⟨54, _⟩ => ⟨S4x2x4x256x1, .f32⟩
  | .hbm, ⟨55, _⟩ => ⟨S4x2x4x256x1, .f32⟩
  | .hbm, ⟨56, _⟩ => ⟨S4x2x4x256x256, .f32⟩
  | .hbm, ⟨57, _⟩ => ⟨S4x2x64x4x256, .f32⟩
  | .hbm, ⟨58, _⟩ => ⟨S4x256x2x4x64, .f32⟩
  | .hbm, ⟨59, _⟩ => ⟨S4x256x512, .f32⟩
  | .hbm, ⟨60, _⟩ => ⟨S4x256x512, .f32⟩
  | .hbm, ⟨61, _⟩ => ⟨S4x256x2x4x64, .f32⟩
  | .hbm, ⟨62, _⟩ => ⟨S4x2x64x4x256, .f32⟩
  | .hbm, ⟨63, _⟩ => ⟨S4x2x4x256x256, .f32⟩
  | .hbm, ⟨64, _⟩ => ⟨S4x2x64x256, .f32⟩
  | .hbm, ⟨65, _⟩ => ⟨S4x256x2x64, .f32⟩
  | .hbm, ⟨66, _⟩ => ⟨S_, .f32⟩
  | .hbm, ⟨67, _⟩ => ⟨S4x2x4x256x257, .f32⟩
  | .hbm, ⟨68, _⟩ => ⟨S4x2x4x256x257, .f32⟩
  | .hbm, ⟨69, _⟩ => ⟨S4x2x4x256x257, .f32⟩
  | .hbm, ⟨70, _⟩ => ⟨S4x2x4x256x257, .f32⟩
  | .hbm, ⟨71, _⟩ => ⟨S_, .f32⟩
  | .hbm, ⟨72, _⟩ => ⟨S4x2x4x256, .f32⟩
  | .hbm, ⟨73, _⟩ => ⟨S4x2x4x256x1, .f32⟩
  | .hbm, ⟨74, _⟩ => ⟨S4x2x4x256x1, .f32⟩
  | .hbm, ⟨75, _⟩ => ⟨S4x2x4x256x257, .f32⟩
  | .hbm, ⟨76, _⟩ => ⟨S4x2x4x256x257, .f32⟩
  | .hbm, ⟨77, _⟩ => ⟨S_, .f32⟩
  | .hbm, ⟨78, _⟩ => ⟨S4x2x4x256, .f32⟩
  | .hbm, ⟨79, _⟩ => ⟨S4x2x4x256x257, .f32⟩
  | .hbm, ⟨80, _⟩ => ⟨S4x2x4x256x257, .f32⟩
  | .hbm, ⟨81, _⟩ => ⟨S4x2x4x256x257, .f32⟩
  | .hbm, ⟨82, _⟩ => ⟨S4x2x4x256x1, .f32⟩
  | .hbm, ⟨83, _⟩ => ⟨S4x2x4x256x256, .f32⟩
  | .hbm, ⟨84, _⟩ => ⟨S_, .f32⟩
  | .hbm, ⟨85, _⟩ => ⟨S2x4, .f32⟩
  | .hbm, ⟨86, _⟩ => ⟨S1x2x4x1x1, .f32⟩
  | .hbm, ⟨87, _⟩ => ⟨S8, .f32⟩
  | .hbm, ⟨88, _⟩ => ⟨S_, .f32⟩
  | .hbm, ⟨89, _⟩ => ⟨S4x2x4x256x256, .f32⟩
  | .hbm, ⟨90, _⟩ => ⟨S4x2x4x256x256, .f32⟩
  | .hbm, ⟨91, _⟩ => ⟨S4x2x256x256x4, .f32⟩
  | .hbm, ⟨92, _⟩ => ⟨S4x2x256x4x64, .f32⟩
  | .hbm, ⟨93, _⟩ => ⟨S4x256x2x4x64, .f32⟩
  | .hbm, ⟨94, _⟩ => ⟨S4x2x256x64, .f32⟩
  | .hbm, ⟨95, _⟩ => ⟨S4x256x2x64, .f32⟩
  | .hbm, ⟨96, _⟩ => ⟨S4x256x8x64, .f32⟩
  | .hbm, ⟨97, _⟩ => ⟨S4x256x512, .f32⟩
  | .hbm, ⟨98, _⟩ => ⟨S4x256x128, .f32⟩
  | .hbm, ⟨99, _⟩ => ⟨S4x256x128, .f32⟩
  | .hbm, ⟨100, _⟩ => ⟨S1x8, .f32⟩
  | _, _ => ⟨S4x256x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_cst_7 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_8 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_9 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_10 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_11 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_12 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_13 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_cst_14 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩

abbrev nD : Nat := 1
abbrev τ : Topo := Topo.v7x

variable {F : FTy → Type} [FloatOps F]
-- ==== FfnInDx.lean ====
abbrev S8192x5632 : Shape := ⟨2, ![8192, 5632]⟩
abbrev S1024x5632 : Shape := ⟨2, ![1024, 5632]⟩
abbrev S8192x1024 : Shape := ⟨2, ![8192, 1024]⟩
abbrev S512x5632 : Shape := ⟨2, ![512, 5632]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x1024, .f32⟩
  | .local _ .vmem, ⟨0, _⟩ => ⟨S1024x5632, .bf16⟩
  | .local _ .vmem, ⟨1, _⟩ => ⟨S1024x5632, .bf16⟩
  | .local _ .vmem, ⟨2, _⟩ => ⟨S512x5632, .bf16⟩
  | .local _ .vmem, ⟨3, _⟩ => ⟨S512x5632, .bf16⟩
  | .local _ .vmem, ⟨4, _⟩ => ⟨S1024x512, .f32⟩
  | .local _ .vmem, ⟨5, _⟩ => ⟨S1024x512, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInDxRefIdeal.lean ====
abbrev S8192x5632 : Shape := ⟨2, ![8192, 5632]⟩
abbrev S1024x5632 : Shape := ⟨2, ![1024, 5632]⟩
abbrev S1024x11x2x256 : Shape := ⟨4, ![1024, 11, 2, 256]⟩
abbrev S1024x2x11x256 : Shape := ⟨4, ![1024, 2, 11, 256]⟩
abbrev S8192x11x2x256 : Shape := ⟨4, ![8192, 11, 2, 256]⟩
abbrev S8192x2x11x256 : Shape := ⟨4, ![8192, 2, 11, 256]⟩
abbrev S_ : Shape := ⟨0, ![]⟩
abbrev S8192x1024 : Shape := ⟨2, ![8192, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S1024x11x2x256, .bf16⟩
  | .hbm, ⟨3, _⟩ => ⟨S1024x2x11x256, .bf16⟩
  | .hbm, ⟨4, _⟩ => ⟨S1024x5632, .bf16⟩
  | .hbm, ⟨5, _⟩ => ⟨S8192x11x2x256, .bf16⟩
  | .hbm, ⟨6, _⟩ => ⟨S8192x2x11x256, .bf16⟩
  | .hbm, ⟨7, _⟩ => ⟨S8192x5632, .bf16⟩
  | .hbm, ⟨8, _⟩ => ⟨S_, .f32⟩
  | .hbm, ⟨9, _⟩ => ⟨S8192x1024, .f32⟩
  | .hbm, ⟨10, _⟩ => ⟨S1024x5632, .f32⟩
  | .hbm, ⟨11, _⟩ => ⟨S8192x5632, .f32⟩
  | .hbm, ⟨12, _⟩ => ⟨S8192x5632, .f32⟩
  | .hbm, ⟨13, _⟩ => ⟨S8192x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== FfnInDw.lean ====
abbrev S1024x8192 : Shape := ⟨2, ![1024, 8192]⟩
abbrev S8192x5632 : Shape := ⟨2, ![8192, 5632]⟩
abbrev S1024x5632 : Shape := ⟨2, ![1024, 5632]⟩
abbrev S8192x256 : Shape := ⟨2, ![8192, 256]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S1024x8192, .bf16⟩
  | .hbm, ⟨1, _⟩ => ⟨S8192x5632, .bf16⟩
  | .hbm, ⟨2, _⟩ => ⟨S1024x5632, .bf16⟩
  | .local _ .vmem, ⟨0, _⟩ => ⟨S1024x8192, .bf16⟩
  | .local _ .vmem, ⟨1, _⟩ => ⟨S8192x256, .bf16⟩
  | .local _ .vmem, ⟨2, _⟩ => ⟨S8192x256, .bf16⟩
  | .local _ .vmem, ⟨3, _⟩ => ⟨S1024x256, .bf16⟩
  | .local _ .vmem, ⟨4, _⟩ => ⟨S1024x256, .bf16⟩
  | _, _ => ⟨S1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 22, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c11_i32 : BitVec 32 := 11#32
  let v10 : BitVec 32 := Scalar.muli v9 c11_i32
  let c2_i32_3 : BitVec 32 := 2#32
  let v11 : BitVec 32 := Scalar.divsi arg1 c2_i32_3
  let c0_i32_4 : BitVec 32 := 0#32
  let v12 : BitVec 1 := Scalar.cmpi .sgt arg1 c0_i32_4
  let v13 : BitVec 32 := Scalar.extui v12
  let c0_i32_5 : BitVec 32 := 0#32
  let v14 : BitVec 1 := Scalar.cmpi .slt arg1 c0_i32_5
  let v15 : BitVec 32 := Scalar.extui v14
  let v16 : BitVec 32 := Scalar.subi v13 v15
  let c0_i32_6 : BitVec 32 := 0#32
  let v17 : BitVec 1 := Scalar.cmpi .sgt c2_i32_3 c0_i32_6
  let v18 : BitVec 32 := Scalar.extui v17
  let c0_i32_7 : BitVec 32 := 0#32
  let v19 : BitVec 1 := Scalar.cmpi .slt c2_i32_3 c0_i32_7
  let v20 : BitVec 32 := Scalar.extui v19
  let v21 : BitVec 32 := Scalar.subi v18 v20
  let v22 : BitVec 1 := Scalar.cmpi .ne v16 v21
  let v23 : BitVec 32 := Scalar.remsi arg1 c2_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c0_i32_10 : BitVec 32 := 0#32
  ![arg0.toNat, v28.toNat]

abbrev stage0_0 : Fin 1 → Memref sig .tc .vmem S1024x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInDwRefIdeal.lean ====
abbrev S1024x8192 : Shape := ⟨2, ![1024, 8192]⟩
abbrev S8192x5632 : Shape := ⟨2, ![8192, 5632]⟩
abbrev S8192x1024 : Shape := ⟨2, ![8192, 1024]⟩
abbrev S8192x11x2x256 : Shape := ⟨4, ![8192, 11, 2, 256]⟩
abbrev S8192x2x11x256 : Shape := ⟨4, ![8192, 2, 11, 256]⟩
abbrev S_ : Shape := ⟨0, ![]⟩
abbrev S1024x5632 : Shape := ⟨2, ![1024, 5632]⟩
abbrev S5632x1024 : Shape := ⟨2, ![5632, 1024]⟩

abbrev nBuf : Space → Nat
  | .hbm => 14
  | .vmem => 0
  | .smem => 0
  | _ => 0

abbrev bufTy : (tb : Table) → Fin (tcTables nBuf tb) → BufTy
  | .hbm, ⟨0, _⟩ => ⟨S1024x8192, .bf16⟩
  | .hbm, ⟨1, _⟩ => ⟨S8192x5632, .bf16⟩
  | .hbm, ⟨2, _⟩ => ⟨S8192x1024, .bf16⟩
  | .hbm, ⟨3, _⟩ => ⟨S8192x11x2x256, .bf16⟩
  | .hbm, ⟨4, _⟩ => ⟨S8192x2x11x256, .bf16⟩
  | .hbm, ⟨5, _⟩ => ⟨S8192x5632, .bf16⟩
  | .hbm, ⟨6, _⟩ => ⟨S_, .f32⟩
  | .hbm, ⟨7, _⟩ => ⟨S1024x5632, .f32⟩
  | .hbm, ⟨8, _⟩ => ⟨S8192x1024, .f32⟩
  | .hbm, ⟨9, _⟩ => ⟨S8192x5632, .f32⟩
  | .hbm, ⟨10, _⟩ => ⟨S8192x5632, .f32⟩
  | .hbm, ⟨11, _⟩ => ⟨S5632x1024, .f32⟩
  | .hbm, ⟨12, _⟩ => ⟨S1024x5632, .f32⟩
  | .hbm, ⟨13, _⟩ => ⟨S1024x5632, .bf16⟩
  | _, _ => ⟨S1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== FfnOutDx.lean ====
abbrev S8192x1024 : Shape := ⟨2, ![8192, 1024]⟩
abbrev S2816x1024 : Shape := ⟨2, ![2816, 1024]⟩
abbrev S8192x5632 : Shape := ⟨2, ![8192, 5632]⟩
abbrev S4096x1024 : Shape := ⟨2, ![4096, 1024]⟩
abbrev S256x1024 : Shape := ⟨2, ![256, 1024]⟩
abbrev S4096x512 : Shape := ⟨2, ![4096, 512]⟩
abbrev S4096x256 : Shape := ⟨2, ![4096, 256]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x5632, .bf16⟩
  | .hbm, ⟨3, _⟩ => ⟨S8192x5632, .bf16⟩
  | .local _ .vmem, ⟨0, _⟩ => ⟨S4096x1024, .bf16⟩
  | .local _ .vmem, ⟨1, _⟩ => ⟨S4096x1024, .bf16⟩
  | .local _ .vmem, ⟨2, _⟩ => ⟨S256x1024, .bf16⟩
  | .local _ .vmem, ⟨3, _⟩ => ⟨S256x1024, .bf16⟩
  | .local _ .vmem, ⟨4, _⟩ => ⟨S4096x512, .bf16⟩
  | .local _ .vmem, ⟨5, _⟩ => ⟨S4096x512, .bf16⟩
  | .local _ .vmem, ⟨6, _⟩ => ⟨S4096x512, .bf16⟩
  | .local _ .vmem, ⟨7, _⟩ => ⟨S4096x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnOutDxRefIdeal.lean ====
abbrev S8192x1024 : Shape := ⟨2, ![8192, 1024]⟩
abbrev S2816x1024 : Shape := ⟨2, ![2816, 1024]⟩
abbrev S8192x5632 : Shape := ⟨2, ![8192, 5632]⟩
abbrev S8192x11x2x256 : Shape := ⟨4, ![8192, 11, 2, 256]⟩
abbrev S8192x2x11x256 : Shape := ⟨4, ![8192, 2, 11, 256]⟩
abbrev S8192x2816 : Shape := ⟨2, ![8192, 2816]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x5632, .bf16⟩
  | .hbm, ⟨3, _⟩ => ⟨S8192x5632, .f32⟩
  | .hbm, ⟨4, _⟩ => ⟨S8192x11x2x256, .f32⟩
  | .hbm, ⟨5, _⟩ => ⟨S8192x2x11x256, .f32⟩
  | .hbm, ⟨6, _⟩ => ⟨S8192x5632, .f32⟩
  | .hbm, ⟨7, _⟩ => ⟨S8192x2816, .f32⟩
  | .hbm, ⟨8, _⟩ => ⟨S8192x2816, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S_, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S2816x1024, .f32⟩
  | .hbm, ⟨24, _⟩ => ⟨S8192x1024, .f32⟩
  | .hbm, ⟨25, _⟩ => ⟨S8192x1024, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x5632, .f32⟩
  | .hbm, ⟨34, _⟩ => ⟨S8192x2x11x256, .f32⟩
  | .hbm, ⟨35, _⟩ => ⟨S8192x11x2x256, .f32⟩
  | .hbm, ⟨36, _⟩ => ⟨S8192x5632, .f32⟩
  | .hbm, ⟨37, _⟩ => ⟨S8192x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v6_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v6_1 : Ref sig .tc := ⟨.hbm, 20, rfl⟩
abbrev main_v6_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩

abbrev nD : Nat := 1
abbrev τ : Topo := Topo.v7x

variable {F : FTy → Type} [FloatOps F]
-- ==== FfnOutDw.lean ====
abbrev S2816x8192 : Shape := ⟨2, ![2816, 8192]⟩
abbrev S8192x1024 : Shape := ⟨2, ![8192, 1024]⟩
abbrev S2816x1024 : Shape := ⟨2, ![2816, 1024]⟩
abbrev S1408x4096 : Shape := ⟨2, ![1408, 4096]⟩
abbrev S4096x512 : Shape := ⟨2, ![4096, 512]⟩
abbrev S1408x512 : Shape := ⟨2, ![1408, 512]⟩

abbrev nBuf : Space → Nat
  | .hbm => 3
  | .vmem => 7
  | .smem => 0
  | _ => 0

abbrev bufTy : (tb : Table) → Fin (tcTables nBuf tb) → BufTy
  | .hbm, ⟨0, _⟩ => ⟨S2816x8192, .bf16⟩
  | .hbm, ⟨1, _⟩ => ⟨S8192x1024, .bf16⟩
  | .hbm, ⟨2, _⟩ => ⟨S2816x1024, .bf16⟩
  | .local _ .vmem, ⟨0, _⟩ => ⟨S1408x4096, .bf16⟩
  | .local _ .vmem, ⟨1, _⟩ => ⟨S1408x4096, .bf16⟩
  | .local _ .vmem, ⟨2, _⟩ => ⟨S4096x512, .bf16⟩
  | .local _ .vmem, ⟨3, _⟩ => ⟨S4096x512, .bf16⟩
  | .local _ .vmem, ⟨4, _⟩ => ⟨S1408x512, .bf16⟩
  | .local _ .vmem, ⟨5, _⟩ => ⟨S1408x512, .bf16⟩
  | .local _ .vmem, ⟨6, _⟩ => ⟨S1408x512, .f32⟩
  | _, _ => ⟨S2816x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutDwRefIdeal.lean ====
abbrev S2816x8192 : Shape := ⟨2, ![2816, 8192]⟩
abbrev S8192x1024 : Shape := ⟨2, ![8192, 1024]⟩
abbrev S8192x2816 : Shape := ⟨2, ![8192, 2816]⟩
abbrev S_ : Shape := ⟨0, ![]⟩
abbrev S2816x1024 : Shape := ⟨2, ![2816, 1024]⟩
abbrev S1024x2816 : Shape := ⟨2, ![1024, 2816]⟩

abbrev nBuf : Space → Nat
  | .hbm => 11
  | .vmem => 0
  | .smem => 0
  | _ => 0

abbrev bufTy : (tb : Table) → Fin (tcTables nBuf tb) → BufTy
  | .hbm, ⟨0, _⟩ => ⟨S2816x8192, .bf16⟩
  | .hbm, ⟨1, _⟩ => ⟨S8192x1024, .bf16⟩
  | .hbm, ⟨2, _⟩ => ⟨S8192x2816, .bf16⟩
  | .hbm, ⟨3, _⟩ => ⟨S_, .f32⟩
  | .hbm, ⟨4, _⟩ => ⟨S2816x1024, .f32⟩
  | .hbm, ⟨5, _⟩ => ⟨S8192x2816, .f32⟩
  | .hbm, ⟨6, _⟩ => ⟨S8192x1024, .f32⟩
  | .hbm, ⟨7, _⟩ => ⟨S8192x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | _, _ => ⟨S2816x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== MixInDx.lean ====
abbrev S8192x1536 : Shape := ⟨2, ![8192, 1536]⟩
abbrev S1024x1536 : Shape := ⟨2, ![1024, 1536]⟩
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1536, .bf16⟩
  | .hbm, ⟨1, _⟩ => ⟨S1024x1536, .bf16⟩
  | .hbm, ⟨2, _⟩ => ⟨S8192x1024, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1024, .f32⟩
  | .local _ .vmem, ⟨4, _⟩ => ⟨S1024x1024, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixInDxRefIdeal.lean ====
abbrev S8192x1536 : Shape := ⟨2, ![8192, 1536]⟩
abbrev S1024x1536 : Shape := ⟨2, ![1024, 1536]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S1024x1536, .bf16⟩
  | .hbm, ⟨2, _⟩ => ⟨S_, .f32⟩
  | .hbm, ⟨3, _⟩ => ⟨S8192x1024, .f32⟩
  | .hbm, ⟨4, _⟩ => ⟨S1024x1536, .f32⟩
  | .hbm, ⟨5, _⟩ => ⟨S8192x1536, .f32⟩
  | .hbm, ⟨6, _⟩ => ⟨S8192x1536, .f32⟩
  | .hbm, ⟨7, _⟩ => ⟨S8192x1024, .f32⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MixInDw.lean ====
abbrev S1024x8192 : Shape := ⟨2, ![1024, 8192]⟩
abbrev S8192x1536 : Shape := ⟨2, ![8192, 1536]⟩
abbrev S1024x1536 : Shape := ⟨2, ![1024, 1536]⟩
abbrev S8192x256 : Shape := ⟨2, ![8192, 256]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S1024x8192, .bf16⟩
  | .hbm, ⟨1, _⟩ => ⟨S8192x1536, .bf16⟩
  | .hbm, ⟨2, _⟩ => ⟨S1024x1536, .bf16⟩
  | .local _ .vmem, ⟨0, _⟩ => ⟨S1024x8192, .bf16⟩
  | .local _ .vmem, ⟨1, _⟩ => ⟨S8192x256, .bf16⟩
  | .local _ .vmem, ⟨2, _⟩ => ⟨S8192x256, .bf16⟩
  | .local _ .vmem, ⟨3, _⟩ => ⟨S1024x256, .bf16⟩
  | .local _ .vmem, ⟨4, _⟩ => ⟨S1024x256, .bf16⟩
  | _, _ => ⟨S1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixInDwRefIdeal.lean ====
abbrev S1024x8192 : Shape := ⟨2, ![1024, 8192]⟩
abbrev S8192x1536 : Shape := ⟨2, ![8192, 1536]⟩
abbrev S8192x1024 : Shape := ⟨2, ![8192, 1024]⟩
abbrev S_ : Shape := ⟨0, ![]⟩
abbrev S1024x1536 : Shape := ⟨2, ![1024, 1536]⟩
abbrev S1536x1024 : Shape := ⟨2, ![1536, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1024x8192, .bf16⟩
  | .hbm, ⟨1, _⟩ => ⟨S8192x1536, .bf16⟩
  | .hbm, ⟨2, _⟩ => ⟨S8192x1024, .bf16⟩
  | .hbm, ⟨3, _⟩ => ⟨S_, .f32⟩
  | .hbm, ⟨4, _⟩ => ⟨S1024x1536, .f32⟩
  | .hbm, ⟨5, _⟩ => ⟨S8192x1024, .f32⟩
  | .hbm, ⟨6, _⟩ => ⟨S8192x1536, .f32⟩
  | .hbm, ⟨7, _⟩ => ⟨S8192x1536, .f32⟩
  | .hbm, ⟨8, _⟩ => ⟨S1536x1024, .f32⟩
  | .hbm, ⟨9, _⟩ => ⟨S1024x1536, .f32⟩
  | .hbm, ⟨10, _⟩ => ⟨S1024x1536, .bf16⟩
  | _, _ => ⟨S1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== MixOutDx.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutDxRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MixOutDw.lean ====
abbrev S8192x1024 : Shape := ⟨2, ![8192, 1024]⟩
abbrev S1024x8192 : Shape := ⟨2, ![1024, 8192]⟩
abbrev S1024x1024 : Shape := ⟨2, ![1024, 1024]⟩
abbrev S8192x256 : Shape := ⟨2, ![8192, 256]⟩
abbrev S1024x256 : Shape := ⟨2, ![1024, 256]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x8192, .bf16⟩
  | .hbm, ⟨3, _⟩ => ⟨S1024x1024, .bf16⟩
  | .local _ .vmem, ⟨0, _⟩ => ⟨S1024x8192, .bf16⟩
  | .local _ .vmem, ⟨1, _⟩ => ⟨S8192x256, .bf16⟩
  | .local _ .vmem, ⟨2, _⟩ => ⟨S8192x256, .bf16⟩
  | .local _ .vmem, ⟨3, _⟩ => ⟨S1024x256, .bf16⟩
  | .local _ .vmem, ⟨4, _⟩ => ⟨S1024x256, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutDwRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FfnIn.lean ====
abbrev S8192x1024 : Shape := ⟨2, ![8192, 1024]⟩
abbrev S1024x5632 : Shape := ⟨2, ![1024, 5632]⟩
abbrev S8192x5632 : Shape := ⟨2, ![8192, 5632]⟩
abbrev S8192x2816 : Shape := ⟨2, ![8192, 2816]⟩
abbrev S2816x8192 : Shape := ⟨2, ![2816, 8192]⟩
abbrev S4096x1024 : Shape := ⟨2, ![4096, 1024]⟩
abbrev S1024x512 : Shape := ⟨2, ![1024, 512]⟩
abbrev S4096x512 : Shape := ⟨2, ![4096, 512]⟩
abbrev S4096x256 : Shape := ⟨2, ![4096, 256]⟩
abbrev S256x4096 : Shape := ⟨2, ![256, 4096]⟩

abbrev nBuf : Space → Nat
  | .hbm => 5
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x5632, .bf16⟩
  | .hbm, ⟨3, _⟩ => ⟨S8192x2816, .bf16⟩
  | .hbm, ⟨4, _⟩ => ⟨S2816x8192, .bf16⟩
  | .local _ .vmem, ⟨0, _⟩ => ⟨S4096x1024, .bf16⟩
  | .local _ .vmem, ⟨1, _⟩ => ⟨S4096x1024, .bf16⟩
  | .local _ .vmem, ⟨2, _⟩ => ⟨S1024x512, .bf16⟩
  | .local _ .vmem, ⟨3, _⟩ => ⟨S1024x512, .bf16⟩
  | .local _ .vmem, ⟨4, _⟩ => ⟨S4096x512, .bf16⟩
  | .local _ .vmem, ⟨5, _⟩ => ⟨S4096x512, .bf16⟩
  | .local _ .vmem, ⟨6, _⟩ => ⟨S4096x256, .bf16⟩
  | .local _ .vmem, ⟨7, _⟩ => ⟨S4096x256, .bf16⟩
  | .local _ .vmem, ⟨8, _⟩ => ⟨S256x4096, .bf16⟩
  | .local _ .vmem, ⟨9, _⟩ => ⟨S256x4096, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfnInRefIdeal.lean ====
abbrev S8192x1024 : Shape := ⟨2, ![8192, 1024]⟩
abbrev S1024x5632 : Shape := ⟨2, ![1024, 5632]⟩
abbrev S8192x5632 : Shape := ⟨2, ![8192, 5632]⟩
abbrev S8192x11x2x256 : Shape := ⟨4, ![8192, 11, 2, 256]⟩
abbrev S8192x2x11x256 : Shape := ⟨4, ![8192, 2, 11, 256]⟩
abbrev S8192x2816 : Shape := ⟨2, ![8192, 2816]⟩
abbrev S_ : Shape := ⟨0, ![]⟩
abbrev S2816x8192 : Shape := ⟨2, ![2816, 8192]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x1024, .f32⟩
  | .hbm, ⟨3, _⟩ => ⟨S1024x5632, .f32⟩
  | .hbm, ⟨4, _⟩ => ⟨S8192x5632, .f32⟩
  | .hbm, ⟨5, _⟩ => ⟨S8192x11x2x256, .f32⟩
  | .hbm, ⟨6, _⟩ => ⟨S8192x2x11x256, .f32⟩
  | .hbm, ⟨7, _⟩ => ⟨S8192x5632, .f32⟩
  | .hbm, ⟨8, _⟩ => ⟨S8192x2816, .f32⟩
  | .hbm, ⟨9, _⟩ => ⟨S8192x2816, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x5632, .bf16⟩
  | .hbm, ⟨21, _⟩ => ⟨S8192x2816, .bf16⟩
  | .hbm, ⟨22, _⟩ => ⟨S2816x8192, .f32⟩
  | .hbm, ⟨23, _⟩ => ⟨S2816x8192, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== FfnOut.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutRefIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x2816, .f32⟩
  | .hbm, ⟨3, _⟩ => ⟨S2816x1024, .f32⟩
  | .hbm, ⟨4, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MixIn.lean ====
abbrev S8192x1024 : Shape := ⟨2, ![8192, 1024]⟩
abbrev S1024x1536 : Shape := ⟨2, ![1024, 1536]⟩
abbrev S8192x1536 : Shape := ⟨2, ![8192, 1536]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1536, .bf16⟩
  | .hbm, ⟨2, _⟩ => ⟨S8192x1536, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .f32⟩
  | .local _ .vmem, ⟨4, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixInRefIdeal.lean ====
abbrev S8192x1024 : Shape := ⟨2, ![8192, 1024]⟩
abbrev S1024x1536 : Shape := ⟨2, ![1024, 1536]⟩
abbrev S8192x1536 : Shape := ⟨2, ![8192, 1536]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1536, .bf16⟩
  | .hbm, ⟨2, _⟩ => ⟨S8192x1024, .f32⟩
  | .hbm, ⟨3, _⟩ => ⟨S1024x1536, .f32⟩
  | .hbm, ⟨4, _⟩ => ⟨S8192x1536, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MixOut.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutRefIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== CtxFfnInDx.lean ====
abbrev S1024x5632 : Shape := ⟨2, ![1024, 5632]⟩
abbrev S1024x1024 : Shape := ⟨2, ![1024, 1024]⟩
abbrev S512x5632 : Shape := ⟨2, ![512, 5632]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S1024x5632, .bf16⟩
  | .hbm, ⟨1, _⟩ => ⟨S1024x5632, .bf16⟩
  | .hbm, ⟨2, _⟩ => ⟨S1024x1024, .f32⟩
  | .local _ .vmem, ⟨0, _⟩ => ⟨S1024x5632, .bf16⟩
  | .local _ .vmem, ⟨1, _⟩ => ⟨S512x5632, .bf16⟩
  | .local _ .vmem, ⟨2, _⟩ => ⟨S512x5632, .bf16⟩
  | .local _ .vmem, ⟨3, _⟩ => ⟨S1024x512, .f32⟩
  | .local _ .vmem, ⟨4, _⟩ => ⟨S1024x512, .f32⟩
  | _, _ => ⟨S1024x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x5632 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== CtxFfnInDxRefIdeal.lean ====
abbrev S1024x5632 : Shape := ⟨2, ![1024, 5632]⟩
abbrev S1024x11x2x256 : Shape := ⟨4, ![1024, 11, 2, 256]⟩
abbrev S1024x2x11x256 : Shape := ⟨4, ![1024, 2, 11, 256]⟩
abbrev S_ : Shape := ⟨0, ![]⟩
abbrev S1024x1024 : Shape := ⟨2, ![1024, 1024]⟩

abbrev nBuf : Space → Nat
  | .hbm => 14
  | .vmem => 0
  | .smem => 0
  | _ => 0

abbrev bufTy : (tb : Table) → Fin (tcTables nBuf tb) → BufTy
  | .hbm, ⟨0, _⟩ => ⟨S1024x5632, .bf16⟩
  | .hbm, ⟨1, _⟩ => ⟨S1024x5632, .bf16⟩
  | .hbm, ⟨2, _⟩ => ⟨S1024x11x2x256, .bf16⟩
  | .hbm, ⟨3, _⟩ => ⟨S1024x2x11x256, .bf16⟩
  | .hbm, ⟨4, _⟩ => ⟨S1024x5632, .bf16⟩
  | .hbm, ⟨5, _⟩ => ⟨S1024x11x2x256, .bf16⟩
  | .hbm, ⟨6, _⟩ => ⟨S1024x2x11x256, .bf16⟩
  | .hbm, ⟨7, _⟩ => ⟨S1024x5632, .bf16⟩
  | .hbm, ⟨8, _⟩ => ⟨S_, .f32⟩
  | .hbm, ⟨9, _⟩ => ⟨S1024x1024, .f32⟩
  | .hbm, ⟨10, _⟩ => ⟨S1024x5632, .f32⟩
  | .hbm, ⟨11, _⟩ => ⟨S1024x5632, .f32⟩
  | .hbm, ⟨12, _⟩ => ⟨S1024x5632, .f32⟩
  | .hbm, ⟨13, _⟩ => ⟨S1024x1024, .f32⟩
  | _, _ => ⟨S1024x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== CtxFfnInDw.lean ====
abbrev S1024x1024 : Shape := ⟨2, ![1024, 1024]⟩
abbrev S1024x5632 : Shape := ⟨2, ![1024, 5632]⟩
abbrev S1024x256 : Shape := ⟨2, ![1024, 256]⟩

abbrev nBuf : Space → Nat
  | .hbm => 4
  | .vmem => 7
  | .smem => 0
  | _ => 0

abbrev bufTy : (tb : Table) → Fin (tcTables nBuf tb) → BufTy
  | .hbm, ⟨0, _⟩ => ⟨S1024x1024, .bf16⟩
  | .hbm, ⟨1, _⟩ => ⟨S1024x5632, .bf16⟩
  | .hbm, ⟨2, _⟩ => ⟨S1024x5632, .bf16⟩
  | .hbm, ⟨3, _⟩ => ⟨S1024x5632, .bf16⟩
  | .local _ .vmem, ⟨0, _⟩ => ⟨S1024x1024, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 22, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c11_i32 : BitVec 32 := 11#32
  let v10 : BitVec 32 := Scalar.muli v9 c11_i32
  let c2_i32_3 : BitVec 32 := 2#32
  let v11 : BitVec 32 := Scalar.divsi arg1 c2_i32_3
  let c0_i32_4 : BitVec 32 := 0#32
  let v12 : BitVec 1 := Scalar.cmpi .sgt arg1 c0_i32_4
  let v13 : BitVec 32 := Scalar.extui v12
  let c0_i32_5 : BitVec 32 := 0#32
  let v14 : BitVec 1 := Scalar.cmpi .slt arg1 c0_i32_5
  let v15 : BitVec 32 := Scalar.extui v14
  let v16 : BitVec 32 := Scalar.subi v13 v15
  let c0_i32_6 : BitVec 32 := 0#32
  let v17 : BitVec 1 := Scalar.cmpi .sgt c2_i32_3 c0_i32_6
  let v18 : BitVec 32 := Scalar.extui v17
  let c0_i32_7 : BitVec 32 := 0#32
  let v19 : BitVec 1 := Scalar.cmpi .slt c2_i32_3 c0_i32_7
  let v20 : BitVec 32 := Scalar.extui v19
  let v21 : BitVec 32 := Scalar.subi v18 v20
  let v22 : BitVec 1 := Scalar.cmpi .ne v16 v21
  let v23 : BitVec 32 := Scalar.remsi arg1 c2_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c0_i32_10 : BitVec 32 := 0#32
  ![arg0.toNat, v28.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c11_i32 : BitVec 32 := 11#32
  let v10 : BitVec 32 := Scalar.muli v9 c11_i32
  let c2_i32_3 : BitVec 32 := 2#32
  let v11 : BitVec 32 := Scalar.divsi arg1 c2_i32_3
  let c0_i32_4 : BitVec 32 := 0#32
  let v12 : BitVec 1 := Scalar.cmpi .sgt arg1 c0_i32_4
  let v13 : BitVec 32 := Scalar.extui v12
  let c0_i32_5 : BitVec 32 := 0#32
  let v14 : BitVec 1 := Scalar.cmpi .slt arg1 c0_i32_5
  let v15 : BitVec 32 := Scalar.extui v14
  let v16 : BitVec 32 := Scalar.subi v13 v15
  let c0_i32_6 : BitVec 32 := 0#32
  let v17 : BitVec 1 := Scalar.cmpi .sgt c2_i32_3 c0_i32_6
  let v18 : BitVec 32 := Scalar.extui v17
  let c0_i32_7 : BitVec 32 := 0#32
  let v19 : BitVec 1 := Scalar.cmpi .slt c2_i32_3 c0_i32_7
  let v20 : BitVec 32 := Scalar.extui v19
  let v21 : BitVec 32 := Scalar.subi v18 v20
  let v22 : BitVec 1 := Scalar.cmpi .ne v16 v21
  let v23 : BitVec 32 := Scalar.remsi arg1 c2_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c0_i32_10 : BitVec 32 := 0#32
  ![arg0.toNat, v28.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== CtxFfnInDwRefIdeal.lean ====
abbrev S1024x1024 : Shape := ⟨2, ![1024, 1024]⟩
abbrev S1024x5632 : Shape := ⟨2, ![1024, 5632]⟩
abbrev S1024x11x2x256 : Shape := ⟨4, ![1024, 11, 2, 256]⟩
abbrev S1024x2x11x256 : Shape := ⟨4, ![1024, 2, 11, 256]⟩
abbrev S_ : Shape := ⟨0, ![]⟩
abbrev S5632x1024 : Shape := ⟨2, ![5632, 1024]⟩

abbrev nBuf : Space → Nat
  | .hbm => 17
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x5632, .bf16⟩
  | .hbm, ⟨2, _⟩ => ⟨S1024x5632, .bf16⟩
  | .hbm, ⟨3, _⟩ => ⟨S1024x1024, .bf16⟩
  | .hbm, ⟨4, _⟩ => ⟨S1024x11x2x256, .bf16⟩
  | .hbm, ⟨5, _⟩ => ⟨S1024x2x11x256, .bf16⟩
  | .hbm, ⟨6, _⟩ => ⟨S1024x5632, .bf16⟩
  | .hbm, ⟨7, _⟩ => ⟨S_, .f32⟩
  | .hbm, ⟨8, _⟩ => ⟨S1024x5632, .f32⟩
  | .hbm, ⟨9, _⟩ => ⟨S1024x1024, .f32⟩
  | .hbm, ⟨10, _⟩ => ⟨S1024x5632, .f32⟩
  | .hbm, ⟨11, _⟩ => ⟨S1024x5632, .f32⟩
  | .hbm, ⟨12, _⟩ => ⟨S5632x1024, .f32⟩
  | .hbm, ⟨13, _⟩ => ⟨S1024x5632, .f32⟩
  | .hbm, ⟨14, _⟩ => ⟨S1024x5632, .f32⟩
  | .hbm, ⟨15, _⟩ => ⟨S1024x5632, .f32⟩
  | .hbm, ⟨16, _⟩ => ⟨S1024x5632, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== CtxFfnOutDx.lean ====
abbrev S1024x1024 : Shape := ⟨2, ![1024, 1024]⟩
abbrev S2816x1024 : Shape := ⟨2, ![2816, 1024]⟩
abbrev S1024x5632 : Shape := ⟨2, ![1024, 5632]⟩
abbrev S256x1024 : Shape := ⟨2, ![256, 1024]⟩
abbrev S1024x512 : Shape := ⟨2, ![1024, 512]⟩
abbrev S1024x256 : Shape := ⟨2, ![1024, 256]⟩

abbrev nBuf : Space → Nat
  | .hbm => 4
  | .vmem => 7
  | .smem => 0
  | _ => 0

abbrev bufTy : (tb : Table) → Fin (tcTables nBuf tb) → BufTy
  | .hbm, ⟨0, _⟩ => ⟨S1024x1024, .bf16⟩
  | .hbm, ⟨1, _⟩ => ⟨S2816x1024, .bf16⟩
  | .hbm, ⟨2, _⟩ => ⟨S1024x5632, .bf16⟩
  | .hbm, ⟨3, _⟩ => ⟨S1024x5632, .bf16⟩
  | .local _ .vmem, ⟨0, _⟩ => ⟨S1024x1024, .bf16⟩
  | .local _ .vmem, ⟨1, _⟩ => ⟨S256x1024, .bf16⟩
  | .local _ .vmem, ⟨2, _⟩ => ⟨S256x1024, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== CtxFfnOutDxRefIdeal.lean ====
abbrev S1024x1024 : Shape := ⟨2, ![1024, 1024]⟩
abbrev S2816x1024 : Shape := ⟨2, ![2816, 1024]⟩
abbrev S1024x5632 : Shape := ⟨2, ![1024, 5632]⟩
abbrev S1024x11x2x256 : Shape := ⟨4, ![1024, 11, 2, 256]⟩
abbrev S1024x2x11x256 : Shape := ⟨4, ![1024, 2, 11, 256]⟩
abbrev S1024x2816 : Shape := ⟨2, ![1024, 2816]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S2816x1024, .bf16⟩
  | .hbm, ⟨2, _⟩ => ⟨S1024x5632, .bf16⟩
  | .hbm, ⟨3, _⟩ => ⟨S1024x5632, .f32⟩
  | .hbm, ⟨4, _⟩ => ⟨S1024x11x2x256, .f32⟩
  | .hbm, ⟨5, _⟩ => ⟨S1024x2x11x256, .f32⟩
  | .hbm, ⟨6, _⟩ => ⟨S1024x5632, .f32⟩
  | .hbm, ⟨7, _⟩ => ⟨S1024x2816, .f32⟩
  | .hbm, ⟨8, _⟩ => ⟨S1024x2816, .f32⟩
  | .hbm, ⟨9, _⟩ => ⟨S1024x2816, .f32⟩
  | .hbm, ⟨10, _⟩ => ⟨S1024x2816, .f32⟩
  | .hbm, ⟨11, _⟩ => ⟨S_, .f32⟩
  | .hbm, ⟨12, _⟩ => ⟨S1024x2816, .f32⟩
  | .hbm, ⟨13, _⟩ => ⟨S1024x2816, .f32⟩
  | .hbm, ⟨14, _⟩ => ⟨S_, .f32⟩
  | .hbm, ⟨15, _⟩ => ⟨S1024x2816, .f32⟩
  | .hbm, ⟨16, _⟩ => ⟨S1024x2816, .f32⟩
  | .hbm, ⟨17, _⟩ => ⟨S_, .f32⟩
  | .hbm, ⟨18, _⟩ => ⟨S1024x2816, .f32⟩
  | .hbm, ⟨19, _⟩ => ⟨S1024x2816, .f32⟩
  | .hbm, ⟨20, _⟩ => ⟨S1024x2816, .f32⟩
  | .hbm, ⟨21, _⟩ => ⟨S1024x2816, .f32⟩
  | .hbm, ⟨22, _⟩ => ⟨S1024x2816, .f32⟩
  | .hbm, ⟨23, _⟩ => ⟨S2816x1024, .f32⟩
  | .hbm, ⟨24, _⟩ => ⟨S1024x1024, .f32⟩
  | .hbm, ⟨25, _⟩ => ⟨S1024x1024, .f32⟩
  | .hbm, ⟨26, _⟩ => ⟨S1024x2816, .f32⟩
  | .hbm, ⟨27, _⟩ => ⟨S1024x2816, .f32⟩
  | .hbm, ⟨28, _⟩ => ⟨S1024x2816, .f32⟩
  | .hbm, ⟨29, _⟩ => ⟨S1024x2816, .f32⟩
  | .hbm, ⟨30, _⟩ => ⟨S1024x2816, .f32⟩
  | .hbm, ⟨31, _⟩ => ⟨S1024x2816, .f32⟩
  | .hbm, ⟨32, _⟩ => ⟨S1024x2816, .f32⟩
  | .hbm, ⟨33, _⟩ => ⟨S1024x5632, .f32⟩
  | .hbm, ⟨34, _⟩ => ⟨S1024x2x11x256, .f32⟩
  | .hbm, ⟨35, _⟩ => ⟨S1024x11x2x256, .f32⟩
  | .hbm, ⟨36, _⟩ => ⟨S1024x5632, .f32⟩
  | .hbm, ⟨37, _⟩ => ⟨S1024x5632, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v6_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v6_1 : Ref sig .tc := ⟨.hbm, 20, rfl⟩
abbrev main_v6_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩

abbrev nD : Nat := 1
abbrev τ : Topo := Topo.v7x

variable {F : FTy → Type} [FloatOps F]
-- ==== CtxFfnOutDw.lean ====
abbrev S2816x1024 : Shape := ⟨2, ![2816, 1024]⟩
abbrev S1024x1024 : Shape := ⟨2, ![1024, 1024]⟩
abbrev S1408x1024 : Shape := ⟨2, ![1408, 1024]⟩
abbrev S1024x512 : Shape := ⟨2, ![1024, 512]⟩
abbrev S1408x512 : Shape := ⟨2, ![1408, 512]⟩

abbrev nBuf : Space → Nat
  | .hbm => 4
  | .vmem => 8
  | .smem => 0
  | _ => 0

abbrev bufTy : (tb : Table) → Fin (tcTables nBuf tb) → BufTy
  | .hbm, ⟨0, _⟩ => ⟨S2816x1024, .bf16⟩
  | .hbm, ⟨1, _⟩ => ⟨S1024x1024, .bf16⟩
  | .hbm, ⟨2, _⟩ => ⟨S2816x1024, .bf16⟩
  | .hbm, ⟨3, _⟩ => ⟨S2816x1024, .bf16⟩
  | .local _ .vmem, ⟨0, _⟩ => ⟨S1408x1024, .bf16⟩
  | .local _ .vmem, ⟨1, _⟩ => ⟨S1408x1024, .bf16⟩
  | .local _ .vmem, ⟨2, _⟩ => ⟨S1024x512, .bf16⟩
  | .local _ .vmem, ⟨3, _⟩ => ⟨S1024x512, .bf16⟩
  | .local _ .vmem, ⟨4, _⟩ => ⟨S1408x512, .bf16⟩
  | .local _ .vmem, ⟨5, _⟩ => ⟨S1408x512, .bf16⟩
  | .local _ .vmem, ⟨6, _⟩ => ⟨S1408x512, .bf16⟩
  | .local _ .vmem, ⟨7, _⟩ => ⟨S1408x512, .bf16⟩
  | _, _ => ⟨S2816x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== CtxFfnOutDwRefIdeal.lean ====
abbrev S2816x1024 : Shape := ⟨2, ![2816, 1024]⟩
abbrev S1024x1024 : Shape := ⟨2, ![1024, 1024]⟩
abbrev S1024x2816 : Shape := ⟨2, ![1024, 2816]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S2816x1024, .bf16⟩
  | .hbm, ⟨1, _⟩ => ⟨S1024x1024, .bf16⟩
  | .hbm, ⟨2, _⟩ => ⟨S2816x1024, .bf16⟩
  | .hbm, ⟨3, _⟩ => ⟨S1024x2816, .bf16⟩
  | .hbm, ⟨4, _⟩ => ⟨S_, .f32⟩
  | .hbm, ⟨5, _⟩ => ⟨S2816x1024, .f32⟩
  | .hbm, ⟨6, _⟩ => ⟨S1024x2816, .f32⟩
  | .hbm, ⟨7, _⟩ => ⟨S1024x1024, .f32⟩
  | .hbm, ⟨8, _⟩ => ⟨S1024x1024, .f32⟩
  | .hbm, ⟨9, _⟩ => ⟨S1024x2816, .f32⟩
  | .hbm, ⟨10, _⟩ => ⟨S2816x1024, .f32⟩
  | .hbm, ⟨11, _⟩ => ⟨S2816x1024, .f32⟩
  | .hbm, ⟨12, _⟩ => ⟨S2816x1024, .f32⟩
  | .hbm, ⟨13, _⟩ => ⟨S2816x1024, .bf16⟩
  | _, _ => ⟨S2816x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== CtxMixInDx.lean ====
abbrev S1024x1536 : Shape := ⟨2, ![1024, 1536]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S1024x1536, .bf16⟩
  | .hbm, ⟨1, _⟩ => ⟨S1024x1536, .bf16⟩
  | .hbm, ⟨2, _⟩ => ⟨S1024x1024, .f32⟩
  | .local _ .vmem, ⟨0, _⟩ => ⟨S1024x1536, .bf16⟩
  | .local _ .vmem, ⟨1, _⟩ => ⟨S1024x1536, .bf16⟩
  | .local _ .vmem, ⟨2, _⟩ => ⟨S1024x1024, .f32⟩
  | _, _ => ⟨S1024x1536, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== CtxMixInDxRefIdeal.lean ====
abbrev S1024x1536 : Shape := ⟨2, ![1024, 1536]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1024x1536, .bf16⟩
  | .hbm, ⟨1, _⟩ => ⟨S1024x1536, .bf16⟩
  | .hbm, ⟨2, _⟩ => ⟨S_, .f32⟩
  | .hbm, ⟨3, _⟩ => ⟨S1024x1024, .f32⟩
  | .hbm, ⟨4, _⟩ => ⟨S1024x1536, .f32⟩
  | .hbm, ⟨5, _⟩ => ⟨S1024x1536, .f32⟩
  | .hbm, ⟨6, _⟩ => ⟨S1024x1536, .f32⟩
  | .hbm, ⟨7, _⟩ => ⟨S1024x1024, .f32⟩
  | _, _ => ⟨S1024x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== CtxMixInDw.lean ====
abbrev S1024x1024 : Shape := ⟨2, ![1024, 1024]⟩
abbrev S1024x1536 : Shape := ⟨2, ![1024, 1536]⟩
abbrev S1024x256 : Shape := ⟨2, ![1024, 256]⟩

abbrev nBuf : Space → Nat
  | .hbm => 4
  | .vmem => 7
  | .smem => 0
  | _ => 0

abbrev bufTy : (tb : Table) → Fin (tcTables nBuf tb) → BufTy
  | .hbm, ⟨0, _⟩ => ⟨S1024x1024, .bf16⟩
  | .hbm, ⟨1, _⟩ => ⟨S1024x1536, .bf16⟩
  | .hbm, ⟨2, _⟩ => ⟨S1024x1536, .bf16⟩
  | .hbm, ⟨3, _⟩ => ⟨S1024x1536, .bf16⟩
  | .local _ .vmem, ⟨0, _⟩ => ⟨S1024x1024, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== CtxMixInDwRefIdeal.lean ====
abbrev S1024x1024 : Shape := ⟨2, ![1024, 1024]⟩
abbrev S1024x1536 : Shape := ⟨2, ![1024, 1536]⟩
abbrev S_ : Shape := ⟨0, ![]⟩
abbrev S1536x1024 : Shape := ⟨2, ![1536, 1024]⟩

abbrev nBuf : Space → Nat
  | .hbm => 14
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1536, .bf16⟩
  | .hbm, ⟨2, _⟩ => ⟨S1024x1536, .bf16⟩
  | .hbm, ⟨3, _⟩ => ⟨S1024x1024, .bf16⟩
  | .hbm, ⟨4, _⟩ => ⟨S_, .f32⟩
  | .hbm, ⟨5, _⟩ => ⟨S1024x1536, .f32⟩
  | .hbm, ⟨6, _⟩ => ⟨S1024x1024, .f32⟩
  | .hbm, ⟨7, _⟩ => ⟨S1024x1536, .f32⟩
  | .hbm, ⟨8, _⟩ => ⟨S1024x1536, .f32⟩
  | .hbm, ⟨9, _⟩ => ⟨S1536x1024, .f32⟩
  | .hbm, ⟨10, _⟩ => ⟨S1024x1536, .f32⟩
  | .hbm, ⟨11, _⟩ => ⟨S1024x1536, .f32⟩
  | .hbm, ⟨12, _⟩ => ⟨S1024x1536, .f32⟩
  | .hbm, ⟨13, _⟩ => ⟨S1024x1536, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== CtxMixOutDx.lean ====
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== CtxMixOutDxRefIdeal.lean ====
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S_, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== CtxMixOutDw.lean ====
abbrev S1024x1024 : Shape := ⟨2, ![1024, 1024]⟩
abbrev S1024x256 : Shape := ⟨2, ![1024, 256]⟩

abbrev nBuf : Space → Nat
  | .hbm => 5
  | .vmem => 7
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .bf16⟩
  | .hbm, ⟨3, _⟩ => ⟨S1024x1024, .bf16⟩
  | .hbm, ⟨4, _⟩ => ⟨S1024x1024, .bf16⟩
  | .local _ .vmem, ⟨0, _⟩ => ⟨S1024x1024, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== CtxMixOutDwRefIdeal.lean ====
abbrev S1024x1024 : Shape := ⟨2, ![1024, 1024]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .bf16⟩
  | .hbm, ⟨3, _⟩ => ⟨S_, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== CtxKvDx.lean ====
abbrev S1024x256 : Shape := ⟨2, ![1024, 256]⟩
abbrev S1024x1536 : Shape := ⟨2, ![1024, 1536]⟩
abbrev S1024x1024 : Shape := ⟨2, ![1024, 1024]⟩
abbrev S512x256 : Shape := ⟨2, ![512, 256]⟩
abbrev S1024x512 : Shape := ⟨2, ![1024, 512]⟩

abbrev nBuf : Space → Nat
  | .hbm => 4
  | .vmem => 5
  | .smem => 0
  | _ => 0

abbrev bufTy : (tb : Table) → Fin (tcTables nBuf tb) → BufTy
  | .hbm, ⟨0, _⟩ => ⟨S1024x256, .bf16⟩
  | .hbm, ⟨1, _⟩ => ⟨S1024x1536, .bf16⟩
  | .hbm, ⟨2, _⟩ => ⟨S1024x256, .bf16⟩
  | .hbm, ⟨3, _⟩ => ⟨S1024x1024, .f32⟩
  | .local _ .vmem, ⟨0, _⟩ => ⟨S1024x256, .bf16⟩
  | .local _ .vmem, ⟨1, _⟩ => ⟨S512x256, .bf16⟩
  | .local _ .vmem, ⟨2, _⟩ => ⟨S512x256, .bf16⟩
  | .local _ .vmem, ⟨3, _⟩ => ⟨S1024x512, .f32⟩
  | .local _ .vmem, ⟨4, _⟩ => ⟨S1024x512, .f32⟩
  | _, _ => ⟨S1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== CtxKvDxRefIdeal.lean ====
abbrev S1024x256 : Shape := ⟨2, ![1024, 256]⟩
abbrev S1024x1536 : Shape := ⟨2, ![1024, 1536]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S1024x256, .bf16⟩
  | .hbm, ⟨1, _⟩ => ⟨S1024x1536, .bf16⟩
  | .hbm, ⟨2, _⟩ => ⟨S1024x256, .bf16⟩
  | .hbm, ⟨3, _⟩ => ⟨S_, .f32⟩
  | .hbm, ⟨4, _⟩ => ⟨S1024x1024, .f32⟩
  | .hbm, ⟨5, _⟩ => ⟨S1024x256, .f32⟩
  | .hbm, ⟨6, _⟩ => ⟨S1024x256, .f32⟩
  | .hbm, ⟨7, _⟩ => ⟨S1024x256, .f32⟩
  | .hbm, ⟨8, _⟩ => ⟨S1024x1024, .f32⟩
  | _, _ => ⟨S1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== CtxKvDw.lean ====
abbrev S1024x1024 : Shape := ⟨2, ![1024, 1024]⟩
abbrev S1024x256 : Shape := ⟨2, ![1024, 256]⟩

abbrev nBuf : Space → Nat
  | .hbm => 3
  | .vmem => 3
  | .smem => 0
  | _ => 0

abbrev bufTy : (tb : Table) → Fin (tcTables nBuf tb) → BufTy
  | .hbm, ⟨0, _⟩ => ⟨S1024x1024, .bf16⟩
  | .hbm, ⟨1, _⟩ => ⟨S1024x256, .bf16⟩
  | .hbm, ⟨2, _⟩ => ⟨S1024x256, .bf16⟩
  | .local _ .vmem, ⟨0, _⟩ => ⟨S1024x1024, .bf16⟩
  | .local _ .vmem, ⟨1, _⟩ => ⟨S1024x256, .bf16⟩
  | .local _ .vmem, ⟨2, _⟩ => ⟨S1024x256, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== CtxKvDwRefIdeal.lean ====
abbrev S1024x1024 : Shape := ⟨2, ![1024, 1024]⟩
abbrev S1024x256 : Shape := ⟨2, ![1024, 256]⟩
abbrev S_ : Shape := ⟨0, ![]⟩
abbrev S256x1024 : Shape := ⟨2, ![256, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x256, .bf16⟩
  | .hbm, ⟨2, _⟩ => ⟨S1024x1024, .bf16⟩
  | .hbm, ⟨3, _⟩ => ⟨S_, .f32⟩
  | .hbm, ⟨4, _⟩ => ⟨S1024x256, .f32⟩
  | .hbm, ⟨5, _⟩ => ⟨S1024x1024, .f32⟩
  | .hbm, ⟨6, _⟩ => ⟨S1024x256, .f32⟩
  | .hbm, ⟨7, _⟩ => ⟨S1024x256, .f32⟩
  | .hbm, ⟨8, _⟩ => ⟨S256x1024, .f32⟩
  | .hbm, ⟨9, _⟩ => ⟨S1024x256, .f32⟩
  | .hbm, ⟨10, _⟩ => ⟨S1024x256, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== CtxFfnIn.lean ====
abbrev S1024x1024 : Shape := ⟨2, ![1024, 1024]⟩
abbrev S1024x5632 : Shape := ⟨2, ![1024, 5632]⟩
abbrev S1024x2816 : Shape := ⟨2, ![1024, 2816]⟩
abbrev S2816x1024 : Shape := ⟨2, ![2816, 1024]⟩
abbrev S1024x512 : Shape := ⟨2, ![1024, 512]⟩
abbrev S1024x256 : Shape := ⟨2, ![1024, 256]⟩
abbrev S256x1024 : Shape := ⟨2, ![256, 1024]⟩

abbrev nBuf : Space → Nat
  | .hbm => 5
  | .vmem => 9
  | .smem => 0
  | _ => 0

abbrev bufTy : (tb : Table) → Fin (tcTables nBuf tb) → BufTy
  | .hbm, ⟨0, _⟩ => ⟨S1024x1024, .bf16⟩
  | .hbm, ⟨1, _⟩ => ⟨S1024x5632, .bf16⟩
  | .hbm, ⟨2, _⟩ => ⟨S1024x5632, .bf16⟩
  | .hbm, ⟨3, _⟩ => ⟨S1024x2816, .bf16⟩
  | .hbm, ⟨4, _⟩ => ⟨S2816x1024, .bf16⟩
  | .local _ .vmem, ⟨0, _⟩ => ⟨S1024x1024, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x256, .bf16⟩
  | .local _ .vmem, ⟨6, _⟩ => ⟨S1024x256, .bf16⟩
  | .local _ .vmem, ⟨7, _⟩ => ⟨S256x1024, .bf16⟩
  | .local _ .vmem, ⟨8, _⟩ => ⟨S256x1024, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== CtxFfnInRefIdeal.lean ====
abbrev S1024x1024 : Shape := ⟨2, ![1024, 1024]⟩
abbrev S1024x5632 : Shape := ⟨2, ![1024, 5632]⟩
abbrev S1024x11x2x256 : Shape := ⟨4, ![1024, 11, 2, 256]⟩
abbrev S1024x2x11x256 : Shape := ⟨4, ![1024, 2, 11, 256]⟩
abbrev S1024x2816 : Shape := ⟨2, ![1024, 2816]⟩
abbrev S_ : Shape := ⟨0, ![]⟩
abbrev S2816x1024 : Shape := ⟨2, ![2816, 1024]⟩

abbrev nBuf : Space → Nat
  | .hbm => 24
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x5632, .bf16⟩
  | .hbm, ⟨2, _⟩ => ⟨S1024x1024, .f32⟩
  | .hbm, ⟨3, _⟩ => ⟨S1024x5632, .f32⟩
  | .hbm, ⟨4, _⟩ => ⟨S1024x5632, .f32⟩
  | .hbm, ⟨5, _⟩ => ⟨S1024x11x2x256, .f32⟩
  | .hbm, ⟨6, _⟩ => ⟨S1024x2x11x256, .f32⟩
  | .hbm, ⟨7, _⟩ => ⟨S1024x5632, .f32⟩
  | .hbm, ⟨8, _⟩ => ⟨S1024x2816, .f32⟩
  | .hbm, ⟨9, _⟩ => ⟨S1024x2816, .f32⟩
  | .hbm, ⟨10, _⟩ => ⟨S1024x2816, .f32⟩
  | .hbm, ⟨11, _⟩ => ⟨S1024x2816, .f32⟩
  | .hbm, ⟨12, _⟩ => ⟨S_, .f32⟩
  | .hbm, ⟨13, _⟩ => ⟨S1024x2816, .f32⟩
  | .hbm, ⟨14, _⟩ => ⟨S1024x2816, .f32⟩
  | .hbm, ⟨15, _⟩ => ⟨S_, .f32⟩
  | .hbm, ⟨16, _⟩ => ⟨S1024x2816, .f32⟩
  | .hbm, ⟨17, _⟩ => ⟨S1024x2816, .f32⟩
  | .hbm, ⟨18, _⟩ => ⟨S1024x2816, .f32⟩
  | .hbm, ⟨19, _⟩ => ⟨S1024x2816, .f32⟩
  | .hbm, ⟨20, _⟩ => ⟨S1024x5632, .bf16⟩
  | .hbm, ⟨21, _⟩ => ⟨S1024x2816, .bf16⟩
  | .hbm, ⟨22, _⟩ => ⟨S2816x1024, .f32⟩
  | .hbm, ⟨23, _⟩ => ⟨S2816x1024, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== CtxFfnOut.lean ====
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S1024x2816, .bf16⟩
  | .hbm, ⟨1, _⟩ => ⟨S2816x1024, .bf16⟩
  | .hbm, ⟨2, _⟩ => ⟨S1024x1024, .f32⟩
  | .local _ .vmem, ⟨0, _⟩ => ⟨S1024x2816, .bf16⟩
  | .local _ .vmem, ⟨1, _⟩ => ⟨S2816x1024, .bf16⟩
  | .local _ .vmem, ⟨2, _⟩ => ⟨S1024x1024, .f32⟩
  | _, _ => ⟨S1024x2816, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x2816 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== CtxFfnOutRefIdeal.lean ====
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S1024x2816, .bf16⟩
  | .hbm, ⟨1, _⟩ => ⟨S2816x1024, .bf16⟩
  | .hbm, ⟨2, _⟩ => ⟨S1024x2816, .f32⟩
  | .hbm, ⟨3, _⟩ => ⟨S2816x1024, .f32⟩
  | .hbm, ⟨4, _⟩ => ⟨S1024x1024, .f32⟩
  | _, _ => ⟨S1024x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== CtxMixIn.lean ====
abbrev S1024x1024 : Shape := ⟨2, ![1024, 1024]⟩
abbrev S1024x1536 : Shape := ⟨2, ![1024, 1536]⟩

abbrev nBuf : Space → Nat
  | .hbm => 3
  | .vmem => 3
  | .smem => 0
  | _ => 0

abbrev bufTy : (tb : Table) → Fin (tcTables nBuf tb) → BufTy
  | .hbm, ⟨0, _⟩ => ⟨S1024x1024, .bf16⟩
  | .hbm, ⟨1, _⟩ => ⟨S1024x1536, .bf16⟩
  | .hbm, ⟨2, _⟩ => ⟨S1024x1536, .f32⟩
  | .local _ .vmem, ⟨0, _⟩ => ⟨S1024x1024, .bf16⟩
  | .local _ .vmem, ⟨1, _⟩ => ⟨S1024x1536, .bf16⟩
  | .local _ .vmem, ⟨2, _⟩ => ⟨S1024x1536, .f32⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== CtxMixInRefIdeal.lean ====
abbrev S1024x1024 : Shape := ⟨2, ![1024, 1024]⟩
abbrev S1024x1536 : Shape := ⟨2, ![1024, 1536]⟩

abbrev nBuf : Space → Nat
  | .hbm => 5
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1536, .bf16⟩
  | .hbm, ⟨2, _⟩ => ⟨S1024x1024, .f32⟩
  | .hbm, ⟨3, _⟩ => ⟨S1024x1536, .f32⟩
  | .hbm, ⟨4, _⟩ => ⟨S1024x1536, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== CtxMixOut.lean ====
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== CtxMixOutRefIdeal.lean ====
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .hbm, ⟨3, _⟩ => ⟨S1024x1024, .f32⟩
  | .hbm, ⟨4, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== CtxKv.lean ====
abbrev S1024x1024 : Shape := ⟨2, ![1024, 1024]⟩
abbrev S1024x1536 : Shape := ⟨2, ![1024, 1536]⟩
abbrev S1024x256 : Shape := ⟨2, ![1024, 256]⟩

abbrev nBuf : Space → Nat
  | .hbm => 4
  | .vmem => 3
  | .smem => 0
  | _ => 0

abbrev bufTy : (tb : Table) → Fin (tcTables nBuf tb) → BufTy
  | .hbm, ⟨0, _⟩ => ⟨S1024x1024, .bf16⟩
  | .hbm, ⟨1, _⟩ => ⟨S1024x1536, .bf16⟩
  | .hbm, ⟨2, _⟩ => ⟨S1024x256, .bf16⟩
  | .hbm, ⟨3, _⟩ => ⟨S1024x256, .f32⟩
  | .local _ .vmem, ⟨0, _⟩ => ⟨S1024x1024, .bf16⟩
  | .local _ .vmem, ⟨1, _⟩ => ⟨S1024x256, .bf16⟩
  | .local _ .vmem, ⟨2, _⟩ => ⟨S1024x256, .f32⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== CtxKvRefIdeal.lean ====
abbrev S1024x1024 : Shape := ⟨2, ![1024, 1024]⟩
abbrev S1024x1536 : Shape := ⟨2, ![1024, 1536]⟩
abbrev S1024x256 : Shape := ⟨2, ![1024, 256]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1536, .bf16⟩
  | .hbm, ⟨2, _⟩ => ⟨S1024x256, .bf16⟩
  | .hbm, ⟨3, _⟩ => ⟨S1024x1024, .f32⟩
  | .hbm, ⟨4, _⟩ => ⟨S1024x256, .f32⟩
  | .hbm, ⟨5, _⟩ => ⟨S1024x256, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Interleave.lean ====
abbrev S1024x5632 : Shape := ⟨2, ![1024, 5632]⟩
abbrev S1024x256 : Shape := ⟨2, ![1024, 256]⟩

abbrev nBuf : Space → Nat
  | .hbm => 2
  | .vmem => 4
  | .smem => 0
  | _ => 0

abbrev bufTy : (tb : Table) → Fin (tcTables nBuf tb) → BufTy
  | .hbm, ⟨0, _⟩ => ⟨S1024x5632, .bf16⟩
  | .hbm, ⟨1, _⟩ => ⟨S1024x5632, .bf16⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | _, _ => ⟨S1024x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c11_i32 : BitVec 32 := 11#32
  let v10 : BitVec 32 := Scalar.muli v9 c11_i32
  let c2_i32_3 : BitVec 32 := 2#32
  let v11 : BitVec 32 := Scalar.divsi arg0 c2_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c2_i32_3 c0_i32_6
  let v18 : BitVec 32 := Scalar.extui v17
  let c0_i32_7 : BitVec 32 := 0#32
  let v19 : BitVec 1 := Scalar.cmpi .slt c2_i32_3 c0_i32_7
  let v20 : BitVec 32 := Scalar.extui v19
  let v21 : BitVec 32 := Scalar.subi v18 v20
  let v22 : BitVec 1 := Scalar.cmpi .ne v16 v21
  let v23 : BitVec 32 := Scalar.remsi arg0 c2_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c0_i32_10 : BitVec 32 := 0#32
  let c0_i32_11 : BitVec 32 := 0#32
  ![c0_i32_10.toNat, v28.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== InterleaveRefIdeal.lean ====
abbrev S1024x5632 : Shape := ⟨2, ![1024, 5632]⟩
abbrev S1024x2x11x256 : Shape := ⟨4, ![1024, 2, 11, 256]⟩
abbrev S1024x11x2x256 : Shape := ⟨4, ![1024, 11, 2, 256]⟩

abbrev nBuf : Space → Nat
  | .hbm => 4
  | .vmem => 0
  | .smem => 0
  | _ => 0

abbrev bufTy : (tb : Table) → Fin (tcTables nBuf tb) → BufTy
  | .hbm, ⟨0, _⟩ => ⟨S1024x5632, .bf16⟩
  | .hbm, ⟨1, _⟩ => ⟨S1024x2x11x256, .bf16⟩
  | .hbm, ⟨2, _⟩ => ⟨S1024x11x2x256, .bf16⟩
  | .hbm, ⟨3, _⟩ => ⟨S1024x5632, .bf16⟩
  | _, _ => ⟨S1024x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== NormBwd.lean ====
abbrev S4x2048x1024 : Shape := ⟨3, ![4, 2048, 1024]⟩
abbrev S4x1x1024 : Shape := ⟨3, ![4, 1, 1024]⟩
abbrev S1x1024 : Shape := ⟨2, ![1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 14
  | .vmem => 26
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x1x1024, .f32⟩
  | .hbm, ⟨3, _⟩ => ⟨S1x1024, .f32⟩
  | .hbm, ⟨4, _⟩ => ⟨S4x1x1024, .f32⟩
  | .hbm, ⟨5, _⟩ => ⟨S4x1x1024, .f32⟩
  | .hbm, ⟨6, _⟩ => ⟨S4x2048x1024, .f32⟩
  | .hbm, ⟨7, _⟩ => ⟨S4x2048x1024, .f32⟩
  | .hbm, ⟨8, _⟩ => ⟨S4x2048x1024, .f32⟩
  | .hbm, ⟨9, _⟩ => ⟨S4x2048x1024, .bf16⟩
  | .hbm, ⟨10, _⟩ => ⟨S4x1x1024, .f32⟩
  | .hbm, ⟨11, _⟩ => ⟨S1x1024, .f32⟩
  | .hbm, ⟨12, _⟩ => ⟨S4x1x1024, .f32⟩
  | .hbm, ⟨13, _⟩ => ⟨S4x1x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x512x1024, .f32⟩
  | .local _ .vmem, ⟨16, _⟩ => ⟨S1x512x1024, .f32⟩
  | .local _ .vmem, ⟨17, _⟩ => ⟨S1x512x1024, .bf16⟩
  | .local _ .vmem, ⟨18, _⟩ => ⟨S1x512x1024, .bf16⟩
  | .local _ .vmem, ⟨19, _⟩ => ⟨S1x1x1024, .f32⟩
  | .local _ .vmem, ⟨20, _⟩ => ⟨S1x1x1024, .f32⟩
  | .local _ .vmem, ⟨21, _⟩ => ⟨S1x1024, .f32⟩
  | .local _ .vmem, ⟨22, _⟩ => ⟨S1x1x1024, .f32⟩
  | .local _ .vmem, ⟨23, _⟩ => ⟨S1x1x1024, .f32⟩
  | .local _ .vmem, ⟨24, _⟩ => ⟨S1x1x1024, .f32⟩
  | .local _ .vmem, ⟨25, _⟩ => ⟨S1x1x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v75 : BitVec 1 := Scalar.cmpi .eq arg1 c0_i32
  let v76 : BitVec 32 := Scalar.extui v75
  let c0_i32_36 : BitVec 32 := 0#32
  let v77 : BitVec 1 := Scalar.cmpi .ne v76 c0_i32_36
  v77

def k0_cond2 (i : grid0.Coords) : BitVec 1 :=
  let arg1 : BitVec 32 := BitVec.ofNat 32 (i 1).val
  let c0_i32 : BitVec 32 := 0#32
  let v75 : BitVec 1 := Scalar.cmpi .eq arg1 c0_i32
  let v_true : BitVec 1 := 1#1
  let v78 : BitVec 1 := Scalar.xori v75 v_true
  let v79 : BitVec 32 := Scalar.extui v78
  let c0_i32_37 : BitVec 32 := 0#32
  let v80 : BitVec 1 := Scalar.cmpi .ne v79 c0_i32_37
  v80

def k0_cond3 (i : grid0.Coords) : BitVec 1 :=
  let arg1 : BitVec 32 := BitVec.ofNat 32 (i 1).val
  let c0_i32_38 : BitVec 32 := 0#32
  let v81 : BitVec 1 := Scalar.cmpi .eq arg1 c0_i32_38
  let arg0 : BitVec 32 := BitVec.ofNat 32 (i 0).val
  let c0_i32_39 : BitVec 32 := 0#32
  let v82 : BitVec 1 := Scalar.cmpi .eq arg0 c0_i32_39
  let v83 : BitVec 1 := Scalar.andi v81 v82
  let v84 : BitVec 32 := Scalar.extui v83
  let c0_i32_40 : BitVec 32 := 0#32
  let v85 : BitVec 1 := Scalar.cmpi .ne v84 c0_i32_40
  v85

def k0_cond4 (i : grid0.Coords) : BitVec 1 :=
  let arg1 : BitVec 32 := BitVec.ofNat 32 (i 1).val
  let c0_i32_38 : BitVec 32 := 0#32
  let v81 : BitVec 1 := Scalar.cmpi .eq arg1 c0_i32_38
  let arg0 : BitVec 32 := BitVec.ofNat 32 (i 0).val
  let c0_i32_39 : BitVec 32 := 0#32
  let v82 : BitVec 1 := Scalar.cmpi .eq arg0 c0_i32_39
  let v83 : BitVec 1 := Scalar.andi v81 v82
  let true_41 : BitVec 1 := 1#1
  let v86 : BitVec 1 := Scalar.xori v83 true_41
  let v87 : BitVec 32 := Scalar.extui v86
  let c0_i32_42 : BitVec 32 := 0#32
  let v88 : BitVec 1 := Scalar.cmpi .ne v87 c0_i32_42
  v88

def k0_cond5 (i : grid0.Coords) : BitVec 1 :=
  let arg1 : BitVec 32 := BitVec.ofNat 32 (i 1).val
  let c0_i32_43 : BitVec 32 := 0#32
  let v89 : BitVec 1 := Scalar.cmpi .eq arg1 c0_i32_43
  let v90 : BitVec 32 := Scalar.extui v89
  let c0_i32_44 : BitVec 32 := 0#32
  let v91 : BitVec 1 := Scalar.cmpi .ne v90 c0_i32_44
  v91

def k0_cond6 (i : grid0.Coords) : BitVec 1 :=
  let arg1 : BitVec 32 := BitVec.ofNat 32 (i 1).val
  let c0_i32_43 : BitVec 32 := 0#32
  let v89 : BitVec 1 := Scalar.cmpi .eq arg1 c0_i32_43
  let true_45 : BitVec 1 := 1#1
  let v92 : BitVec 1 := Scalar.xori v89 true_45
  let v93 : BitVec 32 := Scalar.extui v92
  let c0_i32_46 : BitVec 32 := 0#32
  let v94 : BitVec 1 := Scalar.cmpi .ne v93 c0_i32_46
  v94

def k0_cond7 (i : grid0.Coords) : BitVec 1 :=
  let arg1 : BitVec 32 := BitVec.ofNat 32 (i 1).val
  let c0_i32_47 : BitVec 32 := 0#32
  let v95 : BitVec 1 := Scalar.cmpi .eq arg1 c0_i32_47
  let v96 : BitVec 32 := Scalar.extui v95
  let c0_i32_48 : BitVec 32 := 0#32
  let v97 : BitVec 1 := Scalar.cmpi .ne v96 c0_i32_48
  v97

def k0_cond8 (i : grid0.Coords) : BitVec 1 :=
  let arg1 : BitVec 32 := BitVec.ofNat 32 (i 1).val
  let c0_i32_47 : BitVec 32 := 0#32
  let v95 : BitVec 1 := Scalar.cmpi .eq arg1 c0_i32_47
  let true_49 : BitVec 1 := 1#1
  let v98 : BitVec 1 := Scalar.xori v95 true_49
  let v99 : BitVec 32 := Scalar.extui v98
  let c0_i32_50 : BitVec 32 := 0#32
  let v100 : BitVec 1 := Scalar.cmpi .ne v99 c0_i32_50
  v100

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== NormBwdRefIdeal.lean ====
abbrev S4x2048x1024 : Shape := ⟨3, ![4, 2048, 1024]⟩
abbrev S4x1x1024 : Shape := ⟨3, ![4, 1, 1024]⟩
abbrev S1x1024 : Shape := ⟨2, ![1, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x1024 : Shape := ⟨2, ![4, 1024]⟩
abbrev S1024 : Shape := ⟨1, ![1024]⟩

abbrev nBuf : Space → Nat
  | .hbm => 83
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x1x1024, .f32⟩
  | .hbm, ⟨3, _⟩ => ⟨S1x1024, .f32⟩
  | .hbm, ⟨4, _⟩ => ⟨S4x1x1024, .f32⟩
  | .hbm, ⟨5, _⟩ => ⟨S4x1x1024, .f32⟩
  | .hbm, ⟨6, _⟩ => ⟨S4x2048x1024, .f32⟩
  | .hbm, ⟨7, _⟩ => ⟨S4x2048x1024, .f32⟩
  | .hbm, ⟨8, _⟩ => ⟨S4x2048x1024, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S_, .f32⟩
  | .hbm, ⟨13, _⟩ => ⟨S4x2048, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S4x2048x1, .f32⟩
  | .hbm, ⟨22, _⟩ => ⟨S4x2048x1, .f32⟩
  | .hbm, ⟨23, _⟩ => ⟨S_, .f32⟩
  | .hbm, ⟨24, _⟩ => ⟨S4x2048x1, .f32⟩
  | .hbm, ⟨25, _⟩ => ⟨S4x2048x1, .f32⟩
  | .hbm, ⟨26, _⟩ => ⟨S4x2048x1024, .f32⟩
  | .hbm, ⟨27, _⟩ => ⟨S4x2048x1024, .f32⟩
  | .hbm, ⟨28, _⟩ => ⟨S1x1x1024, .f32⟩
  | .hbm, ⟨29, _⟩ => ⟨S4x2048x1024, .f32⟩
  | .hbm, ⟨30, _⟩ => ⟨S4x2048x1024, .f32⟩
  | .hbm, ⟨31, _⟩ => ⟨S_, .f32⟩
  | .hbm, ⟨32, _⟩ => ⟨S4x1x1024, .f32⟩
  | .hbm, ⟨33, _⟩ => ⟨S4x1x1024, .f32⟩
  | .hbm, ⟨34, _⟩ => ⟨S4x2048x1024, .f32⟩
  | .hbm, ⟨35, _⟩ => ⟨S4x2048x1024, .f32⟩
  | .hbm, ⟨36, _⟩ => ⟨S4x2048x1024, .f32⟩
  | .hbm, ⟨37, _⟩ => ⟨S4x2048x1024, .f32⟩
  | .hbm, ⟨38, _⟩ => ⟨S4x2048x1024, .f32⟩
  | .hbm, ⟨39, _⟩ => ⟨S_, .f32⟩
  | .hbm, ⟨40, _⟩ => ⟨S4x1024, .f32⟩
  | .hbm, ⟨41, _⟩ => ⟨S4x1x1024, .f32⟩
  | .hbm, ⟨42, _⟩ => ⟨S4x2048x1024, .f32⟩
  | .hbm, ⟨43, _⟩ => ⟨S_, .f32⟩
  | .hbm, ⟨44, _⟩ => ⟨S4x1024, .f32⟩
  | .hbm, ⟨45, _⟩ => ⟨S4x1x1024, .f32⟩
  | .hbm, ⟨46, _⟩ => ⟨S4x2048x1024, .f32⟩
  | .hbm, ⟨47, _⟩ => ⟨S4x2048x1024, .f32⟩
  | .hbm, ⟨48, _⟩ => ⟨S4x2048x1024, .f32⟩
  | .hbm, ⟨49, _⟩ => ⟨S_, .f32⟩
  | .hbm, ⟨50, _⟩ => ⟨S1024, .f32⟩
  | .hbm, ⟨51, _⟩ => ⟨S1x1x1024, .f32⟩
  | .hbm, ⟨52, _⟩ => ⟨S4x2048x1024, .f32⟩
  | .hbm, ⟨53, _⟩ => ⟨S4x2048x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S4x2048x1024, .f32⟩
  | .hbm, ⟨58, _⟩ => ⟨S_, .f32⟩
  | .hbm, ⟨59, _⟩ => ⟨S4x2048, .f32⟩
  | .hbm, ⟨60, _⟩ => ⟨S4x2048x1, .f32⟩
  | .hbm, ⟨61, _⟩ => ⟨S4x2048x1024, .f32⟩
  | .hbm, ⟨62, _⟩ => ⟨S4x2048x1024, .f32⟩
  | .hbm, ⟨63, _⟩ => ⟨S4x2048x1024, .f32⟩
  | .hbm, ⟨64, _⟩ => ⟨S4x2048x1, .f32⟩
  | .hbm, ⟨65, _⟩ => ⟨S_, .f32⟩
  | .hbm, ⟨66, _⟩ => ⟨S4x2048x1, .f32⟩
  | .hbm, ⟨67, _⟩ => ⟨S4x2048x1, .f32⟩
  | .hbm, ⟨68, _⟩ => ⟨S_, .f32⟩
  | .hbm, ⟨69, _⟩ => ⟨S4x2048, .f32⟩
  | .hbm, ⟨70, _⟩ => ⟨S4x2048x1024, .f32⟩
  | .hbm, ⟨71, _⟩ => ⟨S4x2048x1024, .f32⟩
  | .hbm, ⟨72, _⟩ => ⟨S4x2048x1024, .f32⟩
  | .hbm, ⟨73, _⟩ => ⟨S4x2048x1024, .f32⟩
  | .hbm, ⟨74, _⟩ => ⟨S4x2048x1024, .f32⟩
  | .hbm, ⟨75, _⟩ => ⟨S4x2048x1024, .f32⟩
  | .hbm, ⟨76, _⟩ => ⟨S4x2048x1024, .f32⟩
  | .hbm, ⟨77, _⟩ => ⟨S4x2048x1024, .f32⟩
  | .hbm, ⟨78, _⟩ => ⟨S4x2048x1024, .f32⟩
  | .hbm, ⟨79, _⟩ => ⟨S_, .f32⟩
  | .hbm, ⟨80, _⟩ => ⟨S4x1024, .f32⟩
  | .hbm, ⟨81, _⟩ => ⟨S4x1x1024, .f32⟩
  | .hbm, ⟨82, _⟩ => ⟨S4x2048x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_cst_10 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_11 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩

abbrev nD : Nat := 1
abbrev τ : Topo := Topo.v7x

variable {F : FTy → Type} [FloatOps F]
-- ==== CtxNormBwd.lean ====
abbrev S4x256x1024 : Shape := ⟨3, ![4, 256, 1024]⟩
abbrev S4x1x1024 : Shape := ⟨3, ![4, 1, 1024]⟩
abbrev S1x1024 : Shape := ⟨2, ![1, 1024]⟩
abbrev S1x256x1024 : Shape := ⟨3, ![1, 256, 1024]⟩
abbrev S1x1x1024 : Shape := ⟨3, ![1, 1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 14
  | .vmem => 26
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x1x1024, .f32⟩
  | .hbm, ⟨3, _⟩ => ⟨S1x1024, .f32⟩
  | .hbm, ⟨4, _⟩ => ⟨S4x1x1024, .f32⟩
  | .hbm, ⟨5, _⟩ => ⟨S4x1x1024, .f32⟩
  | .hbm, ⟨6, _⟩ => ⟨S4x256x1024, .f32⟩
  | .hbm, ⟨7, _⟩ => ⟨S4x256x1024, .f32⟩
  | .hbm, ⟨8, _⟩ => ⟨S4x256x1024, .f32⟩
  | .hbm, ⟨9, _⟩ => ⟨S4x256x1024, .bf16⟩
  | .hbm, ⟨10, _⟩ => ⟨S4x1x1024, .f32⟩
  | .hbm, ⟨11, _⟩ => ⟨S1x1024, .f32⟩
  | .hbm, ⟨12, _⟩ => ⟨S4x1x1024, .f32⟩
  | .hbm, ⟨13, _⟩ => ⟨S4x1x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .bf16⟩
  | .local _ .vmem, ⟨18, _⟩ => ⟨S1x256x1024, .bf16⟩
  | .local _ .vmem, ⟨19, _⟩ => ⟨S1x1x1024, .f32⟩
  | .local _ .vmem, ⟨20, _⟩ => ⟨S1x1x1024, .f32⟩
  | .local _ .vmem, ⟨21, _⟩ => ⟨S1x1024, .f32⟩
  | .local _ .vmem, ⟨22, _⟩ => ⟨S1x1x1024, .f32⟩
  | .local _ .vmem, ⟨23, _⟩ => ⟨S1x1x1024, .f32⟩
  | .local _ .vmem, ⟨24, _⟩ => ⟨S1x1x1024, .f32⟩
  | .local _ .vmem, ⟨25, _⟩ => ⟨S1x1x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg1 : BitVec 32 := BitVec.ofNat 32 (i 1).val
  let c0_i32 : BitVec 32 := 0#32
  let v75 : BitVec 1 := Scalar.cmpi .eq arg1 c0_i32
  let v76 : BitVec 32 := Scalar.extui v75
  let c0_i32_36 : BitVec 32 := 0#32
  let v77 : BitVec 1 := Scalar.cmpi .ne v76 c0_i32_36
  v77

def k0_cond2 (i : grid0.Coords) : BitVec 1 :=
  let arg1 : BitVec 32 := BitVec.ofNat 32 (i 1).val
  let c0_i32 : BitVec 32 := 0#32
  let v75 : BitVec 1 := Scalar.cmpi .eq arg1 c0_i32
  let v_true : BitVec 1 := 1#1
  let v78 : BitVec 1 := Scalar.xori v75 v_true
  let v79 : BitVec 32 := Scalar.extui v78
  let c0_i32_37 : BitVec 32 := 0#32
  let v80 : BitVec 1 := Scalar.cmpi .ne v79 c0_i32_37
  v80

def k0_cond3 (i : grid0.Coords) : BitVec 1 :=
  let arg1 : BitVec 32 := BitVec.ofNat 32 (i 1).val
  let c0_i32_38 : BitVec 32 := 0#32
  let v81 : BitVec 1 := Scalar.cmpi .eq arg1 c0_i32_38
  let arg0 : BitVec 32 := BitVec.ofNat 32 (i 0).val
  let c0_i32_39 : BitVec 32 := 0#32
  let v82 : BitVec 1 := Scalar.cmpi .eq arg0 c0_i32_39
  let v83 : BitVec 1 := Scalar.andi v81 v82
  let v84 : BitVec 32 := Scalar.extui v83
  let c0_i32_40 : BitVec 32 := 0#32
  let v85 : BitVec 1 := Scalar.cmpi .ne v84 c0_i32_40
  v85

def k0_cond4 (i : grid0.Coords) : BitVec 1 :=
  let arg1 : BitVec 32 := BitVec.ofNat 32 (i 1).val
  let c0_i32_38 : BitVec 32 := 0#32
  let v81 : BitVec 1 := Scalar.cmpi .eq arg1 c0_i32_38
  let arg0 : BitVec 32 := BitVec.ofNat 32 (i 0).val
  let c0_i32_39 : BitVec 32 := 0#32
  let v82 : BitVec 1 := Scalar.cmpi .eq arg0 c0_i32_39
  let v83 : BitVec 1 := Scalar.andi v81 v82
  let true_41 : BitVec 1 := 1#1
  let v86 : BitVec 1 := Scalar.xori v83 true_41
  let v87 : BitVec 32 := Scalar.extui v86
  let c0_i32_42 : BitVec 32 := 0#32
  let v88 : BitVec 1 := Scalar.cmpi .ne v87 c0_i32_42
  v88

def k0_cond5 (i : grid0.Coords) : BitVec 1 :=
  let arg1 : BitVec 32 := BitVec.ofNat 32 (i 1).val
  let c0_i32_43 : BitVec 32 := 0#32
  let v89 : BitVec 1 := Scalar.cmpi .eq arg1 c0_i32_43
  let v90 : BitVec 32 := Scalar.extui v89
  let c0_i32_44 : BitVec 32 := 0#32
  let v91 : BitVec 1 := Scalar.cmpi .ne v90 c0_i32_44
  v91

def k0_cond6 (i : grid0.Coords) : BitVec 1 :=
  let arg1 : BitVec 32 := BitVec.ofNat 32 (i 1).val
  let c0_i32_43 : BitVec 32 := 0#32
  let v89 : BitVec 1 := Scalar.cmpi .eq arg1 c0_i32_43
  let true_45 : BitVec 1 := 1#1
  let v92 : BitVec 1 := Scalar.xori v89 true_45
  let v93 : BitVec 32 := Scalar.extui v92
  let c0_i32_46 : BitVec 32 := 0#32
  let v94 : BitVec 1 := Scalar.cmpi .ne v93 c0_i32_46
  v94

def k0_cond7 (i : grid0.Coords) : BitVec 1 :=
  let arg1 : BitVec 32 := BitVec.ofNat 32 (i 1).val
  let c0_i32_47 : BitVec 32 := 0#32
  let v95 : BitVec 1 := Scalar.cmpi .eq arg1 c0_i32_47
  let v96 : BitVec 32 := Scalar.extui v95
  let c0_i32_48 : BitVec 32 := 0#32
  let v97 : BitVec 1 := Scalar.cmpi .ne v96 c0_i32_48
  v97

def k0_cond8 (i : grid0.Coords) : BitVec 1 :=
  let arg1 : BitVec 32 := BitVec.ofNat 32 (i 1).val
  let c0_i32_47 : BitVec 32 := 0#32
  let v95 : BitVec 1 := Scalar.cmpi .eq arg1 c0_i32_47
  let true_49 : BitVec 1 := 1#1
  let v98 : BitVec 1 := Scalar.xori v95 true_49
  let v99 : BitVec 32 := Scalar.extui v98
  let c0_i32_50 : BitVec 32 := 0#32
  let v100 : BitVec 1 := Scalar.cmpi .ne v99 c0_i32_50
  v100

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== CtxNormBwdRefIdeal.lean ====
abbrev S4x256x1024 : Shape := ⟨3, ![4, 256, 1024]⟩
abbrev S4x1x1024 : Shape := ⟨3, ![4, 1, 1024]⟩
abbrev S1x1024 : Shape := ⟨2, ![1, 1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S4x1024 : Shape := ⟨2, ![4, 1024]⟩
abbrev S1024 : Shape := ⟨1, ![1024]⟩

abbrev nBuf : Space → Nat
  | .hbm => 83
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x1x1024, .f32⟩
  | .hbm, ⟨3, _⟩ => ⟨S1x1024, .f32⟩
  | .hbm, ⟨4, _⟩ => ⟨S4x1x1024, .f32⟩
  | .hbm, ⟨5, _⟩ => ⟨S4x1x1024, .f32⟩
  | .hbm, ⟨6, _⟩ => ⟨S4x256x1024, .f32⟩
  | .hbm, ⟨7, _⟩ => ⟨S4x256x1024, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .hbm, ⟨11, _⟩ => ⟨S4x256x1024, .f32⟩
  | .hbm, ⟨12, _⟩ => ⟨S_, .f32⟩
  | .hbm, ⟨13, _⟩ => ⟨S4x256, .f32⟩
  | .hbm, ⟨14, _⟩ => ⟨S4x256x1, .f32⟩
  | .hbm, ⟨15, _⟩ => ⟨S_, .f32⟩
  | .hbm, ⟨16, _⟩ => ⟨S4x256x1, .f32⟩
  | .hbm, ⟨17, _⟩ => ⟨S4x256x1, .f32⟩
  | .hbm, ⟨18, _⟩ => ⟨S_, .f32⟩
  | .hbm, ⟨19, _⟩ => ⟨S4x256x1, .f32⟩
  | .hbm, ⟨20, _⟩ => ⟨S4x256x1, .f32⟩
  | .hbm, ⟨21, _⟩ => ⟨S4x256x1, .f32⟩
  | .hbm, ⟨22, _⟩ => ⟨S4x256x1, .f32⟩
  | .hbm, ⟨23, _⟩ => ⟨S_, .f32⟩
  | .hbm, ⟨24, _⟩ => ⟨S4x256x1, .f32⟩
  | .hbm, ⟨25, _⟩ => ⟨S4x256x1, .f32⟩
  | .hbm, ⟨26, _⟩ => ⟨S4x256x1024, .f32⟩
  | .hbm, ⟨27, _⟩ => ⟨S4x256x1024, .f32⟩
  | .hbm, ⟨28, _⟩ => ⟨S1x1x1024, .f32⟩
  | .hbm, ⟨29, _⟩ => ⟨S4x256x1024, .f32⟩
  | .hbm, ⟨30, _⟩ => ⟨S4x256x1024, .f32⟩
  | .hbm, ⟨31, _⟩ => ⟨S_, .f32⟩
  | .hbm, ⟨32, _⟩ => ⟨S4x1x1024, .f32⟩
  | .hbm, ⟨33, _⟩ => ⟨S4x1x1024, .f32⟩
  | .hbm, ⟨34, _⟩ => ⟨S4x256x1024, .f32⟩
  | .hbm, ⟨35, _⟩ => ⟨S4x256x1024, .f32⟩
  | .hbm, ⟨36, _⟩ => ⟨S4x256x1024, .f32⟩
  | .hbm, ⟨37, _⟩ => ⟨S4x256x1024, .f32⟩
  | .hbm, ⟨38, _⟩ => ⟨S4x256x1024, .f32⟩
  | .hbm, ⟨39, _⟩ => ⟨S_, .f32⟩
  | .hbm, ⟨40, _⟩ => ⟨S4x1024, .f32⟩
  | .hbm, ⟨41, _⟩ => ⟨S4x1x1024, .f32⟩
  | .hbm, ⟨42, _⟩ => ⟨S4x256x1024, .f32⟩
  | .hbm, ⟨43, _⟩ => ⟨S_, .f32⟩
  | .hbm, ⟨44, _⟩ => ⟨S4x1024, .f32⟩
  | .hbm, ⟨45, _⟩ => ⟨S4x1x1024, .f32⟩
  | .hbm, ⟨46, _⟩ => ⟨S4x256x1024, .f32⟩
  | .hbm, ⟨47, _⟩ => ⟨S4x256x1024, .f32⟩
  | .hbm, ⟨48, _⟩ => ⟨S4x256x1024, .f32⟩
  | .hbm, ⟨49, _⟩ => ⟨S_, .f32⟩
  | .hbm, ⟨50, _⟩ => ⟨S1024, .f32⟩
  | .hbm, ⟨51, _⟩ => ⟨S1x1x1024, .f32⟩
  | .hbm, ⟨52, _⟩ => ⟨S4x256x1024, .f32⟩
  | .hbm, ⟨53, _⟩ => ⟨S4x256x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S4x256x1024, .f32⟩
  | .hbm, ⟨58, _⟩ => ⟨S_, .f32⟩
  | .hbm, ⟨59, _⟩ => ⟨S4x256, .f32⟩
  | .hbm, ⟨60, _⟩ => ⟨S4x256x1, .f32⟩
  | .hbm, ⟨61, _⟩ => ⟨S4x256x1024, .f32⟩
  | .hbm, ⟨62, _⟩ => ⟨S4x256x1024, .f32⟩
  | .hbm, ⟨63, _⟩ => ⟨S4x256x1024, .f32⟩
  | .hbm, ⟨64, _⟩ => ⟨S4x256x1, .f32⟩
  | .hbm, ⟨65, _⟩ => ⟨S_, .f32⟩
  | .hbm, ⟨66, _⟩ => ⟨S4x256x1, .f32⟩
  | .hbm, ⟨67, _⟩ => ⟨S4x256x1, .f32⟩
  | .hbm, ⟨68, _⟩ => ⟨S_, .f32⟩
  | .hbm, ⟨69, _⟩ => ⟨S4x256, .f32⟩
  | .hbm, ⟨70, _⟩ => ⟨S4x256x1024, .f32⟩
  | .hbm, ⟨71, _⟩ => ⟨S4x256x1024, .f32⟩
  | .hbm, ⟨72, _⟩ => ⟨S4x256x1024, .f32⟩
  | .hbm, ⟨73, _⟩ => ⟨S4x256x1024, .f32⟩
  | .hbm, ⟨74, _⟩ => ⟨S4x256x1024, .f32⟩
  | .hbm, ⟨75, _⟩ => ⟨S4x256x1024, .f32⟩
  | .hbm, ⟨76, _⟩ => ⟨S4x256x1024, .f32⟩
  | .hbm, ⟨77, _⟩ => ⟨S4x256x1024, .f32⟩
  | .hbm, ⟨78, _⟩ => ⟨S4x256x1024, .f32⟩
  | .hbm, ⟨79, _⟩ => ⟨S_, .f32⟩
  | .hbm, ⟨80, _⟩ => ⟨S4x1024, .f32⟩
  | .hbm, ⟨81, _⟩ => ⟨S4x1x1024, .f32⟩
  | .hbm, ⟨82, _⟩ => ⟨S4x256x1024, .bf16⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_cst_10 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_11 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩

abbrev nD : Nat := 1
abbrev τ : Topo := Topo.v7x

variable {F : FTy → Type} [FloatOps F]
-- ==== NormFirstBwd.lean ====
abbrev S4x2048x1024 : Shape := ⟨3, ![4, 2048, 1024]⟩
abbrev S1x1024 : Shape := ⟨2, ![1, 1024]⟩
abbrev S4x1x1024 : Shape := ⟨3, ![4, 1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 18
  | .smem => 0
  | _ => 0

abbrev bufTy : (tb : Table) → Fin (tcTables nBuf tb) → BufTy
  | .hbm, ⟨0, _⟩ => ⟨S4x2048x1024, .f32⟩
  | .hbm, ⟨1, _⟩ => ⟨S1x1024, .f32⟩
  | .hbm, ⟨2, _⟩ => ⟨S4x1x1024, .f32⟩
  | .hbm, ⟨3, _⟩ => ⟨S4x1x1024, .f32⟩
  | .hbm, ⟨4, _⟩ => ⟨S4x2048x1024, .f32⟩
  | .hbm, ⟨5, _⟩ => ⟨S4x2048x1024, .f32⟩
  | .hbm, ⟨6, _⟩ => ⟨S4x2048x1024, .f32⟩
  | .hbm, ⟨7, _⟩ => ⟨S1x1024, .f32⟩
  | .hbm, ⟨8, _⟩ => ⟨S4x1x1024, .f32⟩
  | .hbm, ⟨9, _⟩ => ⟨S4x1x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v58 : BitVec 1 := Scalar.cmpi .eq arg1 c0_i32
  let arg0 : BitVec 32 := BitVec.ofNat 32 (i 0).val
  let c0_i32_26 : BitVec 32 := 0#32
  let v59 : BitVec 1 := Scalar.cmpi .eq arg0 c0_i32_26
  let v60 : BitVec 1 := Scalar.andi v58 v59
  let v61 : BitVec 32 := Scalar.extui v60
  let c0_i32_27 : BitVec 32 := 0#32
  let v62 : BitVec 1 := Scalar.cmpi .ne v61 c0_i32_27
  v62

def k0_cond2 (i : grid0.Coords) : BitVec 1 :=
  let arg1 : BitVec 32 := BitVec.ofNat 32 (i 1).val
  let c0_i32 : BitVec 32 := 0#32
  let v58 : BitVec 1 := Scalar.cmpi .eq arg1 c0_i32
  let arg0 : BitVec 32 := BitVec.ofNat 32 (i 0).val
  let c0_i32_26 : BitVec 32 := 0#32
  let v59 : BitVec 1 := Scalar.cmpi .eq arg0 c0_i32_26
  let v60 : BitVec 1 := Scalar.andi v58 v59
  let v_true : BitVec 1 := 1#1
  let v63 : BitVec 1 := Scalar.xori v60 v_true
  let v64 : BitVec 32 := Scalar.extui v63
  let c0_i32_28 : BitVec 32 := 0#32
  let v65 : BitVec 1 := Scalar.cmpi .ne v64 c0_i32_28
  v65

def k0_cond3 (i : grid0.Coords) : BitVec 1 :=
  let arg1 : BitVec 32 := BitVec.ofNat 32 (i 1).val
  let c0_i32_29 : BitVec 32 := 0#32
  let v66 : BitVec 1 := Scalar.cmpi .eq arg1 c0_i32_29
  let v67 : BitVec 32 := Scalar.extui v66
  let c0_i32_30 : BitVec 32 := 0#32
  let v68 : BitVec 1 := Scalar.cmpi .ne v67 c0_i32_30
  v68

def k0_cond4 (i : grid0.Coords) : BitVec 1 :=
  let arg1 : BitVec 32 := BitVec.ofNat 32 (i 1).val
  let c0_i32_29 : BitVec 32 := 0#32
  let v66 : BitVec 1 := Scalar.cmpi .eq arg1 c0_i32_29
  let true_31 : BitVec 1 := 1#1
  let v69 : BitVec 1 := Scalar.xori v66 true_31
  let v70 : BitVec 32 := Scalar.extui v69
  let c0_i32_32 : BitVec 32 := 0#32
  let v71 : BitVec 1 := Scalar.cmpi .ne v70 c0_i32_32
  v71

def k0_cond5 (i : grid0.Coords) : BitVec 1 :=
  let arg1 : BitVec 32 := BitVec.ofNat 32 (i 1).val
  let c0_i32_33 : BitVec 32 := 0#32
  let v72 : BitVec 1 := Scalar.cmpi .eq arg1 c0_i32_33
  let v73 : BitVec 32 := Scalar.extui v72
  let c0_i32_34 : BitVec 32 := 0#32
  let v74 : BitVec 1 := Scalar.cmpi .ne v73 c0_i32_34
  v74

def k0_cond6 (i : grid0.Coords) : BitVec 1 :=
  let arg1 : BitVec 32 := BitVec.ofNat 32 (i 1).val
  let c0_i32_33 : BitVec 32 := 0#32
  let v72 : BitVec 1 := Scalar.cmpi .eq arg1 c0_i32_33
  let true_35 : BitVec 1 := 1#1
  let v75 : BitVec 1 := Scalar.xori v72 true_35
  let v76 : BitVec 32 := Scalar.extui v75
  let c0_i32_36 : BitVec 32 := 0#32
  let v77 : BitVec 1 := Scalar.cmpi .ne v76 c0_i32_36
  v77

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== NormFirstBwdRefIdeal.lean ====
abbrev S4x2048x1024 : Shape := ⟨3, ![4, 2048, 1024]⟩
abbrev S1x1024 : Shape := ⟨2, ![1, 1024]⟩
abbrev S4x1x1024 : Shape := ⟨3, ![4, 1, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x1024 : Shape := ⟨2, ![4, 1024]⟩
abbrev S1024 : Shape := ⟨1, ![1024]⟩

abbrev nBuf : Space → Nat
  | .hbm => 70
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1x1024, .f32⟩
  | .hbm, ⟨2, _⟩ => ⟨S4x1x1024, .f32⟩
  | .hbm, ⟨3, _⟩ => ⟨S4x1x1024, .f32⟩
  | .hbm, ⟨4, _⟩ => ⟨S4x2048x1024, .f32⟩
  | .hbm, ⟨5, _⟩ => ⟨S4x2048x1024, .f32⟩
  | .hbm, ⟨6, _⟩ => ⟨S4x2048x1024, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S4x2048x1024, .f32⟩
  | .hbm, ⟨22, _⟩ => ⟨S4x2048x1024, .f32⟩
  | .hbm, ⟨23, _⟩ => ⟨S1x1x1024, .f32⟩
  | .hbm, ⟨24, _⟩ => ⟨S4x2048x1024, .f32⟩
  | .hbm, ⟨25, _⟩ => ⟨S4x2048x1024, .f32⟩
  | .hbm, ⟨26, _⟩ => ⟨S_, .f32⟩
  | .hbm, ⟨27, _⟩ => ⟨S4x1x1024, .f32⟩
  | .hbm, ⟨28, _⟩ => ⟨S4x1x1024, .f32⟩
  | .hbm, ⟨29, _⟩ => ⟨S4x2048x1024, .f32⟩
  | .hbm, ⟨30, _⟩ => ⟨S4x2048x1024, .f32⟩
  | .hbm, ⟨31, _⟩ => ⟨S4x2048x1024, .f32⟩
  | .hbm, ⟨32, _⟩ => ⟨S4x2048x1024, .f32⟩
  | .hbm, ⟨33, _⟩ => ⟨S4x2048x1024, .f32⟩
  | .hbm, ⟨34, _⟩ => ⟨S_, .f32⟩
  | .hbm, ⟨35, _⟩ => ⟨S4x1024, .f32⟩
  | .hbm, ⟨36, _⟩ => ⟨S4x1x1024, .f32⟩
  | .hbm, ⟨37, _⟩ => ⟨S4x2048x1024, .f32⟩
  | .hbm, ⟨38, _⟩ => ⟨S_, .f32⟩
  | .hbm, ⟨39, _⟩ => ⟨S4x1024, .f32⟩
  | .hbm, ⟨40, _⟩ => ⟨S4x1x1024, .f32⟩
  | .hbm, ⟨41, _⟩ => ⟨S4x2048x1024, .f32⟩
  | .hbm, ⟨42, _⟩ => ⟨S4x2048x1024, .f32⟩
  | .hbm, ⟨43, _⟩ => ⟨S4x2048x1024, .f32⟩
  | .hbm, ⟨44, _⟩ => ⟨S_, .f32⟩
  | .hbm, ⟨45, _⟩ => ⟨S1024, .f32⟩
  | .hbm, ⟨46, _⟩ => ⟨S1x1x1024, .f32⟩
  | .hbm, ⟨47, _⟩ => ⟨S4x2048x1024, .f32⟩
  | .hbm, ⟨48, _⟩ => ⟨S4x2048x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S4x2048x1024, .f32⟩
  | .hbm, ⟨53, _⟩ => ⟨S_, .f32⟩
  | .hbm, ⟨54, _⟩ => ⟨S4x2048, .f32⟩
  | .hbm, ⟨55, _⟩ => ⟨S4x2048x1, .f32⟩
  | .hbm, ⟨56, _⟩ => ⟨S4x2048x1024, .f32⟩
  | .hbm, ⟨57, _⟩ => ⟨S4x2048x1024, .f32⟩
  | .hbm, ⟨58, _⟩ => ⟨S4x2048x1024, .f32⟩
  | .hbm, ⟨59, _⟩ => ⟨S4x2048x1, .f32⟩
  | .hbm, ⟨60, _⟩ => ⟨S_, .f32⟩
  | .hbm, ⟨61, _⟩ => ⟨S4x2048x1, .f32⟩
  | .hbm, ⟨62, _⟩ => ⟨S4x2048x1, .f32⟩
  | .hbm, ⟨63, _⟩ => ⟨S_, .f32⟩
  | .hbm, ⟨64, _⟩ => ⟨S4x2048, .f32⟩
  | .hbm, ⟨65, _⟩ => ⟨S4x2048x1024, .f32⟩
  | .hbm, ⟨66, _⟩ => ⟨S4x2048x1024, .f32⟩
  | .hbm, ⟨67, _⟩ => ⟨S4x2048x1024, .f32⟩
  | .hbm, ⟨68, _⟩ => ⟨S4x2048x1024, .f32⟩
  | .hbm, ⟨69, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== CtxNormFirstBwd.lean ====
abbrev S4x256x1024 : Shape := ⟨3, ![4, 256, 1024]⟩
abbrev S1x1024 : Shape := ⟨2, ![1, 1024]⟩
abbrev S4x1x1024 : Shape := ⟨3, ![4, 1, 1024]⟩
abbrev S1x256x1024 : Shape := ⟨3, ![1, 256, 1024]⟩
abbrev S1x1x1024 : Shape := ⟨3, ![1, 1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 10
  | .vmem => 18
  | .smem => 0
  | _ => 0

abbrev bufTy : (tb : Table) → Fin (tcTables nBuf tb) → BufTy
  | .hbm, ⟨0, _⟩ => ⟨S4x256x1024, .f32⟩
  | .hbm, ⟨1, _⟩ => ⟨S1x1024, .f32⟩
  | .hbm, ⟨2, _⟩ => ⟨S4x1x1024, .f32⟩
  | .hbm, ⟨3, _⟩ => ⟨S4x1x1024, .f32⟩
  | .hbm, ⟨4, _⟩ => ⟨S4x256x1024, .f32⟩
  | .hbm, ⟨5, _⟩ => ⟨S4x256x1024, .f32⟩
  | .hbm, ⟨6, _⟩ => ⟨S4x256x1024, .f32⟩
  | .hbm, ⟨7, _⟩ => ⟨S1x1024, .f32⟩
  | .hbm, ⟨8, _⟩ => ⟨S4x1x1024, .f32⟩
  | .hbm, ⟨9, _⟩ => ⟨S4x1x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg1 : BitVec 32 := BitVec.ofNat 32 (i 1).val
  let c0_i32 : BitVec 32 := 0#32
  let v58 : BitVec 1 := Scalar.cmpi .eq arg1 c0_i32
  let arg0 : BitVec 32 := BitVec.ofNat 32 (i 0).val
  let c0_i32_26 : BitVec 32 := 0#32
  let v59 : BitVec 1 := Scalar.cmpi .eq arg0 c0_i32_26
  let v60 : BitVec 1 := Scalar.andi v58 v59
  let v61 : BitVec 32 := Scalar.extui v60
  let c0_i32_27 : BitVec 32 := 0#32
  let v62 : BitVec 1 := Scalar.cmpi .ne v61 c0_i32_27
  v62

def k0_cond2 (i : grid0.Coords) : BitVec 1 :=
  let arg1 : BitVec 32 := BitVec.ofNat 32 (i 1).val
  let c0_i32 : BitVec 32 := 0#32
  let v58 : BitVec 1 := Scalar.cmpi .eq arg1 c0_i32
  let arg0 : BitVec 32 := BitVec.ofNat 32 (i 0).val
  let c0_i32_26 : BitVec 32 := 0#32
  let v59 : BitVec 1 := Scalar.cmpi .eq arg0 c0_i32_26
  let v60 : BitVec 1 := Scalar.andi v58 v59
  let v_true : BitVec 1 := 1#1
  let v63 : BitVec 1 := Scalar.xori v60 v_true
  let v64 : BitVec 32 := Scalar.extui v63
  let c0_i32_28 : BitVec 32 := 0#32
  let v65 : BitVec 1 := Scalar.cmpi .ne v64 c0_i32_28
  v65

def k0_cond3 (i : grid0.Coords) : BitVec 1 :=
  let arg1 : BitVec 32 := BitVec.ofNat 32 (i 1).val
  let c0_i32_29 : BitVec 32 := 0#32
  let v66 : BitVec 1 := Scalar.cmpi .eq arg1 c0_i32_29
  let v67 : BitVec 32 := Scalar.extui v66
  let c0_i32_30 : BitVec 32 := 0#32
  let v68 : BitVec 1 := Scalar.cmpi .ne v67 c0_i32_30
  v68

def k0_cond4 (i : grid0.Coords) : BitVec 1 :=
  let arg1 : BitVec 32 := BitVec.ofNat 32 (i 1).val
  let c0_i32_29 : BitVec 32 := 0#32
  let v66 : BitVec 1 := Scalar.cmpi .eq arg1 c0_i32_29
  let true_31 : BitVec 1 := 1#1
  let v69 : BitVec 1 := Scalar.xori v66 true_31
  let v70 : BitVec 32 := Scalar.extui v69
  let c0_i32_32 : BitVec 32 := 0#32
  let v71 : BitVec 1 := Scalar.cmpi .ne v70 c0_i32_32
  v71

def k0_cond5 (i : grid0.Coords) : BitVec 1 :=
  let arg1 : BitVec 32 := BitVec.ofNat 32 (i 1).val
  let c0_i32_33 : BitVec 32 := 0#32
  let v72 : BitVec 1 := Scalar.cmpi .eq arg1 c0_i32_33
  let v73 : BitVec 32 := Scalar.extui v72
  let c0_i32_34 : BitVec 32 := 0#32
  let v74 : BitVec 1 := Scalar.cmpi .ne v73 c0_i32_34
  v74

def k0_cond6 (i : grid0.Coords) : BitVec 1 :=
  let arg1 : BitVec 32 := BitVec.ofNat 32 (i 1).val
  let c0_i32_33 : BitVec 32 := 0#32
  let v72 : BitVec 1 := Scalar.cmpi .eq arg1 c0_i32_33
  let true_35 : BitVec 1 := 1#1
  let v75 : BitVec 1 := Scalar.xori v72 true_35
  let v76 : BitVec 32 := Scalar.extui v75
  let c0_i32_36 : BitVec 32 := 0#32
  let v77 : BitVec 1 := Scalar.cmpi .ne v76 c0_i32_36
  v77

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== CtxNormFirstBwdRefIdeal.lean ====
abbrev S4x256x1024 : Shape := ⟨3, ![4, 256, 1024]⟩
abbrev S1x1024 : Shape := ⟨2, ![1, 1024]⟩
abbrev S4x1x1024 : Shape := ⟨3, ![4, 1, 1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S4x1024 : Shape := ⟨2, ![4, 1024]⟩
abbrev S1024 : Shape := ⟨1, ![1024]⟩

abbrev nBuf : Space → Nat
  | .hbm => 70
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1x1024, .f32⟩
  | .hbm, ⟨2, _⟩ => ⟨S4x1x1024, .f32⟩
  | .hbm, ⟨3, _⟩ => ⟨S4x1x1024, .f32⟩
  | .hbm, ⟨4, _⟩ => ⟨S4x256x1024, .f32⟩
  | .hbm, ⟨5, _⟩ => ⟨S4x256x1024, .f32⟩
  | .hbm, ⟨6, _⟩ => ⟨S4x256x1024, .f32⟩
  | .hbm, ⟨7, _⟩ => ⟨S_, .f32⟩
  | .hbm, ⟨8, _⟩ => ⟨S4x256, .f32⟩
  | .hbm, ⟨9, _⟩ => ⟨S4x256x1, .f32⟩
  | .hbm, ⟨10, _⟩ => ⟨S_, .f32⟩
  | .hbm, ⟨11, _⟩ => ⟨S4x256x1, .f32⟩
  | .hbm, ⟨12, _⟩ => ⟨S4x256x1, .f32⟩
  | .hbm, ⟨13, _⟩ => ⟨S_, .f32⟩
  | .hbm, ⟨14, _⟩ => ⟨S4x256x1, .f32⟩
  | .hbm, ⟨15, _⟩ => ⟨S4x256x1, .f32⟩
  | .hbm, ⟨16, _⟩ => ⟨S4x256x1, .f32⟩
  | .hbm, ⟨17, _⟩ => ⟨S4x256x1, .f32⟩
  | .hbm, ⟨18, _⟩ => ⟨S_, .f32⟩
  | .hbm, ⟨19, _⟩ => ⟨S4x256x1, .f32⟩
  | .hbm, ⟨20, _⟩ => ⟨S4x256x1, .f32⟩
  | .hbm, ⟨21, _⟩ => ⟨S4x256x1024, .f32⟩
  | .hbm, ⟨22, _⟩ => ⟨S4x256x1024, .f32⟩
  | .hbm, ⟨23, _⟩ => ⟨S1x1x1024, .f32⟩
  | .hbm, ⟨24, _⟩ => ⟨S4x256x1024, .f32⟩
  | .hbm, ⟨25, _⟩ => ⟨S4x256x1024, .f32⟩
  | .hbm, ⟨26, _⟩ => ⟨S_, .f32⟩
  | .hbm, ⟨27, _⟩ => ⟨S4x1x1024, .f32⟩
  | .hbm, ⟨28, _⟩ => ⟨S4x1x1024, .f32⟩
  | .hbm, ⟨29, _⟩ => ⟨S4x256x1024, .f32⟩
  | .hbm, ⟨30, _⟩ => ⟨S4x256x1024, .f32⟩
  | .hbm, ⟨31, _⟩ => ⟨S4x256x1024, .f32⟩
  | .hbm, ⟨32, _⟩ => ⟨S4x256x1024, .f32⟩
  | .hbm, ⟨33, _⟩ => ⟨S4x256x1024, .f32⟩
  | .hbm, ⟨34, _⟩ => ⟨S_, .f32⟩
  | .hbm, ⟨35, _⟩ => ⟨S4x1024, .f32⟩
  | .hbm, ⟨36, _⟩ => ⟨S4x1x1024, .f32⟩
  | .hbm, ⟨37, _⟩ => ⟨S4x256x1024, .f32⟩
  | .hbm, ⟨38, _⟩ => ⟨S_, .f32⟩
  | .hbm, ⟨39, _⟩ => ⟨S4x1024, .f32⟩
  | .hbm, ⟨40, _⟩ => ⟨S4x1x1024, .f32⟩
  | .hbm, ⟨41, _⟩ => ⟨S4x256x1024, .f32⟩
  | .hbm, ⟨42, _⟩ => ⟨S4x256x1024, .f32⟩
  | .hbm, ⟨43, _⟩ => ⟨S4x256x1024, .f32⟩
  | .hbm, ⟨44, _⟩ => ⟨S_, .f32⟩
  | .hbm, ⟨45, _⟩ => ⟨S1024, .f32⟩
  | .hbm, ⟨46, _⟩ => ⟨S1x1x1024, .f32⟩
  | .hbm, ⟨47, _⟩ => ⟨S4x256x1024, .f32⟩
  | .hbm, ⟨48, _⟩ => ⟨S4x256x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S4x256x1024, .f32⟩
  | .hbm, ⟨53, _⟩ => ⟨S_, .f32⟩
  | .hbm, ⟨54, _⟩ => ⟨S4x256, .f32⟩
  | .hbm, ⟨55, _⟩ => ⟨S4x256x1, .f32⟩
  | .hbm, ⟨56, _⟩ => ⟨S4x256x1024, .f32⟩
  | .hbm, ⟨57, _⟩ => ⟨S4x256x1024, .f32⟩
  | .hbm, ⟨58, _⟩ => ⟨S4x256x1024, .f32⟩
  | .hbm, ⟨59, _⟩ => ⟨S4x256x1, .f32⟩
  | .hbm, ⟨60, _⟩ => ⟨S_, .f32⟩
  | .hbm, ⟨61, _⟩ => ⟨S4x256x1, .f32⟩
  | .hbm, ⟨62, _⟩ => ⟨S4x256x1, .f32⟩
  | .hbm, ⟨63, _⟩ => ⟨S_, .f32⟩
  | .hbm, ⟨64, _⟩ => ⟨S4x256, .f32⟩
  | .hbm, ⟨65, _⟩ => ⟨S4x256x1024, .f32⟩
  | .hbm, ⟨66, _⟩ => ⟨S4x256x1024, .f32⟩
  | .hbm, ⟨67, _⟩ => ⟨S4x256x1024, .f32⟩
  | .hbm, ⟨68, _⟩ => ⟨S4x256x1024, .f32⟩
  | .hbm, ⟨69, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== ModBwd.lean ====
abbrev S48x1024 : Shape := ⟨2, ![48, 1024]⟩
abbrev S2x1024x768 : Shape := ⟨3, ![2, 1024, 768]⟩
abbrev S2x1x768 : Shape := ⟨3, ![2, 1, 768]⟩
abbrev S2x48x768 : Shape := ⟨3, ![2, 48, 768]⟩
abbrev S1x1024x768 : Shape := ⟨3, ![1, 1024, 768]⟩
abbrev S1x1x768 : Shape := ⟨3, ![1, 1, 768]⟩
abbrev S1x48x768 : Shape := ⟨3, ![1, 48, 768]⟩
abbrev S1024x768 : Shape := ⟨2, ![1024, 768]⟩
abbrev S48x768 : Shape := ⟨2, ![48, 768]⟩
abbrev S768x1024 : Shape := ⟨2, ![768, 1024]⟩

abbrev nBuf : Space → Nat
  | .hbm => 6
  | .vmem => 10
  | .smem => 0
  | _ => 0

abbrev bufTy : (tb : Table) → Fin (tcTables nBuf tb) → BufTy
  | .hbm, ⟨0, _⟩ => ⟨S48x1024, .f32⟩
  | .hbm, ⟨1, _⟩ => ⟨S2x1024x768, .f32⟩
  | .hbm, ⟨2, _⟩ => ⟨S2x1x768, .f32⟩
  | .hbm, ⟨3, _⟩ => ⟨S2x48x768, .f32⟩
  | .hbm, ⟨4, _⟩ => ⟨S48x1024, .f32⟩
  | .hbm, ⟨5, _⟩ => ⟨S2x1024x768, .f32⟩
  | .local _ .vmem, ⟨0, _⟩ => ⟨S48x1024, .f32⟩
  | .local _ .vmem, ⟨1, _⟩ => ⟨S1x1024x768, .f32⟩
  | .local _ .vmem, ⟨2, _⟩ => ⟨S1x1024x768, .f32⟩
  | .local _ .vmem, ⟨3, _⟩ => ⟨S1x1x768, .f32⟩
  | .local _ .vmem, ⟨4, _⟩ => ⟨S1x1x768, .f32⟩
  | .local _ .vmem, ⟨5, _⟩ => ⟨S1x48x768, .f32⟩
  | .local _ .vmem, ⟨6, _⟩ => ⟨S1x48x768, .f32⟩
  | .local _ .vmem, ⟨7, _⟩ => ⟨S48x1024, .f32⟩
  | .local _ .vmem, ⟨8, _⟩ => ⟨S1x1024x768, .f32⟩
  | .local _ .vmem, ⟨9, _⟩ => ⟨S1x1024x768, .f32⟩
  | _, _ => ⟨S48x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![2], ![false]⟩

def k0_cond1 (i : grid0.Coords) : BitVec 1 :=
  let arg0 : BitVec 32 := BitVec.ofNat 32 (i 0).val
  let c0_i32 : BitVec 32 := 0#32
  let v27 : BitVec 1 := Scalar.cmpi .eq arg0 c0_i32
  let v28 : BitVec 32 := Scalar.extui v27
  let c0_i32_12 : BitVec 32 := 0#32
  let v29 : BitVec 1 := Scalar.cmpi .ne v28 c0_i32_12
  v29

def k0_cond2 (i : grid0.Coords) : BitVec 1 :=
  let arg0 : BitVec 32 := BitVec.ofNat 32 (i 0).val
  let c0_i32_13 : BitVec 32 := 0#32
  let v30 : BitVec 1 := Scalar.cmpi .sgt arg0 c0_i32_13
  let v31 : BitVec 32 := Scalar.extui v30
  let c0_i32_14 : BitVec 32 := 0#32
  let v32 : BitVec 1 := Scalar.cmpi .ne v31 c0_i32_14
  v32

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S48x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x48x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S48x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1024x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ModBwdRefIdeal.lean ====
abbrev S48x1024 : Shape := ⟨2, ![48, 1024]⟩
abbrev S2x1024x768 : Shape := ⟨3, ![2, 1024, 768]⟩
abbrev S2x1x768 : Shape := ⟨3, ![2, 1, 768]⟩
abbrev S2x48x768 : Shape := ⟨3, ![2, 48, 768]⟩
abbrev S_ : Shape := ⟨0, ![]⟩
abbrev S1x1024x768 : Shape := ⟨3, ![1, 1024, 768]⟩
abbrev S1024x768 : Shape := ⟨2, ![1024, 768]⟩
abbrev S48x768 : Shape := ⟨2, ![48, 768]⟩
abbrev S1x1x768 : Shape := ⟨3, ![1, 1, 768]⟩
abbrev S1x768 : Shape := ⟨2, ![1, 768]⟩
abbrev S1x48x768 : Shape := ⟨3, ![1, 48, 768]⟩
abbrev S768x1024 : Shape := ⟨2, ![768, 1024]⟩

abbrev nBuf : Space → Nat
  | .hbm => 73
  | .vmem => 0
  | .smem => 0
  | _ => 0

abbrev bufTy : (tb : Table) → Fin (tcTables nBuf tb) → BufTy
  | .hbm, ⟨0, _⟩ => ⟨S48x1024, .f32⟩
  | .hbm, ⟨1, _⟩ => ⟨S2x1024x768, .f32⟩
  | .hbm, ⟨2, _⟩ => ⟨S2x1x768, .f32⟩
  | .hbm, ⟨3, _⟩ => ⟨S2x48x768, .f32⟩
  | .hbm, ⟨4, _⟩ => ⟨S48x1024, .f32⟩
  | .hbm, ⟨5, _⟩ => ⟨S48x1024, .f32⟩
  | .hbm, ⟨6, _⟩ => ⟨S_, .f32⟩
  | .hbm, ⟨7, _⟩ => ⟨S48x1024, .f32⟩
  | .hbm, ⟨8, _⟩ => ⟨S48x1024, .f32⟩
  | .hbm, ⟨9, _⟩ => ⟨S_, .f32⟩
  | .hbm, ⟨10, _⟩ => ⟨S48x1024, .f32⟩
  | .hbm, ⟨11, _⟩ => ⟨S48x1024, .f32⟩
  | .hbm, ⟨12, _⟩ => ⟨S_, .f32⟩
  | .hbm, ⟨13, _⟩ => ⟨S48x1024, .f32⟩
  | .hbm, ⟨14, _⟩ => ⟨S48x1024, .f32⟩
  | .hbm, ⟨15, _⟩ => ⟨S48x1024, .f32⟩
  | .hbm, ⟨16, _⟩ => ⟨S48x1024, .f32⟩
  | .hbm, ⟨17, _⟩ => ⟨S1x1024x768, .f32⟩
  | .hbm, ⟨18, _⟩ => ⟨S1024x768, .f32⟩
  | .hbm, ⟨19, _⟩ => ⟨S48x768, .f32⟩
  | .hbm, ⟨20, _⟩ => ⟨S1x1x768, .f32⟩
  | .hbm, ⟨21, _⟩ => ⟨S1x768, .f32⟩
  | .hbm, ⟨22, _⟩ => ⟨S48x768, .f32⟩
  | .hbm, ⟨23, _⟩ => ⟨S48x768, .f32⟩
  | .hbm, ⟨24, _⟩ => ⟨S48x1024, .f32⟩
  | .hbm, ⟨25, _⟩ => ⟨S48x1024, .f32⟩
  | .hbm, ⟨26, _⟩ => ⟨S_, .f32⟩
  | .hbm, ⟨27, _⟩ => ⟨S48x1024, .f32⟩
  | .hbm, ⟨28, _⟩ => ⟨S48x1024, .f32⟩
  | .hbm, ⟨29, _⟩ => ⟨S_, .f32⟩
  | .hbm, ⟨30, _⟩ => ⟨S48x1024, .f32⟩
  | .hbm, ⟨31, _⟩ => ⟨S48x1024, .f32⟩
  | .hbm, ⟨32, _⟩ => ⟨S_, .f32⟩
  | .hbm, ⟨33, _⟩ => ⟨S48x1024, .f32⟩
  | .hbm, ⟨34, _⟩ => ⟨S48x1024, .f32⟩
  | .hbm, ⟨35, _⟩ => ⟨S48x1024, .f32⟩
  | .hbm, ⟨36, _⟩ => ⟨S48x1024, .f32⟩
  | .hbm, ⟨37, _⟩ => ⟨S1x1024x768, .f32⟩
  | .hbm, ⟨38, _⟩ => ⟨S1024x768, .f32⟩
  | .hbm, ⟨39, _⟩ => ⟨S48x768, .f32⟩
  | .hbm, ⟨40, _⟩ => ⟨S1x1x768, .f32⟩
  | .hbm, ⟨41, _⟩ => ⟨S1x768, .f32⟩
  | .hbm, ⟨42, _⟩ => ⟨S48x768, .f32⟩
  | .hbm, ⟨43, _⟩ => ⟨S48x768, .f32⟩
  | .hbm, ⟨44, _⟩ => ⟨S1x48x768, .f32⟩
  | .hbm, ⟨45, _⟩ => ⟨S1x48x768, .f32⟩
  | .hbm, ⟨46, _⟩ => ⟨S2x48x768, .f32⟩
  | .hbm, ⟨47, _⟩ => ⟨S1x48x768, .f32⟩
  | .hbm, ⟨48, _⟩ => ⟨S48x768, .f32⟩
  | .hbm, ⟨49, _⟩ => ⟨S1x48x768, .f32⟩
  | .hbm, ⟨50, _⟩ => ⟨S48x768, .f32⟩
  | .hbm, ⟨51, _⟩ => ⟨S768x1024, .f32⟩
  | .hbm, ⟨52, _⟩ => ⟨S1024x768, .f32⟩
  | .hbm, ⟨53, _⟩ => ⟨S48x1024, .f32⟩
  | .hbm, ⟨54, _⟩ => ⟨S1x1024x768, .f32⟩
  | .hbm, ⟨55, _⟩ => ⟨S_, .f32⟩
  | .hbm, ⟨56, _⟩ => ⟨S2x1024x768, .f32⟩
  | .hbm, ⟨57, _⟩ => ⟨S48x1024, .f32⟩
  | .hbm, ⟨58, _⟩ => ⟨S48x1024, .f32⟩
  | .hbm, ⟨59, _⟩ => ⟨S48x1024, .f32⟩
  | .hbm, ⟨60, _⟩ => ⟨S48x1024, .f32⟩
  | .hbm, ⟨61, _⟩ => ⟨S768x1024, .f32⟩
  | .hbm, ⟨62, _⟩ => ⟨S1024x768, .f32⟩
  | .hbm, ⟨63, _⟩ => ⟨S48x1024, .f32⟩
  | .hbm, ⟨64, _⟩ => ⟨S1x1024x768, .f32⟩
  | .hbm, ⟨65, _⟩ => ⟨S_, .f32⟩
  | .hbm, ⟨66, _⟩ => ⟨S2x1024x768, .f32⟩
  | .hbm, ⟨67, _⟩ => ⟨S2x1024x768, .f32⟩
  | .hbm, ⟨68, _⟩ => ⟨S48x1024, .f32⟩
  | .hbm, ⟨69, _⟩ => ⟨S48x1024, .f32⟩
  | .hbm, ⟨70, _⟩ => ⟨S48x1024, .f32⟩
  | .hbm, ⟨71, _⟩ => ⟨S48x1024, .f32⟩
  | .hbm, ⟨72, _⟩ => ⟨S48x1024, .f32⟩
  | _, _ => ⟨S48x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call1_v0 : Ref sig .tc := ⟨.hbm, 24, rfl⟩
abbrev main_call1_v1 : Ref sig .tc := ⟨.hbm, 25, rfl⟩
abbrev main_call1_cst : Ref sig .tc := ⟨.hbm, 26, rfl⟩
abbrev main_call1_v2 : Ref sig .tc := ⟨.hbm, 27, rfl⟩
abbrev main_call1_v3 : Ref sig .tc := ⟨.hbm, 28, rfl⟩
abbrev main_call1_cst_0 : Ref sig .tc := ⟨.hbm, 29, rfl⟩
abbrev main_call1_v4 : Ref sig .tc := ⟨.hbm, 30, rfl⟩
abbrev main_v8_2 : Ref sig .tc := ⟨.hbm, 31, rfl⟩
abbrev main_call1_cst_1 : Ref sig .tc := ⟨.hbm, 32, rfl⟩
abbrev main_call1_v6 : Ref sig .tc := ⟨.hbm, 33, rfl⟩
abbrev main_call1_v7 : Ref sig .tc := ⟨.hbm, 34, rfl⟩
abbrev main_v8_1 : Ref sig .tc := ⟨.hbm, 35, rfl⟩
abbrev main_v8_0 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_cst : Ref sig .tc := ⟨.hbm, 55, rfl⟩
abbrev main_v27 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_cst_0 : Ref sig .tc := ⟨.hbm, 65, rfl⟩
abbrev main_v33 : Ref sig .tc := ⟨.hbm, 66, rfl⟩
abbrev main_v34 : Ref sig .tc := ⟨.hbm, 67, rfl⟩
abbrev main_call3_v0 : Ref sig .tc := ⟨.hbm, 68, rfl⟩
abbrev main_call3_v1 : Ref sig .tc := ⟨.hbm, 69, rfl⟩
abbrev main_call3_v2 : Ref sig .tc := ⟨.hbm, 70, rfl⟩
abbrev main_v35 : Ref sig .tc := ⟨.hbm, 71, rfl⟩
abbrev main_v36 : Ref sig .tc := ⟨.hbm, 72, rfl⟩

abbrev nD : Nat := 1
abbrev τ : Topo := Topo.v7x

variable {F : FTy → Type} [FloatOps F]
-- ==== Norm.lean ====
abbrev S4x2048x1024 : Shape := ⟨3, ![4, 2048, 1024]⟩
abbrev S4x1x1024 : Shape := ⟨3, ![4, 1, 1024]⟩
abbrev S1x1024 : Shape := ⟨2, ![1, 1024]⟩
abbrev S1024x8192 : Shape := ⟨2, ![1024, 8192]⟩
abbrev S1x512x1024 : Shape := ⟨3, ![1, 512, 1024]⟩
abbrev S1x1x1024 : Shape := ⟨3, ![1, 1, 1024]⟩
abbrev S1024x512 : Shape := ⟨2, ![1024, 512]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 17
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x1x1024, .f32⟩
  | .hbm, ⟨3, _⟩ => ⟨S1x1024, .f32⟩
  | .hbm, ⟨4, _⟩ => ⟨S4x1x1024, .f32⟩
  | .hbm, ⟨5, _⟩ => ⟨S4x1x1024, .f32⟩
  | .hbm, ⟨6, _⟩ => ⟨S4x2048x1024, .f32⟩
  | .hbm, ⟨7, _⟩ => ⟨S4x2048x1024, .bf16⟩
  | .hbm, ⟨8, _⟩ => ⟨S1024x8192, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .bf16⟩
  | .local _ .vmem, ⟨14, _⟩ => ⟨S1x512x1024, .bf16⟩
  | .local _ .vmem, ⟨15, _⟩ => ⟨S1024x512, .bf16⟩
  | .local _ .vmem, ⟨16, _⟩ => ⟨S1024x512, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== NormRefIdeal.lean ====
abbrev S4x2048x1024 : Shape := ⟨3, ![4, 2048, 1024]⟩
abbrev S4x1x1024 : Shape := ⟨3, ![4, 1, 1024]⟩
abbrev S1x1024 : Shape := ⟨2, ![1, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S8192x1024 : Shape := ⟨2, ![8192, 1024]⟩
abbrev S1024x8192 : Shape := ⟨2, ![1024, 8192]⟩

abbrev nBuf : Space → Nat
  | .hbm => 36
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x1x1024, .f32⟩
  | .hbm, ⟨3, _⟩ => ⟨S1x1024, .f32⟩
  | .hbm, ⟨4, _⟩ => ⟨S4x1x1024, .f32⟩
  | .hbm, ⟨5, _⟩ => ⟨S4x1x1024, .f32⟩
  | .hbm, ⟨6, _⟩ => ⟨S4x2048x1024, .f32⟩
  | .hbm, ⟨7, _⟩ => ⟨S4x2048x1024, .f32⟩
  | .hbm, ⟨8, _⟩ => ⟨S4x2048x1024, .f32⟩
  | .hbm, ⟨9, _⟩ => ⟨S4x2048x1024, .f32⟩
  | .hbm, ⟨10, _⟩ => ⟨S_, .f32⟩
  | .hbm, ⟨11, _⟩ => ⟨S4x2048, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S_, .f32⟩
  | .hbm, ⟨17, _⟩ => ⟨S4x2048x1, .f32⟩
  | .hbm, ⟨18, _⟩ => ⟨S4x2048x1, .f32⟩
  | .hbm, ⟨19, _⟩ => ⟨S4x2048x1, .f32⟩
  | .hbm, ⟨20, _⟩ => ⟨S4x2048x1024, .f32⟩
  | .hbm, ⟨21, _⟩ => ⟨S4x2048x1024, .f32⟩
  | .hbm, ⟨22, _⟩ => ⟨S1x1x1024, .f32⟩
  | .hbm, ⟨23, _⟩ => ⟨S4x2048x1024, .f32⟩
  | .hbm, ⟨24, _⟩ => ⟨S4x2048x1024, .f32⟩
  | .hbm, ⟨25, _⟩ => ⟨S_, .f32⟩
  | .hbm, ⟨26, _⟩ => ⟨S4x1x1024, .f32⟩
  | .hbm, ⟨27, _⟩ => ⟨S4x1x1024, .f32⟩
  | .hbm, ⟨28, _⟩ => ⟨S4x2048x1024, .f32⟩
  | .hbm, ⟨29, _⟩ => ⟨S4x2048x1024, .f32⟩
  | .hbm, ⟨30, _⟩ => ⟨S4x2048x1024, .f32⟩
  | .hbm, ⟨31, _⟩ => ⟨S4x2048x1024, .f32⟩
  | .hbm, ⟨32, _⟩ => ⟨S4x2048x1024, .bf16⟩
  | .hbm, ⟨33, _⟩ => ⟨S8192x1024, .f32⟩
  | .hbm, ⟨34, _⟩ => ⟨S1024x8192, .f32⟩
  | .hbm, ⟨35, _⟩ => ⟨S1024x8192, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== CtxNorm.lean ====
abbrev S4x256x1024 : Shape := ⟨3, ![4, 256, 1024]⟩
abbrev S4x1x1024 : Shape := ⟨3, ![4, 1, 1024]⟩
abbrev S1x1024 : Shape := ⟨2, ![1, 1024]⟩
abbrev S1024x1024 : Shape := ⟨2, ![1024, 1024]⟩
abbrev S1x256x1024 : Shape := ⟨3, ![1, 256, 1024]⟩
abbrev S1x1x1024 : Shape := ⟨3, ![1, 1, 1024]⟩
abbrev S1024x256 : Shape := ⟨2, ![1024, 256]⟩
abbrev S256x1024 : Shape := ⟨2, ![256, 1024]⟩
abbrev S256 : Shape := ⟨1, ![256]⟩
abbrev S256x1 : Shape := ⟨2, ![256, 1]⟩

abbrev nBuf : Space → Nat
  | .hbm => 9
  | .vmem => 17
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x1x1024, .f32⟩
  | .hbm, ⟨3, _⟩ => ⟨S1x1024, .f32⟩
  | .hbm, ⟨4, _⟩ => ⟨S4x1x1024, .f32⟩
  | .hbm, ⟨5, _⟩ => ⟨S4x1x1024, .f32⟩
  | .hbm, ⟨6, _⟩ => ⟨S4x256x1024, .f32⟩
  | .hbm, ⟨7, _⟩ => ⟨S4x256x1024, .bf16⟩
  | .hbm, ⟨8, _⟩ => ⟨S1024x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .bf16⟩
  | .local _ .vmem, ⟨14, _⟩ => ⟨S1x256x1024, .bf16⟩
  | .local _ .vmem, ⟨15, _⟩ => ⟨S1024x256, .bf16⟩
  | .local _ .vmem, ⟨16, _⟩ => ⟨S1024x256, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== CtxNormRefIdeal.lean ====
abbrev S4x256x1024 : Shape := ⟨3, ![4, 256, 1024]⟩
abbrev S4x1x1024 : Shape := ⟨3, ![4, 1, 1024]⟩
abbrev S1x1024 : Shape := ⟨2, ![1, 1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S1024x1024 : Shape := ⟨2, ![1024, 1024]⟩

abbrev nBuf : Space → Nat
  | .hbm => 36
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x1x1024, .f32⟩
  | .hbm, ⟨3, _⟩ => ⟨S1x1024, .f32⟩
  | .hbm, ⟨4, _⟩ => ⟨S4x1x1024, .f32⟩
  | .hbm, ⟨5, _⟩ => ⟨S4x1x1024, .f32⟩
  | .hbm, ⟨6, _⟩ => ⟨S4x256x1024, .f32⟩
  | .hbm, ⟨7, _⟩ => ⟨S4x256x1024, .f32⟩
  | .hbm, ⟨8, _⟩ => ⟨S4x256x1024, .f32⟩
  | .hbm, ⟨9, _⟩ => ⟨S4x256x1024, .f32⟩
  | .hbm, ⟨10, _⟩ => ⟨S_, .f32⟩
  | .hbm, ⟨11, _⟩ => ⟨S4x256, .f32⟩
  | .hbm, ⟨12, _⟩ => ⟨S4x256x1, .f32⟩
  | .hbm, ⟨13, _⟩ => ⟨S_, .f32⟩
  | .hbm, ⟨14, _⟩ => ⟨S4x256x1, .f32⟩
  | .hbm, ⟨15, _⟩ => ⟨S4x256x1, .f32⟩
  | .hbm, ⟨16, _⟩ => ⟨S_, .f32⟩
  | .hbm, ⟨17, _⟩ => ⟨S4x256x1, .f32⟩
  | .hbm, ⟨18, _⟩ => ⟨S4x256x1, .f32⟩
  | .hbm, ⟨19, _⟩ => ⟨S4x256x1, .f32⟩
  | .hbm, ⟨20, _⟩ => ⟨S4x256x1024, .f32⟩
  | .hbm, ⟨21, _⟩ => ⟨S4x256x1024, .f32⟩
  | .hbm, ⟨22, _⟩ => ⟨S1x1x1024, .f32⟩
  | .hbm, ⟨23, _⟩ => ⟨S4x256x1024, .f32⟩
  | .hbm, ⟨24, _⟩ => ⟨S4x256x1024, .f32⟩
  | .hbm, ⟨25, _⟩ => ⟨S_, .f32⟩
  | .hbm, ⟨26, _⟩ => ⟨S4x1x1024, .f32⟩
  | .hbm, ⟨27, _⟩ => ⟨S4x1x1024, .f32⟩
  | .hbm, ⟨28, _⟩ => ⟨S4x256x1024, .f32⟩
  | .hbm, ⟨29, _⟩ => ⟨S4x256x1024, .f32⟩
  | .hbm, ⟨30, _⟩ => ⟨S4x256x1024, .f32⟩
  | .hbm, ⟨31, _⟩ => ⟨S4x256x1024, .f32⟩
  | .hbm, ⟨32, _⟩ => ⟨S4x256x1024, .bf16⟩
  | .hbm, ⟨33, _⟩ => ⟨S1024x1024, .f32⟩
  | .hbm, ⟨34, _⟩ => ⟨S1024x1024, .f32⟩
  | .hbm, ⟨35, _⟩ => ⟨S1024x1024, .bf16⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Mod.lean ====
abbrev S48x1024 : Shape := ⟨2, ![48, 1024]⟩
abbrev S2x1024x768 : Shape := ⟨3, ![2, 1024, 768]⟩
abbrev S2x1x768 : Shape := ⟨3, ![2, 1, 768]⟩
abbrev S2x48x768 : Shape := ⟨3, ![2, 48, 768]⟩
abbrev S1x1024x768 : Shape := ⟨3, ![1, 1024, 768]⟩
abbrev S1x1x768 : Shape := ⟨3, ![1, 1, 768]⟩
abbrev S1x48x768 : Shape := ⟨3, ![1, 48, 768]⟩
abbrev S1024x768 : Shape := ⟨2, ![1024, 768]⟩
abbrev S1x768 : Shape := ⟨2, ![1, 768]⟩
abbrev S48x768 : Shape := ⟨2, ![48, 768]⟩

abbrev nBuf : Space → Nat
  | .hbm => 4
  | .vmem => 7
  | .smem => 0
  | _ => 0

abbrev bufTy : (tb : Table) → Fin (tcTables nBuf tb) → BufTy
  | .hbm, ⟨0, _⟩ => ⟨S48x1024, .f32⟩
  | .hbm, ⟨1, _⟩ => ⟨S2x1024x768, .f32⟩
  | .hbm, ⟨2, _⟩ => ⟨S2x1x768, .f32⟩
  | .hbm, ⟨3, _⟩ => ⟨S2x48x768, .f32⟩
  | .local _ .vmem, ⟨0, _⟩ => ⟨S48x1024, .f32⟩
  | .local _ .vmem, ⟨1, _⟩ => ⟨S1x1024x768, .f32⟩
  | .local _ .vmem, ⟨2, _⟩ => ⟨S1x1024x768, .f32⟩
  | .local _ .vmem, ⟨3, _⟩ => ⟨S1x1x768, .f32⟩
  | .local _ .vmem, ⟨4, _⟩ => ⟨S1x1x768, .f32⟩
  | .local _ .vmem, ⟨5, _⟩ => ⟨S1x48x768, .f32⟩
  | .local _ .vmem, ⟨6, _⟩ => ⟨S1x48x768, .f32⟩
  | _, _ => ⟨S48x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S48x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x48x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModRefIdeal.lean ====
abbrev S48x1024 : Shape := ⟨2, ![48, 1024]⟩
abbrev S2x1024x768 : Shape := ⟨3, ![2, 1024, 768]⟩
abbrev S2x1x768 : Shape := ⟨3, ![2, 1, 768]⟩
abbrev S_ : Shape := ⟨0, ![]⟩
abbrev S1x1024x768 : Shape := ⟨3, ![1, 1024, 768]⟩
abbrev S1024x768 : Shape := ⟨2, ![1024, 768]⟩
abbrev S48x768 : Shape := ⟨2, ![48, 768]⟩
abbrev S1x1x768 : Shape := ⟨3, ![1, 1, 768]⟩
abbrev S1x768 : Shape := ⟨2, ![1, 768]⟩
abbrev S1x48x768 : Shape := ⟨3, ![1, 48, 768]⟩
abbrev S2x48x768 : Shape := ⟨3, ![2, 48, 768]⟩

abbrev nBuf : Space → Nat
  | .hbm => 38
  | .vmem => 0
  | .smem => 0
  | _ => 0

abbrev bufTy : (tb : Table) → Fin (tcTables nBuf tb) → BufTy
  | .hbm, ⟨0, _⟩ => ⟨S48x1024, .f32⟩
  | .hbm, ⟨1, _⟩ => ⟨S2x1024x768, .f32⟩
  | .hbm, ⟨2, _⟩ => ⟨S2x1x768, .f32⟩
  | .hbm, ⟨3, _⟩ => ⟨S48x1024, .f32⟩
  | .hbm, ⟨4, _⟩ => ⟨S48x1024, .f32⟩
  | .hbm, ⟨5, _⟩ => ⟨S_, .f32⟩
  | .hbm, ⟨6, _⟩ => ⟨S48x1024, .f32⟩
  | .hbm, ⟨7, _⟩ => ⟨S48x1024, .f32⟩
  | .hbm, ⟨8, _⟩ => ⟨S_, .f32⟩
  | .hbm, ⟨9, _⟩ => ⟨S48x1024, .f32⟩
  | .hbm, ⟨10, _⟩ => ⟨S48x1024, .f32⟩
  | .hbm, ⟨11, _⟩ => ⟨S48x1024, .f32⟩
  | .hbm, ⟨12, _⟩ => ⟨S1x1024x768, .f32⟩
  | .hbm, ⟨13, _⟩ => ⟨S1024x768, .f32⟩
  | .hbm, ⟨14, _⟩ => ⟨S48x768, .f32⟩
  | .hbm, ⟨15, _⟩ => ⟨S1x1x768, .f32⟩
  | .hbm, ⟨16, _⟩ => ⟨S1x768, .f32⟩
  | .hbm, ⟨17, _⟩ => ⟨S48x768, .f32⟩
  | .hbm, ⟨18, _⟩ => ⟨S48x768, .f32⟩
  | .hbm, ⟨19, _⟩ => ⟨S48x1024, .f32⟩
  | .hbm, ⟨20, _⟩ => ⟨S48x1024, .f32⟩
  | .hbm, ⟨21, _⟩ => ⟨S_, .f32⟩
  | .hbm, ⟨22, _⟩ => ⟨S48x1024, .f32⟩
  | .hbm, ⟨23, _⟩ => ⟨S48x1024, .f32⟩
  | .hbm, ⟨24, _⟩ => ⟨S_, .f32⟩
  | .hbm, ⟨25, _⟩ => ⟨S48x1024, .f32⟩
  | .hbm, ⟨26, _⟩ => ⟨S48x1024, .f32⟩
  | .hbm, ⟨27, _⟩ => ⟨S48x1024, .f32⟩
  | .hbm, ⟨28, _⟩ => ⟨S1x1024x768, .f32⟩
  | .hbm, ⟨29, _⟩ => ⟨S1024x768, .f32⟩
  | .hbm, ⟨30, _⟩ => ⟨S48x768, .f32⟩
  | .hbm, ⟨31, _⟩ => ⟨S1x1x768, .f32⟩
  | .hbm, ⟨32, _⟩ => ⟨S1x768, .f32⟩
  | .hbm, ⟨33, _⟩ => ⟨S48x768, .f32⟩
  | .hbm, ⟨34, _⟩ => ⟨S48x768, .f32⟩
  | .hbm, ⟨35, _⟩ => ⟨S1x48x768, .f32⟩
  | .hbm, ⟨36, _⟩ => ⟨S1x48x768, .f32⟩
  | .hbm, ⟨37, _⟩ => ⟨S2x48x768, .f32⟩
  | _, _ => ⟨S48x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_call1_v0 : Ref sig .tc := ⟨.hbm, 19, rfl⟩
abbrev main_call1_v1 : Ref sig .tc := ⟨.hbm, 20, rfl⟩
abbrev main_call1_cst : Ref sig .tc := ⟨.hbm, 21, rfl⟩
abbrev main_call1_v2 : Ref sig .tc := ⟨.hbm, 22, rfl⟩
abbrev main_call1_v3 : Ref sig .tc := ⟨.hbm, 23, rfl⟩
abbrev main_call1_cst_0 : Ref sig .tc := ⟨.hbm, 24, rfl⟩
abbrev main_call1_v4 : Ref sig .tc := ⟨.hbm, 25, rfl⟩
abbrev main_call1_v5 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩

abbrev nD : Nat := 1
abbrev τ : Topo := Topo.v7x

variable {F : FTy → Type} [FloatOps F]
-- ==== AdamMod.lean ====
abbrev S2x1024x768 : Shape := ⟨3, ![2, 1024, 768]⟩
abbrev S1x256x768 : Shape := ⟨3, ![1, 256, 768]⟩
abbrev S256x768 : Shape := ⟨2, ![256, 768]⟩

abbrev nBuf : Space → Nat
  | .hbm => 8
  | .vmem => 16
  | .smem => 0
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S2x1024x768, .f32⟩
  | .hbm, ⟨4, _⟩ => ⟨S2x1024x768, .f32⟩
  | .hbm, ⟨5, _⟩ => ⟨S2x1024x768, .f32⟩
  | .hbm, ⟨6, _⟩ => ⟨S2x1024x768, .f32⟩
  | .hbm, ⟨7, _⟩ => ⟨S2x1024x768, .f32⟩
  | .local _ .vmem, ⟨0, _⟩ => ⟨S1x256x768, .f32⟩
  | .local _ .vmem, ⟨1, _⟩ => ⟨S1x256x768, .f32⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S1x256x768, .f32⟩
  | .local _ .vmem, ⟨7, _⟩ => ⟨S1x256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | _, _ => ⟨S2x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamModRefIdeal.lean ====
abbrev S2x1024x768 : Shape := ⟨3, ![2, 1024, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S2x1024x768, .f32⟩
  | .hbm, ⟨4, _⟩ => ⟨S_, .f32⟩
  | .hbm, ⟨5, _⟩ => ⟨S2x1024x768, .f32⟩
  | .hbm, ⟨6, _⟩ => ⟨S2x1024x768, .f32⟩
  | .hbm, ⟨7, _⟩ => ⟨S_, .f32⟩
  | .hbm, ⟨8, _⟩ => ⟨S2x1024x768, .f32⟩
  | .hbm, ⟨9, _⟩ => ⟨S2x1024x768, .f32⟩
  | .hbm, ⟨10, _⟩ => ⟨S2x1024x768, .f32⟩
  | .hbm, ⟨11, _⟩ => ⟨S_, .f32⟩
  | .hbm, ⟨12, _⟩ => ⟨S2x1024x768, .f32⟩
  | .hbm, ⟨13, _⟩ => ⟨S2x1024x768, .f32⟩
  | .hbm, ⟨14, _⟩ => ⟨S2x1024x768, .f32⟩
  | .hbm, ⟨15, _⟩ => ⟨S_, .f32⟩
  | .hbm, ⟨16, _⟩ => ⟨S2x1024x768, .f32⟩
  | .hbm, ⟨17, _⟩ => ⟨S2x1024x768, .f32⟩
  | .hbm, ⟨18, _⟩ => ⟨S2x1024x768, .f32⟩
  | .hbm, ⟨19, _⟩ => ⟨S_, .f32⟩
  | .hbm, ⟨20, _⟩ => ⟨S2x1024x768, .f32⟩
  | .hbm, ⟨21, _⟩ => ⟨S2x1024x768, .f32⟩
  | .hbm, ⟨22, _⟩ => ⟨S_, .f32⟩
  | .hbm, ⟨23, _⟩ => ⟨S2x1024x768, .f32⟩
  | .hbm, ⟨24, _⟩ => ⟨S2x1024x768, .f32⟩
  | .hbm, ⟨25, _⟩ => ⟨S2x1024x768, .f32⟩
  | .hbm, ⟨26, _⟩ => ⟨S_, .f32⟩
  | .hbm, ⟨27, _⟩ => ⟨S2x1024x768, .f32⟩
  | .hbm, ⟨28, _⟩ => ⟨S2x1024x768, .f32⟩
  | .hbm, ⟨29, _⟩ => ⟨S2x1024x768, .f32⟩
  | .hbm, ⟨30, _⟩ => ⟨S_, .f32⟩
  | .hbm, ⟨31, _⟩ => ⟨S2x1024x768, .f32⟩
  | .hbm, ⟨32, _⟩ => ⟨S2x1024x768, .f32⟩
  | .hbm, ⟨33, _⟩ => ⟨S2x1024x768, .f32⟩
  | .hbm, ⟨34, _⟩ => ⟨S_, .f32⟩
  | .hbm, ⟨35, _⟩ => ⟨S2x1024x768, .f32⟩
  | .hbm, ⟨36, _⟩ => ⟨S2x1024x768, .f32⟩
  | _, _ => ⟨S2x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamIn.lean ====
abbrev S8x1024x192 : Shape := ⟨3, ![8, 1024, 192]⟩
abbrev S2x1024x192 : Shape := ⟨3, ![2, 1024, 192]⟩
abbrev S8x256x192 : Shape := ⟨3, ![8, 256, 192]⟩
abbrev S1x256x192 : Shape := ⟨3, ![1, 256, 192]⟩
abbrev S256x192 : Shape := ⟨2, ![256, 192]⟩

abbrev nBuf : Space → Nat
  | .hbm => 9
  | .vmem => 18
  | .smem => 0
  | _ => 0

abbrev bufTy : (tb : Table) → Fin (tcTables nBuf tb) → BufTy
  | .hbm, ⟨0, _⟩ => ⟨S8x1024x192, .bf16⟩
  | .hbm, ⟨1, _⟩ => ⟨S8x1024x192, .bf16⟩
  | .hbm, ⟨2, _⟩ => ⟨S2x1024x192, .f32⟩
  | .hbm, ⟨3, _⟩ => ⟨S2x1024x192, .f32⟩
  | .hbm, ⟨4, _⟩ => ⟨S2x1024x192, .f32⟩
  | .hbm, ⟨5, _⟩ => ⟨S2x1024x192, .f32⟩
  | .hbm, ⟨6, _⟩ => ⟨S2x1024x192, .f32⟩
  | .hbm, ⟨7, _⟩ => ⟨S2x1024x192, .f32⟩
  | .hbm, ⟨8, _⟩ => ⟨S2x1024x192, .f32⟩
  | .local _ .vmem, ⟨0, _⟩ => ⟨S8x256x192, .bf16⟩
  | .local _ .vmem, ⟨1, _⟩ => ⟨S8x256x192, .bf16⟩
  | .local _ .vmem, ⟨2, _⟩ => ⟨S8x256x192, .bf16⟩
  | .local _ .vmem, ⟨3, _⟩ => ⟨S8x256x192, .bf16⟩
  | .local _ .vmem, ⟨4, _⟩ => ⟨S1x256x192, .f32⟩
  | .local _ .vmem, ⟨5, _⟩ => ⟨S1x256x192, .f32⟩
  | .local _ .vmem, ⟨6, _⟩ => ⟨S1x256x192, .f32⟩
  | .local _ .vmem, ⟨7, _⟩ => ⟨S1x256x192, .f32⟩
  | .local _ .vmem, ⟨8, _⟩ => ⟨S1x256x192, .f32⟩
  | .local _ .vmem, ⟨9, _⟩ => ⟨S1x256x192, .f32⟩
  | .local _ .vmem, ⟨10, _⟩ => ⟨S1x256x192, .f32⟩
  | .local _ .vmem, ⟨11, _⟩ => ⟨S1x256x192, .f32⟩
  | .local _ .vmem, ⟨12, _⟩ => ⟨S1x256x192, .f32⟩
  | .local _ .vmem, ⟨13, _⟩ => ⟨S1x256x192, .f32⟩
  | .local _ .vmem, ⟨14, _⟩ => ⟨S1x256x192, .f32⟩
  | .local _ .vmem, ⟨15, _⟩ => ⟨S1x256x192, .f32⟩
  | .local _ .vmem, ⟨16, _⟩ => ⟨S1x256x192, .f32⟩
  | .local _ .vmem, ⟨17, _⟩ => ⟨S1x256x192, .f32⟩
  | _, _ => ⟨S8x1024x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S8x256x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamInRefIdeal.lean ====
abbrev S8x1024x192 : Shape := ⟨3, ![8, 1024, 192]⟩
abbrev S2x1024x192 : Shape := ⟨3, ![2, 1024, 192]⟩
abbrev S_ : Shape := ⟨0, ![]⟩
abbrev S1024x192 : Shape := ⟨2, ![1024, 192]⟩
abbrev S1x1024x192 : Shape := ⟨3, ![1, 1024, 192]⟩

abbrev nBuf : Space → Nat
  | .hbm => 47
  | .vmem => 0
  | .smem => 0
  | _ => 0

abbrev bufTy : (tb : Table) → Fin (tcTables nBuf tb) → BufTy
  | .hbm, ⟨0, _⟩ => ⟨S8x1024x192, .bf16⟩
  | .hbm, ⟨1, _⟩ => ⟨S8x1024x192, .bf16⟩
  | .hbm, ⟨2, _⟩ => ⟨S2x1024x192, .f32⟩
  | .hbm, ⟨3, _⟩ => ⟨S2x1024x192, .f32⟩
  | .hbm, ⟨4, _⟩ => ⟨S2x1024x192, .f32⟩
  | .hbm, ⟨5, _⟩ => ⟨S8x1024x192, .f32⟩
  | .hbm, ⟨6, _⟩ => ⟨S_, .f32⟩
  | .hbm, ⟨7, _⟩ => ⟨S1024x192, .f32⟩
  | .hbm, ⟨8, _⟩ => ⟨S8x1024x192, .f32⟩
  | .hbm, ⟨9, _⟩ => ⟨S_, .f32⟩
  | .hbm, ⟨10, _⟩ => ⟨S1024x192, .f32⟩
  | .hbm, ⟨11, _⟩ => ⟨S1x1024x192, .f32⟩
  | .hbm, ⟨12, _⟩ => ⟨S1x1024x192, .f32⟩
  | .hbm, ⟨13, _⟩ => ⟨S2x1024x192, .f32⟩
  | .hbm, ⟨14, _⟩ => ⟨S_, .f32⟩
  | .hbm, ⟨15, _⟩ => ⟨S2x1024x192, .f32⟩
  | .hbm, ⟨16, _⟩ => ⟨S2x1024x192, .f32⟩
  | .hbm, ⟨17, _⟩ => ⟨S_, .f32⟩
  | .hbm, ⟨18, _⟩ => ⟨S2x1024x192, .f32⟩
  | .hbm, ⟨19, _⟩ => ⟨S2x1024x192, .f32⟩
  | .hbm, ⟨20, _⟩ => ⟨S2x1024x192, .f32⟩
  | .hbm, ⟨21, _⟩ => ⟨S_, .f32⟩
  | .hbm, ⟨22, _⟩ => ⟨S2x1024x192, .f32⟩
  | .hbm, ⟨23, _⟩ => ⟨S2x1024x192, .f32⟩
  | .hbm, ⟨24, _⟩ => ⟨S2x1024x192, .f32⟩
  | .hbm, ⟨25, _⟩ => ⟨S_, .f32⟩
  | .hbm, ⟨26, _⟩ => ⟨S2x1024x192, .f32⟩
  | .hbm, ⟨27, _⟩ => ⟨S2x1024x192, .f32⟩
  | .hbm, ⟨28, _⟩ => ⟨S2x1024x192, .f32⟩
  | .hbm, ⟨29, _⟩ => ⟨S_, .f32⟩
  | .hbm, ⟨30, _⟩ => ⟨S2x1024x192, .f32⟩
  | .hbm, ⟨31, _⟩ => ⟨S2x1024x192, .f32⟩
  | .hbm, ⟨32, _⟩ => ⟨S_, .f32⟩
  | .hbm, ⟨33, _⟩ => ⟨S2x1024x192, .f32⟩
  | .hbm, ⟨34, _⟩ => ⟨S2x1024x192, .f32⟩
  | .hbm, ⟨35, _⟩ => ⟨S2x1024x192, .f32⟩
  | .hbm, ⟨36, _⟩ => ⟨S_, .f32⟩
  | .hbm, ⟨37, _⟩ => ⟨S2x1024x192, .f32⟩
  | .hbm, ⟨38, _⟩ => ⟨S2x1024x192, .f32⟩
  | .hbm, ⟨39, _⟩ => ⟨S2x1024x192, .f32⟩
  | .hbm, ⟨40, _⟩ => ⟨S_, .f32⟩
  | .hbm, ⟨41, _⟩ => ⟨S2x1024x192, .f32⟩
  | .hbm, ⟨42, _⟩ => ⟨S2x1024x192, .f32⟩
  | .hbm, ⟨43, _⟩ => ⟨S2x1024x192, .f32⟩
  | .hbm, ⟨44, _⟩ => ⟨S_, .f32⟩
  | .hbm, ⟨45, _⟩ => ⟨S2x1024x192, .f32⟩
  | .hbm, ⟨46, _⟩ => ⟨S2x1024x192, .f32⟩
  | _, _ => ⟨S8x1024x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AdamOut.lean ====
abbrev S8x128x1024 : Shape := ⟨3, ![8, 128, 1024]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 9
  | .vmem => 16
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S8x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamOutRefIdeal.lean ====
abbrev S8x128x1024 : Shape := ⟨3, ![8, 128, 1024]⟩
abbrev S2x128x1024 : Shape := ⟨3, ![2, 128, 1024]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S8x128x1024, .f32⟩
  | .hbm, ⟨6, _⟩ => ⟨S_, .f32⟩
  | .hbm, ⟨7, _⟩ => ⟨S128x1024, .f32⟩
  | .hbm, ⟨8, _⟩ => ⟨S8x128x1024, .f32⟩
  | .hbm, ⟨9, _⟩ => ⟨S_, .f32⟩
  | .hbm, ⟨10, _⟩ => ⟨S128x1024, .f32⟩
  | .hbm, ⟨11, _⟩ => ⟨S1x128x1024, .f32⟩
  | .hbm, ⟨12, _⟩ => ⟨S1x128x1024, .f32⟩
  | .hbm, ⟨13, _⟩ => ⟨S2x128x1024, .f32⟩
  | .hbm, ⟨14, _⟩ => ⟨S_, .f32⟩
  | .hbm, ⟨15, _⟩ => ⟨S2x128x1024, .f32⟩
  | .hbm, ⟨16, _⟩ => ⟨S2x128x1024, .f32⟩
  | .hbm, ⟨17, _⟩ => ⟨S_, .f32⟩
  | .hbm, ⟨18, _⟩ => ⟨S2x128x1024, .f32⟩
  | .hbm, ⟨19, _⟩ => ⟨S2x128x1024, .f32⟩
  | .hbm, ⟨20, _⟩ => ⟨S2x128x1024, .f32⟩
  | .hbm, ⟨21, _⟩ => ⟨S_, .f32⟩
  | .hbm, ⟨22, _⟩ => ⟨S2x128x1024, .f32⟩
  | .hbm, ⟨23, _⟩ => ⟨S2x128x1024, .f32⟩
  | .hbm, ⟨24, _⟩ => ⟨S2x128x1024, .f32⟩
  | .hbm, ⟨25, _⟩ => ⟨S_, .f32⟩
  | .hbm, ⟨26, _⟩ => ⟨S2x128x1024, .f32⟩
  | .hbm, ⟨27, _⟩ => ⟨S2x128x1024, .f32⟩
  | .hbm, ⟨28, _⟩ => ⟨S2x128x1024, .f32⟩
  | .hbm, ⟨29, _⟩ => ⟨S_, .f32⟩
  | .hbm, ⟨30, _⟩ => ⟨S2x128x1024, .f32⟩
  | .hbm, ⟨31, _⟩ => ⟨S2x128x1024, .f32⟩
  | .hbm, ⟨32, _⟩ => ⟨S_, .f32⟩
  | .hbm, ⟨33, _⟩ => ⟨S2x128x1024, .f32⟩
  | .hbm, ⟨34, _⟩ => ⟨S2x128x1024, .f32⟩
  | .hbm, ⟨35, _⟩ => ⟨S2x128x1024, .f32⟩
  | .hbm, ⟨36, _⟩ => ⟨S_, .f32⟩
  | .hbm, ⟨37, _⟩ => ⟨S2x128x1024, .f32⟩
  | .hbm, ⟨38, _⟩ => ⟨S2x128x1024, .f32⟩
  | .hbm, ⟨39, _⟩ => ⟨S2x128x1024, .f32⟩
  | .hbm, ⟨40, _⟩ => ⟨S_, .f32⟩
  | .hbm, ⟨41, _⟩ => ⟨S2x128x1024, .f32⟩
  | .hbm, ⟨42, _⟩ => ⟨S2x128x1024, .f32⟩
  | .hbm, ⟨43, _⟩ => ⟨S2x128x1024, .f32⟩
  | .hbm, ⟨44, _⟩ => ⟨S_, .f32⟩
  | .hbm, ⟨45, _⟩ => ⟨S2x128x1024, .f32⟩
  | .hbm, ⟨46, _⟩ => ⟨S2x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AdamFfnOut.lean ====
abbrev S8x352x1024 : Shape := ⟨3, ![8, 352, 1024]⟩
abbrev S2x352x1024 : Shape := ⟨3, ![2, 352, 1024]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S2x352x1024, .f32⟩
  | .hbm, ⟨6, _⟩ => ⟨S2x352x1024, .f32⟩
  | .hbm, ⟨7, _⟩ => ⟨S2x352x1024, .f32⟩
  | .hbm, ⟨8, _⟩ => ⟨S2x352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S8x176x1024, .bf16⟩
  | .local _ .vmem, ⟨3, _⟩ => ⟨S8x176x1024, .bf16⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S8x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamFfnOutRefIdeal.lean ====
abbrev S8x352x1024 : Shape := ⟨3, ![8, 352, 1024]⟩
abbrev S2x352x1024 : Shape := ⟨3, ![2, 352, 1024]⟩
abbrev S_ : Shape := ⟨0, ![]⟩
abbrev S352x1024 : Shape := ⟨2, ![352, 1024]⟩
abbrev S1x352x1024 : Shape := ⟨3, ![1, 352, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S8x352x1024, .f32⟩
  | .hbm, ⟨6, _⟩ => ⟨S_, .f32⟩
  | .hbm, ⟨7, _⟩ => ⟨S352x1024, .f32⟩
  | .hbm, ⟨8, _⟩ => ⟨S8x352x1024, .f32⟩
  | .hbm, ⟨9, _⟩ => ⟨S_, .f32⟩
  | .hbm, ⟨10, _⟩ => ⟨S352x1024, .f32⟩
  | .hbm, ⟨11, _⟩ => ⟨S1x352x1024, .f32⟩
  | .hbm, ⟨12, _⟩ => ⟨S1x352x1024, .f32⟩
  | .hbm, ⟨13, _⟩ => ⟨S2x352x1024, .f32⟩
  | .hbm, ⟨14, _⟩ => ⟨S_, .f32⟩
  | .hbm, ⟨15, _⟩ => ⟨S2x352x1024, .f32⟩
  | .hbm, ⟨16, _⟩ => ⟨S2x352x1024, .f32⟩
  | .hbm, ⟨17, _⟩ => ⟨S_, .f32⟩
  | .hbm, ⟨18, _⟩ => ⟨S2x352x1024, .f32⟩
  | .hbm, ⟨19, _⟩ => ⟨S2x352x1024, .f32⟩
  | .hbm, ⟨20, _⟩ => ⟨S2x352x1024, .f32⟩
  | .hbm, ⟨21, _⟩ => ⟨S_, .f32⟩
  | .hbm, ⟨22, _⟩ => ⟨S2x352x1024, .f32⟩
  | .hbm, ⟨23, _⟩ => ⟨S2x352x1024, .f32⟩
  | .hbm, ⟨24, _⟩ => ⟨S2x352x1024, .f32⟩
  | .hbm, ⟨25, _⟩ => ⟨S_, .f32⟩
  | .hbm, ⟨26, _⟩ => ⟨S2x352x1024, .f32⟩
  | .hbm, ⟨27, _⟩ => ⟨S2x352x1024, .f32⟩
  | .hbm, ⟨28, _⟩ => ⟨S2x352x1024, .f32⟩
  | .hbm, ⟨29, _⟩ => ⟨S_, .f32⟩
  | .hbm, ⟨30, _⟩ => ⟨S2x352x1024, .f32⟩
  | .hbm, ⟨31, _⟩ => ⟨S2x352x1024, .f32⟩
  | .hbm, ⟨32, _⟩ => ⟨S_, .f32⟩
  | .hbm, ⟨33, _⟩ => ⟨S2x352x1024, .f32⟩
  | .hbm, ⟨34, _⟩ => ⟨S2x352x1024, .f32⟩
  | .hbm, ⟨35, _⟩ => ⟨S2x352x1024, .f32⟩
  | .hbm, ⟨36, _⟩ => ⟨S_, .f32⟩
  | .hbm, ⟨37, _⟩ => ⟨S2x352x1024, .f32⟩
  | .hbm, ⟨38, _⟩ => ⟨S2x352x1024, .f32⟩
  | .hbm, ⟨39, _⟩ => ⟨S2x352x1024, .f32⟩
  | .hbm, ⟨40, _⟩ => ⟨S_, .f32⟩
  | .hbm, ⟨41, _⟩ => ⟨S2x352x1024, .f32⟩
  | .hbm, ⟨42, _⟩ => ⟨S2x352x1024, .f32⟩
  | .hbm, ⟨43, _⟩ => ⟨S2x352x1024, .f32⟩
  | .hbm, ⟨44, _⟩ => ⟨S_, .f32⟩
  | .hbm, ⟨45, _⟩ => ⟨S2x352x1024, .f32⟩
  | .hbm, ⟨46, _⟩ => ⟨S2x352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Proof.AttnMath.lean ====
module

public import Idealize.ShloMosaic.Lib.Pointwise

@[expose] public section

noncomputable section

namespace Cert.AttnMath

open Idealize.ShloMosaic
open scoped BigOperators

/-! ## Sums and products of extended reals -/

/-- A factor that is real and not negative goes into a sum. -/
theorem sum_mul_coe {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- A sum of reals is real. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The scale 1/8 of the scores, as the programs write it. -/
abbrev eighth : EReal := Ideal.ofBits .f32 0x3E000000#32

theorem eighth_real : ∃ r : ℝ, 0 ≤ r ∧ eighth = (r : EReal) := by
  refine ⟨_, ?_, by simp only [eighth, Ideal.ofBits, Ideal.ieee]; rw [if_neg (by decide), if_neg (by decide)]⟩
  rw [if_neg (by decide)]
  positivity

/-- The accumulator of a maximum. -/
abbrev lowest : EReal := Ideal.ofBits .f32 0xFF800000#32

theorem lowest_eq : lowest = ⊥ := by
  simp only [lowest, Ideal.ofBits, Ideal.ieee]
  rw [if_pos (by decide), if_pos (by decide), if_pos (by decide)]

/-! ## One row of the softmax with a sink: the kernel's form -/

/-- The greatest of a row's scores and its sink. -/
def rowMax (s : Fin 256 → EReal) (t : EReal) : EReal := max (Finset.fold max lowest s Finset.univ) t

/-- The exponential of a score less the greatest. -/
def ex (s : Fin 256 → EReal) (t : EReal) (c : Fin 256) : EReal := Ideal.exp (s c - rowMax s t)

/-- The exponential of the sink less the greatest. -/
def ex0 (s : Fin 256 → EReal) (t : EReal) : EReal := Ideal.exp (t - rowMax s t)

/-- One over the row's sum. -/
def rinv (s : Fin 256 → EReal) (t : EReal) : EReal := Ideal.div 1 (∑ c, ex s t c + ex0 s t)

/-- A probability of the row. -/
def prob (s : Fin 256 → EReal) (t : EReal) (c : Fin 256) : EReal := ex s t c * rinv s t

/-- The sink's probability. -/
def prob0 (s : Fin 256 → EReal) (t : EReal) : EReal := ex0 s t * rinv s t

/-- The probabilities' sum against the cotangent. -/
def delta (s : Fin 256 → EReal) (t : EReal) (d : Fin 256 → EReal) : EReal := ∑ c, prob s t c * d c

/-- The gradient of a score. -/
def dsc (s : Fin 256 → EReal) (t : EReal) (d : Fin 256 → EReal) (c : Fin 256) : EReal := prob s t c * (d c - delta s t d)

/-- The gradient of the sink. -/
def dsk (s : Fin 256 → EReal) (t : EReal) (d : Fin 256 → EReal) : EReal := 0 - prob0 s t * delta s t d

/-! ## The same row: the reference's form -/

/-- The sink and the scores in one row. -/
def cat (s : Fin 256 → EReal) (t : EReal) : Fin 257 → EReal :=
  fun x => if h : (x : ℕ) < 1 then t else s ⟨(x : ℕ) - 1, by omega⟩

/-- The cotangent with nothing at the sink. -/
def pad0 (d : Fin 256 → EReal) : Fin 257 → EReal :=
  fun x => if h : 1 ≤ (x : ℕ) ∧ (x : ℕ) - 1 < 256 then d ⟨(x : ℕ) - 1, h.2⟩ else 0

/-- The exponentials. -/
def rex (s : Fin 256 → EReal) (t : EReal) (c : Fin 257) : EReal :=
  Ideal.exp (cat s t c - max lowest (Finset.fold max lowest (cat s t) Finset.univ))

/-- Their sum. -/
def rsum (s : Fin 256 → EReal) (t : EReal) : EReal := ∑ x, rex s t x

/-- The gradient of the row. -/
def rds (s : Fin 256 → EReal) (t : EReal) (d : Fin 256 → EReal) (c : Fin 257) : EReal :=
  (Ideal.div (pad0 d c) (rsum s t) + ∑ _x : Fin 1, -∑ x, pad0 d x * Ideal.div 1 (rsum s t * rsum s t) * rex s t x) * rex s t c

theorem cat_zero (s : Fin 256 → EReal) (t : EReal) : cat s t 0 = t := rfl
theorem cat_succ (s : Fin 256 → EReal) (t : EReal) (c : Fin 256) : cat s t c.succ = s c := by
  have h : ¬((c.succ : Fin 257) : ℕ) < 1 := by simp
  rw [cat, dif_neg h]; rfl
theorem pad0_zero (d : Fin 256 → EReal) : pad0 d 0 = 0 := rfl
theorem pad0_succ (d : Fin 256 → EReal) (c : Fin 256) : pad0 d c.succ = d c := by
  have h : 1 ≤ ((c.succ : Fin 257) : ℕ) ∧ ((c.succ : Fin 257) : ℕ) - 1 < 256 := by simp
  rw [pad0, dif_pos h]; rfl

theorem max_eq (s : Fin 256 → EReal) (t : EReal) :
    max lowest (Finset.fold max lowest (cat s t) Finset.univ) = rowMax s t := by
  refine eq_of_forall_ge_iff fun z => ?_
  simp only [rowMax, lowest_eq, max_le_iff, Finset.fold_max_le, bot_le, true_and, Finset.mem_univ, true_implies, Fin.forall_fin_succ (n := 256), cat_zero, cat_succ]
  exact and_comm

theorem rex_zero (s : Fin 256 → EReal) (t : EReal) : rex s t 0 = ex0 s t := by rw [rex, max_eq, cat_zero]; rfl
theorem rex_succ (s : Fin 256 → EReal) (t : EReal) (c : Fin 256) : rex s t c.succ = ex s t c := by rw [rex, max_eq, cat_succ]; rfl
theorem rsum_eq (s : Fin 256 → EReal) (t : EReal) : rsum s t = ∑ c, ex s t c + ex0 s t := by
  rw [rsum, Fin.sum_univ_succ, rex_zero, add_comm]
  simp only [rex_succ]

/-- A row of real scores: its exponentials are real, and their sum is real and positive. -/
theorem row_real (s : Fin 256 → EReal) (t : EReal) (hs : ∀ c, ∃ r : ℝ, s c = (r : EReal)) (ht : ∃ r : ℝ, t = (r : EReal)) :
    ∃ (e : Fin 256 → ℝ) (e0 S : ℝ), 0 < S ∧ (∀ c, 0 ≤ e c) ∧ 0 ≤ e0 ∧ (∀ c, ex s t c = (e c : EReal)) ∧ ex0 s t = (e0 : EReal)
      ∧ ∑ c, ex s t c + ex0 s t = (S : EReal) := by
  choose s' hs' using hs
  obtain ⟨t', ht'⟩ := ht
  have hb : rowMax s t ≠ ⊥ := fun h => by
    have h1 : t ≤ rowMax s t := le_max_right _ _
    rw [h, ht', le_bot_iff] at h1
    exact EReal.coe_ne_bot _ h1
  have ht : rowMax s t ≠ ⊤ := by
    refine ne_of_lt ?_
    rw [rowMax, max_lt_iff, Finset.fold_max_lt]
    refine ⟨⟨by rw [lowest_eq]; exact bot_lt_top, fun c _ => ?_⟩, ?_⟩
    · rw [hs']; exact EReal.coe_lt_top _
    · rw [ht']; exact EReal.coe_lt_top _
  have hm : rowMax s t = (((rowMax s t).toReal : ℝ) : EReal) := (EReal.coe_toReal ht hb).symm
  have he : ∀ c, ex s t c = ((Real.exp (s' c - (rowMax s t).toReal) : ℝ) : EReal) := fun c => by
    rw [ex, hs' c]
    conv_lhs => rw [hm]
    rw [← EReal.coe_sub, Ideal.exp_coe]
  have he0 : ex0 s t = ((Real.exp (t' - (rowMax s t).toReal) : ℝ) : EReal) := by
    rw [ex0]
    conv_lhs => rw [hm]
    conv_lhs => rw [ht']
    rw [← EReal.coe_sub, Ideal.exp_coe, ← ht']
  refine ⟨fun c => Real.exp (s' c - (rowMax s t).toReal), Real.exp (t' - (rowMax s t).toReal),
    ∑ c, Real.exp (s' c - (rowMax s t).toReal) + Real.exp (t' - (rowMax s t).toReal), ?_,
    fun c => (Real.exp_pos _).le, (Real.exp_pos _).le, he, he0, ?_⟩
  · exact add_pos_of_nonneg_of_pos (Finset.sum_nonneg fun c _ => (Real.exp_pos _).le) (Real.exp_pos _)
  · rw [he0, Finset.sum_congr rfl (fun c _ => he c), sum_coe, ← EReal.coe_add]

section Row
variable {s : Fin 256 → EReal} {t : EReal} (hs : ∀ c, ∃ r : ℝ, s c = (r : EReal)) (ht : ∃ r : ℝ, t = (r : EReal))
include hs ht

theorem rprob_eq (c : Fin 256) : Ideal.div (rex s t c.succ) (rsum s t) = prob s t c := by
  obtain ⟨e, e0, S, hS, -, -, he, h0, hsum⟩ := row_real s t hs ht
  rw [rex_succ, rsum_eq, prob, rinv, hsum, he, Ideal.div_coe hS.ne', Ideal.div_coe hS.ne', one_mul]

/-- The sum that both forms subtract. -/
theorem inner_eq (d : Fin 256 → EReal) :
    ∃ r : ℝ, 0 ≤ r ∧ rinv s t = (r : EReal) ∧ Ideal.div 1 (rsum s t) = (r : EReal)
      ∧ (∀ x : EReal, Ideal.div x (rsum s t) = x * (r : EReal))
      ∧ ∑ x, pad0 d x * Ideal.div 1 (rsum s t * rsum s t) * rex s t x = delta s t d * (r : EReal) := by
  obtain ⟨e, e0, S, hS, hn, hn0, he, h0, hsum⟩ := row_real s t hs ht
  have hr : 0 ≤ 1 / S := (one_div_pos.mpr hS).le
  refine ⟨1 / S, hr, ?_, ?_, fun x => ?_, ?_⟩
  · rw [rinv, hsum, Ideal.div_coe hS.ne', one_mul]
  · rw [rsum_eq, hsum, Ideal.div_coe hS.ne', one_mul]
  · rw [rsum_eq, hsum, Ideal.div_coe hS.ne']
  · rw [Fin.sum_univ_succ, pad0_zero, zero_mul, zero_mul, zero_add, delta, sum_mul_coe _ _ _ hr]
    refine Finset.sum_congr rfl fun c _ => ?_
    rw [pad0_succ, rex_succ, prob, rinv, rsum_eq, hsum, ← EReal.coe_mul, Ideal.div_coe (mul_pos hS hS).ne', Ideal.div_coe hS.ne', he,
      one_mul, one_mul, mul_assoc, ← EReal.coe_mul, mul_comm (d c), ← EReal.coe_mul, mul_assoc, mul_comm (d c), ← mul_assoc, ← EReal.coe_mul]
    refine congrArg (fun r : ℝ => (r : EReal) * d c) ?_
    field_simp

theorem neg_mul_coe' (x : EReal) (r : ℝ) : -(x * (r : EReal)) = -x * (r : EReal) := (EReal.neg_mul _ _).symm

theorem rds_succ (d : Fin 256 → EReal) (c : Fin 256) : rds s t d c.succ = dsc s t d c := by
  obtain ⟨r, hr, hi, -, hd, hin⟩ := inner_eq hs ht d
  obtain ⟨e, e0, S, hS, hn, hn0, he, h0, hsum⟩ := row_real s t hs ht
  rw [rds, dsc, hin, hd, pad0_succ, rex_succ, Finset.sum_const, Finset.card_univ, Fintype.card_fin, one_smul, prob, hi, ← EReal.neg_mul,
    ← EReal.right_distrib_of_nonneg_of_ne_top (EReal.coe_nonneg.mpr hr) (EReal.coe_ne_top r), sub_eq_add_neg, he]
  rw [mul_assoc, mul_comm (r : EReal), mul_comm]

theorem rds_zero (d : Fin 256 → EReal) : rds s t d 0 = dsk s t d := by
  obtain ⟨r, hr, hi, -, hd, hin⟩ := inner_eq hs ht d
  rw [rds, dsk, hin, hd, pad0_zero, rex_zero, Finset.sum_const, Finset.card_univ, Fintype.card_fin, one_smul, prob0, hi, zero_mul, zero_add,
    sub_eq_add_neg, zero_add, EReal.neg_mul]
  rw [mul_assoc, mul_comm (delta s t d), mul_comm (r : EReal)]

end Row

end Cert.AttnMath

end
-- ==== Proof.AttnPre.lean ====
module

public import proofs.«01_k».proof.Pre_finite_scores
public import proofs.«01_k».proof.Proof.AttnMath
public import Idealize.ShloMosaic.Lib.Pointwise
public import Idealize.ShloMosaic.Lib.ReduceAll

@[expose] public section

set_option maxRecDepth 16384

noncomputable section

namespace Cert.Pre_finite_scores

open Idealize.ShloMosaic

/-! ## The precondition: finite scores and sinks -/

instance facts : Facts where
  slices_S4x256x1536_S4x256x640_0_0_0 := by decide +kernel
  bcast_S_S4x256x640 := by decide +kernel
  reducesTo_S4x256x640_S_d0_1_2 := by decide +kernel
  h_S_ := by decide +kernel
  bcast_S_S8 := by decide +kernel
  reducesTo_S8_S_d0 := by decide +kernel

/-- A value whose magnitude is below infinity is a real number. -/
theorem real_of_lt (x : Ideal .f32)
    (h : FloatOps.cmpf .olt (FloatOps.hostAbsf x) (FloatOps.ofBits (F := Ideal) .f32 0x7F800000#32) = 1#1) : ∃ r : ℝ, (x : EReal) = (r : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  induction x using EReal.rec with
  | bot => simp [Ideal.cmp] at h'
  | coe r => exact ⟨r, rfl⟩
  | top => simp [Ideal.cmp] at h'

instance : Subsingleton S_.Idx := ⟨fun a b => funext fun i => i.elim0⟩

theorem both (a b : BitVec 1) (h : IntOp.andi a b = 1#1) : a = 1#1 ∧ b = 1#1 := by
  revert a b; decide

variable (u : FVec Ideal S4x256x1536 .f32) (s : FVec Ideal S8 .f32) (d : FVec Ideal S4x256x1024 .f32)

theorem split (h : fn (F := Ideal) u s d = fun _ => 1#1) :
    (∀ i : S4x256x640.Idx, ∃ r : ℝ, (extractStridedSlice S4x256x640 ![0, 0, 0] u facts.slices_S4x256x1536_S4x256x640_0_0_0 i : EReal) = (r : EReal))
      ∧ ∀ i : S8.Idx, ∃ r : ℝ, (s i : EReal) = (r : EReal) := by
  have h0 := congrFun h (fun i => i.elim0)
  dsimp only [fn] at h0
  obtain ⟨h1, h2⟩ := both _ _ h0
  exact ⟨fun i => real_of_lt _ (Host.reduce_andi_all _ _ _ _ _ h1 i), fun i => real_of_lt _ (Host.reduce_andi_all _ _ _ _ _ h2 i)⟩

/-- Under the precondition the queries and the keys are real. -/
theorem u_real (h : fn (F := Ideal) u s d = fun _ => 1#1) (b : Fin 4) (c : Fin 256) (j : Fin 1536) (hj : (j : ℕ) < 640) :
    ∃ r : ℝ, (u (ix3 b c j) : EReal) = (r : EReal) := by
  obtain ⟨r, hr⟩ := (split u s d h).1 (ix3 b c ⟨j, hj⟩)
  refine ⟨r, ?_⟩
  rw [← hr]
  symm
  pointwise []
theorem s_real (h : fn (F := Ideal) u s d = fun _ => 1#1) (i : Fin 8) : ∃ r : ℝ, (s (ix1 i) : EReal) = (r : EReal) :=
  (split u s d h).2 (ix1 i)

end Cert.Pre_finite_scores

end
-- ==== Proof.AttnRuns.lean ====
module

public import proofs.«01_k».proof.Proof.Gen.AttnBwdIdeal.Skeleton
public import Idealize.ShloMosaic.Lib.Ring
public import Idealize.ShloMosaic.Lib.WordCmp
public import Idealize.ShloMosaic.Lib.Pipeline.Value
public import proofs.«01_k».proof.Proof.Gen.AttnBwdIdeal.Frame

@[expose] public section

set_option maxRecDepth 16384

noncomputable section

namespace Cert.AttnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 2) — by arithmetic of the point. -/
theorem hcond0_0 : ∀ t : Fin cfg0.N, cond0_0 (grid0.coords t) ↔ t.val % 2 = 0 :=
  (fun t => by
    have ht : t.val < 8 := Nat.lt_of_lt_of_eq t.isLt N_0
    have e0 : (grid0.coords t 0).val = t.val / 2 % 4 := Pipeline.Grid.coords_val t 0 (by decide) rfl
    have e1 : (grid0.coords t 1).val = t.val / 1 % 2 := Pipeline.Grid.coords_val t 1 (by decide) rfl
    simp only [cond0_0, e0, e1]
    word_cmp
   : ∀ t : Fin grid0.N, cond0_0 (grid0.coords t) ↔ t.val % 2 = 0)

/-- The condition of the body's `scf.if` 1 (`k0_h2`), from the grid coordinates (the skeleton's scalar
    chain substituted). -/
abbrev cond0_1 (i : grid0.Coords) : Prop := (Scalar.cmpi .ne (Scalar.extui (Scalar.andi (Scalar.cmpi .eq (BitVec.ofNat 32 (i 1).val) 0#32) (Scalar.cmpi .eq (BitVec.ofNat 32 (i 0).val) 0#32))) 0#32) = 1#1
/-- It holds at the first point only — by arithmetic of the point. -/
theorem hcond0_1 : ∀ t : Fin cfg0.N, cond0_1 (grid0.coords t) ↔ t.val % 8 = 0 :=
  (fun t => by
    have ht : t.val < 8 := Nat.lt_of_lt_of_eq t.isLt N_0
    have e0 : (grid0.coords t 0).val = t.val / 2 % 4 := Pipeline.Grid.coords_val t 0 (by decide) rfl
    have e1 : (grid0.coords t 1).val = t.val / 1 % 2 := Pipeline.Grid.coords_val t 1 (by decide) rfl
    simp only [cond0_1, e0, e1]
    word_cmp
   : ∀ t : Fin grid0.N, cond0_1 (grid0.coords t) ↔ t.val % 8 = 0)

/-! ## The kernel body on any staging memrefs: a subtype the run finds -/

abbrev ms0_0 (t : Fin cfg0.N) : Memref sig .tc .vmem S1x128x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x128x512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x128x512 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x256x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x256x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x256x128 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x256x128 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x8 .f32 := win0_16.stage (cfg0.slots t 16)
abbrev hs0_16 (t : Fin cfg0.N) : (ms0_16 t).IsWhole := hstage0_16 ((cfg0.slots t 16).cast nbuf0_16)

end Cert.AttnBwdIdeal.Gen

end
-- ==== Proof.AttnVals.lean ====
module

public import proofs.«01_k».proof.Proof.AttnRuns

@[expose] public section

set_option maxRecDepth 16384

noncomputable section

namespace Cert.AttnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The values the body computes at a point, over the five blocks it reads -/

abbrev iot : IVec S1x8 32 := iota .tc S1x8 32 [1] iota_S1x8_d1_w32

/-- the keys of the block, rounded -/
def b17 (x0 : Vec F S1x128x512 .f32) (x3 x4 : Vec F S1x256x128 .f32) (x5 : Vec F S1x8 .f32) (x10 : Vec F S1x128x512 .f32) : FVec F S256x128 .bf16 := k0_pay11 x3
/-- the values of the block, rounded -/
def b18 (x0 : Vec F S1x128x512 .f32) (x3 x4 : Vec F S1x256x128 .f32) (x5 : Vec F S1x8 .f32) (x10 : Vec F S1x128x512 .f32) : FVec F S256x128 .bf16 := k0_pay12 x4
/-- the cotangent rows, rounded -/
def b21 (x0 : Vec F S1x128x512 .f32) (x3 x4 : Vec F S1x256x128 .f32) (x5 : Vec F S1x8 .f32) (x10 : Vec F S1x128x512 .f32) : FVec F S128x512 .bf16 := k0_pay13 x10
/-- the sinks -/
def b23 (x0 : Vec F S1x128x512 .f32) (x3 x4 : Vec F S1x256x128 .f32) (x5 : Vec F S1x8 .f32) (x10 : Vec F S1x128x512 .f32) : FVec F S1x8 .f32 := k0_pay14 x5
/-- the four heads over the first key head, stacked and scaled -/
def b28 (x0 : Vec F S1x128x512 .f32) (x3 x4 : Vec F S1x256x128 .f32) (x5 : Vec F S1x8 .f32) (x10 : Vec F S1x128x512 .f32) : FVec F S512x64 .bf16 := k0_pay15 x0
/-- the four heads over the second key head, stacked and scaled -/
def b33 (x0 : Vec F S1x128x512 .f32) (x3 x4 : Vec F S1x256x128 .f32) (x5 : Vec F S1x8 .f32) (x10 : Vec F S1x128x512 .f32) : FVec F S512x64 .bf16 := k0_pay16 x0
def b34 (x0 : Vec F S1x128x512 .f32) (x3 x4 : Vec F S1x256x128 .f32) (x5 : Vec F S1x8 .f32) (x10 : Vec F S1x128x512 .f32) : FVec F S128x64 .bf16 := k0_pay17 x10
def b35 (x0 : Vec F S1x128x512 .f32) (x3 x4 : Vec F S1x256x128 .f32) (x5 : Vec F S1x8 .f32) (x10 : Vec F S1x128x512 .f32) : FVec F S128x64 .bf16 := k0_pay18 x10
/-- the cotangent rows of the first four heads, stacked -/
def b38 (x0 : Vec F S1x128x512 .f32) (x3 x4 : Vec F S1x256x128 .f32) (x5 : Vec F S1x8 .f32) (x10 : Vec F S1x128x512 .f32) : FVec F S512x64 .bf16 := k0_pay19 (b21 x0 x3 x4 x5 x10) (b34 x0 x3 x4 x5 x10) (b35 x0 x3 x4 x5 x10)
/-- the cotangent rows of the last four heads, stacked -/
def b43 (x0 : Vec F S1x128x512 .f32) (x3 x4 : Vec F S1x256x128 .f32) (x5 : Vec F S1x8 .f32) (x10 : Vec F S1x128x512 .f32) : FVec F S512x64 .bf16 := k0_pay20 (b21 x0 x3 x4 x5 x10)
def b47 (x0 : Vec F S1x128x512 .f32) (x3 x4 : Vec F S1x256x128 .f32) (x5 : Vec F S1x8 .f32) (x10 : Vec F S1x128x512 .f32) : FVec F S512x256 .f32 := k0_pay22 (b17 x0 x3 x4 x5 x10) (b33 x0 x3 x4 x5 x10)
def b49 (x0 : Vec F S1x128x512 .f32) (x3 x4 : Vec F S1x256x128 .f32) (x5 : Vec F S1x8 .f32) (x10 : Vec F S1x128x512 .f32) : FVec F S512x256 .f32 := k0_pay23 (b18 x0 x3 x4 x5 x10) (b21 x0 x3 x4 x5 x10) (b34 x0 x3 x4 x5 x10) (b35 x0 x3 x4 x5 x10)
def b51 (x0 : Vec F S1x128x512 .f32) (x3 x4 : Vec F S1x256x128 .f32) (x5 : Vec F S1x8 .f32) (x10 : Vec F S1x128x512 .f32) : FVec F S512x256 .f32 := k0_pay24 (b18 x0 x3 x4 x5 x10) (b21 x0 x3 x4 x5 x10)
/-- the probabilities of the first four heads -/
def b81 (x0 : Vec F S1x128x512 .f32) (x3 x4 : Vec F S1x256x128 .f32) (x5 : Vec F S1x8 .f32) (x10 : Vec F S1x128x512 .f32) : FVec F S512x256 .f32 := k0_pay31 (b17 x0 x3 x4 x5 x10) (b23 x0 x3 x4 x5 x10) (b28 x0 x3 x4 x5 x10)
def b82 (x0 : Vec F S1x128x512 .f32) (x3 x4 : Vec F S1x256x128 .f32) (x5 : Vec F S1x8 .f32) (x10 : Vec F S1x128x512 .f32) : FVec F S512x1 .f32 := k0_pay32 (b17 x0 x3 x4 x5 x10) (b23 x0 x3 x4 x5 x10) (b28 x0 x3 x4 x5 x10)
def b85 (x0 : Vec F S1x128x512 .f32) (x3 x4 : Vec F S1x256x128 .f32) (x5 : Vec F S1x8 .f32) (x10 : Vec F S1x128x512 .f32) : FVec F S512x1 .f32 := k0_pay33 (b17 x0 x3 x4 x5 x10) (b18 x0 x3 x4 x5 x10) (b21 x0 x3 x4 x5 x10) (b23 x0 x3 x4 x5 x10) (b28 x0 x3 x4 x5 x10) (b34 x0 x3 x4 x5 x10) (b35 x0 x3 x4 x5 x10)
def b86 (x0 : Vec F S1x128x512 .f32) (x3 x4 : Vec F S1x256x128 .f32) (x5 : Vec F S1x8 .f32) (x10 : Vec F S1x128x512 .f32) : FVec F S512x256 .f32 := k0_pay34 (b17 x0 x3 x4 x5 x10) (b18 x0 x3 x4 x5 x10) (b21 x0 x3 x4 x5 x10) (b23 x0 x3 x4 x5 x10) (b28 x0 x3 x4 x5 x10) (b34 x0 x3 x4 x5 x10) (b35 x0 x3 x4 x5 x10)
/-- the score gradients of the first four heads -/
def b88 (x0 : Vec F S1x128x512 .f32) (x3 x4 : Vec F S1x256x128 .f32) (x5 : Vec F S1x8 .f32) (x10 : Vec F S1x128x512 .f32) : FVec F S512x256 .f32 := k0_pay35 (b49 x0 x3 x4 x5 x10) (b81 x0 x3 x4 x5 x10) (b86 x0 x3 x4 x5 x10)
def b124 (x0 : Vec F S1x128x512 .f32) (x3 x4 : Vec F S1x256x128 .f32) (x5 : Vec F S1x8 .f32) (x10 : Vec F S1x128x512 .f32) : FVec F S1x8 .f32 := k0_pay37 (k0_pay25 (F := F)) iot (b82 x0 x3 x4 x5 x10) (b85 x0 x3 x4 x5 x10)
def b132 (x0 : Vec F S1x128x512 .f32) (x3 x4 : Vec F S1x256x128 .f32) (x5 : Vec F S1x8 .f32) (x10 : Vec F S1x128x512 .f32) : FVec F S1x8 .f32 := k0_pay39 (b82 x0 x3 x4 x5 x10) (b85 x0 x3 x4 x5 x10)
def b135 (x0 : Vec F S1x128x512 .f32) (x3 x4 : Vec F S1x256x128 .f32) (x5 : Vec F S1x8 .f32) (x10 : Vec F S1x128x512 .f32) : FVec F S1x8 .f32 := k0_pay41 (b124 x0 x3 x4 x5 x10) (k0_pay38 iot) (b132 x0 x3 x4 x5 x10) (k0_pay40 (F := F))
def b136 (x0 : Vec F S1x128x512 .f32) (x3 x4 : Vec F S1x256x128 .f32) (x5 : Vec F S1x8 .f32) (x10 : Vec F S1x128x512 .f32) : FVec F S512x256 .bf16 := k0_pay42 (b81 x0 x3 x4 x5 x10)
def b137 (x0 : Vec F S1x128x512 .f32) (x3 x4 : Vec F S1x256x128 .f32) (x5 : Vec F S1x8 .f32) (x10 : Vec F S1x128x512 .f32) : FVec F S512x256 .bf16 := k0_pay43 (b88 x0 x3 x4 x5 x10)
/-- the probabilities of the last four heads -/
def b165 (x0 : Vec F S1x128x512 .f32) (x3 x4 : Vec F S1x256x128 .f32) (x5 : Vec F S1x8 .f32) (x10 : Vec F S1x128x512 .f32) : FVec F S512x256 .f32 := k0_pay49 (b23 x0 x3 x4 x5 x10) (b47 x0 x3 x4 x5 x10)
/-- the score gradients of the last four heads -/
def b172 (x0 : Vec F S1x128x512 .f32) (x3 x4 : Vec F S1x256x128 .f32) (x5 : Vec F S1x8 .f32) (x10 : Vec F S1x128x512 .f32) : FVec F S512x256 .f32 := k0_pay51 (b23 x0 x3 x4 x5 x10) (b47 x0 x3 x4 x5 x10) (b51 x0 x3 x4 x5 x10)
def b175 (x0 : Vec F S1x128x512 .f32) (x3 x4 : Vec F S1x256x128 .f32) (x5 : Vec F S1x8 .f32) (x10 : Vec F S1x128x512 .f32) : FVec F S512x1 .f32 := k0_pay52 (b23 x0 x3 x4 x5 x10) (b47 x0 x3 x4 x5 x10) (b51 x0 x3 x4 x5 x10)
def b185 (x0 : Vec F S1x128x512 .f32) (x3 x4 : Vec F S1x256x128 .f32) (x5 : Vec F S1x8 .f32) (x10 : Vec F S1x128x512 .f32) : FVec F S1x8 .f32 := k0_pay53 (b23 x0 x3 x4 x5 x10) (b47 x0 x3 x4 x5 x10) (b51 x0 x3 x4 x5 x10) iot
/-- what the block adds to the sink gradient -/
def b219 (x0 : Vec F S1x128x512 .f32) (x3 x4 : Vec F S1x256x128 .f32) (x5 : Vec F S1x8 .f32) (x10 : Vec F S1x128x512 .f32) : FVec F S1x8 .f32 := k0_pay54 iot (b135 x0 x3 x4 x5 x10) (b175 x0 x3 x4 x5 x10) (b185 x0 x3 x4 x5 x10)
def b220 (x0 : Vec F S1x128x512 .f32) (x3 x4 : Vec F S1x256x128 .f32) (x5 : Vec F S1x8 .f32) (x10 : Vec F S1x128x512 .f32) : FVec F S512x256 .bf16 := k0_pay55 (b165 x0 x3 x4 x5 x10)
def b221 (x0 : Vec F S1x128x512 .f32) (x3 x4 : Vec F S1x256x128 .f32) (x5 : Vec F S1x8 .f32) (x10 : Vec F S1x128x512 .f32) : FVec F S512x256 .bf16 := k0_pay56 (b172 x0 x3 x4 x5 x10)
def b225 (x0 : Vec F S1x128x512 .f32) (x3 x4 : Vec F S1x256x128 .f32) (x5 : Vec F S1x8 .f32) (x10 : Vec F S1x128x512 .f32) : FVec F S512x64 .f32 := k0_pay57 (b17 x0 x3 x4 x5 x10) (b137 x0 x3 x4 x5 x10)
def b230 (x0 : Vec F S1x128x512 .f32) (x3 x4 : Vec F S1x256x128 .f32) (x5 : Vec F S1x8 .f32) (x10 : Vec F S1x128x512 .f32) : FVec F S128x64 .f32 := k0_pay59 (b17 x0 x3 x4 x5 x10) (b137 x0 x3 x4 x5 x10)
def b242 (x0 : Vec F S1x128x512 .f32) (x3 x4 : Vec F S1x256x128 .f32) (x5 : Vec F S1x8 .f32) (x10 : Vec F S1x128x512 .f32) : FVec F S256x64 .f32 := k0_pay63 (b38 x0 x3 x4 x5 x10) (b136 x0 x3 x4 x5 x10)
def b243 (x0 : Vec F S1x128x512 .f32) (x3 x4 : Vec F S1x256x128 .f32) (x5 : Vec F S1x8 .f32) (x10 : Vec F S1x128x512 .f32) : FVec F S256x64 .f32 := k0_pay64 (b28 x0 x3 x4 x5 x10) (b137 x0 x3 x4 x5 x10)
def b260 (x0 : Vec F S1x128x512 .f32) (x3 x4 : Vec F S1x256x128 .f32) (x5 : Vec F S1x8 .f32) (x10 : Vec F S1x128x512 .f32) : FVec F S128x64 .f32 := k0_pay69 (b17 x0 x3 x4 x5 x10) (b221 x0 x3 x4 x5 x10)

/-- The block of the query gradient: eight column pieces, one for each head. -/
def bdq (x0 : Vec F S1x128x512 .f32) (x3 x4 : Vec F S1x256x128 .f32) (x5 : Vec F S1x8 .f32) (x10 : Vec F S1x128x512 .f32) : Vec F S1x128x512 .f32 := View.canon [⟨Rect.unit (s := S1x128x512) ![0, 0, 448] S1x128x64.size inb_S1x128x512_S1x128x64_0_0_448, k0_pay1 (b260 x0 x3 x4 x5 x10)⟩,
  ⟨Rect.unit (s := S1x128x512) ![0, 0, 384] S1x128x64.size inb_S1x128x512_S1x128x64_0_0_384, k0_pay68 (b17 x0 x3 x4 x5 x10) (b221 x0 x3 x4 x5 x10)⟩,
  ⟨Rect.unit (s := S1x128x512) ![0, 0, 320] S1x128x64.size inb_S1x128x512_S1x128x64_0_0_320, k0_pay67 (b17 x0 x3 x4 x5 x10) (b221 x0 x3 x4 x5 x10)⟩,
  ⟨Rect.unit (s := S1x128x512) ![0, 0, 256] S1x128x64.size inb_S1x128x512_S1x128x64_0_0_256, k0_pay66 (b17 x0 x3 x4 x5 x10) (b221 x0 x3 x4 x5 x10)⟩,
  ⟨Rect.unit (s := S1x128x512) ![0, 0, 192] S1x128x64.size inb_S1x128x512_S1x128x64_0_0_192, k0_pay62 (b225 x0 x3 x4 x5 x10)⟩,
  ⟨Rect.unit (s := S1x128x512) ![0, 0, 128] S1x128x64.size inb_S1x128x512_S1x128x64_0_0_128, k0_pay61 (b225 x0 x3 x4 x5 x10)⟩,
  ⟨Rect.unit (s := S1x128x512) ![0, 0, 64] S1x128x64.size inb_S1x128x512_S1x128x64_0_0_64, k0_pay60 (b230 x0 x3 x4 x5 x10)⟩,
  ⟨Rect.unit (s := S1x128x512) ![0, 0, 0] S1x128x64.size inb_S1x128x512_S1x128x64_0_0_0, k0_pay58 (b17 x0 x3 x4 x5 x10) (b137 x0 x3 x4 x5 x10)⟩]

/-- The key gradient after the block, from what it was before. -/
def bdk (x0 : Vec F S1x128x512 .f32) (x3 x4 : Vec F S1x256x128 .f32) (x5 : Vec F S1x8 .f32) (x10 : Vec F S1x128x512 .f32) (y : Vec F S1x256x128 .f32) : Vec F S1x256x128 .f32 := k0_pay3 (b33 x0 x3 x4 x5 x10) (b221 x0 x3 x4 x5 x10) (b243 x0 x3 x4 x5 x10) y
/-- The value gradient after the block, from what it was before. -/
def bdv (x0 : Vec F S1x128x512 .f32) (x3 x4 : Vec F S1x256x128 .f32) (x5 : Vec F S1x8 .f32) (x10 : Vec F S1x128x512 .f32) (y : Vec F S1x256x128 .f32) : Vec F S1x256x128 .f32 := k0_pay4 (b43 x0 x3 x4 x5 x10) (b220 x0 x3 x4 x5 x10) (b242 x0 x3 x4 x5 x10) y
/-- The sink gradient after the block, from what it was before. -/
def bds (x0 : Vec F S1x128x512 .f32) (x3 x4 : Vec F S1x256x128 .f32) (x5 : Vec F S1x8 .f32) (x10 : Vec F S1x128x512 .f32) (y : Vec F S1x8 .f32) : Vec F S1x8 .f32 := k0_pay2 (b219 x0 x3 x4 x5 x10) y

theorem zero3 : (![0, 0, 0] : Fin 3 → Nat) = fun _ => 0 := funext fun a => by fin_cases a <;> rfl
theorem zero2 : (![0, 0] : Fin 2 → Nat) = fun _ => 0 := funext fun a => by fin_cases a <;> rfl

theorem readCov_whole3 (v : View sig .tc .vmem S1x256x128 .f32) (w : Vec F S1x256x128 .f32) :
    v.readCov ([⟨Rect.unit (s := S1x256x128) ![0, 0, 0] S1x256x128.size inb_S1x256x128_S1x256x128_0_0_0, w⟩] : List (View.Piece (Elt F) S1x256x128 .f32))
      (Rect.unit (s := S1x256x128) ![0, 0, 0] ![1, 256, 128] inb_S1x256x128_S1x256x128_0_0_0).toLoadRect = w :=
  View.readCov_unit_zero (S := S1x256x128) v zero3 _ w
theorem readCov_whole2 (v : View sig .tc .vmem S1x8 .f32) (w : Vec F S1x8 .f32) :
    v.readCov ([⟨Rect.unit (s := S1x8) ![0, 0] S1x8.size inb_S1x8_S1x8_0_0, w⟩] : List (View.Piece (Elt F) S1x8 .f32))
      (Rect.unit (s := S1x8) ![0, 0] ![1, 8] inb_S1x8_S1x8_0_0).toLoadRect = w :=
  View.readCov_unit_zero (S := S1x8) v zero2 _ w

end Cert.AttnBwdIdeal.Gen

end
-- ==== Proof.AttnRunA.lean ====
module

public import proofs.«01_k».proof.Proof.AttnVals

@[expose] public section

set_option maxRecDepth 16384

noncomputable section

namespace Cert.AttnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body at a point of case A: the blocks it reads are kept, the query gradient's block is computed, the other three
    gradients go on from what they were. -/
theorem bodyA (c : Dev nD) (i : grid0.Coords) (a0 : Memref sig .tc .vmem S1x128x512 .f32) (h0 : a0.IsWhole) (a1 : Memref sig .tc .vmem S1x256x128 .f32) (h1 : a1.IsWhole) (a2 : Memref sig .tc .vmem S1x256x128 .f32) (h2 : a2.IsWhole) (a3 : Memref sig .tc .vmem S1x256x128 .f32) (h3 : a3.IsWhole) (a4 : Memref sig .tc .vmem S1x256x128 .f32) (h4 : a4.IsWhole) (a5 : Memref sig .tc .vmem S1x8 .f32) (h5 : a5.IsWhole) (a6 : Memref sig .tc .vmem S128x512 .f32) (h6 : a6.IsWhole) (a7 : Memref sig .tc .vmem S128x512 .f32) (h7 : a7.IsWhole) (a8 : Memref sig .tc .vmem S256x128 .f32) (h8 : a8.IsWhole) (a9 : Memref sig .tc .vmem S256x128 .f32) (h9 : a9.IsWhole) (a10 : Memref sig .tc .vmem S1x128x512 .f32) (h10 : a10.IsWhole) (a11 : Memref sig .tc .vmem S1x128x512 .f32) (h11 : a11.IsWhole) (a12 : Memref sig .tc .vmem S1x256x128 .f32) (h12 : a12.IsWhole) (a13 : Memref sig .tc .vmem S1x256x128 .f32) (h13 : a13.IsWhole) (a14 : Memref sig .tc .vmem S1x256x128 .f32) (h14 : a14.IsWhole) (a15 : Memref sig .tc .vmem S1x256x128 .f32) (h15 : a15.IsWhole) (a16 : Memref sig .tc .vmem S1x8 .f32) (h16 : a16.IsWhole) (hc0 : cond0_0 i) (hc1 : cond0_1 i) (x0 : Vec F S1x128x512 .f32) (x1 : Vec F S1x256x128 .f32) (x2 : Vec F S1x256x128 .f32) (x3 : Vec F S1x256x128 .f32) (x4 : Vec F S1x256x128 .f32) (x5 : Vec F S1x8 .f32) (x6 : Vec F S128x512 .f32) (x7 : Vec F S128x512 .f32) (x8 : Vec F S256x128 .f32) (x9 : Vec F S256x128 .f32) (x10 : Vec F S1x128x512 .f32) (E : Set ℕ) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d) ∗ (∃ d, owns (c : Thread nD τ) a16 fullShare d) ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare (bdq x0 x3 x4 x5 x10) ∗ (∃ d, owns (c : Thread nD τ) a12 fullShare d) ∗ (∃ d, owns (c : Thread nD τ) a13 fullShare d) ∗ owns (c : Thread nD τ) a14 fullShare (bdk x0 x3 x4 x5 x10 (k0_pay7 (F := F))) ∗ owns (c : Thread nD τ) a15 fullShare (bdv x0 x3 x4 x5 x10 (k0_pay8 (F := F))) ∗ owns (c : Thread nD τ) a16 fullShare (bds x0 x3 x4 x5 x10 (k0_pay9 (F := F)))) -∗ K ⟨⟩))
      ⊢ wp frame (wpE (defs₀ (F := F)) Variants.none c none) E (cc0_l0c_mix_attn_bwd i a0 h0 a1 h1 a2 h2 a3 h3 a4 h4 a5 h5 a6 h6 a7 h7 a8 h8 a9 h9 a10 h10 a11 h11 a12 h12 a13 h13 a14 h14 a15 h15 a16 h16) K := by
  simp only [cc0_l0c_mix_attn_bwd_eq_skeleton]; unfold cc0_l0c_mix_attn_bwd_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
  obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10
  sl_exec (disch := first | sl_exact hc0 | sl_exact hc1)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H9]
  · iexists _; isplitr; · ipureintro; exact h9.read_unread _
    iexact H9
  isplitl [H10]
  · iexists _; isplitr; · ipureintro; exact h10.read_unread _
    iexact H10
  isplitl [H11]
  · iexists _; isplitr; swap; · iexact H11
    ipureintro
    refine (View.read_writes_eq_canon _ _ _ ?_).trans ?_
    · exact View.cover_of_tiledL _ S1x128x64.size (by sl_kernel_rfl)
    sl_unfold_words
    simp only [View.readAt_eq_ld, h0.read_unread, h3.read_unread, h4.read_unread, h5.read_unread, h10.read_unread,
      View.ld_unit_zero (S := S1x128x512) zero3, View.ld_unit_zero (S := S1x256x128) zero3, View.ld_unit_zero (S := S1x8) zero2]
    rfl
  isplitl [H12]
  · iexists _, _; isplitr; swap; · iexact H12
    ipureintro; rfl
  isplitl [H13]
  · iexists _, _; isplitr; swap; · iexact H13
    ipureintro; rfl
  isplitl [H14]
  · iexists _; isplitr; swap; · iexact H14
    ipureintro
    rw [View.read_writes_eq_canon _ _ _ (View.cover_of_tiledL _ S1x256x128.size (by sl_kernel_rfl))]
    sl_unfold_words
    refine (View.canon_cons_unit_zero (S := S1x256x128) zero3 _ _ _).trans ?_
    rw [readCov_whole3]
    simp only [View.readAt_eq_ld, h0.read_unread, h3.read_unread, h4.read_unread, h5.read_unread, h10.read_unread,
      View.ld_unit_zero (S := S1x128x512) zero3, View.ld_unit_zero (S := S1x256x128) zero3, View.ld_unit_zero (S := S1x8) zero2]
    rfl
  isplitl [H15]
  · iexists _; isplitr; swap; · iexact H15
    ipureintro
    rw [View.read_writes_eq_canon _ _ _ (View.cover_of_tiledL _ S1x256x128.size (by sl_kernel_rfl))]
    sl_unfold_words
    refine (View.canon_cons_unit_zero (S := S1x256x128) zero3 _ _ _).trans ?_
    rw [readCov_whole3]
    simp only [View.readAt_eq_ld, h0.read_unread, h3.read_unread, h4.read_unread, h5.read_unread, h10.read_unread,
      View.ld_unit_zero (S := S1x128x512) zero3, View.ld_unit_zero (S := S1x256x128) zero3, View.ld_unit_zero (S := S1x8) zero2]
    rfl
  iexists _; isplitr; swap; · iexact H16
  ipureintro
  rw [View.read_writes_eq_canon _ _ _ (View.cover_of_tiledL _ S1x8.size (by sl_kernel_rfl))]
  sl_unfold_words
  refine (View.canon_cons_unit_zero (S := S1x8) zero2 _ _ _).trans ?_
  rw [readCov_whole2]
  simp only [View.readAt_eq_ld, h0.read_unread, h3.read_unread, h4.read_unread, h5.read_unread, h10.read_unread,
    View.ld_unit_zero (S := S1x128x512) zero3, View.ld_unit_zero (S := S1x256x128) zero3, View.ld_unit_zero (S := S1x8) zero2]
  rfl

end Cert.AttnBwdIdeal.Gen

end
-- ==== Proof.AttnRunB.lean ====
module

public import proofs.«01_k».proof.Proof.AttnVals

@[expose] public section

set_option maxRecDepth 16384

noncomputable section

namespace Cert.AttnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body at a point of case B: the blocks it reads are kept, the query gradient's block is computed, the other three
    gradients go on from what they were. -/
theorem bodyB (c : Dev nD) (i : grid0.Coords) (a0 : Memref sig .tc .vmem S1x128x512 .f32) (h0 : a0.IsWhole) (a1 : Memref sig .tc .vmem S1x256x128 .f32) (h1 : a1.IsWhole) (a2 : Memref sig .tc .vmem S1x256x128 .f32) (h2 : a2.IsWhole) (a3 : Memref sig .tc .vmem S1x256x128 .f32) (h3 : a3.IsWhole) (a4 : Memref sig .tc .vmem S1x256x128 .f32) (h4 : a4.IsWhole) (a5 : Memref sig .tc .vmem S1x8 .f32) (h5 : a5.IsWhole) (a6 : Memref sig .tc .vmem S128x512 .f32) (h6 : a6.IsWhole) (a7 : Memref sig .tc .vmem S128x512 .f32) (h7 : a7.IsWhole) (a8 : Memref sig .tc .vmem S256x128 .f32) (h8 : a8.IsWhole) (a9 : Memref sig .tc .vmem S256x128 .f32) (h9 : a9.IsWhole) (a10 : Memref sig .tc .vmem S1x128x512 .f32) (h10 : a10.IsWhole) (a11 : Memref sig .tc .vmem S1x128x512 .f32) (h11 : a11.IsWhole) (a12 : Memref sig .tc .vmem S1x256x128 .f32) (h12 : a12.IsWhole) (a13 : Memref sig .tc .vmem S1x256x128 .f32) (h13 : a13.IsWhole) (a14 : Memref sig .tc .vmem S1x256x128 .f32) (h14 : a14.IsWhole) (a15 : Memref sig .tc .vmem S1x256x128 .f32) (h15 : a15.IsWhole) (a16 : Memref sig .tc .vmem S1x8 .f32) (h16 : a16.IsWhole) (hc0 : ¬cond0_0 i) (hc1 : ¬cond0_1 i) (x0 : Vec F S1x128x512 .f32) (x1 : Vec F S1x256x128 .f32) (x2 : Vec F S1x256x128 .f32) (x3 : Vec F S1x256x128 .f32) (x4 : Vec F S1x256x128 .f32) (x5 : Vec F S1x8 .f32) (x6 : Vec F S128x512 .f32) (x7 : Vec F S128x512 .f32) (x8 : Vec F S256x128 .f32) (x9 : Vec F S256x128 .f32) (x10 : Vec F S1x128x512 .f32) (y14 : Vec F S1x256x128 .f32) (y15 : Vec F S1x256x128 .f32) (y16 : Vec F S1x8 .f32) (E : Set ℕ) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ (∃ d, owns (c : Thread nD τ) a11 fullShare d) ∗ (∃ d, owns (c : Thread nD τ) a12 fullShare d) ∗ (∃ d, owns (c : Thread nD τ) a13 fullShare d) ∗ owns (c : Thread nD τ) a14 fullShare y14 ∗ owns (c : Thread nD τ) a15 fullShare y15 ∗ owns (c : Thread nD τ) a16 fullShare y16 ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare (bdq x0 x3 x4 x5 x10) ∗ (∃ d, owns (c : Thread nD τ) a12 fullShare d) ∗ (∃ d, owns (c : Thread nD τ) a13 fullShare d) ∗ owns (c : Thread nD τ) a14 fullShare (bdk x0 x3 x4 x5 x10 y14) ∗ owns (c : Thread nD τ) a15 fullShare (bdv x0 x3 x4 x5 x10 y15) ∗ owns (c : Thread nD τ) a16 fullShare (bds x0 x3 x4 x5 x10 y16)) -∗ K ⟨⟩))
      ⊢ wp frame (wpE (defs₀ (F := F)) Variants.none c none) E (cc0_l0c_mix_attn_bwd i a0 h0 a1 h1 a2 h2 a3 h3 a4 h4 a5 h5 a6 h6 a7 h7 a8 h8 a9 h9 a10 h10 a11 h11 a12 h12 a13 h13 a14 h14 a15 h15 a16 h16) K := by
  simp only [cc0_l0c_mix_attn_bwd_eq_skeleton]; unfold cc0_l0c_mix_attn_bwd_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%f14, %hf14, H14⟩, ⟨%f15, %hf15, H15⟩, ⟨%f16, %hf16, H16⟩, Hk⟩
  obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h14.eq_unread hf14; obtain rfl := h15.eq_unread hf15; obtain rfl := h16.eq_unread hf16
  sl_exec (disch := first | sl_exact hc0 | sl_exact hc1)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H9]
  · iexists _; isplitr; · ipureintro; exact h9.read_unread _
    iexact H9
  isplitl [H10]
  · iexists _; isplitr; · ipureintro; exact h10.read_unread _
    iexact H10
  isplitl [H11]
  · iexists _; isplitr; swap; · iexact H11
    ipureintro
    refine (View.read_writes_eq_canon _ _ _ ?_).trans ?_
    · exact View.cover_of_tiledL _ S1x128x64.size (by sl_kernel_rfl)
    sl_unfold_words
    simp only [View.readAt_eq_ld, h0.read_unread, h3.read_unread, h4.read_unread, h5.read_unread, h10.read_unread,
      View.ld_unit_zero (S := S1x128x512) zero3, View.ld_unit_zero (S := S1x256x128) zero3, View.ld_unit_zero (S := S1x8) zero2]
    rfl
  isplitl [H12]
  · iexists _, _; isplitr; swap; · iexact H12
    ipureintro; rfl
  isplitl [H13]
  · iexists _, _; isplitr; swap; · iexact H13
    ipureintro; rfl
  isplitl [H14]
  · iexists _; isplitr; swap; · iexact H14
    ipureintro
    rw [View.read_writes_eq_canon _ _ _ (View.cover_of_tiledL _ S1x256x128.size (by sl_kernel_rfl))]
    sl_unfold_words
    refine (View.canon_cons_unit_zero (S := S1x256x128) zero3 _ _ _).trans ?_
    simp only [View.readAt_eq_ld, h0.read_unread, h3.read_unread, h4.read_unread, h5.read_unread, h10.read_unread, h14.read_unread,
      View.ld_unit_zero (S := S1x128x512) zero3, View.ld_unit_zero (S := S1x256x128) zero3, View.ld_unit_zero (S := S1x8) zero2]
    rfl
  isplitl [H15]
  · iexists _; isplitr; swap; · iexact H15
    ipureintro
    rw [View.read_writes_eq_canon _ _ _ (View.cover_of_tiledL _ S1x256x128.size (by sl_kernel_rfl))]
    sl_unfold_words
    refine (View.canon_cons_unit_zero (S := S1x256x128) zero3 _ _ _).trans ?_
    simp only [View.readAt_eq_ld, h0.read_unread, h3.read_unread, h4.read_unread, h5.read_unread, h10.read_unread, h15.read_unread,
      View.ld_unit_zero (S := S1x128x512) zero3, View.ld_unit_zero (S := S1x256x128) zero3, View.ld_unit_zero (S := S1x8) zero2]
    rfl
  iexists _; isplitr; swap; · iexact H16
  ipureintro
  rw [View.read_writes_eq_canon _ _ _ (View.cover_of_tiledL _ S1x8.size (by sl_kernel_rfl))]
  sl_unfold_words
  refine (View.canon_cons_unit_zero (S := S1x8) zero2 _ _ _).trans ?_
  simp only [View.readAt_eq_ld, h0.read_unread, h3.read_unread, h4.read_unread, h5.read_unread, h10.read_unread, h16.read_unread,
    View.ld_unit_zero (S := S1x128x512) zero3, View.ld_unit_zero (S := S1x256x128) zero3, View.ld_unit_zero (S := S1x8) zero2]
  rfl

end Cert.AttnBwdIdeal.Gen

end
-- ==== Proof.AttnRunC.lean ====
module

public import proofs.«01_k».proof.Proof.AttnVals

@[expose] public section

set_option maxRecDepth 16384

noncomputable section

namespace Cert.AttnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body at a point of case C: the blocks it reads are kept, the query gradient's block is computed, the other three
    gradients go on from what they were. -/
theorem bodyC (c : Dev nD) (i : grid0.Coords) (a0 : Memref sig .tc .vmem S1x128x512 .f32) (h0 : a0.IsWhole) (a1 : Memref sig .tc .vmem S1x256x128 .f32) (h1 : a1.IsWhole) (a2 : Memref sig .tc .vmem S1x256x128 .f32) (h2 : a2.IsWhole) (a3 : Memref sig .tc .vmem S1x256x128 .f32) (h3 : a3.IsWhole) (a4 : Memref sig .tc .vmem S1x256x128 .f32) (h4 : a4.IsWhole) (a5 : Memref sig .tc .vmem S1x8 .f32) (h5 : a5.IsWhole) (a6 : Memref sig .tc .vmem S128x512 .f32) (h6 : a6.IsWhole) (a7 : Memref sig .tc .vmem S128x512 .f32) (h7 : a7.IsWhole) (a8 : Memref sig .tc .vmem S256x128 .f32) (h8 : a8.IsWhole) (a9 : Memref sig .tc .vmem S256x128 .f32) (h9 : a9.IsWhole) (a10 : Memref sig .tc .vmem S1x128x512 .f32) (h10 : a10.IsWhole) (a11 : Memref sig .tc .vmem S1x128x512 .f32) (h11 : a11.IsWhole) (a12 : Memref sig .tc .vmem S1x256x128 .f32) (h12 : a12.IsWhole) (a13 : Memref sig .tc .vmem S1x256x128 .f32) (h13 : a13.IsWhole) (a14 : Memref sig .tc .vmem S1x256x128 .f32) (h14 : a14.IsWhole) (a15 : Memref sig .tc .vmem S1x256x128 .f32) (h15 : a15.IsWhole) (a16 : Memref sig .tc .vmem S1x8 .f32) (h16 : a16.IsWhole) (hc0 : cond0_0 i) (hc1 : ¬cond0_1 i) (x0 : Vec F S1x128x512 .f32) (x1 : Vec F S1x256x128 .f32) (x2 : Vec F S1x256x128 .f32) (x3 : Vec F S1x256x128 .f32) (x4 : Vec F S1x256x128 .f32) (x5 : Vec F S1x8 .f32) (x6 : Vec F S128x512 .f32) (x7 : Vec F S128x512 .f32) (x8 : Vec F S256x128 .f32) (x9 : Vec F S256x128 .f32) (x10 : Vec F S1x128x512 .f32) (y16 : Vec F S1x8 .f32) (E : Set ℕ) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d) ∗ owns (c : Thread nD τ) a16 fullShare y16 ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare (bdq x0 x3 x4 x5 x10) ∗ (∃ d, owns (c : Thread nD τ) a12 fullShare d) ∗ (∃ d, owns (c : Thread nD τ) a13 fullShare d) ∗ owns (c : Thread nD τ) a14 fullShare (bdk x0 x3 x4 x5 x10 (k0_pay7 (F := F))) ∗ owns (c : Thread nD τ) a15 fullShare (bdv x0 x3 x4 x5 x10 (k0_pay8 (F := F))) ∗ owns (c : Thread nD τ) a16 fullShare (bds x0 x3 x4 x5 x10 y16)) -∗ K ⟨⟩))
      ⊢ wp frame (wpE (defs₀ (F := F)) Variants.none c none) E (cc0_l0c_mix_attn_bwd i a0 h0 a1 h1 a2 h2 a3 h3 a4 h4 a5 h5 a6 h6 a7 h7 a8 h8 a9 h9 a10 h10 a11 h11 a12 h12 a13 h13 a14 h14 a15 h15 a16 h16) K := by
  simp only [cc0_l0c_mix_attn_bwd_eq_skeleton]; unfold cc0_l0c_mix_attn_bwd_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%f16, %hf16, H16⟩, Hk⟩
  obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h16.eq_unread hf16
  sl_exec (disch := first | sl_exact hc0 | sl_exact hc1)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H9]
  · iexists _; isplitr; · ipureintro; exact h9.read_unread _
    iexact H9
  isplitl [H10]
  · iexists _; isplitr; · ipureintro; exact h10.read_unread _
    iexact H10
  isplitl [H11]
  · iexists _; isplitr; swap; · iexact H11
    ipureintro
    refine (View.read_writes_eq_canon _ _ _ ?_).trans ?_
    · exact View.cover_of_tiledL _ S1x128x64.size (by sl_kernel_rfl)
    sl_unfold_words
    simp only [View.readAt_eq_ld, h0.read_unread, h3.read_unread, h4.read_unread, h5.read_unread, h10.read_unread,
      View.ld_unit_zero (S := S1x128x512) zero3, View.ld_unit_zero (S := S1x256x128) zero3, View.ld_unit_zero (S := S1x8) zero2]
    rfl
  isplitl [H12]
  · iexists _, _; isplitr; swap; · iexact H12
    ipureintro; rfl
  isplitl [H13]
  · iexists _, _; isplitr; swap; · iexact H13
    ipureintro; rfl
  isplitl [H14]
  · iexists _; isplitr; swap; · iexact H14
    ipureintro
    rw [View.read_writes_eq_canon _ _ _ (View.cover_of_tiledL _ S1x256x128.size (by sl_kernel_rfl))]
    sl_unfold_words
    refine (View.canon_cons_unit_zero (S := S1x256x128) zero3 _ _ _).trans ?_
    rw [readCov_whole3]
    simp only [View.readAt_eq_ld, h0.read_unread, h3.read_unread, h4.read_unread, h5.read_unread, h10.read_unread,
      View.ld_unit_zero (S := S1x128x512) zero3, View.ld_unit_zero (S := S1x256x128) zero3, View.ld_unit_zero (S := S1x8) zero2]
    rfl
  isplitl [H15]
  · iexists _; isplitr; swap; · iexact H15
    ipureintro
    rw [View.read_writes_eq_canon _ _ _ (View.cover_of_tiledL _ S1x256x128.size (by sl_kernel_rfl))]
    sl_unfold_words
    refine (View.canon_cons_unit_zero (S := S1x256x128) zero3 _ _ _).trans ?_
    rw [readCov_whole3]
    simp only [View.readAt_eq_ld, h0.read_unread, h3.read_unread, h4.read_unread, h5.read_unread, h10.read_unread,
      View.ld_unit_zero (S := S1x128x512) zero3, View.ld_unit_zero (S := S1x256x128) zero3, View.ld_unit_zero (S := S1x8) zero2]
    rfl
  iexists _; isplitr; swap; · iexact H16
  ipureintro
  rw [View.read_writes_eq_canon _ _ _ (View.cover_of_tiledL _ S1x8.size (by sl_kernel_rfl))]
  sl_unfold_words
  refine (View.canon_cons_unit_zero (S := S1x8) zero2 _ _ _).trans ?_
  simp only [View.readAt_eq_ld, h0.read_unread, h3.read_unread, h4.read_unread, h5.read_unread, h10.read_unread, h16.read_unread,
    View.ld_unit_zero (S := S1x128x512) zero3, View.ld_unit_zero (S := S1x256x128) zero3, View.ld_unit_zero (S := S1x8) zero2]
  rfl

end Cert.AttnBwdIdeal.Gen

end
-- ==== Proof.AttnFrame.lean ====
module

public import proofs.«01_k».proof.Proof.AttnRunA
public import proofs.«01_k».proof.Proof.AttnRunB
public import proofs.«01_k».proof.Proof.AttnRunC

@[expose] public section

set_option maxRecDepth 16384

noncomputable section

namespace Cert.AttnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the outputs' buffers hold after each point -/

/-- The key gradient: zero and the block's part at the first block of a batch row, what it was and the block's part at the second. -/
def dkAt (c : Dev nD) (t : Fin cfg0.N) : Vec F S1x256x128 .f32 :=
  if t.val % 2 = 0 then bdk (iblk m c 0 t) (iblk m c 3 t) (iblk m c 4 t) (iblk m c 5 t) (iblk m c 10 t) k0_pay7
  else bdk (iblk m c 0 t) (iblk m c 3 t) (iblk m c 4 t) (iblk m c 5 t) (iblk m c 10 t) (bdk (iblk m c 0 ⟨t.val - 1, Nat.lt_of_le_of_lt (Nat.sub_le _ _) t.isLt⟩) (iblk m c 3 ⟨t.val - 1, Nat.lt_of_le_of_lt (Nat.sub_le _ _) t.isLt⟩) (iblk m c 4 ⟨t.val - 1, Nat.lt_of_le_of_lt (Nat.sub_le _ _) t.isLt⟩) (iblk m c 5 ⟨t.val - 1, Nat.lt_of_le_of_lt (Nat.sub_le _ _) t.isLt⟩) (iblk m c 10 ⟨t.val - 1, Nat.lt_of_le_of_lt (Nat.sub_le _ _) t.isLt⟩) k0_pay7)

/-- The value gradient likewise. -/
def dvAt (c : Dev nD) (t : Fin cfg0.N) : Vec F S1x256x128 .f32 :=
  if t.val % 2 = 0 then bdv (iblk m c 0 t) (iblk m c 3 t) (iblk m c 4 t) (iblk m c 5 t) (iblk m c 10 t) k0_pay8
  else bdv (iblk m c 0 t) (iblk m c 3 t) (iblk m c 4 t) (iblk m c 5 t) (iblk m c 10 t) (bdv (iblk m c 0 ⟨t.val - 1, Nat.lt_of_le_of_lt (Nat.sub_le _ _) t.isLt⟩) (iblk m c 3 ⟨t.val - 1, Nat.lt_of_le_of_lt (Nat.sub_le _ _) t.isLt⟩) (iblk m c 4 ⟨t.val - 1, Nat.lt_of_le_of_lt (Nat.sub_le _ _) t.isLt⟩) (iblk m c 5 ⟨t.val - 1, Nat.lt_of_le_of_lt (Nat.sub_le _ _) t.isLt⟩) (iblk m c 10 ⟨t.val - 1, Nat.lt_of_le_of_lt (Nat.sub_le _ _) t.isLt⟩) k0_pay8)

/-- The sink gradient: zero and every block's part so far. -/
def dsAt (c : Dev nD) : (n : ℕ) → n < cfg0.N → Vec F S1x8 .f32
  | 0, h => bds (iblk m c 0 ⟨0, h⟩) (iblk m c 3 ⟨0, h⟩) (iblk m c 4 ⟨0, h⟩) (iblk m c 5 ⟨0, h⟩) (iblk m c 10 ⟨0, h⟩) k0_pay9
  | n + 1, h => bds (iblk m c 0 ⟨n + 1, h⟩) (iblk m c 3 ⟨n + 1, h⟩) (iblk m c 4 ⟨n + 1, h⟩) (iblk m c 5 ⟨n + 1, h⟩) (iblk m c 10 ⟨n + 1, h⟩) (dsAt c n (Nat.lt_of_succ_lt h))

theorem dkAt_even (c : Dev nD) (t : Fin cfg0.N) (h : t.val % 2 = 0) : dkAt m c t = bdk (iblk m c 0 t) (iblk m c 3 t) (iblk m c 4 t) (iblk m c 5 t) (iblk m c 10 t) k0_pay7 := if_pos h
theorem dvAt_even (c : Dev nD) (t : Fin cfg0.N) (h : t.val % 2 = 0) : dvAt m c t = bdv (iblk m c 0 t) (iblk m c 3 t) (iblk m c 4 t) (iblk m c 5 t) (iblk m c 10 t) k0_pay8 := if_pos h
theorem dkAt_odd (c : Dev nD) (t : Fin cfg0.N) (h : ¬t.val % 2 = 0) :
    dkAt m c t = bdk (iblk m c 0 t) (iblk m c 3 t) (iblk m c 4 t) (iblk m c 5 t) (iblk m c 10 t) (dkAt m c ⟨t.val - 1, Nat.lt_of_le_of_lt (Nat.sub_le _ _) t.isLt⟩) := by
  rw [dkAt, if_neg h, dkAt_even m c _ (by dsimp only; omega)]
theorem dvAt_odd (c : Dev nD) (t : Fin cfg0.N) (h : ¬t.val % 2 = 0) :
    dvAt m c t = bdv (iblk m c 0 t) (iblk m c 3 t) (iblk m c 4 t) (iblk m c 5 t) (iblk m c 10 t) (dvAt m c ⟨t.val - 1, Nat.lt_of_le_of_lt (Nat.sub_le _ _) t.isLt⟩) := by
  rw [dvAt, if_neg h, dvAt_even m c _ (by dsimp only; omega)]
theorem dsAt_zero (c : Dev nD) (t : Fin cfg0.N) (h : t.val = 0) : dsAt m c t.val t.isLt = bds (iblk m c 0 t) (iblk m c 3 t) (iblk m c 4 t) (iblk m c 5 t) (iblk m c 10 t) k0_pay9 := by
  obtain ⟨n, hn⟩ := t; obtain rfl : n = 0 := h; rfl
theorem dsAt_succ (c : Dev nD) (t : Fin cfg0.N) (h : ¬t.val = 0) :
    dsAt m c t.val t.isLt = bds (iblk m c 0 t) (iblk m c 3 t) (iblk m c 4 t) (iblk m c 5 t) (iblk m c 10 t) (dsAt m c (t.val - 1) (Nat.lt_of_le_of_lt (Nat.sub_le _ _) t.isLt)) := by
  obtain ⟨n, hn⟩ := t
  cases n with
  | zero => exact absurd rfl h
  | succ n => rfl

/-! ## The pipeline's proof data -/

/-- The two outputs of which nothing is stated: the zeroed gradients of the latent keys and values. -/
def forgets0 : Fin 17 → Bool := fun w => w.val == 12 || w.val == 13

/-- The arrays as the region finds them; after a point each input's buffer at its block, the query gradient's at the block
    computed, the other three at what they have come to. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => bdq (iblk m c 0 t) (iblk m c 3 t) (iblk m c 4 t) (iblk m c 5 t) (iblk m c 10 t)
    | ⟨12, h⟩ => Pipeline.Dat.unnamed (cfg := cfg0) ⟨12, h⟩ t
    | ⟨13, h⟩ => Pipeline.Dat.unnamed (cfg := cfg0) ⟨13, h⟩ t
    | ⟨14, _⟩ => dkAt m c t
    | ⟨15, _⟩ => dvAt m c t
    | ⟨16, _⟩ => dsAt m c t.val t.isLt
    | ⟨_ + 17, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = bdq (iblk m c 0 t) (iblk m c 3 t) (iblk m c 4 t) (iblk m c 5 t) (iblk m c 10 t) := by dsimp only [dats]
theorem after0_14 (c : Dev nD) (t : Fin cfg0.N) : (dats m 0 c).after 14 t = dkAt m c t := by dsimp only [dats]
theorem after0_15 (c : Dev nD) (t : Fin cfg0.N) : (dats m 0 c).after 15 t = dvAt m c t := by dsimp only [dats]
theorem after0_16 (c : Dev nD) (t : Fin cfg0.N) : (dats m 0 c).after 16 t = dsAt m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! A window that is not forgotten is live at every point. -/
theorem leaves0_0 (c : Dev nD) (t : Fin cfg0.N) : (dats m 0 c).leavesExact 0 t = owns (c : Thread nD τ) (ms0_0 t) fullShare (iblk m c 0 t) := by
  unfold Dat.leavesExact; rw [show cfg0.idle 0 (grid0.coords t) = false from rfl, after0_0]
theorem leaves0_1 (c : Dev nD) (t : Fin cfg0.N) : (dats m 0 c).leavesExact 1 t = owns (c : Thread nD τ) (ms0_1 t) fullShare (iblk m c 1 t) := by
  unfold Dat.leavesExact; rw [show cfg0.idle 1 (grid0.coords t) = false from rfl, after0_1]
theorem leaves0_2 (c : Dev nD) (t : Fin cfg0.N) : (dats m 0 c).leavesExact 2 t = owns (c : Thread nD τ) (ms0_2 t) fullShare (iblk m c 2 t) := by
  unfold Dat.leavesExact; rw [show cfg0.idle 2 (grid0.coords t) = false from rfl, after0_2]
theorem leaves0_3 (c : Dev nD) (t : Fin cfg0.N) : (dats m 0 c).leavesExact 3 t = owns (c : Thread nD τ) (ms0_3 t) fullShare (iblk m c 3 t) := by
  unfold Dat.leavesExact; rw [show cfg0.idle 3 (grid0.coords t) = false from rfl, after0_3]
theorem leaves0_4 (c : Dev nD) (t : Fin cfg0.N) : (dats m 0 c).leavesExact 4 t = owns (c : Thread nD τ) (ms0_4 t) fullShare (iblk m c 4 t) := by
  unfold Dat.leavesExact; rw [show cfg0.idle 4 (grid0.coords t) = false from rfl, after0_4]
theorem leaves0_5 (c : Dev nD) (t : Fin cfg0.N) : (dats m 0 c).leavesExact 5 t = owns (c : Thread nD τ) (ms0_5 t) fullShare (iblk m c 5 t) := by
  unfold Dat.leavesExact; rw [show cfg0.idle 5 (grid0.coords t) = false from rfl, after0_5]
theorem leaves0_6 (c : Dev nD) (t : Fin cfg0.N) : (dats m 0 c).leavesExact 6 t = owns (c : Thread nD τ) (ms0_6 t) fullShare (iblk m c 6 t) := by
  unfold Dat.leavesExact; rw [show cfg0.idle 6 (grid0.coords t) = false from rfl, after0_6]
theorem leaves0_7 (c : Dev nD) (t : Fin cfg0.N) : (dats m 0 c).leavesExact 7 t = owns (c : Thread nD τ) (ms0_7 t) fullShare (iblk m c 7 t) := by
  unfold Dat.leavesExact; rw [show cfg0.idle 7 (grid0.coords t) = false from rfl, after0_7]
theorem leaves0_8 (c : Dev nD) (t : Fin cfg0.N) : (dats m 0 c).leavesExact 8 t = owns (c : Thread nD τ) (ms0_8 t) fullShare (iblk m c 8 t) := by
  unfold Dat.leavesExact; rw [show cfg0.idle 8 (grid0.coords t) = false from rfl, after0_8]
theorem leaves0_9 (c : Dev nD) (t : Fin cfg0.N) : (dats m 0 c).leavesExact 9 t = owns (c : Thread nD τ) (ms0_9 t) fullShare (iblk m c 9 t) := by
  unfold Dat.leavesExact; rw [show cfg0.idle 9 (grid0.coords t) = false from rfl, after0_9]
theorem leaves0_10 (c : Dev nD) (t : Fin cfg0.N) : (dats m 0 c).leavesExact 10 t = owns (c : Thread nD τ) (ms0_10 t) fullShare (iblk m c 10 t) := by
  unfold Dat.leavesExact; rw [show cfg0.idle 10 (grid0.coords t) = false from rfl, after0_10]
theorem leaves0_11 (c : Dev nD) (t : Fin cfg0.N) : (dats m 0 c).leavesExact 11 t = owns (c : Thread nD τ) (ms0_11 t) fullShare (bdq (iblk m c 0 t) (iblk m c 3 t) (iblk m c 4 t) (iblk m c 5 t) (iblk m c 10 t)) := by
  unfold Dat.leavesExact; rw [show cfg0.idle 11 (grid0.coords t) = false from rfl, after0_11]
theorem leaves0_14 (c : Dev nD) (t : Fin cfg0.N) : (dats m 0 c).leavesExact 14 t = owns (c : Thread nD τ) (ms0_14 t) fullShare (dkAt m c t) := by
  unfold Dat.leavesExact; rw [show cfg0.idle 14 (grid0.coords t) = false from rfl, after0_14]
theorem leaves0_15 (c : Dev nD) (t : Fin cfg0.N) : (dats m 0 c).leavesExact 15 t = owns (c : Thread nD τ) (ms0_15 t) fullShare (dvAt m c t) := by
  unfold Dat.leavesExact; rw [show cfg0.idle 15 (grid0.coords t) = false from rfl, after0_15]
theorem leaves0_16 (c : Dev nD) (t : Fin cfg0.N) : (dats m 0 c).leavesExact 16 t = owns (c : Thread nD τ) (ms0_16 t) fullShare (dsAt m c t.val t.isLt) := by
  unfold Dat.leavesExact; rw [show cfg0.idle 16 (grid0.coords t) = false from rfl, after0_16]

/-! An output carried from the point before holds what the body left there. -/
theorem carried0_14 (c : Dev nD) (t : Fin cfg0.N) (h0 : ¬t.val % 2 = 0) (d) : (dats m 0 c).before 14 t d = dkAt m c ⟨t.val - 1, Nat.lt_of_le_of_lt (Nat.sub_le _ _) t.isLt⟩ := by
  have hN : t.val < 8 := lt_of_lt_of_eq t.isLt (show cfg0.N = 8 from N_0)
  rw [Dat.before_out_kept _ 14 rfl t (by omega) (Bool.eq_false_iff.mpr fun h => by have := (flush0_14 _).mp h; dsimp only at this; omega)
    (fun _ => rfl) (fun _ _ => rfl)]
  dsimp only [dats]
theorem carried0_15 (c : Dev nD) (t : Fin cfg0.N) (h0 : ¬t.val % 2 = 0) (d) : (dats m 0 c).before 15 t d = dvAt m c ⟨t.val - 1, Nat.lt_of_le_of_lt (Nat.sub_le _ _) t.isLt⟩ := by
  have hN : t.val < 8 := lt_of_lt_of_eq t.isLt (show cfg0.N = 8 from N_0)
  rw [Dat.before_out_kept _ 15 rfl t (by omega) (Bool.eq_false_iff.mpr fun h => by have := (flush0_15 _).mp h; dsimp only at this; omega)
    (fun _ => rfl) (fun _ _ => rfl)]
  dsimp only [dats]
theorem carried0_16 (c : Dev nD) (t : Fin cfg0.N) (h0 : ¬t.val = 0) (d) : (dats m 0 c).before 16 t d = dsAt m c (t.val - 1) (Nat.lt_of_le_of_lt (Nat.sub_le _ _) t.isLt) := by
  have hN : t.val < 8 := lt_of_lt_of_eq t.isLt (show cfg0.N = 8 from N_0)
  rw [Dat.before_out_kept _ 16 rfl t (by omega) (Bool.eq_false_iff.mpr fun h => by have := (flush0_16 _).mp h; dsimp only at this; omega)
    (fun _ => rfl) (fun _ _ => rfl)]
  dsimp only [dats]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare d)
    ∗ (∃ d, owns (c : Thread nD τ) (ms0_13 t) fullShare d)
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (∃ d, owns (c : Thread nD τ) (ms0_12 t) fullShare d)
    ∗ (∃ d, owns (c : Thread nD τ) (ms0_13 t) fullShare d)
    ∗ (dats m 0 c).leavesExact 14 t
    ∗ (dats m 0 c).leavesExact 15 t
    ∗ (dats m 0 c).leavesExact 16 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    leaves0_0, leaves0_1, leaves0_2, leaves0_3, leaves0_4, leaves0_5, leaves0_6, leaves0_7, leaves0_8, leaves0_9, leaves0_10, leaves0_11, leaves0_14, leaves0_15, leaves0_16]
  have hN : t.val < 8 := lt_of_lt_of_eq t.isLt (show cfg0.N = 8 from N_0)
  by_cases h0 : t.val % 2 = 0
  · by_cases h1 : t.val % 8 = 0
    · rw [dkAt_even m c t h0, dvAt_even m c t h0, dsAt_zero m c t (by omega)]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply (bodyA c (grid0.coords t) _ _ _ _ _ _ _ _ _ _ _ _ _ _ _ _ _ _ _ _ _ _ _ _ _ _ _ _ _ _ _ _ _ _ ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      iintro ⟨H0, H1, H2, H3, H4, H5, H6, H7, H8, H9, H10, H11, H12, H13, H14, H15, H16⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact H16
    · rw [dkAt_even m c t h0, dvAt_even m c t h0, dsAt_succ m c t (by omega)]
      simp only [carried0_16 m c t (show ¬t.val = 0 by omega)]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply (bodyC c (grid0.coords t) _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexact H16
      iintro ⟨H0, H1, H2, H3, H4, H5, H6, H7, H8, H9, H10, H11, H12, H13, H14, H15, H16⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact H16
  · have h1 : ¬t.val % 8 = 0 := by omega
    · rw [dkAt_odd m c t h0, dvAt_odd m c t h0, dsAt_succ m c t (by omega)]
      simp only [carried0_14 m c t h0, carried0_15 m c t h0, carried0_16 m c t (show ¬t.val = 0 by omega)]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply (bodyB c (grid0.coords t) _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [H13]; · iexists _; iexact H13
      isplitl [H14]; · iexact H14
      isplitl [H15]; · iexact H15
      isplitl [H16]; · iexact H16
      iintro ⟨H0, H1, H2, H3, H4, H5, H6, H7, H8, H9, H10, H11, H12, H13, H14, H15, H16⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact H16

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run -/

set_option backward.isDefEq.respectTransparency.types false in
/-- Every run ends, with the arrays at what the proof data says and every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

set_option maxHeartbeats 2000000 in
/-- The arrays of the four gradients and of the arguments at the end of every run. -/
theorem run_arrays : θ_run defs (onTc (τ := τ) (main (F := F))) (s₀ m ρ) (fun r => (∀ c : Dev nD,
      r.2.mem ((cfg0.spec 11).arr.view.loc (c.tc : Thread nD τ)) = (dats m 0 c).arrAt 11 cfg0.N
      ∧ r.2.mem ((cfg0.spec 14).arr.view.loc (c.tc : Thread nD τ)) = (dats m 0 c).arrAt 14 cfg0.N
      ∧ r.2.mem ((cfg0.spec 15).arr.view.loc (c.tc : Thread nD τ)) = (dats m 0 c).arrAt 15 cfg0.N
      ∧ r.2.mem ((cfg0.spec 16).arr.view.loc (c.tc : Thread nD τ)) = (dats m 0 c).arrAt 16 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(Dat.toRForget_arrAt_iff (dats m 0 c) (fgt := forgets0) (w := 11) rfl _ _).mp ((h.1 c).1 11),
     (Dat.toRForget_arrAt_iff (dats m 0 c) (fgt := forgets0) (w := 14) rfl _ _).mp ((h.1 c).1 14),
     (Dat.toRForget_arrAt_iff (dats m 0 c) (fgt := forgets0) (w := 15) rfl _ _).mp ((h.1 c).1 15),
     (Dat.toRForget_arrAt_iff (dats m 0 c) (fgt := forgets0) (w := 16) rfl _ _).mp ((h.1 c).1 16),
     (Pipeline.RDat.FramePost.arr_in h.1 c 2 rfl).trans ((A_eq m c 2).trans (V_main_arg0 m c)),
     ((h.1 c).2 main_arg1 (Pipeline.mem_restRefs_of main_arg1 (by decide) (by decide))).trans (V_main_arg1 m c),
     (Pipeline.RDat.FramePost.arr_in h.1 c 10 rfl).trans ((A_eq m c 10).trans (V_main_arg2 m c))⟩, h.2⟩)
    (run_main_quiescent m ρ)

/-- The frame: every run ends, the arguments are unchanged and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).2.2.2.2, h.2⟩) (run_arrays m ρ)

end Cert.AttnBwdIdeal.Gen

end
-- ==== Proof.AttnBlk.lean ====
module

public import proofs.«01_k».proof.Proof.AttnVals
public import proofs.«01_k».proof.Proof.AttnMath
public import Idealize.ShloMosaic.Lib.Pointwise

@[expose] public section

set_option maxRecDepth 16384

noncomputable section

namespace Cert.AttnBwdIdeal.Gen

open Idealize.ShloMosaic Idealize.SL.Sem Cert.AttnMath
open scoped BigOperators

/-- The column of coordinate `d` of head `g` over key head `k`. -/
abbrev col (k : Fin 2) (g : Fin 4) (d : Fin 64) : Fin 512 := ⟨(k : ℕ) * 256 + (g : ℕ) * 64 + (d : ℕ), by omega⟩
/-- The column of coordinate `d` of key head `k`. -/
abbrev kcol (k : Fin 2) (d : Fin 64) : Fin 128 := ⟨(k : ℕ) * 64 + (d : ℕ), by omega⟩
/-- The head `g` over key head `k`. -/
abbrev hd (k : Fin 2) (g : Fin 4) : Fin 8 := ⟨(k : ℕ) * 4 + (g : ℕ), by omega⟩
/-- The stacked row of query `i` of the head `g`. -/
abbrev row (g : Fin 4) (i : Fin 128) : Fin 512 := ⟨128 * (g : ℕ) + (i : ℕ), by omega⟩

theorem at2 {n m : ℕ} {α : Type} (v : (⟨2, ![n, m]⟩ : Shape).Idx → α) {a a' : Fin n} {b b' : Fin m} (ha : (a : ℕ) = a') (hb : (b : ℕ) = b') :
    v (ix2 a b) = v (ix2 a' b') := by rw [Fin.ext ha, Fin.ext hb]
theorem at3 {k n m : ℕ} {α : Type} (v : (⟨3, ![k, n, m]⟩ : Shape).Idx → α) {z : Fin k} {a a' : Fin n} {b b' : Fin m} (ha : (a : ℕ) = a') (hb : (b : ℕ) = b') :
    v (ix3 z a b) = v (ix3 z a' b') := by rw [Fin.ext ha, Fin.ext hb]

/-! ## What the steps of the body read -/

section Reads
variable (v17 : FVec Ideal S256x128 .bf16) (v23 : FVec Ideal S1x8 .f32) (v28 : FVec Ideal S512x64 .bf16) (v47 v51 : FVec Ideal S512x256 .f32)

theorem pay21_at (r : Fin 512) (c : Fin 256) : k0_pay21 v17 v28 (ix2 r c) = ∑ d : Fin 64, v28 (ix2 r d) * v17 (ix2 c (kcol 0 d)) := by
  pointwise [k0_pay21]
  exact Finset.sum_congr rfl fun d _ => congrArg _ (at2 v17 rfl (by simp))
theorem pay22_at (r : Fin 512) (c : Fin 256) : k0_pay22 v17 v28 (ix2 r c) = ∑ d : Fin 64, v28 (ix2 r d) * v17 (ix2 c (kcol 1 d)) := by
  pointwise [k0_pay22]
  exact Finset.sum_congr rfl fun d _ => congrArg _ (at2 v17 rfl (by simp))

theorem pay26_at (g : Fin 4) (i : Fin 128) : k0_pay26 v23 (ix2 (row g i) 0) = v23 (ix2 0 (hd 0 g)) := by
  generalize hr : row g i = r
  have h : (r : ℕ) = 128 * g + i := hr ▸ rfl
  pointwise [k0_pay26]
  split_ifs <;> first
    | exact at2 v23 rfl (by simp; omega)
    | (exfalso; omega)
theorem pay44_at (g : Fin 4) (i : Fin 128) : k0_pay44 v23 (ix2 (row g i) 0) = v23 (ix2 0 (hd 1 g)) := by
  generalize hr : row g i = r
  have h : (r : ℕ) = 128 * g + i := hr ▸ rfl
  pointwise [k0_pay44]
  split_ifs <;> first
    | exact at2 v23 rfl (by simp; omega)
    | (exfalso; omega)

theorem pay27_at (r : Fin 512) : k0_pay27 v17 v23 v28 (ix2 r 0) = rowMax (fun c => k0_pay21 v17 v28 (ix2 r c)) (k0_pay26 v23 (ix2 r 0)) := by
  pointwise [k0_pay27]
  rfl
theorem pay28_at (r : Fin 512) (c : Fin 256) : k0_pay28 v17 v23 v28 (ix2 r c) = ex (fun c => k0_pay21 v17 v28 (ix2 r c)) (k0_pay26 v23 (ix2 r 0)) c := by
  pointwise [k0_pay28]
  rw [pay27_at]; rfl
theorem pay29_at (r : Fin 512) : k0_pay29 v17 v23 v28 (ix2 r 0) = ex0 (fun c => k0_pay21 v17 v28 (ix2 r c)) (k0_pay26 v23 (ix2 r 0)) := by
  pointwise [k0_pay29]
  rw [pay27_at]; rfl
theorem pay30_at (r : Fin 512) : k0_pay30 v17 v23 v28 (ix2 r 0) = rinv (fun c => k0_pay21 v17 v28 (ix2 r c)) (k0_pay26 v23 (ix2 r 0)) := by
  pointwise [k0_pay30]
  simp only [pay28_at, pay29_at]; rfl
theorem pay31_at (r : Fin 512) (c : Fin 256) : k0_pay31 v17 v23 v28 (ix2 r c) = prob (fun c => k0_pay21 v17 v28 (ix2 r c)) (k0_pay26 v23 (ix2 r 0)) c := by
  pointwise [k0_pay31]
  rw [pay28_at, pay30_at]; rfl
theorem pay32_at (r : Fin 512) : k0_pay32 v17 v23 v28 (ix2 r 0) = prob0 (fun c => k0_pay21 v17 v28 (ix2 r c)) (k0_pay26 v23 (ix2 r 0)) := by
  pointwise [k0_pay32]
  rw [pay29_at, pay30_at]; rfl
theorem pay33_at (v18 : FVec Ideal S256x128 .bf16) (v21 : FVec Ideal S128x512 .bf16) (v34 v35 : FVec Ideal S128x64 .bf16) (r : Fin 512) :
    k0_pay33 v17 v18 v21 v23 v28 v34 v35 (ix2 r 0) = delta (fun c => k0_pay21 v17 v28 (ix2 r c)) (k0_pay26 v23 (ix2 r 0)) (fun c => k0_pay23 v18 v21 v34 v35 (ix2 r c)) := by
  pointwise [k0_pay33]
  simp only [pay31_at]; rfl

theorem pay45_at (r : Fin 512) : k0_pay45 v23 v47 (ix2 r 0) = rowMax (fun c => v47 (ix2 r c)) (k0_pay44 v23 (ix2 r 0)) := by
  pointwise [k0_pay45]
  rfl
theorem pay46_at (r : Fin 512) (c : Fin 256) : k0_pay46 v23 v47 (ix2 r c) = ex (fun c => v47 (ix2 r c)) (k0_pay44 v23 (ix2 r 0)) c := by
  pointwise [k0_pay46]
  rw [pay45_at]; rfl
theorem pay47_at (r : Fin 512) : k0_pay47 v23 v47 (ix2 r 0) = ex0 (fun c => v47 (ix2 r c)) (k0_pay44 v23 (ix2 r 0)) := by
  pointwise [k0_pay47]
  rw [pay45_at]; rfl
theorem pay48_at (r : Fin 512) : k0_pay48 v23 v47 (ix2 r 0) = rinv (fun c => v47 (ix2 r c)) (k0_pay44 v23 (ix2 r 0)) := by
  pointwise [k0_pay48]
  simp only [pay46_at, pay47_at]; rfl
theorem pay49_at (r : Fin 512) (c : Fin 256) : k0_pay49 v23 v47 (ix2 r c) = prob (fun c => v47 (ix2 r c)) (k0_pay44 v23 (ix2 r 0)) c := by
  pointwise [k0_pay49]
  rw [pay46_at, pay48_at]; rfl
theorem pay50_at (r : Fin 512) : k0_pay50 v23 v47 v51 (ix2 r 0) = delta (fun c => v47 (ix2 r c)) (k0_pay44 v23 (ix2 r 0)) (fun c => v51 (ix2 r c)) := by
  pointwise [k0_pay50]
  simp only [pay49_at]; rfl
theorem pay51_at (r : Fin 512) (c : Fin 256) : k0_pay51 v23 v47 v51 (ix2 r c) = dsc (fun c => v47 (ix2 r c)) (k0_pay44 v23 (ix2 r 0)) (fun c => v51 (ix2 r c)) c := by
  pointwise [k0_pay51]
  rw [pay49_at, pay50_at]; rfl
theorem pay52_at (r : Fin 512) : k0_pay52 v23 v47 v51 (ix2 r 0) = dsk (fun c => v47 (ix2 r c)) (k0_pay44 v23 (ix2 r 0)) (fun c => v51 (ix2 r c)) := by
  pointwise [k0_pay52]
  rw [pay47_at, pay48_at, pay50_at]; rfl

end Reads

/-! ## The values of a block -/

section Block
variable (x0 : Vec Ideal S1x128x512 .f32) (x3 x4 : Vec Ideal S1x256x128 .f32) (x5 : Vec Ideal S1x8 .f32) (x10 : Vec Ideal S1x128x512 .f32)

/-- The scores of query `i` of the head `g` over key head `k`. -/
def bs (k : Fin 2) (g : Fin 4) (i : Fin 128) : Fin 256 → EReal :=
  fun c => ∑ d : Fin 64, (x0 (ix3 0 i (col k g d)) * eighth) * x3 (ix3 0 c (kcol k d))
/-- The head's sink. -/
def bt (k : Fin 2) (g : Fin 4) : EReal := x5 (ix2 0 (hd k g))
/-- The cotangent of the probabilities of query `i`. -/
def bd (k : Fin 2) (g : Fin 4) (i : Fin 128) : Fin 256 → EReal :=
  fun c => ∑ d : Fin 64, x10 (ix3 0 i (col k g d)) * x4 (ix3 0 c (kcol k d))

theorem b17_at (c : Fin 256) (d : Fin 128) : b17 x0 x3 x4 x5 x10 (ix2 c d) = x3 (ix3 0 c d) := by
  pointwise [b17, k0_pay11]
theorem b18_at (c : Fin 256) (d : Fin 128) : b18 x0 x3 x4 x5 x10 (ix2 c d) = x4 (ix3 0 c d) := by
  pointwise [b18, k0_pay12]
theorem b23_at (h : Fin 8) : b23 x0 x3 x4 x5 x10 (ix2 0 h) = x5 (ix2 0 h) := by
  pointwise [b23, k0_pay14]

theorem b28_at (g : Fin 4) (i : Fin 128) (d : Fin 64) : b28 x0 x3 x4 x5 x10 (ix2 (row g i) d) = x0 (ix3 0 i (col 0 g d)) * eighth := by
  generalize hr : row g i = r
  have h : (r : ℕ) = 128 * g + i := hr ▸ rfl
  pointwise [b28, k0_pay15, k0_pay10]
  split_ifs <;> first
    | exact congrArg (· * eighth) (at3 x0 (by simp; omega) (by simp; omega))
    | (exfalso; omega)
theorem b33_at (g : Fin 4) (i : Fin 128) (d : Fin 64) : b33 x0 x3 x4 x5 x10 (ix2 (row g i) d) = x0 (ix3 0 i (col 1 g d)) * eighth := by
  generalize hr : row g i = r
  have h : (r : ℕ) = 128 * g + i := hr ▸ rfl
  pointwise [b33, k0_pay16, k0_pay10]
  split_ifs <;> first
    | exact congrArg (· * eighth) (at3 x0 (by simp; omega) (by simp; omega))
    | (exfalso; omega)
theorem b38_at (g : Fin 4) (i : Fin 128) (d : Fin 64) : b38 x0 x3 x4 x5 x10 (ix2 (row g i) d) = x10 (ix3 0 i (col 0 g d)) := by
  generalize hr : row g i = r
  have h : (r : ℕ) = 128 * g + i := hr ▸ rfl
  pointwise [b38, b21, b34, b35, k0_pay13, k0_pay17, k0_pay18, k0_pay19]
  split_ifs <;> first
    | exact at3 x10 (by simp; omega) (by simp; omega)
    | (exfalso; omega)
theorem b43_at (g : Fin 4) (i : Fin 128) (d : Fin 64) : b43 x0 x3 x4 x5 x10 (ix2 (row g i) d) = x10 (ix3 0 i (col 1 g d)) := by
  generalize hr : row g i = r
  have h : (r : ℕ) = 128 * g + i := hr ▸ rfl
  pointwise [b43, b21, k0_pay13, k0_pay20]
  split_ifs <;> first
    | exact at3 x10 (by simp; omega) (by simp; omega)
    | (exfalso; omega)

theorem b46_at (g : Fin 4) (i : Fin 128) (c : Fin 256) : k0_pay21 (b17 x0 x3 x4 x5 x10) (b28 x0 x3 x4 x5 x10) (ix2 (row g i) c) = bs x0 x3 0 g i c := by
  rw [pay21_at]; simp only [b28_at, b17_at]; rfl
theorem b47_at (g : Fin 4) (i : Fin 128) (c : Fin 256) : b47 x0 x3 x4 x5 x10 (ix2 (row g i) c) = bs x0 x3 1 g i c := by
  rw [b47, pay22_at]; simp only [b33_at, b17_at]; rfl
theorem b49_at (g : Fin 4) (i : Fin 128) (c : Fin 256) : b49 x0 x3 x4 x5 x10 (ix2 (row g i) c) = bd x4 x10 0 g i c := by
  have h : b49 x0 x3 x4 x5 x10 (ix2 (row g i) c) = k0_pay21 (b18 x0 x3 x4 x5 x10) (b38 x0 x3 x4 x5 x10) (ix2 (row g i) c) := by
    rw [pay21_at]
    pointwise [b49, k0_pay23, b38]
    exact Finset.sum_congr rfl fun d _ => congrArg _ (at2 (b18 x0 x3 x4 x5 x10) rfl (by simp))
  rw [h, pay21_at]; simp only [b38_at, b18_at]; rfl
theorem b51_at (g : Fin 4) (i : Fin 128) (c : Fin 256) : b51 x0 x3 x4 x5 x10 (ix2 (row g i) c) = bd x4 x10 1 g i c := by
  have h : b51 x0 x3 x4 x5 x10 (ix2 (row g i) c) = k0_pay22 (b18 x0 x3 x4 x5 x10) (b43 x0 x3 x4 x5 x10) (ix2 (row g i) c) := by
    rw [pay22_at]
    pointwise [b51, k0_pay24, b43]
    exact Finset.sum_congr rfl fun d _ => congrArg _ (at2 (b18 x0 x3 x4 x5 x10) rfl (by simp))
  rw [h, pay22_at]; simp only [b43_at, b18_at]; rfl

theorem b26_at (g : Fin 4) (i : Fin 128) : k0_pay26 (b23 x0 x3 x4 x5 x10) (ix2 (row g i) 0) = bt x5 0 g := by
  rw [pay26_at, b23_at]; rfl
theorem b44_at (g : Fin 4) (i : Fin 128) : k0_pay44 (b23 x0 x3 x4 x5 x10) (ix2 (row g i) 0) = bt x5 1 g := by
  rw [pay44_at, b23_at]; rfl

theorem b81_at (g : Fin 4) (i : Fin 128) (c : Fin 256) : b81 x0 x3 x4 x5 x10 (ix2 (row g i) c) = prob (bs x0 x3 0 g i) (bt x5 0 g) c := by
  rw [b81, pay31_at, b26_at]; simp only [b46_at]
theorem b165_at (g : Fin 4) (i : Fin 128) (c : Fin 256) : b165 x0 x3 x4 x5 x10 (ix2 (row g i) c) = prob (bs x0 x3 1 g i) (bt x5 1 g) c := by
  rw [b165, pay49_at, b44_at]; simp only [b47_at]
theorem b85_at (g : Fin 4) (i : Fin 128) : b85 x0 x3 x4 x5 x10 (ix2 (row g i) 0) = delta (bs x0 x3 0 g i) (bt x5 0 g) (bd x4 x10 0 g i) := by
  have h : ∀ c, k0_pay23 (b18 x0 x3 x4 x5 x10) (b21 x0 x3 x4 x5 x10) (b34 x0 x3 x4 x5 x10) (b35 x0 x3 x4 x5 x10) (ix2 (row g i) c) = bd x4 x10 0 g i c := b49_at x0 x3 x4 x5 x10 g i
  rw [b85, pay33_at, b26_at]; simp only [b46_at, h]
theorem b88_at (g : Fin 4) (i : Fin 128) (c : Fin 256) : b88 x0 x3 x4 x5 x10 (ix2 (row g i) c) = dsc (bs x0 x3 0 g i) (bt x5 0 g) (bd x4 x10 0 g i) c := by
  have h : b86 x0 x3 x4 x5 x10 (ix2 (row g i) c) = b85 x0 x3 x4 x5 x10 (ix2 (row g i) 0) := by
    pointwise [b86, k0_pay34, b85]
  have h2 : b88 x0 x3 x4 x5 x10 (ix2 (row g i) c) = b81 x0 x3 x4 x5 x10 (ix2 (row g i) c) * (b49 x0 x3 x4 x5 x10 (ix2 (row g i) c) - b86 x0 x3 x4 x5 x10 (ix2 (row g i) c)) := by
    pointwise [b88, k0_pay35]
  rw [h2, h, b85_at, b81_at, b49_at]; rfl
theorem b172_at (g : Fin 4) (i : Fin 128) (c : Fin 256) : b172 x0 x3 x4 x5 x10 (ix2 (row g i) c) = dsc (bs x0 x3 1 g i) (bt x5 1 g) (bd x4 x10 1 g i) c := by
  rw [b172, pay51_at, b44_at]; simp only [b47_at, b51_at]
theorem b91_at (g : Fin 4) (i : Fin 128) : k0_pay36 (b82 x0 x3 x4 x5 x10) (b85 x0 x3 x4 x5 x10) (ix2 (row g i) 0) = dsk (bs x0 x3 0 g i) (bt x5 0 g) (bd x4 x10 0 g i) := by
  have h : k0_pay36 (b82 x0 x3 x4 x5 x10) (b85 x0 x3 x4 x5 x10) (ix2 (row g i) 0) = 0 - b82 x0 x3 x4 x5 x10 (ix2 (row g i) 0) * b85 x0 x3 x4 x5 x10 (ix2 (row g i) 0) := by
    pointwise [k0_pay36]
  rw [h, b85_at, b82, pay32_at, b26_at]; simp only [b46_at]; rfl
theorem b175_at (g : Fin 4) (i : Fin 128) : b175 x0 x3 x4 x5 x10 (ix2 (row g i) 0) = dsk (bs x0 x3 1 g i) (bt x5 1 g) (bd x4 x10 1 g i) := by
  rw [b175, pay52_at, b44_at]; simp only [b47_at, b51_at]

end Block

end Cert.AttnBwdIdeal.Gen

end
-- ==== Proof.AttnOut.lean ====
module

public import proofs.«01_k».proof.Proof.AttnBlk
public import Idealize.ShloMosaic.Lib.Pipeline.ValueKit.Tiles

@[expose] public section

set_option maxRecDepth 16384

noncomputable section

namespace Cert.AttnBwdIdeal.Gen

open Idealize.ShloMosaic Idealize.SL.Sem Cert.AttnMath
open scoped BigOperators

/-- A sum over the stacked rows goes over the heads and their queries. -/
theorem sum_rows (f : Fin 512 → EReal) : ∑ r, f r = ∑ g : Fin 4, ∑ i : Fin 128, f (row g i) := by
  show ∑ r : Fin (4 * 128), f r = _
  rw [← Equiv.sum_comp (finProdFinEquiv (m := 4) (n := 128)), Fintype.sum_prod_type]
  refine Finset.sum_congr rfl fun g _ => Finset.sum_congr rfl fun i _ => congrArg f (Fin.ext ?_)
  show (i : ℕ) + 128 * (g : ℕ) = _
  simp only [row]; omega

/-- A term that is taken at one head only. -/
theorem sel_eq (h n : Fin 8) (A : EReal) :
    Scalar.select (IntOp.cmpi .eq (BitVec.ofNat 32 (h : ℕ)) (BitVec.ofNat 32 (n : ℕ))) A 0 = if h = n then A else 0 := by
  fin_cases h <;> fin_cases n <;> rfl

section Block
variable (x0 : Vec Ideal S1x128x512 .f32) (x3 x4 : Vec Ideal S1x256x128 .f32) (x5 : Vec Ideal S1x8 .f32) (x10 : Vec Ideal S1x128x512 .f32)

/-- The score gradients of a block. -/
abbrev bg (k : Fin 2) (g : Fin 4) (i : Fin 128) : Fin 256 → EReal := dsc (bs x0 x3 k g i) (bt x5 k g) (bd x4 x10 k g i)
/-- The probabilities of a block. -/
abbrev bp (k : Fin 2) (g : Fin 4) (i : Fin 128) : Fin 256 → EReal := prob (bs x0 x3 k g i) (bt x5 k g)
/-- The sink gradients of a block, row by row. -/
abbrev bk (k : Fin 2) (g : Fin 4) (i : Fin 128) : EReal := dsk (bs x0 x3 k g i) (bt x5 k g) (bd x4 x10 k g i)

/-! ## The query gradient -/

/-- The query gradient of a block at a query and a coordinate of a head. -/
def dq0 (k : Fin 2) (g : Fin 4) (i : Fin 128) (d : Fin 64) : EReal := (∑ c, bg x0 x3 x4 x5 x10 k g i c * x3 (ix3 0 c (kcol k d))) * eighth

theorem b88_of (g : Fin 4) (i : Fin 128) (r : Fin 512) (h : (r : ℕ) = 128 * g + i) (c : Fin 256) : b88 x0 x3 x4 x5 x10 (ix2 r c) = bg x0 x3 x4 x5 x10 0 g i c := by
  rw [show r = row g i from Fin.ext h]; exact b88_at x0 x3 x4 x5 x10 g i c
theorem b172_of (g : Fin 4) (i : Fin 128) (r : Fin 512) (h : (r : ℕ) = 128 * g + i) (c : Fin 256) : b172 x0 x3 x4 x5 x10 (ix2 r c) = bg x0 x3 x4 x5 x10 1 g i c := by
  rw [show r = row g i from Fin.ext h]; exact b172_at x0 x3 x4 x5 x10 g i c
theorem b91_of (g : Fin 4) (i : Fin 128) (r : Fin 512) (h : (r : ℕ) = 128 * g + i) :
    k0_pay36 (b82 x0 x3 x4 x5 x10) (b85 x0 x3 x4 x5 x10) (ix2 r 0) = bk x0 x3 x4 x5 x10 0 g i := by
  rw [show r = row g i from Fin.ext h]; exact b91_at x0 x3 x4 x5 x10 g i
theorem b175_of (g : Fin 4) (i : Fin 128) (r : Fin 512) (h : (r : ℕ) = 128 * g + i) : b175 x0 x3 x4 x5 x10 (ix2 r 0) = bk x0 x3 x4 x5 x10 1 g i := by
  rw [show r = row g i from Fin.ext h]; exact b175_at x0 x3 x4 x5 x10 g i

theorem pay57_at (r : Fin 512) (g : Fin 4) (i : Fin 128) (h : (r : ℕ) = 128 * g + i) (d : Fin 64) :
    k0_pay57 (b17 x0 x3 x4 x5 x10) (b137 x0 x3 x4 x5 x10) (ix2 r d) = dq0 x0 x3 x4 x5 x10 0 g i d := by
  pointwise [k0_pay57, b137, k0_pay43]
  refine congrArg (· * eighth) (Finset.sum_congr rfl fun c _ => ?_)
  rw [b88_of x0 x3 x4 x5 x10 g i _ h, b17_at]
  exact congrArg _ (at3 x3 rfl (by simp))
theorem pay65_at (r : Fin 512) (g : Fin 4) (i : Fin 128) (h : (r : ℕ) = 128 * g + i) (d : Fin 64) :
    k0_pay65 (b17 x0 x3 x4 x5 x10) (b221 x0 x3 x4 x5 x10) (ix2 r d) = dq0 x0 x3 x4 x5 x10 1 g i d := by
  pointwise [k0_pay65, b221, k0_pay56]
  refine congrArg (· * eighth) (Finset.sum_congr rfl fun c _ => ?_)
  rw [b172_of x0 x3 x4 x5 x10 g i _ h, b17_at]
  exact congrArg _ (at3 x3 rfl (by simp))

theorem piece58 (i : Fin 128) (d : Fin 64) : k0_pay58 (b17 x0 x3 x4 x5 x10) (b137 x0 x3 x4 x5 x10) (ix3 0 i d) = dq0 x0 x3 x4 x5 x10 0 0 i d := by
  pointwise [k0_pay58]
  exact pay57_at x0 x3 x4 x5 x10 _ 0 i (by simp) d
theorem piece60 (i : Fin 128) (d : Fin 64) : k0_pay60 (b230 x0 x3 x4 x5 x10) (ix3 0 i d) = dq0 x0 x3 x4 x5 x10 0 1 i d := by
  pointwise [k0_pay60, b230, k0_pay59]
  exact pay57_at x0 x3 x4 x5 x10 _ 1 i (by simp) d
theorem piece61 (i : Fin 128) (d : Fin 64) : k0_pay61 (b225 x0 x3 x4 x5 x10) (ix3 0 i d) = dq0 x0 x3 x4 x5 x10 0 2 i d := by
  pointwise [k0_pay61, b225]
  exact pay57_at x0 x3 x4 x5 x10 _ 2 i (by simp) d
theorem piece62 (i : Fin 128) (d : Fin 64) : k0_pay62 (b225 x0 x3 x4 x5 x10) (ix3 0 i d) = dq0 x0 x3 x4 x5 x10 0 3 i d := by
  pointwise [k0_pay62, b225]
  exact pay57_at x0 x3 x4 x5 x10 _ 3 i (by simp) d
theorem piece66 (i : Fin 128) (d : Fin 64) : k0_pay66 (b17 x0 x3 x4 x5 x10) (b221 x0 x3 x4 x5 x10) (ix3 0 i d) = dq0 x0 x3 x4 x5 x10 1 0 i d := by
  pointwise [k0_pay66]
  exact pay65_at x0 x3 x4 x5 x10 _ 0 i (by simp) d
theorem piece67 (i : Fin 128) (d : Fin 64) : k0_pay67 (b17 x0 x3 x4 x5 x10) (b221 x0 x3 x4 x5 x10) (ix3 0 i d) = dq0 x0 x3 x4 x5 x10 1 1 i d := by
  pointwise [k0_pay67]
  exact pay65_at x0 x3 x4 x5 x10 _ 1 i (by simp) d
theorem piece68 (i : Fin 128) (d : Fin 64) : k0_pay68 (b17 x0 x3 x4 x5 x10) (b221 x0 x3 x4 x5 x10) (ix3 0 i d) = dq0 x0 x3 x4 x5 x10 1 2 i d := by
  pointwise [k0_pay68]
  exact pay65_at x0 x3 x4 x5 x10 _ 2 i (by simp) d
theorem piece1 (i : Fin 128) (d : Fin 64) : k0_pay1 (b260 x0 x3 x4 x5 x10) (ix3 0 i d) = dq0 x0 x3 x4 x5 x10 1 3 i d := by
  pointwise [k0_pay1, b260, k0_pay69]
  exact pay65_at x0 x3 x4 x5 x10 _ 3 i (by simp) d

/-- A column piece holds an entry of the query gradient only if it is its head's. -/
theorem piece_at (k k' : Fin 2) (g g' : Fin 4) (i : Fin 128) (d : Fin 64) (off : ℕ) (ho : off = (k' : ℕ) * 256 + (g' : ℕ) * 64) (w : FVec Ideal S1x128x64 .f32)
    (hw : ∀ i d, w (ix3 0 i d) = dq0 x0 x3 x4 x5 x10 k' g' i d) :
    View.TileAt (S := S1x128x512) (Val := Elt Ideal) (e := .f32) (ix3 0 i (col k g d)) ![0, 0, off] S1x128x64.size w (dq0 x0 x3 x4 x5 x10 k g i d) := by
  intro x hx
  obtain ⟨a, b, c, rfl⟩ : ∃ (a : Fin 1) (b : Fin 128) (c : Fin 64), x = ix3 a b c := ⟨x 0, x 1, x 2, eq_ix3 x⟩
  have h1 : (i : ℕ) = 0 + (b : ℕ) := hx 1
  have h2 : (k : ℕ) * 256 + (g : ℕ) * 64 + (d : ℕ) = off + (c : ℕ) := hx 2
  obtain rfl : a = 0 := Subsingleton.elim _ _
  obtain rfl : i = b := Fin.ext (by omega)
  obtain rfl : k = k' := Fin.ext (by omega)
  obtain rfl : g = g' := Fin.ext (by omega)
  obtain rfl : d = c := Fin.ext (by omega)
  exact hw _ _

theorem bdq_at (k : Fin 2) (g : Fin 4) (i : Fin 128) (d : Fin 64) : bdq x0 x3 x4 x5 x10 (ix3 0 i (col k g d)) = dq0 x0 x3 x4 x5 x10 k g i d := by
  rw [bdq]
  refine View.canon_eq_of_allAt _ _ _ ?_ ?_
  · generalize (ix3 (0 : Fin 1) i (col k g d)) = y
    revert y
    exact View.cover_of_tiledL _ S1x128x64.size (by sl_kernel_rfl)
  refine View.allAt_cons_unit _ _ _ _ _ (piece_at x0 x3 x4 x5 x10 k 1 g 3 i d _ rfl _ (piece1 x0 x3 x4 x5 x10)) ?_
  refine View.allAt_cons_unit _ _ _ _ _ (piece_at x0 x3 x4 x5 x10 k 1 g 2 i d _ rfl _ (piece68 x0 x3 x4 x5 x10)) ?_
  refine View.allAt_cons_unit _ _ _ _ _ (piece_at x0 x3 x4 x5 x10 k 1 g 1 i d _ rfl _ (piece67 x0 x3 x4 x5 x10)) ?_
  refine View.allAt_cons_unit _ _ _ _ _ (piece_at x0 x3 x4 x5 x10 k 1 g 0 i d _ rfl _ (piece66 x0 x3 x4 x5 x10)) ?_
  refine View.allAt_cons_unit _ _ _ _ _ (piece_at x0 x3 x4 x5 x10 k 0 g 3 i d _ rfl _ (piece62 x0 x3 x4 x5 x10)) ?_
  refine View.allAt_cons_unit _ _ _ _ _ (piece_at x0 x3 x4 x5 x10 k 0 g 2 i d _ rfl _ (piece61 x0 x3 x4 x5 x10)) ?_
  refine View.allAt_cons_unit _ _ _ _ _ (piece_at x0 x3 x4 x5 x10 k 0 g 1 i d _ rfl _ (piece60 x0 x3 x4 x5 x10)) ?_
  refine View.allAt_cons_unit _ _ _ _ _ (piece_at x0 x3 x4 x5 x10 k 0 g 0 i d _ rfl _ (piece58 x0 x3 x4 x5 x10)) ?_
  exact View.allAt_nil _ _

/-! ## The key, value and sink gradients -/

theorem bdk_at (y : Vec Ideal S1x256x128 .f32) (k : Fin 2) (c : Fin 256) (d : Fin 64) :
    bdk x0 x3 x4 x5 x10 y (ix3 0 c (kcol k d))
      = y (ix3 0 c (kcol k d)) + ∑ g : Fin 4, ∑ i : Fin 128, bg x0 x3 x4 x5 x10 k g i c * (x0 (ix3 0 i (col k g d)) * eighth) := by
  pointwise [bdk, k0_pay3, b243, k0_pay64, b221, k0_pay56, b137, k0_pay43]
  refine congrArg _ ?_
  obtain rfl | rfl : k = 0 ∨ k = 1 := by omega
  · rw [dif_pos (by simp), sum_rows]
    refine Finset.sum_congr rfl fun g _ => Finset.sum_congr rfl fun i _ => ?_
    rw [b88_at, ← b28_at x0 x3 x4 x5 x10]
    exact congrArg _ (at2 (b28 x0 x3 x4 x5 x10) rfl (by simp))
  · rw [dif_neg (by simp), sum_rows]
    refine Finset.sum_congr rfl fun g _ => Finset.sum_congr rfl fun i _ => ?_
    rw [b172_at, ← b33_at x0 x3 x4 x5 x10]
    exact congrArg _ (at2 (b33 x0 x3 x4 x5 x10) rfl (by simp))

theorem bdv_at (y : Vec Ideal S1x256x128 .f32) (k : Fin 2) (c : Fin 256) (d : Fin 64) :
    bdv x0 x3 x4 x5 x10 y (ix3 0 c (kcol k d))
      = y (ix3 0 c (kcol k d)) + ∑ g : Fin 4, ∑ i : Fin 128, bp x0 x3 x5 k g i c * x10 (ix3 0 i (col k g d)) := by
  pointwise [bdv, k0_pay4, b242, k0_pay63, b220, k0_pay55, b136, k0_pay42]
  refine congrArg _ ?_
  obtain rfl | rfl : k = 0 ∨ k = 1 := by omega
  · rw [dif_pos (by simp), sum_rows]
    refine Finset.sum_congr rfl fun g _ => Finset.sum_congr rfl fun i _ => ?_
    rw [b81_at, ← b38_at x0 x3 x4 x5 x10]
    exact congrArg _ (at2 (b38 x0 x3 x4 x5 x10) rfl (by simp))
  · rw [dif_neg (by simp), sum_rows]
    refine Finset.sum_congr rfl fun g _ => Finset.sum_congr rfl fun i _ => ?_
    rw [b165_at, ← b43_at x0 x3 x4 x5 x10]
    exact congrArg _ (at2 (b43 x0 x3 x4 x5 x10) rfl (by simp))

theorem bds_at (y : Vec Ideal S1x8 .f32) (k : Fin 2) (g : Fin 4) :
    bds x0 x3 x4 x5 x10 y (ix2 0 (hd k g)) = y (ix2 0 (hd k g)) + ∑ i : Fin 128, bk x0 x3 x4 x5 x10 k g i := by
  generalize hh : hd k g = h
  pointwise [bds, k0_pay2, b219, k0_pay54, b185, k0_pay53, b135, k0_pay41, b124, k0_pay37, k0_pay38, b132, k0_pay39, k0_pay40, k0_pay25, iot]
  refine congrArg _ ?_
  have e : ∀ r, k0_pay52 (b23 x0 x3 x4 x5 x10) (b47 x0 x3 x4 x5 x10) (b51 x0 x3 x4 x5 x10) r = b175 x0 x3 x4 x5 x10 r := fun _ => rfl
  simp only [e, Finset.univ_unique, Finset.sum_const, Finset.card_singleton, one_smul]
  have h0 : ∀ n : Fin 8, ∀ A : EReal, Scalar.select (IntOp.cmpi .eq (BitVec.ofNat 32 (h : ℕ)) (BitVec.ofNat 32 (n : ℕ))) A 0 = if h = n then A else 0 := sel_eq h
  have s0 := h0 0; have s1 := h0 1; have s2 := h0 2; have s3 := h0 3; have s4 := h0 4; have s5 := h0 5; have s6 := h0 6; have s7 := h0 7
  simp only [Fin.isValue, Fin.val_zero, Fin.val_one, Fin.val_two] at s0 s1 s2
  rw [show ((3 : Fin 8) : ℕ) = 3 from rfl] at s3
  rw [show ((4 : Fin 8) : ℕ) = 4 from rfl] at s4
  rw [show ((5 : Fin 8) : ℕ) = 5 from rfl] at s5
  rw [show ((6 : Fin 8) : ℕ) = 6 from rfl] at s6
  rw [show ((7 : Fin 8) : ℕ) = 7 from rfl] at s7
  rw [s0, s1, s2, s3, s4, s5, s6, s7]
  subst hh
  rw [Finset.sum_congr rfl fun i _ => b91_of x0 x3 x4 x5 x10 0 i _ (by simp), Finset.sum_congr rfl fun i _ => b91_of x0 x3 x4 x5 x10 1 i _ (by simp),
    Finset.sum_congr rfl fun i _ => b91_of x0 x3 x4 x5 x10 2 i _ (by simp), Finset.sum_congr rfl fun i _ => b91_of x0 x3 x4 x5 x10 3 i _ (by simp),
    Finset.sum_congr rfl fun i _ => b175_of x0 x3 x4 x5 x10 0 i _ (by simp), Finset.sum_congr rfl fun i _ => b175_of x0 x3 x4 x5 x10 1 i _ (by simp),
    Finset.sum_congr rfl fun i _ => b175_of x0 x3 x4 x5 x10 2 i _ (by simp), Finset.sum_congr rfl fun i _ => b175_of x0 x3 x4 x5 x10 3 i _ (by simp)]
  fin_cases k <;> fin_cases g <;> simp [hd]

end Block

end Cert.AttnBwdIdeal.Gen

end
-- ==== Proof.AttnReads.lean ====
module

public import proofs.«01_k».proof.Proof.AttnFrame
public import proofs.«01_k».proof.Proof.AttnOut
public import Idealize.ShloMosaic.Lib.Pointwise
public import Idealize.ShloMosaic.Lib.StableHlo.ReadAt
public import Idealize.ShloMosaic.Lib.Pipeline.ValueKit.Geometry

@[expose] public section

set_option maxRecDepth 16384

noncomputable section

namespace Cert.AttnBwdIdeal.Gen

open Cert.AttnBwdIdeal Idealize.ShloMosaic Idealize.ShloMosaic.TcCoe Idealize.SL Idealize.SL.Sem Cert.AttnMath
open Idealize.ShloMosaic.Pipeline (Dat Cfg Window)

variable (m : (ℓ : Loc nD τ sig) → Buf (Elt Ideal) ℓ)

/-! ## Where each point reads -/

/-- The batch entry of a point. -/
abbrev tb (t : Fin cfg0.N) : Fin 4 := ⟨t.val / 2, by have := lt_of_lt_of_eq t.isLt (show cfg0.N = 8 from N_0); omega⟩
/-- The query of row `i` of a point's block. -/
abbrev tq (t : Fin cfg0.N) (i : Fin 128) : Fin 256 := ⟨128 * (t.val % 2) + i.val, by omega⟩

theorem e0 : ∀ t : Fin cfg0.N, win0_0.index t = ![t.val / 2, t.val % 2, 0] := (by decide +kernel : ∀ t : Fin grid0.N, _)
theorem e3 : ∀ t : Fin cfg0.N, win0_3.index t = ![t.val / 2, 0, 0] := (by decide +kernel : ∀ t : Fin grid0.N, _)
theorem e4 : ∀ t : Fin cfg0.N, win0_4.index t = ![t.val / 2, 0, 1] := (by decide +kernel : ∀ t : Fin grid0.N, _)
theorem e5 : ∀ t : Fin cfg0.N, win0_5.index t = ![0, 0] := (by decide +kernel : ∀ t : Fin grid0.N, _)
theorem e10 : ∀ t : Fin cfg0.N, win0_10.index t = ![t.val / 2, t.val % 2, 0] := (by decide +kernel : ∀ t : Fin grid0.N, _)
theorem e11 : ∀ t : Fin cfg0.N, win0_11.index t = ![t.val / 2, t.val % 2, 0] := (by decide +kernel : ∀ t : Fin grid0.N, _)
theorem e14 : ∀ t : Fin cfg0.N, win0_14.index t = ![t.val / 2, 0, 0] := (by decide +kernel : ∀ t : Fin grid0.N, _)
theorem e15 : ∀ t : Fin cfg0.N, win0_15.index t = ![t.val / 2, 0, 0] := (by decide +kernel : ∀ t : Fin grid0.N, _)
theorem e16 : ∀ t : Fin cfg0.N, win0_16.index t = ![0, 0] := (by decide +kernel : ∀ t : Fin grid0.N, _)

/-- The keys and values, as the host cuts them out. -/
theorem V_main_v0_at (c : Dev nD) (b : Fin 4) (r : Fin 256) (j : Fin 256) :
    V m c main_v0 (ix3 b r j) = m ((c : Thread nD τ).loc main_arg0) (ix3 b r ⟨512 + j.val, by omega⟩) := by
  show StableHlo.after hostOps0 _ (Proc.devRef .tc main_v0) _ = _
  after_reads_at
/-- The sink, as the host lays it out. -/
theorem V_main_v1_at (c : Dev nD) (h : Fin 8) :
    V m c main_v1 (ix2 0 h) = m ((c : Thread nD τ).loc main_arg1) (ix1 h) := by
  show StableHlo.after hostOps0 _ (Proc.devRef .tc main_v1) _ = _
  after_reads_at

theorem x0_at (c : Dev nD) (t : Fin cfg0.N) (i : Fin 128) (j : Fin 512) :
    (iblk m c 0 t : Vec Ideal S1x128x512 .f32) (ix3 0 i j) = m ((c : Thread nD τ).loc main_arg0) (ix3 (tb t) (tq t i) ⟨j.val, by omega⟩) := by
  blk_simp [iblk]
  show V m c main_arg0 _ = _
  rw [V_main_arg0]
  congr 1
  blk_ext [e0]
theorem x10_at (c : Dev nD) (t : Fin cfg0.N) (i : Fin 128) (j : Fin 512) :
    (iblk m c 10 t : Vec Ideal S1x128x512 .f32) (ix3 0 i j) = m ((c : Thread nD τ).loc main_arg2) (ix3 (tb t) (tq t i) ⟨j.val, by omega⟩) := by
  blk_simp [iblk]
  show V m c main_arg2 _ = _
  rw [V_main_arg2]
  congr 1
  blk_ext [e10]
theorem x3_at (c : Dev nD) (t : Fin cfg0.N) (r : Fin 256) (j : Fin 128) :
    (iblk m c 3 t : Vec Ideal S1x256x128 .f32) (ix3 0 r j) = m ((c : Thread nD τ).loc main_arg0) (ix3 (tb t) r ⟨512 + j.val, by omega⟩) := by
  blk_simp [iblk]
  show V m c main_v0 _ = _
  rw [← V_main_v0_at m c (tb t) r ⟨j.val, by omega⟩]
  congr 1
  blk_ext [e3]
theorem x4_at (c : Dev nD) (t : Fin cfg0.N) (r : Fin 256) (j : Fin 128) :
    (iblk m c 4 t : Vec Ideal S1x256x128 .f32) (ix3 0 r j) = m ((c : Thread nD τ).loc main_arg0) (ix3 (tb t) r ⟨640 + j.val, by omega⟩) := by
  blk_simp [iblk]
  show V m c main_v0 _ = _
  rw [show (⟨640 + j.val, by omega⟩ : Fin 1536) = ⟨512 + (⟨128 + j.val, by omega⟩ : Fin 256).val, by simp only; omega⟩ from Fin.ext (by simp only; omega),
    ← V_main_v0_at m c (tb t) r ⟨128 + j.val, by omega⟩]
  congr 1
  blk_ext [e4]
theorem x5_at (c : Dev nD) (t : Fin cfg0.N) (h : Fin 8) :
    (iblk m c 5 t : Vec Ideal S1x8 .f32) (ix2 0 h) = m ((c : Thread nD τ).loc main_arg1) (ix1 h) := by
  blk_simp [iblk]
  show V m c main_v1 _ = _
  rw [← V_main_v1_at m c h]
  congr 1
  blk_ext [e5]

end Cert.AttnBwdIdeal.Gen

end
-- ==== Proof.AttnRefIdx.lean ====
module

public import proofs.«01_k».proof.Proof.Gen.AttnRefIdeal.Read
public import proofs.«01_k».proof.Proof.AttnMath
public import Idealize.ShloMosaic.Lib.Pointwise

@[expose] public section

set_option maxRecDepth 16384

noncomputable section

namespace Cert.AttnRefIdeal.Read

open Cert.AttnRefIdeal Cert.AttnRefIdeal.Gen Idealize.ShloMosaic Idealize.SL.Sem Cert.AttnMath
open scoped BigOperators

variable (x0 : FVec Ideal S4x256x1536 .f32) (x1 : FVec Ideal S8 .f32) (x2 : FVec Ideal S4x256x1024 .f32)

theorem at3 {k n m : ℕ} {α : Type} (v : (⟨3, ![k, n, m]⟩ : Shape).Idx → α) {z : Fin k} {a a' : Fin n} {b b' : Fin m} (ha : (a : ℕ) = a') (hb : (b : ℕ) = b') :
    v (ix3 z a b) = v (ix3 z a' b') := by rw [Fin.ext ha, Fin.ext hb]
theorem at4 {n0 n1 n2 n3 : ℕ} {α : Type} (v : (⟨4, ![n0, n1, n2, n3]⟩ : Shape).Idx → α) {a a' : Fin n0} {b b' : Fin n1} {c c' : Fin n2} {d d' : Fin n3}
    (ha : (a : ℕ) = a') (hb : (b : ℕ) = b') (hc : (c : ℕ) = c') (hd : (d : ℕ) = d') : v (ix4 a b c d) = v (ix4 a' b' c' d') := by
  rw [Fin.ext ha, Fin.ext hb, Fin.ext hc, Fin.ext hd]
theorem at5 {n0 n1 n2 n3 n4 : ℕ} {α : Type} (v : (⟨5, ![n0, n1, n2, n3, n4]⟩ : Shape).Idx → α) {a a' : Fin n0} {b b' : Fin n1} {c c' : Fin n2} {d d' : Fin n3} {e e' : Fin n4}
    (ha : (a : ℕ) = a') (hb : (b : ℕ) = b') (hc : (c : ℕ) = c') (hd : (d : ℕ) = d') (he : (e : ℕ) = e') : v (ix5 a b c d e) = v (ix5 a' b' c' d' e') := by
  rw [Fin.ext ha, Fin.ext hb, Fin.ext hc, Fin.ext hd, Fin.ext he]

/-- The column of coordinate `d` of head `g` over key head `k`. -/
abbrev ucol (k : Fin 2) (g : Fin 4) (d : Fin 64) : Fin 1536 := ⟨(k : ℕ) * 256 + (g : ℕ) * 64 + (d : ℕ), by omega⟩
/-- The column of coordinate `d` of key head `k`'s keys. -/
abbrev kucol (k : Fin 2) (d : Fin 64) : Fin 1536 := ⟨512 + ((k : ℕ) * 64 + (d : ℕ)), by omega⟩
/-- The column of coordinate `d` of key head `k`'s values. -/
abbrev vucol (k : Fin 2) (d : Fin 64) : Fin 1536 := ⟨640 + ((k : ℕ) * 64 + (d : ℕ)), by omega⟩
/-- The column of the cotangent of coordinate `d` of head `g` over key head `k`. -/
abbrev mcol (k : Fin 2) (g : Fin 4) (d : Fin 64) : Fin 1024 := ⟨(k : ℕ) * 256 + (g : ℕ) * 64 + (d : ℕ), by omega⟩

/-- The scores of query `q`, head `g` over key head `k`, of batch entry `b`. -/
def gs (b : Fin 4) (k : Fin 2) (g : Fin 4) (q : Fin 256) : Fin 256 → EReal :=
  fun c => (∑ d : Fin 64, x0 (ix3 b c (kucol k d)) * x0 (ix3 b q (ucol k g d))) * eighth
/-- The head's sink. -/
def gt (k : Fin 2) (g : Fin 4) : EReal := x1 (ix1 ⟨(k : ℕ) * 4 + (g : ℕ), by omega⟩)
/-- The cotangent of the probabilities. -/
def gd (b : Fin 4) (k : Fin 2) (g : Fin 4) (q : Fin 256) : Fin 256 → EReal :=
  fun c => ∑ d : Fin 64, x2 (ix3 b q (mcol k g d)) * x0 (ix3 b c (vucol k d))

theorem v10_at (b : Fin 4) (k : Fin 2) (g : Fin 4) (q c : Fin 256) : val_main_v10 (F := Ideal) x0 (ix5 b k g q c) = gs x0 b k g q c := by
  pointwise [val_main_v10, val_main_v9, val_main_cst, val_main_v8, val_main_v7, val_main_v6, val_main_v3, val_main_v2, val_main_v1, val_main_v0]
  rfl
theorem v49_at (b : Fin 4) (k : Fin 2) (g : Fin 4) (q c : Fin 256) : val_main_v49 (F := Ideal) x0 x2 (ix5 b k g q c) = gd x0 x2 b k g q c := by
  pointwise [val_main_v49, val_main_v48, val_main_v47, val_main_v46, val_main_v5, val_main_v4]
  rfl
theorem v34_at (b : Fin 4) (k : Fin 2) (g : Fin 4) (q : Fin 256) (c : Fin 257) : val_main_v34 (F := Ideal) x0 x1 (ix5 b k g q c) = rex (gs x0 b k g q) (gt x1 k g) c := by
  pointwise [val_main_v34, val_main_v33, val_main_v32, val_main_v31, val_main_v21, val_main_v20, val_main_cst_2, val_main_v14, val_main_cst_0, val_main_v13, val_main_v12, val_main_v11]
  simp only [v10_at]
  rfl
theorem v35_at (b : Fin 4) (k : Fin 2) (g : Fin 4) (q : Fin 256) : val_main_v35 (F := Ideal) x0 x1 (ix4 b k g q) = rsum (gs x0 b k g q) (gt x1 k g) := by
  pointwise [val_main_v35, val_main_cst_8]
  simp only [v34_at]
  rfl
theorem v64_at (b : Fin 4) (k : Fin 2) (g : Fin 4) (q : Fin 256) (c : Fin 257) :
    val_main_v64 (F := Ideal) x0 x1 x2 (ix5 b k g q c) = rds (gs x0 b k g q) (gt x1 k g) (gd x0 x2 b k g q) c := by
  pointwise [val_main_v64, val_main_v63, val_main_v62, val_main_v61, val_main_cst_12, val_main_v60, val_main_v59, val_main_v58, val_main_v57, val_main_v56, val_main_cst_11, val_main_v55, val_main_v54, val_main_v53, val_main_v41, val_main_v40, val_main_cst_9, val_main_v39, val_main_v36, val_main_v52, val_main_cst_10]
  simp only [v34_at, v35_at, v49_at]
  rfl

section Real
variable (hs : ∀ (b : Fin 4) (c : Fin 256) (j : Fin 1536), (j : ℕ) < 640 → ∃ r : ℝ, x0 (ix3 b c j) = (r : EReal))
  (ht : ∀ h : Fin 8, ∃ r : ℝ, x1 (ix1 h) = (r : EReal))
include hs in
theorem gs_real (b : Fin 4) (k : Fin 2) (g : Fin 4) (q c : Fin 256) : ∃ r : ℝ, gs x0 b k g q c = (r : EReal) := by
  obtain ⟨e, -, he⟩ := eighth_real
  have h1 : ∀ d : Fin 64, ∃ r : ℝ, x0 (ix3 b c (kucol k d)) = (r : EReal) := fun d => hs _ _ _ (by show 512 + ((k : ℕ) * 64 + (d : ℕ)) < 640; omega)
  have h2 : ∀ d : Fin 64, ∃ r : ℝ, x0 (ix3 b q (ucol k g d)) = (r : EReal) := fun d => hs _ _ _ (by show (k : ℕ) * 256 + (g : ℕ) * 64 + (d : ℕ) < 640; omega)
  choose f hf using h1
  choose f' hf' using h2
  refine ⟨(∑ d, f d * f' d) * e, ?_⟩
  rw [gs, he, EReal.coe_mul, ← sum_coe]
  simp only [hf, hf', EReal.coe_mul]
include ht in
theorem gt_real (k : Fin 2) (g : Fin 4) : ∃ r : ℝ, gt x1 k g = (r : EReal) := ht _

include hs ht

theorem v64_of (b : Fin 4) (k : Fin 2) (g : Fin 4) (q c : Fin 256) (b' : Fin 4) (k' : Fin 2) (g' : Fin 4) (q' : Fin 256) (c' : Fin 257)
    (hb : (b' : ℕ) = b) (hk : (k' : ℕ) = k) (hg : (g' : ℕ) = g) (hq : (q' : ℕ) = q) (hc : (c' : ℕ) = (c : ℕ) + 1) :
    val_main_v64 (F := Ideal) x0 x1 x2 (ix5 b' k' g' q' c') = dsc (gs x0 b k g q) (gt x1 k g) (gd x0 x2 b k g q) c := by
  rw [at5 (val_main_v64 (F := Ideal) x0 x1 x2) hb hk hg hq (show (c' : ℕ) = (c.succ : Fin 257) by rw [hc]; rfl), v64_at,
    rds_succ (fun c => gs_real x0 hs b k g q c) (gt_real x1 ht k g)]
theorem v64_of0 (b : Fin 4) (k : Fin 2) (g : Fin 4) (q : Fin 256) :
    val_main_v64 (F := Ideal) x0 x1 x2 (ix5 b k g q 0) = dsk (gs x0 b k g q) (gt x1 k g) (gd x0 x2 b k g q) := by
  rw [v64_at, rds_zero (fun c => gs_real x0 hs b k g q c) (gt_real x1 ht k g)]

/-- The reference's query gradient. -/
theorem v78_at (b : Fin 4) (q : Fin 256) (k : Fin 2) (g : Fin 4) (d : Fin 64) (j : Fin 512) (hj : (j : ℕ) = (k : ℕ) * 256 + (g : ℕ) * 64 + (d : ℕ)) :
    val_main_v78 (F := Ideal) x0 x1 x2 (ix3 b q j)
      = ∑ c, dsc (gs x0 b k g q) (gt x1 k g) (gd x0 x2 b k g q) c * eighth * x0 (ix3 b c (kucol k d)) := by
  pointwise [val_main_v78, val_main_v77, val_main_v74, val_main_v73, val_main_v72, val_main_v71, val_main_v70, val_main_cst_14, val_main_v66, val_main_v3, val_main_v2]
  refine Finset.sum_congr rfl fun c _ => ?_
  rw [v64_of x0 x1 x2 hs ht b k g q c _ _ _ _ _ rfl (by simp; omega) (by simp; omega) rfl (by simp; omega)]
  exact congrArg _ (at3 x0 rfl (by simp; omega))

/-- The reference's key gradient. -/
theorem v79_at (b : Fin 4) (c : Fin 256) (k : Fin 2) (d : Fin 64) (j : Fin 128) (hj : (j : ℕ) = (k : ℕ) * 64 + (d : ℕ)) :
    val_main_v79 (F := Ideal) x0 x1 x2 (ix3 b c j)
      = ∑ q : Fin 256, ∑ g : Fin 4, dsc (gs x0 b k g q) (gt x1 k g) (gd x0 x2 b k g q) c * eighth * x0 (ix3 b q (ucol k g d)) := by
  pointwise [val_main_v79, val_main_v76, val_main_v75, val_main_v72, val_main_v71, val_main_v70, val_main_cst_14, val_main_v66, val_main_v6, val_main_v1, val_main_v0]
  refine Finset.sum_congr rfl fun q _ => Finset.sum_congr rfl fun g _ => ?_
  rw [v64_of x0 x1 x2 hs ht b k g q c _ _ _ _ _ rfl (by simp; omega) rfl rfl (by simp; omega)]
  exact congrArg _ (at3 x0 rfl (by simp; omega))

/-- The reference's value gradient. -/
theorem v80_at (b : Fin 4) (c : Fin 256) (k : Fin 2) (d : Fin 64) (j : Fin 128) (hj : (j : ℕ) = (k : ℕ) * 64 + (d : ℕ)) :
    val_main_v80 (F := Ideal) x0 x1 x2 (ix3 b c j)
      = ∑ g : Fin 4, ∑ q : Fin 256, x2 (ix3 b q (mcol k g d)) * prob (gs x0 b k g q) (gt x1 k g) c := by
  pointwise [val_main_v80, val_main_v51, val_main_v50, val_main_v42, val_main_v38, val_main_v37, val_main_v36, val_main_v48, val_main_v47, val_main_v46]
  refine Finset.sum_congr rfl fun g _ => Finset.sum_congr rfl fun q _ => ?_
  refine congrArg₂ (· * ·) (at3 x2 rfl (by simp; omega)) ?_
  rw [← rprob_eq (fun c => gs_real x0 hs b k g q c) (gt_real x1 ht k g) c, ← v34_at, ← v35_at]
  exact congrArg₂ _ (at5 (val_main_v34 (F := Ideal) x0 x1) rfl (by simp; omega) rfl rfl (by simp; omega)) (at4 (val_main_v35 (F := Ideal) x0 x1) rfl (by simp; omega) rfl rfl)

omit hs ht in
/-- A sum over the first, fourth and fifth of five axes. -/
theorem sum_axes (v : FVec Ideal S4x2x4x256x1 .f32) (k : Fin 2) (g : Fin 4) :
    Ideal.hostReduceAdd reducesTo_S4x2x4x256x1_S2x4_d0_3_4 v 0 (ix2 k g) = ∑ p : Fin 4 × Fin 256, v (ix5 p.1 k g p.2 0) := by
  rw [Ideal.hostReduceAdd, zero_add]
  refine Finset.sum_filter_eq_sum_of_fiber _ (fun p : Fin 4 × Fin 256 => (ix5 p.1 k g p.2 0 : S4x2x4x256x1.Idx)) (fun p q e => Prod.ext (congrFun e 0) (congrFun e 3)) (fun i => ?_) v
  constructor
  · intro e
    refine ⟨(i 0, i 3), ?_⟩
    funext a; apply Fin.ext
    match a with
    | ⟨0, _⟩ => rfl
    | ⟨1, _⟩ => exact (congrArg Fin.val (congrFun e 0)).symm
    | ⟨2, _⟩ => exact (congrArg Fin.val (congrFun e 1)).symm
    | ⟨3, _⟩ => rfl
    | ⟨4, _⟩ => exact (Nat.lt_one_iff.mp (i 4).isLt).symm
  · rintro ⟨p, rfl⟩
    funext b
    apply Fin.ext
    match b with
    | ⟨0, _⟩ => rfl
    | ⟨1, _⟩ => rfl

/-- The reference's sink gradient. -/
theorem v81_at (k : Fin 2) (g : Fin 4) (j : Fin 8) (hj : (j : ℕ) = (k : ℕ) * 4 + (g : ℕ)) :
    val_main_v81 (F := Ideal) x0 x1 x2 (ix2 0 j) = ∑ b : Fin 4, ∑ q : Fin 256, dsk (gs x0 b k g q) (gt x1 k g) (gd x0 x2 b k g q) := by
  pointwise [val_main_v81, val_main_v69, val_main_v68, val_main_v67, val_main_cst_13, val_main_v65]
  rw [sum_axes, Fintype.sum_prod_type]
  refine Finset.sum_congr rfl fun b _ => Finset.sum_congr rfl fun q _ => ?_
  pointwise
  rw [← v64_of0 x0 x1 x2 hs ht]
  exact at5 (val_main_v64 (F := Ideal) x0 x1 x2) rfl (by simp; omega) (by simp; omega) rfl rfl

end Real

end Cert.AttnRefIdeal.Read

end
-- ==== Proof.AttnArr.lean ====
module

public import proofs.«01_k».proof.Proof.AttnReads
public import proofs.«01_k».proof.Proof.AttnRefIdx

@[expose] public section

set_option maxRecDepth 16384

noncomputable section

namespace Cert.AttnBwdIdeal.Gen

open Cert.AttnBwdIdeal Idealize.ShloMosaic Idealize.ShloMosaic.TcCoe Idealize.SL Idealize.SL.Sem Cert.AttnMath
open Idealize.ShloMosaic.Pipeline (Dat Cfg Window)
open Cert.AttnRefIdeal.Read (gs gt gd ucol kucol vucol mcol v78_at v79_at v80_at v81_at val_main_v78 val_main_v79 val_main_v80 val_main_v81)
open scoped BigOperators

variable (m : (ℓ : Loc nD τ sig) → Buf (Elt Ideal) ℓ)

/-- The projections, the sinks and the cotangent of core `c`. -/
abbrev U (c : Dev nD) : FVec Ideal S4x256x1536 .f32 := m ((c : Thread nD τ).loc main_arg0)
abbrev K (c : Dev nD) : FVec Ideal S8 .f32 := m ((c : Thread nD τ).loc main_arg1)
abbrev D (c : Dev nD) : FVec Ideal S4x256x1024 .f32 := m ((c : Thread nD τ).loc main_arg2)

/-! ## A point's scores are the batch entry's -/

theorem re1 (a e b : EReal) : a * e * b = b * a * e := by rw [mul_right_comm, mul_comm a b]
theorem re2 (a e b : EReal) : a * (b * e) = a * e * b := by rw [mul_comm b e, mul_assoc]

theorem bs_eq (c : Dev nD) (t : Fin cfg0.N) (k : Fin 2) (g : Fin 4) (i : Fin 128) :
    bs (iblk m c 0 t) (iblk m c 3 t) k g i = gs (U m c) (tb t) k g (tq t i) := by
  funext r
  obtain ⟨e, he, hE⟩ := eighth_real
  rw [bs, gs, hE, sum_mul_coe _ _ e he]
  refine Finset.sum_congr rfl fun d _ => ?_
  rw [x0_at, x3_at]
  exact re1 _ _ _
theorem bt_eq (c : Dev nD) (t : Fin cfg0.N) (k : Fin 2) (g : Fin 4) : bt (iblk m c 5 t) k g = gt (K m c) k g := by
  rw [bt, gt, x5_at]
theorem bd_eq (c : Dev nD) (t : Fin cfg0.N) (k : Fin 2) (g : Fin 4) (i : Fin 128) :
    bd (iblk m c 4 t) (iblk m c 10 t) k g i = gd (U m c) (D m c) (tb t) k g (tq t i) := by
  funext r
  rw [bd, gd]
  refine Finset.sum_congr rfl fun d _ => ?_
  rw [x10_at, x4_at]

/-- The gradient of a score, a probability and the gradient of the sink, of a batch entry. -/
abbrev gg (c : Dev nD) (b : Fin 4) (k : Fin 2) (g : Fin 4) (q : Fin 256) : Fin 256 → EReal :=
  dsc (gs (U m c) b k g q) (gt (K m c) k g) (gd (U m c) (D m c) b k g q)
abbrev gp (c : Dev nD) (b : Fin 4) (k : Fin 2) (g : Fin 4) (q : Fin 256) : Fin 256 → EReal := prob (gs (U m c) b k g q) (gt (K m c) k g)
abbrev gk (c : Dev nD) (b : Fin 4) (k : Fin 2) (g : Fin 4) (q : Fin 256) : EReal :=
  dsk (gs (U m c) b k g q) (gt (K m c) k g) (gd (U m c) (D m c) b k g q)

theorem bg_eq (c : Dev nD) (t : Fin cfg0.N) (k : Fin 2) (g : Fin 4) (i : Fin 128) :
    bg (iblk m c 0 t) (iblk m c 3 t) (iblk m c 4 t) (iblk m c 5 t) (iblk m c 10 t) k g i = gg m c (tb t) k g (tq t i) := by
  unfold bg gg; rw [bs_eq, bt_eq, bd_eq]
theorem bp_eq (c : Dev nD) (t : Fin cfg0.N) (k : Fin 2) (g : Fin 4) (i : Fin 128) :
    bp (iblk m c 0 t) (iblk m c 3 t) (iblk m c 5 t) k g i = gp m c (tb t) k g (tq t i) := by
  unfold bp gp; rw [bs_eq, bt_eq]
theorem bk_eq (c : Dev nD) (t : Fin cfg0.N) (k : Fin 2) (g : Fin 4) (i : Fin 128) :
    bk (iblk m c 0 t) (iblk m c 3 t) (iblk m c 4 t) (iblk m c 5 t) (iblk m c 10 t) k g i = gk m c (tb t) k g (tq t i) := by
  unfold bk gk; rw [bs_eq, bt_eq, bd_eq]

/-- A sum over the queries is the sums over a batch entry's two points. -/
theorem sum_q (f : Fin 256 → EReal) (t : Fin cfg0.N) (h : ¬t.val % 2 = 0) :
    ∑ q, f q = ∑ i, f (tq ⟨t.val - 1, Nat.lt_of_le_of_lt (Nat.sub_le _ _) t.isLt⟩ i) + ∑ i, f (tq t i) := by
  rw [show (∑ q, f q) = ∑ q : Fin (128 + 128), f q from rfl, Fin.sum_univ_add]
  refine congrArg₂ _ (Finset.sum_congr rfl fun i _ => congrArg f (Fin.ext ?_)) (Finset.sum_congr rfl fun i _ => congrArg f (Fin.ext ?_))
  · show i.val = 128 * ((t.val - 1) % 2) + i.val; omega
  · show 128 + i.val = 128 * (t.val % 2) + i.val; omega

/-! ## What a point's blocks hold -/

theorem dq_pt (c : Dev nD) (t : Fin cfg0.N) (k : Fin 2) (g : Fin 4) (i : Fin 128) (d : Fin 64) :
    bdq (iblk m c 0 t) (iblk m c 3 t) (iblk m c 4 t) (iblk m c 5 t) (iblk m c 10 t) (ix3 0 i (col k g d))
      = ∑ r, gg m c (tb t) k g (tq t i) r * eighth * U m c (ix3 (tb t) r (kucol k d)) := by
  obtain ⟨e, he, hE⟩ := eighth_real
  rw [bdq_at, dq0, hE, sum_mul_coe _ _ e he]
  refine Finset.sum_congr rfl fun r _ => ?_
  rw [bg_eq, x3_at]
  exact mul_right_comm (_ : EReal) _ _

/-- The part of the key gradient that a point adds. -/
abbrev dkp (c : Dev nD) (b : Fin 4) (k : Fin 2) (r : Fin 256) (d : Fin 64) (q : Fin 256) : EReal :=
  ∑ g : Fin 4, gg m c b k g q r * eighth * U m c (ix3 b q (ucol k g d))
theorem dk_pt (c : Dev nD) (t : Fin cfg0.N) (y : Vec Ideal S1x256x128 .f32) (k : Fin 2) (r : Fin 256) (d : Fin 64) :
    bdk (iblk m c 0 t) (iblk m c 3 t) (iblk m c 4 t) (iblk m c 5 t) (iblk m c 10 t) y (ix3 0 r (kcol k d))
      = y (ix3 0 r (kcol k d)) + ∑ i, dkp m c (tb t) k r d (tq t i) := by
  rw [bdk_at, Finset.sum_comm]
  refine congrArg₂ _ rfl (Finset.sum_congr rfl fun i _ => Finset.sum_congr rfl fun g _ => ?_)
  rw [bg_eq, x0_at]
  exact re2 _ _ _

/-- The part of the value gradient that a point adds. -/
abbrev dvp (c : Dev nD) (b : Fin 4) (k : Fin 2) (r : Fin 256) (d : Fin 64) (q : Fin 256) : EReal :=
  ∑ g : Fin 4, D m c (ix3 b q (mcol k g d)) * gp m c b k g q r
theorem dv_pt (c : Dev nD) (t : Fin cfg0.N) (y : Vec Ideal S1x256x128 .f32) (k : Fin 2) (r : Fin 256) (d : Fin 64) :
    bdv (iblk m c 0 t) (iblk m c 3 t) (iblk m c 4 t) (iblk m c 5 t) (iblk m c 10 t) y (ix3 0 r (kcol k d))
      = y (ix3 0 r (kcol k d)) + ∑ i, dvp m c (tb t) k r d (tq t i) := by
  rw [bdv_at, Finset.sum_comm]
  refine congrArg₂ _ rfl (Finset.sum_congr rfl fun i _ => Finset.sum_congr rfl fun g _ => ?_)
  rw [bp_eq, x10_at]
  exact mul_comm (_ : EReal) _

theorem ds_pt (c : Dev nD) (t : Fin cfg0.N) (y : Vec Ideal S1x8 .f32) (k : Fin 2) (g : Fin 4) :
    bds (iblk m c 0 t) (iblk m c 3 t) (iblk m c 4 t) (iblk m c 5 t) (iblk m c 10 t) y (ix2 0 (hd k g))
      = y (ix2 0 (hd k g)) + ∑ i, gk m c (tb t) k g (tq t i) := by
  rw [bds_at]
  refine congrArg₂ _ rfl (Finset.sum_congr rfl fun i _ => ?_)
  rw [bk_eq]

theorem pay7_at (j) : k0_pay7 (F := Ideal) j = 0 := Ideal.ofBits_zero_f32
theorem pay8_at (j) : k0_pay8 (F := Ideal) j = 0 := Ideal.ofBits_zero_f32
theorem pay9_at (j) : k0_pay9 (F := Ideal) j = 0 := Ideal.ofBits_zero_f32

theorem dkAt_at (c : Dev nD) (t : Fin cfg0.N) (h : ¬t.val % 2 = 0) (k : Fin 2) (r : Fin 256) (d : Fin 64) :
    dkAt m c t (ix3 0 r (kcol k d)) = ∑ q, dkp m c (tb t) k r d q := by
  rw [dkAt_odd m c t h, dk_pt, dkAt_even m c _ (by dsimp only; omega), dk_pt, pay7_at, zero_add, sum_q _ t h]
  refine congrArg₂ _ (Finset.sum_congr rfl fun i _ => ?_) rfl
  rw [show tb ⟨t.val - 1, Nat.lt_of_le_of_lt (Nat.sub_le _ _) t.isLt⟩ = tb t from Fin.ext (by dsimp only; omega)]
theorem dvAt_at (c : Dev nD) (t : Fin cfg0.N) (h : ¬t.val % 2 = 0) (k : Fin 2) (r : Fin 256) (d : Fin 64) :
    dvAt m c t (ix3 0 r (kcol k d)) = ∑ q, dvp m c (tb t) k r d q := by
  rw [dvAt_odd m c t h, dv_pt, dvAt_even m c _ (by dsimp only; omega), dv_pt, pay8_at, zero_add, sum_q _ t h]
  refine congrArg₂ _ (Finset.sum_congr rfl fun i _ => ?_) rfl
  rw [show tb ⟨t.val - 1, Nat.lt_of_le_of_lt (Nat.sub_le _ _) t.isLt⟩ = tb t from Fin.ext (by dsimp only; omega)]

/-! The sink gradient from point to point. -/
theorem dsAt_odd (c : Dev nD) (k : Fin 2) (g : Fin 4) (n : ℕ) (hn : n + 1 < cfg0.N) (b : Fin 4) (hb : n / 2 = b.val) (h : n % 2 = 0) (y : EReal)
    (hy : dsAt m c n (Nat.lt_of_succ_lt hn) (ix2 0 (hd k g)) = y + ∑ i, gk m c b k g (tq ⟨n, Nat.lt_of_succ_lt hn⟩ i)) :
    dsAt m c (n + 1) hn (ix2 0 (hd k g)) = y + ∑ q, gk m c b k g q := by
  have e : dsAt m c (n + 1) hn = bds (iblk m c 0 ⟨n + 1, hn⟩) (iblk m c 3 ⟨n + 1, hn⟩) (iblk m c 4 ⟨n + 1, hn⟩) (iblk m c 5 ⟨n + 1, hn⟩) (iblk m c 10 ⟨n + 1, hn⟩) (dsAt m c n (Nat.lt_of_succ_lt hn)) := rfl
  rw [e, ds_pt, hy, sum_q _ ⟨n + 1, hn⟩ (by dsimp only; omega), add_assoc, show tb ⟨n + 1, hn⟩ = b from Fin.ext (by dsimp only; omega)]
  rfl
theorem dsAt_even (c : Dev nD) (k : Fin 2) (g : Fin 4) (n : ℕ) (hn : n + 1 < cfg0.N) (b : Fin 4) (hb : (n + 1) / 2 = b.val) (y : EReal)
    (hy : dsAt m c n (Nat.lt_of_succ_lt hn) (ix2 0 (hd k g)) = y) :
    dsAt m c (n + 1) hn (ix2 0 (hd k g)) = y + ∑ i, gk m c b k g (tq ⟨n + 1, hn⟩ i) := by
  have e : dsAt m c (n + 1) hn = bds (iblk m c 0 ⟨n + 1, hn⟩) (iblk m c 3 ⟨n + 1, hn⟩) (iblk m c 4 ⟨n + 1, hn⟩) (iblk m c 5 ⟨n + 1, hn⟩) (iblk m c 10 ⟨n + 1, hn⟩) (dsAt m c n (Nat.lt_of_succ_lt hn)) := rfl
  rw [e, ds_pt, hy, show tb ⟨n + 1, hn⟩ = b from Fin.ext hb]
theorem dsAt_first (c : Dev nD) (k : Fin 2) (g : Fin 4) (h : 0 < cfg0.N) :
    dsAt m c 0 h (ix2 0 (hd k g)) = 0 + ∑ i, gk m c 0 k g (tq ⟨0, h⟩ i) := by
  have e : dsAt m c 0 h = bds (iblk m c 0 ⟨0, h⟩) (iblk m c 3 ⟨0, h⟩) (iblk m c 4 ⟨0, h⟩) (iblk m c 5 ⟨0, h⟩) (iblk m c 10 ⟨0, h⟩) (k0_pay9 (F := Ideal)) := rfl
  rw [e, ds_pt, pay9_at, show tb ⟨0, h⟩ = 0 from Fin.ext (Nat.zero_div 2)]
theorem dsAt_at (c : Dev nD) (k : Fin 2) (g : Fin 4) (h : 7 < cfg0.N) :
    dsAt m c 7 h (ix2 0 (hd k g)) = ∑ b : Fin 4, ∑ q, gk m c b k g q := by
  have hN : cfg0.N = 8 := N_0
  have h0 := dsAt_first m c k g (by omega)
  have h1 := dsAt_odd m c k g 0 (by omega) 0 rfl rfl _ h0
  have h2 := dsAt_even m c k g 1 (by omega) 1 rfl _ h1
  have h3 := dsAt_odd m c k g 2 (by omega) 1 rfl rfl _ h2
  have h4 := dsAt_even m c k g 3 (by omega) 2 rfl _ h3
  have h5 := dsAt_odd m c k g 4 (by omega) 2 rfl rfl _ h4
  have h6 := dsAt_even m c k g 5 (by omega) 3 rfl _ h5
  have h7 := dsAt_odd m c k g 6 (by omega) 3 rfl rfl _ h6
  rw [Fin.sum_univ_four]
  rw [zero_add] at h7
  exact h7

/-! ## The four arrays -/

section Arrays
variable (c : Dev nD)
  (hs : ∀ (b : Fin 4) (r : Fin 256) (j : Fin 1536), (j : ℕ) < 640 → ∃ x : ℝ, U m c (ix3 b r j) = (x : EReal))
  (ht : ∀ h : Fin 8, ∃ x : ℝ, K m c (ix1 h) = (x : EReal))
include hs ht

theorem arr11 : (dats m 0 c).arrAt 11 cfg0.N = val_main_v78 (F := Ideal) (U m c) (K m c) (D m c) := by
  refine (dats m 0 c).arrAt_eq_of_covers 11 _ (by decide +kernel) fun t hf y => ?_
  blk_simp
  rw [after0_11]
  obtain ⟨y0, y1, y2, rfl⟩ : ∃ (y0 : Fin 1) (y1 : Fin 128) (y2 : Fin 512), y = ix3 y0 y1 y2 := ⟨y 0, y 1, y 2, eq_ix3 y⟩
  obtain rfl : y0 = 0 := Subsingleton.elim _ _
  rw [show ((win0_11.blk t).view.emb (ix3 0 y1 y2)) = ix3 (tb t) (tq t y1) y2 by blk_ext [e11]]
  obtain ⟨k, g, d, hy⟩ : ∃ (k : Fin 2) (g : Fin 4) (d : Fin 64), (y2 : ℕ) = (k : ℕ) * 256 + (g : ℕ) * 64 + (d : ℕ) :=
    ⟨⟨y2.val / 256, by omega⟩, ⟨y2.val % 256 / 64, by omega⟩, ⟨y2.val % 64, by omega⟩, by dsimp only; omega⟩
  rw [v78_at (U m c) (K m c) (D m c) hs ht _ _ k g d y2 hy, show y2 = col k g d from Fin.ext hy]
  exact dq_pt m c t k g y1 d

theorem arr14 : (dats m 0 c).arrAt 14 cfg0.N = val_main_v79 (F := Ideal) (U m c) (K m c) (D m c) := by
  refine (dats m 0 c).arrAt_eq_of_covers 14 _ (by decide +kernel) fun t hf y => ?_
  blk_simp
  rw [after0_14]
  obtain ⟨y0, y1, y2, rfl⟩ : ∃ (y0 : Fin 1) (y1 : Fin 256) (y2 : Fin 128), y = ix3 y0 y1 y2 := ⟨y 0, y 1, y 2, eq_ix3 y⟩
  obtain rfl : y0 = 0 := Subsingleton.elim _ _
  rw [show ((win0_14.blk t).view.emb (ix3 0 y1 y2)) = ix3 (tb t) y1 y2 by blk_ext [e14]]
  obtain ⟨k, d, hy⟩ : ∃ (k : Fin 2) (d : Fin 64), (y2 : ℕ) = (k : ℕ) * 64 + (d : ℕ) :=
    ⟨⟨y2.val / 64, by omega⟩, ⟨y2.val % 64, by omega⟩, by dsimp only; omega⟩
  rw [v79_at (U m c) (K m c) (D m c) hs ht _ _ k d y2 hy, show y2 = kcol k d from Fin.ext hy]
  exact dkAt_at m c t (by have := (flush0_14 t).mp hf; omega) k y1 d

theorem arr15 : (dats m 0 c).arrAt 15 cfg0.N = val_main_v80 (F := Ideal) (U m c) (K m c) (D m c) := by
  refine (dats m 0 c).arrAt_eq_of_covers 15 _ (by decide +kernel) fun t hf y => ?_
  blk_simp
  rw [after0_15]
  obtain ⟨y0, y1, y2, rfl⟩ : ∃ (y0 : Fin 1) (y1 : Fin 256) (y2 : Fin 128), y = ix3 y0 y1 y2 := ⟨y 0, y 1, y 2, eq_ix3 y⟩
  obtain rfl : y0 = 0 := Subsingleton.elim _ _
  rw [show ((win0_15.blk t).view.emb (ix3 0 y1 y2)) = ix3 (tb t) y1 y2 by blk_ext [e15]]
  obtain ⟨k, d, hy⟩ : ∃ (k : Fin 2) (d : Fin 64), (y2 : ℕ) = (k : ℕ) * 64 + (d : ℕ) :=
    ⟨⟨y2.val / 64, by omega⟩, ⟨y2.val % 64, by omega⟩, by dsimp only; omega⟩
  rw [v80_at (U m c) (K m c) (D m c) hs ht _ _ k d y2 hy, show y2 = kcol k d from Fin.ext hy, Finset.sum_comm]
  exact dvAt_at m c t (by have := (flush0_15 t).mp hf; omega) k y1 d

theorem arr16 : (dats m 0 c).arrAt 16 cfg0.N = val_main_v81 (F := Ideal) (U m c) (K m c) (D m c) := by
  refine (dats m 0 c).arrAt_eq_of_covers 16 _ (by decide +kernel) fun t hf y => ?_
  blk_simp
  rw [after0_16]
  obtain ⟨y0, y1, rfl⟩ : ∃ (y0 : Fin 1) (y1 : Fin 8), y = ix2 y0 y1 := ⟨y 0, y 1, eq_ix2 y⟩
  obtain rfl : y0 = 0 := Subsingleton.elim _ _
  rw [show ((win0_16.blk t).view.emb (ix2 0 y1)) = ix2 0 y1 by blk_ext [e16]]
  have h7 := (flush0_16 t).mp hf
  have hN := lt_of_lt_of_eq t.isLt (show cfg0.N = 8 from N_0)
  obtain ⟨k, g, hy⟩ : ∃ (k : Fin 2) (g : Fin 4), (y1 : ℕ) = (k : ℕ) * 4 + (g : ℕ) :=
    ⟨⟨y1.val / 4, by omega⟩, ⟨y1.val % 4, by omega⟩, by dsimp only; omega⟩
  rw [v81_at (U m c) (K m c) (D m c) hs ht k g y1 hy, show y1 = hd k g from Fin.ext hy]
  obtain ⟨n, hn⟩ := t
  obtain rfl : n = 7 := by dsimp only at h7 hN; omega
  exact dsAt_at m c k g hn

end Arrays

end Cert.AttnBwdIdeal.Gen

end
-- ==== Proof.AttnAlg.lean ====
module

public import proofs.«01_k».proof.Defs
public import proofs.«01_k».proof.Proof.Gen.AttnBwd
public import proofs.«01_k».proof.Proof.Gen.AttnBwdIdeal
public import proofs.«01_k».proof.Proof.Gen.AttnRefIdeal
public import proofs.«01_k».proof.Proof.AttnArr
public import proofs.«01_k».proof.Proof.AttnPre

@[expose] public section

set_option maxRecDepth 16384

noncomputable section

namespace Cert.Proof.Attn

open Idealize.ShloMosaic Idealize.SL.Sem Idealize.ShloMosaic.Tactic

/-! ## The claims about the gradient of the context attention -/

/-- The two programs have one text, so the run over the machine's floats is the other's. -/
theorem frame_bits : Cert.quiescent_AttnBwd := by
  intro m g _
  refine Eq.mp ?_ (Cert.AttnBwdIdeal.Gen.frame (F := Bits) m g)
  sl_kernel_rfl
theorem frame_ideal : Cert.quiescent_AttnBwdIdeal := fun m g _ => Cert.AttnBwdIdeal.Gen.frame m g
theorem frame_ideal_pre : Cert.quiescent_AttnBwdIdeal_pre_finite_scores := fun m g _ => Cert.AttnBwdIdeal.Gen.frame m g

theorem frame_ref : Cert.quiescent_AttnRefIdeal := fun m g _ =>
  (θ_run Cert.AttnRefIdeal.defs _ _).mono (fun r h => ⟨fun c => (h c).2.2.2.2, sem_eq_zero_of_no_sems (by decide) r.2⟩)
    (Cert.AttnRefIdeal.Value.run (F := Ideal) m g)
theorem frame_ref_pre : Cert.quiescent_AttnRefIdeal_pre_finite_scores := fun m g _ => frame_ref m g trivial

set_option maxHeartbeats 8000000 in
theorem algebraic : Cert.algebraic_AttnBwdIdeal_AttnRefIdeal_pre_finite_scores := by
  intro m g m' g' hpre hagree
  have hs := fun c => Cert.Pre_finite_scores.u_real _ _ _ (hpre c)
  have ht := fun c => Cert.Pre_finite_scores.s_real _ _ _ (hpre c)
  refine ⟨fun c => (Cert.AttnBwdIdeal.Gen.dats m 0 c).arrAt 11 Cert.AttnBwdIdeal.cfg0.N, fun c => (Cert.AttnBwdIdeal.Gen.dats m 0 c).arrAt 14 Cert.AttnBwdIdeal.cfg0.N,
    fun c => (Cert.AttnBwdIdeal.Gen.dats m 0 c).arrAt 15 Cert.AttnBwdIdeal.cfg0.N, fun c => (Cert.AttnBwdIdeal.Gen.dats m 0 c).arrAt 16 Cert.AttnBwdIdeal.cfg0.N,
    (θ_run Cert.AttnBwdIdeal.defs _ _).mono (fun _ h => h.1) (Cert.AttnBwdIdeal.Gen.run_arrays m g),
    (θ_run Cert.AttnRefIdeal.defs _ _).mono (fun r h c => ?_) (Cert.AttnRefIdeal.Value.run (F := Ideal) m' g')⟩
  obtain ⟨h0, h1, h2, h3, ha⟩ := h c
  obtain ⟨e0, e1, e2⟩ := hagree c
  refine ⟨h0.trans ?_, h1.trans ?_, h2.trans ?_, h3.trans ?_, ha⟩
  · rw [Cert.AttnRefIdeal.Read.val_main_v78_eq, e0, e1, e2]
    exact (Cert.AttnBwdIdeal.Gen.arr11 m c (hs c) (ht c)).symm
  · rw [Cert.AttnRefIdeal.Read.val_main_v79_eq, e0, e1, e2]
    exact (Cert.AttnBwdIdeal.Gen.arr14 m c (hs c) (ht c)).symm
  · rw [Cert.AttnRefIdeal.Read.val_main_v80_eq, e0, e1, e2]
    exact (Cert.AttnBwdIdeal.Gen.arr15 m c (hs c) (ht c)).symm
  · rw [Cert.AttnRefIdeal.Read.val_main_v81_eq, e0, e1, e2]
    exact (Cert.AttnBwdIdeal.Gen.arr16 m c (hs c) (ht c)).symm

end Cert.Proof.Attn

end
-- ==== Proof.MmFfnInDx.lean ====
module

public import proofs.«01_k».proof.Defs
public import proofs.«01_k».proof.Proof.Gen.FfnInDx
public import proofs.«01_k».proof.Proof.Gen.FfnInDxIdeal
public import proofs.«01_k».proof.Proof.Gen.FfnInDxIdeal.Frame
public import proofs.«01_k».proof.Proof.Gen.FfnInDxIdeal.Value
public import proofs.«01_k».proof.Proof.Gen.FfnInDxRefIdeal
public import proofs.«01_k».proof.Proof.Gen.FfnInDxRefIdeal.Read
public import Idealize.ShloMosaic.Lib.Pointwise
public import Idealize.ShloMosaic.Lib.StableHlo.ReadAt
public import Idealize.ShloMosaic.Lib.Pipeline.ValueKit.Geometry
public import Idealize.ShloMosaic.Lib.Pipeline.ValueKit.Acc

@[expose] public section

set_option maxRecDepth 16384

noncomputable section

namespace Cert.FfnInDxIdeal.Gen

open Cert.FfnInDxIdeal Idealize.ShloMosaic Idealize.ShloMosaic.TcCoe Idealize.SL Idealize.SL.Sem
open Idealize.ShloMosaic.Pipeline (Dat Cfg Window)
open Cert.FfnInDxRefIdeal.Read
open scoped BigOperators

variable (m : (ℓ : Loc nD τ sig) → Buf (Elt Ideal) ℓ)

/-- The row and the column of a point's block of the result. -/
abbrev pi (t : Fin cfg0.N) (i : Fin 1024) : Fin 8192 := ⟨1024 * (t.val / 2) + i.val, by have := lt_of_lt_of_eq t.isLt (show cfg0.N = 16 from N_0); omega⟩
abbrev pj (t : Fin cfg0.N) (j : Fin 512) : Fin 1024 := ⟨512 * (t.val % 2) + j.val, by have := lt_of_lt_of_eq t.isLt (show cfg0.N = 16 from N_0); omega⟩

theorem e0 : ∀ t : Fin cfg0.N, win0_0.index t = ![(t.val / 2), 0] := (by decide +kernel : ∀ t : Fin grid0.N, _)
theorem e1 : ∀ t : Fin cfg0.N, win0_1.index t = ![(t.val % 2), 0] := (by decide +kernel : ∀ t : Fin grid0.N, _)
theorem e2 : ∀ t : Fin cfg0.N, win0_2.index t = ![(t.val / 2), (t.val % 2)] := (by decide +kernel : ∀ t : Fin grid0.N, _)

/-- The result of a point is the product of its blocks. -/
theorem pay_at (x0 : Vec Ideal S1024x5632 .bf16) (x1 : Vec Ideal S512x5632 .bf16) (i : Fin 1024) (j : Fin 512) :
    k0_pay1 x0 x1 (ix2 i j) = ∑ k : Fin 5632, x0 (ix2 i k) * x1 (ix2 j k) := by
  pointwise [k0_pay1]

theorem x0_at (c : Dev nD) (t : Fin cfg0.N) (i : Fin 1024) (k : Fin 5632) :
    (iblk m c 0 t : Vec Ideal S1024x5632 .bf16) (ix2 i k) = m ((c : Thread nD τ).loc main_arg0) (ix2 (pi t i) k) := by
  blk_simp [iblk]
  show V m c main_arg0 _ = _
  rw [V_main_arg0]
  congr 1
  blk_ext [e0]
theorem x1_at (c : Dev nD) (t : Fin cfg0.N) (j : Fin 512) (k : Fin 5632) :
    (iblk m c 1 t : Vec Ideal S512x5632 .bf16) (ix2 j k) = m ((c : Thread nD τ).loc main_arg1) (ix2 (pj t j) k) := by
  blk_simp [iblk]
  show V m c main_arg1 _ = _
  rw [V_main_arg1]
  congr 1
  blk_ext [e1]

/-- Where the interleaved array has each column of the array in reference order: gates first, values behind them. -/
def il : Fin 5632 ≃ Fin 5632 where
  toFun c := ⟨c.val / 256 % 11 * 512 + c.val / 2816 * 256 + c.val % 256, by omega⟩
  invFun c := ⟨c.val / 256 % 2 * 2816 + c.val / 512 * 256 + c.val % 256, by omega⟩
  left_inv c := by
    obtain ⟨p, q, r, hp, hq, hr, rfl⟩ : ∃ p q r, ∃ (hp : p < 2) (hq : q < 11) (hr : r < 256), c = ⟨2816 * p + 256 * q + r, by omega⟩ :=
      ⟨c.val / 2816, c.val / 256 % 11, c.val % 256, by omega, by omega, by omega, Fin.ext (by dsimp only; omega)⟩
    have h1 : (2816 * p + 256 * q + r) / 256 % 11 = q := by omega
    have h2 : (2816 * p + 256 * q + r) / 2816 = p := by omega
    have h3 : (2816 * p + 256 * q + r) % 256 = r := by omega
    have h4 : (q * 512 + p * 256 + r) / 256 % 2 = p := by omega
    have h5 : (q * 512 + p * 256 + r) / 512 = q := by omega
    have h6 : (q * 512 + p * 256 + r) % 256 = r := by omega
    refine Fin.ext ?_
    dsimp only
    rw [h1, h2, h3, h4, h5, h6]
    omega
  right_inv c := by
    obtain ⟨p, q, r, hp, hq, hr, rfl⟩ : ∃ p q r, ∃ (hp : p < 2) (hq : q < 11) (hr : r < 256), c = ⟨512 * q + 256 * p + r, by omega⟩ :=
      ⟨c.val / 256 % 2, c.val / 512, c.val % 256, by omega, by omega, by omega, Fin.ext (by dsimp only; omega)⟩
    have h1 : (512 * q + 256 * p + r) / 256 % 2 = p := by omega
    have h2 : (512 * q + 256 * p + r) / 512 = q := by omega
    have h3 : (512 * q + 256 * p + r) % 256 = r := by omega
    have h4 : (p * 2816 + q * 256 + r) / 256 % 11 = q := by omega
    have h5 : (p * 2816 + q * 256 + r) / 2816 = p := by omega
    have h6 : (p * 2816 + q * 256 + r) % 256 = r := by omega
    refine Fin.ext ?_
    dsimp only
    rw [h1, h2, h3, h4, h5, h6]
    omega

theorem il_apply (c : Fin 5632) : il c = ⟨c.val / 256 % 11 * 512 + c.val / 2816 * 256 + c.val % 256, by omega⟩ := rfl

/-- The reference, entry by entry. -/
theorem ref_at (x0 : (⟨Cert.FfnInDxRefIdeal.S8192x5632, .bf16⟩ : BufTy).Contents (Elt Ideal)) (x1 : (⟨Cert.FfnInDxRefIdeal.S1024x5632, .bf16⟩ : BufTy).Contents (Elt Ideal)) (i : Fin 8192) (j : Fin 1024) :
    val_main_v10 (F := Ideal) x0 x1 (ix2 i j) = ∑ k : Fin 5632, x0 (ix2 i k) * x1 (ix2 j k) := by
  pointwise [val_main_v10, val_main_v9, val_main_v7, val_main_v5, val_main_v4, val_main_v3, val_main_v2, val_main_v1, val_main_v0]
  rw [← Equiv.sum_comp il fun k => x0 (ix2 i k) * x1 (ix2 j k)]
  refine Finset.sum_congr rfl fun k _ => ?_
  rw [il_apply]

/-- The array after the run is the reference's. -/
theorem arr2 (c : Dev nD) : (dats m 0 c).arrAt 2 cfg0.N
    = val_main_v10 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨y0, y1, rfl⟩ : ∃ (y0 : Fin 1024) (y1 : Fin 512), y = ix2 y0 y1 := ⟨y 0, y 1, eq_ix2 y⟩
  rw [show ((win0_2.blk t).view.emb (ix2 y0 y1)) = ix2 (pi t y0) (pj t y1) by blk_ext [e2]]
  rw [ref_at]
  refine (pay_at (iblk m c 0 t) (iblk m c 1 t) y0 y1).trans ?_
  refine Finset.sum_congr rfl fun k _ => ?_
  rw [x0_at, x1_at]

end Cert.FfnInDxIdeal.Gen

namespace Cert.Proof.FfnInDx

open Idealize.ShloMosaic Idealize.SL.Sem Idealize.ShloMosaic.Tactic

/-- The two programs have one text, so the run over the machine's floats is the other's. -/
theorem frame_bits : Cert.quiescent_FfnInDx := by
  intro m g _
  refine Eq.mp ?_ (Cert.FfnInDxIdeal.Gen.frame (F := Bits) m g)
  sl_kernel_rfl
theorem frame_ideal : Cert.quiescent_FfnInDxIdeal := fun m g _ => Cert.FfnInDxIdeal.Gen.frame m g
theorem frame_ref : Cert.quiescent_FfnInDxRefIdeal := fun m g _ =>
  (θ_run Cert.FfnInDxRefIdeal.defs _ _).mono (fun r h => ⟨fun c => (h c).2, sem_eq_zero_of_no_sems (by decide) r.2⟩)
    (Cert.FfnInDxRefIdeal.Value.run (F := Ideal) m g)

theorem algebraic : Cert.algebraic_FfnInDxIdeal_FfnInDxRefIdeal := by
  intro m g m' g' hpre hagree
  refine ⟨fun c => (Cert.FfnInDxIdeal.Gen.dats m 0 c).arrAt 2 Cert.FfnInDxIdeal.cfg0.N,
    Cert.FfnInDxIdeal.Value.run_blocks m g,
    (θ_run Cert.FfnInDxRefIdeal.defs _ _).mono (fun r h c => ?_) (Cert.FfnInDxRefIdeal.Value.run (F := Ideal) m' g')⟩
  obtain ⟨h0, ha⟩ := h c
  obtain ⟨e0, e1⟩ := hagree c
  refine ⟨h0.trans ?_, ha⟩
  rw [Cert.FfnInDxRefIdeal.Read.val_main_v10_eq, e0, e1]
  exact (Cert.FfnInDxIdeal.Gen.arr2 m c).symm

end Cert.Proof.FfnInDx

end
-- ==== Proof.MmFfnInDw.lean ====
module

public import proofs.«01_k».proof.Defs
public import proofs.«01_k».proof.Proof.Gen.FfnInDw
public import proofs.«01_k».proof.Proof.Gen.FfnInDwIdeal
public import proofs.«01_k».proof.Proof.Gen.FfnInDwIdeal.Frame
public import proofs.«01_k».proof.Proof.Gen.FfnInDwIdeal.Value
public import proofs.«01_k».proof.Proof.Gen.FfnInDwRefIdeal
public import proofs.«01_k».proof.Proof.Gen.FfnInDwRefIdeal.Read
public import Idealize.ShloMosaic.Lib.Pointwise
public import Idealize.ShloMosaic.Lib.StableHlo.ReadAt
public import Idealize.ShloMosaic.Lib.Pipeline.ValueKit.Geometry
public import Idealize.ShloMosaic.Lib.Pipeline.ValueKit.Acc

@[expose] public section

set_option maxRecDepth 16384

noncomputable section

namespace Cert.FfnInDwIdeal.Gen

open Cert.FfnInDwIdeal Idealize.ShloMosaic Idealize.ShloMosaic.TcCoe Idealize.SL Idealize.SL.Sem
open Idealize.ShloMosaic.Pipeline (Dat Cfg Window)
open Cert.FfnInDwRefIdeal.Read
open scoped BigOperators

variable (m : (ℓ : Loc nD τ sig) → Buf (Elt Ideal) ℓ)

/-- The row and the column of a point's block of the result. -/
abbrev pi (t : Fin cfg0.N) (i : Fin 1024) : Fin 1024 := ⟨1024 * 0 + i.val, by have := lt_of_lt_of_eq t.isLt (show cfg0.N = 22 from N_0); omega⟩
/-- The column of a point's block of the right operand. -/
abbrev qj (t : Fin cfg0.N) (j : Fin 256) : Fin 5632 := ⟨256 * t.val + j.val, by have := lt_of_lt_of_eq t.isLt (show cfg0.N = 22 from N_0); omega⟩
abbrev pj (t : Fin cfg0.N) (j : Fin 256) : Fin 5632 := ⟨256 * (t.val % 2 * 11 + t.val / 2) + j.val, by have := lt_of_lt_of_eq t.isLt (show cfg0.N = 22 from N_0); omega⟩

theorem e0 : ∀ t : Fin cfg0.N, win0_0.index t = ![0, 0] := (by decide +kernel : ∀ t : Fin grid0.N, _)
theorem e1 : ∀ t : Fin cfg0.N, win0_1.index t = ![0, t.val] := (by decide +kernel : ∀ t : Fin grid0.N, _)
theorem e2 : ∀ t : Fin cfg0.N, win0_2.index t = ![0, t.val % 2 * 11 + t.val / 2] := (by decide +kernel : ∀ t : Fin grid0.N, _)

/-- The result of a point is the product of its blocks. -/
theorem pay_at (x0 : Vec Ideal S1024x8192 .bf16) (x1 : Vec Ideal S8192x256 .bf16) (i : Fin 1024) (j : Fin 256) :
    k0_pay1 x0 x1 (ix2 i j) = ∑ k : Fin 8192, x0 (ix2 i k) * x1 (ix2 k j) := by
  pointwise [k0_pay1]

theorem x0_at (c : Dev nD) (t : Fin cfg0.N) (i : Fin 1024) (k : Fin 8192) :
    (iblk m c 0 t : Vec Ideal S1024x8192 .bf16) (ix2 i k) = m ((c : Thread nD τ).loc main_arg0) (ix2 (pi t i) k) := by
  blk_simp [iblk]
  show V m c main_arg0 _ = _
  rw [V_main_arg0]
  congr 1
  blk_ext [e0]
theorem x1_at (c : Dev nD) (t : Fin cfg0.N) (j : Fin 256) (k : Fin 8192) :
    (iblk m c 1 t : Vec Ideal S8192x256 .bf16) (ix2 k j) = m ((c : Thread nD τ).loc main_arg1) (ix2 k (qj t j)) := by
  blk_simp [iblk]
  show V m c main_arg1 _ = _
  rw [V_main_arg1]
  congr 1
  blk_ext [e1]

/-- Where the interleaved array has each column of the array in reference order: gates first, values behind them. -/
def il (c : Fin 5632) : Fin 5632 := ⟨c.val / 256 % 11 * 512 + c.val / 2816 * 256 + c.val % 256, by omega⟩

theorem il_pj (t : Fin cfg0.N) (j : Fin 256) : il (pj t j) = qj t j := by
  have := lt_of_lt_of_eq t.isLt (show cfg0.N = 22 from N_0)
  have h1 : (256 * (t.val % 2 * 11 + t.val / 2) + j.val) / 256 % 11 = t.val / 2 := by omega
  have h2 : (256 * (t.val % 2 * 11 + t.val / 2) + j.val) / 2816 = t.val % 2 := by omega
  have h3 : (256 * (t.val % 2 * 11 + t.val / 2) + j.val) % 256 = j.val := by omega
  refine Fin.ext ?_
  dsimp only [il]
  rw [h1, h2, h3]
  omega

/-- The reference, entry by entry. -/
theorem ref_at (x0 : (⟨Cert.FfnInDwRefIdeal.S1024x8192, .bf16⟩ : BufTy).Contents (Elt Ideal)) (x1 : (⟨Cert.FfnInDwRefIdeal.S8192x5632, .bf16⟩ : BufTy).Contents (Elt Ideal)) (i : Fin 1024) (j : Fin 5632) :
    val_main_v10 (F := Ideal) x0 x1 (ix2 i j) = ∑ k : Fin 8192, x0 (ix2 i k) * x1 (ix2 k (il j)) := by
  pointwise [val_main_v10, val_main_v9, val_main_v8, val_main_v7, val_main_v5, val_main_v3, val_main_v2, val_main_v1, val_main_v0]
  exact Finset.sum_congr rfl fun k _ => mul_comm (_ : EReal) _

/-- The array after the run is the reference's. -/
theorem arr2 (c : Dev nD) : (dats m 0 c).arrAt 2 cfg0.N
    = val_main_v10 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨y0, y1, rfl⟩ : ∃ (y0 : Fin 1024) (y1 : Fin 256), y = ix2 y0 y1 := ⟨y 0, y 1, eq_ix2 y⟩
  rw [show ((win0_2.blk t).view.emb (ix2 y0 y1)) = ix2 (pi t y0) (pj t y1) by blk_ext [e2]]
  rw [ref_at]
  refine (pay_at (iblk m c 0 t) (iblk m c 1 t) y0 y1).trans ?_
  refine Finset.sum_congr rfl fun k _ => ?_
  rw [x0_at, x1_at, il_pj]

end Cert.FfnInDwIdeal.Gen

namespace Cert.Proof.FfnInDw

open Idealize.ShloMosaic Idealize.SL.Sem Idealize.ShloMosaic.Tactic

/-- The two programs have one text, so the run over the machine's floats is the other's. -/
theorem frame_bits : Cert.quiescent_FfnInDw := by
  intro m g _
  refine Eq.mp ?_ (Cert.FfnInDwIdeal.Gen.frame (F := Bits) m g)
  sl_kernel_rfl
theorem frame_ideal : Cert.quiescent_FfnInDwIdeal := fun m g _ => Cert.FfnInDwIdeal.Gen.frame m g
theorem frame_ref : Cert.quiescent_FfnInDwRefIdeal := fun m g _ =>
  (θ_run Cert.FfnInDwRefIdeal.defs _ _).mono (fun r h => ⟨fun c => (h c).2, sem_eq_zero_of_no_sems (by decide) r.2⟩)
    (Cert.FfnInDwRefIdeal.Value.run (F := Ideal) m g)

theorem algebraic : Cert.algebraic_FfnInDwIdeal_FfnInDwRefIdeal := by
  intro m g m' g' hpre hagree
  refine ⟨fun c => (Cert.FfnInDwIdeal.Gen.dats m 0 c).arrAt 2 Cert.FfnInDwIdeal.cfg0.N,
    Cert.FfnInDwIdeal.Value.run_blocks m g,
    (θ_run Cert.FfnInDwRefIdeal.defs _ _).mono (fun r h c => ?_) (Cert.FfnInDwRefIdeal.Value.run (F := Ideal) m' g')⟩
  obtain ⟨h0, ha⟩ := h c
  obtain ⟨e0, e1⟩ := hagree c
  refine ⟨h0.trans ?_, ha⟩
  rw [Cert.FfnInDwRefIdeal.Read.val_main_v10_eq, e0, e1]
  exact (Cert.FfnInDwIdeal.Gen.arr2 m c).symm

end Cert.Proof.FfnInDw

end
-- ==== Proof.Gate.lean ====
module

public import Idealize.ShloMosaic.Lib.Pointwise
public import Idealize.ShloMosaic.Lib.ReduceAll

@[expose] public section

set_option maxRecDepth 16384

noncomputable section

namespace Cert.Gate

open Idealize.ShloMosaic
open scoped BigOperators

/-! ## The gate g · sigmoid(g) and its derivative over the extended reals -/

theorem logistic_top : Ideal.logistic ⊤ = 1 := by
  show Ideal.div 1 (1 + 0) = 1
  simp [Ideal.div]
theorem logistic_bot : Ideal.logistic ⊥ = 0 := by
  show Ideal.div 1 (1 + ⊤) = 0
  rw [show (1 : EReal) + ⊤ = ⊤ from EReal.coe_add_top 1]
  simp [Ideal.div]
theorem logistic_coe (g : ℝ) : ∃ s : ℝ, Ideal.logistic (g : EReal) = (s : EReal) := by
  refine ⟨1 * (1 + Real.exp (-g))⁻¹, ?_⟩
  have hp : 0 < 1 + Real.exp (-g) := by positivity
  show Ideal.div 1 (1 + ((Real.exp (-g) : ℝ) : EReal)) = _
  have h1 : (1 + ((Real.exp (-g) : ℝ) : EReal)) = ((1 + Real.exp (-g) : ℝ) : EReal) := by norm_cast
  rw [h1, Ideal.div, if_neg (by exact_mod_cast hp.ne'), EReal.coe_mul, EReal.coe_inv, EReal.coe_one]

/-- The derivative taken as one factor and taken term by term agree, whatever the gate, where
    what they multiply is a real number. -/
theorem silu_grad (g : EReal) (x : ℝ) :
    (x : EReal) * (Ideal.logistic g + g * Ideal.logistic g * (1 - Ideal.logistic g))
      = (x : EReal) * Ideal.logistic g + g * (x : EReal) * (Ideal.logistic g * (1 - Ideal.logistic g)) := by
  have h11 : (1 : EReal) - 1 = 0 := by rw [← EReal.coe_one, ← EReal.coe_sub]; simp
  induction g using EReal.rec with
  | bot => rw [logistic_bot]; simp
  | top => rw [logistic_top, h11]; simp
  | coe g =>
    obtain ⟨s, hs⟩ := logistic_coe g
    rw [hs]
    norm_cast
    ring

theorem sum_real {n : ℕ} (f : Fin n → EReal) (h : ∀ i, ∃ r : ℝ, f i = (r : EReal)) : ∃ r : ℝ, ∑ i, f i = (r : EReal) := by
  choose r hr using h
  refine ⟨∑ i, r i, ?_⟩
  rw [Finset.sum_congr rfl fun i _ => hr i]
  induction (Finset.univ : Finset (Fin n)) using Finset.cons_induction with
  | empty => simp
  | cons a s ha ih => rw [Finset.sum_cons, Finset.sum_cons, ih, EReal.coe_add]
theorem mul_real (x y : EReal) (hx : ∃ r : ℝ, x = (r : EReal)) (hy : ∃ r : ℝ, y = (r : EReal)) : ∃ r : ℝ, x * y = (r : EReal) := by
  obtain ⟨a, rfl⟩ := hx
  obtain ⟨b, rfl⟩ := hy
  exact ⟨a * b, (EReal.coe_mul a b).symm⟩

/-- A value whose magnitude is below infinity is a real number. -/
theorem real_of_lt (x : Ideal .bf16)
    (h : FloatOps.cmpf .olt (FloatOps.hostAbsf x) (FloatOps.ofBits (F := Ideal) .bf16 0x7F80#16) = 1#1) : ∃ r : ℝ, (x : EReal) = (r : EReal) := by
  have htop : Ideal.ofBits .bf16 0x7F80#16 = ⊤ := by simp [Ideal.ofBits, Ideal.ieee]
  have h' : Ideal.cmp .olt (max (x : EReal) (-(x : EReal))) (Ideal.ofBits .bf16 0x7F80#16) = 1#1 := h
  rw [htop] at h'
  induction x using EReal.rec with
  | bot => simp [Ideal.cmp] at h'
  | coe r => exact ⟨r, rfl⟩
  | top => simp [Ideal.cmp] at h'

theorem both (a b : BitVec 1) (h : IntOp.andi a b = 1#1) : a = 1#1 ∧ b = 1#1 := by
  revert a b; decide

end Cert.Gate

end
-- ==== Proof.MmFfnOutDx.lean ====
module

public import proofs.«01_k».proof.Defs
public import proofs.«01_k».proof.Proof.Gate
public import proofs.«01_k».proof.Proof.Gen.FfnOutDx
public import proofs.«01_k».proof.Proof.Gen.FfnOutDxIdeal
public import proofs.«01_k».proof.Proof.Gen.FfnOutDxIdeal.Frame
public import proofs.«01_k».proof.Proof.Gen.FfnOutDxIdeal.Value
public import proofs.«01_k».proof.Proof.Gen.FfnOutDxRefIdeal
public import proofs.«01_k».proof.Proof.Gen.FfnOutDxRefIdeal.Read
public import proofs.«01_k».proof.Proof.Gen.Pre_finite_dact
public import Idealize.ShloMosaic.Lib.ReduceAll
public import Idealize.ShloMosaic.Lib.Pointwise
public import Idealize.ShloMosaic.Lib.StableHlo.ReadAt
public import Idealize.ShloMosaic.Lib.Pipeline.ValueKit.Geometry
public import Idealize.ShloMosaic.Lib.Pipeline.ValueKit.Acc

@[expose] public section

set_option maxRecDepth 16384

noncomputable section

namespace Cert.FfnOutDxIdeal.Gen

open Cert.FfnOutDxIdeal Idealize.ShloMosaic Idealize.ShloMosaic.TcCoe Idealize.SL Idealize.SL.Sem
open Idealize.ShloMosaic.Pipeline (Dat Cfg Window)
open Cert.FfnOutDxRefIdeal.Read
open scoped BigOperators

variable (m : (ℓ : Loc nD τ sig) → Buf (Elt Ideal) ℓ)

/-- The operands of core `c`: the gradient, the weight, and the gate and value columns. -/
abbrev Y (c : Dev nD) : FVec Ideal S8192x1024 .bf16 := m ((c : Thread nD τ).loc main_arg0)
abbrev W (c : Dev nD) : FVec Ideal S2816x1024 .bf16 := m ((c : Thread nD τ).loc main_arg1)
abbrev G (c : Dev nD) : FVec Ideal S8192x5632 .bf16 := m ((c : Thread nD τ).loc main_arg2)

/-- The columns are in tiles: tile `q` holds 256 columns of the gate, then 256 of the value. `gcol` and `ucol` are a
    tile's columns of the gate and of the value, `ncol` the two's common place in the natural order. -/
abbrev gcol (q : Fin 11) (r : Fin 256) : Fin 5632 := ⟨512 * q.val + r.val, by omega⟩
abbrev ucol (q : Fin 11) (r : Fin 256) : Fin 5632 := ⟨512 * q.val + (256 + r.val), by omega⟩
abbrev ncol (q : Fin 11) (r : Fin 256) : Fin 2816 := ⟨256 * q.val + r.val, by omega⟩

/-- The row and the tile of a point's blocks. -/
abbrev pi (t : Fin cfg0.N) (i : Fin 4096) : Fin 8192 := ⟨4096 * (t.val / 11) + i.val, by have := lt_of_lt_of_eq t.isLt (show cfg0.N = 22 from N_0); omega⟩
abbrev pq (t : Fin cfg0.N) : Fin 11 := ⟨t.val % 11, by omega⟩

theorem e0 : ∀ t : Fin cfg0.N, win0_0.index t = ![t.val / 11, 0] := (by decide +kernel : ∀ t : Fin grid0.N, _)
theorem e1 : ∀ t : Fin cfg0.N, win0_1.index t = ![t.val % 11, 0] := (by decide +kernel : ∀ t : Fin grid0.N, _)
theorem e2 : ∀ t : Fin cfg0.N, win0_2.index t = ![t.val / 11, t.val % 11] := (by decide +kernel : ∀ t : Fin grid0.N, _)
theorem e3 : ∀ t : Fin cfg0.N, win0_3.index t = ![t.val / 11, t.val % 11] := (by decide +kernel : ∀ t : Fin grid0.N, _)

/-- The stored halves of a point, entry by entry: of the gradient's and the weight's blocks, the gate and the value. -/
theorem pay1_at (w : Vec Ideal S256x1024 .bf16) (y : Vec Ideal S4096x1024 .bf16) (i : Fin 4096) (r : Fin 256) :
    k0_pay1 w y (ix2 i r) = ∑ k : Fin 1024, y (ix2 i k) * w (ix2 r k) := by
  pointwise [k0_pay1]
theorem pay5_at (w : Vec Ideal S256x1024 .bf16) (y : Vec Ideal S4096x1024 .bf16) (g u : Vec Ideal S4096x256 .bf16) (i : Fin 4096) (r : Fin 256) :
    k0_pay5 w y g u (ix2 i r) = (∑ k : Fin 1024, y (ix2 i k) * w (ix2 r k)) * u (ix2 i r)
      * (Ideal.logistic (g (ix2 i r)) + g (ix2 i r) * Ideal.logistic (g (ix2 i r)) * (1 - Ideal.logistic (g (ix2 i r)))) := by
  rw [← pay1_at w y i r]
  pointwise [k0_pay5, k0_pay4, k0_pay3, k0_pay2]
theorem pay6_at (w : Vec Ideal S256x1024 .bf16) (y : Vec Ideal S4096x1024 .bf16) (g : Vec Ideal S4096x256 .bf16) (i : Fin 4096) (r : Fin 256) :
    k0_pay6 w y g (ix2 i r) = (∑ k : Fin 1024, y (ix2 i k) * w (ix2 r k)) * (g (ix2 i r) * Ideal.logistic (g (ix2 i r))) := by
  rw [← pay1_at w y i r]
  pointwise [k0_pay6, k0_pay4, k0_pay3, k0_pay2]

theorem x0_at (c : Dev nD) (t : Fin cfg0.N) (i : Fin 4096) (k : Fin 1024) :
    (iblk m c 0 t : Vec Ideal S4096x1024 .bf16) (ix2 i k) = Y m c (ix2 (pi t i) k) := by
  blk_simp [iblk]
  show V m c main_arg0 _ = _
  rw [V_main_arg0]
  congr 1
  blk_ext [e0]
theorem x1_at (c : Dev nD) (t : Fin cfg0.N) (r : Fin 256) (k : Fin 1024) :
    (iblk m c 1 t : Vec Ideal S256x1024 .bf16) (ix2 r k) = W m c (ix2 (ncol (pq t) r) k) := by
  blk_simp [iblk]
  show V m c main_arg1 _ = _
  rw [V_main_arg1]
  congr 1
  blk_ext [e1]
/-- A point's product is the product of its row and its column. -/
abbrev b0 (c : Dev nD) (t : Fin cfg0.N) : Vec Ideal S4096x1024 .bf16 := iblk m c 0 t
abbrev b1 (c : Dev nD) (t : Fin cfg0.N) : Vec Ideal S256x1024 .bf16 := iblk m c 1 t
theorem ld0 (c : Dev nD) (t : Fin cfg0.N) : View.ld (iblk m c 0 t) r0_1 = b0 m c t := View.ld_unit_zero (by funext a; revert a; decide) _ _
theorem ld1 (c : Dev nD) (t : Fin cfg0.N) : View.ld (iblk m c 1 t) r0_0 = b1 m c t := View.ld_unit_zero (by funext a; revert a; decide) _ _
theorem blk_prod (c : Dev nD) (t : Fin cfg0.N) (i : Fin 4096) (r : Fin 256) :
    (∑ k : Fin 1024, b0 m c t (ix2 i k) * b1 m c t (ix2 r k)) = ∑ k : Fin 1024, Y m c (ix2 (pi t i) k) * W m c (ix2 (ncol (pq t) r) k) :=
  Finset.sum_congr rfl fun k _ => congrArg₂ _ (x0_at m c t i k) (x1_at m c t r k)
theorem x2_at (c : Dev nD) (t : Fin cfg0.N) (i : Fin 4096) (j : Fin 512) :
    (iblk m c 2 t : Vec Ideal S4096x512 .bf16) (ix2 i j) = G m c (ix2 (pi t i) ⟨512 * (pq t).val + j.val, by omega⟩) := by
  blk_simp [iblk]
  show V m c main_arg2 _ = _
  rw [V_main_arg2]
  congr 1
  blk_ext [e2]

/-- The places of a block's two halves. -/
theorem emb2 (i : Fin 4096) (r : Fin 256) : (r0_2.emb (ix2 i r : S4096x256.Idx) : S4096x512.Idx) = ix2 i ⟨r.val, by omega⟩ := by
  blk_ext []
theorem emb3 (i : Fin 4096) (r : Fin 256) : (r0_3.emb (ix2 i r : S4096x256.Idx) : S4096x512.Idx) = ix2 i ⟨256 + r.val, by omega⟩ := by
  blk_ext []

/-! The reference, entry by entry. -/
section
variable (y : (⟨Cert.FfnOutDxRefIdeal.S8192x1024, .bf16⟩ : BufTy).Contents (Elt Ideal)) (w : (⟨Cert.FfnOutDxRefIdeal.S2816x1024, .bf16⟩ : BufTy).Contents (Elt Ideal))
  (gu : (⟨Cert.FfnOutDxRefIdeal.S8192x5632, .bf16⟩ : BufTy).Contents (Elt Ideal)) (i : Fin 8192) (q : Fin 11) (r : Fin 256)

theorem v4_at : val_main_v4 (F := Ideal) gu (ix2 i (ncol q r)) = gu (ix2 i (gcol q r)) := by
  pointwise [val_main_v4, val_main_v3, val_main_v2, val_main_v1, val_main_v0]
  exact congrArg (fun n => gu (ix2 i n)) (Fin.ext (by dsimp only; omega))
theorem v5_at : val_main_v5 (F := Ideal) gu (ix2 i (ncol q r)) = gu (ix2 i (ucol q r)) := by
  pointwise [val_main_v5, val_main_v3, val_main_v2, val_main_v1, val_main_v0]
  exact congrArg (fun n => gu (ix2 i n)) (Fin.ext (by dsimp only; omega))
theorem sig_at (n : Fin 2816) : val_main_v6_2 (F := Ideal) gu (ix2 i n) = Ideal.logistic (val_main_v4 (F := Ideal) gu (ix2 i n)) := by
  pointwise [val_main_v6_2, val_main_call0_v4, val_main_call0_v3, val_main_call0_v2, val_main_call0_v1, val_main_call0_v0, val_main_call0_cst, val_main_call0_cst_0]
  rfl
theorem v11_at (n : Fin 2816) : val_main_v11 (F := Ideal) y w (ix2 i n) = ∑ k : Fin 1024, y (ix2 i k) * w (ix2 n k) := by
  pointwise [val_main_v11, val_main_v10, val_main_v8]
theorem v12_at (n : Fin 2816) : val_main_v12 (F := Ideal) y w gu (ix2 i n)
    = val_main_v4 (F := Ideal) gu (ix2 i n) * Ideal.logistic (val_main_v4 (F := Ideal) gu (ix2 i n)) * val_main_v11 (F := Ideal) y w (ix2 i n) := by
  rw [← sig_at]
  pointwise [val_main_v12, val_main_v6_0]
theorem v14_at (n : Fin 2816) : val_main_v14 (F := Ideal) y w gu (ix2 i n)
    = val_main_v11 (F := Ideal) y w (ix2 i n) * val_main_v5 (F := Ideal) gu (ix2 i n) * Ideal.logistic (val_main_v4 (F := Ideal) gu (ix2 i n))
      + val_main_v4 (F := Ideal) gu (ix2 i n) * (val_main_v11 (F := Ideal) y w (ix2 i n) * val_main_v5 (F := Ideal) gu (ix2 i n))
        * (Ideal.logistic (val_main_v4 (F := Ideal) gu (ix2 i n)) * (1 - Ideal.logistic (val_main_v4 (F := Ideal) gu (ix2 i n)))) := by
  rw [← sig_at]
  pointwise [val_main_v14, val_main_call1_v2, val_main_call1_v1, val_main_call1_v0, val_main_v13, val_main_v6_1, val_main_call0_v7, val_main_call0_v6, val_main_call0_cst_1]
theorem ref_gate : val_main_v19 (F := Ideal) y w gu (ix2 i (gcol q r)) = val_main_v14 (F := Ideal) y w gu (ix2 i (ncol q r)) := by
  pointwise [val_main_v19, val_main_v18, val_main_v17, val_main_v16, val_main_v15]
  rw [dif_pos (by omega)]
  exact congrArg (fun n => val_main_v14 (F := Ideal) y w gu (ix2 i n)) (Fin.ext (by dsimp only; omega))
theorem ref_value : val_main_v19 (F := Ideal) y w gu (ix2 i (ucol q r)) = val_main_v12 (F := Ideal) y w gu (ix2 i (ncol q r)) := by
  pointwise [val_main_v19, val_main_v18, val_main_v17, val_main_v16, val_main_v15]
  rw [dif_neg (by omega)]
  exact congrArg (fun n => val_main_v12 (F := Ideal) y w gu (ix2 i n)) (Fin.ext (by dsimp only; omega))
end

/-- The array after the run is the reference's, where what the gate's derivative multiplies is real. -/
theorem arr3 (c : Dev nD) (hx : ∀ (i : Fin 8192) (q : Fin 11) (r : Fin 256), ∃ x : ℝ,
      (∑ k : Fin 1024, Y m c (ix2 i k) * W m c (ix2 (ncol q r) k)) * G m c (ix2 i (ucol q r)) = (x : EReal)) :
    (dats m 0 c).arrAt 3 cfg0.N = val_main_v19 (F := Ideal) (Y m c) (W m c) (G m c) := by
  refine (dats m 0 c).arrAt_eq_of_covers 3 _ (by decide +kernel) fun t hf y => ?_
  blk_simp
  rw [after0_3]
  refine View.canon_apply_of_pieces (fun y => val_main_v19 (F := Ideal) (Y m c) (W m c) (G m c) ((win0_3.blk t).view.emb y)) _ ?_ y (cover0_3 _ _ y)
  intro p hp x
  rcases List.mem_cons.mp hp with rfl | hp
  · obtain ⟨i, r, rfl⟩ : ∃ (i : Fin 4096) (r : Fin 256), x = ix2 i r := ⟨x 0, x 1, eq_ix2 x⟩
    dsimp only
    rw [emb3, show ((win0_3.blk t).view.emb (ix2 i ⟨256 + r.val, by omega⟩)) = ix2 (pi t i) (ucol (pq t) r) by blk_ext [e3],
      ref_value, v12_at, v4_at, v11_at]
    refine (pay6_at _ _ _ i r).trans ?_
    have hg : (View.ld (iblk m c 2 t) r0_2 : Vec Ideal S4096x256 .bf16) (ix2 i r) = G m c (ix2 (pi t i) (gcol (pq t) r)) :=
      (congrArg (iblk m c 2 t : Vec Ideal S4096x512 .bf16) (emb2 i r)).trans (x2_at m c t i _)
    rw [ld0, ld1, blk_prod, hg]
    exact mul_comm (_ : EReal) _
  · obtain rfl := List.mem_singleton.mp hp
    obtain ⟨i, r, rfl⟩ : ∃ (i : Fin 4096) (r : Fin 256), x = ix2 i r := ⟨x 0, x 1, eq_ix2 x⟩
    dsimp only
    rw [emb2, show ((win0_3.blk t).view.emb (ix2 i ⟨r.val, by omega⟩)) = ix2 (pi t i) (gcol (pq t) r) by blk_ext [e3],
      ref_gate, v14_at, v4_at, v5_at, v11_at]
    refine (pay5_at _ _ _ _ i r).trans ?_
    have hg : (View.ld (iblk m c 2 t) r0_2 : Vec Ideal S4096x256 .bf16) (ix2 i r) = G m c (ix2 (pi t i) (gcol (pq t) r)) :=
      (congrArg (iblk m c 2 t : Vec Ideal S4096x512 .bf16) (emb2 i r)).trans (x2_at m c t i _)
    have hu : (View.ld (iblk m c 2 t) r0_3 : Vec Ideal S4096x256 .bf16) (ix2 i r) = G m c (ix2 (pi t i) (ucol (pq t) r)) :=
      (congrArg (iblk m c 2 t : Vec Ideal S4096x512 .bf16) (emb3 i r)).trans (x2_at m c t i _)
    rw [ld0, ld1, blk_prod, hg, hu]
    obtain ⟨x, hx⟩ := hx (pi t i) (pq t) r
    rw [hx]
    exact Cert.Gate.silu_grad _ x

end Cert.FfnOutDxIdeal.Gen

namespace Cert.Pre_finite_dact

open Idealize.ShloMosaic

/-! The precondition: the gradient, the weight and the value columns are finite. -/

instance : Subsingleton S_.Idx := ⟨fun a b => funext fun i => i.elim0⟩

variable (y : FVec Ideal S8192x1024 .bf16) (w : FVec Ideal S2816x1024 .bf16) (gu : FVec Ideal S8192x5632 .bf16)

theorem real (h : fn (F := Ideal) y w gu = fun _ => 1#1) (i : Fin 8192) (q : Fin 11) (r : Fin 256) : ∃ x : ℝ,
    (∑ k : Fin 1024, y (ix2 i k) * w (ix2 (Cert.FfnOutDxIdeal.Gen.ncol q r) k)) * gu (ix2 i (Cert.FfnOutDxIdeal.Gen.ucol q r)) = (x : EReal) := by
  have h0 := congrFun h (fun i => i.elim0)
  dsimp only [fn, fn_part1] at h0
  obtain ⟨h12, h3⟩ := Cert.Gate.both _ _ h0
  obtain ⟨h1, h2⟩ := Cert.Gate.both _ _ h12
  refine Cert.Gate.mul_real _ _ (Cert.Gate.sum_real _ fun k => Cert.Gate.mul_real _ _
    (Cert.Gate.real_of_lt _ (Host.reduce_andi_all _ _ _ _ _ h1 (ix2 i k))) (Cert.Gate.real_of_lt _ (Host.reduce_andi_all _ _ _ _ _ h2 (ix2 _ k)))) ?_
  obtain ⟨x, hx⟩ := Cert.Gate.real_of_lt _ (Host.reduce_andi_all _ _ _ _ _ h3 (ix2 i (Cert.FfnOutDxIdeal.Gen.ncol q r)))
  refine ⟨x, ?_⟩
  rw [← hx]
  symm
  pointwise []
  exact congrArg (fun n => gu (ix2 i n)) (Fin.ext (by dsimp only; omega))

end Cert.Pre_finite_dact

namespace Cert.Proof.FfnOutDx

open Idealize.ShloMosaic Idealize.SL.Sem Idealize.ShloMosaic.Tactic

/-- The two programs have one text, so the run over the machine's floats is the other's. -/
theorem frame_bits : Cert.quiescent_FfnOutDx := by
  intro m g _
  refine Eq.mp ?_ (Cert.FfnOutDxIdeal.Gen.frame (F := Bits) m g)
  sl_kernel_rfl
theorem frame_ideal : Cert.quiescent_FfnOutDxIdeal := fun m g _ => Cert.FfnOutDxIdeal.Gen.frame m g
theorem frame_ref : Cert.quiescent_FfnOutDxRefIdeal := fun m g _ =>
  (θ_run Cert.FfnOutDxRefIdeal.defs _ _).mono (fun r h => ⟨fun c => (h c).2, sem_eq_zero_of_no_sems (by decide) r.2⟩)
    (Cert.FfnOutDxRefIdeal.Value.run (F := Ideal) m g)
theorem frame_ideal_pre : Cert.quiescent_FfnOutDxIdeal_pre_finite_dact := fun m g _ => Cert.FfnOutDxIdeal.Gen.frame m g
theorem frame_ref_pre : Cert.quiescent_FfnOutDxRefIdeal_pre_finite_dact := fun m g _ => frame_ref m g trivial

theorem algebraic : Cert.algebraic_FfnOutDxIdeal_FfnOutDxRefIdeal_pre_finite_dact := by
  intro m g m' g' hpre hagree
  have hr := fun c => Cert.Pre_finite_dact.real _ _ _ (hpre c)
  refine ⟨fun c => (Cert.FfnOutDxIdeal.Gen.dats m 0 c).arrAt 3 Cert.FfnOutDxIdeal.cfg0.N,
    Cert.FfnOutDxIdeal.Value.run_blocks m g,
    (θ_run Cert.FfnOutDxRefIdeal.defs _ _).mono (fun r h c => ?_) (Cert.FfnOutDxRefIdeal.Value.run (F := Ideal) m' g')⟩
  obtain ⟨h0, ha⟩ := h c
  obtain ⟨e0, e1, e2⟩ := hagree c
  refine ⟨h0.trans ?_, ha⟩
  rw [Cert.FfnOutDxRefIdeal.Read.val_main_v19_eq, e0, e1, e2]
  exact (Cert.FfnOutDxIdeal.Gen.arr3 m c (hr c)).symm

end Cert.Proof.FfnOutDx

end
-- ==== Proof.MmFfnOutDw.lean ====
module

public import proofs.«01_k».proof.Defs
public import proofs.«01_k».proof.Proof.Gen.FfnOutDw
public import proofs.«01_k».proof.Proof.Gen.FfnOutDwIdeal
public import proofs.«01_k».proof.Proof.Gen.FfnOutDwIdeal.Frame
public import proofs.«01_k».proof.Proof.Gen.FfnOutDwIdeal.Value
public import proofs.«01_k».proof.Proof.Gen.FfnOutDwRefIdeal
public import proofs.«01_k».proof.Proof.Gen.FfnOutDwRefIdeal.Read
public import Idealize.ShloMosaic.Lib.Pointwise
public import Idealize.ShloMosaic.Lib.StableHlo.ReadAt
public import Idealize.ShloMosaic.Lib.Pipeline.ValueKit.Geometry
public import Idealize.ShloMosaic.Lib.Pipeline.ValueKit.Acc

@[expose] public section

set_option maxRecDepth 16384

noncomputable section

namespace Cert.FfnOutDwIdeal.Gen

open Cert.FfnOutDwIdeal Idealize.ShloMosaic Idealize.ShloMosaic.TcCoe Idealize.SL Idealize.SL.Sem
open Idealize.ShloMosaic.Pipeline (Dat Cfg Window)
open Cert.FfnOutDwRefIdeal.Read
open scoped BigOperators

variable (m : (ℓ : Loc nD τ sig) → Buf (Elt Ideal) ℓ)

/-- The operands of core `c`. -/
abbrev A (c : Dev nD) : FVec Ideal S2816x8192 .bf16 := m ((c : Thread nD τ).loc main_arg0)
abbrev D (c : Dev nD) : FVec Ideal S8192x1024 .bf16 := m ((c : Thread nD τ).loc main_arg1)

/-- The row, the column and the place of the sum's terms of a point's blocks. -/
abbrev pi (t : Fin cfg0.N) (i : Fin 1408) : Fin 2816 := ⟨1408 * (t.val / 4) + i.val, by have := lt_of_lt_of_eq t.isLt (show cfg0.N = 8 from N_0); omega⟩
abbrev pj (t : Fin cfg0.N) (j : Fin 512) : Fin 1024 := ⟨512 * (t.val / 2 % 2) + j.val, by omega⟩
abbrev pk (t : Fin cfg0.N) (k : Fin 4096) : Fin 8192 := ⟨4096 * (t.val % 2) + k.val, by omega⟩

theorem e0 : ∀ t : Fin cfg0.N, win0_0.index t = ![t.val / 4, t.val % 2] := (by decide +kernel : ∀ t : Fin grid0.N, _)
theorem e1 : ∀ t : Fin cfg0.N, win0_1.index t = ![t.val % 2, t.val / 2 % 2] := (by decide +kernel : ∀ t : Fin grid0.N, _)
theorem e2 : ∀ t : Fin cfg0.N, win0_2.index t = ![t.val / 4, t.val / 2 % 2] := (by decide +kernel : ∀ t : Fin grid0.N, _)

/-- The product of two blocks, alone and added to what was there. -/
theorem pay1_at (x0 : Vec Ideal S1408x4096 .bf16) (x1 : Vec Ideal S4096x512 .bf16) (i : Fin 1408) (j : Fin 512) :
    k0_pay1 x0 x1 (ix2 i j) = ∑ k : Fin 4096, x0 (ix2 i k) * x1 (ix2 k j) := by
  pointwise [k0_pay1]
theorem pay2_at (x0 : Vec Ideal S1408x4096 .bf16) (x1 : Vec Ideal S4096x512 .bf16) (i : Fin 1408) (j : Fin 512) :
    k0_pay2 x0 x1 (ix2 i j) = ∑ k : Fin 4096, x0 (ix2 i k) * x1 (ix2 k j) := by
  pointwise [k0_pay2]
  exact pay1_at x0 x1 i j
theorem pay3_at (x0 : Vec Ideal S1408x4096 .bf16) (x1 : Vec Ideal S4096x512 .bf16) (a : Vec Ideal S1408x512 .f32) (i : Fin 1408) (j : Fin 512) :
    k0_pay3 x0 x1 a (ix2 i j) = a (ix2 i j) + ∑ k : Fin 4096, x0 (ix2 i k) * x1 (ix2 k j) := by
  pointwise [k0_pay3]
  exact congrArg _ (pay1_at x0 x1 i j)
theorem pay4_at (a : Vec Ideal S1408x512 .f32) (i : Fin 1408) (j : Fin 512) : k0_pay4 a (ix2 i j) = a (ix2 i j) := by
  pointwise [k0_pay4]

theorem x0_at (c : Dev nD) (t : Fin cfg0.N) (i : Fin 1408) (k : Fin 4096) :
    (iblk m c 0 t : Vec Ideal S1408x4096 .bf16) (ix2 i k) = A m c (ix2 (pi t i) (pk t k)) := by
  blk_simp [iblk]
  show V m c main_arg0 _ = _
  rw [V_main_arg0]
  congr 1
  blk_ext [e0]
theorem x1_at (c : Dev nD) (t : Fin cfg0.N) (j : Fin 512) (k : Fin 4096) :
    (iblk m c 1 t : Vec Ideal S4096x512 .bf16) (ix2 k j) = D m c (ix2 (pk t k) (pj t j)) := by
  blk_simp [iblk]
  show V m c main_arg1 _ = _
  rw [V_main_arg1]
  congr 1
  blk_ext [e1]

/-- After the first point of a block of the result the running sum is the first half of the terms. -/
theorem acc_even (c : Dev nD) (t : Fin cfg0.N) (h : t.val % 2 = 0) (i : Fin 1408) (j : Fin 512) :
    (outsAt0 m c t.val t.isLt).2 (ix2 i j)
      = ∑ k : Fin 4096, A m c (ix2 (pi t i) (pk t k)) * D m c (ix2 (pk t k) (pj t j)) := by
  rw [outsAt0_A m c t h (by omega) (by omega)]
  frame_out
  refine (pay2_at (iblk m c 0 t) (iblk m c 1 t) i j).trans ?_
  refine Finset.sum_congr rfl fun k _ => ?_
  rw [x0_at, x1_at]

/-- The reference, entry by entry. -/
theorem ref_at (x0 : (⟨Cert.FfnOutDwRefIdeal.S2816x8192, .bf16⟩ : BufTy).Contents (Elt Ideal)) (x1 : (⟨Cert.FfnOutDwRefIdeal.S8192x1024, .bf16⟩ : BufTy).Contents (Elt Ideal)) (i : Fin 2816) (j : Fin 1024) :
    val_main_v7 (F := Ideal) x0 x1 (ix2 i j) = ∑ k : Fin 8192, x0 (ix2 i k) * x1 (ix2 k j) := by
  pointwise [val_main_v7, val_main_v6, val_main_v5, val_main_v4, val_main_v2, val_main_v0]
  exact Finset.sum_congr rfl fun k _ => mul_comm (_ : EReal) _

/-- A sum over the tokens is the sums over its two halves. -/
theorem sum_halves (f : Fin 8192 → EReal) (t t' : Fin cfg0.N) (h : t.val % 2 = 0) (h' : t'.val % 2 = 1) :
    ∑ k, f k = ∑ k, f (pk t k) + ∑ k, f (pk t' k) := by
  rw [show (∑ k, f k) = ∑ k : Fin (4096 + 4096), f k from rfl, Fin.sum_univ_add]
  refine congrArg₂ _ (Finset.sum_congr rfl fun i _ => congrArg f (Fin.ext ?_)) (Finset.sum_congr rfl fun i _ => congrArg f (Fin.ext ?_))
  · show i.val = 4096 * (t.val % 2) + i.val; omega
  · show 4096 + i.val = 4096 * (t'.val % 2) + i.val; omega

/-- The array after the run is the reference's. -/
theorem arr2 (c : Dev nD) : (dats m 0 c).arrAt 2 cfg0.N
    = val_main_v7 (F := Ideal) (A m c) (D m c) := by
  refine (dats m 0 c).arrAt_eq_of_covers 2 _ (by decide +kernel) fun t hf y => ?_
  blk_simp
  have h1 : t.val % 2 = 1 := (flush0_2 t).mp hf
  rw [after0_2, outsAt0_B m c t (by omega) h1 h1]
  frame_out
  obtain ⟨y0, y1, rfl⟩ : ∃ (y0 : Fin 1408) (y1 : Fin 512), y = ix2 y0 y1 := ⟨y 0, y 1, eq_ix2 y⟩
  rw [show ((win0_2.blk t).view.emb (ix2 y0 y1)) = ix2 (pi t y0) (pj t y1) by blk_ext [e2]]
  rw [ref_at]
  refine (pay4_at _ y0 y1).trans ?_
  refine (pay3_at (iblk m c 0 t) (iblk m c 1 t) _ y0 y1).trans ?_
  have hp : t.val - 1 < cfg0.N := Nat.lt_of_le_of_lt (Nat.sub_le _ _) t.isLt
  have he : (⟨t.val - 1, hp⟩ : Fin cfg0.N).val % 2 = 0 := by dsimp only; omega
  rw [sum_halves (fun k => A m c (ix2 (pi t y0) k) * D m c (ix2 k (pj t y1))) ⟨t.val - 1, hp⟩ t he h1]
  refine congrArg₂ _ ((congrFun (Memref.IsWhole.read_unread _ _) _).trans ((acc_even m c ⟨t.val - 1, hp⟩ he y0 y1).trans ?_)) (Finset.sum_congr rfl fun k _ => by rw [x0_at, x1_at])
  rw [show pi ⟨t.val - 1, hp⟩ y0 = pi t y0 from Fin.ext (by dsimp only; omega), show pj ⟨t.val - 1, hp⟩ y1 = pj t y1 from Fin.ext (by dsimp only; omega)]

end Cert.FfnOutDwIdeal.Gen

namespace Cert.Proof.FfnOutDw

open Idealize.ShloMosaic Idealize.SL.Sem Idealize.ShloMosaic.Tactic

/-- The two programs have one text, so the run over the machine's floats is the other's. -/
theorem frame_bits : Cert.quiescent_FfnOutDw := by
  intro m g _
  refine Eq.mp ?_ (Cert.FfnOutDwIdeal.Gen.frame (F := Bits) m g)
  sl_kernel_rfl
theorem frame_ideal : Cert.quiescent_FfnOutDwIdeal := fun m g _ => Cert.FfnOutDwIdeal.Gen.frame m g
theorem frame_ref : Cert.quiescent_FfnOutDwRefIdeal := fun m g _ =>
  (θ_run Cert.FfnOutDwRefIdeal.defs _ _).mono (fun r h => ⟨fun c => (h c).2, sem_eq_zero_of_no_sems (by decide) r.2⟩)
    (Cert.FfnOutDwRefIdeal.Value.run (F := Ideal) m g)

theorem algebraic : Cert.algebraic_FfnOutDwIdeal_FfnOutDwRefIdeal := by
  intro m g m' g' hpre hagree
  refine ⟨fun c => (Cert.FfnOutDwIdeal.Gen.dats m 0 c).arrAt 2 Cert.FfnOutDwIdeal.cfg0.N,
    Cert.FfnOutDwIdeal.Value.run_blocks m g,
    (θ_run Cert.FfnOutDwRefIdeal.defs _ _).mono (fun r h c => ?_) (Cert.FfnOutDwRefIdeal.Value.run (F := Ideal) m' g')⟩
  obtain ⟨h0, ha⟩ := h c
  obtain ⟨e0, e1⟩ := hagree c
  refine ⟨h0.trans ?_, ha⟩
  rw [Cert.FfnOutDwRefIdeal.Read.val_main_v7_eq, e0, e1]
  exact (Cert.FfnOutDwIdeal.Gen.arr2 m c).symm

end Cert.Proof.FfnOutDw

end
-- ==== Proof.MmMixInDx.lean ====
module

public import proofs.«01_k».proof.Defs
public import proofs.«01_k».proof.Proof.Gen.MixInDx
public import proofs.«01_k».proof.Proof.Gen.MixInDxIdeal
public import proofs.«01_k».proof.Proof.Gen.MixInDxIdeal.Frame
public import proofs.«01_k».proof.Proof.Gen.MixInDxIdeal.Value
public import proofs.«01_k».proof.Proof.Gen.MixInDxRefIdeal
public import proofs.«01_k».proof.Proof.Gen.MixInDxRefIdeal.Read
public import Idealize.ShloMosaic.Lib.Pointwise
public import Idealize.ShloMosaic.Lib.StableHlo.ReadAt
public import Idealize.ShloMosaic.Lib.Pipeline.ValueKit.Geometry
public import Idealize.ShloMosaic.Lib.Pipeline.ValueKit.Acc

@[expose] public section

set_option maxRecDepth 16384

noncomputable section

namespace Cert.MixInDxIdeal.Gen

open Cert.MixInDxIdeal Idealize.ShloMosaic Idealize.ShloMosaic.TcCoe Idealize.SL Idealize.SL.Sem
open Idealize.ShloMosaic.Pipeline (Dat Cfg Window)
open Cert.MixInDxRefIdeal.Read
open scoped BigOperators

variable (m : (ℓ : Loc nD τ sig) → Buf (Elt Ideal) ℓ)

/-- The row and the column of a point's block of the result. -/
abbrev pi (t : Fin cfg0.N) (i : Fin 1024) : Fin 8192 := ⟨1024 * t.val + i.val, by have := lt_of_lt_of_eq t.isLt (show cfg0.N = 8 from N_0); omega⟩
abbrev pj (t : Fin cfg0.N) (j : Fin 1024) : Fin 1024 := ⟨1024 * 0 + j.val, by have := lt_of_lt_of_eq t.isLt (show cfg0.N = 8 from N_0); omega⟩

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)

/-- The result of a point is the product of its blocks. -/
theorem pay_at (x0 : Vec Ideal S1024x1536 .bf16) (x1 : Vec Ideal S1024x1536 .bf16) (i : Fin 1024) (j : Fin 1024) :
    k0_pay1 x0 x1 (ix2 i j) = ∑ k : Fin 1536, x0 (ix2 i k) * x1 (ix2 j k) := by
  pointwise [k0_pay1]

theorem x0_at (c : Dev nD) (t : Fin cfg0.N) (i : Fin 1024) (k : Fin 1536) :
    (iblk m c 0 t : Vec Ideal S1024x1536 .bf16) (ix2 i k) = m ((c : Thread nD τ).loc main_arg0) (ix2 (pi t i) k) := by
  blk_simp [iblk]
  show V m c main_arg0 _ = _
  rw [V_main_arg0]
  congr 1
  blk_ext [e0]
theorem x1_at (c : Dev nD) (t : Fin cfg0.N) (j : Fin 1024) (k : Fin 1536) :
    (iblk m c 1 t : Vec Ideal S1024x1536 .bf16) (ix2 j k) = m ((c : Thread nD τ).loc main_arg1) (ix2 (pj t j) k) := by
  blk_simp [iblk]
  show V m c main_arg1 _ = _
  rw [V_main_arg1]
  congr 1
  blk_ext [e1]

/-- The reference, entry by entry. -/
theorem ref_at (x0 : (⟨Cert.MixInDxRefIdeal.S8192x1536, .bf16⟩ : BufTy).Contents (Elt Ideal)) (x1 : (⟨Cert.MixInDxRefIdeal.S1024x1536, .bf16⟩ : BufTy).Contents (Elt Ideal)) (i : Fin 8192) (j : Fin 1024) :
    val_main_v4 (F := Ideal) x0 x1 (ix2 i j) = ∑ k : Fin 1536, x0 (ix2 i k) * x1 (ix2 j k) := by
  pointwise [val_main_v4, val_main_v3, val_main_v1]

/-- The array after the run is the reference's. -/
theorem arr2 (c : Dev nD) : (dats m 0 c).arrAt 2 cfg0.N
    = val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨y0, y1, rfl⟩ : ∃ (y0 : Fin 1024) (y1 : Fin 1024), y = ix2 y0 y1 := ⟨y 0, y 1, eq_ix2 y⟩
  rw [show ((win0_2.blk t).view.emb (ix2 y0 y1)) = ix2 (pi t y0) (pj t y1) by blk_ext [e2]]
  rw [ref_at]
  refine (pay_at (iblk m c 0 t) (iblk m c 1 t) y0 y1).trans ?_
  refine Finset.sum_congr rfl fun k _ => ?_
  rw [x0_at, x1_at]

end Cert.MixInDxIdeal.Gen

namespace Cert.Proof.MixInDx

open Idealize.ShloMosaic Idealize.SL.Sem Idealize.ShloMosaic.Tactic

/-- The two programs have one text, so the run over the machine's floats is the other's. -/
theorem frame_bits : Cert.quiescent_MixInDx := by
  intro m g _
  refine Eq.mp ?_ (Cert.MixInDxIdeal.Gen.frame (F := Bits) m g)
  sl_kernel_rfl
theorem frame_ideal : Cert.quiescent_MixInDxIdeal := fun m g _ => Cert.MixInDxIdeal.Gen.frame m g
theorem frame_ref : Cert.quiescent_MixInDxRefIdeal := fun m g _ =>
  (θ_run Cert.MixInDxRefIdeal.defs _ _).mono (fun r h => ⟨fun c => (h c).2, sem_eq_zero_of_no_sems (by decide) r.2⟩)
    (Cert.MixInDxRefIdeal.Value.run (F := Ideal) m g)

theorem algebraic : Cert.algebraic_MixInDxIdeal_MixInDxRefIdeal := by
  intro m g m' g' hpre hagree
  refine ⟨fun c => (Cert.MixInDxIdeal.Gen.dats m 0 c).arrAt 2 Cert.MixInDxIdeal.cfg0.N,
    Cert.MixInDxIdeal.Value.run_blocks m g,
    (θ_run Cert.MixInDxRefIdeal.defs _ _).mono (fun r h c => ?_) (Cert.MixInDxRefIdeal.Value.run (F := Ideal) m' g')⟩
  obtain ⟨h0, ha⟩ := h c
  obtain ⟨e0, e1⟩ := hagree c
  refine ⟨h0.trans ?_, ha⟩
  rw [Cert.MixInDxRefIdeal.Read.val_main_v4_eq, e0, e1]
  exact (Cert.MixInDxIdeal.Gen.arr2 m c).symm

end Cert.Proof.MixInDx

end
-- ==== Proof.MmMixInDw.lean ====
module

public import proofs.«01_k».proof.Defs
public import proofs.«01_k».proof.Proof.Gen.MixInDw
public import proofs.«01_k».proof.Proof.Gen.MixInDwIdeal
public import proofs.«01_k».proof.Proof.Gen.MixInDwIdeal.Frame
public import proofs.«01_k».proof.Proof.Gen.MixInDwIdeal.Value
public import proofs.«01_k».proof.Proof.Gen.MixInDwRefIdeal
public import proofs.«01_k».proof.Proof.Gen.MixInDwRefIdeal.Read
public import Idealize.ShloMosaic.Lib.Pointwise
public import Idealize.ShloMosaic.Lib.StableHlo.ReadAt
public import Idealize.ShloMosaic.Lib.Pipeline.ValueKit.Geometry
public import Idealize.ShloMosaic.Lib.Pipeline.ValueKit.Acc

@[expose] public section

set_option maxRecDepth 16384

noncomputable section

namespace Cert.MixInDwIdeal.Gen

open Cert.MixInDwIdeal Idealize.ShloMosaic Idealize.ShloMosaic.TcCoe Idealize.SL Idealize.SL.Sem
open Idealize.ShloMosaic.Pipeline (Dat Cfg Window)
open Cert.MixInDwRefIdeal.Read
open scoped BigOperators

variable (m : (ℓ : Loc nD τ sig) → Buf (Elt Ideal) ℓ)

/-- The row and the column of a point's block of the result. -/
abbrev pi (t : Fin cfg0.N) (i : Fin 1024) : Fin 1024 := ⟨1024 * 0 + i.val, by have := lt_of_lt_of_eq t.isLt (show cfg0.N = 6 from N_0); omega⟩
abbrev pj (t : Fin cfg0.N) (j : Fin 256) : Fin 1536 := ⟨256 * t.val + j.val, by have := lt_of_lt_of_eq t.isLt (show cfg0.N = 6 from N_0); omega⟩

theorem e0 : ∀ t : Fin cfg0.N, win0_0.index t = ![0, 0] := (by decide +kernel : ∀ t : Fin grid0.N, _)
theorem e1 : ∀ t : Fin cfg0.N, win0_1.index t = ![0, t.val] := (by decide +kernel : ∀ t : Fin grid0.N, _)
theorem e2 : ∀ t : Fin cfg0.N, win0_2.index t = ![0, t.val] := (by decide +kernel : ∀ t : Fin grid0.N, _)

/-- The result of a point is the product of its blocks. -/
theorem pay_at (x0 : Vec Ideal S1024x8192 .bf16) (x1 : Vec Ideal S8192x256 .bf16) (i : Fin 1024) (j : Fin 256) :
    k0_pay1 x0 x1 (ix2 i j) = ∑ k : Fin 8192, x0 (ix2 i k) * x1 (ix2 k j) := by
  pointwise [k0_pay1]

theorem x0_at (c : Dev nD) (t : Fin cfg0.N) (i : Fin 1024) (k : Fin 8192) :
    (iblk m c 0 t : Vec Ideal S1024x8192 .bf16) (ix2 i k) = m ((c : Thread nD τ).loc main_arg0) (ix2 (pi t i) k) := by
  blk_simp [iblk]
  show V m c main_arg0 _ = _
  rw [V_main_arg0]
  congr 1
  blk_ext [e0]
theorem x1_at (c : Dev nD) (t : Fin cfg0.N) (j : Fin 256) (k : Fin 8192) :
    (iblk m c 1 t : Vec Ideal S8192x256 .bf16) (ix2 k j) = m ((c : Thread nD τ).loc main_arg1) (ix2 k (pj t j)) := by
  blk_simp [iblk]
  show V m c main_arg1 _ = _
  rw [V_main_arg1]
  congr 1
  blk_ext [e1]

/-- The reference, entry by entry. -/
theorem ref_at (x0 : (⟨Cert.MixInDwRefIdeal.S1024x8192, .bf16⟩ : BufTy).Contents (Elt Ideal)) (x1 : (⟨Cert.MixInDwRefIdeal.S8192x1536, .bf16⟩ : BufTy).Contents (Elt Ideal)) (i : Fin 1024) (j : Fin 1536) :
    val_main_v7 (F := Ideal) x0 x1 (ix2 i j) = ∑ k : Fin 8192, x0 (ix2 i k) * x1 (ix2 k j) := by
  pointwise [val_main_v7, val_main_v6, val_main_v5, val_main_v4, val_main_v2, val_main_v0]
  exact Finset.sum_congr rfl fun k _ => mul_comm (_ : EReal) _

/-- The array after the run is the reference's. -/
theorem arr2 (c : Dev nD) : (dats m 0 c).arrAt 2 cfg0.N
    = val_main_v7 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨y0, y1, rfl⟩ : ∃ (y0 : Fin 1024) (y1 : Fin 256), y = ix2 y0 y1 := ⟨y 0, y 1, eq_ix2 y⟩
  rw [show ((win0_2.blk t).view.emb (ix2 y0 y1)) = ix2 (pi t y0) (pj t y1) by blk_ext [e2]]
  rw [ref_at]
  refine (pay_at (iblk m c 0 t) (iblk m c 1 t) y0 y1).trans ?_
  refine Finset.sum_congr rfl fun k _ => ?_
  rw [x0_at, x1_at]

end Cert.MixInDwIdeal.Gen

namespace Cert.Proof.MixInDw

open Idealize.ShloMosaic Idealize.SL.Sem Idealize.ShloMosaic.Tactic

/-- The two programs have one text, so the run over the machine's floats is the other's. -/
theorem frame_bits : Cert.quiescent_MixInDw := by
  intro m g _
  refine Eq.mp ?_ (Cert.MixInDwIdeal.Gen.frame (F := Bits) m g)
  sl_kernel_rfl
theorem frame_ideal : Cert.quiescent_MixInDwIdeal := fun m g _ => Cert.MixInDwIdeal.Gen.frame m g
theorem frame_ref : Cert.quiescent_MixInDwRefIdeal := fun m g _ =>
  (θ_run Cert.MixInDwRefIdeal.defs _ _).mono (fun r h => ⟨fun c => (h c).2, sem_eq_zero_of_no_sems (by decide) r.2⟩)
    (Cert.MixInDwRefIdeal.Value.run (F := Ideal) m g)

theorem algebraic : Cert.algebraic_MixInDwIdeal_MixInDwRefIdeal := by
  intro m g m' g' hpre hagree
  refine ⟨fun c => (Cert.MixInDwIdeal.Gen.dats m 0 c).arrAt 2 Cert.MixInDwIdeal.cfg0.N,
    Cert.MixInDwIdeal.Value.run_blocks m g,
    (θ_run Cert.MixInDwRefIdeal.defs _ _).mono (fun r h c => ?_) (Cert.MixInDwRefIdeal.Value.run (F := Ideal) m' g')⟩
  obtain ⟨h0, ha⟩ := h c
  obtain ⟨e0, e1⟩ := hagree c
  refine ⟨h0.trans ?_, ha⟩
  rw [Cert.MixInDwRefIdeal.Read.val_main_v7_eq, e0, e1]
  exact (Cert.MixInDwIdeal.Gen.arr2 m c).symm

end Cert.Proof.MixInDw

end
-- ==== Proof.MmMixOutDx.lean ====
module

public import proofs.«01_k».proof.Defs
public import proofs.«01_k».proof.Proof.Gen.MixOutDx
public import proofs.«01_k».proof.Proof.Gen.MixOutDxIdeal
public import proofs.«01_k».proof.Proof.Gen.MixOutDxIdeal.Frame
public import proofs.«01_k».proof.Proof.Gen.MixOutDxIdeal.Value
public import proofs.«01_k».proof.Proof.Gen.MixOutDxRefIdeal
public import proofs.«01_k».proof.Proof.Gen.MixOutDxRefIdeal.Read
public import Idealize.ShloMosaic.Lib.Pointwise
public import Idealize.ShloMosaic.Lib.StableHlo.ReadAt
public import Idealize.ShloMosaic.Lib.Pipeline.ValueKit.Geometry
public import Idealize.ShloMosaic.Lib.Pipeline.ValueKit.Acc

@[expose] public section

set_option maxRecDepth 16384

noncomputable section

namespace Cert.MixOutDxIdeal.Gen

open Cert.MixOutDxIdeal Idealize.ShloMosaic Idealize.ShloMosaic.TcCoe Idealize.SL Idealize.SL.Sem
open Idealize.ShloMosaic.Pipeline (Dat Cfg Window)
open Cert.MixOutDxRefIdeal.Read
open scoped BigOperators

variable (m : (ℓ : Loc nD τ sig) → Buf (Elt Ideal) ℓ)

/-- The row and the column of a point's block of the result. -/
abbrev pi (t : Fin cfg0.N) (i : Fin 1024) : Fin 8192 := ⟨1024 * t.val + i.val, by have := lt_of_lt_of_eq t.isLt (show cfg0.N = 8 from N_0); omega⟩
abbrev pj (t : Fin cfg0.N) (j : Fin 1024) : Fin 1024 := ⟨1024 * 0 + j.val, by have := lt_of_lt_of_eq t.isLt (show cfg0.N = 8 from N_0); omega⟩

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)

/-- The result of a point is the product of its blocks. -/
theorem pay_at (x0 : Vec Ideal S1024x1024 .bf16) (x1 : Vec Ideal S1024x1024 .bf16) (i : Fin 1024) (j : Fin 1024) :
    k0_pay1 x0 x1 (ix2 i j) = ∑ k : Fin 1024, x0 (ix2 i k) * x1 (ix2 j k) := by
  pointwise [k0_pay1]

theorem x0_at (c : Dev nD) (t : Fin cfg0.N) (i : Fin 1024) (k : Fin 1024) :
    (iblk m c 0 t : Vec Ideal S1024x1024 .bf16) (ix2 i k) = m ((c : Thread nD τ).loc main_arg0) (ix2 (pi t i) k) := by
  blk_simp [iblk]
  show V m c main_arg0 _ = _
  rw [V_main_arg0]
  congr 1
  blk_ext [e0]
theorem x1_at (c : Dev nD) (t : Fin cfg0.N) (j : Fin 1024) (k : Fin 1024) :
    (iblk m c 1 t : Vec Ideal S1024x1024 .bf16) (ix2 j k) = m ((c : Thread nD τ).loc main_arg1) (ix2 (pj t j) k) := by
  blk_simp [iblk]
  show V m c main_arg1 _ = _
  rw [V_main_arg1]
  congr 1
  blk_ext [e1]

/-- The reference, entry by entry. -/
theorem ref_at (x0 : (⟨Cert.MixOutDxRefIdeal.S8192x1024, .bf16⟩ : BufTy).Contents (Elt Ideal)) (x1 : (⟨Cert.MixOutDxRefIdeal.S1024x1024, .bf16⟩ : BufTy).Contents (Elt Ideal)) (i : Fin 8192) (j : Fin 1024) :
    val_main_v4 (F := Ideal) x0 x1 (ix2 i j) = ∑ k : Fin 1024, x0 (ix2 i k) * x1 (ix2 j k) := by
  pointwise [val_main_v4, val_main_v3, val_main_v1]

/-- The array after the run is the reference's. -/
theorem arr2 (c : Dev nD) : (dats m 0 c).arrAt 2 cfg0.N
    = val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨y0, y1, rfl⟩ : ∃ (y0 : Fin 1024) (y1 : Fin 1024), y = ix2 y0 y1 := ⟨y 0, y 1, eq_ix2 y⟩
  rw [show ((win0_2.blk t).view.emb (ix2 y0 y1)) = ix2 (pi t y0) (pj t y1) by blk_ext [e2]]
  rw [ref_at]
  refine (pay_at (iblk m c 0 t) (iblk m c 1 t) y0 y1).trans ?_
  refine Finset.sum_congr rfl fun k _ => ?_
  rw [x0_at, x1_at]

end Cert.MixOutDxIdeal.Gen

namespace Cert.Proof.MixOutDx

open Idealize.ShloMosaic Idealize.SL.Sem Idealize.ShloMosaic.Tactic

/-- The two programs have one text, so the run over the machine's floats is the other's. -/
theorem frame_bits : Cert.quiescent_MixOutDx := by
  intro m g _
  refine Eq.mp ?_ (Cert.MixOutDxIdeal.Gen.frame (F := Bits) m g)
  sl_kernel_rfl
theorem frame_ideal : Cert.quiescent_MixOutDxIdeal := fun m g _ => Cert.MixOutDxIdeal.Gen.frame m g
theorem frame_ref : Cert.quiescent_MixOutDxRefIdeal := fun m g _ =>
  (θ_run Cert.MixOutDxRefIdeal.defs _ _).mono (fun r h => ⟨fun c => (h c).2, sem_eq_zero_of_no_sems (by decide) r.2⟩)
    (Cert.MixOutDxRefIdeal.Value.run (F := Ideal) m g)

theorem algebraic : Cert.algebraic_MixOutDxIdeal_MixOutDxRefIdeal := by
  intro m g m' g' hpre hagree
  refine ⟨fun c => (Cert.MixOutDxIdeal.Gen.dats m 0 c).arrAt 2 Cert.MixOutDxIdeal.cfg0.N,
    Cert.MixOutDxIdeal.Value.run_blocks m g,
    (θ_run Cert.MixOutDxRefIdeal.defs _ _).mono (fun r h c => ?_) (Cert.MixOutDxRefIdeal.Value.run (F := Ideal) m' g')⟩
  obtain ⟨h0, ha⟩ := h c
  obtain ⟨e0, e1⟩ := hagree c
  refine ⟨h0.trans ?_, ha⟩
  rw [Cert.MixOutDxRefIdeal.Read.val_main_v4_eq, e0, e1]
  exact (Cert.MixOutDxIdeal.Gen.arr2 m c).symm

end Cert.Proof.MixOutDx

end
-- ==== Proof.MmMixOutDw.lean ====
module

public import proofs.«01_k».proof.Defs
public import proofs.«01_k».proof.Proof.Gen.MixOutDw
public import proofs.«01_k».proof.Proof.Gen.MixOutDwIdeal
public import proofs.«01_k».proof.Proof.Gen.MixOutDwIdeal.Frame
public import proofs.«01_k».proof.Proof.Gen.MixOutDwIdeal.Value
public import proofs.«01_k».proof.Proof.Gen.MixOutDwRefIdeal
public import proofs.«01_k».proof.Proof.Gen.MixOutDwRefIdeal.Read
public import Idealize.ShloMosaic.Lib.Pointwise
public import Idealize.ShloMosaic.Lib.StableHlo.ReadAt
public import Idealize.ShloMosaic.Lib.Pipeline.ValueKit.Geometry
public import Idealize.ShloMosaic.Lib.Pipeline.ValueKit.Acc

@[expose] public section

set_option maxRecDepth 16384

noncomputable section

namespace Cert.MixOutDwIdeal.Gen

open Cert.MixOutDwIdeal Idealize.ShloMosaic Idealize.ShloMosaic.TcCoe Idealize.SL Idealize.SL.Sem
open Idealize.ShloMosaic.Pipeline (Dat Cfg Window)
open Cert.MixOutDwRefIdeal.Read
open scoped BigOperators

variable (m : (ℓ : Loc nD τ sig) → Buf (Elt Ideal) ℓ)

/-- The row and the column of a point's block of the result. -/
abbrev pi (t : Fin cfg0.N) (i : Fin 1024) : Fin 1024 := ⟨1024 * 0 + i.val, by have := lt_of_lt_of_eq t.isLt (show cfg0.N = 4 from N_0); omega⟩
abbrev pj (t : Fin cfg0.N) (j : Fin 256) : Fin 1024 := ⟨256 * t.val + j.val, by have := lt_of_lt_of_eq t.isLt (show cfg0.N = 4 from N_0); omega⟩

theorem e0 : ∀ t : Fin cfg0.N, win0_0.index t = ![0, 0] := (by decide +kernel : ∀ t : Fin grid0.N, _)
theorem e1 : ∀ t : Fin cfg0.N, win0_1.index t = ![0, t.val] := (by decide +kernel : ∀ t : Fin grid0.N, _)
theorem e2 : ∀ t : Fin cfg0.N, win0_2.index t = ![0, t.val] := (by decide +kernel : ∀ t : Fin grid0.N, _)

/-- The result of a point is the product of its blocks. -/
theorem pay_at (x0 : Vec Ideal S1024x8192 .bf16) (x1 : Vec Ideal S8192x256 .bf16) (i : Fin 1024) (j : Fin 256) :
    k0_pay1 x0 x1 (ix2 i j) = ∑ k : Fin 8192, x0 (ix2 i k) * x1 (ix2 k j) := by
  pointwise [k0_pay1]

/-- The left operand, as the host turns it. -/
theorem V_main_v0_at (c : Dev nD) (i : Fin 1024) (k : Fin 8192) :
    V m c main_v0 (ix2 i k) = m ((c : Thread nD τ).loc main_arg0) (ix2 k i) := by
  show StableHlo.after hostOps0 _ (Proc.devRef .tc main_v0) _ = _
  after_reads_at

theorem x0_at (c : Dev nD) (t : Fin cfg0.N) (i : Fin 1024) (k : Fin 8192) :
    (iblk m c 0 t : Vec Ideal S1024x8192 .bf16) (ix2 i k) = m ((c : Thread nD τ).loc main_arg0) (ix2 k (pi t i)) := by
  blk_simp [iblk]
  show V m c main_v0 _ = _
  rw [← V_main_v0_at m c (pi t i) k]
  congr 1
  blk_ext [e0]
theorem x1_at (c : Dev nD) (t : Fin cfg0.N) (j : Fin 256) (k : Fin 8192) :
    (iblk m c 1 t : Vec Ideal S8192x256 .bf16) (ix2 k j) = m ((c : Thread nD τ).loc main_arg1) (ix2 k (pj t j)) := by
  blk_simp [iblk]
  show V m c main_arg1 _ = _
  rw [V_main_arg1]
  congr 1
  blk_ext [e1]

/-- The reference, entry by entry. -/
theorem ref_at (x0 : (⟨Cert.MixOutDwRefIdeal.S8192x1024, .bf16⟩ : BufTy).Contents (Elt Ideal)) (x1 : (⟨Cert.MixOutDwRefIdeal.S8192x1024, .bf16⟩ : BufTy).Contents (Elt Ideal)) (i : Fin 1024) (j : Fin 1024) :
    val_main_v6 (F := Ideal) x0 x1 (ix2 i j) = ∑ k : Fin 8192, x0 (ix2 k i) * x1 (ix2 k j) := by
  pointwise [val_main_v6, val_main_v5, val_main_v4, val_main_v3, val_main_v1]
  exact Finset.sum_congr rfl fun k _ => mul_comm (_ : EReal) _

/-- The array after the run is the reference's. -/
theorem arr2 (c : Dev nD) : (dats m 0 c).arrAt 2 cfg0.N
    = val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨y0, y1, rfl⟩ : ∃ (y0 : Fin 1024) (y1 : Fin 256), y = ix2 y0 y1 := ⟨y 0, y 1, eq_ix2 y⟩
  rw [show ((win0_2.blk t).view.emb (ix2 y0 y1)) = ix2 (pi t y0) (pj t y1) by blk_ext [e2]]
  rw [ref_at]
  refine (pay_at (iblk m c 0 t) (iblk m c 1 t) y0 y1).trans ?_
  refine Finset.sum_congr rfl fun k _ => ?_
  rw [x0_at, x1_at]

end Cert.MixOutDwIdeal.Gen

namespace Cert.Proof.MixOutDw

open Idealize.ShloMosaic Idealize.SL.Sem Idealize.ShloMosaic.Tactic

/-- The two programs have one text, so the run over the machine's floats is the other's. -/
theorem frame_bits : Cert.quiescent_MixOutDw := by
  intro m g _
  refine Eq.mp ?_ (Cert.MixOutDwIdeal.Gen.frame (F := Bits) m g)
  sl_kernel_rfl
theorem frame_ideal : Cert.quiescent_MixOutDwIdeal := fun m g _ => Cert.MixOutDwIdeal.Gen.frame m g
theorem frame_ref : Cert.quiescent_MixOutDwRefIdeal := fun m g _ =>
  (θ_run Cert.MixOutDwRefIdeal.defs _ _).mono (fun r h => ⟨fun c => (h c).2, sem_eq_zero_of_no_sems (by decide) r.2⟩)
    (Cert.MixOutDwRefIdeal.Value.run (F := Ideal) m g)

theorem algebraic : Cert.algebraic_MixOutDwIdeal_MixOutDwRefIdeal := by
  intro m g m' g' hpre hagree
  refine ⟨fun c => (Cert.MixOutDwIdeal.Gen.dats m 0 c).arrAt 2 Cert.MixOutDwIdeal.cfg0.N,
    Cert.MixOutDwIdeal.Value.run_blocks m g,
    (θ_run Cert.MixOutDwRefIdeal.defs _ _).mono (fun r h c => ?_) (Cert.MixOutDwRefIdeal.Value.run (F := Ideal) m' g')⟩
  obtain ⟨h0, ha⟩ := h c
  obtain ⟨e0, e1⟩ := hagree c
  refine ⟨h0.trans ?_, ha⟩
  rw [Cert.MixOutDwRefIdeal.Read.val_main_v6_eq, e0, e1]
  exact (Cert.MixOutDwIdeal.Gen.arr2 m c).symm

end Cert.Proof.MixOutDw

end
-- ==== Proof.MmFfnIn.lean ====
module

public import proofs.«01_k».proof.Defs
public import proofs.«01_k».proof.Proof.Gate
public import proofs.«01_k».proof.Proof.Gen.FfnIn
public import proofs.«01_k».proof.Proof.Gen.FfnInIdeal
public import proofs.«01_k».proof.Proof.Gen.FfnInIdeal.Frame
public import proofs.«01_k».proof.Proof.Gen.FfnInIdeal.Value
public import proofs.«01_k».proof.Proof.Gen.FfnInRefIdeal
public import proofs.«01_k».proof.Proof.Gen.FfnInRefIdeal.Read
public import Idealize.ShloMosaic.Lib.Pointwise
public import Idealize.ShloMosaic.Lib.StableHlo.ReadAt
public import Idealize.ShloMosaic.Lib.Pipeline.ValueKit.Geometry
public import Idealize.ShloMosaic.Lib.Pipeline.ValueKit.Acc

@[expose] public section

set_option maxRecDepth 16384

noncomputable section

namespace Cert.FfnInIdeal.Gen

open Cert.FfnInIdeal Idealize.ShloMosaic Idealize.ShloMosaic.TcCoe Idealize.SL Idealize.SL.Sem
open Idealize.ShloMosaic.Pipeline (Dat Cfg Window)
open Cert.FfnInRefIdeal.Read
open scoped BigOperators

variable (m : (ℓ : Loc nD τ sig) → Buf (Elt Ideal) ℓ)

/-- The operands of core `c`. -/
abbrev H (c : Dev nD) : FVec Ideal S8192x1024 .bf16 := m ((c : Thread nD τ).loc main_arg0)
abbrev W (c : Dev nD) : FVec Ideal S1024x5632 .bf16 := m ((c : Thread nD τ).loc main_arg1)

/-- The columns are in tiles: tile `q` holds 256 columns of the gate, then 256 of the value. `gcol` and `ucol` are a
    tile's columns of the gate and of the value, `ncol` the two's common place in the natural order. -/
abbrev gcol (q : Fin 11) (r : Fin 256) : Fin 5632 := ⟨512 * q.val + r.val, by omega⟩
abbrev ucol (q : Fin 11) (r : Fin 256) : Fin 5632 := ⟨512 * q.val + (256 + r.val), by omega⟩
abbrev ncol (q : Fin 11) (r : Fin 256) : Fin 2816 := ⟨256 * q.val + r.val, by omega⟩

/-- The row and the tile of a point's blocks. -/
abbrev pi (t : Fin cfg0.N) (i : Fin 4096) : Fin 8192 := ⟨4096 * (t.val / 11) + i.val, by have := lt_of_lt_of_eq t.isLt (show cfg0.N = 22 from N_0); omega⟩
abbrev pq (t : Fin cfg0.N) : Fin 11 := ⟨t.val % 11, by omega⟩

theorem e0 : ∀ t : Fin cfg0.N, win0_0.index t = ![t.val / 11, 0] := (by decide +kernel : ∀ t : Fin grid0.N, _)
theorem e1 : ∀ t : Fin cfg0.N, win0_1.index t = ![0, t.val % 11] := (by decide +kernel : ∀ t : Fin grid0.N, _)
theorem e2 : ∀ t : Fin cfg0.N, win0_2.index t = ![t.val / 11, t.val % 11] := (by decide +kernel : ∀ t : Fin grid0.N, _)
theorem e3 : ∀ t : Fin cfg0.N, win0_3.index t = ![t.val / 11, t.val % 11] := (by decide +kernel : ∀ t : Fin grid0.N, _)
theorem e4 : ∀ t : Fin cfg0.N, win0_4.index t = ![t.val % 11, t.val / 11] := (by decide +kernel : ∀ t : Fin grid0.N, _)

/-- The gated value of a gate and a value. -/
abbrev gated (g u : EReal) : EReal := g * Ideal.logistic g * u

/-- What a point stores, entry by entry: the product of its blocks, the gated half, and that transposed. -/
theorem pay1_at (w : Vec Ideal S1024x512 .bf16) (h : Vec Ideal S4096x1024 .bf16) (i : Fin 4096) (j : Fin 512) :
    k0_pay1 w h (ix2 i j) = ∑ k : Fin 1024, h (ix2 i k) * w (ix2 k j) := by
  pointwise [k0_pay1]
theorem pay2_at (w : Vec Ideal S1024x512 .bf16) (h : Vec Ideal S4096x1024 .bf16) (i : Fin 4096) (j : Fin 512) :
    k0_pay2 w h (ix2 i j) = ∑ k : Fin 1024, h (ix2 i k) * w (ix2 k j) := by
  rw [← pay1_at w h i j]
  pointwise [k0_pay2]
theorem pay4_at (w : Vec Ideal S1024x512 .bf16) (h : Vec Ideal S4096x1024 .bf16) (i : Fin 4096) (r : Fin 256) :
    k0_pay4 w h (ix2 i r) = gated (k0_pay1 w h (ix2 i ⟨r.val, by omega⟩)) (k0_pay1 w h (ix2 i ⟨256 + r.val, by omega⟩)) := by
  pointwise [k0_pay4, k0_pay3]
theorem pay5_at (w : Vec Ideal S1024x512 .bf16) (h : Vec Ideal S4096x1024 .bf16) (i : Fin 4096) (r : Fin 256) :
    k0_pay5 w h (ix2 r i) = gated (k0_pay1 w h (ix2 i ⟨r.val, by omega⟩)) (k0_pay1 w h (ix2 i ⟨256 + r.val, by omega⟩)) := by
  pointwise [k0_pay5, k0_pay3]

theorem x0_at (c : Dev nD) (t : Fin cfg0.N) (i : Fin 4096) (k : Fin 1024) :
    (iblk m c 0 t : Vec Ideal S4096x1024 .bf16) (ix2 i k) = H m c (ix2 (pi t i) k) := by
  blk_simp [iblk]
  show V m c main_arg0 _ = _
  rw [V_main_arg0]
  congr 1
  blk_ext [e0]
theorem x1_at (c : Dev nD) (t : Fin cfg0.N) (j : Fin 512) (k : Fin 1024) :
    (iblk m c 1 t : Vec Ideal S1024x512 .bf16) (ix2 k j) = W m c (ix2 k ⟨512 * (pq t).val + j.val, by omega⟩) := by
  blk_simp [iblk]
  show V m c main_arg1 _ = _
  rw [V_main_arg1]
  congr 1
  blk_ext [e1]

/-- An entry of the product, and of a point's product. -/
abbrev prod (c : Dev nD) (i : Fin 8192) (n : Fin 5632) : EReal := ∑ k : Fin 1024, H m c (ix2 i k) * W m c (ix2 k n)
abbrev b0 (c : Dev nD) (t : Fin cfg0.N) : Vec Ideal S4096x1024 .bf16 := iblk m c 0 t
abbrev b1 (c : Dev nD) (t : Fin cfg0.N) : Vec Ideal S1024x512 .bf16 := iblk m c 1 t
theorem blk_prod (c : Dev nD) (t : Fin cfg0.N) (i : Fin 4096) (j : Fin 512) :
    (∑ k : Fin 1024, b0 m c t (ix2 i k) * b1 m c t (ix2 k j)) = prod m c (pi t i) ⟨512 * (pq t).val + j.val, by omega⟩ :=
  Finset.sum_congr rfl fun k _ => congrArg₂ _ (x0_at m c t i k) (x1_at m c t j k)

/-! The reference, entry by entry. -/
section
variable (h : (⟨Cert.FfnInRefIdeal.S8192x1024, .bf16⟩ : BufTy).Contents (Elt Ideal)) (w : (⟨Cert.FfnInRefIdeal.S1024x5632, .bf16⟩ : BufTy).Contents (Elt Ideal))
  (i : Fin 8192) (q : Fin 11) (r : Fin 256)

theorem v2_at (n : Fin 5632) : val_main_v2 (F := Ideal) h w (ix2 i n) = ∑ k : Fin 1024, h (ix2 i k) * w (ix2 k n) := by
  pointwise [val_main_v2, val_main_v1, val_main_v0]
theorem v10_at (n : Fin 5632) : val_main_v10 (F := Ideal) h w (ix2 i n) = ∑ k : Fin 1024, h (ix2 i k) * w (ix2 k n) := by
  rw [← v2_at]
  pointwise [val_main_v10]
theorem v6_at : val_main_v6 (F := Ideal) h w (ix2 i (ncol q r)) = val_main_v2 (F := Ideal) h w (ix2 i (gcol q r)) := by
  pointwise [val_main_v6, val_main_v5, val_main_v4, val_main_v3]
  exact congrArg (fun n => val_main_v2 (F := Ideal) h w (ix2 i n)) (Fin.ext (by dsimp only; omega))
theorem v7_at : val_main_v7 (F := Ideal) h w (ix2 i (ncol q r)) = val_main_v2 (F := Ideal) h w (ix2 i (ucol q r)) := by
  pointwise [val_main_v7, val_main_v5, val_main_v4, val_main_v3]
  exact congrArg (fun n => val_main_v2 (F := Ideal) h w (ix2 i n)) (Fin.ext (by dsimp only; omega))
theorem v9_at (n : Fin 2816) : val_main_v9 (F := Ideal) h w (ix2 i n) = gated (val_main_v6 (F := Ideal) h w (ix2 i n)) (val_main_v7 (F := Ideal) h w (ix2 i n)) := by
  pointwise [val_main_v9, val_main_v8, val_main_call0_v5, val_main_call0_v4, val_main_call0_v3, val_main_call0_v2, val_main_call0_v1, val_main_call0_v0, val_main_call0_cst, val_main_call0_cst_0]
  rfl
theorem v11_at : val_main_v11 (F := Ideal) h w (ix2 i (ncol q r))
    = gated (∑ k : Fin 1024, h (ix2 i k) * w (ix2 k (gcol q r))) (∑ k : Fin 1024, h (ix2 i k) * w (ix2 k (ucol q r))) := by
  rw [← v2_at, ← v2_at, ← v6_at, ← v7_at, ← v9_at]
  pointwise [val_main_v11]
theorem v13_at : val_main_v13 (F := Ideal) h w (ix2 (ncol q r) i)
    = gated (∑ k : Fin 1024, h (ix2 i k) * w (ix2 k (gcol q r))) (∑ k : Fin 1024, h (ix2 i k) * w (ix2 k (ucol q r))) := by
  rw [← v2_at, ← v2_at, ← v6_at, ← v7_at, ← v9_at]
  pointwise [val_main_v13, val_main_v12]
end

/-- The arrays after the run are the reference's. -/
theorem arr2 (c : Dev nD) : (dats m 0 c).arrAt 2 cfg0.N = val_main_v10 (F := Ideal) (H m c) (W m c) := by
  refine (dats m 0 c).arrAt_eq_of_covers 2 _ (by decide +kernel) fun t hf y => ?_
  blk_simp
  rw [after0_2]
  frame_out
  obtain ⟨i, j, rfl⟩ : ∃ (i : Fin 4096) (j : Fin 512), y = ix2 i j := ⟨y 0, y 1, eq_ix2 y⟩
  rw [show ((win0_2.blk t).view.emb (ix2 i j)) = ix2 (pi t i) ⟨512 * (pq t).val + j.val, by omega⟩ by blk_ext [e2]]
  rw [v10_at]
  exact (pay2_at (b1 m c t) (b0 m c t) i j).trans (blk_prod m c t i j)
theorem arr3 (c : Dev nD) : (dats m 0 c).arrAt 3 cfg0.N = val_main_v11 (F := Ideal) (H m c) (W m c) := by
  refine (dats m 0 c).arrAt_eq_of_covers 3 _ (by decide +kernel) fun t hf y => ?_
  blk_simp
  rw [after0_3]
  frame_out
  obtain ⟨i, r, rfl⟩ : ∃ (i : Fin 4096) (r : Fin 256), y = ix2 i r := ⟨y 0, y 1, eq_ix2 y⟩
  rw [show ((win0_3.blk t).view.emb (ix2 i r)) = ix2 (pi t i) (ncol (pq t) r) by blk_ext [e3]]
  rw [v11_at]
  refine (pay4_at (b1 m c t) (b0 m c t) i r).trans ?_
  rw [pay1_at, pay1_at, blk_prod, blk_prod]
theorem arr4 (c : Dev nD) : (dats m 0 c).arrAt 4 cfg0.N = val_main_v13 (F := Ideal) (H m c) (W m c) := by
  refine (dats m 0 c).arrAt_eq_of_covers 4 _ (by decide +kernel) fun t hf y => ?_
  blk_simp
  rw [after0_4]
  frame_out
  obtain ⟨r, i, rfl⟩ : ∃ (r : Fin 256) (i : Fin 4096), y = ix2 r i := ⟨y 0, y 1, eq_ix2 y⟩
  rw [show ((win0_4.blk t).view.emb (ix2 r i)) = ix2 (ncol (pq t) r) (pi t i) by blk_ext [e4]]
  rw [v13_at]
  refine (pay5_at (b1 m c t) (b0 m c t) i r).trans ?_
  rw [pay1_at, pay1_at, blk_prod, blk_prod]

end Cert.FfnInIdeal.Gen

namespace Cert.Proof.FfnIn

open Idealize.ShloMosaic Idealize.SL.Sem Idealize.ShloMosaic.Tactic

/-- The two programs have one text, so the run over the machine's floats is the other's. -/
theorem frame_bits : Cert.quiescent_FfnIn := by
  intro m g _
  refine Eq.mp ?_ (Cert.FfnInIdeal.Gen.frame (F := Bits) m g)
  sl_kernel_rfl
theorem frame_ideal : Cert.quiescent_FfnInIdeal := fun m g _ => Cert.FfnInIdeal.Gen.frame m g
theorem frame_ref : Cert.quiescent_FfnInRefIdeal := fun m g _ =>
  (θ_run Cert.FfnInRefIdeal.defs _ _).mono (fun r h => ⟨fun c => (h c).2.2.2, sem_eq_zero_of_no_sems (by decide) r.2⟩)
    (Cert.FfnInRefIdeal.Value.run (F := Ideal) m g)

theorem algebraic : Cert.algebraic_FfnInIdeal_FfnInRefIdeal := by
  intro m g m' g' hpre hagree
  refine ⟨fun c => (Cert.FfnInIdeal.Gen.dats m 0 c).arrAt 2 Cert.FfnInIdeal.cfg0.N, fun c => (Cert.FfnInIdeal.Gen.dats m 0 c).arrAt 3 Cert.FfnInIdeal.cfg0.N,
    fun c => (Cert.FfnInIdeal.Gen.dats m 0 c).arrAt 4 Cert.FfnInIdeal.cfg0.N,
    Cert.FfnInIdeal.Value.run_blocks m g,
    (θ_run Cert.FfnInRefIdeal.defs _ _).mono (fun r h c => ?_) (Cert.FfnInRefIdeal.Value.run (F := Ideal) m' g')⟩
  obtain ⟨h0, h1, h2, ha⟩ := h c
  obtain ⟨e0, e1⟩ := hagree c
  refine ⟨h0.trans ?_, h1.trans ?_, h2.trans ?_, ha⟩
  · rw [Cert.FfnInRefIdeal.Read.val_main_v10_eq, e0, e1]
    exact (Cert.FfnInIdeal.Gen.arr2 m c).symm
  · rw [Cert.FfnInRefIdeal.Read.val_main_v11_eq, e0, e1]
    exact (Cert.FfnInIdeal.Gen.arr3 m c).symm
  · rw [Cert.FfnInRefIdeal.Read.val_main_v13_eq, e0, e1]
    exact (Cert.FfnInIdeal.Gen.arr4 m c).symm

end Cert.Proof.FfnIn

end
-- ==== Proof.MmFfnOut.lean ====
module

public import proofs.«01_k».proof.Defs
public import proofs.«01_k».proof.Proof.Gen.FfnOut
public import proofs.«01_k».proof.Proof.Gen.FfnOutIdeal
public import proofs.«01_k».proof.Proof.Gen.FfnOutIdeal.Frame
public import proofs.«01_k».proof.Proof.Gen.FfnOutIdeal.Value
public import proofs.«01_k».proof.Proof.Gen.FfnOutRefIdeal
public import proofs.«01_k».proof.Proof.Gen.FfnOutRefIdeal.Read
public import Idealize.ShloMosaic.Lib.Pointwise
public import Idealize.ShloMosaic.Lib.StableHlo.ReadAt
public import Idealize.ShloMosaic.Lib.Pipeline.ValueKit.Geometry
public import Idealize.ShloMosaic.Lib.Pipeline.ValueKit.Acc

@[expose] public section

set_option maxRecDepth 16384

noncomputable section

namespace Cert.FfnOutIdeal.Gen

open Cert.FfnOutIdeal Idealize.ShloMosaic Idealize.ShloMosaic.TcCoe Idealize.SL Idealize.SL.Sem
open Idealize.ShloMosaic.Pipeline (Dat Cfg Window)
open Cert.FfnOutRefIdeal.Read
open scoped BigOperators

variable (m : (ℓ : Loc nD τ sig) → Buf (Elt Ideal) ℓ)

/-- The row and the column of a point's block of the result. -/
abbrev pi (t : Fin cfg0.N) (i : Fin 1024) : Fin 8192 := ⟨1024 * t.val + i.val, by have := lt_of_lt_of_eq t.isLt (show cfg0.N = 8 from N_0); omega⟩
abbrev pj (t : Fin cfg0.N) (j : Fin 1024) : Fin 1024 := ⟨1024 * 0 + j.val, by have := lt_of_lt_of_eq t.isLt (show cfg0.N = 8 from N_0); omega⟩

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)

/-- The result of a point is the product of its blocks. -/
theorem pay_at (x0 : Vec Ideal S1024x2816 .bf16) (x1 : Vec Ideal S2816x1024 .bf16) (i : Fin 1024) (j : Fin 1024) :
    k0_pay1 x0 x1 (ix2 i j) = ∑ k : Fin 2816, x0 (ix2 i k) * x1 (ix2 k j) := by
  pointwise [k0_pay1]

theorem x0_at (c : Dev nD) (t : Fin cfg0.N) (i : Fin 1024) (k : Fin 2816) :
    (iblk m c 0 t : Vec Ideal S1024x2816 .bf16) (ix2 i k) = m ((c : Thread nD τ).loc main_arg0) (ix2 (pi t i) k) := by
  blk_simp [iblk]
  show V m c main_arg0 _ = _
  rw [V_main_arg0]
  congr 1
  blk_ext [e0]
theorem x1_at (c : Dev nD) (t : Fin cfg0.N) (j : Fin 1024) (k : Fin 2816) :
    (iblk m c 1 t : Vec Ideal S2816x1024 .bf16) (ix2 k j) = m ((c : Thread nD τ).loc main_arg1) (ix2 k (pj t j)) := by
  blk_simp [iblk]
  show V m c main_arg1 _ = _
  rw [V_main_arg1]
  congr 1
  blk_ext [e1]

/-- The reference, entry by entry. -/
theorem ref_at (x0 : (⟨Cert.FfnOutRefIdeal.S8192x2816, .bf16⟩ : BufTy).Contents (Elt Ideal)) (x1 : (⟨Cert.FfnOutRefIdeal.S2816x1024, .bf16⟩ : BufTy).Contents (Elt Ideal)) (i : Fin 8192) (j : Fin 1024) :
    val_main_v2 (F := Ideal) x0 x1 (ix2 i j) = ∑ k : Fin 2816, x0 (ix2 i k) * x1 (ix2 k j) := by
  pointwise [val_main_v2, val_main_v0, val_main_v1]

/-- The array after the run is the reference's. -/
theorem arr2 (c : Dev nD) : (dats m 0 c).arrAt 2 cfg0.N
    = val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨y0, y1, rfl⟩ : ∃ (y0 : Fin 1024) (y1 : Fin 1024), y = ix2 y0 y1 := ⟨y 0, y 1, eq_ix2 y⟩
  rw [show ((win0_2.blk t).view.emb (ix2 y0 y1)) = ix2 (pi t y0) (pj t y1) by blk_ext [e2]]
  rw [ref_at]
  refine (pay_at (iblk m c 0 t) (iblk m c 1 t) y0 y1).trans ?_
  refine Finset.sum_congr rfl fun k _ => ?_
  rw [x0_at, x1_at]

end Cert.FfnOutIdeal.Gen

namespace Cert.Proof.FfnOut

open Idealize.ShloMosaic Idealize.SL.Sem Idealize.ShloMosaic.Tactic

/-- The two programs have one text, so the run over the machine's floats is the other's. -/
theorem frame_bits : Cert.quiescent_FfnOut := by
  intro m g _
  refine Eq.mp ?_ (Cert.FfnOutIdeal.Gen.frame (F := Bits) m g)
  sl_kernel_rfl
theorem frame_ideal : Cert.quiescent_FfnOutIdeal := fun m g _ => Cert.FfnOutIdeal.Gen.frame m g
theorem frame_ref : Cert.quiescent_FfnOutRefIdeal := fun m g _ =>
  (θ_run Cert.FfnOutRefIdeal.defs _ _).mono (fun r h => ⟨fun c => (h c).2, sem_eq_zero_of_no_sems (by decide) r.2⟩)
    (Cert.FfnOutRefIdeal.Value.run (F := Ideal) m g)

theorem algebraic : Cert.algebraic_FfnOutIdeal_FfnOutRefIdeal := by
  intro m g m' g' hpre hagree
  refine ⟨fun c => (Cert.FfnOutIdeal.Gen.dats m 0 c).arrAt 2 Cert.FfnOutIdeal.cfg0.N,
    Cert.FfnOutIdeal.Value.run_blocks m g,
    (θ_run Cert.FfnOutRefIdeal.defs _ _).mono (fun r h c => ?_) (Cert.FfnOutRefIdeal.Value.run (F := Ideal) m' g')⟩
  obtain ⟨h0, ha⟩ := h c
  obtain ⟨e0, e1⟩ := hagree c
  refine ⟨h0.trans ?_, ha⟩
  rw [Cert.FfnOutRefIdeal.Read.val_main_v2_eq, e0, e1]
  exact (Cert.FfnOutIdeal.Gen.arr2 m c).symm

end Cert.Proof.FfnOut

end
-- ==== Proof.MmMixIn.lean ====
module

public import proofs.«01_k».proof.Defs
public import proofs.«01_k».proof.Proof.Gen.MixIn
public import proofs.«01_k».proof.Proof.Gen.MixInIdeal
public import proofs.«01_k».proof.Proof.Gen.MixInIdeal.Frame
public import proofs.«01_k».proof.Proof.Gen.MixInIdeal.Value
public import proofs.«01_k».proof.Proof.Gen.MixInRefIdeal
public import proofs.«01_k».proof.Proof.Gen.MixInRefIdeal.Read
public import Idealize.ShloMosaic.Lib.Pointwise
public import Idealize.ShloMosaic.Lib.StableHlo.ReadAt
public import Idealize.ShloMosaic.Lib.Pipeline.ValueKit.Geometry
public import Idealize.ShloMosaic.Lib.Pipeline.ValueKit.Acc

@[expose] public section

set_option maxRecDepth 16384

noncomputable section

namespace Cert.MixInIdeal.Gen

open Cert.MixInIdeal Idealize.ShloMosaic Idealize.ShloMosaic.TcCoe Idealize.SL Idealize.SL.Sem
open Idealize.ShloMosaic.Pipeline (Dat Cfg Window)
open Cert.MixInRefIdeal.Read
open scoped BigOperators

variable (m : (ℓ : Loc nD τ sig) → Buf (Elt Ideal) ℓ)

/-- The row and the column of a point's block of the result. -/
abbrev pi (t : Fin cfg0.N) (i : Fin 1024) : Fin 8192 := ⟨1024 * t.val + i.val, by have := lt_of_lt_of_eq t.isLt (show cfg0.N = 8 from N_0); omega⟩
abbrev pj (t : Fin cfg0.N) (j : Fin 1536) : Fin 1536 := ⟨1536 * 0 + j.val, by have := lt_of_lt_of_eq t.isLt (show cfg0.N = 8 from N_0); omega⟩

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)

/-- The result of a point is the product of its blocks. -/
theorem pay_at (x0 : Vec Ideal S1024x1024 .bf16) (x1 : Vec Ideal S1024x1536 .bf16) (i : Fin 1024) (j : Fin 1536) :
    k0_pay1 x0 x1 (ix2 i j) = ∑ k : Fin 1024, x0 (ix2 i k) * x1 (ix2 k j) := by
  pointwise [k0_pay1]

theorem x0_at (c : Dev nD) (t : Fin cfg0.N) (i : Fin 1024) (k : Fin 1024) :
    (iblk m c 0 t : Vec Ideal S1024x1024 .bf16) (ix2 i k) = m ((c : Thread nD τ).loc main_arg0) (ix2 (pi t i) k) := by
  blk_simp [iblk]
  show V m c main_arg0 _ = _
  rw [V_main_arg0]
  congr 1
  blk_ext [e0]
theorem x1_at (c : Dev nD) (t : Fin cfg0.N) (j : Fin 1536) (k : Fin 1024) :
    (iblk m c 1 t : Vec Ideal S1024x1536 .bf16) (ix2 k j) = m ((c : Thread nD τ).loc main_arg1) (ix2 k (pj t j)) := by
  blk_simp [iblk]
  show V m c main_arg1 _ = _
  rw [V_main_arg1]
  congr 1
  blk_ext [e1]

/-- The reference, entry by entry. -/
theorem ref_at (x0 : (⟨Cert.MixInRefIdeal.S8192x1024, .bf16⟩ : BufTy).Contents (Elt Ideal)) (x1 : (⟨Cert.MixInRefIdeal.S1024x1536, .bf16⟩ : BufTy).Contents (Elt Ideal)) (i : Fin 8192) (j : Fin 1536) :
    val_main_v2 (F := Ideal) x0 x1 (ix2 i j) = ∑ k : Fin 1024, x0 (ix2 i k) * x1 (ix2 k j) := by
  pointwise [val_main_v2, val_main_v0, val_main_v1]

/-- The array after the run is the reference's. -/
theorem arr2 (c : Dev nD) : (dats m 0 c).arrAt 2 cfg0.N
    = val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨y0, y1, rfl⟩ : ∃ (y0 : Fin 1024) (y1 : Fin 1536), y = ix2 y0 y1 := ⟨y 0, y 1, eq_ix2 y⟩
  rw [show ((win0_2.blk t).view.emb (ix2 y0 y1)) = ix2 (pi t y0) (pj t y1) by blk_ext [e2]]
  rw [ref_at]
  refine (pay_at (iblk m c 0 t) (iblk m c 1 t) y0 y1).trans ?_
  refine Finset.sum_congr rfl fun k _ => ?_
  rw [x0_at, x1_at]

end Cert.MixInIdeal.Gen

namespace Cert.Proof.MixIn

open Idealize.ShloMosaic Idealize.SL.Sem Idealize.ShloMosaic.Tactic

/-- The two programs have one text, so the run over the machine's floats is the other's. -/
theorem frame_bits : Cert.quiescent_MixIn := by
  intro m g _
  refine Eq.mp ?_ (Cert.MixInIdeal.Gen.frame (F := Bits) m g)
  sl_kernel_rfl
theorem frame_ideal : Cert.quiescent_MixInIdeal := fun m g _ => Cert.MixInIdeal.Gen.frame m g
theorem frame_ref : Cert.quiescent_MixInRefIdeal := fun m g _ =>
  (θ_run Cert.MixInRefIdeal.defs _ _).mono (fun r h => ⟨fun c => (h c).2, sem_eq_zero_of_no_sems (by decide) r.2⟩)
    (Cert.MixInRefIdeal.Value.run (F := Ideal) m g)

theorem algebraic : Cert.algebraic_MixInIdeal_MixInRefIdeal := by
  intro m g m' g' hpre hagree
  refine ⟨fun c => (Cert.MixInIdeal.Gen.dats m 0 c).arrAt 2 Cert.MixInIdeal.cfg0.N,
    Cert.MixInIdeal.Value.run_blocks m g,
    (θ_run Cert.MixInRefIdeal.defs _ _).mono (fun r h c => ?_) (Cert.MixInRefIdeal.Value.run (F := Ideal) m' g')⟩
  obtain ⟨h0, ha⟩ := h c
  obtain ⟨e0, e1⟩ := hagree c
  refine ⟨h0.trans ?_, ha⟩
  rw [Cert.MixInRefIdeal.Read.val_main_v2_eq, e0, e1]
  exact (Cert.MixInIdeal.Gen.arr2 m c).symm

end Cert.Proof.MixIn

end
-- ==== Proof.MmMixOut.lean ====
module

public import proofs.«01_k».proof.Defs
public import proofs.«01_k».proof.Proof.Gen.MixOut
public import proofs.«01_k».proof.Proof.Gen.MixOutIdeal
public import proofs.«01_k».proof.Proof.Gen.MixOutIdeal.Frame
public import proofs.«01_k».proof.Proof.Gen.MixOutIdeal.Value
public import proofs.«01_k».proof.Proof.Gen.MixOutRefIdeal
public import proofs.«01_k».proof.Proof.Gen.MixOutRefIdeal.Read
public import Idealize.ShloMosaic.Lib.Pointwise
public import Idealize.ShloMosaic.Lib.StableHlo.ReadAt
public import Idealize.ShloMosaic.Lib.Pipeline.ValueKit.Geometry
public import Idealize.ShloMosaic.Lib.Pipeline.ValueKit.Acc

@[expose] public section

set_option maxRecDepth 16384

noncomputable section

namespace Cert.MixOutIdeal.Gen

open Cert.MixOutIdeal Idealize.ShloMosaic Idealize.ShloMosaic.TcCoe Idealize.SL Idealize.SL.Sem
open Idealize.ShloMosaic.Pipeline (Dat Cfg Window)
open Cert.MixOutRefIdeal.Read
open scoped BigOperators

variable (m : (ℓ : Loc nD τ sig) → Buf (Elt Ideal) ℓ)

/-- The row and the column of a point's block of the result. -/
abbrev pi (t : Fin cfg0.N) (i : Fin 1024) : Fin 8192 := ⟨1024 * t.val + i.val, by have := lt_of_lt_of_eq t.isLt (show cfg0.N = 8 from N_0); omega⟩
abbrev pj (t : Fin cfg0.N) (j : Fin 1024) : Fin 1024 := ⟨1024 * 0 + j.val, by have := lt_of_lt_of_eq t.isLt (show cfg0.N = 8 from N_0); omega⟩

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)

/-- The result of a point is the product of its blocks. -/
theorem pay_at (x0 : Vec Ideal S1024x1024 .bf16) (x1 : Vec Ideal S1024x1024 .bf16) (i : Fin 1024) (j : Fin 1024) :
    k0_pay1 x0 x1 (ix2 i j) = ∑ k : Fin 1024, x0 (ix2 i k) * x1 (ix2 k j) := by
  pointwise [k0_pay1]

theorem x0_at (c : Dev nD) (t : Fin cfg0.N) (i : Fin 1024) (k : Fin 1024) :
    (iblk m c 0 t : Vec Ideal S1024x1024 .bf16) (ix2 i k) = m ((c : Thread nD τ).loc main_arg0) (ix2 (pi t i) k) := by
  blk_simp [iblk]
  show V m c main_arg0 _ = _
  rw [V_main_arg0]
  congr 1
  blk_ext [e0]
theorem x1_at (c : Dev nD) (t : Fin cfg0.N) (j : Fin 1024) (k : Fin 1024) :
    (iblk m c 1 t : Vec Ideal S1024x1024 .bf16) (ix2 k j) = m ((c : Thread nD τ).loc main_arg1) (ix2 k (pj t j)) := by
  blk_simp [iblk]
  show V m c main_arg1 _ = _
  rw [V_main_arg1]
  congr 1
  blk_ext [e1]

/-- The reference, entry by entry. -/
theorem ref_at (x0 : (⟨Cert.MixOutRefIdeal.S8192x1024, .bf16⟩ : BufTy).Contents (Elt Ideal)) (x1 : (⟨Cert.MixOutRefIdeal.S1024x1024, .bf16⟩ : BufTy).Contents (Elt Ideal)) (i : Fin 8192) (j : Fin 1024) :
    val_main_v2 (F := Ideal) x0 x1 (ix2 i j) = ∑ k : Fin 1024, x0 (ix2 i k) * x1 (ix2 k j) := by
  pointwise [val_main_v2, val_main_v0, val_main_v1]

/-- The array after the run is the reference's. -/
theorem arr2 (c : Dev nD) : (dats m 0 c).arrAt 2 cfg0.N
    = val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨y0, y1, rfl⟩ : ∃ (y0 : Fin 1024) (y1 : Fin 1024), y = ix2 y0 y1 := ⟨y 0, y 1, eq_ix2 y⟩
  rw [show ((win0_2.blk t).view.emb (ix2 y0 y1)) = ix2 (pi t y0) (pj t y1) by blk_ext [e2]]
  rw [ref_at]
  refine (pay_at (iblk m c 0 t) (iblk m c 1 t) y0 y1).trans ?_
  refine Finset.sum_congr rfl fun k _ => ?_
  rw [x0_at, x1_at]

end Cert.MixOutIdeal.Gen

namespace Cert.Proof.MixOut

open Idealize.ShloMosaic Idealize.SL.Sem Idealize.ShloMosaic.Tactic

/-- The two programs have one text, so the run over the machine's floats is the other's. -/
theorem frame_bits : Cert.quiescent_MixOut := by
  intro m g _
  refine Eq.mp ?_ (Cert.MixOutIdeal.Gen.frame (F := Bits) m g)
  sl_kernel_rfl
theorem frame_ideal : Cert.quiescent_MixOutIdeal := fun m g _ => Cert.MixOutIdeal.Gen.frame m g
theorem frame_ref : Cert.quiescent_MixOutRefIdeal := fun m g _ =>
  (θ_run Cert.MixOutRefIdeal.defs _ _).mono (fun r h => ⟨fun c => (h c).2, sem_eq_zero_of_no_sems (by decide) r.2⟩)
    (Cert.MixOutRefIdeal.Value.run (F := Ideal) m g)

theorem algebraic : Cert.algebraic_MixOutIdeal_MixOutRefIdeal := by
  intro m g m' g' hpre hagree
  refine ⟨fun c => (Cert.MixOutIdeal.Gen.dats m 0 c).arrAt 2 Cert.MixOutIdeal.cfg0.N,
    Cert.MixOutIdeal.Value.run_blocks m g,
    (θ_run Cert.MixOutRefIdeal.defs _ _).mono (fun r h c => ?_) (Cert.MixOutRefIdeal.Value.run (F := Ideal) m' g')⟩
  obtain ⟨h0, ha⟩ := h c
  obtain ⟨e0, e1⟩ := hagree c
  refine ⟨h0.trans ?_, ha⟩
  rw [Cert.MixOutRefIdeal.Read.val_main_v2_eq, e0, e1]
  exact (Cert.MixOutIdeal.Gen.arr2 m c).symm

end Cert.Proof.MixOut

end
-- ==== Proof.MmCtxFfnInDx.lean ====
module

public import proofs.«01_k».proof.Defs
public import proofs.«01_k».proof.Proof.Gen.CtxFfnInDx
public import proofs.«01_k».proof.Proof.Gen.CtxFfnInDxIdeal
public import proofs.«01_k».proof.Proof.Gen.CtxFfnInDxIdeal.Frame
public import proofs.«01_k».proof.Proof.Gen.CtxFfnInDxIdeal.Value
public import proofs.«01_k».proof.Proof.Gen.CtxFfnInDxRefIdeal
public import proofs.«01_k».proof.Proof.Gen.CtxFfnInDxRefIdeal.Read
public import Idealize.ShloMosaic.Lib.Pointwise
public import Idealize.ShloMosaic.Lib.StableHlo.ReadAt
public import Idealize.ShloMosaic.Lib.Pipeline.ValueKit.Geometry
public import Idealize.ShloMosaic.Lib.Pipeline.ValueKit.Acc

@[expose] public section

set_option maxRecDepth 16384

noncomputable section

namespace Cert.CtxFfnInDxIdeal.Gen

open Cert.CtxFfnInDxIdeal Idealize.ShloMosaic Idealize.ShloMosaic.TcCoe Idealize.SL Idealize.SL.Sem
open Idealize.ShloMosaic.Pipeline (Dat Cfg Window)
open Cert.CtxFfnInDxRefIdeal.Read
open scoped BigOperators

variable (m : (ℓ : Loc nD τ sig) → Buf (Elt Ideal) ℓ)

/-- The row and the column of a point's block of the result. -/
abbrev pi (t : Fin cfg0.N) (i : Fin 1024) : Fin 1024 := ⟨1024 * 0 + i.val, by have := lt_of_lt_of_eq t.isLt (show cfg0.N = 2 from N_0); omega⟩
abbrev pj (t : Fin cfg0.N) (j : Fin 512) : Fin 1024 := ⟨512 * t.val + j.val, by have := lt_of_lt_of_eq t.isLt (show cfg0.N = 2 from N_0); omega⟩

theorem e0 : ∀ t : Fin cfg0.N, win0_0.index t = ![0, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![0, t.val] := (by decide +kernel : ∀ t : Fin grid0.N, _)

/-- The result of a point is the product of its blocks. -/
theorem pay_at (x0 : Vec Ideal S1024x5632 .bf16) (x1 : Vec Ideal S512x5632 .bf16) (i : Fin 1024) (j : Fin 512) :
    k0_pay1 x0 x1 (ix2 i j) = ∑ k : Fin 5632, x0 (ix2 i k) * x1 (ix2 j k) := by
  pointwise [k0_pay1]

theorem x0_at (c : Dev nD) (t : Fin cfg0.N) (i : Fin 1024) (k : Fin 5632) :
    (iblk m c 0 t : Vec Ideal S1024x5632 .bf16) (ix2 i k) = m ((c : Thread nD τ).loc main_arg0) (ix2 (pi t i) k) := by
  blk_simp [iblk]
  show V m c main_arg0 _ = _
  rw [V_main_arg0]
  congr 1
  blk_ext [e0]
theorem x1_at (c : Dev nD) (t : Fin cfg0.N) (j : Fin 512) (k : Fin 5632) :
    (iblk m c 1 t : Vec Ideal S512x5632 .bf16) (ix2 j k) = m ((c : Thread nD τ).loc main_arg1) (ix2 (pj t j) k) := by
  blk_simp [iblk]
  show V m c main_arg1 _ = _
  rw [V_main_arg1]
  congr 1
  blk_ext [e1]

/-- Where the interleaved array has each column of the array in reference order: gates first, values behind them. -/
def il : Fin 5632 ≃ Fin 5632 where
  toFun c := ⟨c.val / 256 % 11 * 512 + c.val / 2816 * 256 + c.val % 256, by omega⟩
  invFun c := ⟨c.val / 256 % 2 * 2816 + c.val / 512 * 256 + c.val % 256, by omega⟩
  left_inv c := by
    obtain ⟨p, q, r, hp, hq, hr, rfl⟩ : ∃ p q r, ∃ (hp : p < 2) (hq : q < 11) (hr : r < 256), c = ⟨2816 * p + 256 * q + r, by omega⟩ :=
      ⟨c.val / 2816, c.val / 256 % 11, c.val % 256, by omega, by omega, by omega, Fin.ext (by dsimp only; omega)⟩
    have h1 : (2816 * p + 256 * q + r) / 256 % 11 = q := by omega
    have h2 : (2816 * p + 256 * q + r) / 2816 = p := by omega
    have h3 : (2816 * p + 256 * q + r) % 256 = r := by omega
    have h4 : (q * 512 + p * 256 + r) / 256 % 2 = p := by omega
    have h5 : (q * 512 + p * 256 + r) / 512 = q := by omega
    have h6 : (q * 512 + p * 256 + r) % 256 = r := by omega
    refine Fin.ext ?_
    dsimp only
    rw [h1, h2, h3, h4, h5, h6]
    omega
  right_inv c := by
    obtain ⟨p, q, r, hp, hq, hr, rfl⟩ : ∃ p q r, ∃ (hp : p < 2) (hq : q < 11) (hr : r < 256), c = ⟨512 * q + 256 * p + r, by omega⟩ :=
      ⟨c.val / 256 % 2, c.val / 512, c.val % 256, by omega, by omega, by omega, Fin.ext (by dsimp only; omega)⟩
    have h1 : (512 * q + 256 * p + r) / 256 % 2 = p := by omega
    have h2 : (512 * q + 256 * p + r) / 512 = q := by omega
    have h3 : (512 * q + 256 * p + r) % 256 = r := by omega
    have h4 : (p * 2816 + q * 256 + r) / 256 % 11 = q := by omega
    have h5 : (p * 2816 + q * 256 + r) / 2816 = p := by omega
    have h6 : (p * 2816 + q * 256 + r) % 256 = r := by omega
    refine Fin.ext ?_
    dsimp only
    rw [h1, h2, h3, h4, h5, h6]
    omega

theorem il_apply (c : Fin 5632) : il c = ⟨c.val / 256 % 11 * 512 + c.val / 2816 * 256 + c.val % 256, by omega⟩ := rfl

/-- The reference, entry by entry. -/
theorem ref_at (x0 : (⟨Cert.CtxFfnInDxRefIdeal.S1024x5632, .bf16⟩ : BufTy).Contents (Elt Ideal)) (x1 : (⟨Cert.CtxFfnInDxRefIdeal.S1024x5632, .bf16⟩ : BufTy).Contents (Elt Ideal)) (i : Fin 1024) (j : Fin 1024) :
    val_main_v10 (F := Ideal) x0 x1 (ix2 i j) = ∑ k : Fin 5632, x0 (ix2 i k) * x1 (ix2 j k) := by
  pointwise [val_main_v10, val_main_v9, val_main_v7, val_main_v5, val_main_v4, val_main_v3, val_main_v2, val_main_v1, val_main_v0]
  rw [← Equiv.sum_comp il fun k => x0 (ix2 i k) * x1 (ix2 j k)]
  refine Finset.sum_congr rfl fun k _ => ?_
  rw [il_apply]

/-- The array after the run is the reference's. -/
theorem arr2 (c : Dev nD) : (dats m 0 c).arrAt 2 cfg0.N
    = val_main_v10 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨y0, y1, rfl⟩ : ∃ (y0 : Fin 1024) (y1 : Fin 512), y = ix2 y0 y1 := ⟨y 0, y 1, eq_ix2 y⟩
  rw [show ((win0_2.blk t).view.emb (ix2 y0 y1)) = ix2 (pi t y0) (pj t y1) by blk_ext [e2]]
  rw [ref_at]
  refine (pay_at (iblk m c 0 t) (iblk m c 1 t) y0 y1).trans ?_
  refine Finset.sum_congr rfl fun k _ => ?_
  rw [x0_at, x1_at]

end Cert.CtxFfnInDxIdeal.Gen

namespace Cert.Proof.CtxFfnInDx

open Idealize.ShloMosaic Idealize.SL.Sem Idealize.ShloMosaic.Tactic

/-- The two programs have one text, so the run over the machine's floats is the other's. -/
theorem frame_bits : Cert.quiescent_CtxFfnInDx := by
  intro m g _
  refine Eq.mp ?_ (Cert.CtxFfnInDxIdeal.Gen.frame (F := Bits) m g)
  sl_kernel_rfl
theorem frame_ideal : Cert.quiescent_CtxFfnInDxIdeal := fun m g _ => Cert.CtxFfnInDxIdeal.Gen.frame m g
theorem frame_ref : Cert.quiescent_CtxFfnInDxRefIdeal := fun m g _ =>
  (θ_run Cert.CtxFfnInDxRefIdeal.defs _ _).mono (fun r h => ⟨fun c => (h c).2, sem_eq_zero_of_no_sems (by decide) r.2⟩)
    (Cert.CtxFfnInDxRefIdeal.Value.run (F := Ideal) m g)

theorem algebraic : Cert.algebraic_CtxFfnInDxIdeal_CtxFfnInDxRefIdeal := by
  intro m g m' g' hpre hagree
  refine ⟨fun c => (Cert.CtxFfnInDxIdeal.Gen.dats m 0 c).arrAt 2 Cert.CtxFfnInDxIdeal.cfg0.N,
    Cert.CtxFfnInDxIdeal.Value.run_blocks m g,
    (θ_run Cert.CtxFfnInDxRefIdeal.defs _ _).mono (fun r h c => ?_) (Cert.CtxFfnInDxRefIdeal.Value.run (F := Ideal) m' g')⟩
  obtain ⟨h0, ha⟩ := h c
  obtain ⟨e0, e1⟩ := hagree c
  refine ⟨h0.trans ?_, ha⟩
  rw [Cert.CtxFfnInDxRefIdeal.Read.val_main_v10_eq, e0, e1]
  exact (Cert.CtxFfnInDxIdeal.Gen.arr2 m c).symm

end Cert.Proof.CtxFfnInDx

end
-- ==== Proof.MmCtxFfnInDw.lean ====
module

public import proofs.«01_k».proof.Defs
public import proofs.«01_k».proof.Proof.Gen.CtxFfnInDw
public import proofs.«01_k».proof.Proof.Gen.CtxFfnInDwIdeal
public import proofs.«01_k».proof.Proof.Gen.CtxFfnInDwIdeal.Frame
public import proofs.«01_k».proof.Proof.Gen.CtxFfnInDwIdeal.Value
public import proofs.«01_k».proof.Proof.Gen.CtxFfnInDwRefIdeal
public import proofs.«01_k».proof.Proof.Gen.CtxFfnInDwRefIdeal.Read
public import Idealize.ShloMosaic.Lib.Pointwise
public import Idealize.ShloMosaic.Lib.StableHlo.ReadAt
public import Idealize.ShloMosaic.Lib.Pipeline.ValueKit.Geometry
public import Idealize.ShloMosaic.Lib.Pipeline.ValueKit.Acc

@[expose] public section

set_option maxRecDepth 16384

noncomputable section

namespace Cert.CtxFfnInDwIdeal.Gen

open Cert.CtxFfnInDwIdeal Idealize.ShloMosaic Idealize.ShloMosaic.TcCoe Idealize.SL Idealize.SL.Sem
open Idealize.ShloMosaic.Pipeline (Dat Cfg Window)
open Cert.CtxFfnInDwRefIdeal.Read
open scoped BigOperators

variable (m : (ℓ : Loc nD τ sig) → Buf (Elt Ideal) ℓ)

/-- The row and the column of a point's block of the result. -/
abbrev pi (t : Fin cfg0.N) (i : Fin 1024) : Fin 1024 := ⟨1024 * 0 + i.val, by have := lt_of_lt_of_eq t.isLt (show cfg0.N = 22 from N_0); omega⟩
/-- The column of a point's block of the right operand. -/
abbrev qj (t : Fin cfg0.N) (j : Fin 256) : Fin 5632 := ⟨256 * t.val + j.val, by have := lt_of_lt_of_eq t.isLt (show cfg0.N = 22 from N_0); omega⟩
abbrev pj (t : Fin cfg0.N) (j : Fin 256) : Fin 5632 := ⟨256 * (t.val % 2 * 11 + t.val / 2) + j.val, by have := lt_of_lt_of_eq t.isLt (show cfg0.N = 22 from N_0); omega⟩

theorem e0 : ∀ t : Fin cfg0.N, win0_0.index t = ![0, 0] := (by decide +kernel : ∀ t : Fin grid0.N, _)
theorem e1 : ∀ t : Fin cfg0.N, win0_1.index t = ![0, t.val] := (by decide +kernel : ∀ t : Fin grid0.N, _)
theorem e2 : ∀ t : Fin cfg0.N, win0_2.index t = ![0, t.val % 2 * 11 + t.val / 2] := (by decide +kernel : ∀ t : Fin grid0.N, _)
theorem e3 : ∀ t : Fin cfg0.N, win0_3.index t = ![0, t.val % 2 * 11 + t.val / 2] := (by decide +kernel : ∀ t : Fin grid0.N, _)

/-- The result of a point is the product of its blocks and the block it adds. -/
theorem pay_at (x0 : Vec Ideal S1024x1024 .bf16) (x1 : Vec Ideal S1024x256 .bf16) (x2 : Vec Ideal S1024x256 .bf16) (i : Fin 1024) (j : Fin 256) :
    k0_pay1 x0 x1 x2 (ix2 i j) = (∑ k : Fin 1024, x0 (ix2 i k) * x1 (ix2 k j)) + x2 (ix2 i j) := by
  pointwise [k0_pay1]

theorem x0_at (c : Dev nD) (t : Fin cfg0.N) (i : Fin 1024) (k : Fin 1024) :
    (iblk m c 0 t : Vec Ideal S1024x1024 .bf16) (ix2 i k) = m ((c : Thread nD τ).loc main_arg0) (ix2 (pi t i) k) := by
  blk_simp [iblk]
  show V m c main_arg0 _ = _
  rw [V_main_arg0]
  congr 1
  blk_ext [e0]
theorem x1_at (c : Dev nD) (t : Fin cfg0.N) (j : Fin 256) (k : Fin 1024) :
    (iblk m c 1 t : Vec Ideal S1024x256 .bf16) (ix2 k j) = m ((c : Thread nD τ).loc main_arg1) (ix2 k (qj t j)) := by
  blk_simp [iblk]
  show V m c main_arg1 _ = _
  rw [V_main_arg1]
  congr 1
  blk_ext [e1]

theorem x2_at (c : Dev nD) (t : Fin cfg0.N) (i : Fin 1024) (j : Fin 256) :
    (iblk m c 2 t : Vec Ideal S1024x256 .bf16) (ix2 i j) = m ((c : Thread nD τ).loc main_arg2) (ix2 (pi t i) (pj t j)) := by
  blk_simp [iblk]
  show V m c main_arg2 _ = _
  rw [V_main_arg2]
  congr 1
  blk_ext [e2]

/-- Where the interleaved array has each column of the array in reference order: gates first, values behind them. -/
def il (c : Fin 5632) : Fin 5632 := ⟨c.val / 256 % 11 * 512 + c.val / 2816 * 256 + c.val % 256, by omega⟩

theorem il_pj (t : Fin cfg0.N) (j : Fin 256) : il (pj t j) = qj t j := by
  have := lt_of_lt_of_eq t.isLt (show cfg0.N = 22 from N_0)
  have h1 : (256 * (t.val % 2 * 11 + t.val / 2) + j.val) / 256 % 11 = t.val / 2 := by omega
  have h2 : (256 * (t.val % 2 * 11 + t.val / 2) + j.val) / 2816 = t.val % 2 := by omega
  have h3 : (256 * (t.val % 2 * 11 + t.val / 2) + j.val) % 256 = j.val := by omega
  refine Fin.ext ?_
  dsimp only [il]
  rw [h1, h2, h3]
  omega

/-- The reference, entry by entry. -/
theorem ref_at (x0 : (⟨Cert.CtxFfnInDwRefIdeal.S1024x1024, .bf16⟩ : BufTy).Contents (Elt Ideal)) (x1 : (⟨Cert.CtxFfnInDwRefIdeal.S1024x5632, .bf16⟩ : BufTy).Contents (Elt Ideal)) (x2 : (⟨Cert.CtxFfnInDwRefIdeal.S1024x5632, .bf16⟩ : BufTy).Contents (Elt Ideal)) (i : Fin 1024) (j : Fin 5632) :
    val_main_v12 (F := Ideal) x0 x1 x2 (ix2 i j) = (∑ k : Fin 1024, x0 (ix2 i k) * x1 (ix2 k (il j))) + x2 (ix2 i j) := by
  pointwise [val_main_v12, val_main_v11, val_main_v10, val_main_v9, val_main_v8, val_main_v7, val_main_v5, val_main_v3, val_main_v2, val_main_v1, val_main_v0]
  refine congrArg₂ (fun (a b : EReal) => a + b) (Finset.sum_congr rfl fun k _ => mul_comm (_ : EReal) _) rfl

/-- The array after the run is the reference's. -/
theorem arr3 (c : Dev nD) : (dats m 0 c).arrAt 3 cfg0.N
    = val_main_v12 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  obtain ⟨y0, y1, rfl⟩ : ∃ (y0 : Fin 1024) (y1 : Fin 256), y = ix2 y0 y1 := ⟨y 0, y 1, eq_ix2 y⟩
  rw [show ((win0_3.blk t).view.emb (ix2 y0 y1)) = ix2 (pi t y0) (pj t y1) by blk_ext [e3]]
  rw [ref_at]
  refine (pay_at (iblk m c 0 t) (iblk m c 1 t) (iblk m c 2 t) y0 y1).trans ?_
  refine congrArg₂ (fun (a b : EReal) => a + b) (Finset.sum_congr rfl fun k _ => ?_) (x2_at m c t y0 y1)
  rw [x0_at, x1_at, il_pj]

end Cert.CtxFfnInDwIdeal.Gen

namespace Cert.Proof.CtxFfnInDw

open Idealize.ShloMosaic Idealize.SL.Sem Idealize.ShloMosaic.Tactic

/-- The two programs have one text, so the run over the machine's floats is the other's. -/
theorem frame_bits : Cert.quiescent_CtxFfnInDw := by
  intro m g _
  refine Eq.mp ?_ (Cert.CtxFfnInDwIdeal.Gen.frame (F := Bits) m g)
  sl_kernel_rfl
theorem frame_ideal : Cert.quiescent_CtxFfnInDwIdeal := fun m g _ => Cert.CtxFfnInDwIdeal.Gen.frame m g
theorem frame_ref : Cert.quiescent_CtxFfnInDwRefIdeal := fun m g _ =>
  (θ_run Cert.CtxFfnInDwRefIdeal.defs _ _).mono (fun r h => ⟨fun c => (h c).2, sem_eq_zero_of_no_sems (by decide) r.2⟩)
    (Cert.CtxFfnInDwRefIdeal.Value.run (F := Ideal) m g)

theorem algebraic : Cert.algebraic_CtxFfnInDwIdeal_CtxFfnInDwRefIdeal := by
  intro m g m' g' hpre hagree
  refine ⟨fun c => (Cert.CtxFfnInDwIdeal.Gen.dats m 0 c).arrAt 3 Cert.CtxFfnInDwIdeal.cfg0.N,
    Cert.CtxFfnInDwIdeal.Value.run_blocks m g,
    (θ_run Cert.CtxFfnInDwRefIdeal.defs _ _).mono (fun r h c => ?_) (Cert.CtxFfnInDwRefIdeal.Value.run (F := Ideal) m' g')⟩
  obtain ⟨h0, ha⟩ := h c
  obtain ⟨e0, e1, e2⟩ := hagree c
  refine ⟨h0.trans ?_, ha⟩
  rw [Cert.CtxFfnInDwRefIdeal.Read.val_main_v12_eq, e0, e1, e2]
  exact (Cert.CtxFfnInDwIdeal.Gen.arr3 m c).symm

end Cert.Proof.CtxFfnInDw

end
-- ==== Proof.MmCtxFfnOutDx.lean ====
module

public import proofs.«01_k».proof.Defs
public import proofs.«01_k».proof.Proof.Gate
public import proofs.«01_k».proof.Proof.Gen.CtxFfnOutDx
public import proofs.«01_k».proof.Proof.Gen.CtxFfnOutDxIdeal
public import proofs.«01_k».proof.Proof.Gen.CtxFfnOutDxIdeal.Frame
public import proofs.«01_k».proof.Proof.Gen.CtxFfnOutDxIdeal.Value
public import proofs.«01_k».proof.Proof.Gen.CtxFfnOutDxRefIdeal
public import proofs.«01_k».proof.Proof.Gen.CtxFfnOutDxRefIdeal.Read
public import proofs.«01_k».proof.Proof.Gen.Pre_finite_dact_ctx
public import Idealize.ShloMosaic.Lib.ReduceAll
public import Idealize.ShloMosaic.Lib.Pointwise
public import Idealize.ShloMosaic.Lib.StableHlo.ReadAt
public import Idealize.ShloMosaic.Lib.Pipeline.ValueKit.Geometry
public import Idealize.ShloMosaic.Lib.Pipeline.ValueKit.Acc

@[expose] public section

set_option maxRecDepth 16384

noncomputable section

namespace Cert.CtxFfnOutDxIdeal.Gen

open Cert.CtxFfnOutDxIdeal Idealize.ShloMosaic Idealize.ShloMosaic.TcCoe Idealize.SL Idealize.SL.Sem
open Idealize.ShloMosaic.Pipeline (Dat Cfg Window)
open Cert.CtxFfnOutDxRefIdeal.Read
open scoped BigOperators

variable (m : (ℓ : Loc nD τ sig) → Buf (Elt Ideal) ℓ)

/-- The operands of core `c`: the gradient, the weight, and the gate and value columns. -/
abbrev Y (c : Dev nD) : FVec Ideal S1024x1024 .bf16 := m ((c : Thread nD τ).loc main_arg0)
abbrev W (c : Dev nD) : FVec Ideal S2816x1024 .bf16 := m ((c : Thread nD τ).loc main_arg1)
abbrev G (c : Dev nD) : FVec Ideal S1024x5632 .bf16 := m ((c : Thread nD τ).loc main_arg2)

/-- The columns are in tiles: tile `q` holds 256 columns of the gate, then 256 of the value. `gcol` and `ucol` are a
    tile's columns of the gate and of the value, `ncol` the two's common place in the natural order. -/
abbrev gcol (q : Fin 11) (r : Fin 256) : Fin 5632 := ⟨512 * q.val + r.val, by omega⟩
abbrev ucol (q : Fin 11) (r : Fin 256) : Fin 5632 := ⟨512 * q.val + (256 + r.val), by omega⟩
abbrev ncol (q : Fin 11) (r : Fin 256) : Fin 2816 := ⟨256 * q.val + r.val, by omega⟩

/-- The row and the tile of a point's blocks. -/
abbrev pi (t : Fin cfg0.N) (i : Fin 1024) : Fin 1024 := ⟨1024 * (t.val / 11) + i.val, by have := lt_of_lt_of_eq t.isLt (show cfg0.N = 11 from N_0); omega⟩
abbrev pq (t : Fin cfg0.N) : Fin 11 := ⟨t.val % 11, by omega⟩

theorem e0 : ∀ t : Fin cfg0.N, win0_0.index t = ![t.val / 11, 0] := (by decide +kernel : ∀ t : Fin grid0.N, _)
theorem e1 : ∀ t : Fin cfg0.N, win0_1.index t = ![t.val % 11, 0] := (by decide +kernel : ∀ t : Fin grid0.N, _)
theorem e2 : ∀ t : Fin cfg0.N, win0_2.index t = ![t.val / 11, t.val % 11] := (by decide +kernel : ∀ t : Fin grid0.N, _)
theorem e3 : ∀ t : Fin cfg0.N, win0_3.index t = ![t.val / 11, t.val % 11] := (by decide +kernel : ∀ t : Fin grid0.N, _)

/-- The stored halves of a point, entry by entry: of the gradient's and the weight's blocks, the gate and the value. -/
theorem pay1_at (w : Vec Ideal S256x1024 .bf16) (y : Vec Ideal S1024x1024 .bf16) (i : Fin 1024) (r : Fin 256) :
    k0_pay1 w y (ix2 i r) = ∑ k : Fin 1024, y (ix2 i k) * w (ix2 r k) := by
  pointwise [k0_pay1]
theorem pay5_at (w : Vec Ideal S256x1024 .bf16) (y : Vec Ideal S1024x1024 .bf16) (g u : Vec Ideal S1024x256 .bf16) (i : Fin 1024) (r : Fin 256) :
    k0_pay5 w y g u (ix2 i r) = (∑ k : Fin 1024, y (ix2 i k) * w (ix2 r k)) * u (ix2 i r)
      * (Ideal.logistic (g (ix2 i r)) + g (ix2 i r) * Ideal.logistic (g (ix2 i r)) * (1 - Ideal.logistic (g (ix2 i r)))) := by
  rw [← pay1_at w y i r]
  pointwise [k0_pay5, k0_pay4, k0_pay3, k0_pay2]
theorem pay6_at (w : Vec Ideal S256x1024 .bf16) (y : Vec Ideal S1024x1024 .bf16) (g : Vec Ideal S1024x256 .bf16) (i : Fin 1024) (r : Fin 256) :
    k0_pay6 w y g (ix2 i r) = (∑ k : Fin 1024, y (ix2 i k) * w (ix2 r k)) * (g (ix2 i r) * Ideal.logistic (g (ix2 i r))) := by
  rw [← pay1_at w y i r]
  pointwise [k0_pay6, k0_pay4, k0_pay3, k0_pay2]

theorem x0_at (c : Dev nD) (t : Fin cfg0.N) (i : Fin 1024) (k : Fin 1024) :
    (iblk m c 0 t : Vec Ideal S1024x1024 .bf16) (ix2 i k) = Y m c (ix2 (pi t i) k) := by
  blk_simp [iblk]
  show V m c main_arg0 _ = _
  rw [V_main_arg0]
  congr 1
  blk_ext [e0]
theorem x1_at (c : Dev nD) (t : Fin cfg0.N) (r : Fin 256) (k : Fin 1024) :
    (iblk m c 1 t : Vec Ideal S256x1024 .bf16) (ix2 r k) = W m c (ix2 (ncol (pq t) r) k) := by
  blk_simp [iblk]
  show V m c main_arg1 _ = _
  rw [V_main_arg1]
  congr 1
  blk_ext [e1]
/-- A point's product is the product of its row and its column. -/
abbrev b0 (c : Dev nD) (t : Fin cfg0.N) : Vec Ideal S1024x1024 .bf16 := iblk m c 0 t
abbrev b1 (c : Dev nD) (t : Fin cfg0.N) : Vec Ideal S256x1024 .bf16 := iblk m c 1 t
theorem ld0 (c : Dev nD) (t : Fin cfg0.N) : View.ld (iblk m c 0 t) r0_1 = b0 m c t := View.ld_unit_zero (by funext a; revert a; decide) _ _
theorem ld1 (c : Dev nD) (t : Fin cfg0.N) : View.ld (iblk m c 1 t) r0_0 = b1 m c t := View.ld_unit_zero (by funext a; revert a; decide) _ _
theorem blk_prod (c : Dev nD) (t : Fin cfg0.N) (i : Fin 1024) (r : Fin 256) :
    (∑ k : Fin 1024, b0 m c t (ix2 i k) * b1 m c t (ix2 r k)) = ∑ k : Fin 1024, Y m c (ix2 (pi t i) k) * W m c (ix2 (ncol (pq t) r) k) :=
  Finset.sum_congr rfl fun k _ => congrArg₂ _ (x0_at m c t i k) (x1_at m c t r k)
theorem x2_at (c : Dev nD) (t : Fin cfg0.N) (i : Fin 1024) (j : Fin 512) :
    (iblk m c 2 t : Vec Ideal S1024x512 .bf16) (ix2 i j) = G m c (ix2 (pi t i) ⟨512 * (pq t).val + j.val, by omega⟩) := by
  blk_simp [iblk]
  show V m c main_arg2 _ = _
  rw [V_main_arg2]
  congr 1
  blk_ext [e2]

/-- The places of a block's two halves. -/
theorem emb2 (i : Fin 1024) (r : Fin 256) : (r0_2.emb (ix2 i r : S1024x256.Idx) : S1024x512.Idx) = ix2 i ⟨r.val, by omega⟩ := by
  blk_ext []
theorem emb3 (i : Fin 1024) (r : Fin 256) : (r0_3.emb (ix2 i r : S1024x256.Idx) : S1024x512.Idx) = ix2 i ⟨256 + r.val, by omega⟩ := by
  blk_ext []

/-! The reference, entry by entry. -/
section
variable (y : (⟨Cert.CtxFfnOutDxRefIdeal.S1024x1024, .bf16⟩ : BufTy).Contents (Elt Ideal)) (w : (⟨Cert.CtxFfnOutDxRefIdeal.S2816x1024, .bf16⟩ : BufTy).Contents (Elt Ideal))
  (gu : (⟨Cert.CtxFfnOutDxRefIdeal.S1024x5632, .bf16⟩ : BufTy).Contents (Elt Ideal)) (i : Fin 1024) (q : Fin 11) (r : Fin 256)

theorem v4_at : val_main_v4 (F := Ideal) gu (ix2 i (ncol q r)) = gu (ix2 i (gcol q r)) := by
  pointwise [val_main_v4, val_main_v3, val_main_v2, val_main_v1, val_main_v0]
  exact congrArg (fun n => gu (ix2 i n)) (Fin.ext (by dsimp only; omega))
theorem v5_at : val_main_v5 (F := Ideal) gu (ix2 i (ncol q r)) = gu (ix2 i (ucol q r)) := by
  pointwise [val_main_v5, val_main_v3, val_main_v2, val_main_v1, val_main_v0]
  exact congrArg (fun n => gu (ix2 i n)) (Fin.ext (by dsimp only; omega))
theorem sig_at (n : Fin 2816) : val_main_v6_2 (F := Ideal) gu (ix2 i n) = Ideal.logistic (val_main_v4 (F := Ideal) gu (ix2 i n)) := by
  pointwise [val_main_v6_2, val_main_call0_v4, val_main_call0_v3, val_main_call0_v2, val_main_call0_v1, val_main_call0_v0, val_main_call0_cst, val_main_call0_cst_0]
  rfl
theorem v11_at (n : Fin 2816) : val_main_v11 (F := Ideal) y w (ix2 i n) = ∑ k : Fin 1024, y (ix2 i k) * w (ix2 n k) := by
  pointwise [val_main_v11, val_main_v10, val_main_v8]
theorem v12_at (n : Fin 2816) : val_main_v12 (F := Ideal) y w gu (ix2 i n)
    = val_main_v4 (F := Ideal) gu (ix2 i n) * Ideal.logistic (val_main_v4 (F := Ideal) gu (ix2 i n)) * val_main_v11 (F := Ideal) y w (ix2 i n) := by
  rw [← sig_at]
  pointwise [val_main_v12, val_main_v6_0]
theorem v14_at (n : Fin 2816) : val_main_v14 (F := Ideal) y w gu (ix2 i n)
    = val_main_v11 (F := Ideal) y w (ix2 i n) * val_main_v5 (F := Ideal) gu (ix2 i n) * Ideal.logistic (val_main_v4 (F := Ideal) gu (ix2 i n))
      + val_main_v4 (F := Ideal) gu (ix2 i n) * (val_main_v11 (F := Ideal) y w (ix2 i n) * val_main_v5 (F := Ideal) gu (ix2 i n))
        * (Ideal.logistic (val_main_v4 (F := Ideal) gu (ix2 i n)) * (1 - Ideal.logistic (val_main_v4 (F := Ideal) gu (ix2 i n)))) := by
  rw [← sig_at]
  pointwise [val_main_v14, val_main_call1_v2, val_main_call1_v1, val_main_call1_v0, val_main_v13, val_main_v6_1, val_main_call0_v7, val_main_call0_v6, val_main_call0_cst_1]
theorem ref_gate : val_main_v19 (F := Ideal) y w gu (ix2 i (gcol q r)) = val_main_v14 (F := Ideal) y w gu (ix2 i (ncol q r)) := by
  pointwise [val_main_v19, val_main_v18, val_main_v17, val_main_v16, val_main_v15]
  rw [dif_pos (by omega)]
  exact congrArg (fun n => val_main_v14 (F := Ideal) y w gu (ix2 i n)) (Fin.ext (by dsimp only; omega))
theorem ref_value : val_main_v19 (F := Ideal) y w gu (ix2 i (ucol q r)) = val_main_v12 (F := Ideal) y w gu (ix2 i (ncol q r)) := by
  pointwise [val_main_v19, val_main_v18, val_main_v17, val_main_v16, val_main_v15]
  rw [dif_neg (by omega)]
  exact congrArg (fun n => val_main_v12 (F := Ideal) y w gu (ix2 i n)) (Fin.ext (by dsimp only; omega))
end

/-- The array after the run is the reference's, where what the gate's derivative multiplies is real. -/
theorem arr3 (c : Dev nD) (hx : ∀ (i : Fin 1024) (q : Fin 11) (r : Fin 256), ∃ x : ℝ,
      (∑ k : Fin 1024, Y m c (ix2 i k) * W m c (ix2 (ncol q r) k)) * G m c (ix2 i (ucol q r)) = (x : EReal)) :
    (dats m 0 c).arrAt 3 cfg0.N = val_main_v19 (F := Ideal) (Y m c) (W m c) (G m c) := by
  refine (dats m 0 c).arrAt_eq_of_covers 3 _ (by decide +kernel) fun t hf y => ?_
  blk_simp
  rw [after0_3]
  refine View.canon_apply_of_pieces (fun y => val_main_v19 (F := Ideal) (Y m c) (W m c) (G m c) ((win0_3.blk t).view.emb y)) _ ?_ y (cover0_3 _ _ y)
  intro p hp x
  rcases List.mem_cons.mp hp with rfl | hp
  · obtain ⟨i, r, rfl⟩ : ∃ (i : Fin 1024) (r : Fin 256), x = ix2 i r := ⟨x 0, x 1, eq_ix2 x⟩
    dsimp only
    rw [emb3, show ((win0_3.blk t).view.emb (ix2 i ⟨256 + r.val, by omega⟩)) = ix2 (pi t i) (ucol (pq t) r) by blk_ext [e3],
      ref_value, v12_at, v4_at, v11_at]
    refine (pay6_at _ _ _ i r).trans ?_
    have hg : (View.ld (iblk m c 2 t) r0_2 : Vec Ideal S1024x256 .bf16) (ix2 i r) = G m c (ix2 (pi t i) (gcol (pq t) r)) :=
      (congrArg (iblk m c 2 t : Vec Ideal S1024x512 .bf16) (emb2 i r)).trans (x2_at m c t i _)
    rw [ld0, ld1, blk_prod, hg]
    exact mul_comm (_ : EReal) _
  · obtain rfl := List.mem_singleton.mp hp
    obtain ⟨i, r, rfl⟩ : ∃ (i : Fin 1024) (r : Fin 256), x = ix2 i r := ⟨x 0, x 1, eq_ix2 x⟩
    dsimp only
    rw [emb2, show ((win0_3.blk t).view.emb (ix2 i ⟨r.val, by omega⟩)) = ix2 (pi t i) (gcol (pq t) r) by blk_ext [e3],
      ref_gate, v14_at, v4_at, v5_at, v11_at]
    refine (pay5_at _ _ _ _ i r).trans ?_
    have hg : (View.ld (iblk m c 2 t) r0_2 : Vec Ideal S1024x256 .bf16) (ix2 i r) = G m c (ix2 (pi t i) (gcol (pq t) r)) :=
      (congrArg (iblk m c 2 t : Vec Ideal S1024x512 .bf16) (emb2 i r)).trans (x2_at m c t i _)
    have hu : (View.ld (iblk m c 2 t) r0_3 : Vec Ideal S1024x256 .bf16) (ix2 i r) = G m c (ix2 (pi t i) (ucol (pq t) r)) :=
      (congrArg (iblk m c 2 t : Vec Ideal S1024x512 .bf16) (emb3 i r)).trans (x2_at m c t i _)
    rw [ld0, ld1, blk_prod, hg, hu]
    obtain ⟨x, hx⟩ := hx (pi t i) (pq t) r
    rw [hx]
    exact Cert.Gate.silu_grad _ x

end Cert.CtxFfnOutDxIdeal.Gen

namespace Cert.Pre_finite_dact_ctx

open Idealize.ShloMosaic

/-! The precondition: the gradient, the weight and the value columns are finite. -/

instance : Subsingleton S_.Idx := ⟨fun a b => funext fun i => i.elim0⟩

variable (y : FVec Ideal S1024x1024 .bf16) (w : FVec Ideal S2816x1024 .bf16) (gu : FVec Ideal S1024x5632 .bf16)

theorem real (h : fn (F := Ideal) y w gu = fun _ => 1#1) (i : Fin 1024) (q : Fin 11) (r : Fin 256) : ∃ x : ℝ,
    (∑ k : Fin 1024, y (ix2 i k) * w (ix2 (Cert.CtxFfnOutDxIdeal.Gen.ncol q r) k)) * gu (ix2 i (Cert.CtxFfnOutDxIdeal.Gen.ucol q r)) = (x : EReal) := by
  have h0 := congrFun h (fun i => i.elim0)
  dsimp only [fn, fn_part1] at h0
  obtain ⟨h12, h3⟩ := Cert.Gate.both _ _ h0
  obtain ⟨h1, h2⟩ := Cert.Gate.both _ _ h12
  refine Cert.Gate.mul_real _ _ (Cert.Gate.sum_real _ fun k => Cert.Gate.mul_real _ _
    (Cert.Gate.real_of_lt _ (Host.reduce_andi_all _ _ _ _ _ h1 (ix2 i k))) (Cert.Gate.real_of_lt _ (Host.reduce_andi_all _ _ _ _ _ h2 (ix2 _ k)))) ?_
  obtain ⟨x, hx⟩ := Cert.Gate.real_of_lt _ (Host.reduce_andi_all _ _ _ _ _ h3 (ix2 i (Cert.CtxFfnOutDxIdeal.Gen.ncol q r)))
  refine ⟨x, ?_⟩
  rw [← hx]
  symm
  pointwise []
  exact congrArg (fun n => gu (ix2 i n)) (Fin.ext (by dsimp only; omega))

end Cert.Pre_finite_dact_ctx

namespace Cert.Proof.CtxFfnOutDx

open Idealize.ShloMosaic Idealize.SL.Sem Idealize.ShloMosaic.Tactic

/-- The two programs have one text, so the run over the machine's floats is the other's. -/
theorem frame_bits : Cert.quiescent_CtxFfnOutDx := by
  intro m g _
  refine Eq.mp ?_ (Cert.CtxFfnOutDxIdeal.Gen.frame (F := Bits) m g)
  sl_kernel_rfl
theorem frame_ideal : Cert.quiescent_CtxFfnOutDxIdeal := fun m g _ => Cert.CtxFfnOutDxIdeal.Gen.frame m g
theorem frame_ref : Cert.quiescent_CtxFfnOutDxRefIdeal := fun m g _ =>
  (θ_run Cert.CtxFfnOutDxRefIdeal.defs _ _).mono (fun r h => ⟨fun c => (h c).2, sem_eq_zero_of_no_sems (by decide) r.2⟩)
    (Cert.CtxFfnOutDxRefIdeal.Value.run (F := Ideal) m g)
theorem frame_ideal_pre : Cert.quiescent_CtxFfnOutDxIdeal_pre_finite_dact_ctx := fun m g _ => Cert.CtxFfnOutDxIdeal.Gen.frame m g
theorem frame_ref_pre : Cert.quiescent_CtxFfnOutDxRefIdeal_pre_finite_dact_ctx := fun m g _ => frame_ref m g trivial

theorem algebraic : Cert.algebraic_CtxFfnOutDxIdeal_CtxFfnOutDxRefIdeal_pre_finite_dact_ctx := by
  intro m g m' g' hpre hagree
  have hr := fun c => Cert.Pre_finite_dact_ctx.real _ _ _ (hpre c)
  refine ⟨fun c => (Cert.CtxFfnOutDxIdeal.Gen.dats m 0 c).arrAt 3 Cert.CtxFfnOutDxIdeal.cfg0.N,
    Cert.CtxFfnOutDxIdeal.Value.run_blocks m g,
    (θ_run Cert.CtxFfnOutDxRefIdeal.defs _ _).mono (fun r h c => ?_) (Cert.CtxFfnOutDxRefIdeal.Value.run (F := Ideal) m' g')⟩
  obtain ⟨h0, ha⟩ := h c
  obtain ⟨e0, e1, e2⟩ := hagree c
  refine ⟨h0.trans ?_, ha⟩
  rw [Cert.CtxFfnOutDxRefIdeal.Read.val_main_v19_eq, e0, e1, e2]
  exact (Cert.CtxFfnOutDxIdeal.Gen.arr3 m c (hr c)).symm

end Cert.Proof.CtxFfnOutDx

end
-- ==== Proof.MmCtxFfnOutDw.lean ====
module

public import proofs.«01_k».proof.Defs
public import proofs.«01_k».proof.Proof.Gen.CtxFfnOutDw
public import proofs.«01_k».proof.Proof.Gen.CtxFfnOutDwIdeal
public import proofs.«01_k».proof.Proof.Gen.CtxFfnOutDwIdeal.Frame
public import proofs.«01_k».proof.Proof.Gen.CtxFfnOutDwIdeal.Value
public import proofs.«01_k».proof.Proof.Gen.CtxFfnOutDwRefIdeal
public import proofs.«01_k».proof.Proof.Gen.CtxFfnOutDwRefIdeal.Read
public import Idealize.ShloMosaic.Lib.Pointwise
public import Idealize.ShloMosaic.Lib.StableHlo.ReadAt
public import Idealize.ShloMosaic.Lib.Pipeline.ValueKit.Geometry
public import Idealize.ShloMosaic.Lib.Pipeline.ValueKit.Acc

@[expose] public section

set_option maxRecDepth 16384

noncomputable section

namespace Cert.CtxFfnOutDwIdeal.Gen

open Cert.CtxFfnOutDwIdeal Idealize.ShloMosaic Idealize.ShloMosaic.TcCoe Idealize.SL Idealize.SL.Sem
open Idealize.ShloMosaic.Pipeline (Dat Cfg Window)
open Cert.CtxFfnOutDwRefIdeal.Read
open scoped BigOperators

variable (m : (ℓ : Loc nD τ sig) → Buf (Elt Ideal) ℓ)

/-- The row and the column of a point's block of the result. -/
abbrev pi (t : Fin cfg0.N) (i : Fin 1408) : Fin 2816 := ⟨1408 * (t.val / 2) + i.val, by have := lt_of_lt_of_eq t.isLt (show cfg0.N = 4 from N_0); omega⟩
abbrev pj (t : Fin cfg0.N) (j : Fin 512) : Fin 1024 := ⟨512 * (t.val % 2) + j.val, by have := lt_of_lt_of_eq t.isLt (show cfg0.N = 4 from N_0); omega⟩

theorem e0 : ∀ t : Fin cfg0.N, win0_0.index t = ![(t.val / 2), 0] := (by decide +kernel : ∀ t : Fin grid0.N, _)
theorem e1 : ∀ t : Fin cfg0.N, win0_1.index t = ![0, (t.val % 2)] := (by decide +kernel : ∀ t : Fin grid0.N, _)
theorem e2 : ∀ t : Fin cfg0.N, win0_2.index t = ![(t.val / 2), (t.val % 2)] := (by decide +kernel : ∀ t : Fin grid0.N, _)
theorem e3 : ∀ t : Fin cfg0.N, win0_3.index t = ![(t.val / 2), (t.val % 2)] := (by decide +kernel : ∀ t : Fin grid0.N, _)

/-- The result of a point is the product of its blocks and the block it adds. -/
theorem pay_at (x0 : Vec Ideal S1408x1024 .bf16) (x1 : Vec Ideal S1024x512 .bf16) (x2 : Vec Ideal S1408x512 .bf16) (i : Fin 1408) (j : Fin 512) :
    k0_pay1 x0 x1 x2 (ix2 i j) = (∑ k : Fin 1024, x0 (ix2 i k) * x1 (ix2 k j)) + x2 (ix2 i j) := by
  pointwise [k0_pay1]

theorem x0_at (c : Dev nD) (t : Fin cfg0.N) (i : Fin 1408) (k : Fin 1024) :
    (iblk m c 0 t : Vec Ideal S1408x1024 .bf16) (ix2 i k) = m ((c : Thread nD τ).loc main_arg0) (ix2 (pi t i) k) := by
  blk_simp [iblk]
  show V m c main_arg0 _ = _
  rw [V_main_arg0]
  congr 1
  blk_ext [e0]
theorem x1_at (c : Dev nD) (t : Fin cfg0.N) (j : Fin 512) (k : Fin 1024) :
    (iblk m c 1 t : Vec Ideal S1024x512 .bf16) (ix2 k j) = m ((c : Thread nD τ).loc main_arg1) (ix2 k (pj t j)) := by
  blk_simp [iblk]
  show V m c main_arg1 _ = _
  rw [V_main_arg1]
  congr 1
  blk_ext [e1]

theorem x2_at (c : Dev nD) (t : Fin cfg0.N) (i : Fin 1408) (j : Fin 512) :
    (iblk m c 2 t : Vec Ideal S1408x512 .bf16) (ix2 i j) = m ((c : Thread nD τ).loc main_arg2) (ix2 (pi t i) (pj t j)) := by
  blk_simp [iblk]
  show V m c main_arg2 _ = _
  rw [V_main_arg2]
  congr 1
  blk_ext [e2]

/-- The reference, entry by entry. -/
theorem ref_at (x0 : (⟨Cert.CtxFfnOutDwRefIdeal.S2816x1024, .bf16⟩ : BufTy).Contents (Elt Ideal)) (x1 : (⟨Cert.CtxFfnOutDwRefIdeal.S1024x1024, .bf16⟩ : BufTy).Contents (Elt Ideal)) (x2 : (⟨Cert.CtxFfnOutDwRefIdeal.S2816x1024, .bf16⟩ : BufTy).Contents (Elt Ideal)) (i : Fin 2816) (j : Fin 1024) :
    val_main_v9 (F := Ideal) x0 x1 x2 (ix2 i j) = (∑ k : Fin 1024, x0 (ix2 i k) * x1 (ix2 k j)) + x2 (ix2 i j) := by
  pointwise [val_main_v9, val_main_v8, val_main_v7, val_main_v6, val_main_v5, val_main_v4, val_main_v2, val_main_v0]
  refine congrArg₂ (fun (a b : EReal) => a + b) (Finset.sum_congr rfl fun k _ => mul_comm (_ : EReal) _) rfl

/-- The array after the run is the reference's. -/
theorem arr3 (c : Dev nD) : (dats m 0 c).arrAt 3 cfg0.N
    = val_main_v9 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  obtain ⟨y0, y1, rfl⟩ : ∃ (y0 : Fin 1408) (y1 : Fin 512), y = ix2 y0 y1 := ⟨y 0, y 1, eq_ix2 y⟩
  rw [show ((win0_3.blk t).view.emb (ix2 y0 y1)) = ix2 (pi t y0) (pj t y1) by blk_ext [e3]]
  rw [ref_at]
  refine (pay_at (iblk m c 0 t) (iblk m c 1 t) (iblk m c 2 t) y0 y1).trans ?_
  refine congrArg₂ (fun (a b : EReal) => a + b) (Finset.sum_congr rfl fun k _ => ?_) (x2_at m c t y0 y1)
  rw [x0_at, x1_at]

end Cert.CtxFfnOutDwIdeal.Gen

namespace Cert.Proof.CtxFfnOutDw

open Idealize.ShloMosaic Idealize.SL.Sem Idealize.ShloMosaic.Tactic

/-- The two programs have one text, so the run over the machine's floats is the other's. -/
theorem frame_bits : Cert.quiescent_CtxFfnOutDw := by
  intro m g _
  refine Eq.mp ?_ (Cert.CtxFfnOutDwIdeal.Gen.frame (F := Bits) m g)
  sl_kernel_rfl
theorem frame_ideal : Cert.quiescent_CtxFfnOutDwIdeal := fun m g _ => Cert.CtxFfnOutDwIdeal.Gen.frame m g
theorem frame_ref : Cert.quiescent_CtxFfnOutDwRefIdeal := fun m g _ =>
  (θ_run Cert.CtxFfnOutDwRefIdeal.defs _ _).mono (fun r h => ⟨fun c => (h c).2, sem_eq_zero_of_no_sems (by decide) r.2⟩)
    (Cert.CtxFfnOutDwRefIdeal.Value.run (F := Ideal) m g)

theorem algebraic : Cert.algebraic_CtxFfnOutDwIdeal_CtxFfnOutDwRefIdeal := by
  intro m g m' g' hpre hagree
  refine ⟨fun c => (Cert.CtxFfnOutDwIdeal.Gen.dats m 0 c).arrAt 3 Cert.CtxFfnOutDwIdeal.cfg0.N,
    Cert.CtxFfnOutDwIdeal.Value.run_blocks m g,
    (θ_run Cert.CtxFfnOutDwRefIdeal.defs _ _).mono (fun r h c => ?_) (Cert.CtxFfnOutDwRefIdeal.Value.run (F := Ideal) m' g')⟩
  obtain ⟨h0, ha⟩ := h c
  obtain ⟨e0, e1, e2⟩ := hagree c
  refine ⟨h0.trans ?_, ha⟩
  rw [Cert.CtxFfnOutDwRefIdeal.Read.val_main_v9_eq, e0, e1, e2]
  exact (Cert.CtxFfnOutDwIdeal.Gen.arr3 m c).symm

end Cert.Proof.CtxFfnOutDw

end
-- ==== Proof.MmCtxMixInDx.lean ====
module

public import proofs.«01_k».proof.Defs
public import proofs.«01_k».proof.Proof.Gen.CtxMixInDx
public import proofs.«01_k».proof.Proof.Gen.CtxMixInDxIdeal
public import proofs.«01_k».proof.Proof.Gen.CtxMixInDxIdeal.Frame
public import proofs.«01_k».proof.Proof.Gen.CtxMixInDxIdeal.Value
public import proofs.«01_k».proof.Proof.Gen.CtxMixInDxRefIdeal
public import proofs.«01_k».proof.Proof.Gen.CtxMixInDxRefIdeal.Read
public import Idealize.ShloMosaic.Lib.Pointwise
public import Idealize.ShloMosaic.Lib.StableHlo.ReadAt
public import Idealize.ShloMosaic.Lib.Pipeline.ValueKit.Geometry
public import Idealize.ShloMosaic.Lib.Pipeline.ValueKit.Acc

@[expose] public section

set_option maxRecDepth 16384

noncomputable section

namespace Cert.CtxMixInDxIdeal.Gen

open Cert.CtxMixInDxIdeal Idealize.ShloMosaic Idealize.ShloMosaic.TcCoe Idealize.SL Idealize.SL.Sem
open Idealize.ShloMosaic.Pipeline (Dat Cfg Window)
open Cert.CtxMixInDxRefIdeal.Read
open scoped BigOperators

variable (m : (ℓ : Loc nD τ sig) → Buf (Elt Ideal) ℓ)

/-- The row and the column of a point's block of the result. -/
abbrev pi (t : Fin cfg0.N) (i : Fin 1024) : Fin 1024 := ⟨1024 * t.val + i.val, by have := lt_of_lt_of_eq t.isLt (show cfg0.N = 1 from N_0); omega⟩
abbrev pj (t : Fin cfg0.N) (j : Fin 1024) : Fin 1024 := ⟨1024 * 0 + j.val, by have := lt_of_lt_of_eq t.isLt (show cfg0.N = 1 from N_0); omega⟩

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)

/-- The result of a point is the product of its blocks. -/
theorem pay_at (x0 : Vec Ideal S1024x1536 .bf16) (x1 : Vec Ideal S1024x1536 .bf16) (i : Fin 1024) (j : Fin 1024) :
    k0_pay1 x0 x1 (ix2 i j) = ∑ k : Fin 1536, x0 (ix2 i k) * x1 (ix2 j k) := by
  pointwise [k0_pay1]

theorem x0_at (c : Dev nD) (t : Fin cfg0.N) (i : Fin 1024) (k : Fin 1536) :
    (iblk m c 0 t : Vec Ideal S1024x1536 .bf16) (ix2 i k) = m ((c : Thread nD τ).loc main_arg0) (ix2 (pi t i) k) := by
  blk_simp [iblk]
  show V m c main_arg0 _ = _
  rw [V_main_arg0]
  congr 1
  blk_ext [e0]
theorem x1_at (c : Dev nD) (t : Fin cfg0.N) (j : Fin 1024) (k : Fin 1536) :
    (iblk m c 1 t : Vec Ideal S1024x1536 .bf16) (ix2 j k) = m ((c : Thread nD τ).loc main_arg1) (ix2 (pj t j) k) := by
  blk_simp [iblk]
  show V m c main_arg1 _ = _
  rw [V_main_arg1]
  congr 1
  blk_ext [e1]

/-- The reference, entry by entry. -/
theorem ref_at (x0 : (⟨Cert.CtxMixInDxRefIdeal.S1024x1536, .bf16⟩ : BufTy).Contents (Elt Ideal)) (x1 : (⟨Cert.CtxMixInDxRefIdeal.S1024x1536, .bf16⟩ : BufTy).Contents (Elt Ideal)) (i : Fin 1024) (j : Fin 1024) :
    val_main_v4 (F := Ideal) x0 x1 (ix2 i j) = ∑ k : Fin 1536, x0 (ix2 i k) * x1 (ix2 j k) := by
  pointwise [val_main_v4, val_main_v3, val_main_v1]

/-- The array after the run is the reference's. -/
theorem arr2 (c : Dev nD) : (dats m 0 c).arrAt 2 cfg0.N
    = val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨y0, y1, rfl⟩ : ∃ (y0 : Fin 1024) (y1 : Fin 1024), y = ix2 y0 y1 := ⟨y 0, y 1, eq_ix2 y⟩
  rw [show ((win0_2.blk t).view.emb (ix2 y0 y1)) = ix2 (pi t y0) (pj t y1) by blk_ext [e2]]
  rw [ref_at]
  refine (pay_at (iblk m c 0 t) (iblk m c 1 t) y0 y1).trans ?_
  refine Finset.sum_congr rfl fun k _ => ?_
  rw [x0_at, x1_at]

end Cert.CtxMixInDxIdeal.Gen

namespace Cert.Proof.CtxMixInDx

open Idealize.ShloMosaic Idealize.SL.Sem Idealize.ShloMosaic.Tactic

/-- The two programs have one text, so the run over the machine's floats is the other's. -/
theorem frame_bits : Cert.quiescent_CtxMixInDx := by
  intro m g _
  refine Eq.mp ?_ (Cert.CtxMixInDxIdeal.Gen.frame (F := Bits) m g)
  sl_kernel_rfl
theorem frame_ideal : Cert.quiescent_CtxMixInDxIdeal := fun m g _ => Cert.CtxMixInDxIdeal.Gen.frame m g
theorem frame_ref : Cert.quiescent_CtxMixInDxRefIdeal := fun m g _ =>
  (θ_run Cert.CtxMixInDxRefIdeal.defs _ _).mono (fun r h => ⟨fun c => (h c).2, sem_eq_zero_of_no_sems (by decide) r.2⟩)
    (Cert.CtxMixInDxRefIdeal.Value.run (F := Ideal) m g)

theorem algebraic : Cert.algebraic_CtxMixInDxIdeal_CtxMixInDxRefIdeal := by
  intro m g m' g' hpre hagree
  refine ⟨fun c => (Cert.CtxMixInDxIdeal.Gen.dats m 0 c).arrAt 2 Cert.CtxMixInDxIdeal.cfg0.N,
    Cert.CtxMixInDxIdeal.Value.run_blocks m g,
    (θ_run Cert.CtxMixInDxRefIdeal.defs _ _).mono (fun r h c => ?_) (Cert.CtxMixInDxRefIdeal.Value.run (F := Ideal) m' g')⟩
  obtain ⟨h0, ha⟩ := h c
  obtain ⟨e0, e1⟩ := hagree c
  refine ⟨h0.trans ?_, ha⟩
  rw [Cert.CtxMixInDxRefIdeal.Read.val_main_v4_eq, e0, e1]
  exact (Cert.CtxMixInDxIdeal.Gen.arr2 m c).symm

end Cert.Proof.CtxMixInDx

end
-- ==== Proof.MmCtxMixInDw.lean ====
module

public import proofs.«01_k».proof.Defs
public import proofs.«01_k».proof.Proof.Gen.CtxMixInDw
public import proofs.«01_k».proof.Proof.Gen.CtxMixInDwIdeal
public import proofs.«01_k».proof.Proof.Gen.CtxMixInDwIdeal.Frame
public import proofs.«01_k».proof.Proof.Gen.CtxMixInDwIdeal.Value
public import proofs.«01_k».proof.Proof.Gen.CtxMixInDwRefIdeal
public import proofs.«01_k».proof.Proof.Gen.CtxMixInDwRefIdeal.Read
public import Idealize.ShloMosaic.Lib.Pointwise
public import Idealize.ShloMosaic.Lib.StableHlo.ReadAt
public import Idealize.ShloMosaic.Lib.Pipeline.ValueKit.Geometry
public import Idealize.ShloMosaic.Lib.Pipeline.ValueKit.Acc

@[expose] public section

set_option maxRecDepth 16384

noncomputable section

namespace Cert.CtxMixInDwIdeal.Gen

open Cert.CtxMixInDwIdeal Idealize.ShloMosaic Idealize.ShloMosaic.TcCoe Idealize.SL Idealize.SL.Sem
open Idealize.ShloMosaic.Pipeline (Dat Cfg Window)
open Cert.CtxMixInDwRefIdeal.Read
open scoped BigOperators

variable (m : (ℓ : Loc nD τ sig) → Buf (Elt Ideal) ℓ)

/-- The row and the column of a point's block of the result. -/
abbrev pi (t : Fin cfg0.N) (i : Fin 1024) : Fin 1024 := ⟨1024 * 0 + i.val, by have := lt_of_lt_of_eq t.isLt (show cfg0.N = 6 from N_0); omega⟩
abbrev pj (t : Fin cfg0.N) (j : Fin 256) : Fin 1536 := ⟨256 * t.val + j.val, by have := lt_of_lt_of_eq t.isLt (show cfg0.N = 6 from N_0); omega⟩

theorem e0 : ∀ t : Fin cfg0.N, win0_0.index t = ![0, 0] := (by decide +kernel : ∀ t : Fin grid0.N, _)
theorem e1 : ∀ t : Fin cfg0.N, win0_1.index t = ![0, t.val] := (by decide +kernel : ∀ t : Fin grid0.N, _)
theorem e2 : ∀ t : Fin cfg0.N, win0_2.index t = ![0, t.val] := (by decide +kernel : ∀ t : Fin grid0.N, _)
theorem e3 : ∀ t : Fin cfg0.N, win0_3.index t = ![0, t.val] := (by decide +kernel : ∀ t : Fin grid0.N, _)

/-- The result of a point is the product of its blocks and the block it adds. -/
theorem pay_at (x0 : Vec Ideal S1024x1024 .bf16) (x1 : Vec Ideal S1024x256 .bf16) (x2 : Vec Ideal S1024x256 .bf16) (i : Fin 1024) (j : Fin 256) :
    k0_pay1 x0 x1 x2 (ix2 i j) = (∑ k : Fin 1024, x0 (ix2 i k) * x1 (ix2 k j)) + x2 (ix2 i j) := by
  pointwise [k0_pay1]

theorem x0_at (c : Dev nD) (t : Fin cfg0.N) (i : Fin 1024) (k : Fin 1024) :
    (iblk m c 0 t : Vec Ideal S1024x1024 .bf16) (ix2 i k) = m ((c : Thread nD τ).loc main_arg0) (ix2 (pi t i) k) := by
  blk_simp [iblk]
  show V m c main_arg0 _ = _
  rw [V_main_arg0]
  congr 1
  blk_ext [e0]
theorem x1_at (c : Dev nD) (t : Fin cfg0.N) (j : Fin 256) (k : Fin 1024) :
    (iblk m c 1 t : Vec Ideal S1024x256 .bf16) (ix2 k j) = m ((c : Thread nD τ).loc main_arg1) (ix2 k (pj t j)) := by
  blk_simp [iblk]
  show V m c main_arg1 _ = _
  rw [V_main_arg1]
  congr 1
  blk_ext [e1]

theorem x2_at (c : Dev nD) (t : Fin cfg0.N) (i : Fin 1024) (j : Fin 256) :
    (iblk m c 2 t : Vec Ideal S1024x256 .bf16) (ix2 i j) = m ((c : Thread nD τ).loc main_arg2) (ix2 (pi t i) (pj t j)) := by
  blk_simp [iblk]
  show V m c main_arg2 _ = _
  rw [V_main_arg2]
  congr 1
  blk_ext [e2]

/-- The reference, entry by entry. -/
theorem ref_at (x0 : (⟨Cert.CtxMixInDwRefIdeal.S1024x1024, .bf16⟩ : BufTy).Contents (Elt Ideal)) (x1 : (⟨Cert.CtxMixInDwRefIdeal.S1024x1536, .bf16⟩ : BufTy).Contents (Elt Ideal)) (x2 : (⟨Cert.CtxMixInDwRefIdeal.S1024x1536, .bf16⟩ : BufTy).Contents (Elt Ideal)) (i : Fin 1024) (j : Fin 1536) :
    val_main_v9 (F := Ideal) x0 x1 x2 (ix2 i j) = (∑ k : Fin 1024, x0 (ix2 i k) * x1 (ix2 k j)) + x2 (ix2 i j) := by
  pointwise [val_main_v9, val_main_v8, val_main_v7, val_main_v6, val_main_v5, val_main_v4, val_main_v2, val_main_v0]
  refine congrArg₂ (fun (a b : EReal) => a + b) (Finset.sum_congr rfl fun k _ => mul_comm (_ : EReal) _) rfl

/-- The array after the run is the reference's. -/
theorem arr3 (c : Dev nD) : (dats m 0 c).arrAt 3 cfg0.N
    = val_main_v9 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  obtain ⟨y0, y1, rfl⟩ : ∃ (y0 : Fin 1024) (y1 : Fin 256), y = ix2 y0 y1 := ⟨y 0, y 1, eq_ix2 y⟩
  rw [show ((win0_3.blk t).view.emb (ix2 y0 y1)) = ix2 (pi t y0) (pj t y1) by blk_ext [e3]]
  rw [ref_at]
  refine (pay_at (iblk m c 0 t) (iblk m c 1 t) (iblk m c 2 t) y0 y1).trans ?_
  refine congrArg₂ (fun (a b : EReal) => a + b) (Finset.sum_congr rfl fun k _ => ?_) (x2_at m c t y0 y1)
  rw [x0_at, x1_at]

end Cert.CtxMixInDwIdeal.Gen

namespace Cert.Proof.CtxMixInDw

open Idealize.ShloMosaic Idealize.SL.Sem Idealize.ShloMosaic.Tactic

/-- The two programs have one text, so the run over the machine's floats is the other's. -/
theorem frame_bits : Cert.quiescent_CtxMixInDw := by
  intro m g _
  refine Eq.mp ?_ (Cert.CtxMixInDwIdeal.Gen.frame (F := Bits) m g)
  sl_kernel_rfl
theorem frame_ideal : Cert.quiescent_CtxMixInDwIdeal := fun m g _ => Cert.CtxMixInDwIdeal.Gen.frame m g
theorem frame_ref : Cert.quiescent_CtxMixInDwRefIdeal := fun m g _ =>
  (θ_run Cert.CtxMixInDwRefIdeal.defs _ _).mono (fun r h => ⟨fun c => (h c).2, sem_eq_zero_of_no_sems (by decide) r.2⟩)
    (Cert.CtxMixInDwRefIdeal.Value.run (F := Ideal) m g)

theorem algebraic : Cert.algebraic_CtxMixInDwIdeal_CtxMixInDwRefIdeal := by
  intro m g m' g' hpre hagree
  refine ⟨fun c => (Cert.CtxMixInDwIdeal.Gen.dats m 0 c).arrAt 3 Cert.CtxMixInDwIdeal.cfg0.N,
    Cert.CtxMixInDwIdeal.Value.run_blocks m g,
    (θ_run Cert.CtxMixInDwRefIdeal.defs _ _).mono (fun r h c => ?_) (Cert.CtxMixInDwRefIdeal.Value.run (F := Ideal) m' g')⟩
  obtain ⟨h0, ha⟩ := h c
  obtain ⟨e0, e1, e2⟩ := hagree c
  refine ⟨h0.trans ?_, ha⟩
  rw [Cert.CtxMixInDwRefIdeal.Read.val_main_v9_eq, e0, e1, e2]
  exact (Cert.CtxMixInDwIdeal.Gen.arr3 m c).symm

end Cert.Proof.CtxMixInDw

end
-- ==== Proof.MmCtxMixOutDx.lean ====
module

public import proofs.«01_k».proof.Defs
public import proofs.«01_k».proof.Proof.Gen.CtxMixOutDx
public import proofs.«01_k».proof.Proof.Gen.CtxMixOutDxIdeal
public import proofs.«01_k».proof.Proof.Gen.CtxMixOutDxIdeal.Frame
public import proofs.«01_k».proof.Proof.Gen.CtxMixOutDxIdeal.Value
public import proofs.«01_k».proof.Proof.Gen.CtxMixOutDxRefIdeal
public import proofs.«01_k».proof.Proof.Gen.CtxMixOutDxRefIdeal.Read
public import Idealize.ShloMosaic.Lib.Pointwise
public import Idealize.ShloMosaic.Lib.StableHlo.ReadAt
public import Idealize.ShloMosaic.Lib.Pipeline.ValueKit.Geometry
public import Idealize.ShloMosaic.Lib.Pipeline.ValueKit.Acc

@[expose] public section

set_option maxRecDepth 16384

noncomputable section

namespace Cert.CtxMixOutDxIdeal.Gen

open Cert.CtxMixOutDxIdeal Idealize.ShloMosaic Idealize.ShloMosaic.TcCoe Idealize.SL Idealize.SL.Sem
open Idealize.ShloMosaic.Pipeline (Dat Cfg Window)
open Cert.CtxMixOutDxRefIdeal.Read
open scoped BigOperators

variable (m : (ℓ : Loc nD τ sig) → Buf (Elt Ideal) ℓ)

/-- The row and the column of a point's block of the result. -/
abbrev pi (t : Fin cfg0.N) (i : Fin 1024) : Fin 1024 := ⟨1024 * t.val + i.val, by have := lt_of_lt_of_eq t.isLt (show cfg0.N = 1 from N_0); omega⟩
abbrev pj (t : Fin cfg0.N) (j : Fin 1024) : Fin 1024 := ⟨1024 * 0 + j.val, by have := lt_of_lt_of_eq t.isLt (show cfg0.N = 1 from N_0); omega⟩

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)

/-- The result of a point is the product of its blocks. -/
theorem pay_at (x0 : Vec Ideal S1024x1024 .bf16) (x1 : Vec Ideal S1024x1024 .bf16) (i : Fin 1024) (j : Fin 1024) :
    k0_pay1 x0 x1 (ix2 i j) = ∑ k : Fin 1024, x0 (ix2 i k) * x1 (ix2 j k) := by
  pointwise [k0_pay1]

theorem x0_at (c : Dev nD) (t : Fin cfg0.N) (i : Fin 1024) (k : Fin 1024) :
    (iblk m c 0 t : Vec Ideal S1024x1024 .bf16) (ix2 i k) = m ((c : Thread nD τ).loc main_arg0) (ix2 (pi t i) k) := by
  blk_simp [iblk]
  show V m c main_arg0 _ = _
  rw [V_main_arg0]
  congr 1
  blk_ext [e0]
theorem x1_at (c : Dev nD) (t : Fin cfg0.N) (j : Fin 1024) (k : Fin 1024) :
    (iblk m c 1 t : Vec Ideal S1024x1024 .bf16) (ix2 j k) = m ((c : Thread nD τ).loc main_arg1) (ix2 (pj t j) k) := by
  blk_simp [iblk]
  show V m c main_arg1 _ = _
  rw [V_main_arg1]
  congr 1
  blk_ext [e1]

/-- The reference, entry by entry. -/
theorem ref_at (x0 : (⟨Cert.CtxMixOutDxRefIdeal.S1024x1024, .bf16⟩ : BufTy).Contents (Elt Ideal)) (x1 : (⟨Cert.CtxMixOutDxRefIdeal.S1024x1024, .bf16⟩ : BufTy).Contents (Elt Ideal)) (i : Fin 1024) (j : Fin 1024) :
    val_main_v4 (F := Ideal) x0 x1 (ix2 i j) = ∑ k : Fin 1024, x0 (ix2 i k) * x1 (ix2 j k) := by
  pointwise [val_main_v4, val_main_v3, val_main_v1]

/-- The array after the run is the reference's. -/
theorem arr2 (c : Dev nD) : (dats m 0 c).arrAt 2 cfg0.N
    = val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨y0, y1, rfl⟩ : ∃ (y0 : Fin 1024) (y1 : Fin 1024), y = ix2 y0 y1 := ⟨y 0, y 1, eq_ix2 y⟩
  rw [show ((win0_2.blk t).view.emb (ix2 y0 y1)) = ix2 (pi t y0) (pj t y1) by blk_ext [e2]]
  rw [ref_at]
  refine (pay_at (iblk m c 0 t) (iblk m c 1 t) y0 y1).trans ?_
  refine Finset.sum_congr rfl fun k _ => ?_
  rw [x0_at, x1_at]

end Cert.CtxMixOutDxIdeal.Gen

namespace Cert.Proof.CtxMixOutDx

open Idealize.ShloMosaic Idealize.SL.Sem Idealize.ShloMosaic.Tactic

/-- The two programs have one text, so the run over the machine's floats is the other's. -/
theorem frame_bits : Cert.quiescent_CtxMixOutDx := by
  intro m g _
  refine Eq.mp ?_ (Cert.CtxMixOutDxIdeal.Gen.frame (F := Bits) m g)
  sl_kernel_rfl
theorem frame_ideal : Cert.quiescent_CtxMixOutDxIdeal := fun m g _ => Cert.CtxMixOutDxIdeal.Gen.frame m g
theorem frame_ref : Cert.quiescent_CtxMixOutDxRefIdeal := fun m g _ =>
  (θ_run Cert.CtxMixOutDxRefIdeal.defs _ _).mono (fun r h => ⟨fun c => (h c).2, sem_eq_zero_of_no_sems (by decide) r.2⟩)
    (Cert.CtxMixOutDxRefIdeal.Value.run (F := Ideal) m g)

theorem algebraic : Cert.algebraic_CtxMixOutDxIdeal_CtxMixOutDxRefIdeal := by
  intro m g m' g' hpre hagree
  refine ⟨fun c => (Cert.CtxMixOutDxIdeal.Gen.dats m 0 c).arrAt 2 Cert.CtxMixOutDxIdeal.cfg0.N,
    Cert.CtxMixOutDxIdeal.Value.run_blocks m g,
    (θ_run Cert.CtxMixOutDxRefIdeal.defs _ _).mono (fun r h c => ?_) (Cert.CtxMixOutDxRefIdeal.Value.run (F := Ideal) m' g')⟩
  obtain ⟨h0, ha⟩ := h c
  obtain ⟨e0, e1⟩ := hagree c
  refine ⟨h0.trans ?_, ha⟩
  rw [Cert.CtxMixOutDxRefIdeal.Read.val_main_v4_eq, e0, e1]
  exact (Cert.CtxMixOutDxIdeal.Gen.arr2 m c).symm

end Cert.Proof.CtxMixOutDx

end
-- ==== Proof.MmCtxMixOutDw.lean ====
module

public import proofs.«01_k».proof.Defs
public import proofs.«01_k».proof.Proof.Gen.CtxMixOutDw
public import proofs.«01_k».proof.Proof.Gen.CtxMixOutDwIdeal
public import proofs.«01_k».proof.Proof.Gen.CtxMixOutDwIdeal.Frame
public import proofs.«01_k».proof.Proof.Gen.CtxMixOutDwIdeal.Value
public import proofs.«01_k».proof.Proof.Gen.CtxMixOutDwRefIdeal
public import proofs.«01_k».proof.Proof.Gen.CtxMixOutDwRefIdeal.Read
public import Idealize.ShloMosaic.Lib.Pointwise
public import Idealize.ShloMosaic.Lib.StableHlo.ReadAt
public import Idealize.ShloMosaic.Lib.Pipeline.ValueKit.Geometry
public import Idealize.ShloMosaic.Lib.Pipeline.ValueKit.Acc

@[expose] public section

set_option maxRecDepth 16384

noncomputable section

namespace Cert.CtxMixOutDwIdeal.Gen

open Cert.CtxMixOutDwIdeal Idealize.ShloMosaic Idealize.ShloMosaic.TcCoe Idealize.SL Idealize.SL.Sem
open Idealize.ShloMosaic.Pipeline (Dat Cfg Window)
open Cert.CtxMixOutDwRefIdeal.Read
open scoped BigOperators

variable (m : (ℓ : Loc nD τ sig) → Buf (Elt Ideal) ℓ)

/-- The row and the column of a point's block of the result. -/
abbrev pi (t : Fin cfg0.N) (i : Fin 1024) : Fin 1024 := ⟨1024 * 0 + i.val, by have := lt_of_lt_of_eq t.isLt (show cfg0.N = 4 from N_0); omega⟩
abbrev pj (t : Fin cfg0.N) (j : Fin 256) : Fin 1024 := ⟨256 * t.val + j.val, by have := lt_of_lt_of_eq t.isLt (show cfg0.N = 4 from N_0); omega⟩

theorem e0 : ∀ t : Fin cfg0.N, win0_0.index t = ![0, 0] := (by decide +kernel : ∀ t : Fin grid0.N, _)
theorem e1 : ∀ t : Fin cfg0.N, win0_1.index t = ![0, t.val] := (by decide +kernel : ∀ t : Fin grid0.N, _)
theorem e2 : ∀ t : Fin cfg0.N, win0_2.index t = ![0, t.val] := (by decide +kernel : ∀ t : Fin grid0.N, _)
theorem e3 : ∀ t : Fin cfg0.N, win0_3.index t = ![0, t.val] := (by decide +kernel : ∀ t : Fin grid0.N, _)

/-- The result of a point is the product of its blocks and the block it adds. -/
theorem pay_at (x0 : Vec Ideal S1024x1024 .bf16) (x1 : Vec Ideal S1024x256 .bf16) (x2 : Vec Ideal S1024x256 .bf16) (i : Fin 1024) (j : Fin 256) :
    k0_pay1 x0 x1 x2 (ix2 i j) = (∑ k : Fin 1024, x0 (ix2 i k) * x1 (ix2 k j)) + x2 (ix2 i j) := by
  pointwise [k0_pay1]

/-- The left operand, as the host turns it. -/
theorem V_main_v0_at (c : Dev nD) (i : Fin 1024) (k : Fin 1024) :
    V m c main_v0 (ix2 i k) = m ((c : Thread nD τ).loc main_arg0) (ix2 k i) := by
  show StableHlo.after hostOps0 _ (Proc.devRef .tc main_v0) _ = _
  after_reads_at

theorem x0_at (c : Dev nD) (t : Fin cfg0.N) (i : Fin 1024) (k : Fin 1024) :
    (iblk m c 0 t : Vec Ideal S1024x1024 .bf16) (ix2 i k) = m ((c : Thread nD τ).loc main_arg0) (ix2 k (pi t i)) := by
  blk_simp [iblk]
  show V m c main_v0 _ = _
  rw [← V_main_v0_at m c (pi t i) k]
  congr 1
  blk_ext [e0]
theorem x1_at (c : Dev nD) (t : Fin cfg0.N) (j : Fin 256) (k : Fin 1024) :
    (iblk m c 1 t : Vec Ideal S1024x256 .bf16) (ix2 k j) = m ((c : Thread nD τ).loc main_arg1) (ix2 k (pj t j)) := by
  blk_simp [iblk]
  show V m c main_arg1 _ = _
  rw [V_main_arg1]
  congr 1
  blk_ext [e1]

theorem x2_at (c : Dev nD) (t : Fin cfg0.N) (i : Fin 1024) (j : Fin 256) :
    (iblk m c 2 t : Vec Ideal S1024x256 .bf16) (ix2 i j) = m ((c : Thread nD τ).loc main_arg2) (ix2 (pi t i) (pj t j)) := by
  blk_simp [iblk]
  show V m c main_arg2 _ = _
  rw [V_main_arg2]
  congr 1
  blk_ext [e2]

/-- The reference, entry by entry. -/
theorem ref_at (x0 : (⟨Cert.CtxMixOutDwRefIdeal.S1024x1024, .bf16⟩ : BufTy).Contents (Elt Ideal)) (x1 : (⟨Cert.CtxMixOutDwRefIdeal.S1024x1024, .bf16⟩ : BufTy).Contents (Elt Ideal)) (x2 : (⟨Cert.CtxMixOutDwRefIdeal.S1024x1024, .bf16⟩ : BufTy).Contents (Elt Ideal)) (i : Fin 1024) (j : Fin 1024) :
    val_main_v8 (F := Ideal) x0 x1 x2 (ix2 i j) = (∑ k : Fin 1024, x0 (ix2 k i) * x1 (ix2 k j)) + x2 (ix2 i j) := by
  pointwise [val_main_v8, val_main_v7, val_main_v6, val_main_v5, val_main_v4, val_main_v3, val_main_v1]
  refine congrArg₂ (fun (a b : EReal) => a + b) (Finset.sum_congr rfl fun k _ => mul_comm (_ : EReal) _) rfl

/-- The array after the run is the reference's. -/
theorem arr3 (c : Dev nD) : (dats m 0 c).arrAt 3 cfg0.N
    = val_main_v8 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  obtain ⟨y0, y1, rfl⟩ : ∃ (y0 : Fin 1024) (y1 : Fin 256), y = ix2 y0 y1 := ⟨y 0, y 1, eq_ix2 y⟩
  rw [show ((win0_3.blk t).view.emb (ix2 y0 y1)) = ix2 (pi t y0) (pj t y1) by blk_ext [e3]]
  rw [ref_at]
  refine (pay_at (iblk m c 0 t) (iblk m c 1 t) (iblk m c 2 t) y0 y1).trans ?_
  refine congrArg₂ (fun (a b : EReal) => a + b) (Finset.sum_congr rfl fun k _ => ?_) (x2_at m c t y0 y1)
  rw [x0_at, x1_at]

end Cert.CtxMixOutDwIdeal.Gen

namespace Cert.Proof.CtxMixOutDw

open Idealize.ShloMosaic Idealize.SL.Sem Idealize.ShloMosaic.Tactic

/-- The two programs have one text, so the run over the machine's floats is the other's. -/
theorem frame_bits : Cert.quiescent_CtxMixOutDw := by
  intro m g _
  refine Eq.mp ?_ (Cert.CtxMixOutDwIdeal.Gen.frame (F := Bits) m g)
  sl_kernel_rfl
theorem frame_ideal : Cert.quiescent_CtxMixOutDwIdeal := fun m g _ => Cert.CtxMixOutDwIdeal.Gen.frame m g
theorem frame_ref : Cert.quiescent_CtxMixOutDwRefIdeal := fun m g _ =>
  (θ_run Cert.CtxMixOutDwRefIdeal.defs _ _).mono (fun r h => ⟨fun c => (h c).2, sem_eq_zero_of_no_sems (by decide) r.2⟩)
    (Cert.CtxMixOutDwRefIdeal.Value.run (F := Ideal) m g)

theorem algebraic : Cert.algebraic_CtxMixOutDwIdeal_CtxMixOutDwRefIdeal := by
  intro m g m' g' hpre hagree
  refine ⟨fun c => (Cert.CtxMixOutDwIdeal.Gen.dats m 0 c).arrAt 3 Cert.CtxMixOutDwIdeal.cfg0.N,
    Cert.CtxMixOutDwIdeal.Value.run_blocks m g,
    (θ_run Cert.CtxMixOutDwRefIdeal.defs _ _).mono (fun r h c => ?_) (Cert.CtxMixOutDwRefIdeal.Value.run (F := Ideal) m' g')⟩
  obtain ⟨h0, ha⟩ := h c
  obtain ⟨e0, e1, e2⟩ := hagree c
  refine ⟨h0.trans ?_, ha⟩
  rw [Cert.CtxMixOutDwRefIdeal.Read.val_main_v8_eq, e0, e1, e2]
  exact (Cert.CtxMixOutDwIdeal.Gen.arr3 m c).symm

end Cert.Proof.CtxMixOutDw

end
-- ==== Proof.MmCtxKvDx.lean ====
module

public import proofs.«01_k».proof.Defs
public import proofs.«01_k».proof.Proof.Gen.CtxKvDx
public import proofs.«01_k».proof.Proof.Gen.CtxKvDxIdeal
public import proofs.«01_k».proof.Proof.Gen.CtxKvDxIdeal.Frame
public import proofs.«01_k».proof.Proof.Gen.CtxKvDxIdeal.Value
public import proofs.«01_k».proof.Proof.Gen.CtxKvDxRefIdeal
public import proofs.«01_k».proof.Proof.Gen.CtxKvDxRefIdeal.Read
public import Idealize.ShloMosaic.Lib.Pointwise
public import Idealize.ShloMosaic.Lib.StableHlo.ReadAt
public import Idealize.ShloMosaic.Lib.Pipeline.ValueKit.Geometry
public import Idealize.ShloMosaic.Lib.Pipeline.ValueKit.Acc

@[expose] public section

set_option maxRecDepth 16384

noncomputable section

namespace Cert.CtxKvDxIdeal.Gen

open Cert.CtxKvDxIdeal Idealize.ShloMosaic Idealize.ShloMosaic.TcCoe Idealize.SL Idealize.SL.Sem
open Idealize.ShloMosaic.Pipeline (Dat Cfg Window)
open Cert.CtxKvDxRefIdeal.Read
open scoped BigOperators

variable (m : (ℓ : Loc nD τ sig) → Buf (Elt Ideal) ℓ)

/-- A column of the keys and values among the columns of the projection. -/
abbrev kv (k : Fin 256) : Fin 1536 := ⟨512 + k.val, by omega⟩

/-- The row and the column of a point's block of the result. -/
abbrev pi (t : Fin cfg0.N) (i : Fin 1024) : Fin 1024 := ⟨1024 * 0 + i.val, by have := lt_of_lt_of_eq t.isLt (show cfg0.N = 2 from N_0); omega⟩
abbrev pj (t : Fin cfg0.N) (j : Fin 512) : Fin 1024 := ⟨512 * t.val + j.val, by have := lt_of_lt_of_eq t.isLt (show cfg0.N = 2 from N_0); omega⟩

theorem e0 : ∀ t : Fin cfg0.N, win0_0.index t = ![0, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![0, t.val] := (by decide +kernel : ∀ t : Fin grid0.N, _)

/-- The result of a point is the product of its blocks. -/
theorem pay_at (x0 : Vec Ideal S1024x256 .bf16) (x1 : Vec Ideal S512x256 .bf16) (i : Fin 1024) (j : Fin 512) :
    k0_pay1 x0 x1 (ix2 i j) = ∑ k : Fin 256, x0 (ix2 i k) * x1 (ix2 j k) := by
  pointwise [k0_pay1]

/-- The columns of the keys and values, as the host cuts them out. -/
theorem V_main_v0_at (c : Dev nD) (i : Fin 1024) (k : Fin 256) :
    V m c main_v0 (ix2 i k) = m ((c : Thread nD τ).loc main_arg1) (ix2 i (kv k)) := by
  show StableHlo.after hostOps0 _ (Proc.devRef .tc main_v0) _ = _
  after_reads_at

theorem x0_at (c : Dev nD) (t : Fin cfg0.N) (i : Fin 1024) (k : Fin 256) :
    (iblk m c 0 t : Vec Ideal S1024x256 .bf16) (ix2 i k) = m ((c : Thread nD τ).loc main_arg0) (ix2 (pi t i) k) := by
  blk_simp [iblk]
  show V m c main_arg0 _ = _
  rw [V_main_arg0]
  congr 1
  blk_ext [e0]
theorem x1_at (c : Dev nD) (t : Fin cfg0.N) (j : Fin 512) (k : Fin 256) :
    (iblk m c 1 t : Vec Ideal S512x256 .bf16) (ix2 j k) = m ((c : Thread nD τ).loc main_arg1) (ix2 (pj t j) (kv k)) := by
  blk_simp [iblk]
  show V m c main_v0 _ = _
  rw [← V_main_v0_at m c (pj t j) k]
  congr 1
  blk_ext [e1]

/-- The reference, entry by entry. -/
theorem ref_at (x0 : (⟨Cert.CtxKvDxRefIdeal.S1024x256, .bf16⟩ : BufTy).Contents (Elt Ideal)) (x1 : (⟨Cert.CtxKvDxRefIdeal.S1024x1536, .bf16⟩ : BufTy).Contents (Elt Ideal)) (i : Fin 1024) (j : Fin 1024) :
    val_main_v5 (F := Ideal) x0 x1 (ix2 i j) = ∑ k : Fin 256, x0 (ix2 i k) * x1 (ix2 j (kv k)) := by
  pointwise [val_main_v5, val_main_v4, val_main_v2, val_main_v0]

/-- The array after the run is the reference's. -/
theorem arr2 (c : Dev nD) : (dats m 0 c).arrAt 2 cfg0.N
    = val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨y0, y1, rfl⟩ : ∃ (y0 : Fin 1024) (y1 : Fin 512), y = ix2 y0 y1 := ⟨y 0, y 1, eq_ix2 y⟩
  rw [show ((win0_2.blk t).view.emb (ix2 y0 y1)) = ix2 (pi t y0) (pj t y1) by blk_ext [e2]]
  rw [ref_at]
  refine (pay_at (iblk m c 0 t) (iblk m c 1 t) y0 y1).trans ?_
  refine Finset.sum_congr rfl fun k _ => ?_
  rw [x0_at, x1_at]

end Cert.CtxKvDxIdeal.Gen

namespace Cert.Proof.CtxKvDx

open Idealize.ShloMosaic Idealize.SL.Sem Idealize.ShloMosaic.Tactic

/-- The two programs have one text, so the run over the machine's floats is the other's. -/
theorem frame_bits : Cert.quiescent_CtxKvDx := by
  intro m g _
  refine Eq.mp ?_ (Cert.CtxKvDxIdeal.Gen.frame (F := Bits) m g)
  sl_kernel_rfl
theorem frame_ideal : Cert.quiescent_CtxKvDxIdeal := fun m g _ => Cert.CtxKvDxIdeal.Gen.frame m g
theorem frame_ref : Cert.quiescent_CtxKvDxRefIdeal := fun m g _ =>
  (θ_run Cert.CtxKvDxRefIdeal.defs _ _).mono (fun r h => ⟨fun c => (h c).2, sem_eq_zero_of_no_sems (by decide) r.2⟩)
    (Cert.CtxKvDxRefIdeal.Value.run (F := Ideal) m g)

theorem algebraic : Cert.algebraic_CtxKvDxIdeal_CtxKvDxRefIdeal := by
  intro m g m' g' hpre hagree
  refine ⟨fun c => (Cert.CtxKvDxIdeal.Gen.dats m 0 c).arrAt 2 Cert.CtxKvDxIdeal.cfg0.N,
    Cert.CtxKvDxIdeal.Value.run_blocks m g,
    (θ_run Cert.CtxKvDxRefIdeal.defs _ _).mono (fun r h c => ?_) (Cert.CtxKvDxRefIdeal.Value.run (F := Ideal) m' g')⟩
  obtain ⟨h0, ha⟩ := h c
  obtain ⟨e0, e1⟩ := hagree c
  refine ⟨h0.trans ?_, ha⟩
  rw [Cert.CtxKvDxRefIdeal.Read.val_main_v5_eq, e0, e1]
  exact (Cert.CtxKvDxIdeal.Gen.arr2 m c).symm

end Cert.Proof.CtxKvDx

end
-- ==== Proof.MmCtxKvDw.lean ====
module

public import proofs.«01_k».proof.Defs
public import proofs.«01_k».proof.Proof.Gen.CtxKvDw
public import proofs.«01_k».proof.Proof.Gen.CtxKvDwIdeal
public import proofs.«01_k».proof.Proof.Gen.CtxKvDwIdeal.Frame
public import proofs.«01_k».proof.Proof.Gen.CtxKvDwIdeal.Value
public import proofs.«01_k».proof.Proof.Gen.CtxKvDwRefIdeal
public import proofs.«01_k».proof.Proof.Gen.CtxKvDwRefIdeal.Read
public import Idealize.ShloMosaic.Lib.Pointwise
public import Idealize.ShloMosaic.Lib.StableHlo.ReadAt
public import Idealize.ShloMosaic.Lib.Pipeline.ValueKit.Geometry
public import Idealize.ShloMosaic.Lib.Pipeline.ValueKit.Acc

@[expose] public section

set_option maxRecDepth 16384

noncomputable section

namespace Cert.CtxKvDwIdeal.Gen

open Cert.CtxKvDwIdeal Idealize.ShloMosaic Idealize.ShloMosaic.TcCoe Idealize.SL Idealize.SL.Sem
open Idealize.ShloMosaic.Pipeline (Dat Cfg Window)
open Cert.CtxKvDwRefIdeal.Read
open scoped BigOperators

variable (m : (ℓ : Loc nD τ sig) → Buf (Elt Ideal) ℓ)

/-- The row and the column of a point's block of the result. -/
abbrev pi (t : Fin cfg0.N) (i : Fin 1024) : Fin 1024 := ⟨1024 * t.val + i.val, by have := lt_of_lt_of_eq t.isLt (show cfg0.N = 1 from N_0); omega⟩
abbrev pj (t : Fin cfg0.N) (j : Fin 256) : Fin 256 := ⟨256 * 0 + j.val, by have := lt_of_lt_of_eq t.isLt (show cfg0.N = 1 from N_0); omega⟩

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)

/-- The result of a point is the product of its blocks. -/
theorem pay_at (x0 : Vec Ideal S1024x1024 .bf16) (x1 : Vec Ideal S1024x256 .bf16) (i : Fin 1024) (j : Fin 256) :
    k0_pay1 x0 x1 (ix2 i j) = ∑ k : Fin 1024, x0 (ix2 i k) * x1 (ix2 k j) := by
  pointwise [k0_pay1]

theorem x0_at (c : Dev nD) (t : Fin cfg0.N) (i : Fin 1024) (k : Fin 1024) :
    (iblk m c 0 t : Vec Ideal S1024x1024 .bf16) (ix2 i k) = m ((c : Thread nD τ).loc main_arg0) (ix2 (pi t i) k) := by
  blk_simp [iblk]
  show V m c main_arg0 _ = _
  rw [V_main_arg0]
  congr 1
  blk_ext [e0]
theorem x1_at (c : Dev nD) (t : Fin cfg0.N) (j : Fin 256) (k : Fin 1024) :
    (iblk m c 1 t : Vec Ideal S1024x256 .bf16) (ix2 k j) = m ((c : Thread nD τ).loc main_arg1) (ix2 k (pj t j)) := by
  blk_simp [iblk]
  show V m c main_arg1 _ = _
  rw [V_main_arg1]
  congr 1
  blk_ext [e1]

/-- The reference, entry by entry. -/
theorem ref_at (x0 : (⟨Cert.CtxKvDwRefIdeal.S1024x1024, .bf16⟩ : BufTy).Contents (Elt Ideal)) (x1 : (⟨Cert.CtxKvDwRefIdeal.S1024x256, .bf16⟩ : BufTy).Contents (Elt Ideal)) (i : Fin 1024) (j : Fin 256) :
    val_main_v7 (F := Ideal) x0 x1 (ix2 i j) = ∑ k : Fin 1024, x0 (ix2 i k) * x1 (ix2 k j) := by
  pointwise [val_main_v7, val_main_v6, val_main_v5, val_main_v4, val_main_v2, val_main_v0]
  exact Finset.sum_congr rfl fun k _ => mul_comm (_ : EReal) _

/-- The array after the run is the reference's. -/
theorem arr2 (c : Dev nD) : (dats m 0 c).arrAt 2 cfg0.N
    = val_main_v7 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨y0, y1, rfl⟩ : ∃ (y0 : Fin 1024) (y1 : Fin 256), y = ix2 y0 y1 := ⟨y 0, y 1, eq_ix2 y⟩
  rw [show ((win0_2.blk t).view.emb (ix2 y0 y1)) = ix2 (pi t y0) (pj t y1) by blk_ext [e2]]
  rw [ref_at]
  refine (pay_at (iblk m c 0 t) (iblk m c 1 t) y0 y1).trans ?_
  refine Finset.sum_congr rfl fun k _ => ?_
  rw [x0_at, x1_at]

end Cert.CtxKvDwIdeal.Gen

namespace Cert.Proof.CtxKvDw

open Idealize.ShloMosaic Idealize.SL.Sem Idealize.ShloMosaic.Tactic

/-- The two programs have one text, so the run over the machine's floats is the other's. -/
theorem frame_bits : Cert.quiescent_CtxKvDw := by
  intro m g _
  refine Eq.mp ?_ (Cert.CtxKvDwIdeal.Gen.frame (F := Bits) m g)
  sl_kernel_rfl
theorem frame_ideal : Cert.quiescent_CtxKvDwIdeal := fun m g _ => Cert.CtxKvDwIdeal.Gen.frame m g
theorem frame_ref : Cert.quiescent_CtxKvDwRefIdeal := fun m g _ =>
  (θ_run Cert.CtxKvDwRefIdeal.defs _ _).mono (fun r h => ⟨fun c => (h c).2, sem_eq_zero_of_no_sems (by decide) r.2⟩)
    (Cert.CtxKvDwRefIdeal.Value.run (F := Ideal) m g)

theorem algebraic : Cert.algebraic_CtxKvDwIdeal_CtxKvDwRefIdeal := by
  intro m g m' g' hpre hagree
  refine ⟨fun c => (Cert.CtxKvDwIdeal.Gen.dats m 0 c).arrAt 2 Cert.CtxKvDwIdeal.cfg0.N,
    Cert.CtxKvDwIdeal.Value.run_blocks m g,
    (θ_run Cert.CtxKvDwRefIdeal.defs _ _).mono (fun r h c => ?_) (Cert.CtxKvDwRefIdeal.Value.run (F := Ideal) m' g')⟩
  obtain ⟨h0, ha⟩ := h c
  obtain ⟨e0, e1⟩ := hagree c
  refine ⟨h0.trans ?_, ha⟩
  rw [Cert.CtxKvDwRefIdeal.Read.val_main_v7_eq, e0, e1]
  exact (Cert.CtxKvDwIdeal.Gen.arr2 m c).symm

end Cert.Proof.CtxKvDw

end
-- ==== Proof.MmCtxFfnIn.lean ====
module

public import proofs.«01_k».proof.Defs
public import proofs.«01_k».proof.Proof.Gate
public import proofs.«01_k».proof.Proof.Gen.CtxFfnIn
public import proofs.«01_k».proof.Proof.Gen.CtxFfnInIdeal
public import proofs.«01_k».proof.Proof.Gen.CtxFfnInIdeal.Frame
public import proofs.«01_k».proof.Proof.Gen.CtxFfnInIdeal.Value
public import proofs.«01_k».proof.Proof.Gen.CtxFfnInRefIdeal
public import proofs.«01_k».proof.Proof.Gen.CtxFfnInRefIdeal.Read
public import Idealize.ShloMosaic.Lib.Pointwise
public import Idealize.ShloMosaic.Lib.StableHlo.ReadAt
public import Idealize.ShloMosaic.Lib.Pipeline.ValueKit.Geometry
public import Idealize.ShloMosaic.Lib.Pipeline.ValueKit.Acc

@[expose] public section

set_option maxRecDepth 16384

noncomputable section

namespace Cert.CtxFfnInIdeal.Gen

open Cert.CtxFfnInIdeal Idealize.ShloMosaic Idealize.ShloMosaic.TcCoe Idealize.SL Idealize.SL.Sem
open Idealize.ShloMosaic.Pipeline (Dat Cfg Window)
open Cert.CtxFfnInRefIdeal.Read
open scoped BigOperators

variable (m : (ℓ : Loc nD τ sig) → Buf (Elt Ideal) ℓ)

/-- The operands of core `c`. -/
abbrev H (c : Dev nD) : FVec Ideal S1024x1024 .bf16 := m ((c : Thread nD τ).loc main_arg0)
abbrev W (c : Dev nD) : FVec Ideal S1024x5632 .bf16 := m ((c : Thread nD τ).loc main_arg1)

/-- The columns are in tiles: tile `q` holds 256 columns of the gate, then 256 of the value. `gcol` and `ucol` are a
    tile's columns of the gate and of the value, `ncol` the two's common place in the natural order. -/
abbrev gcol (q : Fin 11) (r : Fin 256) : Fin 5632 := ⟨512 * q.val + r.val, by omega⟩
abbrev ucol (q : Fin 11) (r : Fin 256) : Fin 5632 := ⟨512 * q.val + (256 + r.val), by omega⟩
abbrev ncol (q : Fin 11) (r : Fin 256) : Fin 2816 := ⟨256 * q.val + r.val, by omega⟩

/-- The row and the tile of a point's blocks. -/
abbrev pi (t : Fin cfg0.N) (i : Fin 1024) : Fin 1024 := ⟨1024 * (t.val / 11) + i.val, by have := lt_of_lt_of_eq t.isLt (show cfg0.N = 11 from N_0); omega⟩
abbrev pq (t : Fin cfg0.N) : Fin 11 := ⟨t.val % 11, by omega⟩

theorem e0 : ∀ t : Fin cfg0.N, win0_0.index t = ![t.val / 11, 0] := (by decide +kernel : ∀ t : Fin grid0.N, _)
theorem e1 : ∀ t : Fin cfg0.N, win0_1.index t = ![0, t.val % 11] := (by decide +kernel : ∀ t : Fin grid0.N, _)
theorem e2 : ∀ t : Fin cfg0.N, win0_2.index t = ![t.val / 11, t.val % 11] := (by decide +kernel : ∀ t : Fin grid0.N, _)
theorem e3 : ∀ t : Fin cfg0.N, win0_3.index t = ![t.val / 11, t.val % 11] := (by decide +kernel : ∀ t : Fin grid0.N, _)
theorem e4 : ∀ t : Fin cfg0.N, win0_4.index t = ![t.val % 11, t.val / 11] := (by decide +kernel : ∀ t : Fin grid0.N, _)

/-- The gated value of a gate and a value. -/
abbrev gated (g u : EReal) : EReal := g * Ideal.logistic g * u

/-- What a point stores, entry by entry: the product of its blocks, the gated half, and that transposed. -/
theorem pay1_at (w : Vec Ideal S1024x512 .bf16) (h : Vec Ideal S1024x1024 .bf16) (i : Fin 1024) (j : Fin 512) :
    k0_pay1 w h (ix2 i j) = ∑ k : Fin 1024, h (ix2 i k) * w (ix2 k j) := by
  pointwise [k0_pay1]
theorem pay2_at (w : Vec Ideal S1024x512 .bf16) (h : Vec Ideal S1024x1024 .bf16) (i : Fin 1024) (j : Fin 512) :
    k0_pay2 w h (ix2 i j) = ∑ k : Fin 1024, h (ix2 i k) * w (ix2 k j) := by
  rw [← pay1_at w h i j]
  pointwise [k0_pay2]
theorem pay4_at (w : Vec Ideal S1024x512 .bf16) (h : Vec Ideal S1024x1024 .bf16) (i : Fin 1024) (r : Fin 256) :
    k0_pay4 w h (ix2 i r) = gated (k0_pay1 w h (ix2 i ⟨r.val, by omega⟩)) (k0_pay1 w h (ix2 i ⟨256 + r.val, by omega⟩)) := by
  pointwise [k0_pay4, k0_pay3]
theorem pay5_at (w : Vec Ideal S1024x512 .bf16) (h : Vec Ideal S1024x1024 .bf16) (i : Fin 1024) (r : Fin 256) :
    k0_pay5 w h (ix2 r i) = gated (k0_pay1 w h (ix2 i ⟨r.val, by omega⟩)) (k0_pay1 w h (ix2 i ⟨256 + r.val, by omega⟩)) := by
  pointwise [k0_pay5, k0_pay3]

theorem x0_at (c : Dev nD) (t : Fin cfg0.N) (i : Fin 1024) (k : Fin 1024) :
    (iblk m c 0 t : Vec Ideal S1024x1024 .bf16) (ix2 i k) = H m c (ix2 (pi t i) k) := by
  blk_simp [iblk]
  show V m c main_arg0 _ = _
  rw [V_main_arg0]
  congr 1
  blk_ext [e0]
theorem x1_at (c : Dev nD) (t : Fin cfg0.N) (j : Fin 512) (k : Fin 1024) :
    (iblk m c 1 t : Vec Ideal S1024x512 .bf16) (ix2 k j) = W m c (ix2 k ⟨512 * (pq t).val + j.val, by omega⟩) := by
  blk_simp [iblk]
  show V m c main_arg1 _ = _
  rw [V_main_arg1]
  congr 1
  blk_ext [e1]

/-- An entry of the product, and of a point's product. -/
abbrev prod (c : Dev nD) (i : Fin 1024) (n : Fin 5632) : EReal := ∑ k : Fin 1024, H m c (ix2 i k) * W m c (ix2 k n)
abbrev b0 (c : Dev nD) (t : Fin cfg0.N) : Vec Ideal S1024x1024 .bf16 := iblk m c 0 t
abbrev b1 (c : Dev nD) (t : Fin cfg0.N) : Vec Ideal S1024x512 .bf16 := iblk m c 1 t
theorem blk_prod (c : Dev nD) (t : Fin cfg0.N) (i : Fin 1024) (j : Fin 512) :
    (∑ k : Fin 1024, b0 m c t (ix2 i k) * b1 m c t (ix2 k j)) = prod m c (pi t i) ⟨512 * (pq t).val + j.val, by omega⟩ :=
  Finset.sum_congr rfl fun k _ => congrArg₂ _ (x0_at m c t i k) (x1_at m c t j k)

/-! The reference, entry by entry. -/
section
variable (h : (⟨Cert.CtxFfnInRefIdeal.S1024x1024, .bf16⟩ : BufTy).Contents (Elt Ideal)) (w : (⟨Cert.CtxFfnInRefIdeal.S1024x5632, .bf16⟩ : BufTy).Contents (Elt Ideal))
  (i : Fin 1024) (q : Fin 11) (r : Fin 256)

theorem v2_at (n : Fin 5632) : val_main_v2 (F := Ideal) h w (ix2 i n) = ∑ k : Fin 1024, h (ix2 i k) * w (ix2 k n) := by
  pointwise [val_main_v2, val_main_v1, val_main_v0]
theorem v10_at (n : Fin 5632) : val_main_v10 (F := Ideal) h w (ix2 i n) = ∑ k : Fin 1024, h (ix2 i k) * w (ix2 k n) := by
  rw [← v2_at]
  pointwise [val_main_v10]
theorem v6_at : val_main_v6 (F := Ideal) h w (ix2 i (ncol q r)) = val_main_v2 (F := Ideal) h w (ix2 i (gcol q r)) := by
  pointwise [val_main_v6, val_main_v5, val_main_v4, val_main_v3]
  exact congrArg (fun n => val_main_v2 (F := Ideal) h w (ix2 i n)) (Fin.ext (by dsimp only; omega))
theorem v7_at : val_main_v7 (F := Ideal) h w (ix2 i (ncol q r)) = val_main_v2 (F := Ideal) h w (ix2 i (ucol q r)) := by
  pointwise [val_main_v7, val_main_v5, val_main_v4, val_main_v3]
  exact congrArg (fun n => val_main_v2 (F := Ideal) h w (ix2 i n)) (Fin.ext (by dsimp only; omega))
theorem v9_at (n : Fin 2816) : val_main_v9 (F := Ideal) h w (ix2 i n) = gated (val_main_v6 (F := Ideal) h w (ix2 i n)) (val_main_v7 (F := Ideal) h w (ix2 i n)) := by
  pointwise [val_main_v9, val_main_v8, val_main_call0_v5, val_main_call0_v4, val_main_call0_v3, val_main_call0_v2, val_main_call0_v1, val_main_call0_v0, val_main_call0_cst, val_main_call0_cst_0]
  rfl
theorem v11_at : val_main_v11 (F := Ideal) h w (ix2 i (ncol q r))
    = gated (∑ k : Fin 1024, h (ix2 i k) * w (ix2 k (gcol q r))) (∑ k : Fin 1024, h (ix2 i k) * w (ix2 k (ucol q r))) := by
  rw [← v2_at, ← v2_at, ← v6_at, ← v7_at, ← v9_at]
  pointwise [val_main_v11]
theorem v13_at : val_main_v13 (F := Ideal) h w (ix2 (ncol q r) i)
    = gated (∑ k : Fin 1024, h (ix2 i k) * w (ix2 k (gcol q r))) (∑ k : Fin 1024, h (ix2 i k) * w (ix2 k (ucol q r))) := by
  rw [← v2_at, ← v2_at, ← v6_at, ← v7_at, ← v9_at]
  pointwise [val_main_v13, val_main_v12]
end

/-- The arrays after the run are the reference's. -/
theorem arr2 (c : Dev nD) : (dats m 0 c).arrAt 2 cfg0.N = val_main_v10 (F := Ideal) (H m c) (W m c) := by
  refine (dats m 0 c).arrAt_eq_of_covers 2 _ (by decide +kernel) fun t hf y => ?_
  blk_simp
  rw [after0_2]
  frame_out
  obtain ⟨i, j, rfl⟩ : ∃ (i : Fin 1024) (j : Fin 512), y = ix2 i j := ⟨y 0, y 1, eq_ix2 y⟩
  rw [show ((win0_2.blk t).view.emb (ix2 i j)) = ix2 (pi t i) ⟨512 * (pq t).val + j.val, by omega⟩ by blk_ext [e2]]
  rw [v10_at]
  exact (pay2_at (b1 m c t) (b0 m c t) i j).trans (blk_prod m c t i j)
theorem arr3 (c : Dev nD) : (dats m 0 c).arrAt 3 cfg0.N = val_main_v11 (F := Ideal) (H m c) (W m c) := by
  refine (dats m 0 c).arrAt_eq_of_covers 3 _ (by decide +kernel) fun t hf y => ?_
  blk_simp
  rw [after0_3]
  frame_out
  obtain ⟨i, r, rfl⟩ : ∃ (i : Fin 1024) (r : Fin 256), y = ix2 i r := ⟨y 0, y 1, eq_ix2 y⟩
  rw [show ((win0_3.blk t).view.emb (ix2 i r)) = ix2 (pi t i) (ncol (pq t) r) by blk_ext [e3]]
  rw [v11_at]
  refine (pay4_at (b1 m c t) (b0 m c t) i r).trans ?_
  rw [pay1_at, pay1_at, blk_prod, blk_prod]
theorem arr4 (c : Dev nD) : (dats m 0 c).arrAt 4 cfg0.N = val_main_v13 (F := Ideal) (H m c) (W m c) := by
  refine (dats m 0 c).arrAt_eq_of_covers 4 _ (by decide +kernel) fun t hf y => ?_
  blk_simp
  rw [after0_4]
  frame_out
  obtain ⟨r, i, rfl⟩ : ∃ (r : Fin 256) (i : Fin 1024), y = ix2 r i := ⟨y 0, y 1, eq_ix2 y⟩
  rw [show ((win0_4.blk t).view.emb (ix2 r i)) = ix2 (ncol (pq t) r) (pi t i) by blk_ext [e4]]
  rw [v13_at]
  refine (pay5_at (b1 m c t) (b0 m c t) i r).trans ?_
  rw [pay1_at, pay1_at, blk_prod, blk_prod]

end Cert.CtxFfnInIdeal.Gen

namespace Cert.Proof.CtxFfnIn

open Idealize.ShloMosaic Idealize.SL.Sem Idealize.ShloMosaic.Tactic

/-- The two programs have one text, so the run over the machine's floats is the other's. -/
theorem frame_bits : Cert.quiescent_CtxFfnIn := by
  intro m g _
  refine Eq.mp ?_ (Cert.CtxFfnInIdeal.Gen.frame (F := Bits) m g)
  sl_kernel_rfl
theorem frame_ideal : Cert.quiescent_CtxFfnInIdeal := fun m g _ => Cert.CtxFfnInIdeal.Gen.frame m g
theorem frame_ref : Cert.quiescent_CtxFfnInRefIdeal := fun m g _ =>
  (θ_run Cert.CtxFfnInRefIdeal.defs _ _).mono (fun r h => ⟨fun c => (h c).2.2.2, sem_eq_zero_of_no_sems (by decide) r.2⟩)
    (Cert.CtxFfnInRefIdeal.Value.run (F := Ideal) m g)

theorem algebraic : Cert.algebraic_CtxFfnInIdeal_CtxFfnInRefIdeal := by
  intro m g m' g' hpre hagree
  refine ⟨fun c => (Cert.CtxFfnInIdeal.Gen.dats m 0 c).arrAt 2 Cert.CtxFfnInIdeal.cfg0.N, fun c => (Cert.CtxFfnInIdeal.Gen.dats m 0 c).arrAt 3 Cert.CtxFfnInIdeal.cfg0.N,
    fun c => (Cert.CtxFfnInIdeal.Gen.dats m 0 c).arrAt 4 Cert.CtxFfnInIdeal.cfg0.N,
    Cert.CtxFfnInIdeal.Value.run_blocks m g,
    (θ_run Cert.CtxFfnInRefIdeal.defs _ _).mono (fun r h c => ?_) (Cert.CtxFfnInRefIdeal.Value.run (F := Ideal) m' g')⟩
  obtain ⟨h0, h1, h2, ha⟩ := h c
  obtain ⟨e0, e1⟩ := hagree c
  refine ⟨h0.trans ?_, h1.trans ?_, h2.trans ?_, ha⟩
  · rw [Cert.CtxFfnInRefIdeal.Read.val_main_v10_eq, e0, e1]
    exact (Cert.CtxFfnInIdeal.Gen.arr2 m c).symm
  · rw [Cert.CtxFfnInRefIdeal.Read.val_main_v11_eq, e0, e1]
    exact (Cert.CtxFfnInIdeal.Gen.arr3 m c).symm
  · rw [Cert.CtxFfnInRefIdeal.Read.val_main_v13_eq, e0, e1]
    exact (Cert.CtxFfnInIdeal.Gen.arr4 m c).symm

end Cert.Proof.CtxFfnIn

end
-- ==== Proof.MmCtxFfnOut.lean ====
module

public import proofs.«01_k».proof.Defs
public import proofs.«01_k».proof.Proof.Gen.CtxFfnOut
public import proofs.«01_k».proof.Proof.Gen.CtxFfnOutIdeal
public import proofs.«01_k».proof.Proof.Gen.CtxFfnOutIdeal.Frame
public import proofs.«01_k».proof.Proof.Gen.CtxFfnOutIdeal.Value
public import proofs.«01_k».proof.Proof.Gen.CtxFfnOutRefIdeal
public import proofs.«01_k».proof.Proof.Gen.CtxFfnOutRefIdeal.Read
public import Idealize.ShloMosaic.Lib.Pointwise
public import Idealize.ShloMosaic.Lib.StableHlo.ReadAt
public import Idealize.ShloMosaic.Lib.Pipeline.ValueKit.Geometry
public import Idealize.ShloMosaic.Lib.Pipeline.ValueKit.Acc

@[expose] public section

set_option maxRecDepth 16384

noncomputable section

namespace Cert.CtxFfnOutIdeal.Gen

open Cert.CtxFfnOutIdeal Idealize.ShloMosaic Idealize.ShloMosaic.TcCoe Idealize.SL Idealize.SL.Sem
open Idealize.ShloMosaic.Pipeline (Dat Cfg Window)
open Cert.CtxFfnOutRefIdeal.Read
open scoped BigOperators

variable (m : (ℓ : Loc nD τ sig) → Buf (Elt Ideal) ℓ)

/-- The row and the column of a point's block of the result. -/
abbrev pi (t : Fin cfg0.N) (i : Fin 1024) : Fin 1024 := ⟨1024 * t.val + i.val, by have := lt_of_lt_of_eq t.isLt (show cfg0.N = 1 from N_0); omega⟩
abbrev pj (t : Fin cfg0.N) (j : Fin 1024) : Fin 1024 := ⟨1024 * 0 + j.val, by have := lt_of_lt_of_eq t.isLt (show cfg0.N = 1 from N_0); omega⟩

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)

/-- The result of a point is the product of its blocks. -/
theorem pay_at (x0 : Vec Ideal S1024x2816 .bf16) (x1 : Vec Ideal S2816x1024 .bf16) (i : Fin 1024) (j : Fin 1024) :
    k0_pay1 x0 x1 (ix2 i j) = ∑ k : Fin 2816, x0 (ix2 i k) * x1 (ix2 k j) := by
  pointwise [k0_pay1]

theorem x0_at (c : Dev nD) (t : Fin cfg0.N) (i : Fin 1024) (k : Fin 2816) :
    (iblk m c 0 t : Vec Ideal S1024x2816 .bf16) (ix2 i k) = m ((c : Thread nD τ).loc main_arg0) (ix2 (pi t i) k) := by
  blk_simp [iblk]
  show V m c main_arg0 _ = _
  rw [V_main_arg0]
  congr 1
  blk_ext [e0]
theorem x1_at (c : Dev nD) (t : Fin cfg0.N) (j : Fin 1024) (k : Fin 2816) :
    (iblk m c 1 t : Vec Ideal S2816x1024 .bf16) (ix2 k j) = m ((c : Thread nD τ).loc main_arg1) (ix2 k (pj t j)) := by
  blk_simp [iblk]
  show V m c main_arg1 _ = _
  rw [V_main_arg1]
  congr 1
  blk_ext [e1]

/-- The reference, entry by entry. -/
theorem ref_at (x0 : (⟨Cert.CtxFfnOutRefIdeal.S1024x2816, .bf16⟩ : BufTy).Contents (Elt Ideal)) (x1 : (⟨Cert.CtxFfnOutRefIdeal.S2816x1024, .bf16⟩ : BufTy).Contents (Elt Ideal)) (i : Fin 1024) (j : Fin 1024) :
    val_main_v2 (F := Ideal) x0 x1 (ix2 i j) = ∑ k : Fin 2816, x0 (ix2 i k) * x1 (ix2 k j) := by
  pointwise [val_main_v2, val_main_v0, val_main_v1]

/-- The array after the run is the reference's. -/
theorem arr2 (c : Dev nD) : (dats m 0 c).arrAt 2 cfg0.N
    = val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨y0, y1, rfl⟩ : ∃ (y0 : Fin 1024) (y1 : Fin 1024), y = ix2 y0 y1 := ⟨y 0, y 1, eq_ix2 y⟩
  rw [show ((win0_2.blk t).view.emb (ix2 y0 y1)) = ix2 (pi t y0) (pj t y1) by blk_ext [e2]]
  rw [ref_at]
  refine (pay_at (iblk m c 0 t) (iblk m c 1 t) y0 y1).trans ?_
  refine Finset.sum_congr rfl fun k _ => ?_
  rw [x0_at, x1_at]

end Cert.CtxFfnOutIdeal.Gen

namespace Cert.Proof.CtxFfnOut

open Idealize.ShloMosaic Idealize.SL.Sem Idealize.ShloMosaic.Tactic

/-- The two programs have one text, so the run over the machine's floats is the other's. -/
theorem frame_bits : Cert.quiescent_CtxFfnOut := by
  intro m g _
  refine Eq.mp ?_ (Cert.CtxFfnOutIdeal.Gen.frame (F := Bits) m g)
  sl_kernel_rfl
theorem frame_ideal : Cert.quiescent_CtxFfnOutIdeal := fun m g _ => Cert.CtxFfnOutIdeal.Gen.frame m g
theorem frame_ref : Cert.quiescent_CtxFfnOutRefIdeal := fun m g _ =>
  (θ_run Cert.CtxFfnOutRefIdeal.defs _ _).mono (fun r h => ⟨fun c => (h c).2, sem_eq_zero_of_no_sems (by decide) r.2⟩)
    (Cert.CtxFfnOutRefIdeal.Value.run (F := Ideal) m g)

theorem algebraic : Cert.algebraic_CtxFfnOutIdeal_CtxFfnOutRefIdeal := by
  intro m g m' g' hpre hagree
  refine ⟨fun c => (Cert.CtxFfnOutIdeal.Gen.dats m 0 c).arrAt 2 Cert.CtxFfnOutIdeal.cfg0.N,
    Cert.CtxFfnOutIdeal.Value.run_blocks m g,
    (θ_run Cert.CtxFfnOutRefIdeal.defs _ _).mono (fun r h c => ?_) (Cert.CtxFfnOutRefIdeal.Value.run (F := Ideal) m' g')⟩
  obtain ⟨h0, ha⟩ := h c
  obtain ⟨e0, e1⟩ := hagree c
  refine ⟨h0.trans ?_, ha⟩
  rw [Cert.CtxFfnOutRefIdeal.Read.val_main_v2_eq, e0, e1]
  exact (Cert.CtxFfnOutIdeal.Gen.arr2 m c).symm

end Cert.Proof.CtxFfnOut

end
-- ==== Proof.MmCtxMixIn.lean ====
module

public import proofs.«01_k».proof.Defs
public import proofs.«01_k».proof.Proof.Gen.CtxMixIn
public import proofs.«01_k».proof.Proof.Gen.CtxMixInIdeal
public import proofs.«01_k».proof.Proof.Gen.CtxMixInIdeal.Frame
public import proofs.«01_k».proof.Proof.Gen.CtxMixInIdeal.Value
public import proofs.«01_k».proof.Proof.Gen.CtxMixInRefIdeal
public import proofs.«01_k».proof.Proof.Gen.CtxMixInRefIdeal.Read
public import Idealize.ShloMosaic.Lib.Pointwise
public import Idealize.ShloMosaic.Lib.StableHlo.ReadAt
public import Idealize.ShloMosaic.Lib.Pipeline.ValueKit.Geometry
public import Idealize.ShloMosaic.Lib.Pipeline.ValueKit.Acc

@[expose] public section

set_option maxRecDepth 16384

noncomputable section

namespace Cert.CtxMixInIdeal.Gen

open Cert.CtxMixInIdeal Idealize.ShloMosaic Idealize.ShloMosaic.TcCoe Idealize.SL Idealize.SL.Sem
open Idealize.ShloMosaic.Pipeline (Dat Cfg Window)
open Cert.CtxMixInRefIdeal.Read
open scoped BigOperators

variable (m : (ℓ : Loc nD τ sig) → Buf (Elt Ideal) ℓ)

/-- The row and the column of a point's block of the result. -/
abbrev pi (t : Fin cfg0.N) (i : Fin 1024) : Fin 1024 := ⟨1024 * t.val + i.val, by have := lt_of_lt_of_eq t.isLt (show cfg0.N = 1 from N_0); omega⟩
abbrev pj (t : Fin cfg0.N) (j : Fin 1536) : Fin 1536 := ⟨1536 * 0 + j.val, by have := lt_of_lt_of_eq t.isLt (show cfg0.N = 1 from N_0); omega⟩

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)

/-- The result of a point is the product of its blocks. -/
theorem pay_at (x0 : Vec Ideal S1024x1024 .bf16) (x1 : Vec Ideal S1024x1536 .bf16) (i : Fin 1024) (j : Fin 1536) :
    k0_pay1 x0 x1 (ix2 i j) = ∑ k : Fin 1024, x0 (ix2 i k) * x1 (ix2 k j) := by
  pointwise [k0_pay1]

theorem x0_at (c : Dev nD) (t : Fin cfg0.N) (i : Fin 1024) (k : Fin 1024) :
    (iblk m c 0 t : Vec Ideal S1024x1024 .bf16) (ix2 i k) = m ((c : Thread nD τ).loc main_arg0) (ix2 (pi t i) k) := by
  blk_simp [iblk]
  show V m c main_arg0 _ = _
  rw [V_main_arg0]
  congr 1
  blk_ext [e0]
theorem x1_at (c : Dev nD) (t : Fin cfg0.N) (j : Fin 1536) (k : Fin 1024) :
    (iblk m c 1 t : Vec Ideal S1024x1536 .bf16) (ix2 k j) = m ((c : Thread nD τ).loc main_arg1) (ix2 k (pj t j)) := by
  blk_simp [iblk]
  show V m c main_arg1 _ = _
  rw [V_main_arg1]
  congr 1
  blk_ext [e1]

/-- The reference, entry by entry. -/
theorem ref_at (x0 : (⟨Cert.CtxMixInRefIdeal.S1024x1024, .bf16⟩ : BufTy).Contents (Elt Ideal)) (x1 : (⟨Cert.CtxMixInRefIdeal.S1024x1536, .bf16⟩ : BufTy).Contents (Elt Ideal)) (i : Fin 1024) (j : Fin 1536) :
    val_main_v2 (F := Ideal) x0 x1 (ix2 i j) = ∑ k : Fin 1024, x0 (ix2 i k) * x1 (ix2 k j) := by
  pointwise [val_main_v2, val_main_v0, val_main_v1]

/-- The array after the run is the reference's. -/
theorem arr2 (c : Dev nD) : (dats m 0 c).arrAt 2 cfg0.N
    = val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨y0, y1, rfl⟩ : ∃ (y0 : Fin 1024) (y1 : Fin 1536), y = ix2 y0 y1 := ⟨y 0, y 1, eq_ix2 y⟩
  rw [show ((win0_2.blk t).view.emb (ix2 y0 y1)) = ix2 (pi t y0) (pj t y1) by blk_ext [e2]]
  rw [ref_at]
  refine (pay_at (iblk m c 0 t) (iblk m c 1 t) y0 y1).trans ?_
  refine Finset.sum_congr rfl fun k _ => ?_
  rw [x0_at, x1_at]

end Cert.CtxMixInIdeal.Gen

namespace Cert.Proof.CtxMixIn

open Idealize.ShloMosaic Idealize.SL.Sem Idealize.ShloMosaic.Tactic

/-- The two programs have one text, so the run over the machine's floats is the other's. -/
theorem frame_bits : Cert.quiescent_CtxMixIn := by
  intro m g _
  refine Eq.mp ?_ (Cert.CtxMixInIdeal.Gen.frame (F := Bits) m g)
  sl_kernel_rfl
theorem frame_ideal : Cert.quiescent_CtxMixInIdeal := fun m g _ => Cert.CtxMixInIdeal.Gen.frame m g
theorem frame_ref : Cert.quiescent_CtxMixInRefIdeal := fun m g _ =>
  (θ_run Cert.CtxMixInRefIdeal.defs _ _).mono (fun r h => ⟨fun c => (h c).2, sem_eq_zero_of_no_sems (by decide) r.2⟩)
    (Cert.CtxMixInRefIdeal.Value.run (F := Ideal) m g)

theorem algebraic : Cert.algebraic_CtxMixInIdeal_CtxMixInRefIdeal := by
  intro m g m' g' hpre hagree
  refine ⟨fun c => (Cert.CtxMixInIdeal.Gen.dats m 0 c).arrAt 2 Cert.CtxMixInIdeal.cfg0.N,
    Cert.CtxMixInIdeal.Value.run_blocks m g,
    (θ_run Cert.CtxMixInRefIdeal.defs _ _).mono (fun r h c => ?_) (Cert.CtxMixInRefIdeal.Value.run (F := Ideal) m' g')⟩
  obtain ⟨h0, ha⟩ := h c
  obtain ⟨e0, e1⟩ := hagree c
  refine ⟨h0.trans ?_, ha⟩
  rw [Cert.CtxMixInRefIdeal.Read.val_main_v2_eq, e0, e1]
  exact (Cert.CtxMixInIdeal.Gen.arr2 m c).symm

end Cert.Proof.CtxMixIn

end
-- ==== Proof.MmCtxMixOut.lean ====
module

public import proofs.«01_k».proof.Defs
public import proofs.«01_k».proof.Proof.Gen.CtxMixOut
public import proofs.«01_k».proof.Proof.Gen.CtxMixOutIdeal
public import proofs.«01_k».proof.Proof.Gen.CtxMixOutIdeal.Frame
public import proofs.«01_k».proof.Proof.Gen.CtxMixOutIdeal.Value
public import proofs.«01_k».proof.Proof.Gen.CtxMixOutRefIdeal
public import proofs.«01_k».proof.Proof.Gen.CtxMixOutRefIdeal.Read
public import Idealize.ShloMosaic.Lib.Pointwise
public import Idealize.ShloMosaic.Lib.StableHlo.ReadAt
public import Idealize.ShloMosaic.Lib.Pipeline.ValueKit.Geometry
public import Idealize.ShloMosaic.Lib.Pipeline.ValueKit.Acc

@[expose] public section

set_option maxRecDepth 16384

noncomputable section

namespace Cert.CtxMixOutIdeal.Gen

open Cert.CtxMixOutIdeal Idealize.ShloMosaic Idealize.ShloMosaic.TcCoe Idealize.SL Idealize.SL.Sem
open Idealize.ShloMosaic.Pipeline (Dat Cfg Window)
open Cert.CtxMixOutRefIdeal.Read
open scoped BigOperators

variable (m : (ℓ : Loc nD τ sig) → Buf (Elt Ideal) ℓ)

/-- The row and the column of a point's block of the result. -/
abbrev pi (t : Fin cfg0.N) (i : Fin 1024) : Fin 1024 := ⟨1024 * t.val + i.val, by have := lt_of_lt_of_eq t.isLt (show cfg0.N = 1 from N_0); omega⟩
abbrev pj (t : Fin cfg0.N) (j : Fin 1024) : Fin 1024 := ⟨1024 * 0 + j.val, by have := lt_of_lt_of_eq t.isLt (show cfg0.N = 1 from N_0); omega⟩

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)

/-- The result of a point is the product of its blocks. -/
theorem pay_at (x0 : Vec Ideal S1024x1024 .bf16) (x1 : Vec Ideal S1024x1024 .bf16) (i : Fin 1024) (j : Fin 1024) :
    k0_pay1 x0 x1 (ix2 i j) = ∑ k : Fin 1024, x0 (ix2 i k) * x1 (ix2 k j) := by
  pointwise [k0_pay1]

theorem x0_at (c : Dev nD) (t : Fin cfg0.N) (i : Fin 1024) (k : Fin 1024) :
    (iblk m c 0 t : Vec Ideal S1024x1024 .bf16) (ix2 i k) = m ((c : Thread nD τ).loc main_arg0) (ix2 (pi t i) k) := by
  blk_simp [iblk]
  show V m c main_arg0 _ = _
  rw [V_main_arg0]
  congr 1
  blk_ext [e0]
theorem x1_at (c : Dev nD) (t : Fin cfg0.N) (j : Fin 1024) (k : Fin 1024) :
    (iblk m c 1 t : Vec Ideal S1024x1024 .bf16) (ix2 k j) = m ((c : Thread nD τ).loc main_arg1) (ix2 k (pj t j)) := by
  blk_simp [iblk]
  show V m c main_arg1 _ = _
  rw [V_main_arg1]
  congr 1
  blk_ext [e1]

/-- The reference, entry by entry. -/
theorem ref_at (x0 : (⟨Cert.CtxMixOutRefIdeal.S1024x1024, .bf16⟩ : BufTy).Contents (Elt Ideal)) (x1 : (⟨Cert.CtxMixOutRefIdeal.S1024x1024, .bf16⟩ : BufTy).Contents (Elt Ideal)) (i : Fin 1024) (j : Fin 1024) :
    val_main_v2 (F := Ideal) x0 x1 (ix2 i j) = ∑ k : Fin 1024, x0 (ix2 i k) * x1 (ix2 k j) := by
  pointwise [val_main_v2, val_main_v0, val_main_v1]

/-- The array after the run is the reference's. -/
theorem arr2 (c : Dev nD) : (dats m 0 c).arrAt 2 cfg0.N
    = val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨y0, y1, rfl⟩ : ∃ (y0 : Fin 1024) (y1 : Fin 1024), y = ix2 y0 y1 := ⟨y 0, y 1, eq_ix2 y⟩
  rw [show ((win0_2.blk t).view.emb (ix2 y0 y1)) = ix2 (pi t y0) (pj t y1) by blk_ext [e2]]
  rw [ref_at]
  refine (pay_at (iblk m c 0 t) (iblk m c 1 t) y0 y1).trans ?_
  refine Finset.sum_congr rfl fun k _ => ?_
  rw [x0_at, x1_at]

end Cert.CtxMixOutIdeal.Gen

namespace Cert.Proof.CtxMixOut

open Idealize.ShloMosaic Idealize.SL.Sem Idealize.ShloMosaic.Tactic

/-- The two programs have one text, so the run over the machine's floats is the other's. -/
theorem frame_bits : Cert.quiescent_CtxMixOut := by
  intro m g _
  refine Eq.mp ?_ (Cert.CtxMixOutIdeal.Gen.frame (F := Bits) m g)
  sl_kernel_rfl
theorem frame_ideal : Cert.quiescent_CtxMixOutIdeal := fun m g _ => Cert.CtxMixOutIdeal.Gen.frame m g
theorem frame_ref : Cert.quiescent_CtxMixOutRefIdeal := fun m g _ =>
  (θ_run Cert.CtxMixOutRefIdeal.defs _ _).mono (fun r h => ⟨fun c => (h c).2, sem_eq_zero_of_no_sems (by decide) r.2⟩)
    (Cert.CtxMixOutRefIdeal.Value.run (F := Ideal) m g)

theorem algebraic : Cert.algebraic_CtxMixOutIdeal_CtxMixOutRefIdeal := by
  intro m g m' g' hpre hagree
  refine ⟨fun c => (Cert.CtxMixOutIdeal.Gen.dats m 0 c).arrAt 2 Cert.CtxMixOutIdeal.cfg0.N,
    Cert.CtxMixOutIdeal.Value.run_blocks m g,
    (θ_run Cert.CtxMixOutRefIdeal.defs _ _).mono (fun r h c => ?_) (Cert.CtxMixOutRefIdeal.Value.run (F := Ideal) m' g')⟩
  obtain ⟨h0, ha⟩ := h c
  obtain ⟨e0, e1⟩ := hagree c
  refine ⟨h0.trans ?_, ha⟩
  rw [Cert.CtxMixOutRefIdeal.Read.val_main_v2_eq, e0, e1]
  exact (Cert.CtxMixOutIdeal.Gen.arr2 m c).symm

end Cert.Proof.CtxMixOut

end
-- ==== Proof.MmCtxKv.lean ====
module

public import proofs.«01_k».proof.Defs
public import proofs.«01_k».proof.Proof.Gen.CtxKv
public import proofs.«01_k».proof.Proof.Gen.CtxKvIdeal
public import proofs.«01_k».proof.Proof.Gen.CtxKvIdeal.Frame
public import proofs.«01_k».proof.Proof.Gen.CtxKvIdeal.Value
public import proofs.«01_k».proof.Proof.Gen.CtxKvRefIdeal
public import proofs.«01_k».proof.Proof.Gen.CtxKvRefIdeal.Read
public import Idealize.ShloMosaic.Lib.Pointwise
public import Idealize.ShloMosaic.Lib.StableHlo.ReadAt
public import Idealize.ShloMosaic.Lib.Pipeline.ValueKit.Geometry
public import Idealize.ShloMosaic.Lib.Pipeline.ValueKit.Acc

@[expose] public section

set_option maxRecDepth 16384

noncomputable section

namespace Cert.CtxKvIdeal.Gen

open Cert.CtxKvIdeal Idealize.ShloMosaic Idealize.ShloMosaic.TcCoe Idealize.SL Idealize.SL.Sem
open Idealize.ShloMosaic.Pipeline (Dat Cfg Window)
open Cert.CtxKvRefIdeal.Read
open scoped BigOperators

variable (m : (ℓ : Loc nD τ sig) → Buf (Elt Ideal) ℓ)

/-- A column of the keys and values among the columns of the projection. -/
abbrev kv (k : Fin 256) : Fin 1536 := ⟨512 + k.val, by omega⟩

/-- The row and the column of a point's block of the result. -/
abbrev pi (t : Fin cfg0.N) (i : Fin 1024) : Fin 1024 := ⟨1024 * t.val + i.val, by have := lt_of_lt_of_eq t.isLt (show cfg0.N = 1 from N_0); omega⟩
abbrev pj (t : Fin cfg0.N) (j : Fin 256) : Fin 256 := ⟨256 * 0 + j.val, by have := lt_of_lt_of_eq t.isLt (show cfg0.N = 1 from N_0); omega⟩

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)

/-- The result of a point is the product of its blocks. -/
theorem pay_at (x0 : Vec Ideal S1024x1024 .bf16) (x1 : Vec Ideal S1024x256 .bf16) (i : Fin 1024) (j : Fin 256) :
    k0_pay1 x0 x1 (ix2 i j) = ∑ k : Fin 1024, x0 (ix2 i k) * x1 (ix2 k j) := by
  pointwise [k0_pay1]

/-- The columns of the keys and values, as the host cuts them out. -/
theorem V_main_v0_at (c : Dev nD) (i : Fin 1024) (k : Fin 256) :
    V m c main_v0 (ix2 i k) = m ((c : Thread nD τ).loc main_arg1) (ix2 i (kv k)) := by
  show StableHlo.after hostOps0 _ (Proc.devRef .tc main_v0) _ = _
  after_reads_at

theorem x0_at (c : Dev nD) (t : Fin cfg0.N) (i : Fin 1024) (k : Fin 1024) :
    (iblk m c 0 t : Vec Ideal S1024x1024 .bf16) (ix2 i k) = m ((c : Thread nD τ).loc main_arg0) (ix2 (pi t i) k) := by
  blk_simp [iblk]
  show V m c main_arg0 _ = _
  rw [V_main_arg0]
  congr 1
  blk_ext [e0]
theorem x1_at (c : Dev nD) (t : Fin cfg0.N) (j : Fin 256) (k : Fin 1024) :
    (iblk m c 1 t : Vec Ideal S1024x256 .bf16) (ix2 k j) = m ((c : Thread nD τ).loc main_arg1) (ix2 k (kv (pj t j))) := by
  blk_simp [iblk]
  show V m c main_v0 _ = _
  rw [← V_main_v0_at m c k (pj t j)]
  congr 1
  blk_ext [e1]

/-- The reference, entry by entry. -/
theorem ref_at (x0 : (⟨Cert.CtxKvRefIdeal.S1024x1024, .bf16⟩ : BufTy).Contents (Elt Ideal)) (x1 : (⟨Cert.CtxKvRefIdeal.S1024x1536, .bf16⟩ : BufTy).Contents (Elt Ideal)) (i : Fin 1024) (j : Fin 256) :
    val_main_v3 (F := Ideal) x0 x1 (ix2 i j) = ∑ k : Fin 1024, x0 (ix2 i k) * x1 (ix2 k (kv j)) := by
  pointwise [val_main_v3, val_main_v2, val_main_v1, val_main_v0]

/-- The array after the run is the reference's. -/
theorem arr2 (c : Dev nD) : (dats m 0 c).arrAt 2 cfg0.N
    = val_main_v3 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨y0, y1, rfl⟩ : ∃ (y0 : Fin 1024) (y1 : Fin 256), y = ix2 y0 y1 := ⟨y 0, y 1, eq_ix2 y⟩
  rw [show ((win0_2.blk t).view.emb (ix2 y0 y1)) = ix2 (pi t y0) (pj t y1) by blk_ext [e2]]
  rw [ref_at]
  refine (pay_at (iblk m c 0 t) (iblk m c 1 t) y0 y1).trans ?_
  refine Finset.sum_congr rfl fun k _ => ?_
  rw [x0_at, x1_at]

end Cert.CtxKvIdeal.Gen

namespace Cert.Proof.CtxKv

open Idealize.ShloMosaic Idealize.SL.Sem Idealize.ShloMosaic.Tactic

/-- The two programs have one text, so the run over the machine's floats is the other's. -/
theorem frame_bits : Cert.quiescent_CtxKv := by
  intro m g _
  refine Eq.mp ?_ (Cert.CtxKvIdeal.Gen.frame (F := Bits) m g)
  sl_kernel_rfl
theorem frame_ideal : Cert.quiescent_CtxKvIdeal := fun m g _ => Cert.CtxKvIdeal.Gen.frame m g
theorem frame_ref : Cert.quiescent_CtxKvRefIdeal := fun m g _ =>
  (θ_run Cert.CtxKvRefIdeal.defs _ _).mono (fun r h => ⟨fun c => (h c).2, sem_eq_zero_of_no_sems (by decide) r.2⟩)
    (Cert.CtxKvRefIdeal.Value.run (F := Ideal) m g)

theorem algebraic : Cert.algebraic_CtxKvIdeal_CtxKvRefIdeal := by
  intro m g m' g' hpre hagree
  refine ⟨fun c => (Cert.CtxKvIdeal.Gen.dats m 0 c).arrAt 2 Cert.CtxKvIdeal.cfg0.N,
    Cert.CtxKvIdeal.Value.run_blocks m g,
    (θ_run Cert.CtxKvRefIdeal.defs _ _).mono (fun r h c => ?_) (Cert.CtxKvRefIdeal.Value.run (F := Ideal) m' g')⟩
  obtain ⟨h0, ha⟩ := h c
  obtain ⟨e0, e1⟩ := hagree c
  refine ⟨h0.trans ?_, ha⟩
  rw [Cert.CtxKvRefIdeal.Read.val_main_v3_eq, e0, e1]
  exact (Cert.CtxKvIdeal.Gen.arr2 m c).symm

end Cert.Proof.CtxKv

end
-- ==== Proof.MmInterleave.lean ====
module

public import proofs.«01_k».proof.Defs
public import proofs.«01_k».proof.Proof.Gen.Interleave
public import proofs.«01_k».proof.Proof.Gen.InterleaveIdeal
public import proofs.«01_k».proof.Proof.Gen.InterleaveIdeal.Frame
public import proofs.«01_k».proof.Proof.Gen.InterleaveIdeal.Value
public import proofs.«01_k».proof.Proof.Gen.InterleaveRefIdeal
public import proofs.«01_k».proof.Proof.Gen.InterleaveRefIdeal.Read
public import Idealize.ShloMosaic.Lib.Pointwise
public import Idealize.ShloMosaic.Lib.StableHlo.ReadAt
public import Idealize.ShloMosaic.Lib.Pipeline.ValueKit.Geometry
public import Idealize.ShloMosaic.Lib.Pipeline.ValueKit.Acc

@[expose] public section

set_option maxRecDepth 16384

noncomputable section

namespace Cert.InterleaveIdeal.Gen

open Cert.InterleaveIdeal Idealize.ShloMosaic Idealize.ShloMosaic.TcCoe Idealize.SL Idealize.SL.Sem
open Idealize.ShloMosaic.Pipeline (Dat Cfg Window)
open Cert.InterleaveRefIdeal.Read
open scoped BigOperators

variable (m : (ℓ : Loc nD τ sig) → Buf (Elt Ideal) ℓ)

/-- The natural columns are 11 tiles of the gate, then 11 of the value; the arrangement alternates a tile of each. -/
abbrev A (c : Dev nD) : FVec Ideal S1024x5632 .bf16 := m ((c : Thread nD τ).loc main_arg0)
abbrev pn (t : Fin cfg0.N) (j : Fin 256) : Fin 5632 := ⟨256 * (t.val % 2 * 11 + t.val / 2) + j.val, by have := lt_of_lt_of_eq t.isLt (show cfg0.N = 22 from N_0); omega⟩
abbrev pc (t : Fin cfg0.N) (j : Fin 256) : Fin 5632 := ⟨256 * t.val + j.val, by have := lt_of_lt_of_eq t.isLt (show cfg0.N = 22 from N_0); omega⟩

theorem e0 : ∀ t : Fin cfg0.N, win0_0.index t = ![0, t.val % 2 * 11 + t.val / 2] := (by decide +kernel : ∀ t : Fin grid0.N, _)
theorem e1 : ∀ t : Fin cfg0.N, win0_1.index t = ![0, t.val] := (by decide +kernel : ∀ t : Fin grid0.N, _)

theorem x0_at (c : Dev nD) (t : Fin cfg0.N) (i : Fin 1024) (j : Fin 256) :
    (iblk m c 0 t : Vec Ideal S1024x256 .bf16) (ix2 i j) = A m c (ix2 i (pn t j)) := by
  blk_simp [iblk]
  show V m c main_arg0 _ = _
  rw [V_main_arg0]
  congr 1
  blk_ext [e0]

/-- The reference, entry by entry. -/
theorem ref_at (x : (⟨Cert.InterleaveRefIdeal.S1024x5632, .bf16⟩ : BufTy).Contents (Elt Ideal)) (t : Fin cfg0.N) (i : Fin 1024) (j : Fin 256) :
    val_main_v2 (F := Ideal) x (ix2 i (pc t j)) = x (ix2 i (pn t j)) := by
  have ht := lt_of_lt_of_eq t.isLt (show cfg0.N = 22 from N_0)
  pointwise [val_main_v2, val_main_v1, val_main_v0]
  exact congrArg (fun n => x (ix2 i n)) (Fin.ext (by dsimp only; omega))

/-- The array after the run is the reference's. -/
theorem arr1 (c : Dev nD) : (dats m 0 c).arrAt 1 cfg0.N = val_main_v2 (F := Ideal) (A m c) := by
  refine (dats m 0 c).arrAt_eq_of_covers 1 _ (by decide +kernel) fun t hf y => ?_
  blk_simp
  rw [after0_1]
  frame_out
  obtain ⟨i, j, rfl⟩ : ∃ (i : Fin 1024) (j : Fin 256), y = ix2 i j := ⟨y 0, y 1, eq_ix2 y⟩
  rw [show ((win0_1.blk t).view.emb (ix2 i j)) = ix2 i (pc t j) by blk_ext [e1]]
  rw [ref_at]
  exact x0_at m c t i j

end Cert.InterleaveIdeal.Gen

namespace Cert.Proof.Interleave

open Idealize.ShloMosaic Idealize.SL.Sem Idealize.ShloMosaic.Tactic

/-- The two programs have one text, so the run over the machine's floats is the other's. -/
theorem frame_bits : Cert.quiescent_Interleave := by
  intro m g _
  refine Eq.mp ?_ (Cert.InterleaveIdeal.Gen.frame (F := Bits) m g)
  sl_kernel_rfl
theorem frame_ideal : Cert.quiescent_InterleaveIdeal := fun m g _ => Cert.InterleaveIdeal.Gen.frame m g
theorem frame_ref : Cert.quiescent_InterleaveRefIdeal := fun m g _ =>
  (θ_run Cert.InterleaveRefIdeal.defs _ _).mono (fun r h => ⟨fun c => (h c).2, sem_eq_zero_of_no_sems (by decide) r.2⟩)
    (Cert.InterleaveRefIdeal.Value.run (F := Ideal) m g)

theorem algebraic : Cert.algebraic_InterleaveIdeal_InterleaveRefIdeal := by
  intro m g m' g' hpre hagree
  refine ⟨fun c => (Cert.InterleaveIdeal.Gen.dats m 0 c).arrAt 1 Cert.InterleaveIdeal.cfg0.N,
    Cert.InterleaveIdeal.Value.run_blocks m g,
    (θ_run Cert.InterleaveRefIdeal.defs _ _).mono (fun r h c => ?_) (Cert.InterleaveRefIdeal.Value.run (F := Ideal) m' g')⟩
  obtain ⟨h0, ha⟩ := h c
  refine ⟨h0.trans ?_, ha⟩
  rw [Cert.InterleaveRefIdeal.Read.val_main_v2_eq, hagree c]
  exact (Cert.InterleaveIdeal.Gen.arr1 m c).symm

end Cert.Proof.Interleave

end
-- ==== Proof.Rms.lean ====
module

public import Idealize.ShloMosaic.PureOps
public import Idealize.ShloMosaic.PureOps.Ideal
public import Idealize.ShloMosaic.Lib.Pointwise

@[expose] public section

noncomputable section

namespace Cert.Proof.Rms

open Idealize.ShloMosaic
open scoped BigOperators

/-- The value of a single-precision constant. -/
abbrev k (b : BitVec 32) : EReal := FloatOps.ofBits (F := Ideal) .f32 b

/-- One over the root mean square of a row of 1024 entries, the small constant added to the mean. -/
def irms (r : Fin 1024 → EReal) : EReal := Ideal.rsqrt (Ideal.div (∑ q : Fin 1024, r q * r q) (k 0x44800000#32) + k 0x358637BD#32)

/-- Entry `j` of the modulated norm of the row `r`: its weight `w`, its scale `s` and its shift `h` there. -/
def nrm (r : Fin 1024 → EReal) (w s h : EReal) (j : Fin 1024) : EReal := r j * irms r * w * (k 0x3F800000#32 + s) + h

/-- The mean square of a row, the small constant added. -/
def ms (r : Fin 1024 → EReal) : EReal := Ideal.div (∑ q : Fin 1024, r q * r q) (k 0x44800000#32) + k 0x358637BD#32

/-- What reaches a row `r` through its mean square when `d` is the cotangent of the row divided by its root mean square. -/
def cor (r d : Fin 1024 → EReal) : EReal :=
  Ideal.div ((∑ q : Fin 1024, r q * d q) * (k 0xBF000000#32 * Ideal.div (irms r) (ms r))) (k 0x44800000#32)

/-- The cotangent of entry `j` of a row: the residual's own, `e`, and what comes back through the norm. -/
def dnrm (r d : Fin 1024 → EReal) (e : EReal) (j : Fin 1024) : EReal := e + d j * irms r + r j * cor r d + cor r d * r j

/-- A sum over the first two axes of a rank-3 array is the double sum. -/
theorem sum01 {n0 n1 n2 : Nat} (h : (⟨3, ![n0, n1, n2]⟩ : Shape).ReducesTo [0, 1] (⟨1, ![n2]⟩ : Shape))
    (v : (⟨3, ![n0, n1, n2]⟩ : Shape).Idx → EReal) (z : EReal) (j : Fin n2) :
    Ideal.hostReduceAdd h v z (ix1 j) = z + ∑ b : Fin n0, ∑ i : Fin n1, v (ix3 b i j) := by
  refine congrArg (z + ·) ((Finset.sum_filter_eq_sum_of_fiber _ (fun q : Fin n0 × Fin n1 => ix3 q.1 q.2 j)
    (fun _ _ e => Prod.ext (congrFun e 0) (congrFun e 1)) (fun i => ⟨fun e => ⟨(i 0, i 1), ?_⟩, ?_⟩) v).trans ?_)
  · have e2 : (i 2).val = j.val := congrArg Fin.val (congrFun e 0)
    funext a
    refine Fin.ext ?_
    match a with
    | ⟨0, _⟩ => rfl
    | ⟨1, _⟩ => rfl
    | ⟨2, _⟩ => exact e2.symm
  · rintro ⟨q, rfl⟩
    funext b
    refine Fin.ext ?_
    match b with
    | ⟨0, _⟩ => rfl
  · rw [Fintype.sum_prod_type]

/-- A sum over one term is the term. -/
theorem sum1 (f : Fin 1 → EReal) : ∑ i : Fin 1, f i = f 0 := Fin.sum_univ_one f

/-- A sum over a batch row's 2048 tokens, in four blocks of 512. -/
theorem quarters (f : Fin 2048 → EReal) : ∑ i, f i = ∑ s ∈ Finset.range 4, ∑ i : Fin 512, f ⟨512 * (s % 4) + i.val, by omega⟩ := by
  rw [Finset.sum_range, show (∑ i, f i) = ∑ i : Fin (4 * 512), f i from rfl, ← finProdFinEquiv.sum_comp, Fintype.sum_prod_type]
  refine Finset.sum_congr rfl fun s _ => Finset.sum_congr rfl fun i _ => congrArg f (Fin.ext ?_)
  show i.val + 512 * s.val = 512 * (s.val % 4) + i.val
  omega

/-- A sum over the 16 points, batch row by batch row. -/
theorem sixteen (f : Nat → EReal) : ∑ s ∈ Finset.range 16, f s = ∑ b : Fin 4, ∑ s ∈ Finset.range 4, f (b.val * 4 + s) := by
  rw [Finset.sum_range, show (∑ i : Fin 16, f i.val) = ∑ i : Fin (4 * 4), f i.val from rfl, ← finProdFinEquiv.sum_comp, Fintype.sum_prod_type]
  refine Finset.sum_congr rfl fun b _ => ?_
  rw [Finset.sum_range]
  refine Finset.sum_congr rfl fun s _ => congrArg f ?_
  show s.val + 4 * b.val = b.val * 4 + s.val
  omega

end Cert.Proof.Rms

end
-- ==== Proof.MmNormBwd.lean ====
module

public import proofs.«01_k».proof.Defs
public import proofs.«01_k».proof.Proof.Rms
public import proofs.«01_k».proof.Proof.Gen.NormBwd
public import proofs.«01_k».proof.Proof.Gen.NormBwdIdeal
public import proofs.«01_k».proof.Proof.Gen.NormBwdIdeal.Frame
public import proofs.«01_k».proof.Proof.Gen.NormBwdIdeal.Value
public import proofs.«01_k».proof.Proof.Gen.NormBwdRefIdeal
public import proofs.«01_k».proof.Proof.Gen.NormBwdRefIdeal.Read
public import Idealize.ShloMosaic.Lib.Pointwise
public import Idealize.ShloMosaic.Lib.StableHlo.ReadAt
public import Idealize.ShloMosaic.Lib.Pipeline.ValueKit.Geometry
public import Idealize.ShloMosaic.Lib.Pipeline.ValueKit.Acc

@[expose] public section

set_option maxRecDepth 16384

noncomputable section

namespace Cert.NormBwdIdeal.Gen

open Cert.NormBwdIdeal Idealize.ShloMosaic Idealize.ShloMosaic.TcCoe Idealize.SL Idealize.SL.Sem
open Idealize.ShloMosaic.Pipeline (Dat Cfg Window)
open Cert.NormBwdRefIdeal.Read
open scoped BigOperators

open Cert.Proof.Rms (k irms ms cor dnrm sum01 sum1 quarters sixteen)

variable (m : (ℓ : Loc nD τ sig) → Buf (Elt Ideal) ℓ)

/-- The residual, the branch, the gate, the norm's weight, the scale and the two cotangents on core `c`. -/
abbrev X (c : Dev nD) : FVec Ideal S4x2048x1024 .f32 := m ((c : Thread nD τ).loc main_arg0)
abbrev Y (c : Dev nD) : FVec Ideal S4x2048x1024 .f32 := m ((c : Thread nD τ).loc main_arg1)
abbrev A (c : Dev nD) : FVec Ideal S4x1x1024 .f32 := m ((c : Thread nD τ).loc main_arg2)
abbrev W (c : Dev nD) : FVec Ideal S1x1024 .f32 := m ((c : Thread nD τ).loc main_arg3)
abbrev C (c : Dev nD) : FVec Ideal S4x1x1024 .f32 := m ((c : Thread nD τ).loc main_arg4)
abbrev E (c : Dev nD) : FVec Ideal S4x2048x1024 .f32 := m ((c : Thread nD τ).loc main_arg6)
abbrev D (c : Dev nD) : FVec Ideal S4x2048x1024 .f32 := m ((c : Thread nD τ).loc main_arg7)

/-- A point's blocks. -/
abbrev b0 (c : Dev nD) (t : Fin cfg0.N) : Vec Ideal S1x512x1024 .f32 := iblk m c 0 t
abbrev b1 (c : Dev nD) (t : Fin cfg0.N) : Vec Ideal S1x512x1024 .f32 := iblk m c 1 t
abbrev b2 (c : Dev nD) (t : Fin cfg0.N) : Vec Ideal S1x1x1024 .f32 := iblk m c 2 t
abbrev b3 (c : Dev nD) (t : Fin cfg0.N) : Vec Ideal S1x1024 .f32 := iblk m c 3 t
abbrev b4 (c : Dev nD) (t : Fin cfg0.N) : Vec Ideal S1x1x1024 .f32 := iblk m c 4 t
abbrev b6 (c : Dev nD) (t : Fin cfg0.N) : Vec Ideal S1x512x1024 .f32 := iblk m c 6 t
abbrev b7 (c : Dev nD) (t : Fin cfg0.N) : Vec Ideal S1x512x1024 .f32 := iblk m c 7 t

/-- The row of the batch and the rows of point `t`. -/
abbrev pb (t : Nat) : Fin 4 := ⟨t / 4 % 4, by omega⟩
abbrev pi (t : Nat) (i : Fin 512) : Fin 2048 := ⟨512 * (t % 4) + i.val, by omega⟩
theorem tN (t : Fin cfg0.N) : t.val < 16 := lt_of_lt_of_eq t.isLt (show cfg0.N = 16 from N_0)

theorem e0 : ∀ t : Fin cfg0.N, win0_0.index t = ![t.val / 4, t.val % 4, 0] := (by decide +kernel : ∀ t : Fin grid0.N, _)
theorem e1 : ∀ t : Fin cfg0.N, win0_1.index t = ![t.val / 4, t.val % 4, 0] := (by decide +kernel : ∀ t : Fin grid0.N, _)
theorem e2 : ∀ t : Fin cfg0.N, win0_2.index t = ![t.val / 4, 0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![t.val / 4, 0, 0] := (by decide +kernel : ∀ t : Fin grid0.N, _)
theorem e6 : ∀ t : Fin cfg0.N, win0_6.index t = ![t.val / 4, t.val % 4, 0] := (by decide +kernel : ∀ t : Fin grid0.N, _)
theorem e7 : ∀ t : Fin cfg0.N, win0_7.index t = ![t.val / 4, t.val % 4, 0] := (by decide +kernel : ∀ t : Fin grid0.N, _)
theorem e8 : ∀ t : Fin cfg0.N, win0_8.index t = ![t.val / 4, t.val % 4, 0] := (by decide +kernel : ∀ t : Fin grid0.N, _)
theorem e9 : ∀ t : Fin cfg0.N, win0_9.index t = ![t.val / 4, t.val % 4, 0] := (by decide +kernel : ∀ t : Fin grid0.N, _)
theorem e10 : ∀ t : Fin cfg0.N, win0_10.index t = ![t.val / 4, 0, 0] := (by decide +kernel : ∀ t : Fin grid0.N, _)
theorem e11 : ∀ t : Fin cfg0.N, win0_11.index t = ![0, 0] := (by decide +kernel : ∀ t : Fin grid0.N, _)
theorem e12 : ∀ t : Fin cfg0.N, win0_12.index t = ![t.val / 4, 0, 0] := (by decide +kernel : ∀ t : Fin grid0.N, _)
theorem e13 : ∀ t : Fin cfg0.N, win0_13.index t = ![t.val / 4, 0, 0] := (by decide +kernel : ∀ t : Fin grid0.N, _)

/-! What a point computes, entry by entry. -/
section
variable (x y d e : Vec Ideal S1x512x1024 .f32) (a s p : Vec Ideal S1x1x1024 .f32) (w : Vec Ideal S1x1024 .f32) (u : FVec Ideal S1x1024 .f32)
  (v : FVec Ideal S512x1024 .f32) (i : Fin 512) (j : Fin 1024)

theorem pay8_at : k0_pay8 y (ix2 i j) = y (ix3 0 i j) := by
  pointwise [k0_pay8]
theorem pay9_at : k0_pay9 a (ix2 0 j) = a (ix3 0 0 j) := by
  pointwise [k0_pay9]
theorem pay10_at : k0_pay10 x y a (ix2 i j) = x (ix3 0 i j) + a (ix3 0 0 j) * y (ix3 0 i j) := by
  rw [← pay8_at y i j, ← pay9_at a j]
  pointwise [k0_pay10]
theorem pay11_at : k0_pay11 x y a (ix2 i 0) = ms (fun q => x (ix3 0 i q) + a (ix3 0 0 q) * y (ix3 0 i q)) := by
  have h : (fun q => x (ix3 0 i q) + a (ix3 0 0 q) * y (ix3 0 i q)) = fun q => k0_pay10 x y a (ix2 i q) := funext fun q => (pay10_at x y a i q).symm
  rw [h]
  unfold ms
  pointwise [k0_pay11]
theorem pay12_at : k0_pay12 x y a (ix2 i 0) = irms (fun q => x (ix3 0 i q) + a (ix3 0 0 q) * y (ix3 0 i q)) := by
  rw [show irms (fun q => x (ix3 0 i q) + a (ix3 0 0 q) * y (ix3 0 i q)) = Ideal.rsqrt (ms (fun q => x (ix3 0 i q) + a (ix3 0 0 q) * y (ix3 0 i q))) from rfl, ← pay11_at]
  pointwise [k0_pay12]
theorem pay13_at : k0_pay13 x y a (ix2 i 0) = k 0xBF000000#32 * Ideal.div (irms (fun q => x (ix3 0 i q) + a (ix3 0 0 q) * y (ix3 0 i q))) (ms (fun q => x (ix3 0 i q) + a (ix3 0 0 q) * y (ix3 0 i q))) := by
  rw [← pay11_at, ← pay12_at]
  pointwise [k0_pay13]
theorem pay14_at : k0_pay14 x y a (ix2 i j) = (x (ix3 0 i j) + a (ix3 0 0 j) * y (ix3 0 i j)) * irms (fun q => x (ix3 0 i q) + a (ix3 0 0 q) * y (ix3 0 i q)) := by
  rw [← pay12_at, ← pay10_at x y a i j]
  pointwise [k0_pay14]
theorem pay15_at : k0_pay15 x y a w (ix2 i j) = (x (ix3 0 i j) + a (ix3 0 0 j) * y (ix3 0 i j)) * irms (fun q => x (ix3 0 i q) + a (ix3 0 0 q) * y (ix3 0 i q)) * w (ix2 0 j) := by
  rw [← pay14_at x y a i j]
  pointwise [k0_pay15]
theorem pay16_at : k0_pay16 s (ix2 0 j) = k 0x3F800000#32 + s (ix3 0 0 j) := by
  pointwise [k0_pay16]
theorem pay17_at : k0_pay17 e (ix2 i j) = e (ix3 0 i j) := by
  pointwise [k0_pay17]
theorem pay18_at : k0_pay18 d (ix2 i j) = d (ix3 0 i j) := by
  pointwise [k0_pay18]
theorem pay19_at : k0_pay19 v (ix2 i j) = v (ix2 i j) := by
  pointwise [k0_pay19]
theorem pay20_at : k0_pay20 (k0_pay18 d) (ix2 0 j) = ∑ i : Fin 512, d (ix3 0 i j) := by
  refine Eq.trans ?_ (Finset.sum_congr rfl fun i _ => pay18_at d i j)
  pointwise [k0_pay20]
theorem pay21_at : k0_pay21 (k0_pay15 x y a w) (k0_pay18 d) (ix2 0 j) = ∑ i : Fin 512, (x (ix3 0 i j) + a (ix3 0 0 j) * y (ix3 0 i j)) * irms (fun q => x (ix3 0 i q) + a (ix3 0 0 q) * y (ix3 0 i q)) * w (ix2 0 j) * d (ix3 0 i j) := by
  have h : ∀ i : Fin 512, k0_pay15 x y a w (ix2 i j) * k0_pay19 (k0_pay18 d) (ix2 i j) = _ := fun i => by rw [pay15_at, pay19_at, pay18_at]
  refine Eq.trans ?_ (Finset.sum_congr rfl fun i _ => h i)
  pointwise [k0_pay21]
theorem pay22_gen : k0_pay22 u v (ix2 i j) = v (ix2 i j) * u (ix2 0 j) := by
  rw [← pay19_at v i j]
  pointwise [k0_pay22]
theorem pay22_at : k0_pay22 (k0_pay16 s) (k0_pay18 d) (ix2 i j) = d (ix3 0 i j) * (k 0x3F800000#32 + s (ix3 0 0 j)) := by
  rw [pay22_gen, pay18_at, pay16_at]
theorem pay23_at : k0_pay23 (k0_pay14 x y a) (k0_pay16 s) (k0_pay18 d) (ix2 0 j) = ∑ i : Fin 512, (x (ix3 0 i j) + a (ix3 0 0 j) * y (ix3 0 i j)) * irms (fun q => x (ix3 0 i q) + a (ix3 0 0 q) * y (ix3 0 i q)) * (d (ix3 0 i j) * (k 0x3F800000#32 + s (ix3 0 0 j))) := by
  have h : ∀ i : Fin 512, k0_pay14 x y a (ix2 i j) * k0_pay22 (k0_pay16 s) (k0_pay18 d) (ix2 i j) = _ := fun i => by rw [pay14_at, pay22_at]
  refine Eq.trans ?_ (Finset.sum_congr rfl fun i _ => h i)
  pointwise [k0_pay23]
theorem pay24_gen (v11 v30 v32 : FVec Ideal S512x1024 .f32) (v19 v22 : FVec Ideal S512x1 .f32) (v28 : FVec Ideal S1x1024 .f32) :
    k0_pay24 w v11 v19 v22 v28 v30 v32 (ix2 i j)
      = v30 (ix2 i j) + k0_pay22 v28 v32 (ix2 i j) * w (ix2 0 j) * v19 (ix2 i 0)
        + v11 (ix2 i j) * Ideal.div ((∑ q : Fin 1024, v11 (ix2 i q) * (k0_pay22 v28 v32 (ix2 i q) * w (ix2 0 q))) * v22 (ix2 i 0)) (k 0x44800000#32)
        + Ideal.div ((∑ q : Fin 1024, v11 (ix2 i q) * (k0_pay22 v28 v32 (ix2 i q) * w (ix2 0 q))) * v22 (ix2 i 0)) (k 0x44800000#32) * v11 (ix2 i j) := by
  pointwise [k0_pay24]
  simp only [sum1]
theorem pay24_at : k0_pay24 w (k0_pay10 x y a) (k0_pay12 x y a) (k0_pay13 x y a) (k0_pay16 s) (k0_pay17 e) (k0_pay18 d) (ix2 i j) = dnrm (fun q => x (ix3 0 i q) + a (ix3 0 0 q) * y (ix3 0 i q)) (fun q => d (ix3 0 i q) * (k 0x3F800000#32 + s (ix3 0 0 q)) * w (ix2 0 q)) (e (ix3 0 i j)) j := by
  rw [pay24_gen]
  simp only [pay10_at, pay12_at, pay13_at, pay17_at, pay22_at]
  rfl
theorem pay25_at (v11 v30 v32 : FVec Ideal S512x1024 .f32) (v19 v22 : FVec Ideal S512x1 .f32) (v28 : FVec Ideal S1x1024 .f32) : k0_pay25 w v11 v19 v22 v28 v30 v32 (ix2 i j) = k0_pay24 w v11 v19 v22 v28 v30 v32 (ix2 i j) := by
  pointwise [k0_pay25]
theorem pay26_at : k0_pay26 (k0_pay8 y) w (k0_pay10 x y a) (k0_pay12 x y a) (k0_pay13 x y a) (k0_pay16 s) (k0_pay17 e) (k0_pay18 d) (ix2 0 j) = ∑ i : Fin 512, dnrm (fun q => x (ix3 0 i q) + a (ix3 0 0 q) * y (ix3 0 i q)) (fun q => d (ix3 0 i q) * (k 0x3F800000#32 + s (ix3 0 0 q)) * w (ix2 0 q)) (e (ix3 0 i j)) j * y (ix3 0 i j) := by
  have h : ∀ i : Fin 512, k0_pay25 w (k0_pay10 x y a) (k0_pay12 x y a) (k0_pay13 x y a) (k0_pay16 s) (k0_pay17 e) (k0_pay18 d) (ix2 i j) * k0_pay8 y (ix2 i j) = _ := fun i => by rw [pay25_at, pay24_at, pay8_at]
  refine Eq.trans ?_ (Finset.sum_congr rfl fun i _ => h i)
  pointwise [k0_pay26]
theorem pay27_at : k0_pay27 w (k0_pay10 x y a) (k0_pay12 x y a) (k0_pay13 x y a) (k0_pay16 s) (k0_pay17 e) (k0_pay18 d) (ix3 0 i j) = dnrm (fun q => x (ix3 0 i q) + a (ix3 0 0 q) * y (ix3 0 i q)) (fun q => d (ix3 0 i q) * (k 0x3F800000#32 + s (ix3 0 0 q)) * w (ix2 0 q)) (e (ix3 0 i j)) j := by
  rw [← pay24_at x y d e a s w i j]
  pointwise [k0_pay27]
theorem pay28_at : k0_pay28 (k0_pay9 a) w (k0_pay10 x y a) (k0_pay12 x y a) (k0_pay13 x y a) (k0_pay16 s) (k0_pay17 e) (k0_pay18 d) (ix3 0 i j) = a (ix3 0 0 j) * dnrm (fun q => x (ix3 0 i q) + a (ix3 0 0 q) * y (ix3 0 i q)) (fun q => d (ix3 0 i q) * (k 0x3F800000#32 + s (ix3 0 0 q)) * w (ix2 0 q)) (e (ix3 0 i j)) j := by
  rw [← pay24_at x y d e a s w i j, ← pay25_at, ← pay9_at a j]
  pointwise [k0_pay28]
theorem pay1_at : k0_pay1 u (ix3 0 0 j) = u (ix2 0 j) := by
  pointwise [k0_pay1]
theorem pay2_at : k0_pay2 u p (ix3 0 0 j) = p (ix3 0 0 j) + u (ix2 0 j) := by
  pointwise [k0_pay2]
theorem pay3_at (p : Vec Ideal S1x1024 .f32) : k0_pay3 u p (ix2 0 j) = p (ix2 0 j) + u (ix2 0 j) := by
  pointwise [k0_pay3]
theorem pay4_at : k0_pay4 u (ix3 0 0 j) = u (ix2 0 j) := by
  pointwise [k0_pay4]
theorem pay5_at : k0_pay5 u p (ix3 0 0 j) = p (ix3 0 0 j) + u (ix2 0 j) := by
  pointwise [k0_pay5]
theorem pay6_at : k0_pay6 u (ix3 0 0 j) = u (ix2 0 j) := by
  pointwise [k0_pay6]
theorem pay7_at : k0_pay7 u p (ix3 0 0 j) = p (ix3 0 0 j) + u (ix2 0 j) := by
  pointwise [k0_pay7]
end

theorem x0_at (c : Dev nD) (t : Fin cfg0.N) (i : Fin 512) (j : Fin 1024) : b0 m c t (ix3 0 i j) = X m c (ix3 (pb t.val) (pi t.val i) j) := by
  have := tN t
  blk_simp [b0, iblk]
  show V m c main_arg0 _ = _
  rw [V_main_arg0]
  congr 1
  blk_ext [e0]
theorem x1_at (c : Dev nD) (t : Fin cfg0.N) (i : Fin 512) (j : Fin 1024) : b1 m c t (ix3 0 i j) = Y m c (ix3 (pb t.val) (pi t.val i) j) := by
  have := tN t
  blk_simp [b1, iblk]
  show V m c main_arg1 _ = _
  rw [V_main_arg1]
  congr 1
  blk_ext [e1]
theorem x2_at (c : Dev nD) (t : Fin cfg0.N) (j : Fin 1024) : b2 m c t (ix3 0 0 j) = A m c (ix3 (pb t.val) 0 j) := by
  have := tN t
  blk_simp [b2, iblk]
  show V m c main_arg2 _ = _
  rw [V_main_arg2]
  congr 1
  blk_ext [e2]
theorem x3_at (c : Dev nD) (t : Fin cfg0.N) (j : Fin 1024) : b3 m c t (ix2 0 j) = W m c (ix2 0 j) := by
  have := tN t
  blk_simp [b3, iblk]
  show V m c main_arg3 _ = _
  rw [V_main_arg3]
  congr 1
  blk_ext [e3]
theorem x4_at (c : Dev nD) (t : Fin cfg0.N) (j : Fin 1024) : b4 m c t (ix3 0 0 j) = C m c (ix3 (pb t.val) 0 j) := by
  have := tN t
  blk_simp [b4, iblk]
  show V m c main_arg4 _ = _
  rw [V_main_arg4]
  congr 1
  blk_ext [e4]
theorem x6_at (c : Dev nD) (t : Fin cfg0.N) (i : Fin 512) (j : Fin 1024) : b6 m c t (ix3 0 i j) = E m c (ix3 (pb t.val) (pi t.val i) j) := by
  have := tN t
  blk_simp [b6, iblk]
  show V m c main_arg6 _ = _
  rw [V_main_arg6]
  congr 1
  blk_ext [e6]
theorem x7_at (c : Dev nD) (t : Fin cfg0.N) (i : Fin 512) (j : Fin 1024) : b7 m c t (ix3 0 i j) = D m c (ix3 (pb t.val) (pi t.val i) j) := by
  have := tN t
  blk_simp [b7, iblk]
  show V m c main_arg7 _ = _
  rw [V_main_arg7]
  congr 1
  blk_ext [e7]

/-! The reference, entry by entry. -/
section
variable (x y e d : (⟨Cert.NormBwdRefIdeal.S4x2048x1024, .f32⟩ : BufTy).Contents (Elt Ideal)) (a s : (⟨Cert.NormBwdRefIdeal.S4x1x1024, .f32⟩ : BufTy).Contents (Elt Ideal))
  (w : (⟨Cert.NormBwdRefIdeal.S1x1024, .f32⟩ : BufTy).Contents (Elt Ideal)) (b : Fin 4) (i : Fin 2048) (j : Fin 1024)
theorem v2_at : val_main_v2 (F := Ideal) x y a (ix3 b i j) = x (ix3 b i j) + a (ix3 b 0 j) * y (ix3 b i j) := by
  pointwise [val_main_v2, val_main_v1, val_main_v0]
theorem v9_at : val_main_v9 (F := Ideal) x y a (ix3 b i 0) = ms (fun q => x (ix3 b i q) + a (ix3 b 0 q) * y (ix3 b i q)) := by
  have h : (fun q => x (ix3 b i q) + a (ix3 b 0 q) * y (ix3 b i q)) = fun q => val_main_v2 (F := Ideal) x y a (ix3 b i q) := funext fun q => (v2_at x y a b i q).symm
  rw [h]
  unfold ms
  pointwise [val_main_v9, val_main_v8, val_main_v7, val_main_v6, val_main_v5, val_main_v4, val_main_v3, val_main_cst, val_main_cst_0, val_main_cst_1]
theorem v10_at : val_main_v10 (F := Ideal) x y a (ix3 b i 0) = irms (fun q => x (ix3 b i q) + a (ix3 b 0 q) * y (ix3 b i q)) := by
  rw [show irms (fun q => x (ix3 b i q) + a (ix3 b 0 q) * y (ix3 b i q)) = Ideal.rsqrt (ms (fun q => x (ix3 b i q) + a (ix3 b 0 q) * y (ix3 b i q))) from rfl, ← v9_at]
  pointwise [val_main_v10]
theorem v13_at : val_main_v13 (F := Ideal) x y a (ix3 b i 0) = k 0xBF000000#32 * Ideal.div (irms (fun q => x (ix3 b i q) + a (ix3 b 0 q) * y (ix3 b i q))) (ms (fun q => x (ix3 b i q) + a (ix3 b 0 q) * y (ix3 b i q))) := by
  rw [← v9_at, ← v10_at]
  pointwise [val_main_v13, val_main_v12, val_main_v11, val_main_cst_2]
theorem v15_at : val_main_v15 (F := Ideal) x y a (ix3 b i j) = (x (ix3 b i j) + a (ix3 b 0 j) * y (ix3 b i j)) * irms (fun q => x (ix3 b i q) + a (ix3 b 0 q) * y (ix3 b i q)) := by
  rw [← v10_at, ← v2_at]
  pointwise [val_main_v15, val_main_v14]
theorem v18_at : val_main_v18 (F := Ideal) x y a w (ix3 b i j) = (x (ix3 b i j) + a (ix3 b 0 j) * y (ix3 b i j)) * irms (fun q => x (ix3 b i q) + a (ix3 b 0 q) * y (ix3 b i q)) * w (ix2 0 j) := by
  rw [← v15_at]
  pointwise [val_main_v18, val_main_v17, val_main_v16]
theorem v25_at : val_main_v25 (F := Ideal) d (ix3 b i j) = d (ix3 b i j) := by
  pointwise [val_main_v25]
theorem v27_at : val_main_v27 (F := Ideal) d (ix3 b 0 j) = ∑ i : Fin 2048, d (ix3 b i j) := by
  pointwise [val_main_v27, val_main_v26, val_main_cst_4]
theorem v30_at : val_main_v30 (F := Ideal) x y a w d (ix3 b 0 j) = ∑ i : Fin 2048, (x (ix3 b i j) + a (ix3 b 0 j) * y (ix3 b i j)) * irms (fun q => x (ix3 b i q) + a (ix3 b 0 q) * y (ix3 b i q)) * w (ix2 0 j) * d (ix3 b i j) := by
  have h : ∀ i : Fin 2048, val_main_v18 (F := Ideal) x y a w (ix3 b i j) * val_main_v25 (F := Ideal) d (ix3 b i j) = _ := fun i => by rw [v18_at, v25_at]
  refine Eq.trans ?_ (Finset.sum_congr rfl fun i _ => h i)
  pointwise [val_main_v30, val_main_v29, val_main_v28, val_main_cst_5]
theorem v32_at : val_main_v32 (F := Ideal) s d (ix3 b i j) = d (ix3 b i j) * (k 0x3F800000#32 + s (ix3 b 0 j)) := by
  rw [← v25_at d b i j]
  pointwise [val_main_v32, val_main_v31, val_main_v20, val_main_v19, val_main_cst_3]
theorem v33_at : val_main_v33 (F := Ideal) x y a s d (ix3 b i j) = (x (ix3 b i j) + a (ix3 b 0 j) * y (ix3 b i j)) * irms (fun q => x (ix3 b i q) + a (ix3 b 0 q) * y (ix3 b i q)) * (d (ix3 b i j) * (k 0x3F800000#32 + s (ix3 b 0 j))) := by
  rw [← v15_at, ← v32_at]
  pointwise [val_main_v33]
theorem v34_at : val_main_v34 (F := Ideal) x y a s d (ix1 j) = ∑ b : Fin 4, ∑ i : Fin 2048, val_main_v33 (F := Ideal) x y a s d (ix3 b i j) := by
  pointwise [val_main_v34, val_main_cst_6]
  exact (sum01 _ _ _ j).trans (zero_add _)
theorem v38_at : val_main_v38 (F := Ideal) x y a s d (ix1 j) = val_main_v35 (F := Ideal) x y a s d (ix3 0 0 j) := by
  pointwise [val_main_v38, val_main_cst_7]
  exact (sum01 _ _ _ j).trans ((zero_add _).trans ((sum1 _).trans (sum1 _)))
theorem v39_at : val_main_v39 (F := Ideal) x y a s d (ix2 0 j)
    = ∑ b : Fin 4, ∑ i : Fin 2048, (x (ix3 b i j) + a (ix3 b 0 j) * y (ix3 b i j)) * irms (fun q => x (ix3 b i q) + a (ix3 b 0 q) * y (ix3 b i q)) * (d (ix3 b i j) * (k 0x3F800000#32 + s (ix3 b 0 j))) := by
  refine Eq.trans ?_ (Finset.sum_congr rfl fun b _ => Finset.sum_congr rfl fun i _ => v33_at x y d a s b i j)
  rw [← v34_at]
  refine Eq.trans ?_ (Eq.trans (v38_at x y d a s j) ?_)
  · pointwise [val_main_v39]
  · pointwise [val_main_v35]
theorem v37_at : val_main_v37 (F := Ideal) w s d (ix3 b i j) = d (ix3 b i j) * (k 0x3F800000#32 + s (ix3 b 0 j)) * w (ix2 0 j) := by
  rw [← v32_at]
  pointwise [val_main_v37, val_main_v36, val_main_v16]
theorem v50_at : val_main_v50 (F := Ideal) x y a w s d (ix3 b i j) = cor (fun q => x (ix3 b i q) + a (ix3 b 0 q) * y (ix3 b i q)) (fun q => d (ix3 b i q) * (k 0x3F800000#32 + s (ix3 b 0 q)) * w (ix2 0 q)) := by
  unfold cor
  rw [← v13_at]
  have h : ∀ q : Fin 1024, val_main_v2 (F := Ideal) x y a (ix3 b i q) * val_main_v37 (F := Ideal) w s d (ix3 b i q) = _ := fun q => by rw [v2_at, v37_at]
  rw [← Finset.sum_congr rfl fun q _ => h q]
  pointwise [val_main_v50, val_main_v49, val_main_v48, val_main_v47, val_main_v46, val_main_v42, val_main_v41, val_main_v40, val_main_cst_8, val_main_cst_9, val_main_cst_10]
  simp only [sum1]
theorem v54_at : val_main_v54 (F := Ideal) x y a w s e d (ix3 b i j) = dnrm (fun q => x (ix3 b i q) + a (ix3 b 0 q) * y (ix3 b i q)) (fun q => d (ix3 b i q) * (k 0x3F800000#32 + s (ix3 b 0 q)) * w (ix2 0 q)) (e (ix3 b i j)) j := by
  unfold dnrm
  dsimp only
  rw [← v50_at x y d a s w b i j, ← v10_at, ← v37_at, ← v2_at]
  pointwise [val_main_v54, val_main_v53, val_main_v52, val_main_v51, val_main_v45, val_main_v44, val_main_v43]
theorem v55_at : val_main_v55 (F := Ideal) x y a w s e d (ix3 b i j) = dnrm (fun q => x (ix3 b i q) + a (ix3 b 0 q) * y (ix3 b i q)) (fun q => d (ix3 b i q) * (k 0x3F800000#32 + s (ix3 b 0 q)) * w (ix2 0 q)) (e (ix3 b i j)) j := by
  rw [← v54_at]
  pointwise [val_main_v55]
theorem v61_at : val_main_v61 (F := Ideal) x y a w s e d (ix3 b i j) = a (ix3 b 0 j) * dnrm (fun q => x (ix3 b i q) + a (ix3 b 0 q) * y (ix3 b i q)) (fun q => d (ix3 b i q) * (k 0x3F800000#32 + s (ix3 b 0 q)) * w (ix2 0 q)) (e (ix3 b i j)) j := by
  rw [← v55_at]
  pointwise [val_main_v61, val_main_v57, val_main_v56]
theorem v60_at : val_main_v60 (F := Ideal) x y a w s e d (ix3 b 0 j) = ∑ i : Fin 2048, dnrm (fun q => x (ix3 b i q) + a (ix3 b 0 q) * y (ix3 b i q)) (fun q => d (ix3 b i q) * (k 0x3F800000#32 + s (ix3 b 0 q)) * w (ix2 0 q)) (e (ix3 b i j)) j * y (ix3 b i j) := by
  have h : ∀ i : Fin 2048, val_main_v55 (F := Ideal) x y a w s e d (ix3 b i j) * y (ix3 b i j) = _ := fun i => by rw [v55_at]
  refine Eq.trans ?_ (Finset.sum_congr rfl fun i _ => h i)
  pointwise [val_main_v60, val_main_v59, val_main_v58, val_main_cst_11]
end

/-! The four column sums of point `t`: the gate's, the weight's, the scale's and the shift's. -/
def gA (c : Dev nD) (t : Nat) (j : Fin 1024) : EReal := ∑ i : Fin 512, dnrm (fun q => X m c (ix3 (pb t) (pi t i) q) + A m c (ix3 (pb t) 0 q) * Y m c (ix3 (pb t) (pi t i) q)) (fun q => D m c (ix3 (pb t) (pi t i) q) * (k 0x3F800000#32 + C m c (ix3 (pb t) 0 q)) * W m c (ix2 0 q)) (E m c (ix3 (pb t) (pi t i) j)) j * Y m c (ix3 (pb t) (pi t i) j)
def gW (c : Dev nD) (t : Nat) (j : Fin 1024) : EReal := ∑ i : Fin 512, (X m c (ix3 (pb t) (pi t i) j) + A m c (ix3 (pb t) 0 j) * Y m c (ix3 (pb t) (pi t i) j)) * irms (fun q => X m c (ix3 (pb t) (pi t i) q) + A m c (ix3 (pb t) 0 q) * Y m c (ix3 (pb t) (pi t i) q)) * (D m c (ix3 (pb t) (pi t i) j) * (k 0x3F800000#32 + C m c (ix3 (pb t) 0 j)))
def gC (c : Dev nD) (t : Nat) (j : Fin 1024) : EReal := ∑ i : Fin 512, (X m c (ix3 (pb t) (pi t i) j) + A m c (ix3 (pb t) 0 j) * Y m c (ix3 (pb t) (pi t i) j)) * irms (fun q => X m c (ix3 (pb t) (pi t i) q) + A m c (ix3 (pb t) 0 q) * Y m c (ix3 (pb t) (pi t i) q)) * W m c (ix2 0 j) * D m c (ix3 (pb t) (pi t i) j)
def gH (c : Dev nD) (t : Nat) (j : Fin 1024) : EReal := ∑ i : Fin 512, D m c (ix3 (pb t) (pi t i) j)
theorem gA_at (c : Dev nD) (t : Fin cfg0.N) (j : Fin 1024) : (k0_pay26 (k0_pay8 (b1 m c t)) (b3 m c t) (k0_pay10 (b0 m c t) (b1 m c t) (b2 m c t)) (k0_pay12 (b0 m c t) (b1 m c t) (b2 m c t)) (k0_pay13 (b0 m c t) (b1 m c t) (b2 m c t)) (k0_pay16 (b4 m c t)) (k0_pay17 (b6 m c t)) (k0_pay18 (b7 m c t))) (ix2 0 j) = gA m c t.val j := by
  rw [pay26_at]
  simp only [x0_at, x1_at, x2_at, x3_at, x4_at, x6_at, x7_at]
  rfl
theorem gW_at (c : Dev nD) (t : Fin cfg0.N) (j : Fin 1024) : (k0_pay23 (k0_pay14 (b0 m c t) (b1 m c t) (b2 m c t)) (k0_pay16 (b4 m c t)) (k0_pay18 (b7 m c t))) (ix2 0 j) = gW m c t.val j := by
  rw [pay23_at]
  simp only [x0_at, x1_at, x2_at, x3_at, x4_at, x6_at, x7_at]
  rfl
theorem gC_at (c : Dev nD) (t : Fin cfg0.N) (j : Fin 1024) : (k0_pay21 (k0_pay15 (b0 m c t) (b1 m c t) (b2 m c t) (b3 m c t)) (k0_pay18 (b7 m c t))) (ix2 0 j) = gC m c t.val j := by
  rw [pay21_at]
  simp only [x0_at, x1_at, x2_at, x3_at, x4_at, x6_at, x7_at]
  rfl
theorem gH_at (c : Dev nD) (t : Fin cfg0.N) (j : Fin 1024) : (k0_pay20 (k0_pay18 (b7 m c t))) (ix2 0 j) = gH m c t.val j := by
  rw [pay20_at]
  simp only [x7_at]
  rfl

/-- The four points of a batch row see its 2048 rows once each. -/
theorem rowsum (f : Fin 4 → Fin 2048 → EReal) (n : Nat) : ∑ s ∈ Finset.range 4, ∑ i : Fin 512, f (pb (n / 4 * 4 + s)) (pi (n / 4 * 4 + s) i) = ∑ i, f (pb n) i := by
  rw [quarters]
  refine Finset.sum_congr rfl fun s hs => Finset.sum_congr rfl fun i _ => ?_
  have hs := Finset.mem_range.mp hs
  rw [show pb (n / 4 * 4 + s) = pb n from Fin.ext (by show (n / 4 * 4 + s) / 4 % 4 = n / 4 % 4; omega)]
  exact congrArg (f (pb n)) (Fin.ext (by show 512 * ((n / 4 * 4 + s) % 4) + i.val = 512 * (s % 4) + i.val; omega))

/-- The weight's sum after a point: the sums of the points so far. -/
theorem accW (c : Dev nD) (j : Fin 1024) (n : Nat) : ∀ h : n < cfg0.N, (outsAt0 m c n h).2.2.2.1 (ix2 0 j)
    = ∑ s ∈ Finset.range (n + 1), gW m c s j := by
  induction n with
  | zero =>
    intro h
    rw [outsAt0_A m c ⟨0, h⟩ (by dsimp only <;> omega) (by dsimp only <;> omega) (by dsimp only <;> omega) (by dsimp only <;> omega) (by dsimp only <;> omega) (by dsimp only <;> omega) (by dsimp only <;> omega) (by dsimp only <;> omega)]
    frame_out
    refine (Eq.refl ((k0_pay23 (k0_pay14 (b0 m c ⟨0, h⟩) (b1 m c ⟨0, h⟩) (b2 m c ⟨0, h⟩)) (k0_pay16 (b4 m c ⟨0, h⟩)) (k0_pay18 (b7 m c ⟨0, h⟩))) (ix2 0 j))).trans ((gW_at m c ⟨0, h⟩ j).trans ?_)
    rw [Finset.sum_range_one]
  | succ n ih =>
    intro h
    have hN : n + 1 < 16 := tN ⟨n + 1, h⟩
    rw [Finset.sum_range_succ, ← ih (Nat.lt_of_succ_lt h)]
    rcases (by omega : (n + 1) % 4 = 0 ∨ ¬(n + 1) % 4 = 0) with h0 | h0
    · rw [outsAt0_C m c ⟨n + 1, h⟩ (by dsimp only <;> omega) (by dsimp only <;> omega) (by dsimp only <;> omega) (by dsimp only <;> omega) (by dsimp only <;> omega) (by dsimp only <;> omega) (by dsimp only <;> omega) (by dsimp only <;> omega)]
      frame_out
      refine (pay3_at (k0_pay23 (k0_pay14 (b0 m c ⟨n + 1, h⟩) (b1 m c ⟨n + 1, h⟩) (b2 m c ⟨n + 1, h⟩)) (k0_pay16 (b4 m c ⟨n + 1, h⟩)) (k0_pay18 (b7 m c ⟨n + 1, h⟩))) j _).trans ?_
      exact congrArg₂ _ rfl (gW_at m c ⟨n + 1, h⟩ j)
    · rw [outsAt0_B m c ⟨n + 1, h⟩ (by dsimp only <;> omega) (by dsimp only <;> omega) (by dsimp only <;> omega) (by dsimp only <;> omega) (by dsimp only <;> omega) (by dsimp only <;> omega) (by dsimp only <;> omega) (by dsimp only <;> omega)]
      frame_out
      refine (pay3_at (k0_pay23 (k0_pay14 (b0 m c ⟨n + 1, h⟩) (b1 m c ⟨n + 1, h⟩) (b2 m c ⟨n + 1, h⟩)) (k0_pay16 (b4 m c ⟨n + 1, h⟩)) (k0_pay18 (b7 m c ⟨n + 1, h⟩))) j _).trans ?_
      exact congrArg₂ _ rfl (gW_at m c ⟨n + 1, h⟩ j)

/-- The gate's sum after a point: the sums of its batch row's points so far. -/
theorem accA (c : Dev nD) (j : Fin 1024) (n : Nat) : ∀ h : n < cfg0.N, (outsAt0 m c n h).2.2.1 (ix3 0 0 j)
    = ∑ s ∈ Finset.range (n % 4 + 1), gA m c (n / 4 * 4 + s) j := by
  have first : ∀ t : Fin cfg0.N, t.val % 4 = 0 → (outsAt0 m c t.val t.isLt).2.2.1 (ix3 0 0 j) = gA m c t.val j := by
    intro t h
    have hN := tN t
    rcases (by omega : t.val = 0 ∨ 1 ≤ t.val) with h1 | h1
    · rw [outsAt0_A m c t (by omega) (by omega) (by omega) (by omega) (by omega) (by omega) (by omega) (by omega)]
      frame_out
      exact (pay1_at (k0_pay26 (k0_pay8 (b1 m c t)) (b3 m c t) (k0_pay10 (b0 m c t) (b1 m c t) (b2 m c t)) (k0_pay12 (b0 m c t) (b1 m c t) (b2 m c t)) (k0_pay13 (b0 m c t) (b1 m c t) (b2 m c t)) (k0_pay16 (b4 m c t)) (k0_pay17 (b6 m c t)) (k0_pay18 (b7 m c t))) j).trans (gA_at m c t j)
    · rw [outsAt0_C m c t (by omega) (by omega) (by omega) (by omega) (by omega) (by omega) (by omega) (by omega)]
      frame_out
      exact (pay1_at (k0_pay26 (k0_pay8 (b1 m c t)) (b3 m c t) (k0_pay10 (b0 m c t) (b1 m c t) (b2 m c t)) (k0_pay12 (b0 m c t) (b1 m c t) (b2 m c t)) (k0_pay13 (b0 m c t) (b1 m c t) (b2 m c t)) (k0_pay16 (b4 m c t)) (k0_pay17 (b6 m c t)) (k0_pay18 (b7 m c t))) j).trans (gA_at m c t j)
  induction n with
  | zero =>
    intro h
    refine (first ⟨0, h⟩ rfl).trans ?_
    rw [show 0 % 4 + 1 = 1 from rfl, Finset.sum_range_one]
  | succ n ih =>
    intro h
    have hN : n + 1 < 16 := tN ⟨n + 1, h⟩
    rcases (by omega : (n + 1) % 4 = 0 ∨ ¬(n + 1) % 4 = 0) with h0 | h0
    · refine (first ⟨n + 1, h⟩ h0).trans ?_
      rw [h0, show 0 + 1 = 1 from rfl, Finset.sum_range_one]
      exact congrArg (fun z => gA m c z j) (by dsimp only; omega)
    · rw [show (n + 1) % 4 + 1 = (n % 4 + 1) + 1 by omega, show (n + 1) / 4 = n / 4 by omega, Finset.sum_range_succ,
        show n / 4 * 4 + (n % 4 + 1) = n + 1 by omega, ← ih (Nat.lt_of_succ_lt h),
        outsAt0_B m c ⟨n + 1, h⟩ (by dsimp only <;> omega) (by dsimp only <;> omega) (by dsimp only <;> omega) (by dsimp only <;> omega) (by dsimp only <;> omega) (by dsimp only <;> omega) (by dsimp only <;> omega) (by dsimp only <;> omega)]
      frame_out
      refine (pay2_at _ (k0_pay26 (k0_pay8 (b1 m c ⟨n + 1, h⟩)) (b3 m c ⟨n + 1, h⟩) (k0_pay10 (b0 m c ⟨n + 1, h⟩) (b1 m c ⟨n + 1, h⟩) (b2 m c ⟨n + 1, h⟩)) (k0_pay12 (b0 m c ⟨n + 1, h⟩) (b1 m c ⟨n + 1, h⟩) (b2 m c ⟨n + 1, h⟩)) (k0_pay13 (b0 m c ⟨n + 1, h⟩) (b1 m c ⟨n + 1, h⟩) (b2 m c ⟨n + 1, h⟩)) (k0_pay16 (b4 m c ⟨n + 1, h⟩)) (k0_pay17 (b6 m c ⟨n + 1, h⟩)) (k0_pay18 (b7 m c ⟨n + 1, h⟩))) j).trans ?_
      exact congrArg₂ _ rfl (gA_at m c ⟨n + 1, h⟩ j)

/-- The scale's sum after a point: the sums of its batch row's points so far. -/
theorem accC (c : Dev nD) (j : Fin 1024) (n : Nat) : ∀ h : n < cfg0.N, (outsAt0 m c n h).2.2.2.2.1 (ix3 0 0 j)
    = ∑ s ∈ Finset.range (n % 4 + 1), gC m c (n / 4 * 4 + s) j := by
  have first : ∀ t : Fin cfg0.N, t.val % 4 = 0 → (outsAt0 m c t.val t.isLt).2.2.2.2.1 (ix3 0 0 j) = gC m c t.val j := by
    intro t h
    have hN := tN t
    rcases (by omega : t.val = 0 ∨ 1 ≤ t.val) with h1 | h1
    · rw [outsAt0_A m c t (by omega) (by omega) (by omega) (by omega) (by omega) (by omega) (by omega) (by omega)]
      frame_out
      exact (pay4_at (k0_pay21 (k0_pay15 (b0 m c t) (b1 m c t) (b2 m c t) (b3 m c t)) (k0_pay18 (b7 m c t))) j).trans (gC_at m c t j)
    · rw [outsAt0_C m c t (by omega) (by omega) (by omega) (by omega) (by omega) (by omega) (by omega) (by omega)]
      frame_out
      exact (pay4_at (k0_pay21 (k0_pay15 (b0 m c t) (b1 m c t) (b2 m c t) (b3 m c t)) (k0_pay18 (b7 m c t))) j).trans (gC_at m c t j)
  induction n with
  | zero =>
    intro h
    refine (first ⟨0, h⟩ rfl).trans ?_
    rw [show 0 % 4 + 1 = 1 from rfl, Finset.sum_range_one]
  | succ n ih =>
    intro h
    have hN : n + 1 < 16 := tN ⟨n + 1, h⟩
    rcases (by omega : (n + 1) % 4 = 0 ∨ ¬(n + 1) % 4 = 0) with h0 | h0
    · refine (first ⟨n + 1, h⟩ h0).trans ?_
      rw [h0, show 0 + 1 = 1 from rfl, Finset.sum_range_one]
      exact congrArg (fun z => gC m c z j) (by dsimp only; omega)
    · rw [show (n + 1) % 4 + 1 = (n % 4 + 1) + 1 by omega, show (n + 1) / 4 = n / 4 by omega, Finset.sum_range_succ,
        show n / 4 * 4 + (n % 4 + 1) = n + 1 by omega, ← ih (Nat.lt_of_succ_lt h),
        outsAt0_B m c ⟨n + 1, h⟩ (by dsimp only <;> omega) (by dsimp only <;> omega) (by dsimp only <;> omega) (by dsimp only <;> omega) (by dsimp only <;> omega) (by dsimp only <;> omega) (by dsimp only <;> omega) (by dsimp only <;> omega)]
      frame_out
      refine (pay5_at _ (k0_pay21 (k0_pay15 (b0 m c ⟨n + 1, h⟩) (b1 m c ⟨n + 1, h⟩) (b2 m c ⟨n + 1, h⟩) (b3 m c ⟨n + 1, h⟩)) (k0_pay18 (b7 m c ⟨n + 1, h⟩))) j).trans ?_
      exact congrArg₂ _ rfl (gC_at m c ⟨n + 1, h⟩ j)

/-- The shift's sum after a point: the sums of its batch row's points so far. -/
theorem accH (c : Dev nD) (j : Fin 1024) (n : Nat) : ∀ h : n < cfg0.N, (outsAt0 m c n h).2.2.2.2.2 (ix3 0 0 j)
    = ∑ s ∈ Finset.range (n % 4 + 1), gH m c (n / 4 * 4 + s) j := by
  have first : ∀ t : Fin cfg0.N, t.val % 4 = 0 → (outsAt0 m c t.val t.isLt).2.2.2.2.2 (ix3 0 0 j) = gH m c t.val j := by
    intro t h
    have hN := tN t
    rcases (by omega : t.val = 0 ∨ 1 ≤ t.val) with h1 | h1
    · rw [outsAt0_A m c t (by omega) (by omega) (by omega) (by omega) (by omega) (by omega) (by omega) (by omega)]
      frame_out
      exact (pay6_at (k0_pay20 (k0_pay18 (b7 m c t))) j).trans (gH_at m c t j)
    · rw [outsAt0_C m c t (by omega) (by omega) (by omega) (by omega) (by omega) (by omega) (by omega) (by omega)]
      frame_out
      exact (pay6_at (k0_pay20 (k0_pay18 (b7 m c t))) j).trans (gH_at m c t j)
  induction n with
  | zero =>
    intro h
    refine (first ⟨0, h⟩ rfl).trans ?_
    rw [show 0 % 4 + 1 = 1 from rfl, Finset.sum_range_one]
  | succ n ih =>
    intro h
    have hN : n + 1 < 16 := tN ⟨n + 1, h⟩
    rcases (by omega : (n + 1) % 4 = 0 ∨ ¬(n + 1) % 4 = 0) with h0 | h0
    · refine (first ⟨n + 1, h⟩ h0).trans ?_
      rw [h0, show 0 + 1 = 1 from rfl, Finset.sum_range_one]
      exact congrArg (fun z => gH m c z j) (by dsimp only; omega)
    · rw [show (n + 1) % 4 + 1 = (n % 4 + 1) + 1 by omega, show (n + 1) / 4 = n / 4 by omega, Finset.sum_range_succ,
        show n / 4 * 4 + (n % 4 + 1) = n + 1 by omega, ← ih (Nat.lt_of_succ_lt h),
        outsAt0_B m c ⟨n + 1, h⟩ (by dsimp only <;> omega) (by dsimp only <;> omega) (by dsimp only <;> omega) (by dsimp only <;> omega) (by dsimp only <;> omega) (by dsimp only <;> omega) (by dsimp only <;> omega) (by dsimp only <;> omega)]
      frame_out
      refine (pay7_at _ (k0_pay20 (k0_pay18 (b7 m c ⟨n + 1, h⟩))) j).trans ?_
      exact congrArg₂ _ rfl (gH_at m c ⟨n + 1, h⟩ j)

/-- The arrays after the run are the reference's. -/
theorem arr8 (c : Dev nD) : (dats m 0 c).arrAt 8 cfg0.N = val_main_v54 (F := Ideal) (X m c) (Y m c) (A m c) (W m c) (C m c) (E m c) (D m c) := by
  refine (dats m 0 c).arrAt_eq_of_covers 8 _ (by decide +kernel) fun t hf y => ?_
  blk_simp
  have hN := tN t
  obtain ⟨i, j, rfl⟩ : ∃ (i : Fin 512) (j : Fin 1024), y = ix3 0 i j := ⟨y 1, y 2, by blk_ext []⟩
  rw [show ((win0_8.blk t).view.emb (ix3 0 i j)) = ix3 (pb t.val) (pi t.val i) j by blk_ext [e8], v54_at, after0_8]
  rcases (by omega : t.val = 0 ∨ ¬t.val % 4 = 0 ∨ 1 ≤ t.val ∧ t.val % 4 = 0) with h0 | h0 | ⟨h1, h0⟩
  · rw [outsAt0_A m c t (by omega) (by omega) (by omega) (by omega) (by omega) (by omega) (by omega) (by omega)]
    frame_out
    refine (pay27_at (b0 m c t) (b1 m c t) (b7 m c t) (b6 m c t) (b2 m c t) (b4 m c t) (b3 m c t) i j).trans ?_
    simp only [x0_at, x1_at, x2_at, x3_at, x4_at, x6_at, x7_at]
  · rw [outsAt0_B m c t (by omega) (by omega) (by omega) (by omega) (by omega) (by omega) (by omega) (by omega)]
    frame_out
    refine (pay27_at (b0 m c t) (b1 m c t) (b7 m c t) (b6 m c t) (b2 m c t) (b4 m c t) (b3 m c t) i j).trans ?_
    simp only [x0_at, x1_at, x2_at, x3_at, x4_at, x6_at, x7_at]
  · rw [outsAt0_C m c t (by omega) (by omega) (by omega) (by omega) (by omega) (by omega) (by omega) (by omega)]
    frame_out
    refine (pay27_at (b0 m c t) (b1 m c t) (b7 m c t) (b6 m c t) (b2 m c t) (b4 m c t) (b3 m c t) i j).trans ?_
    simp only [x0_at, x1_at, x2_at, x3_at, x4_at, x6_at, x7_at]
theorem arr9 (c : Dev nD) : (dats m 0 c).arrAt 9 cfg0.N = val_main_v61 (F := Ideal) (X m c) (Y m c) (A m c) (W m c) (C m c) (E m c) (D m c) := by
  refine (dats m 0 c).arrAt_eq_of_covers 9 _ (by decide +kernel) fun t hf y => ?_
  blk_simp
  have hN := tN t
  obtain ⟨i, j, rfl⟩ : ∃ (i : Fin 512) (j : Fin 1024), y = ix3 0 i j := ⟨y 1, y 2, by blk_ext []⟩
  rw [show ((win0_9.blk t).view.emb (ix3 0 i j)) = ix3 (pb t.val) (pi t.val i) j by blk_ext [e9], v61_at, after0_9]
  rcases (by omega : t.val = 0 ∨ ¬t.val % 4 = 0 ∨ 1 ≤ t.val ∧ t.val % 4 = 0) with h0 | h0 | ⟨h1, h0⟩
  · rw [outsAt0_A m c t (by omega) (by omega) (by omega) (by omega) (by omega) (by omega) (by omega) (by omega)]
    frame_out
    refine (pay28_at (b0 m c t) (b1 m c t) (b7 m c t) (b6 m c t) (b2 m c t) (b4 m c t) (b3 m c t) i j).trans ?_
    simp only [x0_at, x1_at, x2_at, x3_at, x4_at, x6_at, x7_at]
  · rw [outsAt0_B m c t (by omega) (by omega) (by omega) (by omega) (by omega) (by omega) (by omega) (by omega)]
    frame_out
    refine (pay28_at (b0 m c t) (b1 m c t) (b7 m c t) (b6 m c t) (b2 m c t) (b4 m c t) (b3 m c t) i j).trans ?_
    simp only [x0_at, x1_at, x2_at, x3_at, x4_at, x6_at, x7_at]
  · rw [outsAt0_C m c t (by omega) (by omega) (by omega) (by omega) (by omega) (by omega) (by omega) (by omega)]
    frame_out
    refine (pay28_at (b0 m c t) (b1 m c t) (b7 m c t) (b6 m c t) (b2 m c t) (b4 m c t) (b3 m c t) i j).trans ?_
    simp only [x0_at, x1_at, x2_at, x3_at, x4_at, x6_at, x7_at]
theorem arr11 (c : Dev nD) : (dats m 0 c).arrAt 11 cfg0.N = val_main_v39 (F := Ideal) (X m c) (Y m c) (A m c) (C m c) (D m c) := by
  refine (dats m 0 c).arrAt_eq_of_covers 11 _ (by decide +kernel) fun t hf y => ?_
  blk_simp
  have hN := tN t
  have h3 : t.val % 16 = 15 := (flush0_11 t).mp hf
  obtain ⟨j, rfl⟩ : ∃ (j : Fin 1024), y = ix2 0 j := ⟨y 1, by blk_ext []⟩
  rw [show ((win0_11.blk t).view.emb (ix2 0 j)) = ix2 0 j by blk_ext [e11], v39_at, after0_11]
  refine (accW m c j t.val t.isLt).trans ?_
  rw [show t.val + 1 = 16 by omega, sixteen]
  refine Finset.sum_congr rfl fun b _ => ?_
  refine Eq.trans ?_ ((rowsum (fun b i => (X m c (ix3 b i j) + A m c (ix3 b 0 j) * Y m c (ix3 b i j)) * irms (fun q => X m c (ix3 b i q) + A m c (ix3 b 0 q) * Y m c (ix3 b i q)) * (D m c (ix3 b i j) * (k 0x3F800000#32 + C m c (ix3 b 0 j)))) (b.val * 4)).trans ?_)
  · rw [show b.val * 4 / 4 = b.val by omega]
    rfl
  · rw [show pb (b.val * 4) = b from Fin.ext (by show b.val * 4 / 4 % 4 = b.val; omega)]
theorem arr10 (c : Dev nD) : (dats m 0 c).arrAt 10 cfg0.N = val_main_v60 (F := Ideal) (X m c) (Y m c) (A m c) (W m c) (C m c) (E m c) (D m c) := by
  refine (dats m 0 c).arrAt_eq_of_covers 10 _ (by decide +kernel) fun t hf y => ?_
  blk_simp
  have hN := tN t
  have h3 : t.val % 4 = 3 := (flush0_10 t).mp hf
  obtain ⟨j, rfl⟩ : ∃ (j : Fin 1024), y = ix3 0 0 j := ⟨y 2, by blk_ext []⟩
  rw [show ((win0_10.blk t).view.emb (ix3 0 0 j)) = ix3 (pb t.val) 0 j by blk_ext [e10], v60_at, after0_10]
  refine (accA m c j t.val t.isLt).trans ?_
  rw [h3]
  exact rowsum (fun b i => dnrm (fun q => X m c (ix3 b i q) + A m c (ix3 b 0 q) * Y m c (ix3 b i q)) (fun q => D m c (ix3 b i q) * (k 0x3F800000#32 + C m c (ix3 b 0 q)) * W m c (ix2 0 q)) (E m c (ix3 b i j)) j * Y m c (ix3 b i j)) t.val
theorem arr12 (c : Dev nD) : (dats m 0 c).arrAt 12 cfg0.N = val_main_v30 (F := Ideal) (X m c) (Y m c) (A m c) (W m c) (D m c) := by
  refine (dats m 0 c).arrAt_eq_of_covers 12 _ (by decide +kernel) fun t hf y => ?_
  blk_simp
  have hN := tN t
  have h3 : t.val % 4 = 3 := (flush0_12 t).mp hf
  obtain ⟨j, rfl⟩ : ∃ (j : Fin 1024), y = ix3 0 0 j := ⟨y 2, by blk_ext []⟩
  rw [show ((win0_12.blk t).view.emb (ix3 0 0 j)) = ix3 (pb t.val) 0 j by blk_ext [e12], v30_at, after0_12]
  refine (accC m c j t.val t.isLt).trans ?_
  rw [h3]
  exact rowsum (fun b i => (X m c (ix3 b i j) + A m c (ix3 b 0 j) * Y m c (ix3 b i j)) * irms (fun q => X m c (ix3 b i q) + A m c (ix3 b 0 q) * Y m c (ix3 b i q)) * W m c (ix2 0 j) * D m c (ix3 b i j)) t.val
theorem arr13 (c : Dev nD) : (dats m 0 c).arrAt 13 cfg0.N = val_main_v27 (F := Ideal) (D m c) := by
  refine (dats m 0 c).arrAt_eq_of_covers 13 _ (by decide +kernel) fun t hf y => ?_
  blk_simp
  have hN := tN t
  have h3 : t.val % 4 = 3 := (flush0_13 t).mp hf
  obtain ⟨j, rfl⟩ : ∃ (j : Fin 1024), y = ix3 0 0 j := ⟨y 2, by blk_ext []⟩
  rw [show ((win0_13.blk t).view.emb (ix3 0 0 j)) = ix3 (pb t.val) 0 j by blk_ext [e13], v27_at, after0_13]
  refine (accH m c j t.val t.isLt).trans ?_
  rw [h3]
  exact rowsum (fun b i => D m c (ix3 b i j)) t.val

end Cert.NormBwdIdeal.Gen

namespace Cert.Proof.NormBwd

open Idealize.ShloMosaic Idealize.SL.Sem Idealize.ShloMosaic.Tactic

/-- The two programs have one text, so the run over the machine's floats is the other's. -/
theorem frame_bits : Cert.quiescent_NormBwd := by
  intro m g _
  refine Eq.mp ?_ (Cert.NormBwdIdeal.Gen.frame (F := Bits) m g)
  sl_kernel_rfl
theorem frame_ideal : Cert.quiescent_NormBwdIdeal := fun m g _ => Cert.NormBwdIdeal.Gen.frame m g
theorem frame_ref : Cert.quiescent_NormBwdRefIdeal := fun m g _ =>
  (θ_run Cert.NormBwdRefIdeal.defs _ _).mono (fun r h => ⟨fun c => (h c).2.2.2.2.2.2, sem_eq_zero_of_no_sems (by decide) r.2⟩)
    (Cert.NormBwdRefIdeal.Value.run (F := Ideal) m g)

theorem algebraic : Cert.algebraic_NormBwdIdeal_NormBwdRefIdeal := by
  intro m g m' g' hpre hagree
  refine ⟨fun c => (Cert.NormBwdIdeal.Gen.dats m 0 c).arrAt 8 Cert.NormBwdIdeal.cfg0.N, fun c => (Cert.NormBwdIdeal.Gen.dats m 0 c).arrAt 9 Cert.NormBwdIdeal.cfg0.N, fun c => (Cert.NormBwdIdeal.Gen.dats m 0 c).arrAt 10 Cert.NormBwdIdeal.cfg0.N, fun c => (Cert.NormBwdIdeal.Gen.dats m 0 c).arrAt 11 Cert.NormBwdIdeal.cfg0.N, fun c => (Cert.NormBwdIdeal.Gen.dats m 0 c).arrAt 12 Cert.NormBwdIdeal.cfg0.N, fun c => (Cert.NormBwdIdeal.Gen.dats m 0 c).arrAt 13 Cert.NormBwdIdeal.cfg0.N,
    Cert.NormBwdIdeal.Value.run_blocks m g,
    (θ_run Cert.NormBwdRefIdeal.defs _ _).mono (fun r h c => ?_) (Cert.NormBwdRefIdeal.Value.run (F := Ideal) m' g')⟩
  obtain ⟨h0, h1, h2, h3, h4, h5, ha⟩ := h c
  obtain ⟨e0, e1, e2, e3, e4, e5, e6, e7⟩ := hagree c
  refine ⟨h0.trans ?_, h1.trans ?_, h2.trans ?_, h3.trans ?_, h4.trans ?_, h5.trans ?_, ha⟩
  · rw [Cert.NormBwdRefIdeal.Read.val_main_v54_eq, e0, e1, e2, e3, e4, e6, e7]
    exact (Cert.NormBwdIdeal.Gen.arr8 m c).symm
  · rw [Cert.NormBwdRefIdeal.Read.val_main_v61_eq, e0, e1, e2, e3, e4, e6, e7]
    exact (Cert.NormBwdIdeal.Gen.arr9 m c).symm
  · rw [Cert.NormBwdRefIdeal.Read.val_main_v60_eq, e0, e1, e2, e3, e4, e6, e7]
    exact (Cert.NormBwdIdeal.Gen.arr10 m c).symm
  · refine (Cert.NormBwdRefIdeal.Read.val_main_v39_eq _ _ _ _ _).trans ?_
    rw [e0, e1, e2, e4, e7]
    exact (Cert.NormBwdIdeal.Gen.arr11 m c).symm
  · refine (Cert.NormBwdRefIdeal.Read.val_main_v30_eq _ _ _ _ _).trans ?_
    rw [e0, e1, e2, e3, e7]
    exact (Cert.NormBwdIdeal.Gen.arr12 m c).symm
  · refine (Cert.NormBwdRefIdeal.Read.val_main_v27_eq _).trans ?_
    rw [e7]
    exact (Cert.NormBwdIdeal.Gen.arr13 m c).symm

end Cert.Proof.NormBwd

end
-- ==== Proof.MmCtxNormBwd.lean ====
module

public import proofs.«01_k».proof.Defs
public import proofs.«01_k».proof.Proof.Rms
public import proofs.«01_k».proof.Proof.Gen.CtxNormBwd
public import proofs.«01_k».proof.Proof.Gen.CtxNormBwdIdeal
public import proofs.«01_k».proof.Proof.Gen.CtxNormBwdIdeal.Frame
public import proofs.«01_k».proof.Proof.Gen.CtxNormBwdIdeal.Value
public import proofs.«01_k».proof.Proof.Gen.CtxNormBwdRefIdeal
public import proofs.«01_k».proof.Proof.Gen.CtxNormBwdRefIdeal.Read
public import Idealize.ShloMosaic.Lib.Pointwise
public import Idealize.ShloMosaic.Lib.StableHlo.ReadAt
public import Idealize.ShloMosaic.Lib.Pipeline.ValueKit.Geometry
public import Idealize.ShloMosaic.Lib.Pipeline.ValueKit.Acc

@[expose] public section

set_option maxRecDepth 16384

noncomputable section

namespace Cert.CtxNormBwdIdeal.Gen

open Cert.CtxNormBwdIdeal Idealize.ShloMosaic Idealize.ShloMosaic.TcCoe Idealize.SL Idealize.SL.Sem
open Idealize.ShloMosaic.Pipeline (Dat Cfg Window)
open Cert.CtxNormBwdRefIdeal.Read
open scoped BigOperators

open Cert.Proof.Rms (k irms ms cor dnrm sum01 sum1 quarters sixteen)

variable (m : (ℓ : Loc nD τ sig) → Buf (Elt Ideal) ℓ)

/-- The residual, the branch, the gate, the norm's weight, the scale and the two cotangents on core `c`. -/
abbrev X (c : Dev nD) : FVec Ideal S4x256x1024 .f32 := m ((c : Thread nD τ).loc main_arg0)
abbrev Y (c : Dev nD) : FVec Ideal S4x256x1024 .f32 := m ((c : Thread nD τ).loc main_arg1)
abbrev A (c : Dev nD) : FVec Ideal S4x1x1024 .f32 := m ((c : Thread nD τ).loc main_arg2)
abbrev W (c : Dev nD) : FVec Ideal S1x1024 .f32 := m ((c : Thread nD τ).loc main_arg3)
abbrev C (c : Dev nD) : FVec Ideal S4x1x1024 .f32 := m ((c : Thread nD τ).loc main_arg4)
abbrev E (c : Dev nD) : FVec Ideal S4x256x1024 .f32 := m ((c : Thread nD τ).loc main_arg6)
abbrev D (c : Dev nD) : FVec Ideal S4x256x1024 .f32 := m ((c : Thread nD τ).loc main_arg7)

/-- A point's blocks. -/
abbrev b0 (c : Dev nD) (t : Fin cfg0.N) : Vec Ideal S1x256x1024 .f32 := iblk m c 0 t
abbrev b1 (c : Dev nD) (t : Fin cfg0.N) : Vec Ideal S1x256x1024 .f32 := iblk m c 1 t
abbrev b2 (c : Dev nD) (t : Fin cfg0.N) : Vec Ideal S1x1x1024 .f32 := iblk m c 2 t
abbrev b3 (c : Dev nD) (t : Fin cfg0.N) : Vec Ideal S1x1024 .f32 := iblk m c 3 t
abbrev b4 (c : Dev nD) (t : Fin cfg0.N) : Vec Ideal S1x1x1024 .f32 := iblk m c 4 t
abbrev b6 (c : Dev nD) (t : Fin cfg0.N) : Vec Ideal S1x256x1024 .f32 := iblk m c 6 t
abbrev b7 (c : Dev nD) (t : Fin cfg0.N) : Vec Ideal S1x256x1024 .f32 := iblk m c 7 t

/-- The row of the batch and the rows of point `t`. -/
abbrev pb (t : Nat) : Fin 4 := ⟨t / 1 % 4, by omega⟩
abbrev pi (t : Nat) (i : Fin 256) : Fin 256 := ⟨256 * (t % 1) + i.val, by omega⟩
theorem tN (t : Fin cfg0.N) : t.val < 4 := lt_of_lt_of_eq t.isLt (show cfg0.N = 4 from N_0)

theorem e0 : ∀ t : Fin cfg0.N, win0_0.index t = ![t.val / 1, t.val % 1, 0] := (by decide +kernel : ∀ t : Fin grid0.N, _)
theorem e1 : ∀ t : Fin cfg0.N, win0_1.index t = ![t.val / 1, t.val % 1, 0] := (by decide +kernel : ∀ t : Fin grid0.N, _)
theorem e2 : ∀ t : Fin cfg0.N, win0_2.index t = ![t.val / 1, 0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![t.val / 1, 0, 0] := (by decide +kernel : ∀ t : Fin grid0.N, _)
theorem e6 : ∀ t : Fin cfg0.N, win0_6.index t = ![t.val / 1, t.val % 1, 0] := (by decide +kernel : ∀ t : Fin grid0.N, _)
theorem e7 : ∀ t : Fin cfg0.N, win0_7.index t = ![t.val / 1, t.val % 1, 0] := (by decide +kernel : ∀ t : Fin grid0.N, _)
theorem e8 : ∀ t : Fin cfg0.N, win0_8.index t = ![t.val / 1, t.val % 1, 0] := (by decide +kernel : ∀ t : Fin grid0.N, _)
theorem e9 : ∀ t : Fin cfg0.N, win0_9.index t = ![t.val / 1, t.val % 1, 0] := (by decide +kernel : ∀ t : Fin grid0.N, _)
theorem e10 : ∀ t : Fin cfg0.N, win0_10.index t = ![t.val / 1, 0, 0] := (by decide +kernel : ∀ t : Fin grid0.N, _)
theorem e11 : ∀ t : Fin cfg0.N, win0_11.index t = ![0, 0] := (by decide +kernel : ∀ t : Fin grid0.N, _)
theorem e12 : ∀ t : Fin cfg0.N, win0_12.index t = ![t.val / 1, 0, 0] := (by decide +kernel : ∀ t : Fin grid0.N, _)
theorem e13 : ∀ t : Fin cfg0.N, win0_13.index t = ![t.val / 1, 0, 0] := (by decide +kernel : ∀ t : Fin grid0.N, _)

/-! What a point computes, entry by entry. -/
section
variable (x y d e : Vec Ideal S1x256x1024 .f32) (a s p : Vec Ideal S1x1x1024 .f32) (w : Vec Ideal S1x1024 .f32) (u : FVec Ideal S1x1024 .f32)
  (v : FVec Ideal S256x1024 .f32) (i : Fin 256) (j : Fin 1024)

theorem pay8_at : k0_pay8 y (ix2 i j) = y (ix3 0 i j) := by
  pointwise [k0_pay8]
theorem pay9_at : k0_pay9 a (ix2 0 j) = a (ix3 0 0 j) := by
  pointwise [k0_pay9]
theorem pay10_at : k0_pay10 x y a (ix2 i j) = x (ix3 0 i j) + a (ix3 0 0 j) * y (ix3 0 i j) := by
  rw [← pay8_at y i j, ← pay9_at a j]
  pointwise [k0_pay10]
theorem pay11_at : k0_pay11 x y a (ix2 i 0) = ms (fun q => x (ix3 0 i q) + a (ix3 0 0 q) * y (ix3 0 i q)) := by
  have h : (fun q => x (ix3 0 i q) + a (ix3 0 0 q) * y (ix3 0 i q)) = fun q => k0_pay10 x y a (ix2 i q) := funext fun q => (pay10_at x y a i q).symm
  rw [h]
  unfold ms
  pointwise [k0_pay11]
theorem pay12_at : k0_pay12 x y a (ix2 i 0) = irms (fun q => x (ix3 0 i q) + a (ix3 0 0 q) * y (ix3 0 i q)) := by
  rw [show irms (fun q => x (ix3 0 i q) + a (ix3 0 0 q) * y (ix3 0 i q)) = Ideal.rsqrt (ms (fun q => x (ix3 0 i q) + a (ix3 0 0 q) * y (ix3 0 i q))) from rfl, ← pay11_at]
  pointwise [k0_pay12]
theorem pay13_at : k0_pay13 x y a (ix2 i 0) = k 0xBF000000#32 * Ideal.div (irms (fun q => x (ix3 0 i q) + a (ix3 0 0 q) * y (ix3 0 i q))) (ms (fun q => x (ix3 0 i q) + a (ix3 0 0 q) * y (ix3 0 i q))) := by
  rw [← pay11_at, ← pay12_at]
  pointwise [k0_pay13]
theorem pay14_at : k0_pay14 x y a (ix2 i j) = (x (ix3 0 i j) + a (ix3 0 0 j) * y (ix3 0 i j)) * irms (fun q => x (ix3 0 i q) + a (ix3 0 0 q) * y (ix3 0 i q)) := by
  rw [← pay12_at, ← pay10_at x y a i j]
  pointwise [k0_pay14]
theorem pay15_at : k0_pay15 x y a w (ix2 i j) = (x (ix3 0 i j) + a (ix3 0 0 j) * y (ix3 0 i j)) * irms (fun q => x (ix3 0 i q) + a (ix3 0 0 q) * y (ix3 0 i q)) * w (ix2 0 j) := by
  rw [← pay14_at x y a i j]
  pointwise [k0_pay15]
theorem pay16_at : k0_pay16 s (ix2 0 j) = k 0x3F800000#32 + s (ix3 0 0 j) := by
  pointwise [k0_pay16]
theorem pay17_at : k0_pay17 e (ix2 i j) = e (ix3 0 i j) := by
  pointwise [k0_pay17]
theorem pay18_at : k0_pay18 d (ix2 i j) = d (ix3 0 i j) := by
  pointwise [k0_pay18]
theorem pay19_at : k0_pay19 v (ix2 i j) = v (ix2 i j) := by
  pointwise [k0_pay19]
theorem pay20_at : k0_pay20 (k0_pay18 d) (ix2 0 j) = ∑ i : Fin 256, d (ix3 0 i j) := by
  refine Eq.trans ?_ (Finset.sum_congr rfl fun i _ => pay18_at d i j)
  pointwise [k0_pay20]
theorem pay21_at : k0_pay21 (k0_pay15 x y a w) (k0_pay18 d) (ix2 0 j) = ∑ i : Fin 256, (x (ix3 0 i j) + a (ix3 0 0 j) * y (ix3 0 i j)) * irms (fun q => x (ix3 0 i q) + a (ix3 0 0 q) * y (ix3 0 i q)) * w (ix2 0 j) * d (ix3 0 i j) := by
  have h : ∀ i : Fin 256, k0_pay15 x y a w (ix2 i j) * k0_pay19 (k0_pay18 d) (ix2 i j) = _ := fun i => by rw [pay15_at, pay19_at, pay18_at]
  refine Eq.trans ?_ (Finset.sum_congr rfl fun i _ => h i)
  pointwise [k0_pay21]
theorem pay22_gen : k0_pay22 u v (ix2 i j) = v (ix2 i j) * u (ix2 0 j) := by
  rw [← pay19_at v i j]
  pointwise [k0_pay22]
theorem pay22_at : k0_pay22 (k0_pay16 s) (k0_pay18 d) (ix2 i j) = d (ix3 0 i j) * (k 0x3F800000#32 + s (ix3 0 0 j)) := by
  rw [pay22_gen, pay18_at, pay16_at]
theorem pay23_at : k0_pay23 (k0_pay14 x y a) (k0_pay16 s) (k0_pay18 d) (ix2 0 j) = ∑ i : Fin 256, (x (ix3 0 i j) + a (ix3 0 0 j) * y (ix3 0 i j)) * irms (fun q => x (ix3 0 i q) + a (ix3 0 0 q) * y (ix3 0 i q)) * (d (ix3 0 i j) * (k 0x3F800000#32 + s (ix3 0 0 j))) := by
  have h : ∀ i : Fin 256, k0_pay14 x y a (ix2 i j) * k0_pay22 (k0_pay16 s) (k0_pay18 d) (ix2 i j) = _ := fun i => by rw [pay14_at, pay22_at]
  refine Eq.trans ?_ (Finset.sum_congr rfl fun i _ => h i)
  pointwise [k0_pay23]
theorem pay24_gen (v11 v30 v32 : FVec Ideal S256x1024 .f32) (v19 v22 : FVec Ideal S256x1 .f32) (v28 : FVec Ideal S1x1024 .f32) :
    k0_pay24 w v11 v19 v22 v28 v30 v32 (ix2 i j)
      = v30 (ix2 i j) + k0_pay22 v28 v32 (ix2 i j) * w (ix2 0 j) * v19 (ix2 i 0)
        + v11 (ix2 i j) * Ideal.div ((∑ q : Fin 1024, v11 (ix2 i q) * (k0_pay22 v28 v32 (ix2 i q) * w (ix2 0 q))) * v22 (ix2 i 0)) (k 0x44800000#32)
        + Ideal.div ((∑ q : Fin 1024, v11 (ix2 i q) * (k0_pay22 v28 v32 (ix2 i q) * w (ix2 0 q))) * v22 (ix2 i 0)) (k 0x44800000#32) * v11 (ix2 i j) := by
  pointwise [k0_pay24]
  simp only [sum1]
theorem pay24_at : k0_pay24 w (k0_pay10 x y a) (k0_pay12 x y a) (k0_pay13 x y a) (k0_pay16 s) (k0_pay17 e) (k0_pay18 d) (ix2 i j) = dnrm (fun q => x (ix3 0 i q) + a (ix3 0 0 q) * y (ix3 0 i q)) (fun q => d (ix3 0 i q) * (k 0x3F800000#32 + s (ix3 0 0 q)) * w (ix2 0 q)) (e (ix3 0 i j)) j := by
  rw [pay24_gen]
  simp only [pay10_at, pay12_at, pay13_at, pay17_at, pay22_at]
  rfl
theorem pay25_at (v11 v30 v32 : FVec Ideal S256x1024 .f32) (v19 v22 : FVec Ideal S256x1 .f32) (v28 : FVec Ideal S1x1024 .f32) : k0_pay25 w v11 v19 v22 v28 v30 v32 (ix2 i j) = k0_pay24 w v11 v19 v22 v28 v30 v32 (ix2 i j) := by
  pointwise [k0_pay25]
theorem pay26_at : k0_pay26 (k0_pay8 y) w (k0_pay10 x y a) (k0_pay12 x y a) (k0_pay13 x y a) (k0_pay16 s) (k0_pay17 e) (k0_pay18 d) (ix2 0 j) = ∑ i : Fin 256, dnrm (fun q => x (ix3 0 i q) + a (ix3 0 0 q) * y (ix3 0 i q)) (fun q => d (ix3 0 i q) * (k 0x3F800000#32 + s (ix3 0 0 q)) * w (ix2 0 q)) (e (ix3 0 i j)) j * y (ix3 0 i j) := by
  have h : ∀ i : Fin 256, k0_pay25 w (k0_pay10 x y a) (k0_pay12 x y a) (k0_pay13 x y a) (k0_pay16 s) (k0_pay17 e) (k0_pay18 d) (ix2 i j) * k0_pay8 y (ix2 i j) = _ := fun i => by rw [pay25_at, pay24_at, pay8_at]
  refine Eq.trans ?_ (Finset.sum_congr rfl fun i _ => h i)
  pointwise [k0_pay26]
theorem pay27_at : k0_pay27 w (k0_pay10 x y a) (k0_pay12 x y a) (k0_pay13 x y a) (k0_pay16 s) (k0_pay17 e) (k0_pay18 d) (ix3 0 i j) = dnrm (fun q => x (ix3 0 i q) + a (ix3 0 0 q) * y (ix3 0 i q)) (fun q => d (ix3 0 i q) * (k 0x3F800000#32 + s (ix3 0 0 q)) * w (ix2 0 q)) (e (ix3 0 i j)) j := by
  rw [← pay24_at x y d e a s w i j]
  pointwise [k0_pay27]
theorem pay28_at : k0_pay28 (k0_pay9 a) w (k0_pay10 x y a) (k0_pay12 x y a) (k0_pay13 x y a) (k0_pay16 s) (k0_pay17 e) (k0_pay18 d) (ix3 0 i j) = a (ix3 0 0 j) * dnrm (fun q => x (ix3 0 i q) + a (ix3 0 0 q) * y (ix3 0 i q)) (fun q => d (ix3 0 i q) * (k 0x3F800000#32 + s (ix3 0 0 q)) * w (ix2 0 q)) (e (ix3 0 i j)) j := by
  rw [← pay24_at x y d e a s w i j, ← pay25_at, ← pay9_at a j]
  pointwise [k0_pay28]
theorem pay1_at : k0_pay1 u (ix3 0 0 j) = u (ix2 0 j) := by
  pointwise [k0_pay1]
theorem pay2_at : k0_pay2 u p (ix3 0 0 j) = p (ix3 0 0 j) + u (ix2 0 j) := by
  pointwise [k0_pay2]
theorem pay3_at (p : Vec Ideal S1x1024 .f32) : k0_pay3 u p (ix2 0 j) = p (ix2 0 j) + u (ix2 0 j) := by
  pointwise [k0_pay3]
theorem pay4_at : k0_pay4 u (ix3 0 0 j) = u (ix2 0 j) := by
  pointwise [k0_pay4]
theorem pay5_at : k0_pay5 u p (ix3 0 0 j) = p (ix3 0 0 j) + u (ix2 0 j) := by
  pointwise [k0_pay5]
theorem pay6_at : k0_pay6 u (ix3 0 0 j) = u (ix2 0 j) := by
  pointwise [k0_pay6]
theorem pay7_at : k0_pay7 u p (ix3 0 0 j) = p (ix3 0 0 j) + u (ix2 0 j) := by
  pointwise [k0_pay7]
end

theorem x0_at (c : Dev nD) (t : Fin cfg0.N) (i : Fin 256) (j : Fin 1024) : b0 m c t (ix3 0 i j) = X m c (ix3 (pb t.val) (pi t.val i) j) := by
  have := tN t
  blk_simp [b0, iblk]
  show V m c main_arg0 _ = _
  rw [V_main_arg0]
  congr 1
  blk_ext [e0]
theorem x1_at (c : Dev nD) (t : Fin cfg0.N) (i : Fin 256) (j : Fin 1024) : b1 m c t (ix3 0 i j) = Y m c (ix3 (pb t.val) (pi t.val i) j) := by
  have := tN t
  blk_simp [b1, iblk]
  show V m c main_arg1 _ = _
  rw [V_main_arg1]
  congr 1
  blk_ext [e1]
theorem x2_at (c : Dev nD) (t : Fin cfg0.N) (j : Fin 1024) : b2 m c t (ix3 0 0 j) = A m c (ix3 (pb t.val) 0 j) := by
  have := tN t
  blk_simp [b2, iblk]
  show V m c main_arg2 _ = _
  rw [V_main_arg2]
  congr 1
  blk_ext [e2]
theorem x3_at (c : Dev nD) (t : Fin cfg0.N) (j : Fin 1024) : b3 m c t (ix2 0 j) = W m c (ix2 0 j) := by
  have := tN t
  blk_simp [b3, iblk]
  show V m c main_arg3 _ = _
  rw [V_main_arg3]
  congr 1
  blk_ext [e3]
theorem x4_at (c : Dev nD) (t : Fin cfg0.N) (j : Fin 1024) : b4 m c t (ix3 0 0 j) = C m c (ix3 (pb t.val) 0 j) := by
  have := tN t
  blk_simp [b4, iblk]
  show V m c main_arg4 _ = _
  rw [V_main_arg4]
  congr 1
  blk_ext [e4]
theorem x6_at (c : Dev nD) (t : Fin cfg0.N) (i : Fin 256) (j : Fin 1024) : b6 m c t (ix3 0 i j) = E m c (ix3 (pb t.val) (pi t.val i) j) := by
  have := tN t
  blk_simp [b6, iblk]
  show V m c main_arg6 _ = _
  rw [V_main_arg6]
  congr 1
  blk_ext [e6]
theorem x7_at (c : Dev nD) (t : Fin cfg0.N) (i : Fin 256) (j : Fin 1024) : b7 m c t (ix3 0 i j) = D m c (ix3 (pb t.val) (pi t.val i) j) := by
  have := tN t
  blk_simp [b7, iblk]
  show V m c main_arg7 _ = _
  rw [V_main_arg7]
  congr 1
  blk_ext [e7]

/-! The reference, entry by entry. -/
section
variable (x y e d : (⟨Cert.CtxNormBwdRefIdeal.S4x256x1024, .f32⟩ : BufTy).Contents (Elt Ideal)) (a s : (⟨Cert.CtxNormBwdRefIdeal.S4x1x1024, .f32⟩ : BufTy).Contents (Elt Ideal))
  (w : (⟨Cert.CtxNormBwdRefIdeal.S1x1024, .f32⟩ : BufTy).Contents (Elt Ideal)) (b : Fin 4) (i : Fin 256) (j : Fin 1024)
theorem v2_at : val_main_v2 (F := Ideal) x y a (ix3 b i j) = x (ix3 b i j) + a (ix3 b 0 j) * y (ix3 b i j) := by
  pointwise [val_main_v2, val_main_v1, val_main_v0]
theorem v9_at : val_main_v9 (F := Ideal) x y a (ix3 b i 0) = ms (fun q => x (ix3 b i q) + a (ix3 b 0 q) * y (ix3 b i q)) := by
  have h : (fun q => x (ix3 b i q) + a (ix3 b 0 q) * y (ix3 b i q)) = fun q => val_main_v2 (F := Ideal) x y a (ix3 b i q) := funext fun q => (v2_at x y a b i q).symm
  rw [h]
  unfold ms
  pointwise [val_main_v9, val_main_v8, val_main_v7, val_main_v6, val_main_v5, val_main_v4, val_main_v3, val_main_cst, val_main_cst_0, val_main_cst_1]
theorem v10_at : val_main_v10 (F := Ideal) x y a (ix3 b i 0) = irms (fun q => x (ix3 b i q) + a (ix3 b 0 q) * y (ix3 b i q)) := by
  rw [show irms (fun q => x (ix3 b i q) + a (ix3 b 0 q) * y (ix3 b i q)) = Ideal.rsqrt (ms (fun q => x (ix3 b i q) + a (ix3 b 0 q) * y (ix3 b i q))) from rfl, ← v9_at]
  pointwise [val_main_v10]
theorem v13_at : val_main_v13 (F := Ideal) x y a (ix3 b i 0) = k 0xBF000000#32 * Ideal.div (irms (fun q => x (ix3 b i q) + a (ix3 b 0 q) * y (ix3 b i q))) (ms (fun q => x (ix3 b i q) + a (ix3 b 0 q) * y (ix3 b i q))) := by
  rw [← v9_at, ← v10_at]
  pointwise [val_main_v13, val_main_v12, val_main_v11, val_main_cst_2]
theorem v15_at : val_main_v15 (F := Ideal) x y a (ix3 b i j) = (x (ix3 b i j) + a (ix3 b 0 j) * y (ix3 b i j)) * irms (fun q => x (ix3 b i q) + a (ix3 b 0 q) * y (ix3 b i q)) := by
  rw [← v10_at, ← v2_at]
  pointwise [val_main_v15, val_main_v14]
theorem v18_at : val_main_v18 (F := Ideal) x y a w (ix3 b i j) = (x (ix3 b i j) + a (ix3 b 0 j) * y (ix3 b i j)) * irms (fun q => x (ix3 b i q) + a (ix3 b 0 q) * y (ix3 b i q)) * w (ix2 0 j) := by
  rw [← v15_at]
  pointwise [val_main_v18, val_main_v17, val_main_v16]
theorem v25_at : val_main_v25 (F := Ideal) d (ix3 b i j) = d (ix3 b i j) := by
  pointwise [val_main_v25]
theorem v27_at : val_main_v27 (F := Ideal) d (ix3 b 0 j) = ∑ i : Fin 256, d (ix3 b i j) := by
  pointwise [val_main_v27, val_main_v26, val_main_cst_4]
theorem v30_at : val_main_v30 (F := Ideal) x y a w d (ix3 b 0 j) = ∑ i : Fin 256, (x (ix3 b i j) + a (ix3 b 0 j) * y (ix3 b i j)) * irms (fun q => x (ix3 b i q) + a (ix3 b 0 q) * y (ix3 b i q)) * w (ix2 0 j) * d (ix3 b i j) := by
  have h : ∀ i : Fin 256, val_main_v18 (F := Ideal) x y a w (ix3 b i j) * val_main_v25 (F := Ideal) d (ix3 b i j) = _ := fun i => by rw [v18_at, v25_at]
  refine Eq.trans ?_ (Finset.sum_congr rfl fun i _ => h i)
  pointwise [val_main_v30, val_main_v29, val_main_v28, val_main_cst_5]
theorem v32_at : val_main_v32 (F := Ideal) s d (ix3 b i j) = d (ix3 b i j) * (k 0x3F800000#32 + s (ix3 b 0 j)) := by
  rw [← v25_at d b i j]
  pointwise [val_main_v32, val_main_v31, val_main_v20, val_main_v19, val_main_cst_3]
theorem v33_at : val_main_v33 (F := Ideal) x y a s d (ix3 b i j) = (x (ix3 b i j) + a (ix3 b 0 j) * y (ix3 b i j)) * irms (fun q => x (ix3 b i q) + a (ix3 b 0 q) * y (ix3 b i q)) * (d (ix3 b i j) * (k 0x3F800000#32 + s (ix3 b 0 j))) := by
  rw [← v15_at, ← v32_at]
  pointwise [val_main_v33]
theorem v34_at : val_main_v34 (F := Ideal) x y a s d (ix1 j) = ∑ b : Fin 4, ∑ i : Fin 256, val_main_v33 (F := Ideal) x y a s d (ix3 b i j) := by
  pointwise [val_main_v34, val_main_cst_6]
  exact (sum01 _ _ _ j).trans (zero_add _)
theorem v38_at : val_main_v38 (F := Ideal) x y a s d (ix1 j) = val_main_v35 (F := Ideal) x y a s d (ix3 0 0 j) := by
  pointwise [val_main_v38, val_main_cst_7]
  exact (sum01 _ _ _ j).trans ((zero_add _).trans ((sum1 _).trans (sum1 _)))
theorem v39_at : val_main_v39 (F := Ideal) x y a s d (ix2 0 j)
    = ∑ b : Fin 4, ∑ i : Fin 256, (x (ix3 b i j) + a (ix3 b 0 j) * y (ix3 b i j)) * irms (fun q => x (ix3 b i q) + a (ix3 b 0 q) * y (ix3 b i q)) * (d (ix3 b i j) * (k 0x3F800000#32 + s (ix3 b 0 j))) := by
  refine Eq.trans ?_ (Finset.sum_congr rfl fun b _ => Finset.sum_congr rfl fun i _ => v33_at x y d a s b i j)
  rw [← v34_at]
  refine Eq.trans ?_ (Eq.trans (v38_at x y d a s j) ?_)
  · pointwise [val_main_v39]
  · pointwise [val_main_v35]
theorem v37_at : val_main_v37 (F := Ideal) w s d (ix3 b i j) = d (ix3 b i j) * (k 0x3F800000#32 + s (ix3 b 0 j)) * w (ix2 0 j) := by
  rw [← v32_at]
  pointwise [val_main_v37, val_main_v36, val_main_v16]
theorem v50_at : val_main_v50 (F := Ideal) x y a w s d (ix3 b i j) = cor (fun q => x (ix3 b i q) + a (ix3 b 0 q) * y (ix3 b i q)) (fun q => d (ix3 b i q) * (k 0x3F800000#32 + s (ix3 b 0 q)) * w (ix2 0 q)) := by
  unfold cor
  rw [← v13_at]
  have h : ∀ q : Fin 1024, val_main_v2 (F := Ideal) x y a (ix3 b i q) * val_main_v37 (F := Ideal) w s d (ix3 b i q) = _ := fun q => by rw [v2_at, v37_at]
  rw [← Finset.sum_congr rfl fun q _ => h q]
  pointwise [val_main_v50, val_main_v49, val_main_v48, val_main_v47, val_main_v46, val_main_v42, val_main_v41, val_main_v40, val_main_cst_8, val_main_cst_9, val_main_cst_10]
  simp only [sum1]
theorem v54_at : val_main_v54 (F := Ideal) x y a w s e d (ix3 b i j) = dnrm (fun q => x (ix3 b i q) + a (ix3 b 0 q) * y (ix3 b i q)) (fun q => d (ix3 b i q) * (k 0x3F800000#32 + s (ix3 b 0 q)) * w (ix2 0 q)) (e (ix3 b i j)) j := by
  unfold dnrm
  dsimp only
  rw [← v50_at x y d a s w b i j, ← v10_at, ← v37_at, ← v2_at]
  pointwise [val_main_v54, val_main_v53, val_main_v52, val_main_v51, val_main_v45, val_main_v44, val_main_v43]
theorem v55_at : val_main_v55 (F := Ideal) x y a w s e d (ix3 b i j) = dnrm (fun q => x (ix3 b i q) + a (ix3 b 0 q) * y (ix3 b i q)) (fun q => d (ix3 b i q) * (k 0x3F800000#32 + s (ix3 b 0 q)) * w (ix2 0 q)) (e (ix3 b i j)) j := by
  rw [← v54_at]
  pointwise [val_main_v55]
theorem v61_at : val_main_v61 (F := Ideal) x y a w s e d (ix3 b i j) = a (ix3 b 0 j) * dnrm (fun q => x (ix3 b i q) + a (ix3 b 0 q) * y (ix3 b i q)) (fun q => d (ix3 b i q) * (k 0x3F800000#32 + s (ix3 b 0 q)) * w (ix2 0 q)) (e (ix3 b i j)) j := by
  rw [← v55_at]
  pointwise [val_main_v61, val_main_v57, val_main_v56]
theorem v60_at : val_main_v60 (F := Ideal) x y a w s e d (ix3 b 0 j) = ∑ i : Fin 256, dnrm (fun q => x (ix3 b i q) + a (ix3 b 0 q) * y (ix3 b i q)) (fun q => d (ix3 b i q) * (k 0x3F800000#32 + s (ix3 b 0 q)) * w (ix2 0 q)) (e (ix3 b i j)) j * y (ix3 b i j) := by
  have h : ∀ i : Fin 256, val_main_v55 (F := Ideal) x y a w s e d (ix3 b i j) * y (ix3 b i j) = _ := fun i => by rw [v55_at]
  refine Eq.trans ?_ (Finset.sum_congr rfl fun i _ => h i)
  pointwise [val_main_v60, val_main_v59, val_main_v58, val_main_cst_11]
end

/-! The four column sums of point `t`: the gate's, the weight's, the scale's and the shift's. -/
def gA (c : Dev nD) (t : Nat) (j : Fin 1024) : EReal := ∑ i : Fin 256, dnrm (fun q => X m c (ix3 (pb t) (pi t i) q) + A m c (ix3 (pb t) 0 q) * Y m c (ix3 (pb t) (pi t i) q)) (fun q => D m c (ix3 (pb t) (pi t i) q) * (k 0x3F800000#32 + C m c (ix3 (pb t) 0 q)) * W m c (ix2 0 q)) (E m c (ix3 (pb t) (pi t i) j)) j * Y m c (ix3 (pb t) (pi t i) j)
def gW (c : Dev nD) (t : Nat) (j : Fin 1024) : EReal := ∑ i : Fin 256, (X m c (ix3 (pb t) (pi t i) j) + A m c (ix3 (pb t) 0 j) * Y m c (ix3 (pb t) (pi t i) j)) * irms (fun q => X m c (ix3 (pb t) (pi t i) q) + A m c (ix3 (pb t) 0 q) * Y m c (ix3 (pb t) (pi t i) q)) * (D m c (ix3 (pb t) (pi t i) j) * (k 0x3F800000#32 + C m c (ix3 (pb t) 0 j)))
def gC (c : Dev nD) (t : Nat) (j : Fin 1024) : EReal := ∑ i : Fin 256, (X m c (ix3 (pb t) (pi t i) j) + A m c (ix3 (pb t) 0 j) * Y m c (ix3 (pb t) (pi t i) j)) * irms (fun q => X m c (ix3 (pb t) (pi t i) q) + A m c (ix3 (pb t) 0 q) * Y m c (ix3 (pb t) (pi t i) q)) * W m c (ix2 0 j) * D m c (ix3 (pb t) (pi t i) j)
def gH (c : Dev nD) (t : Nat) (j : Fin 1024) : EReal := ∑ i : Fin 256, D m c (ix3 (pb t) (pi t i) j)
theorem gA_at (c : Dev nD) (t : Fin cfg0.N) (j : Fin 1024) : (k0_pay26 (k0_pay8 (b1 m c t)) (b3 m c t) (k0_pay10 (b0 m c t) (b1 m c t) (b2 m c t)) (k0_pay12 (b0 m c t) (b1 m c t) (b2 m c t)) (k0_pay13 (b0 m c t) (b1 m c t) (b2 m c t)) (k0_pay16 (b4 m c t)) (k0_pay17 (b6 m c t)) (k0_pay18 (b7 m c t))) (ix2 0 j) = gA m c t.val j := by
  rw [pay26_at]
  simp only [x0_at, x1_at, x2_at, x3_at, x4_at, x6_at, x7_at]
  rfl
theorem gW_at (c : Dev nD) (t : Fin cfg0.N) (j : Fin 1024) : (k0_pay23 (k0_pay14 (b0 m c t) (b1 m c t) (b2 m c t)) (k0_pay16 (b4 m c t)) (k0_pay18 (b7 m c t))) (ix2 0 j) = gW m c t.val j := by
  rw [pay23_at]
  simp only [x0_at, x1_at, x2_at, x3_at, x4_at, x6_at, x7_at]
  rfl
theorem gC_at (c : Dev nD) (t : Fin cfg0.N) (j : Fin 1024) : (k0_pay21 (k0_pay15 (b0 m c t) (b1 m c t) (b2 m c t) (b3 m c t)) (k0_pay18 (b7 m c t))) (ix2 0 j) = gC m c t.val j := by
  rw [pay21_at]
  simp only [x0_at, x1_at, x2_at, x3_at, x4_at, x6_at, x7_at]
  rfl
theorem gH_at (c : Dev nD) (t : Fin cfg0.N) (j : Fin 1024) : (k0_pay20 (k0_pay18 (b7 m c t))) (ix2 0 j) = gH m c t.val j := by
  rw [pay20_at]
  simp only [x7_at]
  rfl

/-- The weight's sum after a point: the sums of the points so far. -/
theorem accW (c : Dev nD) (j : Fin 1024) (n : Nat) : ∀ h : n < cfg0.N, (outsAt0 m c n h).2.2.2.1 (ix2 0 j) = ∑ s ∈ Finset.range (n + 1), gW m c s j := by
  induction n with
  | zero =>
    intro h
    rw [outsAt0_A m c ⟨0, h⟩ rfl (by dsimp only; omega)]
    frame_out
    refine (gW_at m c ⟨0, h⟩ j).trans ?_
    rw [Finset.sum_range_one]
  | succ n ih =>
    intro h
    have hN := tN ⟨n + 1, h⟩
    rw [outsAt0_B m c ⟨n + 1, h⟩ (by dsimp only at hN ⊢; omega) (by dsimp only; omega)]
    frame_out
    refine (pay3_at (k0_pay23 (k0_pay14 (b0 m c ⟨n + 1, h⟩) (b1 m c ⟨n + 1, h⟩) (b2 m c ⟨n + 1, h⟩)) (k0_pay16 (b4 m c ⟨n + 1, h⟩)) (k0_pay18 (b7 m c ⟨n + 1, h⟩))) j _).trans ?_
    rw [Finset.sum_range_succ]
    exact congrArg₂ _ (ih _) (gW_at m c ⟨n + 1, h⟩ j)

/-- The arrays after the run are the reference's. -/
theorem arr8 (c : Dev nD) : (dats m 0 c).arrAt 8 cfg0.N = val_main_v54 (F := Ideal) (X m c) (Y m c) (A m c) (W m c) (C m c) (E m c) (D m c) := by
  refine (dats m 0 c).arrAt_eq_of_covers 8 _ (by decide +kernel) fun t hf y => ?_
  blk_simp
  have hN := tN t
  obtain ⟨i, j, rfl⟩ : ∃ (i : Fin 256) (j : Fin 1024), y = ix3 0 i j := ⟨y 1, y 2, by blk_ext []⟩
  rw [show ((win0_8.blk t).view.emb (ix3 0 i j)) = ix3 (pb t.val) (pi t.val i) j by blk_ext [e8], v54_at, after0_8]
  rcases (by omega : t.val % 4 = 0 ∧ ¬1 ≤ t.val ∨ ¬t.val % 4 = 0 ∧ 1 ≤ t.val) with ⟨h0, h1⟩ | ⟨h0, h1⟩
  · rw [outsAt0_A m c t h0 h1]
    frame_out
    refine (pay27_at (b0 m c t) (b1 m c t) (b7 m c t) (b6 m c t) (b2 m c t) (b4 m c t) (b3 m c t) i j).trans ?_
    simp only [x0_at, x1_at, x2_at, x3_at, x4_at, x6_at, x7_at]
  · rw [outsAt0_B m c t h0 h1]
    frame_out
    refine (pay27_at (b0 m c t) (b1 m c t) (b7 m c t) (b6 m c t) (b2 m c t) (b4 m c t) (b3 m c t) i j).trans ?_
    simp only [x0_at, x1_at, x2_at, x3_at, x4_at, x6_at, x7_at]
theorem arr9 (c : Dev nD) : (dats m 0 c).arrAt 9 cfg0.N = val_main_v61 (F := Ideal) (X m c) (Y m c) (A m c) (W m c) (C m c) (E m c) (D m c) := by
  refine (dats m 0 c).arrAt_eq_of_covers 9 _ (by decide +kernel) fun t hf y => ?_
  blk_simp
  have hN := tN t
  obtain ⟨i, j, rfl⟩ : ∃ (i : Fin 256) (j : Fin 1024), y = ix3 0 i j := ⟨y 1, y 2, by blk_ext []⟩
  rw [show ((win0_9.blk t).view.emb (ix3 0 i j)) = ix3 (pb t.val) (pi t.val i) j by blk_ext [e9], v61_at, after0_9]
  rcases (by omega : t.val % 4 = 0 ∧ ¬1 ≤ t.val ∨ ¬t.val % 4 = 0 ∧ 1 ≤ t.val) with ⟨h0, h1⟩ | ⟨h0, h1⟩
  · rw [outsAt0_A m c t h0 h1]
    frame_out
    refine (pay28_at (b0 m c t) (b1 m c t) (b7 m c t) (b6 m c t) (b2 m c t) (b4 m c t) (b3 m c t) i j).trans ?_
    simp only [x0_at, x1_at, x2_at, x3_at, x4_at, x6_at, x7_at]
  · rw [outsAt0_B m c t h0 h1]
    frame_out
    refine (pay28_at (b0 m c t) (b1 m c t) (b7 m c t) (b6 m c t) (b2 m c t) (b4 m c t) (b3 m c t) i j).trans ?_
    simp only [x0_at, x1_at, x2_at, x3_at, x4_at, x6_at, x7_at]
theorem arr11 (c : Dev nD) : (dats m 0 c).arrAt 11 cfg0.N = val_main_v39 (F := Ideal) (X m c) (Y m c) (A m c) (C m c) (D m c) := by
  refine (dats m 0 c).arrAt_eq_of_covers 11 _ (by decide +kernel) fun t hf y => ?_
  blk_simp
  have hN := tN t
  have h3 : t.val % 4 = 3 := (flush0_11 t).mp hf
  obtain ⟨j, rfl⟩ : ∃ (j : Fin 1024), y = ix2 0 j := ⟨y 1, by blk_ext []⟩
  rw [show ((win0_11.blk t).view.emb (ix2 0 j)) = ix2 0 j by blk_ext [e11], v39_at, after0_11]
  refine (accW m c j t.val t.isLt).trans ?_
  rw [show t.val + 1 = 4 by omega, Finset.sum_range]
  refine Finset.sum_congr rfl fun b _ => ?_
  unfold gW
  rw [show pb b.val = b from Fin.ext (by have := b.isLt; show b.val / 1 % 4 = b.val; omega)]
  refine Finset.sum_congr rfl fun i _ => ?_
  rw [show pi b.val i = i from Fin.ext (by show 256 * (b.val % 1) + i.val = i.val; omega)]
theorem arr10 (c : Dev nD) : (dats m 0 c).arrAt 10 cfg0.N = val_main_v60 (F := Ideal) (X m c) (Y m c) (A m c) (W m c) (C m c) (E m c) (D m c) := by
  refine (dats m 0 c).arrAt_eq_of_covers 10 _ (by decide +kernel) fun t hf y => ?_
  blk_simp
  have hN := tN t
  obtain ⟨j, rfl⟩ : ∃ (j : Fin 1024), y = ix3 0 0 j := ⟨y 2, by blk_ext []⟩
  have hr : gA m c t.val j = val_main_v60 (F := Ideal) (X m c) (Y m c) (A m c) (W m c) (C m c) (E m c) (D m c) (ix3 (pb t.val) 0 j) := by
    rw [v60_at]
    refine Finset.sum_congr rfl fun i _ => ?_
    rw [show pi t.val i = i from Fin.ext (by show 256 * (t.val % 1) + i.val = i.val; omega)]
  rw [show ((win0_10.blk t).view.emb (ix3 0 0 j)) = ix3 (pb t.val) 0 j by blk_ext [e10], ← hr, after0_10]
  rcases (by omega : t.val % 4 = 0 ∧ ¬1 ≤ t.val ∨ ¬t.val % 4 = 0 ∧ 1 ≤ t.val) with ⟨h0, h1⟩ | ⟨h0, h1⟩
  · rw [outsAt0_A m c t h0 h1]
    frame_out
    exact (pay1_at (k0_pay26 (k0_pay8 (b1 m c t)) (b3 m c t) (k0_pay10 (b0 m c t) (b1 m c t) (b2 m c t)) (k0_pay12 (b0 m c t) (b1 m c t) (b2 m c t)) (k0_pay13 (b0 m c t) (b1 m c t) (b2 m c t)) (k0_pay16 (b4 m c t)) (k0_pay17 (b6 m c t)) (k0_pay18 (b7 m c t))) j).trans (gA_at m c t j)
  · rw [outsAt0_B m c t h0 h1]
    frame_out
    exact (pay1_at (k0_pay26 (k0_pay8 (b1 m c t)) (b3 m c t) (k0_pay10 (b0 m c t) (b1 m c t) (b2 m c t)) (k0_pay12 (b0 m c t) (b1 m c t) (b2 m c t)) (k0_pay13 (b0 m c t) (b1 m c t) (b2 m c t)) (k0_pay16 (b4 m c t)) (k0_pay17 (b6 m c t)) (k0_pay18 (b7 m c t))) j).trans (gA_at m c t j)
theorem arr12 (c : Dev nD) : (dats m 0 c).arrAt 12 cfg0.N = val_main_v30 (F := Ideal) (X m c) (Y m c) (A m c) (W m c) (D m c) := by
  refine (dats m 0 c).arrAt_eq_of_covers 12 _ (by decide +kernel) fun t hf y => ?_
  blk_simp
  have hN := tN t
  obtain ⟨j, rfl⟩ : ∃ (j : Fin 1024), y = ix3 0 0 j := ⟨y 2, by blk_ext []⟩
  have hr : gC m c t.val j = val_main_v30 (F := Ideal) (X m c) (Y m c) (A m c) (W m c) (D m c) (ix3 (pb t.val) 0 j) := by
    rw [v30_at]
    refine Finset.sum_congr rfl fun i _ => ?_
    rw [show pi t.val i = i from Fin.ext (by show 256 * (t.val % 1) + i.val = i.val; omega)]
  rw [show ((win0_12.blk t).view.emb (ix3 0 0 j)) = ix3 (pb t.val) 0 j by blk_ext [e12], ← hr, after0_12]
  rcases (by omega : t.val % 4 = 0 ∧ ¬1 ≤ t.val ∨ ¬t.val % 4 = 0 ∧ 1 ≤ t.val) with ⟨h0, h1⟩ | ⟨h0, h1⟩
  · rw [outsAt0_A m c t h0 h1]
    frame_out
    exact (pay4_at (k0_pay21 (k0_pay15 (b0 m c t) (b1 m c t) (b2 m c t) (b3 m c t)) (k0_pay18 (b7 m c t))) j).trans (gC_at m c t j)
  · rw [outsAt0_B m c t h0 h1]
    frame_out
    exact (pay4_at (k0_pay21 (k0_pay15 (b0 m c t) (b1 m c t) (b2 m c t) (b3 m c t)) (k0_pay18 (b7 m c t))) j).trans (gC_at m c t j)
theorem arr13 (c : Dev nD) : (dats m 0 c).arrAt 13 cfg0.N = val_main_v27 (F := Ideal) (D m c) := by
  refine (dats m 0 c).arrAt_eq_of_covers 13 _ (by decide +kernel) fun t hf y => ?_
  blk_simp
  have hN := tN t
  obtain ⟨j, rfl⟩ : ∃ (j : Fin 1024), y = ix3 0 0 j := ⟨y 2, by blk_ext []⟩
  have hr : gH m c t.val j = val_main_v27 (F := Ideal) (D m c) (ix3 (pb t.val) 0 j) := by
    rw [v27_at]
    refine Finset.sum_congr rfl fun i _ => ?_
    rw [show pi t.val i = i from Fin.ext (by show 256 * (t.val % 1) + i.val = i.val; omega)]
  rw [show ((win0_13.blk t).view.emb (ix3 0 0 j)) = ix3 (pb t.val) 0 j by blk_ext [e13], ← hr, after0_13]
  rcases (by omega : t.val % 4 = 0 ∧ ¬1 ≤ t.val ∨ ¬t.val % 4 = 0 ∧ 1 ≤ t.val) with ⟨h0, h1⟩ | ⟨h0, h1⟩
  · rw [outsAt0_A m c t h0 h1]
    frame_out
    exact (pay6_at (k0_pay20 (k0_pay18 (b7 m c t))) j).trans (gH_at m c t j)
  · rw [outsAt0_B m c t h0 h1]
    frame_out
    exact (pay6_at (k0_pay20 (k0_pay18 (b7 m c t))) j).trans (gH_at m c t j)

end Cert.CtxNormBwdIdeal.Gen

namespace Cert.Proof.CtxNormBwd

open Idealize.ShloMosaic Idealize.SL.Sem Idealize.ShloMosaic.Tactic

/-- The two programs have one text, so the run over the machine's floats is the other's. -/
theorem frame_bits : Cert.quiescent_CtxNormBwd := by
  intro m g _
  refine Eq.mp ?_ (Cert.CtxNormBwdIdeal.Gen.frame (F := Bits) m g)
  sl_kernel_rfl
theorem frame_ideal : Cert.quiescent_CtxNormBwdIdeal := fun m g _ => Cert.CtxNormBwdIdeal.Gen.frame m g
theorem frame_ref : Cert.quiescent_CtxNormBwdRefIdeal := fun m g _ =>
  (θ_run Cert.CtxNormBwdRefIdeal.defs _ _).mono (fun r h => ⟨fun c => (h c).2.2.2.2.2.2, sem_eq_zero_of_no_sems (by decide) r.2⟩)
    (Cert.CtxNormBwdRefIdeal.Value.run (F := Ideal) m g)

theorem algebraic : Cert.algebraic_CtxNormBwdIdeal_CtxNormBwdRefIdeal := by
  intro m g m' g' hpre hagree
  refine ⟨fun c => (Cert.CtxNormBwdIdeal.Gen.dats m 0 c).arrAt 8 Cert.CtxNormBwdIdeal.cfg0.N, fun c => (Cert.CtxNormBwdIdeal.Gen.dats m 0 c).arrAt 9 Cert.CtxNormBwdIdeal.cfg0.N, fun c => (Cert.CtxNormBwdIdeal.Gen.dats m 0 c).arrAt 10 Cert.CtxNormBwdIdeal.cfg0.N, fun c => (Cert.CtxNormBwdIdeal.Gen.dats m 0 c).arrAt 11 Cert.CtxNormBwdIdeal.cfg0.N, fun c => (Cert.CtxNormBwdIdeal.Gen.dats m 0 c).arrAt 12 Cert.CtxNormBwdIdeal.cfg0.N, fun c => (Cert.CtxNormBwdIdeal.Gen.dats m 0 c).arrAt 13 Cert.CtxNormBwdIdeal.cfg0.N,
    Cert.CtxNormBwdIdeal.Value.run_blocks m g,
    (θ_run Cert.CtxNormBwdRefIdeal.defs _ _).mono (fun r h c => ?_) (Cert.CtxNormBwdRefIdeal.Value.run (F := Ideal) m' g')⟩
  obtain ⟨h0, h1, h2, h3, h4, h5, ha⟩ := h c
  obtain ⟨e0, e1, e2, e3, e4, e5, e6, e7⟩ := hagree c
  refine ⟨h0.trans ?_, h1.trans ?_, h2.trans ?_, h3.trans ?_, h4.trans ?_, h5.trans ?_, ha⟩
  · rw [Cert.CtxNormBwdRefIdeal.Read.val_main_v54_eq, e0, e1, e2, e3, e4, e6, e7]
    exact (Cert.CtxNormBwdIdeal.Gen.arr8 m c).symm
  · rw [Cert.CtxNormBwdRefIdeal.Read.val_main_v61_eq, e0, e1, e2, e3, e4, e6, e7]
    exact (Cert.CtxNormBwdIdeal.Gen.arr9 m c).symm
  · rw [Cert.CtxNormBwdRefIdeal.Read.val_main_v60_eq, e0, e1, e2, e3, e4, e6, e7]
    exact (Cert.CtxNormBwdIdeal.Gen.arr10 m c).symm
  · refine (Cert.CtxNormBwdRefIdeal.Read.val_main_v39_eq _ _ _ _ _).trans ?_
    rw [e0, e1, e2, e4, e7]
    exact (Cert.CtxNormBwdIdeal.Gen.arr11 m c).symm
  · refine (Cert.CtxNormBwdRefIdeal.Read.val_main_v30_eq _ _ _ _ _).trans ?_
    rw [e0, e1, e2, e3, e7]
    exact (Cert.CtxNormBwdIdeal.Gen.arr12 m c).symm
  · refine (Cert.CtxNormBwdRefIdeal.Read.val_main_v27_eq _).trans ?_
    rw [e7]
    exact (Cert.CtxNormBwdIdeal.Gen.arr13 m c).symm

end Cert.Proof.CtxNormBwd

end
-- ==== Proof.MmNormFirstBwd.lean ====
module

public import proofs.«01_k».proof.Defs
public import proofs.«01_k».proof.Proof.Rms
public import proofs.«01_k».proof.Proof.Gen.NormFirstBwd
public import proofs.«01_k».proof.Proof.Gen.NormFirstBwdIdeal
public import proofs.«01_k».proof.Proof.Gen.NormFirstBwdIdeal.Frame
public import proofs.«01_k».proof.Proof.Gen.NormFirstBwdIdeal.Value
public import proofs.«01_k».proof.Proof.Gen.NormFirstBwdRefIdeal
public import proofs.«01_k».proof.Proof.Gen.NormFirstBwdRefIdeal.Read
public import Idealize.ShloMosaic.Lib.Pointwise
public import Idealize.ShloMosaic.Lib.StableHlo.ReadAt
public import Idealize.ShloMosaic.Lib.Pipeline.ValueKit.Geometry
public import Idealize.ShloMosaic.Lib.Pipeline.ValueKit.Acc

@[expose] public section

set_option maxRecDepth 16384

noncomputable section

namespace Cert.NormFirstBwdIdeal.Gen

open Cert.NormFirstBwdIdeal Idealize.ShloMosaic Idealize.ShloMosaic.TcCoe Idealize.SL Idealize.SL.Sem
open Idealize.ShloMosaic.Pipeline (Dat Cfg Window)
open Cert.NormFirstBwdRefIdeal.Read
open scoped BigOperators

open Cert.Proof.Rms (k irms ms cor dnrm sum01 sum1 quarters sixteen)

variable (m : (ℓ : Loc nD τ sig) → Buf (Elt Ideal) ℓ)

/-- The residual, the norm's weight, the scale and the two cotangents on core `c`. -/
abbrev X (c : Dev nD) : FVec Ideal S4x2048x1024 .f32 := m ((c : Thread nD τ).loc main_arg0)
abbrev W (c : Dev nD) : FVec Ideal S1x1024 .f32 := m ((c : Thread nD τ).loc main_arg1)
abbrev C (c : Dev nD) : FVec Ideal S4x1x1024 .f32 := m ((c : Thread nD τ).loc main_arg2)
abbrev E (c : Dev nD) : FVec Ideal S4x2048x1024 .f32 := m ((c : Thread nD τ).loc main_arg4)
abbrev D (c : Dev nD) : FVec Ideal S4x2048x1024 .f32 := m ((c : Thread nD τ).loc main_arg5)

/-- A point's blocks. -/
abbrev b0 (c : Dev nD) (t : Fin cfg0.N) : Vec Ideal S1x512x1024 .f32 := iblk m c 0 t
abbrev b1 (c : Dev nD) (t : Fin cfg0.N) : Vec Ideal S1x1024 .f32 := iblk m c 1 t
abbrev b2 (c : Dev nD) (t : Fin cfg0.N) : Vec Ideal S1x1x1024 .f32 := iblk m c 2 t
abbrev b4 (c : Dev nD) (t : Fin cfg0.N) : Vec Ideal S1x512x1024 .f32 := iblk m c 4 t
abbrev b5 (c : Dev nD) (t : Fin cfg0.N) : Vec Ideal S1x512x1024 .f32 := iblk m c 5 t

/-- The row of the batch and the rows of point `t`. -/
abbrev pb (t : Nat) : Fin 4 := ⟨t / 4 % 4, by omega⟩
abbrev pi (t : Nat) (i : Fin 512) : Fin 2048 := ⟨512 * (t % 4) + i.val, by omega⟩
theorem tN (t : Fin cfg0.N) : t.val < 16 := lt_of_lt_of_eq t.isLt (show cfg0.N = 16 from N_0)

theorem e0 : ∀ t : Fin cfg0.N, win0_0.index t = ![t.val / 4, t.val % 4, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val / 4, 0, 0] := (by decide +kernel : ∀ t : Fin grid0.N, _)
theorem e4 : ∀ t : Fin cfg0.N, win0_4.index t = ![t.val / 4, t.val % 4, 0] := (by decide +kernel : ∀ t : Fin grid0.N, _)
theorem e5 : ∀ t : Fin cfg0.N, win0_5.index t = ![t.val / 4, t.val % 4, 0] := (by decide +kernel : ∀ t : Fin grid0.N, _)
theorem e6 : ∀ t : Fin cfg0.N, win0_6.index t = ![t.val / 4, t.val % 4, 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![t.val / 4, 0, 0] := (by decide +kernel : ∀ t : Fin grid0.N, _)
theorem e9 : ∀ t : Fin cfg0.N, win0_9.index t = ![t.val / 4, 0, 0] := (by decide +kernel : ∀ t : Fin grid0.N, _)

/-! What a point computes, entry by entry. -/
section
variable (x d e : Vec Ideal S1x512x1024 .f32) (s p : Vec Ideal S1x1x1024 .f32) (w : Vec Ideal S1x1024 .f32) (u : FVec Ideal S1x1024 .f32) (i : Fin 512) (j : Fin 1024)

theorem pay3_at : k0_pay3 x (ix2 i j) = x (ix3 0 i j) := by
  pointwise [k0_pay3]
theorem pay4_at : k0_pay4 x (ix2 i 0) = ms (fun q => x (ix3 0 i q)) := by
  have h : (fun q => x (ix3 0 i q)) = fun q => k0_pay3 x (ix2 i q) := funext fun q => (pay3_at x i q).symm
  rw [h]
  unfold ms
  pointwise [k0_pay4]
theorem pay5_at : k0_pay5 x (ix2 i 0) = irms (fun q => x (ix3 0 i q)) := by
  rw [show irms (fun q => x (ix3 0 i q)) = Ideal.rsqrt (ms (fun q => x (ix3 0 i q))) from rfl, ← pay4_at]
  pointwise [k0_pay5]
theorem pay6_at : k0_pay6 x (ix2 i 0) = k 0xBF000000#32 * Ideal.div (irms (fun q => x (ix3 0 i q))) (ms (fun q => x (ix3 0 i q))) := by
  rw [← pay4_at, ← pay5_at]
  pointwise [k0_pay6]
theorem pay7_at : k0_pay7 x (ix2 i j) = x (ix3 0 i j) * irms (fun q => x (ix3 0 i q)) := by
  rw [← pay5_at, ← pay3_at x i j]
  pointwise [k0_pay7]
theorem pay8_at : k0_pay8 e (ix2 i j) = e (ix3 0 i j) := by
  pointwise [k0_pay8]
theorem pay9_at : k0_pay9 d (ix2 i j) = d (ix3 0 i j) := by
  pointwise [k0_pay9]
theorem pay10_at : k0_pay10 d (ix2 i j) = d (ix3 0 i j) := by
  rw [← pay9_at d i j]
  pointwise [k0_pay10]
theorem pay11_at : k0_pay11 d (ix2 0 j) = ∑ i : Fin 512, d (ix3 0 i j) := by
  refine Eq.trans ?_ (Finset.sum_congr rfl fun i _ => pay9_at d i j)
  pointwise [k0_pay11]
theorem pay12_at : k0_pay12 x w d (ix2 0 j) = ∑ i : Fin 512, x (ix3 0 i j) * irms (fun q => x (ix3 0 i q)) * w (ix2 0 j) * d (ix3 0 i j) := by
  have h : ∀ i : Fin 512, k0_pay7 x (ix2 i j) * w (ix2 0 j) * k0_pay10 d (ix2 i j) = _ := fun i => by rw [pay7_at, pay10_at]
  refine Eq.trans ?_ (Finset.sum_congr rfl fun i _ => h i)
  pointwise [k0_pay12]
theorem pay13_at : k0_pay13 s d (ix2 i j) = d (ix3 0 i j) * (k 0x3F800000#32 + s (ix3 0 0 j)) := by
  rw [← pay10_at d i j]
  pointwise [k0_pay13]
theorem pay14_at : k0_pay14 x s d (ix1 j) = ∑ i : Fin 512, x (ix3 0 i j) * irms (fun q => x (ix3 0 i q)) * (d (ix3 0 i j) * (k 0x3F800000#32 + s (ix3 0 0 j))) := by
  have h : ∀ i : Fin 512, k0_pay7 x (ix2 i j) * k0_pay13 s d (ix2 i j) = _ := fun i => by rw [pay7_at, pay13_at]
  refine Eq.trans ?_ (Finset.sum_congr rfl fun i _ => h i)
  pointwise [k0_pay14]
theorem pay15_at (u : FVec Ideal S1024 .f32) : k0_pay15 u (ix2 0 j) = u (ix1 j) := by
  pointwise [k0_pay15]
theorem pay17_at (u : FVec Ideal S1024 .f32) (p : Vec Ideal S1x1024 .f32) : k0_pay17 u p (ix2 0 j) = p (ix2 0 j) + u (ix1 j) := by
  rw [← pay15_at j u]
  pointwise [k0_pay17]
theorem pay1_at : k0_pay1 u (ix3 0 0 j) = u (ix2 0 j) := by
  pointwise [k0_pay1]
theorem pay2_at : k0_pay2 u p (ix3 0 0 j) = p (ix3 0 0 j) + u (ix2 0 j) := by
  pointwise [k0_pay2]
theorem pay18_at : k0_pay18 u (ix3 0 0 j) = u (ix2 0 j) := by
  pointwise [k0_pay18]
theorem pay19_at : k0_pay19 u p (ix3 0 0 j) = p (ix3 0 0 j) + u (ix2 0 j) := by
  pointwise [k0_pay19]
theorem pay16_gen (v1 v23 v33 : FVec Ideal S512x1024 .f32) (v12 v15 : FVec Ideal S512x1 .f32) :
    k0_pay16 v1 w v12 v15 v23 v33 (ix3 0 i j)
      = v23 (ix2 i j) + v33 (ix2 i j) * w (ix2 0 j) * v12 (ix2 i 0)
        + v1 (ix2 i j) * Ideal.div ((∑ q : Fin 1024, v1 (ix2 i q) * (v33 (ix2 i q) * w (ix2 0 q))) * v15 (ix2 i 0)) (k 0x44800000#32)
        + Ideal.div ((∑ q : Fin 1024, v1 (ix2 i q) * (v33 (ix2 i q) * w (ix2 0 q))) * v15 (ix2 i 0)) (k 0x44800000#32) * v1 (ix2 i j) := by
  pointwise [k0_pay16]
  simp only [sum1]
theorem pay16_at : k0_pay16 (k0_pay3 x) w (k0_pay5 x) (k0_pay6 x) (k0_pay8 e) (k0_pay13 s d) (ix3 0 i j)
    = dnrm (fun q => x (ix3 0 i q)) (fun q => d (ix3 0 i q) * (k 0x3F800000#32 + s (ix3 0 0 q)) * w (ix2 0 q)) (e (ix3 0 i j)) j := by
  rw [pay16_gen]
  simp only [pay3_at, pay5_at, pay6_at, pay8_at, pay13_at]
  rfl
end

theorem x0_at (c : Dev nD) (t : Fin cfg0.N) (i : Fin 512) (j : Fin 1024) : b0 m c t (ix3 0 i j) = X m c (ix3 (pb t.val) (pi t.val i) j) := by
  have := tN t
  blk_simp [b0, iblk]
  show V m c main_arg0 _ = _
  rw [V_main_arg0]
  congr 1
  blk_ext [e0]
theorem x1_at (c : Dev nD) (t : Fin cfg0.N) (j : Fin 1024) : b1 m c t (ix2 0 j) = W m c (ix2 0 j) := by
  have := tN t
  blk_simp [b1, iblk]
  show V m c main_arg1 _ = _
  rw [V_main_arg1]
  congr 1
  blk_ext [e1]
theorem x2_at (c : Dev nD) (t : Fin cfg0.N) (j : Fin 1024) : b2 m c t (ix3 0 0 j) = C m c (ix3 (pb t.val) 0 j) := by
  have := tN t
  blk_simp [b2, iblk]
  show V m c main_arg2 _ = _
  rw [V_main_arg2]
  congr 1
  blk_ext [e2]
theorem x4_at (c : Dev nD) (t : Fin cfg0.N) (i : Fin 512) (j : Fin 1024) : b4 m c t (ix3 0 i j) = E m c (ix3 (pb t.val) (pi t.val i) j) := by
  have := tN t
  blk_simp [b4, iblk]
  show V m c main_arg4 _ = _
  rw [V_main_arg4]
  congr 1
  blk_ext [e4]
theorem x5_at (c : Dev nD) (t : Fin cfg0.N) (i : Fin 512) (j : Fin 1024) : b5 m c t (ix3 0 i j) = D m c (ix3 (pb t.val) (pi t.val i) j) := by
  have := tN t
  blk_simp [b5, iblk]
  show V m c main_arg5 _ = _
  rw [V_main_arg5]
  congr 1
  blk_ext [e5]

/-! The reference, entry by entry. -/
section
variable (x e d : (⟨Cert.NormFirstBwdRefIdeal.S4x2048x1024, .f32⟩ : BufTy).Contents (Elt Ideal)) (s : (⟨Cert.NormFirstBwdRefIdeal.S4x1x1024, .f32⟩ : BufTy).Contents (Elt Ideal))
  (w : (⟨Cert.NormFirstBwdRefIdeal.S1x1024, .f32⟩ : BufTy).Contents (Elt Ideal)) (b : Fin 4) (i : Fin 2048) (j : Fin 1024)
theorem v6_at : val_main_v6 (F := Ideal) x (ix3 b i 0) = ms (fun q => x (ix3 b i q)) := by
  unfold ms
  pointwise [val_main_v6, val_main_v5, val_main_v4, val_main_v3, val_main_v2, val_main_v1, val_main_v0, val_main_cst, val_main_cst_0, val_main_cst_1]
theorem v7_at : val_main_v7 (F := Ideal) x (ix3 b i 0) = irms (fun q => x (ix3 b i q)) := by
  rw [show irms (fun q => x (ix3 b i q)) = Ideal.rsqrt (ms (fun q => x (ix3 b i q))) from rfl, ← v6_at]
  pointwise [val_main_v7]
theorem v10_at : val_main_v10 (F := Ideal) x (ix3 b i 0) = k 0xBF000000#32 * Ideal.div (irms (fun q => x (ix3 b i q))) (ms (fun q => x (ix3 b i q))) := by
  rw [← v6_at, ← v7_at]
  pointwise [val_main_v10, val_main_v9, val_main_v8, val_main_cst_2]
theorem v12_at : val_main_v12 (F := Ideal) x (ix3 b i j) = x (ix3 b i j) * irms (fun q => x (ix3 b i q)) := by
  rw [← v7_at]
  pointwise [val_main_v12, val_main_v11]
theorem v15_at : val_main_v15 (F := Ideal) x w (ix3 b i j) = x (ix3 b i j) * irms (fun q => x (ix3 b i q)) * w (ix2 0 j) := by
  rw [← v12_at]
  pointwise [val_main_v15, val_main_v14, val_main_v13]
theorem v22_at : val_main_v22 (F := Ideal) d (ix3 b i j) = d (ix3 b i j) := by
  pointwise [val_main_v22]
theorem v24_at : val_main_v24 (F := Ideal) d (ix3 b 0 j) = ∑ i : Fin 2048, d (ix3 b i j) := by
  pointwise [val_main_v24, val_main_v23, val_main_cst_4]
theorem v27_at : val_main_v27 (F := Ideal) x w d (ix3 b 0 j) = ∑ i : Fin 2048, x (ix3 b i j) * irms (fun q => x (ix3 b i q)) * w (ix2 0 j) * d (ix3 b i j) := by
  have h : ∀ i : Fin 2048, val_main_v15 (F := Ideal) x w (ix3 b i j) * val_main_v22 (F := Ideal) d (ix3 b i j) = _ := fun i => by rw [v15_at, v22_at]
  refine Eq.trans ?_ (Finset.sum_congr rfl fun i _ => h i)
  pointwise [val_main_v27, val_main_v26, val_main_v25, val_main_cst_5]
theorem v29_at : val_main_v29 (F := Ideal) s d (ix3 b i j) = d (ix3 b i j) * (k 0x3F800000#32 + s (ix3 b 0 j)) := by
  rw [← v22_at d b i j]
  pointwise [val_main_v29, val_main_v28, val_main_v17, val_main_v16, val_main_cst_3]
theorem v30_at : val_main_v30 (F := Ideal) x s d (ix3 b i j) = x (ix3 b i j) * irms (fun q => x (ix3 b i q)) * (d (ix3 b i j) * (k 0x3F800000#32 + s (ix3 b 0 j))) := by
  rw [← v12_at, ← v29_at]
  pointwise [val_main_v30]
theorem v31_at : val_main_v31 (F := Ideal) x s d (ix1 j) = ∑ b : Fin 4, ∑ i : Fin 2048, val_main_v30 (F := Ideal) x s d (ix3 b i j) := by
  pointwise [val_main_v31, val_main_cst_6]
  exact (sum01 _ _ _ j).trans (zero_add _)
theorem v35_at : val_main_v35 (F := Ideal) x s d (ix1 j) = val_main_v32 (F := Ideal) x s d (ix3 0 0 j) := by
  pointwise [val_main_v35, val_main_cst_7]
  exact (sum01 _ _ _ j).trans ((zero_add _).trans ((sum1 _).trans (sum1 _)))
theorem v36_at : val_main_v36 (F := Ideal) x s d (ix2 0 j)
    = ∑ b : Fin 4, ∑ i : Fin 2048, x (ix3 b i j) * irms (fun q => x (ix3 b i q)) * (d (ix3 b i j) * (k 0x3F800000#32 + s (ix3 b 0 j))) := by
  refine Eq.trans ?_ (Finset.sum_congr rfl fun b _ => Finset.sum_congr rfl fun i _ => v30_at x d s b i j)
  rw [← v31_at]
  refine Eq.trans ?_ (Eq.trans (v35_at x d s j) ?_)
  · pointwise [val_main_v36]
  · pointwise [val_main_v32]
theorem v34_at : val_main_v34 (F := Ideal) w s d (ix3 b i j) = d (ix3 b i j) * (k 0x3F800000#32 + s (ix3 b 0 j)) * w (ix2 0 j) := by
  rw [← v29_at]
  pointwise [val_main_v34, val_main_v33, val_main_v13]
theorem v47_at : val_main_v47 (F := Ideal) x w s d (ix3 b i j)
    = cor (fun q => x (ix3 b i q)) (fun q => d (ix3 b i q) * (k 0x3F800000#32 + s (ix3 b 0 q)) * w (ix2 0 q)) := by
  unfold cor
  rw [← v10_at]
  have h : ∀ q : Fin 1024, x (ix3 b i q) * val_main_v34 (F := Ideal) w s d (ix3 b i q) = _ := fun q => by rw [v34_at]
  rw [← Finset.sum_congr rfl fun q _ => h q]
  pointwise [val_main_v47, val_main_v46, val_main_v45, val_main_v44, val_main_v43, val_main_v39, val_main_v38, val_main_v37, val_main_cst_8, val_main_cst_9, val_main_cst_10]
  simp only [sum1]
theorem v51_at : val_main_v51 (F := Ideal) x w s e d (ix3 b i j)
    = dnrm (fun q => x (ix3 b i q)) (fun q => d (ix3 b i q) * (k 0x3F800000#32 + s (ix3 b 0 q)) * w (ix2 0 q)) (e (ix3 b i j)) j := by
  unfold dnrm
  dsimp only
  rw [← v47_at x d s w b i j, ← v7_at, ← v34_at]
  pointwise [val_main_v51, val_main_v50, val_main_v49, val_main_v48, val_main_v42, val_main_v41, val_main_v40]
end

/-! The three column sums of point `t`: the weight's, the scale's and the shift's. -/
def gW (c : Dev nD) (t : Nat) (j : Fin 1024) : EReal := ∑ i : Fin 512, X m c (ix3 (pb t) (pi t i) j) * irms (fun q => X m c (ix3 (pb t) (pi t i) q)) * (D m c (ix3 (pb t) (pi t i) j) * (k 0x3F800000#32 + C m c (ix3 (pb t) 0 j)))
def gC (c : Dev nD) (t : Nat) (j : Fin 1024) : EReal := ∑ i : Fin 512, X m c (ix3 (pb t) (pi t i) j) * irms (fun q => X m c (ix3 (pb t) (pi t i) q)) * W m c (ix2 0 j) * D m c (ix3 (pb t) (pi t i) j)
def gH (c : Dev nD) (t : Nat) (j : Fin 1024) : EReal := ∑ i : Fin 512, D m c (ix3 (pb t) (pi t i) j)
theorem gW_at (c : Dev nD) (t : Fin cfg0.N) (j : Fin 1024) : k0_pay14 (b0 m c t) (b2 m c t) (b5 m c t) (ix1 j) = gW m c t.val j := by
  rw [pay14_at]
  simp only [x0_at, x2_at, x5_at]
  rfl
theorem gC_at (c : Dev nD) (t : Fin cfg0.N) (j : Fin 1024) : k0_pay12 (b0 m c t) (b1 m c t) (b5 m c t) (ix2 0 j) = gC m c t.val j := by
  rw [pay12_at]
  simp only [x0_at, x1_at, x5_at]
  rfl
theorem gH_at (c : Dev nD) (t : Fin cfg0.N) (j : Fin 1024) : k0_pay11 (b5 m c t) (ix2 0 j) = gH m c t.val j := by
  rw [pay11_at]
  simp only [x5_at]
  rfl

/-- The four points of a batch row see its 2048 rows once each. -/
theorem rowsum (f : Fin 4 → Fin 2048 → EReal) (n : Nat) : ∑ s ∈ Finset.range 4, ∑ i : Fin 512, f (pb (n / 4 * 4 + s)) (pi (n / 4 * 4 + s) i) = ∑ i, f (pb n) i := by
  rw [quarters]
  refine Finset.sum_congr rfl fun s hs => Finset.sum_congr rfl fun i _ => ?_
  have hs := Finset.mem_range.mp hs
  rw [show pb (n / 4 * 4 + s) = pb n from Fin.ext (by show (n / 4 * 4 + s) / 4 % 4 = n / 4 % 4; omega)]
  exact congrArg (f (pb n)) (Fin.ext (by show 512 * ((n / 4 * 4 + s) % 4) + i.val = 512 * (s % 4) + i.val; omega))

/-- The weight's sum after a point: the sums of the points so far. -/
theorem accW (c : Dev nD) (j : Fin 1024) (n : Nat) : ∀ h : n < cfg0.N, (outsAt0 m c n h).2.1 (ix2 0 j)
    = ∑ s ∈ Finset.range (n + 1), gW m c s j := by
  induction n with
  | zero =>
    intro h
    rw [outsAt0_A m c ⟨0, h⟩ (by dsimp only <;> omega) (by dsimp only <;> omega) (by dsimp only <;> omega) (by dsimp only <;> omega) (by dsimp only <;> omega) (by dsimp only <;> omega)]
    frame_out
    refine (pay15_at j (k0_pay14 (b0 m c ⟨0, h⟩) (b2 m c ⟨0, h⟩) (b5 m c ⟨0, h⟩))).trans ((gW_at m c ⟨0, h⟩ j).trans ?_)
    rw [Finset.sum_range_one]
  | succ n ih =>
    intro h
    have hN : n + 1 < 16 := tN ⟨n + 1, h⟩
    rw [Finset.sum_range_succ, ← ih (Nat.lt_of_succ_lt h)]
    rcases (by omega : (n + 1) % 4 = 0 ∨ ¬(n + 1) % 4 = 0) with h0 | h0
    · rw [outsAt0_C m c ⟨n + 1, h⟩ (by dsimp only <;> omega) (by dsimp only <;> omega) (by dsimp only <;> omega) (by dsimp only <;> omega) (by dsimp only <;> omega) (by dsimp only <;> omega)]
      frame_out
      refine (pay17_at j (k0_pay14 (b0 m c ⟨n + 1, h⟩) (b2 m c ⟨n + 1, h⟩) (b5 m c ⟨n + 1, h⟩)) _).trans ?_
      exact congrArg₂ _ rfl (gW_at m c ⟨n + 1, h⟩ j)
    · rw [outsAt0_B m c ⟨n + 1, h⟩ (by dsimp only <;> omega) (by dsimp only <;> omega) (by dsimp only <;> omega) (by dsimp only <;> omega) (by dsimp only <;> omega) (by dsimp only <;> omega)]
      frame_out
      refine (pay17_at j (k0_pay14 (b0 m c ⟨n + 1, h⟩) (b2 m c ⟨n + 1, h⟩) (b5 m c ⟨n + 1, h⟩)) _).trans ?_
      exact congrArg₂ _ rfl (gW_at m c ⟨n + 1, h⟩ j)

/-- The scale's sum after a point: the sums of its batch row's points so far. -/
theorem accC (c : Dev nD) (j : Fin 1024) (n : Nat) : ∀ h : n < cfg0.N, (outsAt0 m c n h).2.2.1 (ix3 0 0 j)
    = ∑ s ∈ Finset.range (n % 4 + 1), gC m c (n / 4 * 4 + s) j := by
  have first : ∀ t : Fin cfg0.N, t.val % 4 = 0 → (outsAt0 m c t.val t.isLt).2.2.1 (ix3 0 0 j) = gC m c t.val j := by
    intro t h
    have hN := tN t
    rcases (by omega : t.val = 0 ∨ 1 ≤ t.val) with h1 | h1
    · rw [outsAt0_A m c t (by omega) (by omega) (by omega) (by omega) (by omega) (by omega)]
      frame_out
      exact (pay18_at (k0_pay12 (b0 m c t) (b1 m c t) (b5 m c t)) j).trans (gC_at m c t j)
    · rw [outsAt0_C m c t (by omega) (by omega) (by omega) (by omega) (by omega) (by omega)]
      frame_out
      exact (pay18_at (k0_pay12 (b0 m c t) (b1 m c t) (b5 m c t)) j).trans (gC_at m c t j)
  induction n with
  | zero =>
    intro h
    refine (first ⟨0, h⟩ rfl).trans ?_
    rw [show 0 % 4 + 1 = 1 from rfl, Finset.sum_range_one]
  | succ n ih =>
    intro h
    have hN : n + 1 < 16 := tN ⟨n + 1, h⟩
    rcases (by omega : (n + 1) % 4 = 0 ∨ ¬(n + 1) % 4 = 0) with h0 | h0
    · refine (first ⟨n + 1, h⟩ h0).trans ?_
      rw [h0, show 0 + 1 = 1 from rfl, Finset.sum_range_one]
      exact congrArg (fun z => gC m c z j) (by dsimp only; omega)
    · rw [show (n + 1) % 4 + 1 = (n % 4 + 1) + 1 by omega, show (n + 1) / 4 = n / 4 by omega, Finset.sum_range_succ,
        show n / 4 * 4 + (n % 4 + 1) = n + 1 by omega, ← ih (Nat.lt_of_succ_lt h),
        outsAt0_B m c ⟨n + 1, h⟩ (by dsimp only <;> omega) (by dsimp only <;> omega) (by dsimp only <;> omega) (by dsimp only <;> omega) (by dsimp only <;> omega) (by dsimp only <;> omega)]
      frame_out
      refine (pay19_at _ (k0_pay12 (b0 m c ⟨n + 1, h⟩) (b1 m c ⟨n + 1, h⟩) (b5 m c ⟨n + 1, h⟩)) j).trans ?_
      exact congrArg₂ _ rfl (gC_at m c ⟨n + 1, h⟩ j)

/-- The shift's sum after a point: the sums of its batch row's points so far. -/
theorem accH (c : Dev nD) (j : Fin 1024) (n : Nat) : ∀ h : n < cfg0.N, (outsAt0 m c n h).2.2.2 (ix3 0 0 j)
    = ∑ s ∈ Finset.range (n % 4 + 1), gH m c (n / 4 * 4 + s) j := by
  have first : ∀ t : Fin cfg0.N, t.val % 4 = 0 → (outsAt0 m c t.val t.isLt).2.2.2 (ix3 0 0 j) = gH m c t.val j := by
    intro t h
    have hN := tN t
    rcases (by omega : t.val = 0 ∨ 1 ≤ t.val) with h1 | h1
    · rw [outsAt0_A m c t (by omega) (by omega) (by omega) (by omega) (by omega) (by omega)]
      frame_out
      exact (pay1_at (k0_pay11 (b5 m c t)) j).trans (gH_at m c t j)
    · rw [outsAt0_C m c t (by omega) (by omega) (by omega) (by omega) (by omega) (by omega)]
      frame_out
      exact (pay1_at (k0_pay11 (b5 m c t)) j).trans (gH_at m c t j)
  induction n with
  | zero =>
    intro h
    refine (first ⟨0, h⟩ rfl).trans ?_
    rw [show 0 % 4 + 1 = 1 from rfl, Finset.sum_range_one]
  | succ n ih =>
    intro h
    have hN : n + 1 < 16 := tN ⟨n + 1, h⟩
    rcases (by omega : (n + 1) % 4 = 0 ∨ ¬(n + 1) % 4 = 0) with h0 | h0
    · refine (first ⟨n + 1, h⟩ h0).trans ?_
      rw [h0, show 0 + 1 = 1 from rfl, Finset.sum_range_one]
      exact congrArg (fun z => gH m c z j) (by dsimp only; omega)
    · rw [show (n + 1) % 4 + 1 = (n % 4 + 1) + 1 by omega, show (n + 1) / 4 = n / 4 by omega, Finset.sum_range_succ,
        show n / 4 * 4 + (n % 4 + 1) = n + 1 by omega, ← ih (Nat.lt_of_succ_lt h),
        outsAt0_B m c ⟨n + 1, h⟩ (by dsimp only <;> omega) (by dsimp only <;> omega) (by dsimp only <;> omega) (by dsimp only <;> omega) (by dsimp only <;> omega) (by dsimp only <;> omega)]
      frame_out
      refine (pay2_at _ (k0_pay11 (b5 m c ⟨n + 1, h⟩)) j).trans ?_
      exact congrArg₂ _ rfl (gH_at m c ⟨n + 1, h⟩ j)

/-- The arrays after the run are the reference's. -/
theorem arr6 (c : Dev nD) : (dats m 0 c).arrAt 6 cfg0.N = val_main_v51 (F := Ideal) (X m c) (W m c) (C m c) (E m c) (D m c) := by
  refine (dats m 0 c).arrAt_eq_of_covers 6 _ (by decide +kernel) fun t hf y => ?_
  blk_simp
  have hN := tN t
  obtain ⟨i, j, rfl⟩ : ∃ (i : Fin 512) (j : Fin 1024), y = ix3 0 i j := ⟨y 1, y 2, by blk_ext []⟩
  rw [show ((win0_6.blk t).view.emb (ix3 0 i j)) = ix3 (pb t.val) (pi t.val i) j by blk_ext [e6], v51_at, after0_6]
  rcases (by omega : t.val = 0 ∨ ¬t.val % 4 = 0 ∨ 1 ≤ t.val ∧ t.val % 4 = 0) with h0 | h0 | ⟨h1, h0⟩
  · rw [outsAt0_A m c t (by omega) (by omega) (by omega) (by omega) (by omega) (by omega)]
    frame_out
    refine (pay16_at (b0 m c t) (b5 m c t) (b4 m c t) (b2 m c t) (b1 m c t) i j).trans ?_
    simp only [x0_at, x1_at, x2_at, x4_at, x5_at]
  · rw [outsAt0_B m c t (by omega) (by omega) (by omega) (by omega) (by omega) (by omega)]
    frame_out
    refine (pay16_at (b0 m c t) (b5 m c t) (b4 m c t) (b2 m c t) (b1 m c t) i j).trans ?_
    simp only [x0_at, x1_at, x2_at, x4_at, x5_at]
  · rw [outsAt0_C m c t (by omega) (by omega) (by omega) (by omega) (by omega) (by omega)]
    frame_out
    refine (pay16_at (b0 m c t) (b5 m c t) (b4 m c t) (b2 m c t) (b1 m c t) i j).trans ?_
    simp only [x0_at, x1_at, x2_at, x4_at, x5_at]
theorem arr7 (c : Dev nD) : (dats m 0 c).arrAt 7 cfg0.N = val_main_v36 (F := Ideal) (X m c) (C m c) (D m c) := by
  refine (dats m 0 c).arrAt_eq_of_covers 7 _ (by decide +kernel) fun t hf y => ?_
  blk_simp
  have hN := tN t
  have h3 : t.val % 16 = 15 := (flush0_7 t).mp hf
  obtain ⟨j, rfl⟩ : ∃ (j : Fin 1024), y = ix2 0 j := ⟨y 1, by blk_ext []⟩
  rw [show ((win0_7.blk t).view.emb (ix2 0 j)) = ix2 0 j by blk_ext [e7], v36_at, after0_7]
  refine (accW m c j t.val t.isLt).trans ?_
  rw [show t.val + 1 = 16 by omega, sixteen]
  refine Finset.sum_congr rfl fun b _ => ?_
  refine Eq.trans ?_ ((rowsum (fun b i => X m c (ix3 b i j) * irms (fun q => X m c (ix3 b i q)) * (D m c (ix3 b i j) * (k 0x3F800000#32 + C m c (ix3 b 0 j)))) (b.val * 4)).trans ?_)
  · rw [show b.val * 4 / 4 = b.val by omega]
    rfl
  · rw [show pb (b.val * 4) = b from Fin.ext (by show b.val * 4 / 4 % 4 = b.val; omega)]
theorem arr8 (c : Dev nD) : (dats m 0 c).arrAt 8 cfg0.N = val_main_v27 (F := Ideal) (X m c) (W m c) (D m c) := by
  refine (dats m 0 c).arrAt_eq_of_covers 8 _ (by decide +kernel) fun t hf y => ?_
  blk_simp
  have hN := tN t
  have h3 : t.val % 4 = 3 := (flush0_8 t).mp hf
  obtain ⟨j, rfl⟩ : ∃ (j : Fin 1024), y = ix3 0 0 j := ⟨y 2, by blk_ext []⟩
  rw [show ((win0_8.blk t).view.emb (ix3 0 0 j)) = ix3 (pb t.val) 0 j by blk_ext [e8], v27_at, after0_8]
  refine (accC m c j t.val t.isLt).trans ?_
  rw [h3]
  exact rowsum (fun b i => X m c (ix3 b i j) * irms (fun q => X m c (ix3 b i q)) * W m c (ix2 0 j) * D m c (ix3 b i j)) t.val
theorem arr9 (c : Dev nD) : (dats m 0 c).arrAt 9 cfg0.N = val_main_v24 (F := Ideal) (D m c) := by
  refine (dats m 0 c).arrAt_eq_of_covers 9 _ (by decide +kernel) fun t hf y => ?_
  blk_simp
  have hN := tN t
  have h3 : t.val % 4 = 3 := (flush0_9 t).mp hf
  obtain ⟨j, rfl⟩ : ∃ (j : Fin 1024), y = ix3 0 0 j := ⟨y 2, by blk_ext []⟩
  rw [show ((win0_9.blk t).view.emb (ix3 0 0 j)) = ix3 (pb t.val) 0 j by blk_ext [e9], v24_at, after0_9]
  refine (accH m c j t.val t.isLt).trans ?_
  rw [h3]
  exact rowsum (fun b i => D m c (ix3 b i j)) t.val

end Cert.NormFirstBwdIdeal.Gen

namespace Cert.Proof.NormFirstBwd

open Idealize.ShloMosaic Idealize.SL.Sem Idealize.ShloMosaic.Tactic

/-- The two programs have one text, so the run over the machine's floats is the other's. -/
theorem frame_bits : Cert.quiescent_NormFirstBwd := by
  intro m g _
  refine Eq.mp ?_ (Cert.NormFirstBwdIdeal.Gen.frame (F := Bits) m g)
  sl_kernel_rfl
theorem frame_ideal : Cert.quiescent_NormFirstBwdIdeal := fun m g _ => Cert.NormFirstBwdIdeal.Gen.frame m g
theorem frame_ref : Cert.quiescent_NormFirstBwdRefIdeal := fun m g _ =>
  (θ_run Cert.NormFirstBwdRefIdeal.defs _ _).mono (fun r h => ⟨fun c => (h c).2.2.2.2, sem_eq_zero_of_no_sems (by decide) r.2⟩)
    (Cert.NormFirstBwdRefIdeal.Value.run (F := Ideal) m g)

theorem algebraic : Cert.algebraic_NormFirstBwdIdeal_NormFirstBwdRefIdeal := by
  intro m g m' g' hpre hagree
  refine ⟨fun c => (Cert.NormFirstBwdIdeal.Gen.dats m 0 c).arrAt 6 Cert.NormFirstBwdIdeal.cfg0.N, fun c => (Cert.NormFirstBwdIdeal.Gen.dats m 0 c).arrAt 7 Cert.NormFirstBwdIdeal.cfg0.N, fun c => (Cert.NormFirstBwdIdeal.Gen.dats m 0 c).arrAt 8 Cert.NormFirstBwdIdeal.cfg0.N, fun c => (Cert.NormFirstBwdIdeal.Gen.dats m 0 c).arrAt 9 Cert.NormFirstBwdIdeal.cfg0.N,
    Cert.NormFirstBwdIdeal.Value.run_blocks m g,
    (θ_run Cert.NormFirstBwdRefIdeal.defs _ _).mono (fun r h c => ?_) (Cert.NormFirstBwdRefIdeal.Value.run (F := Ideal) m' g')⟩
  obtain ⟨h0, h1, h2, h3, ha⟩ := h c
  obtain ⟨e0, e1, e2, e3, e4, e5⟩ := hagree c
  refine ⟨h0.trans ?_, h1.trans ?_, h2.trans ?_, h3.trans ?_, ha⟩
  · rw [Cert.NormFirstBwdRefIdeal.Read.val_main_v51_eq, e0, e1, e2, e4, e5]
    exact (Cert.NormFirstBwdIdeal.Gen.arr6 m c).symm
  · refine (Cert.NormFirstBwdRefIdeal.Read.val_main_v36_eq _ _ _).trans ?_
    rw [e0, e2, e5]
    exact (Cert.NormFirstBwdIdeal.Gen.arr7 m c).symm
  · refine (Cert.NormFirstBwdRefIdeal.Read.val_main_v27_eq _ _ _).trans ?_
    rw [e0, e1, e5]
    exact (Cert.NormFirstBwdIdeal.Gen.arr8 m c).symm
  · refine (Cert.NormFirstBwdRefIdeal.Read.val_main_v24_eq _).trans ?_
    rw [e5]
    exact (Cert.NormFirstBwdIdeal.Gen.arr9 m c).symm

end Cert.Proof.NormFirstBwd

end
-- ==== Proof.MmCtxNormFirstBwd.lean ====
module

public import proofs.«01_k».proof.Defs
public import proofs.«01_k».proof.Proof.Rms
public import proofs.«01_k».proof.Proof.Gen.CtxNormFirstBwd
public import proofs.«01_k».proof.Proof.Gen.CtxNormFirstBwdIdeal
public import proofs.«01_k».proof.Proof.Gen.CtxNormFirstBwdIdeal.Frame
public import proofs.«01_k».proof.Proof.Gen.CtxNormFirstBwdIdeal.Value
public import proofs.«01_k».proof.Proof.Gen.CtxNormFirstBwdRefIdeal
public import proofs.«01_k».proof.Proof.Gen.CtxNormFirstBwdRefIdeal.Read
public import Idealize.ShloMosaic.Lib.Pointwise
public import Idealize.ShloMosaic.Lib.StableHlo.ReadAt
public import Idealize.ShloMosaic.Lib.Pipeline.ValueKit.Geometry
public import Idealize.ShloMosaic.Lib.Pipeline.ValueKit.Acc

@[expose] public section

set_option maxRecDepth 16384

noncomputable section

namespace Cert.CtxNormFirstBwdIdeal.Gen

open Cert.CtxNormFirstBwdIdeal Idealize.ShloMosaic Idealize.ShloMosaic.TcCoe Idealize.SL Idealize.SL.Sem
open Idealize.ShloMosaic.Pipeline (Dat Cfg Window)
open Cert.CtxNormFirstBwdRefIdeal.Read
open scoped BigOperators

open Cert.Proof.Rms (k irms ms cor dnrm sum01 sum1 quarters sixteen)

variable (m : (ℓ : Loc nD τ sig) → Buf (Elt Ideal) ℓ)

/-- The residual, the norm's weight, the scale and the two cotangents on core `c`. -/
abbrev X (c : Dev nD) : FVec Ideal S4x256x1024 .f32 := m ((c : Thread nD τ).loc main_arg0)
abbrev W (c : Dev nD) : FVec Ideal S1x1024 .f32 := m ((c : Thread nD τ).loc main_arg1)
abbrev C (c : Dev nD) : FVec Ideal S4x1x1024 .f32 := m ((c : Thread nD τ).loc main_arg2)
abbrev E (c : Dev nD) : FVec Ideal S4x256x1024 .f32 := m ((c : Thread nD τ).loc main_arg4)
abbrev D (c : Dev nD) : FVec Ideal S4x256x1024 .f32 := m ((c : Thread nD τ).loc main_arg5)

/-- A point's blocks. -/
abbrev b0 (c : Dev nD) (t : Fin cfg0.N) : Vec Ideal S1x256x1024 .f32 := iblk m c 0 t
abbrev b1 (c : Dev nD) (t : Fin cfg0.N) : Vec Ideal S1x1024 .f32 := iblk m c 1 t
abbrev b2 (c : Dev nD) (t : Fin cfg0.N) : Vec Ideal S1x1x1024 .f32 := iblk m c 2 t
abbrev b4 (c : Dev nD) (t : Fin cfg0.N) : Vec Ideal S1x256x1024 .f32 := iblk m c 4 t
abbrev b5 (c : Dev nD) (t : Fin cfg0.N) : Vec Ideal S1x256x1024 .f32 := iblk m c 5 t

/-- The row of the batch and the rows of point `t`. -/
abbrev pb (t : Nat) : Fin 4 := ⟨t / 1 % 4, by omega⟩
abbrev pi (t : Nat) (i : Fin 256) : Fin 256 := ⟨256 * (t % 1) + i.val, by omega⟩
theorem tN (t : Fin cfg0.N) : t.val < 4 := lt_of_lt_of_eq t.isLt (show cfg0.N = 4 from N_0)

theorem e0 : ∀ t : Fin cfg0.N, win0_0.index t = ![t.val / 1, t.val % 1, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val / 1, 0, 0] := (by decide +kernel : ∀ t : Fin grid0.N, _)
theorem e4 : ∀ t : Fin cfg0.N, win0_4.index t = ![t.val / 1, t.val % 1, 0] := (by decide +kernel : ∀ t : Fin grid0.N, _)
theorem e5 : ∀ t : Fin cfg0.N, win0_5.index t = ![t.val / 1, t.val % 1, 0] := (by decide +kernel : ∀ t : Fin grid0.N, _)
theorem e6 : ∀ t : Fin cfg0.N, win0_6.index t = ![t.val / 1, t.val % 1, 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![t.val / 1, 0, 0] := (by decide +kernel : ∀ t : Fin grid0.N, _)
theorem e9 : ∀ t : Fin cfg0.N, win0_9.index t = ![t.val / 1, 0, 0] := (by decide +kernel : ∀ t : Fin grid0.N, _)

/-! What a point computes, entry by entry. -/
section
variable (x d e : Vec Ideal S1x256x1024 .f32) (s p : Vec Ideal S1x1x1024 .f32) (w : Vec Ideal S1x1024 .f32) (u : FVec Ideal S1x1024 .f32) (i : Fin 256) (j : Fin 1024)

theorem pay3_at : k0_pay3 x (ix2 i j) = x (ix3 0 i j) := by
  pointwise [k0_pay3]
theorem pay4_at : k0_pay4 x (ix2 i 0) = ms (fun q => x (ix3 0 i q)) := by
  have h : (fun q => x (ix3 0 i q)) = fun q => k0_pay3 x (ix2 i q) := funext fun q => (pay3_at x i q).symm
  rw [h]
  unfold ms
  pointwise [k0_pay4]
theorem pay5_at : k0_pay5 x (ix2 i 0) = irms (fun q => x (ix3 0 i q)) := by
  rw [show irms (fun q => x (ix3 0 i q)) = Ideal.rsqrt (ms (fun q => x (ix3 0 i q))) from rfl, ← pay4_at]
  pointwise [k0_pay5]
theorem pay6_at : k0_pay6 x (ix2 i 0) = k 0xBF000000#32 * Ideal.div (irms (fun q => x (ix3 0 i q))) (ms (fun q => x (ix3 0 i q))) := by
  rw [← pay4_at, ← pay5_at]
  pointwise [k0_pay6]
theorem pay7_at : k0_pay7 x (ix2 i j) = x (ix3 0 i j) * irms (fun q => x (ix3 0 i q)) := by
  rw [← pay5_at, ← pay3_at x i j]
  pointwise [k0_pay7]
theorem pay8_at : k0_pay8 e (ix2 i j) = e (ix3 0 i j) := by
  pointwise [k0_pay8]
theorem pay9_at : k0_pay9 d (ix2 i j) = d (ix3 0 i j) := by
  pointwise [k0_pay9]
theorem pay10_at : k0_pay10 d (ix2 i j) = d (ix3 0 i j) := by
  rw [← pay9_at d i j]
  pointwise [k0_pay10]
theorem pay11_at : k0_pay11 d (ix2 0 j) = ∑ i : Fin 256, d (ix3 0 i j) := by
  refine Eq.trans ?_ (Finset.sum_congr rfl fun i _ => pay9_at d i j)
  pointwise [k0_pay11]
theorem pay12_at : k0_pay12 x w d (ix2 0 j) = ∑ i : Fin 256, x (ix3 0 i j) * irms (fun q => x (ix3 0 i q)) * w (ix2 0 j) * d (ix3 0 i j) := by
  have h : ∀ i : Fin 256, k0_pay7 x (ix2 i j) * w (ix2 0 j) * k0_pay10 d (ix2 i j) = _ := fun i => by rw [pay7_at, pay10_at]
  refine Eq.trans ?_ (Finset.sum_congr rfl fun i _ => h i)
  pointwise [k0_pay12]
theorem pay13_at : k0_pay13 s d (ix2 i j) = d (ix3 0 i j) * (k 0x3F800000#32 + s (ix3 0 0 j)) := by
  rw [← pay10_at d i j]
  pointwise [k0_pay13]
theorem pay14_at : k0_pay14 x s d (ix1 j) = ∑ i : Fin 256, x (ix3 0 i j) * irms (fun q => x (ix3 0 i q)) * (d (ix3 0 i j) * (k 0x3F800000#32 + s (ix3 0 0 j))) := by
  have h : ∀ i : Fin 256, k0_pay7 x (ix2 i j) * k0_pay13 s d (ix2 i j) = _ := fun i => by rw [pay7_at, pay13_at]
  refine Eq.trans ?_ (Finset.sum_congr rfl fun i _ => h i)
  pointwise [k0_pay14]
theorem pay15_at (u : FVec Ideal S1024 .f32) : k0_pay15 u (ix2 0 j) = u (ix1 j) := by
  pointwise [k0_pay15]
theorem pay17_at (u : FVec Ideal S1024 .f32) (p : Vec Ideal S1x1024 .f32) : k0_pay17 u p (ix2 0 j) = p (ix2 0 j) + u (ix1 j) := by
  rw [← pay15_at j u]
  pointwise [k0_pay17]
theorem pay1_at : k0_pay1 u (ix3 0 0 j) = u (ix2 0 j) := by
  pointwise [k0_pay1]
theorem pay2_at : k0_pay2 u p (ix3 0 0 j) = p (ix3 0 0 j) + u (ix2 0 j) := by
  pointwise [k0_pay2]
theorem pay18_at : k0_pay18 u (ix3 0 0 j) = u (ix2 0 j) := by
  pointwise [k0_pay18]
theorem pay19_at : k0_pay19 u p (ix3 0 0 j) = p (ix3 0 0 j) + u (ix2 0 j) := by
  pointwise [k0_pay19]
theorem pay16_gen (v1 v23 v33 : FVec Ideal S256x1024 .f32) (v12 v15 : FVec Ideal S256x1 .f32) :
    k0_pay16 v1 w v12 v15 v23 v33 (ix3 0 i j)
      = v23 (ix2 i j) + v33 (ix2 i j) * w (ix2 0 j) * v12 (ix2 i 0)
        + v1 (ix2 i j) * Ideal.div ((∑ q : Fin 1024, v1 (ix2 i q) * (v33 (ix2 i q) * w (ix2 0 q))) * v15 (ix2 i 0)) (k 0x44800000#32)
        + Ideal.div ((∑ q : Fin 1024, v1 (ix2 i q) * (v33 (ix2 i q) * w (ix2 0 q))) * v15 (ix2 i 0)) (k 0x44800000#32) * v1 (ix2 i j) := by
  pointwise [k0_pay16]
  simp only [sum1]
theorem pay16_at : k0_pay16 (k0_pay3 x) w (k0_pay5 x) (k0_pay6 x) (k0_pay8 e) (k0_pay13 s d) (ix3 0 i j)
    = dnrm (fun q => x (ix3 0 i q)) (fun q => d (ix3 0 i q) * (k 0x3F800000#32 + s (ix3 0 0 q)) * w (ix2 0 q)) (e (ix3 0 i j)) j := by
  rw [pay16_gen]
  simp only [pay3_at, pay5_at, pay6_at, pay8_at, pay13_at]
  rfl
end

theorem x0_at (c : Dev nD) (t : Fin cfg0.N) (i : Fin 256) (j : Fin 1024) : b0 m c t (ix3 0 i j) = X m c (ix3 (pb t.val) (pi t.val i) j) := by
  have := tN t
  blk_simp [b0, iblk]
  show V m c main_arg0 _ = _
  rw [V_main_arg0]
  congr 1
  blk_ext [e0]
theorem x1_at (c : Dev nD) (t : Fin cfg0.N) (j : Fin 1024) : b1 m c t (ix2 0 j) = W m c (ix2 0 j) := by
  have := tN t
  blk_simp [b1, iblk]
  show V m c main_arg1 _ = _
  rw [V_main_arg1]
  congr 1
  blk_ext [e1]
theorem x2_at (c : Dev nD) (t : Fin cfg0.N) (j : Fin 1024) : b2 m c t (ix3 0 0 j) = C m c (ix3 (pb t.val) 0 j) := by
  have := tN t
  blk_simp [b2, iblk]
  show V m c main_arg2 _ = _
  rw [V_main_arg2]
  congr 1
  blk_ext [e2]
theorem x4_at (c : Dev nD) (t : Fin cfg0.N) (i : Fin 256) (j : Fin 1024) : b4 m c t (ix3 0 i j) = E m c (ix3 (pb t.val) (pi t.val i) j) := by
  have := tN t
  blk_simp [b4, iblk]
  show V m c main_arg4 _ = _
  rw [V_main_arg4]
  congr 1
  blk_ext [e4]
theorem x5_at (c : Dev nD) (t : Fin cfg0.N) (i : Fin 256) (j : Fin 1024) : b5 m c t (ix3 0 i j) = D m c (ix3 (pb t.val) (pi t.val i) j) := by
  have := tN t
  blk_simp [b5, iblk]
  show V m c main_arg5 _ = _
  rw [V_main_arg5]
  congr 1
  blk_ext [e5]

/-! The reference, entry by entry. -/
section
variable (x e d : (⟨Cert.CtxNormFirstBwdRefIdeal.S4x256x1024, .f32⟩ : BufTy).Contents (Elt Ideal)) (s : (⟨Cert.CtxNormFirstBwdRefIdeal.S4x1x1024, .f32⟩ : BufTy).Contents (Elt Ideal))
  (w : (⟨Cert.CtxNormFirstBwdRefIdeal.S1x1024, .f32⟩ : BufTy).Contents (Elt Ideal)) (b : Fin 4) (i : Fin 256) (j : Fin 1024)
theorem v6_at : val_main_v6 (F := Ideal) x (ix3 b i 0) = ms (fun q => x (ix3 b i q)) := by
  unfold ms
  pointwise [val_main_v6, val_main_v5, val_main_v4, val_main_v3, val_main_v2, val_main_v1, val_main_v0, val_main_cst, val_main_cst_0, val_main_cst_1]
theorem v7_at : val_main_v7 (F := Ideal) x (ix3 b i 0) = irms (fun q => x (ix3 b i q)) := by
  rw [show irms (fun q => x (ix3 b i q)) = Ideal.rsqrt (ms (fun q => x (ix3 b i q))) from rfl, ← v6_at]
  pointwise [val_main_v7]
theorem v10_at : val_main_v10 (F := Ideal) x (ix3 b i 0) = k 0xBF000000#32 * Ideal.div (irms (fun q => x (ix3 b i q))) (ms (fun q => x (ix3 b i q))) := by
  rw [← v6_at, ← v7_at]
  pointwise [val_main_v10, val_main_v9, val_main_v8, val_main_cst_2]
theorem v12_at : val_main_v12 (F := Ideal) x (ix3 b i j) = x (ix3 b i j) * irms (fun q => x (ix3 b i q)) := by
  rw [← v7_at]
  pointwise [val_main_v12, val_main_v11]
theorem v15_at : val_main_v15 (F := Ideal) x w (ix3 b i j) = x (ix3 b i j) * irms (fun q => x (ix3 b i q)) * w (ix2 0 j) := by
  rw [← v12_at]
  pointwise [val_main_v15, val_main_v14, val_main_v13]
theorem v22_at : val_main_v22 (F := Ideal) d (ix3 b i j) = d (ix3 b i j) := by
  pointwise [val_main_v22]
theorem v24_at : val_main_v24 (F := Ideal) d (ix3 b 0 j) = ∑ i : Fin 256, d (ix3 b i j) := by
  pointwise [val_main_v24, val_main_v23, val_main_cst_4]
theorem v27_at : val_main_v27 (F := Ideal) x w d (ix3 b 0 j) = ∑ i : Fin 256, x (ix3 b i j) * irms (fun q => x (ix3 b i q)) * w (ix2 0 j) * d (ix3 b i j) := by
  have h : ∀ i : Fin 256, val_main_v15 (F := Ideal) x w (ix3 b i j) * val_main_v22 (F := Ideal) d (ix3 b i j) = _ := fun i => by rw [v15_at, v22_at]
  refine Eq.trans ?_ (Finset.sum_congr rfl fun i _ => h i)
  pointwise [val_main_v27, val_main_v26, val_main_v25, val_main_cst_5]
theorem v29_at : val_main_v29 (F := Ideal) s d (ix3 b i j) = d (ix3 b i j) * (k 0x3F800000#32 + s (ix3 b 0 j)) := by
  rw [← v22_at d b i j]
  pointwise [val_main_v29, val_main_v28, val_main_v17, val_main_v16, val_main_cst_3]
theorem v30_at : val_main_v30 (F := Ideal) x s d (ix3 b i j) = x (ix3 b i j) * irms (fun q => x (ix3 b i q)) * (d (ix3 b i j) * (k 0x3F800000#32 + s (ix3 b 0 j))) := by
  rw [← v12_at, ← v29_at]
  pointwise [val_main_v30]
theorem v31_at : val_main_v31 (F := Ideal) x s d (ix1 j) = ∑ b : Fin 4, ∑ i : Fin 256, val_main_v30 (F := Ideal) x s d (ix3 b i j) := by
  pointwise [val_main_v31, val_main_cst_6]
  exact (sum01 _ _ _ j).trans (zero_add _)
theorem v35_at : val_main_v35 (F := Ideal) x s d (ix1 j) = val_main_v32 (F := Ideal) x s d (ix3 0 0 j) := by
  pointwise [val_main_v35, val_main_cst_7]
  exact (sum01 _ _ _ j).trans ((zero_add _).trans ((sum1 _).trans (sum1 _)))
theorem v36_at : val_main_v36 (F := Ideal) x s d (ix2 0 j)
    = ∑ b : Fin 4, ∑ i : Fin 256, x (ix3 b i j) * irms (fun q => x (ix3 b i q)) * (d (ix3 b i j) * (k 0x3F800000#32 + s (ix3 b 0 j))) := by
  refine Eq.trans ?_ (Finset.sum_congr rfl fun b _ => Finset.sum_congr rfl fun i _ => v30_at x d s b i j)
  rw [← v31_at]
  refine Eq.trans ?_ (Eq.trans (v35_at x d s j) ?_)
  · pointwise [val_main_v36]
  · pointwise [val_main_v32]
theorem v34_at : val_main_v34 (F := Ideal) w s d (ix3 b i j) = d (ix3 b i j) * (k 0x3F800000#32 + s (ix3 b 0 j)) * w (ix2 0 j) := by
  rw [← v29_at]
  pointwise [val_main_v34, val_main_v33, val_main_v13]
theorem v47_at : val_main_v47 (F := Ideal) x w s d (ix3 b i j)
    = cor (fun q => x (ix3 b i q)) (fun q => d (ix3 b i q) * (k 0x3F800000#32 + s (ix3 b 0 q)) * w (ix2 0 q)) := by
  unfold cor
  rw [← v10_at]
  have h : ∀ q : Fin 1024, x (ix3 b i q) * val_main_v34 (F := Ideal) w s d (ix3 b i q) = _ := fun q => by rw [v34_at]
  rw [← Finset.sum_congr rfl fun q _ => h q]
  pointwise [val_main_v47, val_main_v46, val_main_v45, val_main_v44, val_main_v43, val_main_v39, val_main_v38, val_main_v37, val_main_cst_8, val_main_cst_9, val_main_cst_10]
  simp only [sum1]
theorem v51_at : val_main_v51 (F := Ideal) x w s e d (ix3 b i j)
    = dnrm (fun q => x (ix3 b i q)) (fun q => d (ix3 b i q) * (k 0x3F800000#32 + s (ix3 b 0 q)) * w (ix2 0 q)) (e (ix3 b i j)) j := by
  unfold dnrm
  dsimp only
  rw [← v47_at x d s w b i j, ← v7_at, ← v34_at]
  pointwise [val_main_v51, val_main_v50, val_main_v49, val_main_v48, val_main_v42, val_main_v41, val_main_v40]
end

/-! The three column sums of point `t`: the weight's, the scale's and the shift's. -/
def gW (c : Dev nD) (t : Nat) (j : Fin 1024) : EReal := ∑ i : Fin 256, X m c (ix3 (pb t) (pi t i) j) * irms (fun q => X m c (ix3 (pb t) (pi t i) q)) * (D m c (ix3 (pb t) (pi t i) j) * (k 0x3F800000#32 + C m c (ix3 (pb t) 0 j)))
def gC (c : Dev nD) (t : Nat) (j : Fin 1024) : EReal := ∑ i : Fin 256, X m c (ix3 (pb t) (pi t i) j) * irms (fun q => X m c (ix3 (pb t) (pi t i) q)) * W m c (ix2 0 j) * D m c (ix3 (pb t) (pi t i) j)
def gH (c : Dev nD) (t : Nat) (j : Fin 1024) : EReal := ∑ i : Fin 256, D m c (ix3 (pb t) (pi t i) j)
theorem gW_at (c : Dev nD) (t : Fin cfg0.N) (j : Fin 1024) : k0_pay14 (b0 m c t) (b2 m c t) (b5 m c t) (ix1 j) = gW m c t.val j := by
  rw [pay14_at]
  simp only [x0_at, x2_at, x5_at]
  rfl
theorem gC_at (c : Dev nD) (t : Fin cfg0.N) (j : Fin 1024) : k0_pay12 (b0 m c t) (b1 m c t) (b5 m c t) (ix2 0 j) = gC m c t.val j := by
  rw [pay12_at]
  simp only [x0_at, x1_at, x5_at]
  rfl
theorem gH_at (c : Dev nD) (t : Fin cfg0.N) (j : Fin 1024) : k0_pay11 (b5 m c t) (ix2 0 j) = gH m c t.val j := by
  rw [pay11_at]
  simp only [x5_at]
  rfl

/-- The weight's sum after a point: the sums of the points so far. -/
theorem accW (c : Dev nD) (j : Fin 1024) (n : Nat) : ∀ h : n < cfg0.N, (outsAt0 m c n h).2.1 (ix2 0 j) = ∑ s ∈ Finset.range (n + 1), gW m c s j := by
  induction n with
  | zero =>
    intro h
    rw [outsAt0_A m c ⟨0, h⟩ rfl (by dsimp only; omega)]
    frame_out
    refine (pay15_at j (k0_pay14 (b0 m c ⟨0, h⟩) (b2 m c ⟨0, h⟩) (b5 m c ⟨0, h⟩))).trans ((gW_at m c ⟨0, h⟩ j).trans ?_)
    rw [Finset.sum_range_one]
  | succ n ih =>
    intro h
    have hN := tN ⟨n + 1, h⟩
    rw [outsAt0_B m c ⟨n + 1, h⟩ (by dsimp only at hN ⊢; omega) (by dsimp only; omega)]
    frame_out
    refine (pay17_at j (k0_pay14 (b0 m c ⟨n + 1, h⟩) (b2 m c ⟨n + 1, h⟩) (b5 m c ⟨n + 1, h⟩)) _).trans ?_
    rw [Finset.sum_range_succ]
    exact congrArg₂ _ (ih _) (gW_at m c ⟨n + 1, h⟩ j)

/-- The arrays after the run are the reference's. -/
theorem arr6 (c : Dev nD) : (dats m 0 c).arrAt 6 cfg0.N = val_main_v51 (F := Ideal) (X m c) (W m c) (C m c) (E m c) (D m c) := by
  refine (dats m 0 c).arrAt_eq_of_covers 6 _ (by decide +kernel) fun t hf y => ?_
  blk_simp
  have hN := tN t
  obtain ⟨i, j, rfl⟩ : ∃ (i : Fin 256) (j : Fin 1024), y = ix3 0 i j := ⟨y 1, y 2, by blk_ext []⟩
  rw [show ((win0_6.blk t).view.emb (ix3 0 i j)) = ix3 (pb t.val) (pi t.val i) j by blk_ext [e6], v51_at, after0_6]
  rcases (by omega : t.val % 4 = 0 ∧ ¬1 ≤ t.val ∨ ¬t.val % 4 = 0 ∧ 1 ≤ t.val) with ⟨h0, h1⟩ | ⟨h0, h1⟩
  · rw [outsAt0_A m c t h0 h1]
    frame_out
    refine (pay16_at (b0 m c t) (b5 m c t) (b4 m c t) (b2 m c t) (b1 m c t) i j).trans ?_
    simp only [x0_at, x1_at, x2_at, x4_at, x5_at]
  · rw [outsAt0_B m c t h0 h1]
    frame_out
    refine (pay16_at (b0 m c t) (b5 m c t) (b4 m c t) (b2 m c t) (b1 m c t) i j).trans ?_
    simp only [x0_at, x1_at, x2_at, x4_at, x5_at]
theorem arr7 (c : Dev nD) : (dats m 0 c).arrAt 7 cfg0.N = val_main_v36 (F := Ideal) (X m c) (C m c) (D m c) := by
  refine (dats m 0 c).arrAt_eq_of_covers 7 _ (by decide +kernel) fun t hf y => ?_
  blk_simp
  have hN := tN t
  have h3 : t.val % 4 = 3 := (flush0_7 t).mp hf
  obtain ⟨j, rfl⟩ : ∃ (j : Fin 1024), y = ix2 0 j := ⟨y 1, by blk_ext []⟩
  rw [show ((win0_7.blk t).view.emb (ix2 0 j)) = ix2 0 j by blk_ext [e7], v36_at, after0_7]
  refine (accW m c j t.val t.isLt).trans ?_
  rw [show t.val + 1 = 4 by omega, Finset.sum_range]
  refine Finset.sum_congr rfl fun b _ => ?_
  unfold gW
  rw [show pb b.val = b from Fin.ext (by have := b.isLt; show b.val / 1 % 4 = b.val; omega)]
  refine Finset.sum_congr rfl fun i _ => ?_
  rw [show pi b.val i = i from Fin.ext (by show 256 * (b.val % 1) + i.val = i.val; omega)]
theorem arr8 (c : Dev nD) : (dats m 0 c).arrAt 8 cfg0.N = val_main_v27 (F := Ideal) (X m c) (W m c) (D m c) := by
  refine (dats m 0 c).arrAt_eq_of_covers 8 _ (by decide +kernel) fun t hf y => ?_
  blk_simp
  have hN := tN t
  obtain ⟨j, rfl⟩ : ∃ (j : Fin 1024), y = ix3 0 0 j := ⟨y 2, by blk_ext []⟩
  have hr : gC m c t.val j = val_main_v27 (F := Ideal) (X m c) (W m c) (D m c) (ix3 (pb t.val) 0 j) := by
    rw [v27_at]
    refine Finset.sum_congr rfl fun i _ => ?_
    rw [show pi t.val i = i from Fin.ext (by show 256 * (t.val % 1) + i.val = i.val; omega)]
  rw [show ((win0_8.blk t).view.emb (ix3 0 0 j)) = ix3 (pb t.val) 0 j by blk_ext [e8], ← hr, after0_8]
  rcases (by omega : t.val % 4 = 0 ∧ ¬1 ≤ t.val ∨ ¬t.val % 4 = 0 ∧ 1 ≤ t.val) with ⟨h0, h1⟩ | ⟨h0, h1⟩
  · rw [outsAt0_A m c t h0 h1]
    frame_out
    exact (pay18_at (k0_pay12 (b0 m c t) (b1 m c t) (b5 m c t)) j).trans (gC_at m c t j)
  · rw [outsAt0_B m c t h0 h1]
    frame_out
    exact (pay18_at (k0_pay12 (b0 m c t) (b1 m c t) (b5 m c t)) j).trans (gC_at m c t j)
theorem arr9 (c : Dev nD) : (dats m 0 c).arrAt 9 cfg0.N = val_main_v24 (F := Ideal) (D m c) := by
  refine (dats m 0 c).arrAt_eq_of_covers 9 _ (by decide +kernel) fun t hf y => ?_
  blk_simp
  have hN := tN t
  obtain ⟨j, rfl⟩ : ∃ (j : Fin 1024), y = ix3 0 0 j := ⟨y 2, by blk_ext []⟩
  have hr : gH m c t.val j = val_main_v24 (F := Ideal) (D m c) (ix3 (pb t.val) 0 j) := by
    rw [v24_at]
    refine Finset.sum_congr rfl fun i _ => ?_
    rw [show pi t.val i = i from Fin.ext (by show 256 * (t.val % 1) + i.val = i.val; omega)]
  rw [show ((win0_9.blk t).view.emb (ix3 0 0 j)) = ix3 (pb t.val) 0 j by blk_ext [e9], ← hr, after0_9]
  rcases (by omega : t.val % 4 = 0 ∧ ¬1 ≤ t.val ∨ ¬t.val % 4 = 0 ∧ 1 ≤ t.val) with ⟨h0, h1⟩ | ⟨h0, h1⟩
  · rw [outsAt0_A m c t h0 h1]
    frame_out
    exact (pay1_at (k0_pay11 (b5 m c t)) j).trans (gH_at m c t j)
  · rw [outsAt0_B m c t h0 h1]
    frame_out
    exact (pay1_at (k0_pay11 (b5 m c t)) j).trans (gH_at m c t j)

end Cert.CtxNormFirstBwdIdeal.Gen

namespace Cert.Proof.CtxNormFirstBwd

open Idealize.ShloMosaic Idealize.SL.Sem Idealize.ShloMosaic.Tactic

/-- The two programs have one text, so the run over the machine's floats is the other's. -/
theorem frame_bits : Cert.quiescent_CtxNormFirstBwd := by
  intro m g _
  refine Eq.mp ?_ (Cert.CtxNormFirstBwdIdeal.Gen.frame (F := Bits) m g)
  sl_kernel_rfl
theorem frame_ideal : Cert.quiescent_CtxNormFirstBwdIdeal := fun m g _ => Cert.CtxNormFirstBwdIdeal.Gen.frame m g
theorem frame_ref : Cert.quiescent_CtxNormFirstBwdRefIdeal := fun m g _ =>
  (θ_run Cert.CtxNormFirstBwdRefIdeal.defs _ _).mono (fun r h => ⟨fun c => (h c).2.2.2.2, sem_eq_zero_of_no_sems (by decide) r.2⟩)
    (Cert.CtxNormFirstBwdRefIdeal.Value.run (F := Ideal) m g)

theorem algebraic : Cert.algebraic_CtxNormFirstBwdIdeal_CtxNormFirstBwdRefIdeal := by
  intro m g m' g' hpre hagree
  refine ⟨fun c => (Cert.CtxNormFirstBwdIdeal.Gen.dats m 0 c).arrAt 6 Cert.CtxNormFirstBwdIdeal.cfg0.N, fun c => (Cert.CtxNormFirstBwdIdeal.Gen.dats m 0 c).arrAt 7 Cert.CtxNormFirstBwdIdeal.cfg0.N, fun c => (Cert.CtxNormFirstBwdIdeal.Gen.dats m 0 c).arrAt 8 Cert.CtxNormFirstBwdIdeal.cfg0.N, fun c => (Cert.CtxNormFirstBwdIdeal.Gen.dats m 0 c).arrAt 9 Cert.CtxNormFirstBwdIdeal.cfg0.N,
    Cert.CtxNormFirstBwdIdeal.Value.run_blocks m g,
    (θ_run Cert.CtxNormFirstBwdRefIdeal.defs _ _).mono (fun r h c => ?_) (Cert.CtxNormFirstBwdRefIdeal.Value.run (F := Ideal) m' g')⟩
  obtain ⟨h0, h1, h2, h3, ha⟩ := h c
  obtain ⟨e0, e1, e2, e3, e4, e5⟩ := hagree c
  refine ⟨h0.trans ?_, h1.trans ?_, h2.trans ?_, h3.trans ?_, ha⟩
  · rw [Cert.CtxNormFirstBwdRefIdeal.Read.val_main_v51_eq, e0, e1, e2, e4, e5]
    exact (Cert.CtxNormFirstBwdIdeal.Gen.arr6 m c).symm
  · refine (Cert.CtxNormFirstBwdRefIdeal.Read.val_main_v36_eq _ _ _).trans ?_
    rw [e0, e2, e5]
    exact (Cert.CtxNormFirstBwdIdeal.Gen.arr7 m c).symm
  · refine (Cert.CtxNormFirstBwdRefIdeal.Read.val_main_v27_eq _ _ _).trans ?_
    rw [e0, e1, e5]
    exact (Cert.CtxNormFirstBwdIdeal.Gen.arr8 m c).symm
  · refine (Cert.CtxNormFirstBwdRefIdeal.Read.val_main_v24_eq _).trans ?_
    rw [e5]
    exact (Cert.CtxNormFirstBwdIdeal.Gen.arr9 m c).symm

end Cert.Proof.CtxNormFirstBwd

end
-- ==== Proof.MmModBwd.lean ====
module

public import proofs.«01_k».proof.Defs
public import proofs.«01_k».proof.Proof.Gen.ModBwd
public import proofs.«01_k».proof.Proof.Gen.ModBwdIdeal
public import proofs.«01_k».proof.Proof.Gen.ModBwdIdeal.Frame
public import proofs.«01_k».proof.Proof.Gen.ModBwdIdeal.Value
public import proofs.«01_k».proof.Proof.Gen.ModBwdRefIdeal
public import proofs.«01_k».proof.Proof.Gen.ModBwdRefIdeal.Read
public import Idealize.ShloMosaic.Lib.Pointwise
public import Idealize.ShloMosaic.Lib.StableHlo.ReadAt
public import Idealize.ShloMosaic.Lib.Pipeline.ValueKit.Geometry
public import Idealize.ShloMosaic.Lib.Pipeline.ValueKit.Acc

@[expose] public section

set_option maxRecDepth 16384

noncomputable section

namespace Cert.ModBwdIdeal.Gen

open Cert.ModBwdIdeal Idealize.ShloMosaic Idealize.ShloMosaic.TcCoe Idealize.SL Idealize.SL.Sem
open Idealize.ShloMosaic.Pipeline (Dat Cfg Window)
open Cert.ModBwdRefIdeal.Read
open scoped BigOperators

variable (m : (ℓ : Loc nD τ sig) → Buf (Elt Ideal) ℓ)

/-- The conditioning, the weight and the cotangent on core `c`. -/
abbrev A (c : Dev nD) : FVec Ideal S48x1024 .f32 := m ((c : Thread nD τ).loc main_arg0)
abbrev W (c : Dev nD) : FVec Ideal S2x1024x768 .f32 := m ((c : Thread nD τ).loc main_arg1)
abbrev G (c : Dev nD) : FVec Ideal S2x48x768 .f32 := m ((c : Thread nD τ).loc main_arg3)

/-- A point's blocks, and its layer. -/
abbrev b0 (c : Dev nD) (t : Fin cfg0.N) : Vec Ideal S48x1024 .f32 := iblk m c 0 t
abbrev b1 (c : Dev nD) (t : Fin cfg0.N) : Vec Ideal S1x1024x768 .f32 := iblk m c 1 t
abbrev b3 (c : Dev nD) (t : Fin cfg0.N) : Vec Ideal S1x48x768 .f32 := iblk m c 3 t
abbrev pl (t : Fin cfg0.N) : Fin 2 := ⟨t.val, lt_of_lt_of_eq t.isLt (show cfg0.N = 2 from N_0)⟩

theorem e0 : ∀ t : Fin cfg0.N, win0_0.index t = ![0, 0] := (by decide +kernel : ∀ t : Fin grid0.N, _)
theorem e1 : ∀ t : Fin cfg0.N, win0_1.index t = ![t.val, 0, 0] := (by decide +kernel : ∀ t : Fin grid0.N, _)
theorem e3 : ∀ t : Fin cfg0.N, win0_3.index t = ![t.val, 0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![t.val, 0, 0] := (by decide +kernel : ∀ t : Fin grid0.N, _)

/-- The activation of an entry, and the activation's cotangent carried back to it. -/
abbrev act (x : EReal) : EReal := x * Ideal.logistic x
abbrev actBwd (x d : EReal) : EReal := d * Ideal.logistic x + x * d * (Ideal.logistic x * (1 - Ideal.logistic x))

/-! What a point stores, entry by entry. -/
theorem pay2_at (g : Vec Ideal S1x48x768 .f32) (i : Fin 48) (j : Fin 768) : k0_pay2 g (ix2 i j) = g (ix3 0 i j) := by
  pointwise [k0_pay2]
theorem pay3_at (x : Vec Ideal S48x1024 .f32) (w : Vec Ideal S1x1024x768 .f32) (g : Vec Ideal S1x48x768 .f32) (i : Fin 48) (k : Fin 1024) :
    k0_pay3 x w g (ix2 i k) = actBwd (x (ix2 i k)) (∑ j : Fin 768, g (ix3 0 i j) * w (ix3 0 k j)) := by
  simp only [← pay2_at]
  pointwise [k0_pay3, k0_pay1]
theorem pay4_at (x : Vec Ideal S48x1024 .f32) (g : Vec Ideal S1x48x768 .f32) (k : Fin 1024) (j : Fin 768) :
    k0_pay4 x g (ix3 0 k j) = ∑ i : Fin 48, g (ix3 0 i j) * act (x (ix2 i k)) := by
  simp only [← pay2_at]
  pointwise [k0_pay4, k0_pay1]
theorem pay5_at (x : Vec Ideal S48x1024 .f32) (w : Vec Ideal S1x1024x768 .f32) (g : Vec Ideal S1x48x768 .f32) (p : Vec Ideal S48x1024 .f32) (i : Fin 48) (k : Fin 1024) :
    k0_pay5 x w g p (ix2 i k) = p (ix2 i k) + actBwd (x (ix2 i k)) (∑ j : Fin 768, g (ix3 0 i j) * w (ix3 0 k j)) := by
  pointwise [k0_pay5]
  exact congrArg _ (pay3_at x w g i k)

theorem x0_at (c : Dev nD) (t : Fin cfg0.N) (i : Fin 48) (k : Fin 1024) : b0 m c t (ix2 i k) = A m c (ix2 i k) := by
  blk_simp [b0, iblk]
  show V m c main_arg0 _ = _
  rw [V_main_arg0]
  congr 1
  blk_ext [e0]
theorem x1_at (c : Dev nD) (t : Fin cfg0.N) (k : Fin 1024) (j : Fin 768) : b1 m c t (ix3 0 k j) = W m c (ix3 (pl t) k j) := by
  blk_simp [b1, iblk]
  show V m c main_arg1 _ = _
  rw [V_main_arg1]
  congr 1
  blk_ext [e1]
theorem x3_at (c : Dev nD) (t : Fin cfg0.N) (i : Fin 48) (j : Fin 768) : b3 m c t (ix3 0 i j) = G m c (ix3 (pl t) i j) := by
  blk_simp [b3, iblk]
  show V m c main_arg3 _ = _
  rw [V_main_arg3]
  congr 1
  blk_ext [e3]

/-! The reference, entry by entry. -/
section
variable (x : (⟨Cert.ModBwdRefIdeal.S48x1024, .f32⟩ : BufTy).Contents (Elt Ideal)) (w : (⟨Cert.ModBwdRefIdeal.S2x1024x768, .f32⟩ : BufTy).Contents (Elt Ideal))
  (g : (⟨Cert.ModBwdRefIdeal.S2x48x768, .f32⟩ : BufTy).Contents (Elt Ideal)) (l : Fin 2) (i : Fin 48) (k : Fin 1024) (j : Fin 768)
theorem l0_at : val_main_v0_2 (F := Ideal) x (ix2 i k) = Ideal.logistic (x (ix2 i k)) := by
  pointwise [val_main_v0_2, val_main_call0_v4, val_main_call0_v3, val_main_call0_v2, val_main_call0_v1, val_main_call0_v0, val_main_call0_cst, val_main_call0_cst_0]
  rfl
theorem l1_at : val_main_v8_2 (F := Ideal) x (ix2 i k) = Ideal.logistic (x (ix2 i k)) := by
  pointwise [val_main_v8_2, val_main_call1_v4, val_main_call1_v3, val_main_call1_v2, val_main_call1_v1, val_main_call1_v0, val_main_call1_cst, val_main_call1_cst_0]
  rfl
theorem v0_at : val_main_v0_0 (F := Ideal) x (ix2 i k) = act (x (ix2 i k)) := by
  rw [show act (x (ix2 i k)) = x (ix2 i k) * val_main_v0_2 (F := Ideal) x (ix2 i k) by rw [l0_at]]
  rfl
theorem v8_at : val_main_v8_0 (F := Ideal) x (ix2 i k) = act (x (ix2 i k)) := by
  rw [show act (x (ix2 i k)) = x (ix2 i k) * val_main_v8_2 (F := Ideal) x (ix2 i k) by rw [l1_at]]
  rfl
theorem d0_at : val_main_v0_1 (F := Ideal) x (ix2 i k) = Ideal.logistic (x (ix2 i k)) * (1 - Ideal.logistic (x (ix2 i k))) := by
  rw [← l0_at]
  pointwise [val_main_v0_1, val_main_call0_v7, val_main_call0_v6, val_main_call0_cst_1]
theorem d1_at : val_main_v8_1 (F := Ideal) x (ix2 i k) = Ideal.logistic (x (ix2 i k)) * (1 - Ideal.logistic (x (ix2 i k))) := by
  rw [← l1_at]
  pointwise [val_main_v8_1, val_main_call1_v7, val_main_call1_v6, val_main_call1_cst_1]
theorem v2_at : val_main_v2 (F := Ideal) w (ix2 k j) = w (ix3 0 k j) := by
  pointwise [val_main_v2, val_main_v1]
theorem v10_at : val_main_v10 (F := Ideal) w (ix2 k j) = w (ix3 1 k j) := by
  pointwise [val_main_v10, val_main_v9]
theorem v20_at : val_main_v20 (F := Ideal) g (ix2 i j) = g (ix3 0 i j) := by
  pointwise [val_main_v20, val_main_v19]
theorem v22_at : val_main_v22 (F := Ideal) g (ix2 i j) = g (ix3 1 i j) := by
  pointwise [val_main_v22, val_main_v21]
theorem v31_at : val_main_v31 (F := Ideal) w g (ix2 i k) = ∑ j : Fin 768, g (ix3 0 i j) * w (ix3 0 k j) := by
  simp only [← v20_at, ← v2_at]
  pointwise [val_main_v31]
theorem v25_at : val_main_v25 (F := Ideal) w g (ix2 i k) = ∑ j : Fin 768, g (ix3 1 i j) * w (ix3 1 k j) := by
  simp only [← v22_at, ← v10_at]
  pointwise [val_main_v25]
theorem v35_at : val_main_v35 (F := Ideal) x w g (ix2 i k) = actBwd (x (ix2 i k)) (∑ j : Fin 768, g (ix3 0 i j) * w (ix3 0 k j)) := by
  unfold actBwd
  rw [← d0_at, ← l0_at, ← v31_at]
  rfl
theorem v28_at : val_main_v28 (F := Ideal) x w g (ix2 i k) = actBwd (x (ix2 i k)) (∑ j : Fin 768, g (ix3 1 i j) * w (ix3 1 k j)) := by
  unfold actBwd
  rw [← d1_at, ← l1_at, ← v25_at]
  rfl
theorem v36_at : val_main_v36 (F := Ideal) x w g (ix2 i k)
    = actBwd (x (ix2 i k)) (∑ j : Fin 768, g (ix3 0 i j) * w (ix3 0 k j)) + actBwd (x (ix2 i k)) (∑ j : Fin 768, g (ix3 1 i j) * w (ix3 1 k j)) := by
  rw [← v35_at x w g i k, ← v28_at x w g i k, add_comm]
  rfl
theorem v30_at : val_main_v30 (F := Ideal) x g (ix2 k j) = ∑ i : Fin 48, g (ix3 0 i j) * act (x (ix2 i k)) := by
  simp only [← v20_at, ← v0_at]
  pointwise [val_main_v30, val_main_v29]
theorem v24_at : val_main_v24 (F := Ideal) x g (ix2 k j) = ∑ i : Fin 48, g (ix3 1 i j) * act (x (ix2 i k)) := by
  simp only [← v22_at, ← v8_at]
  pointwise [val_main_v24, val_main_v23]
theorem v34_at : val_main_v34 (F := Ideal) x g (ix3 l k j) = ∑ i : Fin 48, g (ix3 l i j) * act (x (ix2 i k)) := by
  fin_cases l
  · refine Eq.trans ?_ (v30_at x g k j)
    pointwise [val_main_v34, val_main_v33, val_main_v27, val_main_v32, val_main_cst, val_main_cst_0]
  · refine Eq.trans ?_ (v24_at x g k j)
    pointwise [val_main_v34, val_main_v33, val_main_v27, val_main_v26, val_main_cst, val_main_cst_0]
end

/-- The first array after the run is the reference's: the first layer's part, stored, and the second's, added. -/
theorem acc_even (c : Dev nD) (t : Fin cfg0.N) (h : t.val % 2 = 0) (i : Fin 48) (k : Fin 1024) :
    (outsAt0 m c t.val t.isLt).1 (ix2 i k)
      = actBwd (A m c (ix2 i k)) (∑ j : Fin 768, G m c (ix3 (pl t) i j) * W m c (ix3 (pl t) k j)) := by
  rw [outsAt0_A m c t h (by omega)]
  frame_out
  refine (pay3_at (b0 m c t) (b1 m c t) (b3 m c t) i k).trans ?_
  simp only [x0_at, x1_at, x3_at]
theorem arr4 (c : Dev nD) : (dats m 0 c).arrAt 4 cfg0.N = val_main_v36 (F := Ideal) (A m c) (W m c) (G m c) := by
  refine (dats m 0 c).arrAt_eq_of_covers 4 _ (by decide +kernel) fun t hf y => ?_
  blk_simp
  have h1 : t.val % 2 = 1 := (flush0_4 t).mp hf
  have hN : t.val < 2 := lt_of_lt_of_eq t.isLt (show cfg0.N = 2 from N_0)
  rw [after0_4, outsAt0_B m c t (by omega) h1]
  frame_out
  obtain ⟨i, k, rfl⟩ : ∃ (i : Fin 48) (k : Fin 1024), y = ix2 i k := ⟨y 0, y 1, eq_ix2 y⟩
  rw [show ((win0_4.blk t).view.emb (ix2 i k)) = ix2 i k by blk_ext [e4], v36_at]
  refine (pay5_at (b0 m c t) (b1 m c t) (b3 m c t) _ i k).trans ?_
  have hp : t.val - 1 < cfg0.N := Nat.lt_of_le_of_lt (Nat.sub_le _ _) t.isLt
  have he : (⟨t.val - 1, hp⟩ : Fin cfg0.N).val % 2 = 0 := by dsimp only; omega
  refine congrArg₂ _ ((acc_even m c ⟨t.val - 1, hp⟩ he i k).trans ?_) ?_
  · rw [show pl ⟨t.val - 1, hp⟩ = 0 from Fin.ext (by show t.val - 1 = 0; omega)]
  · simp only [x0_at, x1_at, x3_at]
    rw [show pl t = 1 from Fin.ext (by show t.val = 1; omega)]

/-- The second array after the run is the reference's. -/
theorem arr5 (c : Dev nD) : (dats m 0 c).arrAt 5 cfg0.N = val_main_v34 (F := Ideal) (A m c) (G m c) := by
  refine (dats m 0 c).arrAt_eq_of_covers 5 _ (by decide +kernel) fun t hf y => ?_
  blk_simp
  have hN : t.val < 2 := lt_of_lt_of_eq t.isLt (show cfg0.N = 2 from N_0)
  obtain ⟨k, j, rfl⟩ : ∃ (k : Fin 1024) (j : Fin 768), y = ix3 0 k j := ⟨y 1, y 2, by blk_ext []⟩
  rw [show ((win0_5.blk t).view.emb (ix3 0 k j)) = ix3 (pl t) k j by blk_ext [e5], v34_at]
  rcases (by omega : t.val % 2 = 0 ∨ t.val % 2 = 1) with h | h
  · rw [after0_5, outsAt0_A m c t h (by omega)]
    frame_out
    refine (pay4_at (b0 m c t) (b3 m c t) k j).trans ?_
    simp only [x0_at, x3_at]
  · rw [after0_5, outsAt0_B m c t (by omega) h]
    frame_out
    refine (pay4_at (b0 m c t) (b3 m c t) k j).trans ?_
    simp only [x0_at, x3_at]

end Cert.ModBwdIdeal.Gen

namespace Cert.Proof.ModBwd

open Idealize.ShloMosaic Idealize.SL.Sem Idealize.ShloMosaic.Tactic

/-- The two programs have one text, so the run over the machine's floats is the other's. -/
theorem frame_bits : Cert.quiescent_ModBwd := by
  intro m g _
  refine Eq.mp ?_ (Cert.ModBwdIdeal.Gen.frame (F := Bits) m g)
  sl_kernel_rfl
theorem frame_ideal : Cert.quiescent_ModBwdIdeal := fun m g _ => Cert.ModBwdIdeal.Gen.frame m g
theorem frame_ref : Cert.quiescent_ModBwdRefIdeal := fun m g _ =>
  (θ_run Cert.ModBwdRefIdeal.defs _ _).mono (fun r h => ⟨fun c => (h c).2.2, sem_eq_zero_of_no_sems (by decide) r.2⟩)
    (Cert.ModBwdRefIdeal.Value.run (F := Ideal) m g)

theorem algebraic : Cert.algebraic_ModBwdIdeal_ModBwdRefIdeal := by
  intro m g m' g' hpre hagree
  refine ⟨fun c => (Cert.ModBwdIdeal.Gen.dats m 0 c).arrAt 4 Cert.ModBwdIdeal.cfg0.N, fun c => (Cert.ModBwdIdeal.Gen.dats m 0 c).arrAt 5 Cert.ModBwdIdeal.cfg0.N,
    Cert.ModBwdIdeal.Value.run_blocks m g,
    (θ_run Cert.ModBwdRefIdeal.defs _ _).mono (fun r h c => ?_) (Cert.ModBwdRefIdeal.Value.run (F := Ideal) m' g')⟩
  obtain ⟨h0, h1, ha⟩ := h c
  obtain ⟨e0, e1, e2, e3⟩ := hagree c
  refine ⟨h0.trans ?_, h1.trans ?_, ha⟩
  · rw [Cert.ModBwdRefIdeal.Read.val_main_v36_eq, e0, e1, e3]
    exact (Cert.ModBwdIdeal.Gen.arr4 m c).symm
  · rw [Cert.ModBwdRefIdeal.Read.val_main_v34_eq, e0, e3]
    exact (Cert.ModBwdIdeal.Gen.arr5 m c).symm

end Cert.Proof.ModBwd

end
-- ==== Proof.MmNorm.lean ====
module

public import proofs.«01_k».proof.Defs
public import proofs.«01_k».proof.Proof.Rms
public import proofs.«01_k».proof.Proof.Gen.Norm
public import proofs.«01_k».proof.Proof.Gen.NormIdeal
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Read
public import Idealize.ShloMosaic.Lib.Pointwise
public import Idealize.ShloMosaic.Lib.StableHlo.ReadAt
public import Idealize.ShloMosaic.Lib.Pipeline.ValueKit.Geometry
public import Idealize.ShloMosaic.Lib.Pipeline.ValueKit.Acc

@[expose] public section

set_option maxRecDepth 16384

noncomputable section

namespace Cert.NormIdeal.Gen

open Cert.NormIdeal Idealize.ShloMosaic Idealize.ShloMosaic.TcCoe Idealize.SL Idealize.SL.Sem
open Idealize.ShloMosaic.Pipeline (Dat Cfg Window)
open Cert.NormRefIdeal.Read
open scoped BigOperators

open Cert.Proof.Rms (irms nrm)

variable (m : (ℓ : Loc nD τ sig) → Buf (Elt Ideal) ℓ)

/-- The residual, the branch, the gate, the norm's weight, the scale and the shift on core `c`. -/
abbrev X (c : Dev nD) : FVec Ideal S4x2048x1024 .f32 := m ((c : Thread nD τ).loc main_arg0)
abbrev Y (c : Dev nD) : FVec Ideal S4x2048x1024 .f32 := m ((c : Thread nD τ).loc main_arg1)
abbrev A (c : Dev nD) : FVec Ideal S4x1x1024 .f32 := m ((c : Thread nD τ).loc main_arg2)
abbrev W (c : Dev nD) : FVec Ideal S1x1024 .f32 := m ((c : Thread nD τ).loc main_arg3)
abbrev C (c : Dev nD) : FVec Ideal S4x1x1024 .f32 := m ((c : Thread nD τ).loc main_arg4)
abbrev H (c : Dev nD) : FVec Ideal S4x1x1024 .f32 := m ((c : Thread nD τ).loc main_arg5)

/-- A point's blocks. -/
abbrev b0 (c : Dev nD) (t : Fin cfg0.N) : Vec Ideal S1x512x1024 .f32 := iblk m c 0 t
abbrev b1 (c : Dev nD) (t : Fin cfg0.N) : Vec Ideal S1x512x1024 .f32 := iblk m c 1 t
abbrev b2 (c : Dev nD) (t : Fin cfg0.N) : Vec Ideal S1x1x1024 .f32 := iblk m c 2 t
abbrev b3 (c : Dev nD) (t : Fin cfg0.N) : Vec Ideal S1x1024 .f32 := iblk m c 3 t
abbrev b4 (c : Dev nD) (t : Fin cfg0.N) : Vec Ideal S1x1x1024 .f32 := iblk m c 4 t
abbrev b5 (c : Dev nD) (t : Fin cfg0.N) : Vec Ideal S1x1x1024 .f32 := iblk m c 5 t

/-- A point's row of the batch and its rows. -/
abbrev pb (t : Fin cfg0.N) : Fin 4 := ⟨t.val / 4, by have := lt_of_lt_of_eq t.isLt (show cfg0.N = 16 from N_0); omega⟩
abbrev pi (t : Fin cfg0.N) (i : Fin 512) : Fin 2048 := ⟨512 * (t.val % 4) + i.val, by omega⟩

theorem e0 : ∀ t : Fin cfg0.N, win0_0.index t = ![t.val / 4, t.val % 4, 0] := (by decide +kernel : ∀ t : Fin grid0.N, _)
theorem e1 : ∀ t : Fin cfg0.N, win0_1.index t = ![t.val / 4, t.val % 4, 0] := (by decide +kernel : ∀ t : Fin grid0.N, _)
theorem e2 : ∀ t : Fin cfg0.N, win0_2.index t = ![t.val / 4, 0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![t.val / 4, 0, 0] := (by decide +kernel : ∀ t : Fin grid0.N, _)
theorem e5 : ∀ t : Fin cfg0.N, win0_5.index t = ![t.val / 4, 0, 0] := (by decide +kernel : ∀ t : Fin grid0.N, _)
theorem e6 : ∀ t : Fin cfg0.N, win0_6.index t = ![t.val / 4, t.val % 4, 0] := (by decide +kernel : ∀ t : Fin grid0.N, _)
theorem e7 : ∀ t : Fin cfg0.N, win0_7.index t = ![t.val / 4, t.val % 4, 0] := (by decide +kernel : ∀ t : Fin grid0.N, _)
theorem e8 : ∀ t : Fin cfg0.N, win0_8.index t = ![0, t.val] := (by decide +kernel : ∀ t : Fin grid0.N, _)

section
variable (x y : Vec Ideal S1x512x1024 .f32) (a s h : Vec Ideal S1x1x1024 .f32) (w : Vec Ideal S1x1024 .f32) (u : FVec Ideal S512x1024 .f32) (i : Fin 512) (j : Fin 1024)

/-- What a point computes, entry by entry. -/
theorem pay4_at : k0_pay4 x y a (ix2 i j) = x (ix3 0 i j) + a (ix3 0 0 j) * y (ix3 0 i j) := by
  pointwise [k0_pay4]
theorem pay5_at : k0_pay5 x y a w s h (ix2 i j) = nrm (fun q => x (ix3 0 i q) + a (ix3 0 0 q) * y (ix3 0 i q)) (w (ix2 0 j)) (s (ix3 0 0 j)) (h (ix3 0 0 j)) j := by
  have e : (fun q => x (ix3 0 i q) + a (ix3 0 0 q) * y (ix3 0 i q)) = fun q => k0_pay4 x y a (ix2 i q) := funext fun q => (pay4_at x y a i q).symm
  rw [e]
  unfold nrm irms
  pointwise [k0_pay5]
theorem pay6_eq : k0_pay6 x y a w s h = k0_pay5 x y a w s h := by
  have hx (x : Vec Ideal S1x512x1024 .f32) : View.ld x r0_0 = x := View.ld_unit_zero (by funext a; revert a; decide) _ _
  have ha (x : Vec Ideal S1x1x1024 .f32) : View.ld x r0_1 = x := View.ld_unit_zero (by funext a; revert a; decide) _ _
  have hw (x : Vec Ideal S1x1024 .f32) : View.ld x r0_2 = x := View.ld_unit_zero (by funext a; revert a; decide) _ _
  rw [k0_pay6, hx, hx, ha, ha, ha, hw]
theorem pay1_at : k0_pay1 u (ix3 0 i j) = u (ix2 i j) := by
  pointwise [k0_pay1]
theorem pay2_at : k0_pay2 u (ix3 0 i j) = u (ix2 i j) := by
  pointwise [k0_pay2]
theorem pay3_at : k0_pay3 u (ix2 j i) = u (ix2 i j) := by
  pointwise [k0_pay3]

theorem x0_at (c : Dev nD) (t : Fin cfg0.N) : b0 m c t (ix3 0 i j) = X m c (ix3 (pb t) (pi t i) j) := by
  blk_simp [b0, iblk]
  show V m c main_arg0 _ = _
  rw [V_main_arg0]
  congr 1
  blk_ext [e0]
theorem x1_at (c : Dev nD) (t : Fin cfg0.N) : b1 m c t (ix3 0 i j) = Y m c (ix3 (pb t) (pi t i) j) := by
  blk_simp [b1, iblk]
  show V m c main_arg1 _ = _
  rw [V_main_arg1]
  congr 1
  blk_ext [e1]
theorem x2_at (c : Dev nD) (t : Fin cfg0.N) : b2 m c t (ix3 0 0 j) = A m c (ix3 (pb t) 0 j) := by
  blk_simp [b2, iblk]
  show V m c main_arg2 _ = _
  rw [V_main_arg2]
  congr 1
  blk_ext [e2]
theorem x3_at (c : Dev nD) (t : Fin cfg0.N) : b3 m c t (ix2 0 j) = W m c (ix2 0 j) := by
  blk_simp [b3, iblk]
  show V m c main_arg3 _ = _
  rw [V_main_arg3]
  congr 1
  blk_ext [e3]
theorem x4_at (c : Dev nD) (t : Fin cfg0.N) : b4 m c t (ix3 0 0 j) = C m c (ix3 (pb t) 0 j) := by
  blk_simp [b4, iblk]
  show V m c main_arg4 _ = _
  rw [V_main_arg4]
  congr 1
  blk_ext [e4]
theorem x5_at (c : Dev nD) (t : Fin cfg0.N) : b5 m c t (ix3 0 0 j) = H m c (ix3 (pb t) 0 j) := by
  blk_simp [b5, iblk]
  show V m c main_arg5 _ = _
  rw [V_main_arg5]
  congr 1
  blk_ext [e5]
end

/-! The reference, entry by entry. -/
section
variable (x y : (⟨Cert.NormRefIdeal.S4x2048x1024, .f32⟩ : BufTy).Contents (Elt Ideal)) (a s h : (⟨Cert.NormRefIdeal.S4x1x1024, .f32⟩ : BufTy).Contents (Elt Ideal))
  (w : (⟨Cert.NormRefIdeal.S1x1024, .f32⟩ : BufTy).Contents (Elt Ideal)) (b : Fin 4) (i : Fin 2048) (j : Fin 1024)
theorem v2_at : val_main_v2 (F := Ideal) x y a (ix3 b i j) = x (ix3 b i j) + a (ix3 b 0 j) * y (ix3 b i j) := by
  pointwise [val_main_v2, val_main_v1, val_main_v0]
theorem v10_at : val_main_v10 (F := Ideal) x y a (ix3 b i 0) = irms (fun q => x (ix3 b i q) + a (ix3 b 0 q) * y (ix3 b i q)) := by
  have e : (fun q => x (ix3 b i q) + a (ix3 b 0 q) * y (ix3 b i q)) = fun q => val_main_v2 (F := Ideal) x y a (ix3 b i q) := funext fun q => (v2_at x y a b i q).symm
  rw [e]
  unfold irms
  pointwise [val_main_v10, val_main_v9, val_main_v8, val_main_v7, val_main_v6, val_main_v5, val_main_v4, val_main_v3, val_main_cst, val_main_cst_0, val_main_cst_1]
theorem v21_at : val_main_v21 (F := Ideal) x y a w s h (ix3 b i j)
    = nrm (fun q => x (ix3 b i q) + a (ix3 b 0 q) * y (ix3 b i q)) (w (ix2 0 j)) (s (ix3 b 0 j)) (h (ix3 b 0 j)) j := by
  rw [nrm, ← v10_at, ← v2_at]
  pointwise [val_main_v21, val_main_v20, val_main_v19, val_main_v18, val_main_v17, val_main_v16, val_main_v15, val_main_v14, val_main_v13, val_main_v12, val_main_v11, val_main_cst_2]
theorem v22_at : val_main_v22 (F := Ideal) x y a w s h (ix3 b i j) = val_main_v21 (F := Ideal) x y a w s h (ix3 b i j) := by
  pointwise [val_main_v22]
theorem v25_at : val_main_v25 (F := Ideal) x y a w s h (ix2 j ⟨2048 * b.val + i.val, by omega⟩) = val_main_v21 (F := Ideal) x y a w s h (ix3 b i j) := by
  pointwise [val_main_v25, val_main_v24, val_main_v23]
end

/-- The arrays after the run are the reference's. -/
theorem arr6 (c : Dev nD) : (dats m 0 c).arrAt 6 cfg0.N = val_main_v2 (F := Ideal) (X m c) (Y m c) (A m c) := by
  refine (dats m 0 c).arrAt_eq_of_covers 6 _ (by decide +kernel) fun t hf y => ?_
  blk_simp
  rw [after0_6]
  frame_out
  obtain ⟨i, j, rfl⟩ : ∃ (i : Fin 512) (j : Fin 1024), y = ix3 0 i j := ⟨y 1, y 2, by blk_ext []⟩
  rw [show ((win0_6.blk t).view.emb (ix3 0 i j)) = ix3 (pb t) (pi t i) j by blk_ext [e6], v2_at]
  refine ((pay1_at (k0_pay4 (b0 m c t) (b1 m c t) (b2 m c t)) i j).trans (pay4_at _ _ _ i j)).trans ?_
  rw [x0_at, x1_at, x2_at]
theorem pt (c : Dev nD) (t : Fin cfg0.N) (i : Fin 512) (j : Fin 1024) : k0_pay6 (b0 m c t) (b1 m c t) (b2 m c t) (b3 m c t) (b4 m c t) (b5 m c t) (ix2 i j)
    = val_main_v21 (F := Ideal) (X m c) (Y m c) (A m c) (W m c) (C m c) (H m c) (ix3 (pb t) (pi t i) j) := by
  rw [pay6_eq, pay5_at, v21_at]
  simp only [x0_at, x1_at, x2_at, x3_at, x4_at, x5_at]
theorem arr7 (c : Dev nD) : (dats m 0 c).arrAt 7 cfg0.N = val_main_v22 (F := Ideal) (X m c) (Y m c) (A m c) (W m c) (C m c) (H m c) := by
  refine (dats m 0 c).arrAt_eq_of_covers 7 _ (by decide +kernel) fun t hf y => ?_
  blk_simp
  rw [after0_7]
  frame_out
  obtain ⟨i, j, rfl⟩ : ∃ (i : Fin 512) (j : Fin 1024), y = ix3 0 i j := ⟨y 1, y 2, by blk_ext []⟩
  rw [show ((win0_7.blk t).view.emb (ix3 0 i j)) = ix3 (pb t) (pi t i) j by blk_ext [e7], v22_at]
  exact (pay2_at (k0_pay6 (b0 m c t) (b1 m c t) (b2 m c t) (b3 m c t) (b4 m c t) (b5 m c t)) i j).trans (pt m c t i j)
theorem arr8 (c : Dev nD) : (dats m 0 c).arrAt 8 cfg0.N = val_main_v25 (F := Ideal) (X m c) (Y m c) (A m c) (W m c) (C m c) (H m c) := by
  refine (dats m 0 c).arrAt_eq_of_covers 8 _ (by decide +kernel) fun t hf y => ?_
  blk_simp
  rw [after0_8]
  frame_out
  obtain ⟨j, i, rfl⟩ : ∃ (j : Fin 1024) (i : Fin 512), y = ix2 j i := ⟨y 0, y 1, eq_ix2 y⟩
  rw [show ((win0_8.blk t).view.emb (ix2 j i)) = ix2 j ⟨2048 * (pb t).val + (pi t i).val, by omega⟩ by blk_ext [e8], v25_at]
  exact (pay3_at (k0_pay6 (b0 m c t) (b1 m c t) (b2 m c t) (b3 m c t) (b4 m c t) (b5 m c t)) i j).trans (pt m c t i j)

end Cert.NormIdeal.Gen

namespace Cert.Proof.Norm

open Idealize.ShloMosaic Idealize.SL.Sem Idealize.ShloMosaic.Tactic

/-- The two programs have one text, so the run over the machine's floats is the other's. -/
theorem frame_bits : Cert.quiescent_Norm := by
  intro m g _
  refine Eq.mp ?_ (Cert.NormIdeal.Gen.frame (F := Bits) m g)
  sl_kernel_rfl
theorem frame_ideal : Cert.quiescent_NormIdeal := fun m g _ => Cert.NormIdeal.Gen.frame m g
theorem frame_ref : Cert.quiescent_NormRefIdeal := fun m g _ =>
  (θ_run Cert.NormRefIdeal.defs _ _).mono (fun r h => ⟨fun c => (h c).2.2.2, sem_eq_zero_of_no_sems (by decide) r.2⟩)
    (Cert.NormRefIdeal.Value.run (F := Ideal) m g)

theorem algebraic : Cert.algebraic_NormIdeal_NormRefIdeal := by
  intro m g m' g' hpre hagree
  refine ⟨fun c => (Cert.NormIdeal.Gen.dats m 0 c).arrAt 6 Cert.NormIdeal.cfg0.N, fun c => (Cert.NormIdeal.Gen.dats m 0 c).arrAt 7 Cert.NormIdeal.cfg0.N,
    fun c => (Cert.NormIdeal.Gen.dats m 0 c).arrAt 8 Cert.NormIdeal.cfg0.N,
    Cert.NormIdeal.Value.run_blocks m g,
    (θ_run Cert.NormRefIdeal.defs _ _).mono (fun r h c => ?_) (Cert.NormRefIdeal.Value.run (F := Ideal) m' g')⟩
  obtain ⟨h0, h1, h2, ha⟩ := h c
  obtain ⟨e0, e1, e2, e3, e4, e5⟩ := hagree c
  refine ⟨h0.trans ?_, h1.trans ?_, h2.trans ?_, ha⟩
  · rw [Cert.NormRefIdeal.Read.val_main_v2_eq, e0, e1, e2]
    exact (Cert.NormIdeal.Gen.arr6 m c).symm
  · rw [Cert.NormRefIdeal.Read.val_main_v22_eq, e0, e1, e2, e3, e4, e5]
    exact (Cert.NormIdeal.Gen.arr7 m c).symm
  · rw [Cert.NormRefIdeal.Read.val_main_v25_eq, e0, e1, e2, e3, e4, e5]
    exact (Cert.NormIdeal.Gen.arr8 m c).symm

end Cert.Proof.Norm

end
-- ==== Proof.MmCtxNorm.lean ====
module

public import proofs.«01_k».proof.Defs
public import proofs.«01_k».proof.Proof.Rms
public import proofs.«01_k».proof.Proof.Gen.CtxNorm
public import proofs.«01_k».proof.Proof.Gen.CtxNormIdeal
public import proofs.«01_k».proof.Proof.Gen.CtxNormIdeal.Frame
public import proofs.«01_k».proof.Proof.Gen.CtxNormIdeal.Value
public import proofs.«01_k».proof.Proof.Gen.CtxNormRefIdeal
public import proofs.«01_k».proof.Proof.Gen.CtxNormRefIdeal.Read
public import Idealize.ShloMosaic.Lib.Pointwise
public import Idealize.ShloMosaic.Lib.StableHlo.ReadAt
public import Idealize.ShloMosaic.Lib.Pipeline.ValueKit.Geometry
public import Idealize.ShloMosaic.Lib.Pipeline.ValueKit.Acc

@[expose] public section

set_option maxRecDepth 16384

noncomputable section

namespace Cert.CtxNormIdeal.Gen

open Cert.CtxNormIdeal Idealize.ShloMosaic Idealize.ShloMosaic.TcCoe Idealize.SL Idealize.SL.Sem
open Idealize.ShloMosaic.Pipeline (Dat Cfg Window)
open Cert.CtxNormRefIdeal.Read
open scoped BigOperators

open Cert.Proof.Rms (irms nrm)

variable (m : (ℓ : Loc nD τ sig) → Buf (Elt Ideal) ℓ)

/-- The residual, the branch, the gate, the norm's weight, the scale and the shift on core `c`. -/
abbrev X (c : Dev nD) : FVec Ideal S4x256x1024 .f32 := m ((c : Thread nD τ).loc main_arg0)
abbrev Y (c : Dev nD) : FVec Ideal S4x256x1024 .f32 := m ((c : Thread nD τ).loc main_arg1)
abbrev A (c : Dev nD) : FVec Ideal S4x1x1024 .f32 := m ((c : Thread nD τ).loc main_arg2)
abbrev W (c : Dev nD) : FVec Ideal S1x1024 .f32 := m ((c : Thread nD τ).loc main_arg3)
abbrev C (c : Dev nD) : FVec Ideal S4x1x1024 .f32 := m ((c : Thread nD τ).loc main_arg4)
abbrev H (c : Dev nD) : FVec Ideal S4x1x1024 .f32 := m ((c : Thread nD τ).loc main_arg5)

/-- A point's blocks. -/
abbrev b0 (c : Dev nD) (t : Fin cfg0.N) : Vec Ideal S1x256x1024 .f32 := iblk m c 0 t
abbrev b1 (c : Dev nD) (t : Fin cfg0.N) : Vec Ideal S1x256x1024 .f32 := iblk m c 1 t
abbrev b2 (c : Dev nD) (t : Fin cfg0.N) : Vec Ideal S1x1x1024 .f32 := iblk m c 2 t
abbrev b3 (c : Dev nD) (t : Fin cfg0.N) : Vec Ideal S1x1024 .f32 := iblk m c 3 t
abbrev b4 (c : Dev nD) (t : Fin cfg0.N) : Vec Ideal S1x1x1024 .f32 := iblk m c 4 t
abbrev b5 (c : Dev nD) (t : Fin cfg0.N) : Vec Ideal S1x1x1024 .f32 := iblk m c 5 t

/-- A point's row of the batch and its rows. -/
abbrev pb (t : Fin cfg0.N) : Fin 4 := ⟨t.val / 1, by have := lt_of_lt_of_eq t.isLt (show cfg0.N = 4 from N_0); omega⟩
abbrev pi (t : Fin cfg0.N) (i : Fin 256) : Fin 256 := ⟨256 * (t.val % 1) + i.val, by omega⟩

theorem e0 : ∀ t : Fin cfg0.N, win0_0.index t = ![t.val / 1, t.val % 1, 0] := (by decide +kernel : ∀ t : Fin grid0.N, _)
theorem e1 : ∀ t : Fin cfg0.N, win0_1.index t = ![t.val / 1, t.val % 1, 0] := (by decide +kernel : ∀ t : Fin grid0.N, _)
theorem e2 : ∀ t : Fin cfg0.N, win0_2.index t = ![t.val / 1, 0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![t.val / 1, 0, 0] := (by decide +kernel : ∀ t : Fin grid0.N, _)
theorem e5 : ∀ t : Fin cfg0.N, win0_5.index t = ![t.val / 1, 0, 0] := (by decide +kernel : ∀ t : Fin grid0.N, _)
theorem e6 : ∀ t : Fin cfg0.N, win0_6.index t = ![t.val / 1, t.val % 1, 0] := (by decide +kernel : ∀ t : Fin grid0.N, _)
theorem e7 : ∀ t : Fin cfg0.N, win0_7.index t = ![t.val / 1, t.val % 1, 0] := (by decide +kernel : ∀ t : Fin grid0.N, _)
theorem e8 : ∀ t : Fin cfg0.N, win0_8.index t = ![0, t.val] := (by decide +kernel : ∀ t : Fin grid0.N, _)

section
variable (x y : Vec Ideal S1x256x1024 .f32) (a s h : Vec Ideal S1x1x1024 .f32) (w : Vec Ideal S1x1024 .f32) (u : FVec Ideal S256x1024 .f32) (i : Fin 256) (j : Fin 1024)

/-- What a point computes, entry by entry. -/
theorem pay4_at : k0_pay4 x y a (ix2 i j) = x (ix3 0 i j) + a (ix3 0 0 j) * y (ix3 0 i j) := by
  pointwise [k0_pay4]
theorem pay5_at : k0_pay5 x y a w s h (ix2 i j) = nrm (fun q => x (ix3 0 i q) + a (ix3 0 0 q) * y (ix3 0 i q)) (w (ix2 0 j)) (s (ix3 0 0 j)) (h (ix3 0 0 j)) j := by
  have e : (fun q => x (ix3 0 i q) + a (ix3 0 0 q) * y (ix3 0 i q)) = fun q => k0_pay4 x y a (ix2 i q) := funext fun q => (pay4_at x y a i q).symm
  rw [e]
  unfold nrm irms
  pointwise [k0_pay5]
theorem pay6_eq : k0_pay6 x y a w s h = k0_pay5 x y a w s h := by
  have hx (x : Vec Ideal S1x256x1024 .f32) : View.ld x r0_0 = x := View.ld_unit_zero (by funext a; revert a; decide) _ _
  have ha (x : Vec Ideal S1x1x1024 .f32) : View.ld x r0_1 = x := View.ld_unit_zero (by funext a; revert a; decide) _ _
  have hw (x : Vec Ideal S1x1024 .f32) : View.ld x r0_2 = x := View.ld_unit_zero (by funext a; revert a; decide) _ _
  rw [k0_pay6, hx, hx, ha, ha, ha, hw]
theorem pay1_at : k0_pay1 u (ix3 0 i j) = u (ix2 i j) := by
  pointwise [k0_pay1]
theorem pay2_at : k0_pay2 u (ix3 0 i j) = u (ix2 i j) := by
  pointwise [k0_pay2]
theorem pay3_at : k0_pay3 u (ix2 j i) = u (ix2 i j) := by
  pointwise [k0_pay3]

theorem x0_at (c : Dev nD) (t : Fin cfg0.N) : b0 m c t (ix3 0 i j) = X m c (ix3 (pb t) (pi t i) j) := by
  blk_simp [b0, iblk]
  show V m c main_arg0 _ = _
  rw [V_main_arg0]
  congr 1
  blk_ext [e0]
theorem x1_at (c : Dev nD) (t : Fin cfg0.N) : b1 m c t (ix3 0 i j) = Y m c (ix3 (pb t) (pi t i) j) := by
  blk_simp [b1, iblk]
  show V m c main_arg1 _ = _
  rw [V_main_arg1]
  congr 1
  blk_ext [e1]
theorem x2_at (c : Dev nD) (t : Fin cfg0.N) : b2 m c t (ix3 0 0 j) = A m c (ix3 (pb t) 0 j) := by
  blk_simp [b2, iblk]
  show V m c main_arg2 _ = _
  rw [V_main_arg2]
  congr 1
  blk_ext [e2]
theorem x3_at (c : Dev nD) (t : Fin cfg0.N) : b3 m c t (ix2 0 j) = W m c (ix2 0 j) := by
  blk_simp [b3, iblk]
  show V m c main_arg3 _ = _
  rw [V_main_arg3]
  congr 1
  blk_ext [e3]
theorem x4_at (c : Dev nD) (t : Fin cfg0.N) : b4 m c t (ix3 0 0 j) = C m c (ix3 (pb t) 0 j) := by
  blk_simp [b4, iblk]
  show V m c main_arg4 _ = _
  rw [V_main_arg4]
  congr 1
  blk_ext [e4]
theorem x5_at (c : Dev nD) (t : Fin cfg0.N) : b5 m c t (ix3 0 0 j) = H m c (ix3 (pb t) 0 j) := by
  blk_simp [b5, iblk]
  show V m c main_arg5 _ = _
  rw [V_main_arg5]
  congr 1
  blk_ext [e5]
end

/-! The reference, entry by entry. -/
section
variable (x y : (⟨Cert.CtxNormRefIdeal.S4x256x1024, .f32⟩ : BufTy).Contents (Elt Ideal)) (a s h : (⟨Cert.CtxNormRefIdeal.S4x1x1024, .f32⟩ : BufTy).Contents (Elt Ideal))
  (w : (⟨Cert.CtxNormRefIdeal.S1x1024, .f32⟩ : BufTy).Contents (Elt Ideal)) (b : Fin 4) (i : Fin 256) (j : Fin 1024)
theorem v2_at : val_main_v2 (F := Ideal) x y a (ix3 b i j) = x (ix3 b i j) + a (ix3 b 0 j) * y (ix3 b i j) := by
  pointwise [val_main_v2, val_main_v1, val_main_v0]
theorem v10_at : val_main_v10 (F := Ideal) x y a (ix3 b i 0) = irms (fun q => x (ix3 b i q) + a (ix3 b 0 q) * y (ix3 b i q)) := by
  have e : (fun q => x (ix3 b i q) + a (ix3 b 0 q) * y (ix3 b i q)) = fun q => val_main_v2 (F := Ideal) x y a (ix3 b i q) := funext fun q => (v2_at x y a b i q).symm
  rw [e]
  unfold irms
  pointwise [val_main_v10, val_main_v9, val_main_v8, val_main_v7, val_main_v6, val_main_v5, val_main_v4, val_main_v3, val_main_cst, val_main_cst_0, val_main_cst_1]
theorem v21_at : val_main_v21 (F := Ideal) x y a w s h (ix3 b i j)
    = nrm (fun q => x (ix3 b i q) + a (ix3 b 0 q) * y (ix3 b i q)) (w (ix2 0 j)) (s (ix3 b 0 j)) (h (ix3 b 0 j)) j := by
  rw [nrm, ← v10_at, ← v2_at]
  pointwise [val_main_v21, val_main_v20, val_main_v19, val_main_v18, val_main_v17, val_main_v16, val_main_v15, val_main_v14, val_main_v13, val_main_v12, val_main_v11, val_main_cst_2]
theorem v22_at : val_main_v22 (F := Ideal) x y a w s h (ix3 b i j) = val_main_v21 (F := Ideal) x y a w s h (ix3 b i j) := by
  pointwise [val_main_v22]
theorem v25_at : val_main_v25 (F := Ideal) x y a w s h (ix2 j ⟨256 * b.val + i.val, by omega⟩) = val_main_v21 (F := Ideal) x y a w s h (ix3 b i j) := by
  pointwise [val_main_v25, val_main_v24, val_main_v23]
end

/-- The arrays after the run are the reference's. -/
theorem arr6 (c : Dev nD) : (dats m 0 c).arrAt 6 cfg0.N = val_main_v2 (F := Ideal) (X m c) (Y m c) (A m c) := by
  refine (dats m 0 c).arrAt_eq_of_covers 6 _ (by decide +kernel) fun t hf y => ?_
  blk_simp
  rw [after0_6]
  frame_out
  obtain ⟨i, j, rfl⟩ : ∃ (i : Fin 256) (j : Fin 1024), y = ix3 0 i j := ⟨y 1, y 2, by blk_ext []⟩
  rw [show ((win0_6.blk t).view.emb (ix3 0 i j)) = ix3 (pb t) (pi t i) j by blk_ext [e6], v2_at]
  refine ((pay1_at (k0_pay4 (b0 m c t) (b1 m c t) (b2 m c t)) i j).trans (pay4_at _ _ _ i j)).trans ?_
  rw [x0_at, x1_at, x2_at]
theorem pt (c : Dev nD) (t : Fin cfg0.N) (i : Fin 256) (j : Fin 1024) : k0_pay6 (b0 m c t) (b1 m c t) (b2 m c t) (b3 m c t) (b4 m c t) (b5 m c t) (ix2 i j)
    = val_main_v21 (F := Ideal) (X m c) (Y m c) (A m c) (W m c) (C m c) (H m c) (ix3 (pb t) (pi t i) j) := by
  rw [pay6_eq, pay5_at, v21_at]
  simp only [x0_at, x1_at, x2_at, x3_at, x4_at, x5_at]
theorem arr7 (c : Dev nD) : (dats m 0 c).arrAt 7 cfg0.N = val_main_v22 (F := Ideal) (X m c) (Y m c) (A m c) (W m c) (C m c) (H m c) := by
  refine (dats m 0 c).arrAt_eq_of_covers 7 _ (by decide +kernel) fun t hf y => ?_
  blk_simp
  rw [after0_7]
  frame_out
  obtain ⟨i, j, rfl⟩ : ∃ (i : Fin 256) (j : Fin 1024), y = ix3 0 i j := ⟨y 1, y 2, by blk_ext []⟩
  rw [show ((win0_7.blk t).view.emb (ix3 0 i j)) = ix3 (pb t) (pi t i) j by blk_ext [e7], v22_at]
  exact (pay2_at (k0_pay6 (b0 m c t) (b1 m c t) (b2 m c t) (b3 m c t) (b4 m c t) (b5 m c t)) i j).trans (pt m c t i j)
theorem arr8 (c : Dev nD) : (dats m 0 c).arrAt 8 cfg0.N = val_main_v25 (F := Ideal) (X m c) (Y m c) (A m c) (W m c) (C m c) (H m c) := by
  refine (dats m 0 c).arrAt_eq_of_covers 8 _ (by decide +kernel) fun t hf y => ?_
  blk_simp
  rw [after0_8]
  frame_out
  obtain ⟨j, i, rfl⟩ : ∃ (j : Fin 1024) (i : Fin 256), y = ix2 j i := ⟨y 0, y 1, eq_ix2 y⟩
  rw [show ((win0_8.blk t).view.emb (ix2 j i)) = ix2 j ⟨256 * (pb t).val + (pi t i).val, by omega⟩ by blk_ext [e8], v25_at]
  exact (pay3_at (k0_pay6 (b0 m c t) (b1 m c t) (b2 m c t) (b3 m c t) (b4 m c t) (b5 m c t)) i j).trans (pt m c t i j)

end Cert.CtxNormIdeal.Gen

namespace Cert.Proof.CtxNorm

open Idealize.ShloMosaic Idealize.SL.Sem Idealize.ShloMosaic.Tactic

/-- The two programs have one text, so the run over the machine's floats is the other's. -/
theorem frame_bits : Cert.quiescent_CtxNorm := by
  intro m g _
  refine Eq.mp ?_ (Cert.CtxNormIdeal.Gen.frame (F := Bits) m g)
  sl_kernel_rfl
theorem frame_ideal : Cert.quiescent_CtxNormIdeal := fun m g _ => Cert.CtxNormIdeal.Gen.frame m g
theorem frame_ref : Cert.quiescent_CtxNormRefIdeal := fun m g _ =>
  (θ_run Cert.CtxNormRefIdeal.defs _ _).mono (fun r h => ⟨fun c => (h c).2.2.2, sem_eq_zero_of_no_sems (by decide) r.2⟩)
    (Cert.CtxNormRefIdeal.Value.run (F := Ideal) m g)

theorem algebraic : Cert.algebraic_CtxNormIdeal_CtxNormRefIdeal := by
  intro m g m' g' hpre hagree
  refine ⟨fun c => (Cert.CtxNormIdeal.Gen.dats m 0 c).arrAt 6 Cert.CtxNormIdeal.cfg0.N, fun c => (Cert.CtxNormIdeal.Gen.dats m 0 c).arrAt 7 Cert.CtxNormIdeal.cfg0.N,
    fun c => (Cert.CtxNormIdeal.Gen.dats m 0 c).arrAt 8 Cert.CtxNormIdeal.cfg0.N,
    Cert.CtxNormIdeal.Value.run_blocks m g,
    (θ_run Cert.CtxNormRefIdeal.defs _ _).mono (fun r h c => ?_) (Cert.CtxNormRefIdeal.Value.run (F := Ideal) m' g')⟩
  obtain ⟨h0, h1, h2, ha⟩ := h c
  obtain ⟨e0, e1, e2, e3, e4, e5⟩ := hagree c
  refine ⟨h0.trans ?_, h1.trans ?_, h2.trans ?_, ha⟩
  · rw [Cert.CtxNormRefIdeal.Read.val_main_v2_eq, e0, e1, e2]
    exact (Cert.CtxNormIdeal.Gen.arr6 m c).symm
  · rw [Cert.CtxNormRefIdeal.Read.val_main_v22_eq, e0, e1, e2, e3, e4, e5]
    exact (Cert.CtxNormIdeal.Gen.arr7 m c).symm
  · rw [Cert.CtxNormRefIdeal.Read.val_main_v25_eq, e0, e1, e2, e3, e4, e5]
    exact (Cert.CtxNormIdeal.Gen.arr8 m c).symm

end Cert.Proof.CtxNorm

end
-- ==== Proof.MmMod.lean ====
module

public import proofs.«01_k».proof.Defs
public import proofs.«01_k».proof.Proof.Gen.Mod
public import proofs.«01_k».proof.Proof.Gen.ModIdeal
public import proofs.«01_k».proof.Proof.Gen.ModIdeal.Frame
public import proofs.«01_k».proof.Proof.Gen.ModIdeal.Value
public import proofs.«01_k».proof.Proof.Gen.ModRefIdeal
public import proofs.«01_k».proof.Proof.Gen.ModRefIdeal.Read
public import Idealize.ShloMosaic.Lib.Pointwise
public import Idealize.ShloMosaic.Lib.StableHlo.ReadAt
public import Idealize.ShloMosaic.Lib.Pipeline.ValueKit.Geometry
public import Idealize.ShloMosaic.Lib.Pipeline.ValueKit.Acc

@[expose] public section

set_option maxRecDepth 16384

noncomputable section

namespace Cert.ModIdeal.Gen

open Cert.ModIdeal Idealize.ShloMosaic Idealize.ShloMosaic.TcCoe Idealize.SL Idealize.SL.Sem
open Idealize.ShloMosaic.Pipeline (Dat Cfg Window)
open Cert.ModRefIdeal.Read
open scoped BigOperators

variable (m : (ℓ : Loc nD τ sig) → Buf (Elt Ideal) ℓ)

/-- The conditioning, the weight and the bias on core `c`. -/
abbrev A (c : Dev nD) : FVec Ideal S48x1024 .f32 := m ((c : Thread nD τ).loc main_arg0)
abbrev W (c : Dev nD) : FVec Ideal S2x1024x768 .f32 := m ((c : Thread nD τ).loc main_arg1)
abbrev B (c : Dev nD) : FVec Ideal S2x1x768 .f32 := m ((c : Thread nD τ).loc main_arg2)

/-- A point's blocks, and its layer. -/
abbrev b0 (c : Dev nD) (t : Fin cfg0.N) : Vec Ideal S48x1024 .f32 := iblk m c 0 t
abbrev b1 (c : Dev nD) (t : Fin cfg0.N) : Vec Ideal S1x1024x768 .f32 := iblk m c 1 t
abbrev b2 (c : Dev nD) (t : Fin cfg0.N) : Vec Ideal S1x1x768 .f32 := iblk m c 2 t
abbrev pl (t : Fin cfg0.N) : Fin 2 := ⟨t.val, lt_of_lt_of_eq t.isLt (show cfg0.N = 2 from N_0)⟩

theorem e0 : ∀ t : Fin cfg0.N, win0_0.index t = ![0, 0] := (by decide +kernel : ∀ t : Fin grid0.N, _)
theorem e1 : ∀ t : Fin cfg0.N, win0_1.index t = ![t.val, 0, 0] := (by decide +kernel : ∀ t : Fin grid0.N, _)
theorem e2 : ∀ t : Fin cfg0.N, win0_2.index t = ![t.val, 0, 0] := (by decide +kernel : ∀ t : Fin grid0.N, _)
theorem e3 : ∀ t : Fin cfg0.N, win0_3.index t = ![t.val, 0, 0] := (by decide +kernel : ∀ t : Fin grid0.N, _)

/-- The activation of an entry. -/
abbrev act (x : EReal) : EReal := x * Ideal.logistic x

/-- What a point stores, entry by entry. -/
theorem pay1_at (x : Vec Ideal S48x1024 .f32) (w : Vec Ideal S1x1024x768 .f32) (b : Vec Ideal S1x1x768 .f32) (i : Fin 48) (j : Fin 768) :
    k0_pay1 x w b (ix3 0 i j) = ∑ k : Fin 1024, act (x (ix2 i k)) * w (ix3 0 k j) + b (ix3 0 0 j) := by
  pointwise [k0_pay1]

theorem x0_at (c : Dev nD) (t : Fin cfg0.N) (i : Fin 48) (k : Fin 1024) : b0 m c t (ix2 i k) = A m c (ix2 i k) := by
  blk_simp [b0, iblk]
  show V m c main_arg0 _ = _
  rw [V_main_arg0]
  congr 1
  blk_ext [e0]
theorem x1_at (c : Dev nD) (t : Fin cfg0.N) (k : Fin 1024) (j : Fin 768) : b1 m c t (ix3 0 k j) = W m c (ix3 (pl t) k j) := by
  blk_simp [b1, iblk]
  show V m c main_arg1 _ = _
  rw [V_main_arg1]
  congr 1
  blk_ext [e1]
theorem x2_at (c : Dev nD) (t : Fin cfg0.N) (j : Fin 768) : b2 m c t (ix3 0 0 j) = B m c (ix3 (pl t) 0 j) := by
  blk_simp [b2, iblk]
  show V m c main_arg2 _ = _
  rw [V_main_arg2]
  congr 1
  blk_ext [e2]

/-! The reference, entry by entry. -/
section
variable (x : (⟨Cert.ModRefIdeal.S48x1024, .f32⟩ : BufTy).Contents (Elt Ideal)) (w : (⟨Cert.ModRefIdeal.S2x1024x768, .f32⟩ : BufTy).Contents (Elt Ideal))
  (b : (⟨Cert.ModRefIdeal.S2x1x768, .f32⟩ : BufTy).Contents (Elt Ideal)) (l : Fin 2) (i : Fin 48) (k : Fin 1024) (j : Fin 768)
theorem v0_at : val_main_v0 (F := Ideal) x (ix2 i k) = act (x (ix2 i k)) := by
  pointwise [val_main_v0, val_main_call0_v5, val_main_call0_v4, val_main_call0_v3, val_main_call0_v2, val_main_call0_v1, val_main_call0_v0, val_main_call0_cst, val_main_call0_cst_0]
  rfl
theorem v8_at : val_main_v8 (F := Ideal) x (ix2 i k) = act (x (ix2 i k)) := by
  pointwise [val_main_v8, val_main_call1_v5, val_main_call1_v4, val_main_call1_v3, val_main_call1_v2, val_main_call1_v1, val_main_call1_v0, val_main_call1_cst, val_main_call1_cst_0]
  rfl
theorem v2_at : val_main_v2 (F := Ideal) w (ix2 k j) = w (ix3 0 k j) := by
  pointwise [val_main_v2, val_main_v1]
theorem v10_at : val_main_v10 (F := Ideal) w (ix2 k j) = w (ix3 1 k j) := by
  pointwise [val_main_v10, val_main_v9]
theorem v6_at : val_main_v6 (F := Ideal) b (ix2 i j) = b (ix3 0 0 j) := by
  pointwise [val_main_v6, val_main_v5, val_main_v4]
theorem v14_at : val_main_v14 (F := Ideal) b (ix2 i j) = b (ix3 1 0 j) := by
  pointwise [val_main_v14, val_main_v13, val_main_v12]
theorem v7_at : val_main_v7 (F := Ideal) x w b (ix2 i j) = ∑ k : Fin 1024, act (x (ix2 i k)) * w (ix3 0 k j) + b (ix3 0 0 j) := by
  simp only [← v0_at, ← v2_at, ← v6_at b i j]
  pointwise [val_main_v7, val_main_v3]
theorem v15_at : val_main_v15 (F := Ideal) x w b (ix2 i j) = ∑ k : Fin 1024, act (x (ix2 i k)) * w (ix3 1 k j) + b (ix3 1 0 j) := by
  simp only [← v8_at, ← v10_at, ← v14_at b i j]
  pointwise [val_main_v15, val_main_v11]
theorem v18_at : val_main_v18 (F := Ideal) x w b (ix3 l i j) = ∑ k : Fin 1024, act (x (ix2 i k)) * w (ix3 l k j) + b (ix3 l 0 j) := by
  fin_cases l
  · refine Eq.trans ?_ (v7_at x w b i j)
    pointwise [val_main_v18, val_main_v17, val_main_v16]
  · refine Eq.trans ?_ (v15_at x w b i j)
    pointwise [val_main_v18, val_main_v17, val_main_v16]
end

/-- The array after the run is the reference's. -/
theorem arr3 (c : Dev nD) : (dats m 0 c).arrAt 3 cfg0.N = val_main_v18 (F := Ideal) (A m c) (W m c) (B m c) := by
  refine (dats m 0 c).arrAt_eq_of_covers 3 _ (by decide +kernel) fun t hf y => ?_
  blk_simp
  rw [after0_3]
  frame_out
  obtain ⟨i, j, rfl⟩ : ∃ (i : Fin 48) (j : Fin 768), y = ix3 0 i j := ⟨y 1, y 2, by blk_ext []⟩
  rw [show ((win0_3.blk t).view.emb (ix3 0 i j)) = ix3 (pl t) i j by blk_ext [e3], v18_at]
  refine (pay1_at (b0 m c t) (b1 m c t) (b2 m c t) i j).trans ?_
  simp only [x0_at, x1_at, x2_at]

end Cert.ModIdeal.Gen

namespace Cert.Proof.Mod

open Idealize.ShloMosaic Idealize.SL.Sem Idealize.ShloMosaic.Tactic

/-- The two programs have one text, so the run over the machine's floats is the other's. -/
theorem frame_bits : Cert.quiescent_Mod := by
  intro m g _
  refine Eq.mp ?_ (Cert.ModIdeal.Gen.frame (F := Bits) m g)
  sl_kernel_rfl
theorem frame_ideal : Cert.quiescent_ModIdeal := fun m g _ => Cert.ModIdeal.Gen.frame m g
theorem frame_ref : Cert.quiescent_ModRefIdeal := fun m g _ =>
  (θ_run Cert.ModRefIdeal.defs _ _).mono (fun r h => ⟨fun c => (h c).2, sem_eq_zero_of_no_sems (by decide) r.2⟩)
    (Cert.ModRefIdeal.Value.run (F := Ideal) m g)

theorem algebraic : Cert.algebraic_ModIdeal_ModRefIdeal := by
  intro m g m' g' hpre hagree
  refine ⟨fun c => (Cert.ModIdeal.Gen.dats m 0 c).arrAt 3 Cert.ModIdeal.cfg0.N,
    Cert.ModIdeal.Value.run_blocks m g,
    (θ_run Cert.ModRefIdeal.defs _ _).mono (fun r h c => ?_) (Cert.ModRefIdeal.Value.run (F := Ideal) m' g')⟩
  obtain ⟨h0, ha⟩ := h c
  obtain ⟨e0, e1, e2⟩ := hagree c
  refine ⟨h0.trans ?_, ha⟩
  rw [Cert.ModRefIdeal.Read.val_main_v18_eq, e0, e1, e2]
  exact (Cert.ModIdeal.Gen.arr3 m c).symm

end Cert.Proof.Mod

end
-- ==== Proof.Adam.lean ====
module

public import Idealize.ShloMosaic.PureOps
public import Idealize.ShloMosaic.PureOps.Ideal

@[expose] public section

noncomputable section

namespace Cert.Proof.Adam

open Idealize.ShloMosaic

/-- The value of a single-precision constant. -/
abbrev k (b : BitVec 32) : EReal := FloatOps.ofBits (F := Ideal) .f32 b

/-- The optimiser's new first moment, new second moment and update of one entry: of its gradient `g`, its weight `w` and
    its moments `m` and `v`. -/
def mom (g m : EReal) : EReal := k 0x3F666666#32 * m + k 0x3DCCCCCD#32 * g
def var (g v : EReal) : EReal := k 0x3F7FBE77#32 * v + k 0x3A83126F#32 * (g * g)
def step (g w m v : EReal) : EReal :=
  k 0xBA83126F#32 * (Ideal.div (Ideal.div (mom g m) (k 0x3F26BD02#32)) (Ideal.sqrt (Ideal.div (var g v) (k 0x3C231ACC#32)) + k 0x322BCC77#32)
    + k 0x3C23D70A#32 * w)

end Cert.Proof.Adam

end
-- ==== Proof.MmAdamMod.lean ====
module

public import proofs.«01_k».proof.Defs
public import proofs.«01_k».proof.Proof.Adam
public import proofs.«01_k».proof.Proof.Gen.AdamMod
public import proofs.«01_k».proof.Proof.Gen.AdamModIdeal
public import proofs.«01_k».proof.Proof.Gen.AdamModIdeal.Frame
public import proofs.«01_k».proof.Proof.Gen.AdamModIdeal.Value
public import proofs.«01_k».proof.Proof.Gen.AdamModRefIdeal
public import proofs.«01_k».proof.Proof.Gen.AdamModRefIdeal.Read
public import Idealize.ShloMosaic.Lib.Pointwise
public import Idealize.ShloMosaic.Lib.StableHlo.ReadAt
public import Idealize.ShloMosaic.Lib.Pipeline.ValueKit.Geometry
public import Idealize.ShloMosaic.Lib.Pipeline.ValueKit.Acc

@[expose] public section

set_option maxRecDepth 16384

noncomputable section

namespace Cert.AdamModIdeal.Gen

open Cert.AdamModIdeal Idealize.ShloMosaic Idealize.ShloMosaic.TcCoe Idealize.SL Idealize.SL.Sem
open Idealize.ShloMosaic.Pipeline (Dat Cfg Window)
open Cert.AdamModRefIdeal.Read
open scoped BigOperators

open Cert.Proof.Adam (mom var step)

variable (m : (ℓ : Loc nD τ sig) → Buf (Elt Ideal) ℓ)

/-- The gradient, the weight and the moments on core `c`. -/
abbrev G (c : Dev nD) : FVec Ideal S2x1024x768 .f32 := m ((c : Thread nD τ).loc main_arg0)
abbrev W (c : Dev nD) : FVec Ideal S2x1024x768 .f32 := m ((c : Thread nD τ).loc main_arg1)
abbrev M1 (c : Dev nD) : FVec Ideal S2x1024x768 .f32 := m ((c : Thread nD τ).loc main_arg2)
abbrev M2 (c : Dev nD) : FVec Ideal S2x1024x768 .f32 := m ((c : Thread nD τ).loc main_arg3)

/-- A point's blocks. -/
abbrev b0 (c : Dev nD) (t : Fin cfg0.N) : Vec Ideal S1x256x768 .f32 := iblk m c 0 t
abbrev b1 (c : Dev nD) (t : Fin cfg0.N) : Vec Ideal S1x256x768 .f32 := iblk m c 1 t
abbrev b2 (c : Dev nD) (t : Fin cfg0.N) : Vec Ideal S1x256x768 .f32 := iblk m c 2 t
abbrev b3 (c : Dev nD) (t : Fin cfg0.N) : Vec Ideal S1x256x768 .f32 := iblk m c 3 t

/-- A point's layer and rows. -/
abbrev pl (t : Fin cfg0.N) : Fin 2 := ⟨t.val / 4, by have := lt_of_lt_of_eq t.isLt (show cfg0.N = 8 from N_0); omega⟩
abbrev pi (t : Fin cfg0.N) (i : Fin 256) : Fin 1024 := ⟨256 * (t.val % 4) + i.val, by omega⟩

theorem e0 : ∀ t : Fin cfg0.N, win0_0.index t = ![t.val / 4, t.val % 4, 0] := (by decide +kernel : ∀ t : Fin grid0.N, _)
theorem e1 : ∀ t : Fin cfg0.N, win0_1.index t = ![t.val / 4, t.val % 4, 0] := (by decide +kernel : ∀ t : Fin grid0.N, _)
theorem e2 : ∀ t : Fin cfg0.N, win0_2.index t = ![t.val / 4, t.val % 4, 0] := (by decide +kernel : ∀ t : Fin grid0.N, _)
theorem e3 : ∀ t : Fin cfg0.N, win0_3.index t = ![t.val / 4, t.val % 4, 0] := (by decide +kernel : ∀ t : Fin grid0.N, _)
theorem e4 : ∀ t : Fin cfg0.N, win0_4.index t = ![t.val / 4, t.val % 4, 0] := (by decide +kernel : ∀ t : Fin grid0.N, _)
theorem e5 : ∀ t : Fin cfg0.N, win0_5.index t = ![t.val / 4, t.val % 4, 0] := (by decide +kernel : ∀ t : Fin grid0.N, _)
theorem e6 : ∀ t : Fin cfg0.N, win0_6.index t = ![t.val / 4, t.val % 4, 0] := (by decide +kernel : ∀ t : Fin grid0.N, _)
theorem e7 : ∀ t : Fin cfg0.N, win0_7.index t = ![t.val / 4, t.val % 4, 0] := (by decide +kernel : ∀ t : Fin grid0.N, _)

variable (g w a v : Vec Ideal S1x256x768 .f32) (i : Fin 256) (j : Fin 768)

/-- What a point stores, entry by entry. -/
theorem pay5_at : k0_pay5 g (ix3 0 i j) = g (ix3 0 i j) := by
  pointwise [k0_pay5, k0_pay4]
theorem pay6_at : k0_pay6 g a (ix2 i j) = mom (g (ix3 0 i j)) (a (ix3 0 i j)) := by
  pointwise [k0_pay6, k0_pay4]
  rfl
theorem pay7_at : k0_pay7 g v (ix2 i j) = var (g (ix3 0 i j)) (v (ix3 0 i j)) := by
  pointwise [k0_pay7, k0_pay4]
  rfl
theorem pay1_at : k0_pay1 (k0_pay8 g w a v) (Scalar.ofBits .f32 0xBA83126F#32) (ix3 0 i j) = step (g (ix3 0 i j)) (w (ix3 0 i j)) (a (ix3 0 i j)) (v (ix3 0 i j)) := by
  rw [step, ← pay6_at, ← pay7_at]
  pointwise [k0_pay1, k0_pay8]
theorem pay2_at : k0_pay2 (k0_pay6 g a) (ix3 0 i j) = mom (g (ix3 0 i j)) (a (ix3 0 i j)) := by
  rw [← pay6_at]
  pointwise [k0_pay2]
theorem pay3_at : k0_pay3 (k0_pay7 g v) (ix3 0 i j) = var (g (ix3 0 i j)) (v (ix3 0 i j)) := by
  rw [← pay7_at]
  pointwise [k0_pay3]

theorem x0_at (c : Dev nD) (t : Fin cfg0.N) : b0 m c t (ix3 0 i j) = G m c (ix3 (pl t) (pi t i) j) := by
  blk_simp [b0, iblk]
  show V m c main_arg0 _ = _
  rw [V_main_arg0]
  congr 1
  blk_ext [e0]
theorem x1_at (c : Dev nD) (t : Fin cfg0.N) : b1 m c t (ix3 0 i j) = W m c (ix3 (pl t) (pi t i) j) := by
  blk_simp [b1, iblk]
  show V m c main_arg1 _ = _
  rw [V_main_arg1]
  congr 1
  blk_ext [e1]
theorem x2_at (c : Dev nD) (t : Fin cfg0.N) : b2 m c t (ix3 0 i j) = M1 m c (ix3 (pl t) (pi t i) j) := by
  blk_simp [b2, iblk]
  show V m c main_arg2 _ = _
  rw [V_main_arg2]
  congr 1
  blk_ext [e2]
theorem x3_at (c : Dev nD) (t : Fin cfg0.N) : b3 m c t (ix3 0 i j) = M2 m c (ix3 (pl t) (pi t i) j) := by
  blk_simp [b3, iblk]
  show V m c main_arg3 _ = _
  rw [V_main_arg3]
  congr 1
  blk_ext [e3]

/-! The reference, entry by entry. -/
section
variable (g w a v : (⟨Cert.AdamModRefIdeal.S2x1024x768, .f32⟩ : BufTy).Contents (Elt Ideal)) (y : S2x1024x768.Idx)
theorem v4_at : val_main_v4 (F := Ideal) g a y = mom (g y) (a y) := by
  pointwise [val_main_v4, val_main_v3, val_main_v2, val_main_v1, val_main_v0, val_main_cst, val_main_cst_0]
  rfl
theorem v10_at : val_main_v10 (F := Ideal) g v y = var (g y) (v y) := by
  pointwise [val_main_v10, val_main_v9, val_main_v8, val_main_v7, val_main_v6, val_main_v5, val_main_cst_1, val_main_cst_2]
  rfl
theorem v23_at : val_main_v23 (F := Ideal) g w a v y = step (g y) (w y) (a y) (v y) := by
  rw [step, ← v4_at, ← v10_at]
  pointwise [val_main_v23, val_main_v22, val_main_v21, val_main_v20, val_main_v19, val_main_v18, val_main_v17, val_main_v16, val_main_v15,
    val_main_v14, val_main_v13, val_main_v12, val_main_v11, val_main_cst_3, val_main_cst_4, val_main_cst_5, val_main_cst_6, val_main_cst_7]
end

/-- The arrays after the run are the reference's. -/
theorem arr4 (c : Dev nD) : (dats m 0 c).arrAt 4 cfg0.N = G m c := by
  refine (dats m 0 c).arrAt_eq_of_covers 4 _ (by decide +kernel) fun t hf y => ?_
  blk_simp
  rw [after0_4]
  frame_out
  obtain ⟨i, j, rfl⟩ : ∃ (i : Fin 256) (j : Fin 768), y = ix3 0 i j := ⟨y 1, y 2, by blk_ext []⟩
  rw [show ((win0_4.blk t).view.emb (ix3 0 i j)) = ix3 (pl t) (pi t i) j by blk_ext [e4]]
  refine (pay5_at (b0 m c t) i j).trans ?_
  rw [x0_at]
theorem arr5 (c : Dev nD) : (dats m 0 c).arrAt 5 cfg0.N = val_main_v23 (F := Ideal) (G m c) (W m c) (M1 m c) (M2 m c) := by
  refine (dats m 0 c).arrAt_eq_of_covers 5 _ (by decide +kernel) fun t hf y => ?_
  blk_simp
  rw [after0_5]
  frame_out
  obtain ⟨i, j, rfl⟩ : ∃ (i : Fin 256) (j : Fin 768), y = ix3 0 i j := ⟨y 1, y 2, by blk_ext []⟩
  rw [show ((win0_5.blk t).view.emb (ix3 0 i j)) = ix3 (pl t) (pi t i) j by blk_ext [e5]]
  rw [v23_at]
  refine (pay1_at (b0 m c t) (b1 m c t) (b2 m c t) (b3 m c t) i j).trans ?_
  rw [x0_at, x1_at, x2_at, x3_at]
theorem arr6 (c : Dev nD) : (dats m 0 c).arrAt 6 cfg0.N = val_main_v4 (F := Ideal) (G m c) (M1 m c) := by
  refine (dats m 0 c).arrAt_eq_of_covers 6 _ (by decide +kernel) fun t hf y => ?_
  blk_simp
  rw [after0_6]
  frame_out
  obtain ⟨i, j, rfl⟩ : ∃ (i : Fin 256) (j : Fin 768), y = ix3 0 i j := ⟨y 1, y 2, by blk_ext []⟩
  rw [show ((win0_6.blk t).view.emb (ix3 0 i j)) = ix3 (pl t) (pi t i) j by blk_ext [e6]]
  rw [v4_at]
  refine (pay2_at (b0 m c t) (b2 m c t) i j).trans ?_
  rw [x0_at, x2_at]
theorem arr7 (c : Dev nD) : (dats m 0 c).arrAt 7 cfg0.N = val_main_v10 (F := Ideal) (G m c) (M2 m c) := by
  refine (dats m 0 c).arrAt_eq_of_covers 7 _ (by decide +kernel) fun t hf y => ?_
  blk_simp
  rw [after0_7]
  frame_out
  obtain ⟨i, j, rfl⟩ : ∃ (i : Fin 256) (j : Fin 768), y = ix3 0 i j := ⟨y 1, y 2, by blk_ext []⟩
  rw [show ((win0_7.blk t).view.emb (ix3 0 i j)) = ix3 (pl t) (pi t i) j by blk_ext [e7]]
  rw [v10_at]
  refine (pay3_at (b0 m c t) (b3 m c t) i j).trans ?_
  rw [x0_at, x3_at]

end Cert.AdamModIdeal.Gen

namespace Cert.Proof.AdamMod

open Idealize.ShloMosaic Idealize.SL.Sem Idealize.ShloMosaic.Tactic

/-- The two programs have one text, so the run over the machine's floats is the other's. -/
theorem frame_bits : Cert.quiescent_AdamMod := by
  intro m g _
  refine Eq.mp ?_ (Cert.AdamModIdeal.Gen.frame (F := Bits) m g)
  sl_kernel_rfl
theorem frame_ideal : Cert.quiescent_AdamModIdeal := fun m g _ => Cert.AdamModIdeal.Gen.frame m g
theorem frame_ref : Cert.quiescent_AdamModRefIdeal := fun m g _ =>
  (θ_run Cert.AdamModRefIdeal.defs _ _).mono (fun r h => ⟨fun c => (h c).2.2.2.2, sem_eq_zero_of_no_sems (by decide) r.2⟩)
    (Cert.AdamModRefIdeal.Value.run (F := Ideal) m g)

theorem algebraic : Cert.algebraic_AdamModIdeal_AdamModRefIdeal := by
  intro m g m' g' hpre hagree
  refine ⟨fun c => (Cert.AdamModIdeal.Gen.dats m 0 c).arrAt 4 Cert.AdamModIdeal.cfg0.N, fun c => (Cert.AdamModIdeal.Gen.dats m 0 c).arrAt 5 Cert.AdamModIdeal.cfg0.N,
    fun c => (Cert.AdamModIdeal.Gen.dats m 0 c).arrAt 6 Cert.AdamModIdeal.cfg0.N, fun c => (Cert.AdamModIdeal.Gen.dats m 0 c).arrAt 7 Cert.AdamModIdeal.cfg0.N,
    Cert.AdamModIdeal.Value.run_blocks m g,
    (θ_run Cert.AdamModRefIdeal.defs _ _).mono (fun r h c => ?_) (Cert.AdamModRefIdeal.Value.run (F := Ideal) m' g')⟩
  obtain ⟨h0, h1, h2, h3, ha⟩ := h c
  obtain ⟨e0, e1, e2, e3⟩ := hagree c
  refine ⟨h0.trans ?_, h1.trans ?_, h2.trans ?_, h3.trans ?_, ha⟩
  · rw [e0]
    exact (Cert.AdamModIdeal.Gen.arr4 m c).symm
  · rw [Cert.AdamModRefIdeal.Read.val_main_v23_eq, e0, e1, e2, e3]
    exact (Cert.AdamModIdeal.Gen.arr5 m c).symm
  · rw [Cert.AdamModRefIdeal.Read.val_main_v4_eq, e0, e2]
    exact (Cert.AdamModIdeal.Gen.arr6 m c).symm
  · rw [Cert.AdamModRefIdeal.Read.val_main_v10_eq, e0, e3]
    exact (Cert.AdamModIdeal.Gen.arr7 m c).symm

end Cert.Proof.AdamMod

end
-- ==== Proof.MmAdamIn.lean ====
module

public import proofs.«01_k».proof.Defs
public import proofs.«01_k».proof.Proof.Adam
public import proofs.«01_k».proof.Proof.Gen.AdamIn
public import proofs.«01_k».proof.Proof.Gen.AdamInIdeal
public import proofs.«01_k».proof.Proof.Gen.AdamInIdeal.Frame
public import proofs.«01_k».proof.Proof.Gen.AdamInIdeal.Value
public import proofs.«01_k».proof.Proof.Gen.AdamInRefIdeal
public import proofs.«01_k».proof.Proof.Gen.AdamInRefIdeal.Read
public import Idealize.ShloMosaic.Lib.Pointwise
public import Idealize.ShloMosaic.Lib.StableHlo.ReadAt
public import Idealize.ShloMosaic.Lib.Pipeline.ValueKit.Geometry
public import Idealize.ShloMosaic.Lib.Pipeline.ValueKit.Acc

@[expose] public section

set_option maxRecDepth 16384

noncomputable section

namespace Cert.AdamInIdeal.Gen

open Cert.AdamInIdeal Idealize.ShloMosaic Idealize.ShloMosaic.TcCoe Idealize.SL Idealize.SL.Sem
open Idealize.ShloMosaic.Pipeline (Dat Cfg Window)
open Cert.AdamInRefIdeal.Read
open scoped BigOperators

open Cert.Proof.Adam (mom var step)

variable (m : (ℓ : Loc nD τ sig) → Buf (Elt Ideal) ℓ)

/-- The devices' parts of the two layers' gradients, the weight and the moments on core `c`. -/
abbrev P0 (c : Dev nD) : FVec Ideal S8x1024x192 .bf16 := m ((c : Thread nD τ).loc main_arg0)
abbrev P1 (c : Dev nD) : FVec Ideal S8x1024x192 .bf16 := m ((c : Thread nD τ).loc main_arg1)
abbrev W (c : Dev nD) : FVec Ideal S2x1024x192 .f32 := m ((c : Thread nD τ).loc main_arg2)
abbrev M1 (c : Dev nD) : FVec Ideal S2x1024x192 .f32 := m ((c : Thread nD τ).loc main_arg3)
abbrev M2 (c : Dev nD) : FVec Ideal S2x1024x192 .f32 := m ((c : Thread nD τ).loc main_arg4)

/-- A point's blocks. -/
abbrev b0 (c : Dev nD) (t : Fin cfg0.N) : Vec Ideal S8x256x192 .bf16 := iblk m c 0 t
abbrev b1 (c : Dev nD) (t : Fin cfg0.N) : Vec Ideal S8x256x192 .bf16 := iblk m c 1 t
abbrev b2 (c : Dev nD) (t : Fin cfg0.N) : Vec Ideal S1x256x192 .f32 := iblk m c 2 t
abbrev b3 (c : Dev nD) (t : Fin cfg0.N) : Vec Ideal S1x256x192 .f32 := iblk m c 3 t
abbrev b4 (c : Dev nD) (t : Fin cfg0.N) : Vec Ideal S1x256x192 .f32 := iblk m c 4 t

/-- A point's layer and rows. -/
abbrev pl (t : Fin cfg0.N) : Fin 2 := ⟨t.val / 4, by have := lt_of_lt_of_eq t.isLt (show cfg0.N = 8 from N_0); omega⟩
abbrev pi (t : Fin cfg0.N) (i : Fin 256) : Fin 1024 := ⟨256 * (t.val % 4) + i.val, by omega⟩

theorem e0 : ∀ t : Fin cfg0.N, win0_0.index t = ![0, t.val % 4, 0] := (by decide +kernel : ∀ t : Fin grid0.N, _)
theorem e1 : ∀ t : Fin cfg0.N, win0_1.index t = ![0, t.val % 4, 0] := (by decide +kernel : ∀ t : Fin grid0.N, _)
theorem e2 : ∀ t : Fin cfg0.N, win0_2.index t = ![t.val / 4, t.val % 4, 0] := (by decide +kernel : ∀ t : Fin grid0.N, _)
theorem e3 : ∀ t : Fin cfg0.N, win0_3.index t = ![t.val / 4, t.val % 4, 0] := (by decide +kernel : ∀ t : Fin grid0.N, _)
theorem e4 : ∀ t : Fin cfg0.N, win0_4.index t = ![t.val / 4, t.val % 4, 0] := (by decide +kernel : ∀ t : Fin grid0.N, _)
theorem e5 : ∀ t : Fin cfg0.N, win0_5.index t = ![t.val / 4, t.val % 4, 0] := (by decide +kernel : ∀ t : Fin grid0.N, _)
theorem e6 : ∀ t : Fin cfg0.N, win0_6.index t = ![t.val / 4, t.val % 4, 0] := (by decide +kernel : ∀ t : Fin grid0.N, _)
theorem e7 : ∀ t : Fin cfg0.N, win0_7.index t = ![t.val / 4, t.val % 4, 0] := (by decide +kernel : ∀ t : Fin grid0.N, _)
theorem e8 : ∀ t : Fin cfg0.N, win0_8.index t = ![t.val / 4, t.val % 4, 0] := (by decide +kernel : ∀ t : Fin grid0.N, _)
theorem l0 : ∀ t : Fin cfg0.N, ((grid0.coords t) 0).val = t.val / 4 := (by decide +kernel : ∀ t : Fin grid0.N, _)

/-- The gradient of an entry: the sum of the devices' parts of its layer's. -/
abbrev grad (p q : FVec Ideal S8x1024x192 .bf16) (l : Fin 2) (i : Fin 1024) (j : Fin 192) : EReal :=
  if l.val = 0 then ∑ d : Fin 8, p (ix3 d i j) else ∑ d : Fin 8, q (ix3 d i j)

section
variable (n : BitVec 32) (s : FVec Ideal S256x192 .f32) (p0 p1 p2 p3 p4 p5 p6 p7 : Vec Ideal S1x256x192 .bf16) (w a v : Vec Ideal S1x256x192 .f32) (i : Fin 256) (j : Fin 192)

/-- What a point computes, entry by entry. -/
theorem pay3_at : k0_pay3 p0 p1 p2 p3 p4 p5 p6 p7 (ix2 i j) = p0 (ix3 0 i j) + p1 (ix3 0 i j) + p2 (ix3 0 i j) + p3 (ix3 0 i j)
    + p4 (ix3 0 i j) + p5 (ix3 0 i j) + p6 (ix3 0 i j) + p7 (ix3 0 i j) := by
  pointwise [k0_pay3]
theorem pay4_eq : k0_pay4 n s p0 p1 p2 p3 p4 p5 p6 p7 = if n = 1#32 then k0_pay3 p0 p1 p2 p3 p4 p5 p6 p7 else s := by
  by_cases h : n = 1#32
  · rw [if_pos h, h]
    rfl
  · rw [if_neg h]
    have hb : IntOp.cmpi .eq n 1#32 = 0#1 := by
      show BitVec.ofBool (n == 1#32) = 0#1
      rw [beq_eq_false_iff_ne.mpr h]
      rfl
    show Scalar.select (IntOp.cmpi .eq n 1#32) _ s = s
    rw [hb]
    rfl
theorem pay5_at : k0_pay5 s (ix3 0 i j) = s (ix2 i j) := by
  pointwise [k0_pay5]
theorem pay6_at : k0_pay6 s a (ix2 i j) = mom (s (ix2 i j)) (a (ix3 0 i j)) := by
  pointwise [k0_pay6]
  rfl
theorem pay7_at : k0_pay7 s v (ix2 i j) = var (s (ix2 i j)) (v (ix3 0 i j)) := by
  pointwise [k0_pay7]
  rfl
theorem pay8_at : k0_pay8 s w a v (ix3 0 i j) = step (s (ix2 i j)) (w (ix3 0 i j)) (a (ix3 0 i j)) (v (ix3 0 i j)) := by
  rw [step, ← pay6_at, ← pay7_at]
  pointwise [k0_pay8]
theorem pay1_at : k0_pay1 (k0_pay6 s a) (ix3 0 i j) = mom (s (ix2 i j)) (a (ix3 0 i j)) := by
  rw [← pay6_at]
  pointwise [k0_pay1]
theorem pay2_at : k0_pay2 (k0_pay7 s v) (ix3 0 i j) = var (s (ix2 i j)) (v (ix3 0 i j)) := by
  rw [← pay7_at]
  pointwise [k0_pay2]

/-- A device's part of a block. -/
theorem ld0_at (x : Vec Ideal S8x256x192 .bf16) : View.ld x r0_0 (ix3 0 i j) = x (ix3 0 i j) := by
  exact congrArg x (funext fun a => Fin.ext (by
    match a with | ⟨0, _⟩ => show 0 + 1 * 0 = 0; omega | ⟨1, _⟩ => show 0 + 1 * i.val = i.val; omega | ⟨2, _⟩ => show 0 + 1 * j.val = j.val; omega))
theorem ld1_at (x : Vec Ideal S8x256x192 .bf16) : View.ld x r0_1 (ix3 0 i j) = x (ix3 1 i j) := by
  exact congrArg x (funext fun a => Fin.ext (by
    match a with | ⟨0, _⟩ => show 1 + 1 * 0 = 1; omega | ⟨1, _⟩ => show 0 + 1 * i.val = i.val; omega | ⟨2, _⟩ => show 0 + 1 * j.val = j.val; omega))
theorem ld2_at (x : Vec Ideal S8x256x192 .bf16) : View.ld x r0_2 (ix3 0 i j) = x (ix3 2 i j) := by
  exact congrArg x (funext fun a => Fin.ext (by
    match a with | ⟨0, _⟩ => show 2 + 1 * 0 = 2; omega | ⟨1, _⟩ => show 0 + 1 * i.val = i.val; omega | ⟨2, _⟩ => show 0 + 1 * j.val = j.val; omega))
theorem ld3_at (x : Vec Ideal S8x256x192 .bf16) : View.ld x r0_3 (ix3 0 i j) = x (ix3 3 i j) := by
  exact congrArg x (funext fun a => Fin.ext (by
    match a with | ⟨0, _⟩ => show 3 + 1 * 0 = 3; omega | ⟨1, _⟩ => show 0 + 1 * i.val = i.val; omega | ⟨2, _⟩ => show 0 + 1 * j.val = j.val; omega))
theorem ld4_at (x : Vec Ideal S8x256x192 .bf16) : View.ld x r0_4 (ix3 0 i j) = x (ix3 4 i j) := by
  exact congrArg x (funext fun a => Fin.ext (by
    match a with | ⟨0, _⟩ => show 4 + 1 * 0 = 4; omega | ⟨1, _⟩ => show 0 + 1 * i.val = i.val; omega | ⟨2, _⟩ => show 0 + 1 * j.val = j.val; omega))
theorem ld5_at (x : Vec Ideal S8x256x192 .bf16) : View.ld x r0_5 (ix3 0 i j) = x (ix3 5 i j) := by
  exact congrArg x (funext fun a => Fin.ext (by
    match a with | ⟨0, _⟩ => show 5 + 1 * 0 = 5; omega | ⟨1, _⟩ => show 0 + 1 * i.val = i.val; omega | ⟨2, _⟩ => show 0 + 1 * j.val = j.val; omega))
theorem ld6_at (x : Vec Ideal S8x256x192 .bf16) : View.ld x r0_6 (ix3 0 i j) = x (ix3 6 i j) := by
  exact congrArg x (funext fun a => Fin.ext (by
    match a with | ⟨0, _⟩ => show 6 + 1 * 0 = 6; omega | ⟨1, _⟩ => show 0 + 1 * i.val = i.val; omega | ⟨2, _⟩ => show 0 + 1 * j.val = j.val; omega))
theorem ld7_at (x : Vec Ideal S8x256x192 .bf16) : View.ld x r0_7 (ix3 0 i j) = x (ix3 7 i j) := by
  exact congrArg x (funext fun a => Fin.ext (by
    match a with | ⟨0, _⟩ => show 7 + 1 * 0 = 7; omega | ⟨1, _⟩ => show 0 + 1 * i.val = i.val; omega | ⟨2, _⟩ => show 0 + 1 * j.val = j.val; omega))

theorem x0_at (c : Dev nD) (t : Fin cfg0.N) (d : Fin 8) : b0 m c t (ix3 d i j) = P0 m c (ix3 d (pi t i) j) := by
  blk_simp [b0, iblk]
  show V m c main_arg0 _ = _
  rw [V_main_arg0]
  congr 1
  blk_ext [e0]
theorem x1_at (c : Dev nD) (t : Fin cfg0.N) (d : Fin 8) : b1 m c t (ix3 d i j) = P1 m c (ix3 d (pi t i) j) := by
  blk_simp [b1, iblk]
  show V m c main_arg1 _ = _
  rw [V_main_arg1]
  congr 1
  blk_ext [e1]
theorem x2_at (c : Dev nD) (t : Fin cfg0.N) : b2 m c t (ix3 0 i j) = W m c (ix3 (pl t) (pi t i) j) := by
  blk_simp [b2, iblk]
  show V m c main_arg2 _ = _
  rw [V_main_arg2]
  congr 1
  blk_ext [e2]
theorem x3_at (c : Dev nD) (t : Fin cfg0.N) : b3 m c t (ix3 0 i j) = M1 m c (ix3 (pl t) (pi t i) j) := by
  blk_simp [b3, iblk]
  show V m c main_arg3 _ = _
  rw [V_main_arg3]
  congr 1
  blk_ext [e3]
theorem x4_at (c : Dev nD) (t : Fin cfg0.N) : b4 m c t (ix3 0 i j) = M2 m c (ix3 (pl t) (pi t i) j) := by
  blk_simp [b4, iblk]
  show V m c main_arg4 _ = _
  rw [V_main_arg4]
  congr 1
  blk_ext [e4]

/-- The gradient a point has. -/
theorem pay9_at (c : Dev nD) (t : Fin cfg0.N) :
    k0_pay9 (grid0.coords t) (b0 m c t) (b1 m c t) (b2 m c t) (b3 m c t) (b4 m c t) (ix2 i j) = grad (P0 m c) (P1 m c) (pl t) (pi t i) j := by
  have ht := lt_of_lt_of_eq t.isLt (show cfg0.N = 8 from N_0)
  rw [k0_pay9, pay4_eq, l0]
  by_cases h : t.val / 4 = 0
  · rw [if_neg (by rw [h]; decide), pay3_at, ld0_at, ld1_at, ld2_at, ld3_at, ld4_at, ld5_at, ld6_at, ld7_at, grad, if_pos h, Fin.sum_univ_eight]
    simp only [x0_at]
  · have h1 : t.val / 4 = 1 := by omega
    rw [if_pos (by rw [h1]), pay3_at, ld0_at, ld1_at, ld2_at, ld3_at, ld4_at, ld5_at, ld6_at, ld7_at, grad, if_neg h, Fin.sum_univ_eight]
    simp only [x1_at]
end

/-! The reference, entry by entry. -/
section
variable (p q : (⟨Cert.AdamInRefIdeal.S8x1024x192, .bf16⟩ : BufTy).Contents (Elt Ideal))
  (w a v : (⟨Cert.AdamInRefIdeal.S2x1024x192, .f32⟩ : BufTy).Contents (Elt Ideal)) (l : Fin 2) (i : Fin 1024) (j : Fin 192)
theorem v1_at : val_main_v1 (F := Ideal) p (ix2 i j) = ∑ d : Fin 8, p (ix3 d i j) := by
  pointwise [val_main_v1, val_main_v0, val_main_cst]
theorem v3_at : val_main_v3 (F := Ideal) p (ix2 i j) = ∑ d : Fin 8, p (ix3 d i j) := by
  pointwise [val_main_v3, val_main_v2, val_main_cst_0]
theorem v6_at : val_main_v6 (F := Ideal) p q (ix3 l i j) = grad p q l i j := by
  unfold grad
  rw [← v1_at, ← v3_at]
  fin_cases l
  · pointwise [val_main_v6, val_main_v5, val_main_v4]
  · pointwise [val_main_v6, val_main_v5, val_main_v4]
theorem v11_at : val_main_v11 (F := Ideal) p q a (ix3 l i j) = mom (grad p q l i j) (a (ix3 l i j)) := by
  rw [← v6_at]
  pointwise [val_main_v11, val_main_v10, val_main_v9, val_main_v8, val_main_v7, val_main_cst_1, val_main_cst_2]
  rfl
theorem v17_at : val_main_v17 (F := Ideal) p q v (ix3 l i j) = var (grad p q l i j) (v (ix3 l i j)) := by
  rw [← v6_at]
  pointwise [val_main_v17, val_main_v16, val_main_v15, val_main_v14, val_main_v13, val_main_v12, val_main_cst_3, val_main_cst_4]
  rfl
theorem v30_at : val_main_v30 (F := Ideal) p q w a v (ix3 l i j) = step (grad p q l i j) (w (ix3 l i j)) (a (ix3 l i j)) (v (ix3 l i j)) := by
  rw [step, ← v11_at, ← v17_at]
  pointwise [val_main_v30, val_main_v29, val_main_v28, val_main_v27, val_main_v26, val_main_v25, val_main_v24, val_main_v23, val_main_v22,
    val_main_v21, val_main_v20, val_main_v19, val_main_v18, val_main_cst_5, val_main_cst_6, val_main_cst_7, val_main_cst_8, val_main_cst_9]
end

/-- The arrays after the run are the reference's. -/
theorem arr5 (c : Dev nD) : (dats m 0 c).arrAt 5 cfg0.N = val_main_v6 (F := Ideal) (P0 m c) (P1 m c) := by
  refine (dats m 0 c).arrAt_eq_of_covers 5 _ (by decide +kernel) fun t hf y => ?_
  blk_simp
  rw [after0_5]
  frame_out
  obtain ⟨i, j, rfl⟩ : ∃ (i : Fin 256) (j : Fin 192), y = ix3 0 i j := ⟨y 1, y 2, by blk_ext []⟩
  rw [show ((win0_5.blk t).view.emb (ix3 0 i j)) = ix3 (pl t) (pi t i) j by blk_ext [e5], v6_at]
  refine (pay5_at (k0_pay9 (grid0.coords t) (b0 m c t) (b1 m c t) (b2 m c t) (b3 m c t) (b4 m c t)) i j).trans ?_
  rw [pay9_at]
theorem arr6 (c : Dev nD) : (dats m 0 c).arrAt 6 cfg0.N = val_main_v30 (F := Ideal) (P0 m c) (P1 m c) (W m c) (M1 m c) (M2 m c) := by
  refine (dats m 0 c).arrAt_eq_of_covers 6 _ (by decide +kernel) fun t hf y => ?_
  blk_simp
  rw [after0_6]
  frame_out
  obtain ⟨i, j, rfl⟩ : ∃ (i : Fin 256) (j : Fin 192), y = ix3 0 i j := ⟨y 1, y 2, by blk_ext []⟩
  rw [show ((win0_6.blk t).view.emb (ix3 0 i j)) = ix3 (pl t) (pi t i) j by blk_ext [e6], v30_at]
  refine (pay8_at (k0_pay9 (grid0.coords t) (b0 m c t) (b1 m c t) (b2 m c t) (b3 m c t) (b4 m c t)) (b2 m c t) (b3 m c t) (b4 m c t) i j).trans ?_
  rw [pay9_at, x2_at, x3_at, x4_at]
theorem arr7 (c : Dev nD) : (dats m 0 c).arrAt 7 cfg0.N = val_main_v11 (F := Ideal) (P0 m c) (P1 m c) (M1 m c) := by
  refine (dats m 0 c).arrAt_eq_of_covers 7 _ (by decide +kernel) fun t hf y => ?_
  blk_simp
  rw [after0_7]
  frame_out
  obtain ⟨i, j, rfl⟩ : ∃ (i : Fin 256) (j : Fin 192), y = ix3 0 i j := ⟨y 1, y 2, by blk_ext []⟩
  rw [show ((win0_7.blk t).view.emb (ix3 0 i j)) = ix3 (pl t) (pi t i) j by blk_ext [e7], v11_at]
  refine (pay1_at (k0_pay9 (grid0.coords t) (b0 m c t) (b1 m c t) (b2 m c t) (b3 m c t) (b4 m c t)) (b3 m c t) i j).trans ?_
  rw [pay9_at, x3_at]
theorem arr8 (c : Dev nD) : (dats m 0 c).arrAt 8 cfg0.N = val_main_v17 (F := Ideal) (P0 m c) (P1 m c) (M2 m c) := by
  refine (dats m 0 c).arrAt_eq_of_covers 8 _ (by decide +kernel) fun t hf y => ?_
  blk_simp
  rw [after0_8]
  frame_out
  obtain ⟨i, j, rfl⟩ : ∃ (i : Fin 256) (j : Fin 192), y = ix3 0 i j := ⟨y 1, y 2, by blk_ext []⟩
  rw [show ((win0_8.blk t).view.emb (ix3 0 i j)) = ix3 (pl t) (pi t i) j by blk_ext [e8], v17_at]
  refine (pay2_at (k0_pay9 (grid0.coords t) (b0 m c t) (b1 m c t) (b2 m c t) (b3 m c t) (b4 m c t)) (b4 m c t) i j).trans ?_
  rw [pay9_at, x4_at]

end Cert.AdamInIdeal.Gen

namespace Cert.Proof.AdamIn

open Idealize.ShloMosaic Idealize.SL.Sem Idealize.ShloMosaic.Tactic

/-- The two programs have one text, so the run over the machine's floats is the other's. -/
theorem frame_bits : Cert.quiescent_AdamIn := by
  intro m g _
  refine Eq.mp ?_ (Cert.AdamInIdeal.Gen.frame (F := Bits) m g)
  sl_kernel_rfl
theorem frame_ideal : Cert.quiescent_AdamInIdeal := fun m g _ => Cert.AdamInIdeal.Gen.frame m g
theorem frame_ref : Cert.quiescent_AdamInRefIdeal := fun m g _ =>
  (θ_run Cert.AdamInRefIdeal.defs _ _).mono (fun r h => ⟨fun c => (h c).2.2.2.2, sem_eq_zero_of_no_sems (by decide) r.2⟩)
    (Cert.AdamInRefIdeal.Value.run (F := Ideal) m g)

theorem algebraic : Cert.algebraic_AdamInIdeal_AdamInRefIdeal := by
  intro m g m' g' hpre hagree
  refine ⟨fun c => (Cert.AdamInIdeal.Gen.dats m 0 c).arrAt 5 Cert.AdamInIdeal.cfg0.N, fun c => (Cert.AdamInIdeal.Gen.dats m 0 c).arrAt 6 Cert.AdamInIdeal.cfg0.N,
    fun c => (Cert.AdamInIdeal.Gen.dats m 0 c).arrAt 7 Cert.AdamInIdeal.cfg0.N, fun c => (Cert.AdamInIdeal.Gen.dats m 0 c).arrAt 8 Cert.AdamInIdeal.cfg0.N,
    Cert.AdamInIdeal.Value.run_blocks m g,
    (θ_run Cert.AdamInRefIdeal.defs _ _).mono (fun r h c => ?_) (Cert.AdamInRefIdeal.Value.run (F := Ideal) m' g')⟩
  obtain ⟨h0, h1, h2, h3, ha⟩ := h c
  obtain ⟨e0, e1, e2, e3, e4⟩ := hagree c
  refine ⟨h0.trans ?_, h1.trans ?_, h2.trans ?_, h3.trans ?_, ha⟩
  · rw [Cert.AdamInRefIdeal.Read.val_main_v6_eq, e0, e1]
    exact (Cert.AdamInIdeal.Gen.arr5 m c).symm
  · rw [Cert.AdamInRefIdeal.Read.val_main_v30_eq, e0, e1, e2, e3, e4]
    exact (Cert.AdamInIdeal.Gen.arr6 m c).symm
  · rw [Cert.AdamInRefIdeal.Read.val_main_v11_eq, e0, e1, e3]
    exact (Cert.AdamInIdeal.Gen.arr7 m c).symm
  · rw [Cert.AdamInRefIdeal.Read.val_main_v17_eq, e0, e1, e4]
    exact (Cert.AdamInIdeal.Gen.arr8 m c).symm

end Cert.Proof.AdamIn

end
-- ==== Proof.MmAdamOut.lean ====
module

public import proofs.«01_k».proof.Defs
public import proofs.«01_k».proof.Proof.Adam
public import proofs.«01_k».proof.Proof.Gen.AdamOut
public import proofs.«01_k».proof.Proof.Gen.AdamOutIdeal
public import proofs.«01_k».proof.Proof.Gen.AdamOutIdeal.Frame
public import proofs.«01_k».proof.Proof.Gen.AdamOutIdeal.Value
public import proofs.«01_k».proof.Proof.Gen.AdamOutRefIdeal
public import proofs.«01_k».proof.Proof.Gen.AdamOutRefIdeal.Read
public import Idealize.ShloMosaic.Lib.Pointwise
public import Idealize.ShloMosaic.Lib.StableHlo.ReadAt
public import Idealize.ShloMosaic.Lib.Pipeline.ValueKit.Geometry
public import Idealize.ShloMosaic.Lib.Pipeline.ValueKit.Acc

@[expose] public section

set_option maxRecDepth 16384

noncomputable section

namespace Cert.AdamOutIdeal.Gen

open Cert.AdamOutIdeal Idealize.ShloMosaic Idealize.ShloMosaic.TcCoe Idealize.SL Idealize.SL.Sem
open Idealize.ShloMosaic.Pipeline (Dat Cfg Window)
open Cert.AdamOutRefIdeal.Read
open scoped BigOperators

open Cert.Proof.Adam (mom var step)

variable (m : (ℓ : Loc nD τ sig) → Buf (Elt Ideal) ℓ)

/-- The devices' parts of the two layers' gradients, the weight and the moments on core `c`. -/
abbrev P0 (c : Dev nD) : FVec Ideal S8x128x1024 .bf16 := m ((c : Thread nD τ).loc main_arg0)
abbrev P1 (c : Dev nD) : FVec Ideal S8x128x1024 .bf16 := m ((c : Thread nD τ).loc main_arg1)
abbrev W (c : Dev nD) : FVec Ideal S2x128x1024 .f32 := m ((c : Thread nD τ).loc main_arg2)
abbrev M1 (c : Dev nD) : FVec Ideal S2x128x1024 .f32 := m ((c : Thread nD τ).loc main_arg3)
abbrev M2 (c : Dev nD) : FVec Ideal S2x128x1024 .f32 := m ((c : Thread nD τ).loc main_arg4)

/-- A point's blocks. -/
abbrev b0 (c : Dev nD) (t : Fin cfg0.N) : Vec Ideal S8x128x1024 .bf16 := iblk m c 0 t
abbrev b1 (c : Dev nD) (t : Fin cfg0.N) : Vec Ideal S8x128x1024 .bf16 := iblk m c 1 t
abbrev b2 (c : Dev nD) (t : Fin cfg0.N) : Vec Ideal S1x128x1024 .f32 := iblk m c 2 t
abbrev b3 (c : Dev nD) (t : Fin cfg0.N) : Vec Ideal S1x128x1024 .f32 := iblk m c 3 t
abbrev b4 (c : Dev nD) (t : Fin cfg0.N) : Vec Ideal S1x128x1024 .f32 := iblk m c 4 t

/-- A point's layer and rows. -/
abbrev pl (t : Fin cfg0.N) : Fin 2 := ⟨t.val / 1, by have := lt_of_lt_of_eq t.isLt (show cfg0.N = 2 from N_0); omega⟩
abbrev pi (t : Fin cfg0.N) (i : Fin 128) : Fin 128 := ⟨128 * (t.val % 1) + i.val, by omega⟩

theorem e0 : ∀ t : Fin cfg0.N, win0_0.index t = ![0, t.val % 1, 0] := (by decide +kernel : ∀ t : Fin grid0.N, _)
theorem e1 : ∀ t : Fin cfg0.N, win0_1.index t = ![0, t.val % 1, 0] := (by decide +kernel : ∀ t : Fin grid0.N, _)
theorem e2 : ∀ t : Fin cfg0.N, win0_2.index t = ![t.val / 1, t.val % 1, 0] := (by decide +kernel : ∀ t : Fin grid0.N, _)
theorem e3 : ∀ t : Fin cfg0.N, win0_3.index t = ![t.val / 1, t.val % 1, 0] := (by decide +kernel : ∀ t : Fin grid0.N, _)
theorem e4 : ∀ t : Fin cfg0.N, win0_4.index t = ![t.val / 1, t.val % 1, 0] := (by decide +kernel : ∀ t : Fin grid0.N, _)
theorem e5 : ∀ t : Fin cfg0.N, win0_5.index t = ![t.val / 1, t.val % 1, 0] := (by decide +kernel : ∀ t : Fin grid0.N, _)
theorem e6 : ∀ t : Fin cfg0.N, win0_6.index t = ![t.val / 1, t.val % 1, 0] := (by decide +kernel : ∀ t : Fin grid0.N, _)
theorem e7 : ∀ t : Fin cfg0.N, win0_7.index t = ![t.val / 1, t.val % 1, 0] := (by decide +kernel : ∀ t : Fin grid0.N, _)
theorem e8 : ∀ t : Fin cfg0.N, win0_8.index t = ![t.val / 1, t.val % 1, 0] := (by decide +kernel : ∀ t : Fin grid0.N, _)
theorem l0 : ∀ t : Fin cfg0.N, ((grid0.coords t) 0).val = t.val / 1 := (by decide +kernel : ∀ t : Fin grid0.N, _)

/-- The gradient of an entry: the sum of the devices' parts of its layer's. -/
abbrev grad (p q : FVec Ideal S8x128x1024 .bf16) (l : Fin 2) (i : Fin 128) (j : Fin 1024) : EReal :=
  if l.val = 0 then ∑ d : Fin 8, p (ix3 d i j) else ∑ d : Fin 8, q (ix3 d i j)

section
variable (n : BitVec 32) (s : FVec Ideal S128x1024 .f32) (p0 p1 p2 p3 p4 p5 p6 p7 : Vec Ideal S1x128x1024 .bf16) (w a v : Vec Ideal S1x128x1024 .f32) (i : Fin 128) (j : Fin 1024)

/-- What a point computes, entry by entry. -/
theorem pay3_at : k0_pay3 p0 p1 p2 p3 p4 p5 p6 p7 (ix2 i j) = p0 (ix3 0 i j) + p1 (ix3 0 i j) + p2 (ix3 0 i j) + p3 (ix3 0 i j)
    + p4 (ix3 0 i j) + p5 (ix3 0 i j) + p6 (ix3 0 i j) + p7 (ix3 0 i j) := by
  pointwise [k0_pay3]
theorem pay4_eq : k0_pay4 n s p0 p1 p2 p3 p4 p5 p6 p7 = if n = 1#32 then k0_pay3 p0 p1 p2 p3 p4 p5 p6 p7 else s := by
  by_cases h : n = 1#32
  · rw [if_pos h, h]
    rfl
  · rw [if_neg h]
    have hb : IntOp.cmpi .eq n 1#32 = 0#1 := by
      show BitVec.ofBool (n == 1#32) = 0#1
      rw [beq_eq_false_iff_ne.mpr h]
      rfl
    show Scalar.select (IntOp.cmpi .eq n 1#32) _ s = s
    rw [hb]
    rfl
theorem pay5_at : k0_pay5 s (ix3 0 i j) = s (ix2 i j) := by
  pointwise [k0_pay5]
theorem pay6_at : k0_pay6 s a (ix2 i j) = mom (s (ix2 i j)) (a (ix3 0 i j)) := by
  pointwise [k0_pay6]
  rfl
theorem pay7_at : k0_pay7 s v (ix2 i j) = var (s (ix2 i j)) (v (ix3 0 i j)) := by
  pointwise [k0_pay7]
  rfl
theorem pay8_at : k0_pay8 s w a v (ix3 0 i j) = step (s (ix2 i j)) (w (ix3 0 i j)) (a (ix3 0 i j)) (v (ix3 0 i j)) := by
  rw [step, ← pay6_at, ← pay7_at]
  pointwise [k0_pay8]
theorem pay1_at : k0_pay1 (k0_pay6 s a) (ix3 0 i j) = mom (s (ix2 i j)) (a (ix3 0 i j)) := by
  rw [← pay6_at]
  pointwise [k0_pay1]
theorem pay2_at : k0_pay2 (k0_pay7 s v) (ix3 0 i j) = var (s (ix2 i j)) (v (ix3 0 i j)) := by
  rw [← pay7_at]
  pointwise [k0_pay2]

/-- A device's part of a block. -/
theorem ld0_at (x : Vec Ideal S8x128x1024 .bf16) : View.ld x r0_0 (ix3 0 i j) = x (ix3 0 i j) := by
  exact congrArg x (funext fun a => Fin.ext (by
    match a with | ⟨0, _⟩ => show 0 + 1 * 0 = 0; omega | ⟨1, _⟩ => show 0 + 1 * i.val = i.val; omega | ⟨2, _⟩ => show 0 + 1 * j.val = j.val; omega))
theorem ld1_at (x : Vec Ideal S8x128x1024 .bf16) : View.ld x r0_1 (ix3 0 i j) = x (ix3 1 i j) := by
  exact congrArg x (funext fun a => Fin.ext (by
    match a with | ⟨0, _⟩ => show 1 + 1 * 0 = 1; omega | ⟨1, _⟩ => show 0 + 1 * i.val = i.val; omega | ⟨2, _⟩ => show 0 + 1 * j.val = j.val; omega))
theorem ld2_at (x : Vec Ideal S8x128x1024 .bf16) : View.ld x r0_2 (ix3 0 i j) = x (ix3 2 i j) := by
  exact congrArg x (funext fun a => Fin.ext (by
    match a with | ⟨0, _⟩ => show 2 + 1 * 0 = 2; omega | ⟨1, _⟩ => show 0 + 1 * i.val = i.val; omega | ⟨2, _⟩ => show 0 + 1 * j.val = j.val; omega))
theorem ld3_at (x : Vec Ideal S8x128x1024 .bf16) : View.ld x r0_3 (ix3 0 i j) = x (ix3 3 i j) := by
  exact congrArg x (funext fun a => Fin.ext (by
    match a with | ⟨0, _⟩ => show 3 + 1 * 0 = 3; omega | ⟨1, _⟩ => show 0 + 1 * i.val = i.val; omega | ⟨2, _⟩ => show 0 + 1 * j.val = j.val; omega))
theorem ld4_at (x : Vec Ideal S8x128x1024 .bf16) : View.ld x r0_4 (ix3 0 i j) = x (ix3 4 i j) := by
  exact congrArg x (funext fun a => Fin.ext (by
    match a with | ⟨0, _⟩ => show 4 + 1 * 0 = 4; omega | ⟨1, _⟩ => show 0 + 1 * i.val = i.val; omega | ⟨2, _⟩ => show 0 + 1 * j.val = j.val; omega))
theorem ld5_at (x : Vec Ideal S8x128x1024 .bf16) : View.ld x r0_5 (ix3 0 i j) = x (ix3 5 i j) := by
  exact congrArg x (funext fun a => Fin.ext (by
    match a with | ⟨0, _⟩ => show 5 + 1 * 0 = 5; omega | ⟨1, _⟩ => show 0 + 1 * i.val = i.val; omega | ⟨2, _⟩ => show 0 + 1 * j.val = j.val; omega))
theorem ld6_at (x : Vec Ideal S8x128x1024 .bf16) : View.ld x r0_6 (ix3 0 i j) = x (ix3 6 i j) := by
  exact congrArg x (funext fun a => Fin.ext (by
    match a with | ⟨0, _⟩ => show 6 + 1 * 0 = 6; omega | ⟨1, _⟩ => show 0 + 1 * i.val = i.val; omega | ⟨2, _⟩ => show 0 + 1 * j.val = j.val; omega))
theorem ld7_at (x : Vec Ideal S8x128x1024 .bf16) : View.ld x r0_7 (ix3 0 i j) = x (ix3 7 i j) := by
  exact congrArg x (funext fun a => Fin.ext (by
    match a with | ⟨0, _⟩ => show 7 + 1 * 0 = 7; omega | ⟨1, _⟩ => show 0 + 1 * i.val = i.val; omega | ⟨2, _⟩ => show 0 + 1 * j.val = j.val; omega))

theorem x0_at (c : Dev nD) (t : Fin cfg0.N) (d : Fin 8) : b0 m c t (ix3 d i j) = P0 m c (ix3 d (pi t i) j) := by
  blk_simp [b0, iblk]
  show V m c main_arg0 _ = _
  rw [V_main_arg0]
  congr 1
  blk_ext [e0]
theorem x1_at (c : Dev nD) (t : Fin cfg0.N) (d : Fin 8) : b1 m c t (ix3 d i j) = P1 m c (ix3 d (pi t i) j) := by
  blk_simp [b1, iblk]
  show V m c main_arg1 _ = _
  rw [V_main_arg1]
  congr 1
  blk_ext [e1]
theorem x2_at (c : Dev nD) (t : Fin cfg0.N) : b2 m c t (ix3 0 i j) = W m c (ix3 (pl t) (pi t i) j) := by
  blk_simp [b2, iblk]
  show V m c main_arg2 _ = _
  rw [V_main_arg2]
  congr 1
  blk_ext [e2]
theorem x3_at (c : Dev nD) (t : Fin cfg0.N) : b3 m c t (ix3 0 i j) = M1 m c (ix3 (pl t) (pi t i) j) := by
  blk_simp [b3, iblk]
  show V m c main_arg3 _ = _
  rw [V_main_arg3]
  congr 1
  blk_ext [e3]
theorem x4_at (c : Dev nD) (t : Fin cfg0.N) : b4 m c t (ix3 0 i j) = M2 m c (ix3 (pl t) (pi t i) j) := by
  blk_simp [b4, iblk]
  show V m c main_arg4 _ = _
  rw [V_main_arg4]
  congr 1
  blk_ext [e4]

/-- The gradient a point has. -/
theorem pay9_at (c : Dev nD) (t : Fin cfg0.N) :
    k0_pay9 (grid0.coords t) (b0 m c t) (b1 m c t) (b2 m c t) (b3 m c t) (b4 m c t) (ix2 i j) = grad (P0 m c) (P1 m c) (pl t) (pi t i) j := by
  have ht := lt_of_lt_of_eq t.isLt (show cfg0.N = 2 from N_0)
  rw [k0_pay9, pay4_eq, l0]
  by_cases h : t.val / 1 = 0
  · rw [if_neg (by rw [h]; decide), pay3_at, ld0_at, ld1_at, ld2_at, ld3_at, ld4_at, ld5_at, ld6_at, ld7_at, grad, if_pos h, Fin.sum_univ_eight]
    simp only [x0_at]
  · have h1 : t.val / 1 = 1 := by omega
    rw [if_pos (by rw [h1]), pay3_at, ld0_at, ld1_at, ld2_at, ld3_at, ld4_at, ld5_at, ld6_at, ld7_at, grad, if_neg h, Fin.sum_univ_eight]
    simp only [x1_at]
end

/-! The reference, entry by entry. -/
section
variable (p q : (⟨Cert.AdamOutRefIdeal.S8x128x1024, .bf16⟩ : BufTy).Contents (Elt Ideal))
  (w a v : (⟨Cert.AdamOutRefIdeal.S2x128x1024, .f32⟩ : BufTy).Contents (Elt Ideal)) (l : Fin 2) (i : Fin 128) (j : Fin 1024)
theorem v1_at : val_main_v1 (F := Ideal) p (ix2 i j) = ∑ d : Fin 8, p (ix3 d i j) := by
  pointwise [val_main_v1, val_main_v0, val_main_cst]
theorem v3_at : val_main_v3 (F := Ideal) p (ix2 i j) = ∑ d : Fin 8, p (ix3 d i j) := by
  pointwise [val_main_v3, val_main_v2, val_main_cst_0]
theorem v6_at : val_main_v6 (F := Ideal) p q (ix3 l i j) = grad p q l i j := by
  unfold grad
  rw [← v1_at, ← v3_at]
  fin_cases l
  · pointwise [val_main_v6, val_main_v5, val_main_v4]
  · pointwise [val_main_v6, val_main_v5, val_main_v4]
theorem v11_at : val_main_v11 (F := Ideal) p q a (ix3 l i j) = mom (grad p q l i j) (a (ix3 l i j)) := by
  rw [← v6_at]
  pointwise [val_main_v11, val_main_v10, val_main_v9, val_main_v8, val_main_v7, val_main_cst_1, val_main_cst_2]
  rfl
theorem v17_at : val_main_v17 (F := Ideal) p q v (ix3 l i j) = var (grad p q l i j) (v (ix3 l i j)) := by
  rw [← v6_at]
  pointwise [val_main_v17, val_main_v16, val_main_v15, val_main_v14, val_main_v13, val_main_v12, val_main_cst_3, val_main_cst_4]
  rfl
theorem v30_at : val_main_v30 (F := Ideal) p q w a v (ix3 l i j) = step (grad p q l i j) (w (ix3 l i j)) (a (ix3 l i j)) (v (ix3 l i j)) := by
  rw [step, ← v11_at, ← v17_at]
  pointwise [val_main_v30, val_main_v29, val_main_v28, val_main_v27, val_main_v26, val_main_v25, val_main_v24, val_main_v23, val_main_v22,
    val_main_v21, val_main_v20, val_main_v19, val_main_v18, val_main_cst_5, val_main_cst_6, val_main_cst_7, val_main_cst_8, val_main_cst_9]
end

/-- The arrays after the run are the reference's. -/
theorem arr5 (c : Dev nD) : (dats m 0 c).arrAt 5 cfg0.N = val_main_v6 (F := Ideal) (P0 m c) (P1 m c) := by
  refine (dats m 0 c).arrAt_eq_of_covers 5 _ (by decide +kernel) fun t hf y => ?_
  blk_simp
  rw [after0_5]
  frame_out
  obtain ⟨i, j, rfl⟩ : ∃ (i : Fin 128) (j : Fin 1024), y = ix3 0 i j := ⟨y 1, y 2, by blk_ext []⟩
  rw [show ((win0_5.blk t).view.emb (ix3 0 i j)) = ix3 (pl t) (pi t i) j by blk_ext [e5], v6_at]
  refine (pay5_at (k0_pay9 (grid0.coords t) (b0 m c t) (b1 m c t) (b2 m c t) (b3 m c t) (b4 m c t)) i j).trans ?_
  rw [pay9_at]
theorem arr6 (c : Dev nD) : (dats m 0 c).arrAt 6 cfg0.N = val_main_v30 (F := Ideal) (P0 m c) (P1 m c) (W m c) (M1 m c) (M2 m c) := by
  refine (dats m 0 c).arrAt_eq_of_covers 6 _ (by decide +kernel) fun t hf y => ?_
  blk_simp
  rw [after0_6]
  frame_out
  obtain ⟨i, j, rfl⟩ : ∃ (i : Fin 128) (j : Fin 1024), y = ix3 0 i j := ⟨y 1, y 2, by blk_ext []⟩
  rw [show ((win0_6.blk t).view.emb (ix3 0 i j)) = ix3 (pl t) (pi t i) j by blk_ext [e6], v30_at]
  refine (pay8_at (k0_pay9 (grid0.coords t) (b0 m c t) (b1 m c t) (b2 m c t) (b3 m c t) (b4 m c t)) (b2 m c t) (b3 m c t) (b4 m c t) i j).trans ?_
  rw [pay9_at, x2_at, x3_at, x4_at]
theorem arr7 (c : Dev nD) : (dats m 0 c).arrAt 7 cfg0.N = val_main_v11 (F := Ideal) (P0 m c) (P1 m c) (M1 m c) := by
  refine (dats m 0 c).arrAt_eq_of_covers 7 _ (by decide +kernel) fun t hf y => ?_
  blk_simp
  rw [after0_7]
  frame_out
  obtain ⟨i, j, rfl⟩ : ∃ (i : Fin 128) (j : Fin 1024), y = ix3 0 i j := ⟨y 1, y 2, by blk_ext []⟩
  rw [show ((win0_7.blk t).view.emb (ix3 0 i j)) = ix3 (pl t) (pi t i) j by blk_ext [e7], v11_at]
  refine (pay1_at (k0_pay9 (grid0.coords t) (b0 m c t) (b1 m c t) (b2 m c t) (b3 m c t) (b4 m c t)) (b3 m c t) i j).trans ?_
  rw [pay9_at, x3_at]
theorem arr8 (c : Dev nD) : (dats m 0 c).arrAt 8 cfg0.N = val_main_v17 (F := Ideal) (P0 m c) (P1 m c) (M2 m c) := by
  refine (dats m 0 c).arrAt_eq_of_covers 8 _ (by decide +kernel) fun t hf y => ?_
  blk_simp
  rw [after0_8]
  frame_out
  obtain ⟨i, j, rfl⟩ : ∃ (i : Fin 128) (j : Fin 1024), y = ix3 0 i j := ⟨y 1, y 2, by blk_ext []⟩
  rw [show ((win0_8.blk t).view.emb (ix3 0 i j)) = ix3 (pl t) (pi t i) j by blk_ext [e8], v17_at]
  refine (pay2_at (k0_pay9 (grid0.coords t) (b0 m c t) (b1 m c t) (b2 m c t) (b3 m c t) (b4 m c t)) (b4 m c t) i j).trans ?_
  rw [pay9_at, x4_at]

end Cert.AdamOutIdeal.Gen

namespace Cert.Proof.AdamOut

open Idealize.ShloMosaic Idealize.SL.Sem Idealize.ShloMosaic.Tactic

/-- The two programs have one text, so the run over the machine's floats is the other's. -/
theorem frame_bits : Cert.quiescent_AdamOut := by
  intro m g _
  refine Eq.mp ?_ (Cert.AdamOutIdeal.Gen.frame (F := Bits) m g)
  sl_kernel_rfl
theorem frame_ideal : Cert.quiescent_AdamOutIdeal := fun m g _ => Cert.AdamOutIdeal.Gen.frame m g
theorem frame_ref : Cert.quiescent_AdamOutRefIdeal := fun m g _ =>
  (θ_run Cert.AdamOutRefIdeal.defs _ _).mono (fun r h => ⟨fun c => (h c).2.2.2.2, sem_eq_zero_of_no_sems (by decide) r.2⟩)
    (Cert.AdamOutRefIdeal.Value.run (F := Ideal) m g)

theorem algebraic : Cert.algebraic_AdamOutIdeal_AdamOutRefIdeal := by
  intro m g m' g' hpre hagree
  refine ⟨fun c => (Cert.AdamOutIdeal.Gen.dats m 0 c).arrAt 5 Cert.AdamOutIdeal.cfg0.N, fun c => (Cert.AdamOutIdeal.Gen.dats m 0 c).arrAt 6 Cert.AdamOutIdeal.cfg0.N,
    fun c => (Cert.AdamOutIdeal.Gen.dats m 0 c).arrAt 7 Cert.AdamOutIdeal.cfg0.N, fun c => (Cert.AdamOutIdeal.Gen.dats m 0 c).arrAt 8 Cert.AdamOutIdeal.cfg0.N,
    Cert.AdamOutIdeal.Value.run_blocks m g,
    (θ_run Cert.AdamOutRefIdeal.defs _ _).mono (fun r h c => ?_) (Cert.AdamOutRefIdeal.Value.run (F := Ideal) m' g')⟩
  obtain ⟨h0, h1, h2, h3, ha⟩ := h c
  obtain ⟨e0, e1, e2, e3, e4⟩ := hagree c
  refine ⟨h0.trans ?_, h1.trans ?_, h2.trans ?_, h3.trans ?_, ha⟩
  · rw [Cert.AdamOutRefIdeal.Read.val_main_v6_eq, e0, e1]
    exact (Cert.AdamOutIdeal.Gen.arr5 m c).symm
  · rw [Cert.AdamOutRefIdeal.Read.val_main_v30_eq, e0, e1, e2, e3, e4]
    exact (Cert.AdamOutIdeal.Gen.arr6 m c).symm
  · rw [Cert.AdamOutRefIdeal.Read.val_main_v11_eq, e0, e1, e3]
    exact (Cert.AdamOutIdeal.Gen.arr7 m c).symm
  · rw [Cert.AdamOutRefIdeal.Read.val_main_v17_eq, e0, e1, e4]
    exact (Cert.AdamOutIdeal.Gen.arr8 m c).symm

end Cert.Proof.AdamOut

end
-- ==== Proof.MmAdamFfnOut.lean ====
module

public import proofs.«01_k».proof.Defs
public import proofs.«01_k».proof.Proof.Adam
public import proofs.«01_k».proof.Proof.Gen.AdamFfnOut
public import proofs.«01_k».proof.Proof.Gen.AdamFfnOutIdeal
public import proofs.«01_k».proof.Proof.Gen.AdamFfnOutIdeal.Frame
public import proofs.«01_k».proof.Proof.Gen.AdamFfnOutIdeal.Value
public import proofs.«01_k».proof.Proof.Gen.AdamFfnOutRefIdeal
public import proofs.«01_k».proof.Proof.Gen.AdamFfnOutRefIdeal.Read
public import Idealize.ShloMosaic.Lib.Pointwise
public import Idealize.ShloMosaic.Lib.StableHlo.ReadAt
public import Idealize.ShloMosaic.Lib.Pipeline.ValueKit.Geometry
public import Idealize.ShloMosaic.Lib.Pipeline.ValueKit.Acc

@[expose] public section

set_option maxRecDepth 16384

noncomputable section

namespace Cert.AdamFfnOutIdeal.Gen

open Cert.AdamFfnOutIdeal Idealize.ShloMosaic Idealize.ShloMosaic.TcCoe Idealize.SL Idealize.SL.Sem
open Idealize.ShloMosaic.Pipeline (Dat Cfg Window)
open Cert.AdamFfnOutRefIdeal.Read
open scoped BigOperators

open Cert.Proof.Adam (mom var step)

variable (m : (ℓ : Loc nD τ sig) → Buf (Elt Ideal) ℓ)

/-- The devices' parts of the two layers' gradients, the weight and the moments on core `c`. -/
abbrev P0 (c : Dev nD) : FVec Ideal S8x352x1024 .bf16 := m ((c : Thread nD τ).loc main_arg0)
abbrev P1 (c : Dev nD) : FVec Ideal S8x352x1024 .bf16 := m ((c : Thread nD τ).loc main_arg1)
abbrev W (c : Dev nD) : FVec Ideal S2x352x1024 .f32 := m ((c : Thread nD τ).loc main_arg2)
abbrev M1 (c : Dev nD) : FVec Ideal S2x352x1024 .f32 := m ((c : Thread nD τ).loc main_arg3)
abbrev M2 (c : Dev nD) : FVec Ideal S2x352x1024 .f32 := m ((c : Thread nD τ).loc main_arg4)

/-- A point's blocks. -/
abbrev b0 (c : Dev nD) (t : Fin cfg0.N) : Vec Ideal S8x176x1024 .bf16 := iblk m c 0 t
abbrev b1 (c : Dev nD) (t : Fin cfg0.N) : Vec Ideal S8x176x1024 .bf16 := iblk m c 1 t
abbrev b2 (c : Dev nD) (t : Fin cfg0.N) : Vec Ideal S1x176x1024 .f32 := iblk m c 2 t
abbrev b3 (c : Dev nD) (t : Fin cfg0.N) : Vec Ideal S1x176x1024 .f32 := iblk m c 3 t
abbrev b4 (c : Dev nD) (t : Fin cfg0.N) : Vec Ideal S1x176x1024 .f32 := iblk m c 4 t

/-- A point's layer and rows. -/
abbrev pl (t : Fin cfg0.N) : Fin 2 := ⟨t.val / 2, by have := lt_of_lt_of_eq t.isLt (show cfg0.N = 4 from N_0); omega⟩
abbrev pi (t : Fin cfg0.N) (i : Fin 176) : Fin 352 := ⟨176 * (t.val % 2) + i.val, by omega⟩

theorem e0 : ∀ t : Fin cfg0.N, win0_0.index t = ![0, t.val % 2, 0] := (by decide +kernel : ∀ t : Fin grid0.N, _)
theorem e1 : ∀ t : Fin cfg0.N, win0_1.index t = ![0, t.val % 2, 0] := (by decide +kernel : ∀ t : Fin grid0.N, _)
theorem e2 : ∀ t : Fin cfg0.N, win0_2.index t = ![t.val / 2, t.val % 2, 0] := (by decide +kernel : ∀ t : Fin grid0.N, _)
theorem e3 : ∀ t : Fin cfg0.N, win0_3.index t = ![t.val / 2, t.val % 2, 0] := (by decide +kernel : ∀ t : Fin grid0.N, _)
theorem e4 : ∀ t : Fin cfg0.N, win0_4.index t = ![t.val / 2, t.val % 2, 0] := (by decide +kernel : ∀ t : Fin grid0.N, _)
theorem e5 : ∀ t : Fin cfg0.N, win0_5.index t = ![t.val / 2, t.val % 2, 0] := (by decide +kernel : ∀ t : Fin grid0.N, _)
theorem e6 : ∀ t : Fin cfg0.N, win0_6.index t = ![t.val / 2, t.val % 2, 0] := (by decide +kernel : ∀ t : Fin grid0.N, _)
theorem e7 : ∀ t : Fin cfg0.N, win0_7.index t = ![t.val / 2, t.val % 2, 0] := (by decide +kernel : ∀ t : Fin grid0.N, _)
theorem e8 : ∀ t : Fin cfg0.N, win0_8.index t = ![t.val / 2, t.val % 2, 0] := (by decide +kernel : ∀ t : Fin grid0.N, _)
theorem l0 : ∀ t : Fin cfg0.N, ((grid0.coords t) 0).val = t.val / 2 := (by decide +kernel : ∀ t : Fin grid0.N, _)

/-- The gradient of an entry: the sum of the devices' parts of its layer's. -/
abbrev grad (p q : FVec Ideal S8x352x1024 .bf16) (l : Fin 2) (i : Fin 352) (j : Fin 1024) : EReal :=
  if l.val = 0 then ∑ d : Fin 8, p (ix3 d i j) else ∑ d : Fin 8, q (ix3 d i j)

section
variable (n : BitVec 32) (s : FVec Ideal S176x1024 .f32) (p0 p1 p2 p3 p4 p5 p6 p7 : Vec Ideal S1x176x1024 .bf16) (w a v : Vec Ideal S1x176x1024 .f32) (i : Fin 176) (j : Fin 1024)

/-- What a point computes, entry by entry. -/
theorem pay3_at : k0_pay3 p0 p1 p2 p3 p4 p5 p6 p7 (ix2 i j) = p0 (ix3 0 i j) + p1 (ix3 0 i j) + p2 (ix3 0 i j) + p3 (ix3 0 i j)
    + p4 (ix3 0 i j) + p5 (ix3 0 i j) + p6 (ix3 0 i j) + p7 (ix3 0 i j) := by
  pointwise [k0_pay3]
theorem pay4_eq : k0_pay4 n s p0 p1 p2 p3 p4 p5 p6 p7 = if n = 1#32 then k0_pay3 p0 p1 p2 p3 p4 p5 p6 p7 else s := by
  by_cases h : n = 1#32
  · rw [if_pos h, h]
    rfl
  · rw [if_neg h]
    have hb : IntOp.cmpi .eq n 1#32 = 0#1 := by
      show BitVec.ofBool (n == 1#32) = 0#1
      rw [beq_eq_false_iff_ne.mpr h]
      rfl
    show Scalar.select (IntOp.cmpi .eq n 1#32) _ s = s
    rw [hb]
    rfl
theorem pay5_at : k0_pay5 s (ix3 0 i j) = s (ix2 i j) := by
  pointwise [k0_pay5]
theorem pay6_at : k0_pay6 s a (ix2 i j) = mom (s (ix2 i j)) (a (ix3 0 i j)) := by
  pointwise [k0_pay6]
  rfl
theorem pay7_at : k0_pay7 s v (ix2 i j) = var (s (ix2 i j)) (v (ix3 0 i j)) := by
  pointwise [k0_pay7]
  rfl
theorem pay8_at : k0_pay8 s w a v (ix3 0 i j) = step (s (ix2 i j)) (w (ix3 0 i j)) (a (ix3 0 i j)) (v (ix3 0 i j)) := by
  rw [step, ← pay6_at, ← pay7_at]
  pointwise [k0_pay8]
theorem pay1_at : k0_pay1 (k0_pay6 s a) (ix3 0 i j) = mom (s (ix2 i j)) (a (ix3 0 i j)) := by
  rw [← pay6_at]
  pointwise [k0_pay1]
theorem pay2_at : k0_pay2 (k0_pay7 s v) (ix3 0 i j) = var (s (ix2 i j)) (v (ix3 0 i j)) := by
  rw [← pay7_at]
  pointwise [k0_pay2]

/-- A device's part of a block. -/
theorem ld0_at (x : Vec Ideal S8x176x1024 .bf16) : View.ld x r0_0 (ix3 0 i j) = x (ix3 0 i j) := by
  exact congrArg x (funext fun a => Fin.ext (by
    match a with | ⟨0, _⟩ => show 0 + 1 * 0 = 0; omega | ⟨1, _⟩ => show 0 + 1 * i.val = i.val; omega | ⟨2, _⟩ => show 0 + 1 * j.val = j.val; omega))
theorem ld1_at (x : Vec Ideal S8x176x1024 .bf16) : View.ld x r0_1 (ix3 0 i j) = x (ix3 1 i j) := by
  exact congrArg x (funext fun a => Fin.ext (by
    match a with | ⟨0, _⟩ => show 1 + 1 * 0 = 1; omega | ⟨1, _⟩ => show 0 + 1 * i.val = i.val; omega | ⟨2, _⟩ => show 0 + 1 * j.val = j.val; omega))
theorem ld2_at (x : Vec Ideal S8x176x1024 .bf16) : View.ld x r0_2 (ix3 0 i j) = x (ix3 2 i j) := by
  exact congrArg x (funext fun a => Fin.ext (by
    match a with | ⟨0, _⟩ => show 2 + 1 * 0 = 2; omega | ⟨1, _⟩ => show 0 + 1 * i.val = i.val; omega | ⟨2, _⟩ => show 0 + 1 * j.val = j.val; omega))
theorem ld3_at (x : Vec Ideal S8x176x1024 .bf16) : View.ld x r0_3 (ix3 0 i j) = x (ix3 3 i j) := by
  exact congrArg x (funext fun a => Fin.ext (by
    match a with | ⟨0, _⟩ => show 3 + 1 * 0 = 3; omega | ⟨1, _⟩ => show 0 + 1 * i.val = i.val; omega | ⟨2, _⟩ => show 0 + 1 * j.val = j.val; omega))
theorem ld4_at (x : Vec Ideal S8x176x1024 .bf16) : View.ld x r0_4 (ix3 0 i j) = x (ix3 4 i j) := by
  exact congrArg x (funext fun a => Fin.ext (by
    match a with | ⟨0, _⟩ => show 4 + 1 * 0 = 4; omega | ⟨1, _⟩ => show 0 + 1 * i.val = i.val; omega | ⟨2, _⟩ => show 0 + 1 * j.val = j.val; omega))
theorem ld5_at (x : Vec Ideal S8x176x1024 .bf16) : View.ld x r0_5 (ix3 0 i j) = x (ix3 5 i j) := by
  exact congrArg x (funext fun a => Fin.ext (by
    match a with | ⟨0, _⟩ => show 5 + 1 * 0 = 5; omega | ⟨1, _⟩ => show 0 + 1 * i.val = i.val; omega | ⟨2, _⟩ => show 0 + 1 * j.val = j.val; omega))
theorem ld6_at (x : Vec Ideal S8x176x1024 .bf16) : View.ld x r0_6 (ix3 0 i j) = x (ix3 6 i j) := by
  exact congrArg x (funext fun a => Fin.ext (by
    match a with | ⟨0, _⟩ => show 6 + 1 * 0 = 6; omega | ⟨1, _⟩ => show 0 + 1 * i.val = i.val; omega | ⟨2, _⟩ => show 0 + 1 * j.val = j.val; omega))
theorem ld7_at (x : Vec Ideal S8x176x1024 .bf16) : View.ld x r0_7 (ix3 0 i j) = x (ix3 7 i j) := by
  exact congrArg x (funext fun a => Fin.ext (by
    match a with | ⟨0, _⟩ => show 7 + 1 * 0 = 7; omega | ⟨1, _⟩ => show 0 + 1 * i.val = i.val; omega | ⟨2, _⟩ => show 0 + 1 * j.val = j.val; omega))

theorem x0_at (c : Dev nD) (t : Fin cfg0.N) (d : Fin 8) : b0 m c t (ix3 d i j) = P0 m c (ix3 d (pi t i) j) := by
  blk_simp [b0, iblk]
  show V m c main_arg0 _ = _
  rw [V_main_arg0]
  congr 1
  blk_ext [e0]
theorem x1_at (c : Dev nD) (t : Fin cfg0.N) (d : Fin 8) : b1 m c t (ix3 d i j) = P1 m c (ix3 d (pi t i) j) := by
  blk_simp [b1, iblk]
  show V m c main_arg1 _ = _
  rw [V_main_arg1]
  congr 1
  blk_ext [e1]
theorem x2_at (c : Dev nD) (t : Fin cfg0.N) : b2 m c t (ix3 0 i j) = W m c (ix3 (pl t) (pi t i) j) := by
  blk_simp [b2, iblk]
  show V m c main_arg2 _ = _
  rw [V_main_arg2]
  congr 1
  blk_ext [e2]
theorem x3_at (c : Dev nD) (t : Fin cfg0.N) : b3 m c t (ix3 0 i j) = M1 m c (ix3 (pl t) (pi t i) j) := by
  blk_simp [b3, iblk]
  show V m c main_arg3 _ = _
  rw [V_main_arg3]
  congr 1
  blk_ext [e3]
theorem x4_at (c : Dev nD) (t : Fin cfg0.N) : b4 m c t (ix3 0 i j) = M2 m c (ix3 (pl t) (pi t i) j) := by
  blk_simp [b4, iblk]
  show V m c main_arg4 _ = _
  rw [V_main_arg4]
  congr 1
  blk_ext [e4]

/-- The gradient a point has. -/
theorem pay9_at (c : Dev nD) (t : Fin cfg0.N) :
    k0_pay9 (grid0.coords t) (b0 m c t) (b1 m c t) (b2 m c t) (b3 m c t) (b4 m c t) (ix2 i j) = grad (P0 m c) (P1 m c) (pl t) (pi t i) j := by
  have ht := lt_of_lt_of_eq t.isLt (show cfg0.N = 4 from N_0)
  rw [k0_pay9, pay4_eq, l0]
  by_cases h : t.val / 2 = 0
  · rw [if_neg (by rw [h]; decide), pay3_at, ld0_at, ld1_at, ld2_at, ld3_at, ld4_at, ld5_at, ld6_at, ld7_at, grad, if_pos h, Fin.sum_univ_eight]
    simp only [x0_at]
  · have h1 : t.val / 2 = 1 := by omega
    rw [if_pos (by rw [h1]), pay3_at, ld0_at, ld1_at, ld2_at, ld3_at, ld4_at, ld5_at, ld6_at, ld7_at, grad, if_neg h, Fin.sum_univ_eight]
    simp only [x1_at]
end

/-! The reference, entry by entry. -/
section
variable (p q : (⟨Cert.AdamFfnOutRefIdeal.S8x352x1024, .bf16⟩ : BufTy).Contents (Elt Ideal))
  (w a v : (⟨Cert.AdamFfnOutRefIdeal.S2x352x1024, .f32⟩ : BufTy).Contents (Elt Ideal)) (l : Fin 2) (i : Fin 352) (j : Fin 1024)
theorem v1_at : val_main_v1 (F := Ideal) p (ix2 i j) = ∑ d : Fin 8, p (ix3 d i j) := by
  pointwise [val_main_v1, val_main_v0, val_main_cst]
theorem v3_at : val_main_v3 (F := Ideal) p (ix2 i j) = ∑ d : Fin 8, p (ix3 d i j) := by
  pointwise [val_main_v3, val_main_v2, val_main_cst_0]
theorem v6_at : val_main_v6 (F := Ideal) p q (ix3 l i j) = grad p q l i j := by
  unfold grad
  rw [← v1_at, ← v3_at]
  fin_cases l
  · pointwise [val_main_v6, val_main_v5, val_main_v4]
  · pointwise [val_main_v6, val_main_v5, val_main_v4]
theorem v11_at : val_main_v11 (F := Ideal) p q a (ix3 l i j) = mom (grad p q l i j) (a (ix3 l i j)) := by
  rw [← v6_at]
  pointwise [val_main_v11, val_main_v10, val_main_v9, val_main_v8, val_main_v7, val_main_cst_1, val_main_cst_2]
  rfl
theorem v17_at : val_main_v17 (F := Ideal) p q v (ix3 l i j) = var (grad p q l i j) (v (ix3 l i j)) := by
  rw [← v6_at]
  pointwise [val_main_v17, val_main_v16, val_main_v15, val_main_v14, val_main_v13, val_main_v12, val_main_cst_3, val_main_cst_4]
  rfl
theorem v30_at : val_main_v30 (F := Ideal) p q w a v (ix3 l i j) = step (grad p q l i j) (w (ix3 l i j)) (a (ix3 l i j)) (v (ix3 l i j)) := by
  rw [step, ← v11_at, ← v17_at]
  pointwise [val_main_v30, val_main_v29, val_main_v28, val_main_v27, val_main_v26, val_main_v25, val_main_v24, val_main_v23, val_main_v22,
    val_main_v21, val_main_v20, val_main_v19, val_main_v18, val_main_cst_5, val_main_cst_6, val_main_cst_7, val_main_cst_8, val_main_cst_9]
end

/-- The arrays after the run are the reference's. -/
theorem arr5 (c : Dev nD) : (dats m 0 c).arrAt 5 cfg0.N = val_main_v6 (F := Ideal) (P0 m c) (P1 m c) := by
  refine (dats m 0 c).arrAt_eq_of_covers 5 _ (by decide +kernel) fun t hf y => ?_
  blk_simp
  rw [after0_5]
  frame_out
  obtain ⟨i, j, rfl⟩ : ∃ (i : Fin 176) (j : Fin 1024), y = ix3 0 i j := ⟨y 1, y 2, by blk_ext []⟩
  rw [show ((win0_5.blk t).view.emb (ix3 0 i j)) = ix3 (pl t) (pi t i) j by blk_ext [e5], v6_at]
  refine (pay5_at (k0_pay9 (grid0.coords t) (b0 m c t) (b1 m c t) (b2 m c t) (b3 m c t) (b4 m c t)) i j).trans ?_
  rw [pay9_at]
theorem arr6 (c : Dev nD) : (dats m 0 c).arrAt 6 cfg0.N = val_main_v30 (F := Ideal) (P0 m c) (P1 m c) (W m c) (M1 m c) (M2 m c) := by
  refine (dats m 0 c).arrAt_eq_of_covers 6 _ (by decide +kernel) fun t hf y => ?_
  blk_simp
  rw [after0_6]
  frame_out
  obtain ⟨i, j, rfl⟩ : ∃ (i : Fin 176) (j : Fin 1024), y = ix3 0 i j := ⟨y 1, y 2, by blk_ext []⟩
  rw [show ((win0_6.blk t).view.emb (ix3 0 i j)) = ix3 (pl t) (pi t i) j by blk_ext [e6], v30_at]
  refine (pay8_at (k0_pay9 (grid0.coords t) (b0 m c t) (b1 m c t) (b2 m c t) (b3 m c t) (b4 m c t)) (b2 m c t) (b3 m c t) (b4 m c t) i j).trans ?_
  rw [pay9_at, x2_at, x3_at, x4_at]
theorem arr7 (c : Dev nD) : (dats m 0 c).arrAt 7 cfg0.N = val_main_v11 (F := Ideal) (P0 m c) (P1 m c) (M1 m c) := by
  refine (dats m 0 c).arrAt_eq_of_covers 7 _ (by decide +kernel) fun t hf y => ?_
  blk_simp
  rw [after0_7]
  frame_out
  obtain ⟨i, j, rfl⟩ : ∃ (i : Fin 176) (j : Fin 1024), y = ix3 0 i j := ⟨y 1, y 2, by blk_ext []⟩
  rw [show ((win0_7.blk t).view.emb (ix3 0 i j)) = ix3 (pl t) (pi t i) j by blk_ext [e7], v11_at]
  refine (pay1_at (k0_pay9 (grid0.coords t) (b0 m c t) (b1 m c t) (b2 m c t) (b3 m c t) (b4 m c t)) (b3 m c t) i j).trans ?_
  rw [pay9_at, x3_at]
theorem arr8 (c : Dev nD) : (dats m 0 c).arrAt 8 cfg0.N = val_main_v17 (F := Ideal) (P0 m c) (P1 m c) (M2 m c) := by
  refine (dats m 0 c).arrAt_eq_of_covers 8 _ (by decide +kernel) fun t hf y => ?_
  blk_simp
  rw [after0_8]
  frame_out
  obtain ⟨i, j, rfl⟩ : ∃ (i : Fin 176) (j : Fin 1024), y = ix3 0 i j := ⟨y 1, y 2, by blk_ext []⟩
  rw [show ((win0_8.blk t).view.emb (ix3 0 i j)) = ix3 (pl t) (pi t i) j by blk_ext [e8], v17_at]
  refine (pay2_at (k0_pay9 (grid0.coords t) (b0 m c t) (b1 m c t) (b2 m c t) (b3 m c t) (b4 m c t)) (b4 m c t) i j).trans ?_
  rw [pay9_at, x4_at]

end Cert.AdamFfnOutIdeal.Gen

namespace Cert.Proof.AdamFfnOut

open Idealize.ShloMosaic Idealize.SL.Sem Idealize.ShloMosaic.Tactic

/-- The two programs have one text, so the run over the machine's floats is the other's. -/
theorem frame_bits : Cert.quiescent_AdamFfnOut := by
  intro m g _
  refine Eq.mp ?_ (Cert.AdamFfnOutIdeal.Gen.frame (F := Bits) m g)
  sl_kernel_rfl
theorem frame_ideal : Cert.quiescent_AdamFfnOutIdeal := fun m g _ => Cert.AdamFfnOutIdeal.Gen.frame m g
theorem frame_ref : Cert.quiescent_AdamFfnOutRefIdeal := fun m g _ =>
  (θ_run Cert.AdamFfnOutRefIdeal.defs _ _).mono (fun r h => ⟨fun c => (h c).2.2.2.2, sem_eq_zero_of_no_sems (by decide) r.2⟩)
    (Cert.AdamFfnOutRefIdeal.Value.run (F := Ideal) m g)

theorem algebraic : Cert.algebraic_AdamFfnOutIdeal_AdamFfnOutRefIdeal := by
  intro m g m' g' hpre hagree
  refine ⟨fun c => (Cert.AdamFfnOutIdeal.Gen.dats m 0 c).arrAt 5 Cert.AdamFfnOutIdeal.cfg0.N, fun c => (Cert.AdamFfnOutIdeal.Gen.dats m 0 c).arrAt 6 Cert.AdamFfnOutIdeal.cfg0.N,
    fun c => (Cert.AdamFfnOutIdeal.Gen.dats m 0 c).arrAt 7 Cert.AdamFfnOutIdeal.cfg0.N, fun c => (Cert.AdamFfnOutIdeal.Gen.dats m 0 c).arrAt 8 Cert.AdamFfnOutIdeal.cfg0.N,
    Cert.AdamFfnOutIdeal.Value.run_blocks m g,
    (θ_run Cert.AdamFfnOutRefIdeal.defs _ _).mono (fun r h c => ?_) (Cert.AdamFfnOutRefIdeal.Value.run (F := Ideal) m' g')⟩
  obtain ⟨h0, h1, h2, h3, ha⟩ := h c
  obtain ⟨e0, e1, e2, e3, e4⟩ := hagree c
  refine ⟨h0.trans ?_, h1.trans ?_, h2.trans ?_, h3.trans ?_, ha⟩
  · rw [Cert.AdamFfnOutRefIdeal.Read.val_main_v6_eq, e0, e1]
    exact (Cert.AdamFfnOutIdeal.Gen.arr5 m c).symm
  · rw [Cert.AdamFfnOutRefIdeal.Read.val_main_v30_eq, e0, e1, e2, e3, e4]
    exact (Cert.AdamFfnOutIdeal.Gen.arr6 m c).symm
  · rw [Cert.AdamFfnOutRefIdeal.Read.val_main_v11_eq, e0, e1, e3]
    exact (Cert.AdamFfnOutIdeal.Gen.arr7 m c).symm
  · rw [Cert.AdamFfnOutRefIdeal.Read.val_main_v17_eq, e0, e1, e4]
    exact (Cert.AdamFfnOutIdeal.Gen.arr8 m c).symm

end Cert.Proof.AdamFfnOut

end
-- ==== Proof.lean ====
module

public import proofs.«01_k».proof.Defs
public import proofs.«01_k».proof.Proof.Gen.AttnBwd
public import proofs.«01_k».proof.Proof.Gen.AttnBwdIdeal
public import proofs.«01_k».proof.Proof.Gen.AttnRefIdeal
public import proofs.«01_k».proof.Proof.Gen.FfnInDx
public import proofs.«01_k».proof.Proof.Gen.FfnInDxIdeal
public import proofs.«01_k».proof.Proof.Gen.FfnInDxIdeal.Frame
public import proofs.«01_k».proof.Proof.Gen.FfnInDxIdeal.Value
public import proofs.«01_k».proof.Proof.Gen.FfnInDxRefIdeal
public import proofs.«01_k».proof.Proof.Gen.FfnInDxRefIdeal.Read
public import proofs.«01_k».proof.Proof.Gen.FfnInDw
public import proofs.«01_k».proof.Proof.Gen.FfnInDwIdeal
public import proofs.«01_k».proof.Proof.Gen.FfnInDwIdeal.Frame
public import proofs.«01_k».proof.Proof.Gen.FfnInDwIdeal.Value
public import proofs.«01_k».proof.Proof.Gen.FfnInDwRefIdeal
public import proofs.«01_k».proof.Proof.Gen.FfnInDwRefIdeal.Read
public import proofs.«01_k».proof.Proof.Gen.FfnOutDx
public import proofs.«01_k».proof.Proof.Gen.FfnOutDxIdeal
public import proofs.«01_k».proof.Proof.Gen.FfnOutDxIdeal.Frame
public import proofs.«01_k».proof.Proof.Gen.FfnOutDxIdeal.Value
public import proofs.«01_k».proof.Proof.Gen.FfnOutDxRefIdeal
public import proofs.«01_k».proof.Proof.Gen.FfnOutDxRefIdeal.Read
public import proofs.«01_k».proof.Proof.Gen.FfnOutDw
public import proofs.«01_k».proof.Proof.Gen.FfnOutDwIdeal
public import proofs.«01_k».proof.Proof.Gen.FfnOutDwIdeal.Frame
public import proofs.«01_k».proof.Proof.Gen.FfnOutDwIdeal.Value
public import proofs.«01_k».proof.Proof.Gen.FfnOutDwRefIdeal
public import proofs.«01_k».proof.Proof.Gen.FfnOutDwRefIdeal.Read
public import proofs.«01_k».proof.Proof.Gen.MixInDx
public import proofs.«01_k».proof.Proof.Gen.MixInDxIdeal
public import proofs.«01_k».proof.Proof.Gen.MixInDxIdeal.Frame
public import proofs.«01_k».proof.Proof.Gen.MixInDxIdeal.Value
public import proofs.«01_k».proof.Proof.Gen.MixInDxRefIdeal
public import proofs.«01_k».proof.Proof.Gen.MixInDxRefIdeal.Read
public import proofs.«01_k».proof.Proof.Gen.MixInDw
public import proofs.«01_k».proof.Proof.Gen.MixInDwIdeal
public import proofs.«01_k».proof.Proof.Gen.MixInDwIdeal.Frame
public import proofs.«01_k».proof.Proof.Gen.MixInDwIdeal.Value
public import proofs.«01_k».proof.Proof.Gen.MixInDwRefIdeal
public import proofs.«01_k».proof.Proof.Gen.MixInDwRefIdeal.Read
public import proofs.«01_k».proof.Proof.Gen.MixOutDx
public import proofs.«01_k».proof.Proof.Gen.MixOutDxIdeal
public import proofs.«01_k».proof.Proof.Gen.MixOutDxIdeal.Frame
public import proofs.«01_k».proof.Proof.Gen.MixOutDxIdeal.Value
public import proofs.«01_k».proof.Proof.Gen.MixOutDxRefIdeal
public import proofs.«01_k».proof.Proof.Gen.MixOutDxRefIdeal.Read
public import proofs.«01_k».proof.Proof.Gen.MixOutDw
public import proofs.«01_k».proof.Proof.Gen.MixOutDwIdeal
public import proofs.«01_k».proof.Proof.Gen.MixOutDwIdeal.Frame
public import proofs.«01_k».proof.Proof.Gen.MixOutDwIdeal.Value
public import proofs.«01_k».proof.Proof.Gen.MixOutDwRefIdeal
public import proofs.«01_k».proof.Proof.Gen.MixOutDwRefIdeal.Read
public import proofs.«01_k».proof.Proof.Gen.FfnIn
public import proofs.«01_k».proof.Proof.Gen.FfnInIdeal
public import proofs.«01_k».proof.Proof.Gen.FfnInIdeal.Frame
public import proofs.«01_k».proof.Proof.Gen.FfnInIdeal.Value
public import proofs.«01_k».proof.Proof.Gen.FfnInRefIdeal
public import proofs.«01_k».proof.Proof.Gen.FfnInRefIdeal.Read
public import proofs.«01_k».proof.Proof.Gen.FfnOut
public import proofs.«01_k».proof.Proof.Gen.FfnOutIdeal
public import proofs.«01_k».proof.Proof.Gen.FfnOutIdeal.Frame
public import proofs.«01_k».proof.Proof.Gen.FfnOutIdeal.Value
public import proofs.«01_k».proof.Proof.Gen.FfnOutRefIdeal
public import proofs.«01_k».proof.Proof.Gen.FfnOutRefIdeal.Read
public import proofs.«01_k».proof.Proof.Gen.MixIn
public import proofs.«01_k».proof.Proof.Gen.MixInIdeal
public import proofs.«01_k».proof.Proof.Gen.MixInIdeal.Frame
public import proofs.«01_k».proof.Proof.Gen.MixInIdeal.Value
public import proofs.«01_k».proof.Proof.Gen.MixInRefIdeal
public import proofs.«01_k».proof.Proof.Gen.MixInRefIdeal.Read
public import proofs.«01_k».proof.Proof.Gen.MixOut
public import proofs.«01_k».proof.Proof.Gen.MixOutIdeal
public import proofs.«01_k».proof.Proof.Gen.MixOutIdeal.Frame
public import proofs.«01_k».proof.Proof.Gen.MixOutIdeal.Value
public import proofs.«01_k».proof.Proof.Gen.MixOutRefIdeal
public import proofs.«01_k».proof.Proof.Gen.MixOutRefIdeal.Read
public import proofs.«01_k».proof.Proof.Gen.CtxFfnInDx
public import proofs.«01_k».proof.Proof.Gen.CtxFfnInDxIdeal
public import proofs.«01_k».proof.Proof.Gen.CtxFfnInDxIdeal.Frame
public import proofs.«01_k».proof.Proof.Gen.CtxFfnInDxIdeal.Value
public import proofs.«01_k».proof.Proof.Gen.CtxFfnInDxRefIdeal
public import proofs.«01_k».proof.Proof.Gen.CtxFfnInDxRefIdeal.Read
public import proofs.«01_k».proof.Proof.Gen.CtxFfnInDw
public import proofs.«01_k».proof.Proof.Gen.CtxFfnInDwIdeal
public import proofs.«01_k».proof.Proof.Gen.CtxFfnInDwIdeal.Frame
public import proofs.«01_k».proof.Proof.Gen.CtxFfnInDwIdeal.Value
public import proofs.«01_k».proof.Proof.Gen.CtxFfnInDwRefIdeal
public import proofs.«01_k».proof.Proof.Gen.CtxFfnInDwRefIdeal.Read
public import proofs.«01_k».proof.Proof.Gen.CtxFfnOutDx
public import proofs.«01_k».proof.Proof.Gen.CtxFfnOutDxIdeal
public import proofs.«01_k».proof.Proof.Gen.CtxFfnOutDxIdeal.Frame
public import proofs.«01_k».proof.Proof.Gen.CtxFfnOutDxIdeal.Value
public import proofs.«01_k».proof.Proof.Gen.CtxFfnOutDxRefIdeal
public import proofs.«01_k».proof.Proof.Gen.CtxFfnOutDxRefIdeal.Read
public import proofs.«01_k».proof.Proof.Gen.CtxFfnOutDw
public import proofs.«01_k».proof.Proof.Gen.CtxFfnOutDwIdeal
public import proofs.«01_k».proof.Proof.Gen.CtxFfnOutDwIdeal.Frame
public import proofs.«01_k».proof.Proof.Gen.CtxFfnOutDwIdeal.Value
public import proofs.«01_k».proof.Proof.Gen.CtxFfnOutDwRefIdeal
public import proofs.«01_k».proof.Proof.Gen.CtxFfnOutDwRefIdeal.Read
public import proofs.«01_k».proof.Proof.Gen.CtxMixInDx
public import proofs.«01_k».proof.Proof.Gen.CtxMixInDxIdeal
public import proofs.«01_k».proof.Proof.Gen.CtxMixInDxIdeal.Frame
public import proofs.«01_k».proof.Proof.Gen.CtxMixInDxIdeal.Value
public import proofs.«01_k».proof.Proof.Gen.CtxMixInDxRefIdeal
public import proofs.«01_k».proof.Proof.Gen.CtxMixInDxRefIdeal.Read
public import proofs.«01_k».proof.Proof.Gen.CtxMixInDw
public import proofs.«01_k».proof.Proof.Gen.CtxMixInDwIdeal
public import proofs.«01_k».proof.Proof.Gen.CtxMixInDwIdeal.Frame
public import proofs.«01_k».proof.Proof.Gen.CtxMixInDwIdeal.Value
public import proofs.«01_k».proof.Proof.Gen.CtxMixInDwRefIdeal
public import proofs.«01_k».proof.Proof.Gen.CtxMixInDwRefIdeal.Read
public import proofs.«01_k».proof.Proof.Gen.CtxMixOutDx
public import proofs.«01_k».proof.Proof.Gen.CtxMixOutDxIdeal
public import proofs.«01_k».proof.Proof.Gen.CtxMixOutDxIdeal.Frame
public import proofs.«01_k».proof.Proof.Gen.CtxMixOutDxIdeal.Value
public import proofs.«01_k».proof.Proof.Gen.CtxMixOutDxRefIdeal
public import proofs.«01_k».proof.Proof.Gen.CtxMixOutDxRefIdeal.Read
public import proofs.«01_k».proof.Proof.Gen.CtxMixOutDw
public import proofs.«01_k».proof.Proof.Gen.CtxMixOutDwIdeal
public import proofs.«01_k».proof.Proof.Gen.CtxMixOutDwIdeal.Frame
public import proofs.«01_k».proof.Proof.Gen.CtxMixOutDwIdeal.Value
public import proofs.«01_k».proof.Proof.Gen.CtxMixOutDwRefIdeal
public import proofs.«01_k».proof.Proof.Gen.CtxMixOutDwRefIdeal.Read
public import proofs.«01_k».proof.Proof.Gen.CtxKvDx
public import proofs.«01_k».proof.Proof.Gen.CtxKvDxIdeal
public import proofs.«01_k».proof.Proof.Gen.CtxKvDxIdeal.Frame
public import proofs.«01_k».proof.Proof.Gen.CtxKvDxIdeal.Value
public import proofs.«01_k».proof.Proof.Gen.CtxKvDxRefIdeal
public import proofs.«01_k».proof.Proof.Gen.CtxKvDxRefIdeal.Read
public import proofs.«01_k».proof.Proof.Gen.CtxKvDw
public import proofs.«01_k».proof.Proof.Gen.CtxKvDwIdeal
public import proofs.«01_k».proof.Proof.Gen.CtxKvDwIdeal.Frame
public import proofs.«01_k».proof.Proof.Gen.CtxKvDwIdeal.Value
public import proofs.«01_k».proof.Proof.Gen.CtxKvDwRefIdeal
public import proofs.«01_k».proof.Proof.Gen.CtxKvDwRefIdeal.Read
public import proofs.«01_k».proof.Proof.Gen.CtxFfnIn
public import proofs.«01_k».proof.Proof.Gen.CtxFfnInIdeal
public import proofs.«01_k».proof.Proof.Gen.CtxFfnInIdeal.Frame
public import proofs.«01_k».proof.Proof.Gen.CtxFfnInIdeal.Value
public import proofs.«01_k».proof.Proof.Gen.CtxFfnInRefIdeal
public import proofs.«01_k».proof.Proof.Gen.CtxFfnInRefIdeal.Read
public import proofs.«01_k».proof.Proof.Gen.CtxFfnOut
public import proofs.«01_k».proof.Proof.Gen.CtxFfnOutIdeal
public import proofs.«01_k».proof.Proof.Gen.CtxFfnOutIdeal.Frame
public import proofs.«01_k».proof.Proof.Gen.CtxFfnOutIdeal.Value
public import proofs.«01_k».proof.Proof.Gen.CtxFfnOutRefIdeal
public import proofs.«01_k».proof.Proof.Gen.CtxFfnOutRefIdeal.Read
public import proofs.«01_k».proof.Proof.Gen.CtxMixIn
public import proofs.«01_k».proof.Proof.Gen.CtxMixInIdeal
public import proofs.«01_k».proof.Proof.Gen.CtxMixInIdeal.Frame
public import proofs.«01_k».proof.Proof.Gen.CtxMixInIdeal.Value
public import proofs.«01_k».proof.Proof.Gen.CtxMixInRefIdeal
public import proofs.«01_k».proof.Proof.Gen.CtxMixInRefIdeal.Read
public import proofs.«01_k».proof.Proof.Gen.CtxMixOut
public import proofs.«01_k».proof.Proof.Gen.CtxMixOutIdeal
public import proofs.«01_k».proof.Proof.Gen.CtxMixOutIdeal.Frame
public import proofs.«01_k».proof.Proof.Gen.CtxMixOutIdeal.Value
public import proofs.«01_k».proof.Proof.Gen.CtxMixOutRefIdeal
public import proofs.«01_k».proof.Proof.Gen.CtxMixOutRefIdeal.Read
public import proofs.«01_k».proof.Proof.Gen.CtxKv
public import proofs.«01_k».proof.Proof.Gen.CtxKvIdeal
public import proofs.«01_k».proof.Proof.Gen.CtxKvIdeal.Frame
public import proofs.«01_k».proof.Proof.Gen.CtxKvIdeal.Value
public import proofs.«01_k».proof.Proof.Gen.CtxKvRefIdeal
public import proofs.«01_k».proof.Proof.Gen.CtxKvRefIdeal.Read
public import proofs.«01_k».proof.Proof.Gen.Interleave
public import proofs.«01_k».proof.Proof.Gen.InterleaveIdeal
public import proofs.«01_k».proof.Proof.Gen.InterleaveIdeal.Frame
public import proofs.«01_k».proof.Proof.Gen.InterleaveIdeal.Value
public import proofs.«01_k».proof.Proof.Gen.InterleaveRefIdeal
public import proofs.«01_k».proof.Proof.Gen.InterleaveRefIdeal.Read
public import proofs.«01_k».proof.Proof.Gen.NormBwd
public import proofs.«01_k».proof.Proof.Gen.NormBwdIdeal
public import proofs.«01_k».proof.Proof.Gen.NormBwdIdeal.Frame
public import proofs.«01_k».proof.Proof.Gen.NormBwdIdeal.Value
public import proofs.«01_k».proof.Proof.Gen.NormBwdRefIdeal
public import proofs.«01_k».proof.Proof.Gen.NormBwdRefIdeal.Read
public import proofs.«01_k».proof.Proof.Gen.CtxNormBwd
public import proofs.«01_k».proof.Proof.Gen.CtxNormBwdIdeal
public import proofs.«01_k».proof.Proof.Gen.CtxNormBwdIdeal.Frame
public import proofs.«01_k».proof.Proof.Gen.CtxNormBwdIdeal.Value
public import proofs.«01_k».proof.Proof.Gen.CtxNormBwdRefIdeal
public import proofs.«01_k».proof.Proof.Gen.CtxNormBwdRefIdeal.Read
public import proofs.«01_k».proof.Proof.Gen.NormFirstBwd
public import proofs.«01_k».proof.Proof.Gen.NormFirstBwdIdeal
public import proofs.«01_k».proof.Proof.Gen.NormFirstBwdIdeal.Frame
public import proofs.«01_k».proof.Proof.Gen.NormFirstBwdIdeal.Value
public import proofs.«01_k».proof.Proof.Gen.NormFirstBwdRefIdeal
public import proofs.«01_k».proof.Proof.Gen.NormFirstBwdRefIdeal.Read
public import proofs.«01_k».proof.Proof.Gen.CtxNormFirstBwd
public import proofs.«01_k».proof.Proof.Gen.CtxNormFirstBwdIdeal
public import proofs.«01_k».proof.Proof.Gen.CtxNormFirstBwdIdeal.Frame
public import proofs.«01_k».proof.Proof.Gen.CtxNormFirstBwdIdeal.Value
public import proofs.«01_k».proof.Proof.Gen.CtxNormFirstBwdRefIdeal
public import proofs.«01_k».proof.Proof.Gen.CtxNormFirstBwdRefIdeal.Read
public import proofs.«01_k».proof.Proof.Gen.ModBwd
public import proofs.«01_k».proof.Proof.Gen.ModBwdIdeal
public import proofs.«01_k».proof.Proof.Gen.ModBwdIdeal.Frame
public import proofs.«01_k».proof.Proof.Gen.ModBwdIdeal.Value
public import proofs.«01_k».proof.Proof.Gen.ModBwdRefIdeal
public import proofs.«01_k».proof.Proof.Gen.ModBwdRefIdeal.Read
public import proofs.«01_k».proof.Proof.Gen.Norm
public import proofs.«01_k».proof.Proof.Gen.NormIdeal
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Read
public import proofs.«01_k».proof.Proof.Gen.CtxNorm
public import proofs.«01_k».proof.Proof.Gen.CtxNormIdeal
public import proofs.«01_k».proof.Proof.Gen.CtxNormIdeal.Frame
public import proofs.«01_k».proof.Proof.Gen.CtxNormIdeal.Value
public import proofs.«01_k».proof.Proof.Gen.CtxNormRefIdeal
public import proofs.«01_k».proof.Proof.Gen.CtxNormRefIdeal.Read
public import proofs.«01_k».proof.Proof.Gen.Mod
public import proofs.«01_k».proof.Proof.Gen.ModIdeal
public import proofs.«01_k».proof.Proof.Gen.ModIdeal.Frame
public import proofs.«01_k».proof.Proof.Gen.ModIdeal.Value
public import proofs.«01_k».proof.Proof.Gen.ModRefIdeal
public import proofs.«01_k».proof.Proof.Gen.ModRefIdeal.Read
public import proofs.«01_k».proof.Proof.Gen.AdamMod
public import proofs.«01_k».proof.Proof.Gen.AdamModIdeal
public import proofs.«01_k».proof.Proof.Gen.AdamModIdeal.Frame
public import proofs.«01_k».proof.Proof.Gen.AdamModIdeal.Value
public import proofs.«01_k».proof.Proof.Gen.AdamModRefIdeal
public import proofs.«01_k».proof.Proof.Gen.AdamModRefIdeal.Read
public import proofs.«01_k».proof.Proof.Gen.AdamIn
public import proofs.«01_k».proof.Proof.Gen.AdamInIdeal
public import proofs.«01_k».proof.Proof.Gen.AdamInIdeal.Frame
public import proofs.«01_k».proof.Proof.Gen.AdamInIdeal.Value
public import proofs.«01_k».proof.Proof.Gen.AdamInRefIdeal
public import proofs.«01_k».proof.Proof.Gen.AdamInRefIdeal.Read
public import proofs.«01_k».proof.Proof.Gen.AdamOut
public import proofs.«01_k».proof.Proof.Gen.AdamOutIdeal
public import proofs.«01_k».proof.Proof.Gen.AdamOutIdeal.Frame
public import proofs.«01_k».proof.Proof.Gen.AdamOutIdeal.Value
public import proofs.«01_k».proof.Proof.Gen.AdamOutRefIdeal
public import proofs.«01_k».proof.Proof.Gen.AdamOutRefIdeal.Read
public import proofs.«01_k».proof.Proof.Gen.AdamFfnOut
public import proofs.«01_k».proof.Proof.Gen.AdamFfnOutIdeal
public import proofs.«01_k».proof.Proof.Gen.AdamFfnOutIdeal.Frame
public import proofs.«01_k».proof.Proof.Gen.AdamFfnOutIdeal.Value
public import proofs.«01_k».proof.Proof.Gen.AdamFfnOutRefIdeal
public import proofs.«01_k».proof.Proof.Gen.AdamFfnOutRefIdeal.Read
public import proofs.«01_k».proof.Proof.AttnPre
public import proofs.«01_k».proof.Proof.AttnAlg
public import proofs.«01_k».proof.Proof.MmFfnInDx
public import proofs.«01_k».proof.Proof.MmFfnInDw
public import proofs.«01_k».proof.Proof.MmFfnOutDx
public import proofs.«01_k».proof.Proof.MmFfnOutDw
public import proofs.«01_k».proof.Proof.MmMixInDx
public import proofs.«01_k».proof.Proof.MmMixInDw
public import proofs.«01_k».proof.Proof.MmMixOutDx
public import proofs.«01_k».proof.Proof.MmMixOutDw
public import proofs.«01_k».proof.Proof.MmFfnIn
public import proofs.«01_k».proof.Proof.MmFfnOut
public import proofs.«01_k».proof.Proof.MmMixIn
public import proofs.«01_k».proof.Proof.MmMixOut
public import proofs.«01_k».proof.Proof.MmCtxFfnInDx
public import proofs.«01_k».proof.Proof.MmCtxFfnInDw
public import proofs.«01_k».proof.Proof.MmCtxFfnOutDx
public import proofs.«01_k».proof.Proof.MmCtxFfnOutDw
public import proofs.«01_k».proof.Proof.MmCtxMixInDx
public import proofs.«01_k».proof.Proof.MmCtxMixInDw
public import proofs.«01_k».proof.Proof.MmCtxMixOutDx
public import proofs.«01_k».proof.Proof.MmCtxMixOutDw
public import proofs.«01_k».proof.Proof.MmCtxKvDx
public import proofs.«01_k».proof.Proof.MmCtxKvDw
public import proofs.«01_k».proof.Proof.MmCtxFfnIn
public import proofs.«01_k».proof.Proof.MmCtxFfnOut
public import proofs.«01_k».proof.Proof.MmCtxMixIn
public import proofs.«01_k».proof.Proof.MmCtxMixOut
public import proofs.«01_k».proof.Proof.MmCtxKv
public import proofs.«01_k».proof.Proof.MmInterleave
public import proofs.«01_k».proof.Proof.MmNormBwd
public import proofs.«01_k».proof.Proof.MmCtxNormBwd
public import proofs.«01_k».proof.Proof.MmNormFirstBwd
public import proofs.«01_k».proof.Proof.MmCtxNormFirstBwd
public import proofs.«01_k».proof.Proof.MmModBwd
public import proofs.«01_k».proof.Proof.MmNorm
public import proofs.«01_k».proof.Proof.MmCtxNorm
public import proofs.«01_k».proof.Proof.MmMod
public import proofs.«01_k».proof.Proof.MmAdamMod
public import proofs.«01_k».proof.Proof.MmAdamIn
public import proofs.«01_k».proof.Proof.MmAdamOut
public import proofs.«01_k».proof.Proof.MmAdamFfnOut

@[expose] public section

noncomputable section

namespace Cert.Proof

open Idealize.ShloMosaic Idealize.SL.Sem

theorem claim : Cert.Claim :=
  ⟨Cert.AttnBwd.Gen.facts, Cert.AttnBwdIdeal.Gen.facts, Cert.AttnRefIdeal.Gen.facts,
    Cert.FfnInDx.Gen.facts, Cert.FfnInDxIdeal.Gen.facts, Cert.FfnInDxRefIdeal.Gen.facts,
    Cert.FfnInDw.Gen.facts, Cert.FfnInDwIdeal.Gen.facts, Cert.FfnInDwRefIdeal.Gen.facts,
    Cert.FfnOutDx.Gen.facts, Cert.FfnOutDxIdeal.Gen.facts, Cert.FfnOutDxRefIdeal.Gen.facts,
    Cert.FfnOutDw.Gen.facts, Cert.FfnOutDwIdeal.Gen.facts, Cert.FfnOutDwRefIdeal.Gen.facts,
    Cert.MixInDx.Gen.facts, Cert.MixInDxIdeal.Gen.facts, Cert.MixInDxRefIdeal.Gen.facts,
    Cert.MixInDw.Gen.facts, Cert.MixInDwIdeal.Gen.facts, Cert.MixInDwRefIdeal.Gen.facts,
    Cert.MixOutDx.Gen.facts, Cert.MixOutDxIdeal.Gen.facts, Cert.MixOutDxRefIdeal.Gen.facts,
    Cert.MixOutDw.Gen.facts, Cert.MixOutDwIdeal.Gen.facts, Cert.MixOutDwRefIdeal.Gen.facts,
    Cert.FfnIn.Gen.facts, Cert.FfnInIdeal.Gen.facts, Cert.FfnInRefIdeal.Gen.facts,
    Cert.FfnOut.Gen.facts, Cert.FfnOutIdeal.Gen.facts, Cert.FfnOutRefIdeal.Gen.facts,
    Cert.MixIn.Gen.facts, Cert.MixInIdeal.Gen.facts, Cert.MixInRefIdeal.Gen.facts,
    Cert.MixOut.Gen.facts, Cert.MixOutIdeal.Gen.facts, Cert.MixOutRefIdeal.Gen.facts,
    Cert.CtxFfnInDx.Gen.facts, Cert.CtxFfnInDxIdeal.Gen.facts, Cert.CtxFfnInDxRefIdeal.Gen.facts,
    Cert.CtxFfnInDw.Gen.facts, Cert.CtxFfnInDwIdeal.Gen.facts, Cert.CtxFfnInDwRefIdeal.Gen.facts,
    Cert.CtxFfnOutDx.Gen.facts, Cert.CtxFfnOutDxIdeal.Gen.facts, Cert.CtxFfnOutDxRefIdeal.Gen.facts,
    Cert.CtxFfnOutDw.Gen.facts, Cert.CtxFfnOutDwIdeal.Gen.facts, Cert.CtxFfnOutDwRefIdeal.Gen.facts,
    Cert.CtxMixInDx.Gen.facts, Cert.CtxMixInDxIdeal.Gen.facts, Cert.CtxMixInDxRefIdeal.Gen.facts,
    Cert.CtxMixInDw.Gen.facts, Cert.CtxMixInDwIdeal.Gen.facts, Cert.CtxMixInDwRefIdeal.Gen.facts,
    Cert.CtxMixOutDx.Gen.facts, Cert.CtxMixOutDxIdeal.Gen.facts, Cert.CtxMixOutDxRefIdeal.Gen.facts,
    Cert.CtxMixOutDw.Gen.facts, Cert.CtxMixOutDwIdeal.Gen.facts, Cert.CtxMixOutDwRefIdeal.Gen.facts,
    Cert.CtxKvDx.Gen.facts, Cert.CtxKvDxIdeal.Gen.facts, Cert.CtxKvDxRefIdeal.Gen.facts,
    Cert.CtxKvDw.Gen.facts, Cert.CtxKvDwIdeal.Gen.facts, Cert.CtxKvDwRefIdeal.Gen.facts,
    Cert.CtxFfnIn.Gen.facts, Cert.CtxFfnInIdeal.Gen.facts, Cert.CtxFfnInRefIdeal.Gen.facts,
    Cert.CtxFfnOut.Gen.facts, Cert.CtxFfnOutIdeal.Gen.facts, Cert.CtxFfnOutRefIdeal.Gen.facts,
    Cert.CtxMixIn.Gen.facts, Cert.CtxMixInIdeal.Gen.facts, Cert.CtxMixInRefIdeal.Gen.facts,
    Cert.CtxMixOut.Gen.facts, Cert.CtxMixOutIdeal.Gen.facts, Cert.CtxMixOutRefIdeal.Gen.facts,
    Cert.CtxKv.Gen.facts, Cert.CtxKvIdeal.Gen.facts, Cert.CtxKvRefIdeal.Gen.facts,
    Cert.Interleave.Gen.facts, Cert.InterleaveIdeal.Gen.facts, Cert.InterleaveRefIdeal.Gen.facts,
    Cert.NormBwd.Gen.facts, Cert.NormBwdIdeal.Gen.facts, Cert.NormBwdRefIdeal.Gen.facts,
    Cert.CtxNormBwd.Gen.facts, Cert.CtxNormBwdIdeal.Gen.facts, Cert.CtxNormBwdRefIdeal.Gen.facts,
    Cert.NormFirstBwd.Gen.facts, Cert.NormFirstBwdIdeal.Gen.facts, Cert.NormFirstBwdRefIdeal.Gen.facts,
    Cert.CtxNormFirstBwd.Gen.facts, Cert.CtxNormFirstBwdIdeal.Gen.facts, Cert.CtxNormFirstBwdRefIdeal.Gen.facts,
    Cert.ModBwd.Gen.facts, Cert.ModBwdIdeal.Gen.facts, Cert.ModBwdRefIdeal.Gen.facts,
    Cert.Norm.Gen.facts, Cert.NormIdeal.Gen.facts, Cert.NormRefIdeal.Gen.facts,
    Cert.CtxNorm.Gen.facts, Cert.CtxNormIdeal.Gen.facts, Cert.CtxNormRefIdeal.Gen.facts,
    Cert.Mod.Gen.facts, Cert.ModIdeal.Gen.facts, Cert.ModRefIdeal.Gen.facts,
    Cert.AdamMod.Gen.facts, Cert.AdamModIdeal.Gen.facts, Cert.AdamModRefIdeal.Gen.facts,
    Cert.AdamIn.Gen.facts, Cert.AdamInIdeal.Gen.facts, Cert.AdamInRefIdeal.Gen.facts,
    Cert.AdamOut.Gen.facts, Cert.AdamOutIdeal.Gen.facts, Cert.AdamOutRefIdeal.Gen.facts,
    Cert.AdamFfnOut.Gen.facts, Cert.AdamFfnOutIdeal.Gen.facts, Cert.AdamFfnOutRefIdeal.Gen.facts,
    Cert.Pre_finite_scores.facts, Cert.Pre_finite_dact.Gen.facts, Cert.Pre_finite_dact_ctx.Gen.facts,
    Attn.frame_bits, Attn.frame_ideal, Attn.frame_ideal_pre, Attn.frame_ref, Attn.frame_ref_pre,
    FfnInDx.frame_bits, FfnInDx.frame_ideal, FfnInDx.frame_ref,
    FfnInDw.frame_bits, FfnInDw.frame_ideal, FfnInDw.frame_ref,
    FfnOutDx.frame_bits, FfnOutDx.frame_ideal, FfnOutDx.frame_ideal_pre, FfnOutDx.frame_ref, FfnOutDx.frame_ref_pre,
    FfnOutDw.frame_bits, FfnOutDw.frame_ideal, FfnOutDw.frame_ref,
    MixInDx.frame_bits, MixInDx.frame_ideal, MixInDx.frame_ref,
    MixInDw.frame_bits, MixInDw.frame_ideal, MixInDw.frame_ref,
    MixOutDx.frame_bits, MixOutDx.frame_ideal, MixOutDx.frame_ref,
    MixOutDw.frame_bits, MixOutDw.frame_ideal, MixOutDw.frame_ref,
    FfnIn.frame_bits, FfnIn.frame_ideal, FfnIn.frame_ref,
    FfnOut.frame_bits, FfnOut.frame_ideal, FfnOut.frame_ref,
    MixIn.frame_bits, MixIn.frame_ideal, MixIn.frame_ref,
    MixOut.frame_bits, MixOut.frame_ideal, MixOut.frame_ref,
    CtxFfnInDx.frame_bits, CtxFfnInDx.frame_ideal, CtxFfnInDx.frame_ref,
    CtxFfnInDw.frame_bits, CtxFfnInDw.frame_ideal, CtxFfnInDw.frame_ref,
    CtxFfnOutDx.frame_bits, CtxFfnOutDx.frame_ideal, CtxFfnOutDx.frame_ideal_pre, CtxFfnOutDx.frame_ref, CtxFfnOutDx.frame_ref_pre,
    CtxFfnOutDw.frame_bits, CtxFfnOutDw.frame_ideal, CtxFfnOutDw.frame_ref,
    CtxMixInDx.frame_bits, CtxMixInDx.frame_ideal, CtxMixInDx.frame_ref,
    CtxMixInDw.frame_bits, CtxMixInDw.frame_ideal, CtxMixInDw.frame_ref,
    CtxMixOutDx.frame_bits, CtxMixOutDx.frame_ideal, CtxMixOutDx.frame_ref,
    CtxMixOutDw.frame_bits, CtxMixOutDw.frame_ideal, CtxMixOutDw.frame_ref,
    CtxKvDx.frame_bits, CtxKvDx.frame_ideal, CtxKvDx.frame_ref,
    CtxKvDw.frame_bits, CtxKvDw.frame_ideal, CtxKvDw.frame_ref,
    CtxFfnIn.frame_bits, CtxFfnIn.frame_ideal, CtxFfnIn.frame_ref,
    CtxFfnOut.frame_bits, CtxFfnOut.frame_ideal, CtxFfnOut.frame_ref,
    CtxMixIn.frame_bits, CtxMixIn.frame_ideal, CtxMixIn.frame_ref,
    CtxMixOut.frame_bits, CtxMixOut.frame_ideal, CtxMixOut.frame_ref,
    CtxKv.frame_bits, CtxKv.frame_ideal, CtxKv.frame_ref,
    Interleave.frame_bits, Interleave.frame_ideal, Interleave.frame_ref,
    NormBwd.frame_bits, NormBwd.frame_ideal, NormBwd.frame_ref,
    CtxNormBwd.frame_bits, CtxNormBwd.frame_ideal, CtxNormBwd.frame_ref,
    NormFirstBwd.frame_bits, NormFirstBwd.frame_ideal, NormFirstBwd.frame_ref,
    CtxNormFirstBwd.frame_bits, CtxNormFirstBwd.frame_ideal, CtxNormFirstBwd.frame_ref,
    ModBwd.frame_bits, ModBwd.frame_ideal, ModBwd.frame_ref,
    Norm.frame_bits, Norm.frame_ideal, Norm.frame_ref,
    CtxNorm.frame_bits, CtxNorm.frame_ideal, CtxNorm.frame_ref,
    Mod.frame_bits, Mod.frame_ideal, Mod.frame_ref,
    AdamMod.frame_bits, AdamMod.frame_ideal, AdamMod.frame_ref,
    AdamIn.frame_bits, AdamIn.frame_ideal, AdamIn.frame_ref,
    AdamOut.frame_bits, AdamOut.frame_ideal, AdamOut.frame_ref,
    AdamFfnOut.frame_bits, AdamFfnOut.frame_ideal, AdamFfnOut.frame_ref,
    trivial, Attn.algebraic,
    trivial, FfnInDx.algebraic,
    trivial, FfnInDw.algebraic,
    trivial, FfnOutDx.algebraic,
    trivial, FfnOutDw.algebraic,
    trivial, MixInDx.algebraic,
    trivial, MixInDw.algebraic,
    trivial, MixOutDx.algebraic,
    trivial, MixOutDw.algebraic,
    trivial, FfnIn.algebraic,
    trivial, FfnOut.algebraic,
    trivial, MixIn.algebraic,
    trivial, MixOut.algebraic,
    trivial, CtxFfnInDx.algebraic,
    trivial, CtxFfnInDw.algebraic,
    trivial, CtxFfnOutDx.algebraic,
    trivial, CtxFfnOutDw.algebraic,
    trivial, CtxMixInDx.algebraic,
    trivial, CtxMixInDw.algebraic,
    trivial, CtxMixOutDx.algebraic,
    trivial, CtxMixOutDw.algebraic,
    trivial, CtxKvDx.algebraic,
    trivial, CtxKvDw.algebraic,
    trivial, CtxFfnIn.algebraic,
    trivial, CtxFfnOut.algebraic,
    trivial, CtxMixIn.algebraic,
    trivial, CtxMixOut.algebraic,
    trivial, CtxKv.algebraic,
    trivial, Interleave.algebraic,
    trivial, NormBwd.algebraic,
    trivial, CtxNormBwd.algebraic,
    trivial, NormFirstBwd.algebraic,
    trivial, CtxNormFirstBwd.algebraic,
    trivial, ModBwd.algebraic,
    trivial, Norm.algebraic,
    trivial, CtxNorm.algebraic,
    trivial, Mod.algebraic,
    trivial, AdamMod.algebraic,
    trivial, AdamIn.algebraic,
    trivial, AdamOut.algebraic,
    trivial, AdamFfnOut.algebraic⟩

end Cert.Proof

end
